-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepPw1 (m : (ℓ : Loc Cert.StepPw1.nD Cert.StepPw1.τ Cert.StepPw1.sig) → Buf (Elt Bits) ℓ) : Prop :=
  True

def Pre_StepPw1Ideal (m : (ℓ : Loc Cert.StepPw1Ideal.nD Cert.StepPw1Ideal.τ Cert.StepPw1Ideal.sig) → Buf (Elt Ideal) ℓ) : Prop :=
  True

def Pre_StepPw1RefIdeal (m : (ℓ : Loc Cert.StepPw1RefIdeal.nD Cert.StepPw1RefIdeal.τ Cert.StepPw1RefIdeal.sig) → Buf (Elt Ideal) ℓ) : Prop :=
  True

def Pre_StepPw2 (m : (ℓ : Loc Cert.StepPw2.nD Cert.StepPw2.τ Cert.StepPw2.sig) → Buf (Elt Bits) ℓ) : Prop :=
  True

def Pre_StepPw2Ideal (m : (ℓ : Loc Cert.StepPw2Ideal.nD Cert.StepPw2Ideal.τ Cert.StepPw2Ideal.sig) → Buf (Elt Ideal) ℓ) : Prop :=
  True

def Pre_StepPw2RefIdeal (m : (ℓ : Loc Cert.StepPw2RefIdeal.nD Cert.StepPw2RefIdeal.τ Cert.StepPw2RefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def Pre_StepGate (m : (ℓ : Loc Cert.StepGate.nD Cert.StepGate.τ Cert.StepGate.sig) → Buf (Elt Bits) ℓ) : Prop :=
  True

def Pre_StepGateIdeal (m : (ℓ : Loc Cert.StepGateIdeal.nD Cert.StepGateIdeal.τ Cert.StepGateIdeal.sig) → Buf (Elt Ideal) ℓ) : Prop :=
  True

def Pre_StepGateRefIdeal (m : (ℓ : Loc Cert.StepGateRefIdeal.nD Cert.StepGateRefIdeal.τ Cert.StepGateRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0)
      ∧ r.2.mem ((c.tc : Thread Cert.SumsRefIdeal.nD Cert.SumsRefIdeal.τ).loc Cert.SumsRefIdeal.main_arg1) = m ((c.tc : Thread Cert.SumsRefIdeal.nD Cert.SumsRefIdeal.τ).loc Cert.SumsRefIdeal.main_arg1))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepPw1 [hStepPw1 : Cert.StepPw1.Facts] : Prop :=
  ∀ (m : (ℓ : Loc Cert.StepPw1.nD Cert.StepPw1.τ Cert.StepPw1.sig) → Buf (Elt Bits) ℓ) (g : Dev Cert.StepPw1.nD → PrngReg), Pre_StepPw1 m →
    θ_run (Cert.StepPw1.defs (F := Bits)) (onTc (τ := Cert.StepPw1.τ) (Cert.StepPw1.main (F := Bits))) ⟨m, fun _ => 0, g⟩ (fun r => (∀ c : Dev Cert.StepPw1.nD,
      r.2.mem ((c.tc : Thread Cert.StepPw1.nD Cert.StepPw1.τ).loc Cert.StepPw1.main_arg0) = m ((c.tc : Thread Cert.StepPw1.nD Cert.StepPw1.τ).loc Cert.StepPw1.main_arg0)
      ∧ r.2.mem ((c.tc : Thread Cert.StepPw1.nD Cert.StepPw1.τ).loc Cert.StepPw1.main_arg1) = m ((c.tc : Thread Cert.StepPw1.nD Cert.StepPw1.τ).loc Cert.StepPw1.main_arg1)
      ∧ r.2.mem ((c.tc : Thread Cert.StepPw1.nD Cert.StepPw1.τ).loc Cert.StepPw1.main_arg2) = m ((c.tc : Thread Cert.StepPw1.nD Cert.StepPw1.τ).loc Cert.StepPw1.main_arg2)
      ∧ r.2.mem ((c.tc : Thread Cert.StepPw1.nD Cert.StepPw1.τ).loc Cert.StepPw1.main_arg3) = m ((c.tc : Thread Cert.StepPw1.nD Cert.StepPw1.τ).loc Cert.StepPw1.main_arg3))
      ∧ r.2.sem = fun _ => 0)

def quiescent_StepPw1Ideal [hStepPw1Ideal : Cert.StepPw1Ideal.Facts] : Prop :=
  ∀ (m : (ℓ : Loc Cert.StepPw1Ideal.nD Cert.StepPw1Ideal.τ Cert.StepPw1Ideal.sig) → Buf (Elt Ideal) ℓ) (g : Dev Cert.StepPw1Ideal.nD → PrngReg), Pre_StepPw1Ideal m →
    θ_run (Cert.StepPw1Ideal.defs (F := Ideal)) (onTc (τ := Cert.StepPw1Ideal.τ) (Cert.StepPw1Ideal.main (F := Ideal))) ⟨m, fun _ => 0, g⟩ (fun r => (∀ c : Dev Cert.StepPw1Ideal.nD,
      r.2.mem ((c.tc : Thread Cert.StepPw1Ideal.nD Cert.StepPw1Ideal.τ).loc Cert.StepPw1Ideal.main_arg0) = m ((c.tc : Thread Cert.StepPw1Ideal.nD Cert.StepPw1Ideal.τ).loc Cert.StepPw1Ideal.main_arg0)
      ∧ r.2.mem ((c.tc : Thread Cert.StepPw1Ideal.nD Cert.StepPw1Ideal.τ).loc Cert.StepPw1Ideal.main_arg1) = m ((c.tc : Thread Cert.StepPw1Ideal.nD Cert.StepPw1Ideal.τ).loc Cert.StepPw1Ideal.main_arg1)
      ∧ r.2.mem ((c.tc : Thread Cert.StepPw1Ideal.nD Cert.StepPw1Ideal.τ).loc Cert.StepPw1Ideal.main_arg2) = m ((c.tc : Thread Cert.StepPw1Ideal.nD Cert.StepPw1Ideal.τ).loc Cert.StepPw1Ideal.main_arg2)
      ∧ r.2.mem ((c.tc : Thread Cert.StepPw1Ideal.nD Cert.StepPw1Ideal.τ).loc Cert.StepPw1Ideal.main_arg3) = m ((c.tc : Thread Cert.StepPw1Ideal.nD Cert.StepPw1Ideal.τ).loc Cert.StepPw1Ideal.main_arg3))
      ∧ r.2.sem = fun _ => 0)

def quiescent_StepPw1RefIdeal [hStepPw1RefIdeal : Cert.StepPw1RefIdeal.Facts] : Prop :=
  ∀ (m : (ℓ : Loc Cert.StepPw1RefIdeal.nD Cert.StepPw1RefIdeal.τ Cert.StepPw1RefIdeal.sig) → Buf (Elt Ideal) ℓ) (g : Dev Cert.StepPw1RefIdeal.nD → PrngReg), Pre_StepPw1RefIdeal m →
    θ_run (Cert.StepPw1RefIdeal.defs (F := Ideal)) (onTc (τ := Cert.StepPw1RefIdeal.τ) (Cert.StepPw1RefIdeal.main (F := Ideal))) ⟨m, fun _ => 0, g⟩ (fun r => (∀ c : Dev Cert.StepPw1RefIdeal.nD,
      r.2.mem ((c.tc : Thread Cert.StepPw1RefIdeal.nD Cert.StepPw1RefIdeal.τ).loc Cert.StepPw1RefIdeal.main_arg0) = m ((c.tc : Thread Cert.StepPw1RefIdeal.nD Cert.StepPw1RefIdeal.τ).loc Cert.StepPw1RefIdeal.main_arg0)
      ∧ r.2.mem ((c.tc : Thread Cert.StepPw1RefIdeal.nD Cert.StepPw1RefIdeal.τ).loc Cert.StepPw1RefIdeal.main_arg1) = m ((c.tc : Thread Cert.StepPw1RefIdeal.nD Cert.StepPw1RefIdeal.τ).loc Cert.StepPw1RefIdeal.main_arg1)
      ∧ r.2.mem ((c.tc : Thread Cert.StepPw1RefIdeal.nD Cert.StepPw1RefIdeal.τ).loc Cert.StepPw1RefIdeal.main_arg2) = m ((c.tc : Thread Cert.StepPw1RefIdeal.nD Cert.StepPw1RefIdeal.τ).loc Cert.StepPw1RefIdeal.main_arg2)
      ∧ r.2.mem ((c.tc : Thread Cert.StepPw1RefIdeal.nD Cert.StepPw1RefIdeal.τ).loc Cert.StepPw1RefIdeal.main_arg3) = m ((c.tc : Thread Cert.StepPw1RefIdeal.nD Cert.StepPw1RefIdeal.τ).loc Cert.StepPw1RefIdeal.main_arg3))
      ∧ r.2.sem = fun _ => 0)

def quiescent_StepPw2 [hStepPw2 : Cert.StepPw2.Facts] : Prop :=
  ∀ (m : (ℓ : Loc Cert.StepPw2.nD Cert.StepPw2.τ Cert.StepPw2.sig) → Buf (Elt Bits) ℓ) (g : Dev Cert.StepPw2.nD → PrngReg), Pre_StepPw2 m →
    θ_run (Cert.StepPw2.defs (F := Bits)) (onTc (τ := Cert.StepPw2.τ) (Cert.StepPw2.main (F := Bits))) ⟨m, fun _ => 0, g⟩ (fun r => (∀ c : Dev Cert.StepPw2.nD,
      r.2.mem ((c.tc : Thread Cert.StepPw2.nD Cert.StepPw2.τ).loc Cert.StepPw2.main_arg0) = m ((c.tc : Thread Cert.StepPw2.nD Cert.StepPw2.τ).loc Cert.StepPw2.main_arg0)
      ∧ r.2.mem ((c.tc : Thread Cert.StepPw2.nD Cert.StepPw2.τ).loc Cert.StepPw2.main_arg1) = m ((c.tc : Thread Cert.StepPw2.nD Cert.StepPw2.τ).loc Cert.StepPw2.main_arg1)
      ∧ r.2.mem ((c.tc : Thread Cert.StepPw2.nD Cert.StepPw2.τ).loc Cert.StepPw2.main_arg2) = m ((c.tc : Thread Cert.StepPw2.nD Cert.StepPw2.τ).loc Cert.StepPw2.main_arg2)
      ∧ r.2.mem ((c.tc : Thread Cert.StepPw2.nD Cert.StepPw2.τ).loc Cert.StepPw2.main_arg3) = m ((c.tc : Thread Cert.StepPw2.nD Cert.StepPw2.τ).loc Cert.StepPw2.main_arg3))
      ∧ r.2.sem = fun _ => 0)

def quiescent_StepPw2Ideal [hStepPw2Ideal : Cert.StepPw2Ideal.Facts] : Prop :=
  ∀ (m : (ℓ : Loc Cert.StepPw2Ideal.nD Cert.StepPw2Ideal.τ Cert.StepPw2Ideal.sig) → Buf (Elt Ideal) ℓ) (g : Dev Cert.StepPw2Ideal.nD → PrngReg), Pre_StepPw2Ideal m →
    θ_run (Cert.StepPw2Ideal.defs (F := Ideal)) (onTc (τ := Cert.StepPw2Ideal.τ) (Cert.StepPw2Ideal.main (F := Ideal))) ⟨m, fun _ => 0, g⟩ (fun r => (∀ c : Dev Cert.StepPw2Ideal.nD,
      r.2.mem ((c.tc : Thread Cert.StepPw2Ideal.nD Cert.StepPw2Ideal.τ).loc Cert.StepPw2Ideal.main_arg0) = m ((c.tc : Thread Cert.StepPw2Ideal.nD Cert.StepPw2Ideal.τ).loc Cert.StepPw2Ideal.main_arg0)
      ∧ r.2.mem ((c.tc : Thread Cert.StepPw2Ideal.nD Cert.StepPw2Ideal.τ).loc Cert.StepPw2Ideal.main_arg1) = m ((c.tc : Thread Cert.StepPw2Ideal.nD Cert.StepPw2Ideal.τ).loc Cert.StepPw2Ideal.main_arg1)
      ∧ r.2.mem ((c.tc : Thread Cert.StepPw2Ideal.nD Cert.StepPw2Ideal.τ).loc Cert.StepPw2Ideal.main_arg2) = m ((c.tc : Thread Cert.StepPw2Ideal.nD Cert.StepPw2Ideal.τ).loc Cert.StepPw2Ideal.main_arg2)
      ∧ r.2.mem ((c.tc : Thread Cert.StepPw2Ideal.nD Cert.StepPw2Ideal.τ).loc Cert.StepPw2Ideal.main_arg3) = m ((c.tc : Thread Cert.StepPw2Ideal.nD Cert.StepPw2Ideal.τ).loc Cert.StepPw2Ideal.main_arg3))
      ∧ r.2.sem = fun _ => 0)

def quiescent_StepPw2RefIdeal [hStepPw2RefIdeal : Cert.StepPw2RefIdeal.Facts] : Prop :=
  ∀ (m : (ℓ : Loc Cert.StepPw2RefIdeal.nD Cert.StepPw2RefIdeal.τ Cert.StepPw2RefIdeal.sig) → Buf (Elt Ideal) ℓ) (g : Dev Cert.StepPw2RefIdeal.nD → PrngReg), Pre_StepPw2RefIdeal m →
    θ_run (Cert.StepPw2RefIdeal.defs (F := Ideal)) (onTc (τ := Cert.StepPw2RefIdeal.τ) (Cert.StepPw2RefIdeal.main (F := Ideal))) ⟨m, fun _ => 0, g⟩ (fun r => (∀ c : Dev Cert.StepPw2RefIdeal.nD,
      r.2.mem ((c.tc : Thread Cert.StepPw2RefIdeal.nD Cert.StepPw2RefIdeal.τ).loc Cert.StepPw2RefIdeal.main_arg0) = m ((c.tc : Thread Cert.StepPw2RefIdeal.nD Cert.StepPw2RefIdeal.τ).loc Cert.StepPw2RefIdeal.main_arg0)
      ∧ r.2.mem ((c.tc : Thread Cert.StepPw2RefIdeal.nD Cert.StepPw2RefIdeal.τ).loc Cert.StepPw2RefIdeal.main_arg1) = m ((c.tc : Thread Cert.StepPw2RefIdeal.nD Cert.StepPw2RefIdeal.τ).loc Cert.StepPw2RefIdeal.main_arg1)
      ∧ r.2.mem ((c.tc : Thread Cert.StepPw2RefIdeal.nD Cert.StepPw2RefIdeal.τ).loc Cert.StepPw2RefIdeal.main_arg2) = m ((c.tc : Thread Cert.StepPw2RefIdeal.nD Cert.StepPw2RefIdeal.τ).loc Cert.StepPw2RefIdeal.main_arg2)
      ∧ r.2.mem ((c.tc : Thread Cert.StepPw2RefIdeal.nD Cert.StepPw2RefIdeal.τ).loc Cert.StepPw2RefIdeal.main_arg3) = m ((c.tc : Thread Cert.StepPw2RefIdeal.nD Cert.StepPw2RefIdeal.τ).loc Cert.StepPw2RefIdeal.main_arg3))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3)
      ∧ r.2.mem ((c.tc : Thread Cert.StepDown.nD Cert.StepDown.τ).loc Cert.StepDown.main_arg4) = m ((c.tc : Thread Cert.StepDown.nD Cert.StepDown.τ).loc Cert.StepDown.main_arg4))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
      ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3)
      ∧ r.2.mem ((c.tc : Thread Cert.StepDownRefIdeal.nD Cert.StepDownRefIdeal.τ).loc Cert.StepDownRefIdeal.main_arg4) = m ((c.tc : Thread Cert.StepDownRefIdeal.nD Cert.StepDownRefIdeal.τ).loc Cert.StepDownRefIdeal.main_arg4))
      ∧ r.2.sem = fun _ => 0)

def quiescent_StepGate [hStepGate : Cert.StepGate.Facts] : Prop :=
  ∀ (m : (ℓ : Loc Cert.StepGate.nD Cert.StepGate.τ Cert.StepGate.sig) → Buf (Elt Bits) ℓ) (g : Dev Cert.StepGate.nD → PrngReg), Pre_StepGate m →
    θ_run (Cert.StepGate.defs (F := Bits)) (onTc (τ := Cert.StepGate.τ) (Cert.StepGate.main (F := Bits))) ⟨m, fun _ => 0, g⟩ (fun r => (∀ c : Dev Cert.StepGate.nD,
      r.2.mem ((c.tc : Thread Cert.StepGate.nD Cert.StepGate.τ).loc Cert.StepGate.main_arg0) = m ((c.tc : Thread Cert.StepGate.nD Cert.StepGate.τ).loc Cert.StepGate.main_arg0)
      ∧ r.2.mem ((c.tc : Thread Cert.StepGate.nD Cert.StepGate.τ).loc Cert.StepGate.main_arg1) = m ((c.tc : Thread Cert.StepGate.nD Cert.StepGate.τ).loc Cert.StepGate.main_arg1)
      ∧ r.2.mem ((c.tc : Thread Cert.StepGate.nD Cert.StepGate.τ).loc Cert.StepGate.main_arg2) = m ((c.tc : Thread Cert.StepGate.nD Cert.StepGate.τ).loc Cert.StepGate.main_arg2)
      ∧ r.2.mem ((c.tc : Thread Cert.StepGate.nD Cert.StepGate.τ).loc Cert.StepGate.main_arg3) = m ((c.tc : Thread Cert.StepGate.nD Cert.StepGate.τ).loc Cert.StepGate.main_arg3)
      ∧ r.2.mem ((c.tc : Thread Cert.StepGate.nD Cert.StepGate.τ).loc Cert.StepGate.main_arg4) = m ((c.tc : Thread Cert.StepGate.nD Cert.StepGate.τ).loc Cert.StepGate.main_arg4))
      ∧ r.2.sem = fun _ => 0)

def quiescent_StepGateIdeal [hStepGateIdeal : Cert.StepGateIdeal.Facts] : Prop :=
  ∀ (m : (ℓ : Loc Cert.StepGateIdeal.nD Cert.StepGateIdeal.τ Cert.StepGateIdeal.sig) → Buf (Elt Ideal) ℓ) (g : Dev Cert.StepGateIdeal.nD → PrngReg), Pre_StepGateIdeal m →
    θ_run (Cert.StepGateIdeal.defs (F := Ideal)) (onTc (τ := Cert.StepGateIdeal.τ) (Cert.StepGateIdeal.main (F := Ideal))) ⟨m, fun _ => 0, g⟩ (fun r => (∀ c : Dev Cert.StepGateIdeal.nD,
      r.2.mem ((c.tc : Thread Cert.StepGateIdeal.nD Cert.StepGateIdeal.τ).loc Cert.StepGateIdeal.main_arg0) = m ((c.tc : Thread Cert.StepGateIdeal.nD Cert.StepGateIdeal.τ).loc Cert.StepGateIdeal.main_arg0)
      ∧ r.2.mem ((c.tc : Thread Cert.StepGateIdeal.nD Cert.StepGateIdeal.τ).loc Cert.StepGateIdeal.main_arg1) = m ((c.tc : Thread Cert.StepGateIdeal.nD Cert.StepGateIdeal.τ).loc Cert.StepGateIdeal.main_arg1)
      ∧ r.2.mem ((c.tc : Thread Cert.StepGateIdeal.nD Cert.StepGateIdeal.τ).loc Cert.StepGateIdeal.main_arg2) = m ((c.tc : Thread Cert.StepGateIdeal.nD Cert.StepGateIdeal.τ).loc Cert.StepGateIdeal.main_arg2)
      ∧ r.2.mem ((c.tc : Thread Cert.StepGateIdeal.nD Cert.StepGateIdeal.τ).loc Cert.StepGateIdeal.main_arg3) = m ((c.tc : Thread Cert.StepGateIdeal.nD Cert.StepGateIdeal.τ).loc Cert.StepGateIdeal.main_arg3)
      ∧ r.2.mem ((c.tc : Thread Cert.StepGateIdeal.nD Cert.StepGateIdeal.τ).loc Cert.StepGateIdeal.main_arg4) = m ((c.tc : Thread Cert.StepGateIdeal.nD Cert.StepGateIdeal.τ).loc Cert.StepGateIdeal.main_arg4))
      ∧ r.2.sem = fun _ => 0)

def quiescent_StepGateRefIdeal [hStepGateRefIdeal : Cert.StepGateRefIdeal.Facts] : Prop :=
  ∀ (m : (ℓ : Loc Cert.StepGateRefIdeal.nD Cert.StepGateRefIdeal.τ Cert.StepGateRefIdeal.sig) → Buf (Elt Ideal) ℓ) (g : Dev Cert.StepGateRefIdeal.nD → PrngReg), Pre_StepGateRefIdeal m →
    θ_run (Cert.StepGateRefIdeal.defs (F := Ideal)) (onTc (τ := Cert.StepGateRefIdeal.τ) (Cert.StepGateRefIdeal.main (F := Ideal))) ⟨m, fun _ => 0, g⟩ (fun r => (∀ c : Dev Cert.StepGateRefIdeal.nD,
      r.2.mem ((c.tc : Thread Cert.StepGateRefIdeal.nD Cert.StepGateRefIdeal.τ).loc Cert.StepGateRefIdeal.main_arg0) = m ((c.tc : Thread Cert.StepGateRefIdeal.nD Cert.StepGateRefIdeal.τ).loc Cert.StepGateRefIdeal.main_arg0)
      ∧ r.2.mem ((c.tc : Thread Cert.StepGateRefIdeal.nD Cert.StepGateRefIdeal.τ).loc Cert.StepGateRefIdeal.main_arg1) = m ((c.tc : Thread Cert.StepGateRefIdeal.nD Cert.StepGateRefIdeal.τ).loc Cert.StepGateRefIdeal.main_arg1)
      ∧ r.2.mem ((c.tc : Thread Cert.StepGateRefIdeal.nD Cert.StepGateRefIdeal.τ).loc Cert.StepGateRefIdeal.main_arg2) = m ((c.tc : Thread Cert.StepGateRefIdeal.nD Cert.StepGateRefIdeal.τ).loc Cert.StepGateRefIdeal.main_arg2)
      ∧ r.2.mem ((c.tc : Thread Cert.StepGateRefIdeal.nD Cert.StepGateRefIdeal.τ).loc Cert.StepGateRefIdeal.main_arg3) = m ((c.tc : Thread Cert.StepGateRefIdeal.nD Cert.StepGateRefIdeal.τ).loc Cert.StepGateRefIdeal.main_arg3)
      ∧ r.2.mem ((c.tc : Thread Cert.StepGateRefIdeal.nD Cert.StepGateRefIdeal.τ).loc Cert.StepGateRefIdeal.main_arg4) = m ((c.tc : Thread Cert.StepGateRefIdeal.nD Cert.StepGateRefIdeal.τ).loc Cert.StepGateRefIdeal.main_arg4))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3)
      ∧ r.2.mem ((c.tc : Thread Cert.StepUp.nD Cert.StepUp.τ).loc Cert.StepUp.main_arg4) = m ((c.tc : Thread Cert.StepUp.nD Cert.StepUp.τ).loc Cert.StepUp.main_arg4))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
      ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3)
      ∧ r.2.mem ((c.tc : Thread Cert.StepUpRefIdeal.nD Cert.StepUpRefIdeal.τ).loc Cert.StepUpRefIdeal.main_arg4) = m ((c.tc : Thread Cert.StepUpRefIdeal.nD Cert.StepUpRefIdeal.τ).loc Cert.StepUpRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v2)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v2) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v5) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v1)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v1) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v4) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v26_0)) (v1 : (c : Dev Cert.FfnIdeal.nD) → Buf (Elt Ideal) ((c.tc : Thread Cert.FfnIdeal.nD Cert.FfnIdeal.τ).loc Cert.FfnIdeal.main_v26_1)) (v2 : (c : Dev Cert.FfnIdeal.nD) → Buf (Elt Ideal) ((c.tc : Thread Cert.FfnIdeal.nD Cert.FfnIdeal.τ).loc Cert.FfnIdeal.main_v26_2)) (v3 : (c : Dev Cert.FfnIdeal.nD) → Buf (Elt Ideal) ((c.tc : Thread Cert.FfnIdeal.nD Cert.FfnIdeal.τ).loc Cert.FfnIdeal.main_v26_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v26_0) = v0 c
          ∧ r.2.mem ((c.tc : Thread Cert.FfnIdeal.nD Cert.FfnIdeal.τ).loc Cert.FfnIdeal.main_v26_1) = v1 c
          ∧ r.2.mem ((c.tc : Thread Cert.FfnIdeal.nD Cert.FfnIdeal.τ).loc Cert.FfnIdeal.main_v26_2) = v2 c
          ∧ r.2.mem ((c.tc : Thread Cert.FfnIdeal.nD Cert.FfnIdeal.τ).loc Cert.FfnIdeal.main_v26_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v52) = v0 c
          ∧ r.2.mem ((c.tc : Thread Cert.FfnRefIdeal.nD Cert.FfnRefIdeal.τ).loc Cert.FfnRefIdeal.main_v53) = v1 c
          ∧ r.2.mem ((c.tc : Thread Cert.FfnRefIdeal.nD Cert.FfnRefIdeal.τ).loc Cert.FfnRefIdeal.main_v54) = v2 c
          ∧ r.2.mem ((c.tc : Thread Cert.FfnRefIdeal.nD Cert.FfnRefIdeal.τ).loc Cert.FfnRefIdeal.main_v51) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v8_0)) (v1 : (c : Dev Cert.HeadIdeal.nD) → Buf (Elt Ideal) ((c.tc : Thread Cert.HeadIdeal.nD Cert.HeadIdeal.τ).loc Cert.HeadIdeal.main_v8_1)) (v2 : (c : Dev Cert.HeadIdeal.nD) → Buf (Elt Ideal) ((c.tc : Thread Cert.HeadIdeal.nD Cert.HeadIdeal.τ).loc Cert.HeadIdeal.main_v8_2)) (v3 : (c : Dev Cert.HeadIdeal.nD) → Buf (Elt Ideal) ((c.tc : Thread Cert.HeadIdeal.nD Cert.HeadIdeal.τ).loc Cert.HeadIdeal.main_v8_3)) (v4 : (c : Dev Cert.HeadIdeal.nD) → Buf (Elt Ideal) ((c.tc : Thread Cert.HeadIdeal.nD Cert.HeadIdeal.τ).loc Cert.HeadIdeal.main_v8_4)) (v5 : (c : Dev Cert.HeadIdeal.nD) → Buf (Elt Ideal) ((c.tc : Thread Cert.HeadIdeal.nD Cert.HeadIdeal.τ).loc Cert.HeadIdeal.main_v8_5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v8_0) = v0 c
          ∧ r.2.mem ((c.tc : Thread Cert.HeadIdeal.nD Cert.HeadIdeal.τ).loc Cert.HeadIdeal.main_v8_1) = v1 c
          ∧ r.2.mem ((c.tc : Thread Cert.HeadIdeal.nD Cert.HeadIdeal.τ).loc Cert.HeadIdeal.main_v8_2) = v2 c
          ∧ r.2.mem ((c.tc : Thread Cert.HeadIdeal.nD Cert.HeadIdeal.τ).loc Cert.HeadIdeal.main_v8_3) = v3 c
          ∧ r.2.mem ((c.tc : Thread Cert.HeadIdeal.nD Cert.HeadIdeal.τ).loc Cert.HeadIdeal.main_v8_4) = v4 c
          ∧ r.2.mem ((c.tc : Thread Cert.HeadIdeal.nD Cert.HeadIdeal.τ).loc Cert.HeadIdeal.main_v8_5) = v5 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v71) = v0 c
          ∧ r.2.mem ((c.tc : Thread Cert.HeadRefIdeal.nD Cert.HeadRefIdeal.τ).loc Cert.HeadRefIdeal.main_v97) = v1 c
          ∧ r.2.mem ((c.tc : Thread Cert.HeadRefIdeal.nD Cert.HeadRefIdeal.τ).loc Cert.HeadRefIdeal.main_v98) = v2 c
          ∧ r.2.mem ((c.tc : Thread Cert.HeadRefIdeal.nD Cert.HeadRefIdeal.τ).loc Cert.HeadRefIdeal.main_v99) = v3 c
          ∧ r.2.mem ((c.tc : Thread Cert.HeadRefIdeal.nD Cert.HeadRefIdeal.τ).loc Cert.HeadRefIdeal.main_v100) = v4 c
          ∧ r.2.mem ((c.tc : Thread Cert.HeadRefIdeal.nD Cert.HeadRefIdeal.τ).loc Cert.HeadRefIdeal.main_v96) = v5 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)
      ∧ m' ((c.tc : Thread Cert.SumsRefIdeal.nD Cert.SumsRefIdeal.τ).loc Cert.SumsRefIdeal.main_arg1) = m ((c.tc : Thread Cert.SumsIdeal.nD Cert.SumsIdeal.τ).loc Cert.SumsIdeal.main_arg1)) →
    ∃ (v0 : (c : Dev Cert.SumsIdeal.nD) → Buf (Elt Ideal) ((c.tc : Thread Cert.SumsIdeal.nD Cert.SumsIdeal.τ).loc Cert.SumsIdeal.main_v0_0)) (v1 : (c : Dev Cert.SumsIdeal.nD) → Buf (Elt Ideal) ((c.tc : Thread Cert.SumsIdeal.nD Cert.SumsIdeal.τ).loc Cert.SumsIdeal.main_v0_1)) (v2 : (c : Dev Cert.SumsIdeal.nD) → Buf (Elt Ideal) ((c.tc : Thread Cert.SumsIdeal.nD Cert.SumsIdeal.τ).loc Cert.SumsIdeal.main_v0_2)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0_0) = v0 c
          ∧ r.2.mem ((c.tc : Thread Cert.SumsIdeal.nD Cert.SumsIdeal.τ).loc Cert.SumsIdeal.main_v0_1) = v1 c
          ∧ r.2.mem ((c.tc : Thread Cert.SumsIdeal.nD Cert.SumsIdeal.τ).loc Cert.SumsIdeal.main_v0_2) = v2 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v1) = v0 c
          ∧ r.2.mem ((c.tc : Thread Cert.SumsRefIdeal.nD Cert.SumsRefIdeal.τ).loc Cert.SumsRefIdeal.main_v0) = v1 c
          ∧ r.2.mem ((c.tc : Thread Cert.SumsRefIdeal.nD Cert.SumsRefIdeal.τ).loc Cert.SumsRefIdeal.main_v5) = v2 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0)
          ∧ r.2.mem ((c.tc : Thread Cert.SumsRefIdeal.nD Cert.SumsRefIdeal.τ).loc Cert.SumsRefIdeal.main_arg1) = m' ((c.tc : Thread Cert.SumsRefIdeal.nD Cert.SumsRefIdeal.τ).loc Cert.SumsRefIdeal.main_arg1))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v3) = v0 c
          ∧ r.2.mem ((c.tc : Thread Cert.StepOutRefIdeal.nD Cert.StepOutRefIdeal.τ).loc Cert.StepOutRefIdeal.main_v27) = v1 c
          ∧ r.2.mem ((c.tc : Thread Cert.StepOutRefIdeal.nD Cert.StepOutRefIdeal.τ).loc Cert.StepOutRefIdeal.main_v8) = v2 c
          ∧ r.2.mem ((c.tc : Thread Cert.StepOutRefIdeal.nD Cert.StepOutRefIdeal.τ).loc Cert.StepOutRefIdeal.main_v14) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v4) = v0 c
          ∧ r.2.mem ((c.tc : Thread Cert.StepInRefIdeal.nD Cert.StepInRefIdeal.τ).loc Cert.StepInRefIdeal.main_v28) = v1 c
          ∧ r.2.mem ((c.tc : Thread Cert.StepInRefIdeal.nD Cert.StepInRefIdeal.τ).loc Cert.StepInRefIdeal.main_v9) = v2 c
          ∧ r.2.mem ((c.tc : Thread Cert.StepInRefIdeal.nD Cert.StepInRefIdeal.τ).loc Cert.StepInRefIdeal.main_v15) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepPw1_StepPw1Ideal : Prop :=
  True

def algebraic_StepPw1Ideal_StepPw1RefIdeal [hStepPw1Ideal : Cert.StepPw1Ideal.Facts] [hStepPw1RefIdeal : Cert.StepPw1RefIdeal.Facts] : Prop :=
  ∀ (m : (ℓ : Loc Cert.StepPw1Ideal.nD Cert.StepPw1Ideal.τ Cert.StepPw1Ideal.sig) → Buf (Elt Ideal) ℓ) (g : Dev Cert.StepPw1Ideal.nD → PrngReg)
    (m' : (ℓ : Loc Cert.StepPw1RefIdeal.nD Cert.StepPw1RefIdeal.τ Cert.StepPw1RefIdeal.sig) → Buf (Elt Ideal) ℓ) (g' : Dev Cert.StepPw1RefIdeal.nD → PrngReg), Pre_StepPw1Ideal m →
    (∀ c : Dev Cert.StepPw1Ideal.nD,
      m' ((c.tc : Thread Cert.StepPw1RefIdeal.nD Cert.StepPw1RefIdeal.τ).loc Cert.StepPw1RefIdeal.main_arg0) = m ((c.tc : Thread Cert.StepPw1Ideal.nD Cert.StepPw1Ideal.τ).loc Cert.StepPw1Ideal.main_arg0)
      ∧ m' ((c.tc : Thread Cert.StepPw1RefIdeal.nD Cert.StepPw1RefIdeal.τ).loc Cert.StepPw1RefIdeal.main_arg1) = m ((c.tc : Thread Cert.StepPw1Ideal.nD Cert.StepPw1Ideal.τ).loc Cert.StepPw1Ideal.main_arg1)
      ∧ m' ((c.tc : Thread Cert.StepPw1RefIdeal.nD Cert.StepPw1RefIdeal.τ).loc Cert.StepPw1RefIdeal.main_arg2) = m ((c.tc : Thread Cert.StepPw1Ideal.nD Cert.StepPw1Ideal.τ).loc Cert.StepPw1Ideal.main_arg2)
      ∧ m' ((c.tc : Thread Cert.StepPw1RefIdeal.nD Cert.StepPw1RefIdeal.τ).loc Cert.StepPw1RefIdeal.main_arg3) = m ((c.tc : Thread Cert.StepPw1Ideal.nD Cert.StepPw1Ideal.τ).loc Cert.StepPw1Ideal.main_arg3)) →
    ∃ (v0 : (c : Dev Cert.StepPw1Ideal.nD) → Buf (Elt Ideal) ((c.tc : Thread Cert.StepPw1Ideal.nD Cert.StepPw1Ideal.τ).loc Cert.StepPw1Ideal.main_v1_0)) (v1 : (c : Dev Cert.StepPw1Ideal.nD) → Buf (Elt Ideal) ((c.tc : Thread Cert.StepPw1Ideal.nD Cert.StepPw1Ideal.τ).loc Cert.StepPw1Ideal.main_v1_1)) (v2 : (c : Dev Cert.StepPw1Ideal.nD) → Buf (Elt Ideal) ((c.tc : Thread Cert.StepPw1Ideal.nD Cert.StepPw1Ideal.τ).loc Cert.StepPw1Ideal.main_v1_2)) (v3 : (c : Dev Cert.StepPw1Ideal.nD) → Buf (Elt Ideal) ((c.tc : Thread Cert.StepPw1Ideal.nD Cert.StepPw1Ideal.τ).loc Cert.StepPw1Ideal.main_v1_3)),
      θ_run (Cert.StepPw1Ideal.defs (F := Ideal)) (onTc (τ := Cert.StepPw1Ideal.τ) (Cert.StepPw1Ideal.main (F := Ideal))) ⟨m, fun _ => 0, g⟩ (fun r => ∀ c : Dev Cert.StepPw1Ideal.nD,
          r.2.mem ((c.tc : Thread Cert.StepPw1Ideal.nD Cert.StepPw1Ideal.τ).loc Cert.StepPw1Ideal.main_v1_0) = v0 c
          ∧ r.2.mem ((c.tc : Thread Cert.StepPw1Ideal.nD Cert.StepPw1Ideal.τ).loc Cert.StepPw1Ideal.main_v1_1) = v1 c
          ∧ r.2.mem ((c.tc : Thread Cert.StepPw1Ideal.nD Cert.StepPw1Ideal.τ).loc Cert.StepPw1Ideal.main_v1_2) = v2 c
          ∧ r.2.mem ((c.tc : Thread Cert.StepPw1Ideal.nD Cert.StepPw1Ideal.τ).loc Cert.StepPw1Ideal.main_v1_3) = v3 c
          ∧ r.2.mem ((c.tc : Thread Cert.StepPw1Ideal.nD Cert.StepPw1Ideal.τ).loc Cert.StepPw1Ideal.main_arg0) = m ((c.tc : Thread Cert.StepPw1Ideal.nD Cert.StepPw1Ideal.τ).loc Cert.StepPw1Ideal.main_arg0)
          ∧ r.2.mem ((c.tc : Thread Cert.StepPw1Ideal.nD Cert.StepPw1Ideal.τ).loc Cert.StepPw1Ideal.main_arg1) = m ((c.tc : Thread Cert.StepPw1Ideal.nD Cert.StepPw1Ideal.τ).loc Cert.StepPw1Ideal.main_arg1)
          ∧ r.2.mem ((c.tc : Thread Cert.StepPw1Ideal.nD Cert.StepPw1Ideal.τ).loc Cert.StepPw1Ideal.main_arg2) = m ((c.tc : Thread Cert.StepPw1Ideal.nD Cert.StepPw1Ideal.τ).loc Cert.StepPw1Ideal.main_arg2)
          ∧ r.2.mem ((c.tc : Thread Cert.StepPw1Ideal.nD Cert.StepPw1Ideal.τ).loc Cert.StepPw1Ideal.main_arg3) = m ((c.tc : Thread Cert.StepPw1Ideal.nD Cert.StepPw1Ideal.τ).loc Cert.StepPw1Ideal.main_arg3))
      ∧ θ_run (Cert.StepPw1RefIdeal.defs (F := Ideal)) (onTc (τ := Cert.StepPw1RefIdeal.τ) (Cert.StepPw1RefIdeal.main (F := Ideal))) ⟨m', fun _ => 0, g'⟩ (fun r => ∀ c : Dev Cert.StepPw1RefIdeal.nD,
          r.2.mem ((c.tc : Thread Cert.StepPw1RefIdeal.nD Cert.StepPw1RefIdeal.τ).loc Cert.StepPw1RefIdeal.main_v4) = v0 c
          ∧ r.2.mem ((c.tc : Thread Cert.StepPw1RefIdeal.nD Cert.StepPw1RefIdeal.τ).loc Cert.StepPw1RefIdeal.main_v28) = v1 c
          ∧ r.2.mem ((c.tc : Thread Cert.StepPw1RefIdeal.nD Cert.StepPw1RefIdeal.τ).loc Cert.StepPw1RefIdeal.main_v9) = v2 c
          ∧ r.2.mem ((c.tc : Thread Cert.StepPw1RefIdeal.nD Cert.StepPw1RefIdeal.τ).loc Cert.StepPw1RefIdeal.main_v15) = v3 c
          ∧ r.2.mem ((c.tc : Thread Cert.StepPw1RefIdeal.nD Cert.StepPw1RefIdeal.τ).loc Cert.StepPw1RefIdeal.main_arg0) = m' ((c.tc : Thread Cert.StepPw1RefIdeal.nD Cert.StepPw1RefIdeal.τ).loc Cert.StepPw1RefIdeal.main_arg0)
          ∧ r.2.mem ((c.tc : Thread Cert.StepPw1RefIdeal.nD Cert.StepPw1RefIdeal.τ).loc Cert.StepPw1RefIdeal.main_arg1) = m' ((c.tc : Thread Cert.StepPw1RefIdeal.nD Cert.StepPw1RefIdeal.τ).loc Cert.StepPw1RefIdeal.main_arg1)
          ∧ r.2.mem ((c.tc : Thread Cert.StepPw1RefIdeal.nD Cert.StepPw1RefIdeal.τ).loc Cert.StepPw1RefIdeal.main_arg2) = m' ((c.tc : Thread Cert.StepPw1RefIdeal.nD Cert.StepPw1RefIdeal.τ).loc Cert.StepPw1RefIdeal.main_arg2)
          ∧ r.2.mem ((c.tc : Thread Cert.StepPw1RefIdeal.nD Cert.StepPw1RefIdeal.τ).loc Cert.StepPw1RefIdeal.main_arg3) = m' ((c.tc : Thread Cert.StepPw1RefIdeal.nD Cert.StepPw1RefIdeal.τ).loc Cert.StepPw1RefIdeal.main_arg3))

def preserves_StepPw2_StepPw2Ideal : Prop :=
  True

def algebraic_StepPw2Ideal_StepPw2RefIdeal [hStepPw2Ideal : Cert.StepPw2Ideal.Facts] [hStepPw2RefIdeal : Cert.StepPw2RefIdeal.Facts] : Prop :=
  ∀ (m : (ℓ : Loc Cert.StepPw2Ideal.nD Cert.StepPw2Ideal.τ Cert.StepPw2Ideal.sig) → Buf (Elt Ideal) ℓ) (g : Dev Cert.StepPw2Ideal.nD → PrngReg)
    (m' : (ℓ : Loc Cert.StepPw2RefIdeal.nD Cert.StepPw2RefIdeal.τ Cert.StepPw2RefIdeal.sig) → Buf (Elt Ideal) ℓ) (g' : Dev Cert.StepPw2RefIdeal.nD → PrngReg), Pre_StepPw2Ideal m →
    (∀ c : Dev Cert.StepPw2Ideal.nD,
      m' ((c.tc : Thread Cert.StepPw2RefIdeal.nD Cert.StepPw2RefIdeal.τ).loc Cert.StepPw2RefIdeal.main_arg0) = m ((c.tc : Thread Cert.StepPw2Ideal.nD Cert.StepPw2Ideal.τ).loc Cert.StepPw2Ideal.main_arg0)
      ∧ m' ((c.tc : Thread Cert.StepPw2RefIdeal.nD Cert.StepPw2RefIdeal.τ).loc Cert.StepPw2RefIdeal.main_arg1) = m ((c.tc : Thread Cert.StepPw2Ideal.nD Cert.StepPw2Ideal.τ).loc Cert.StepPw2Ideal.main_arg1)
      ∧ m' ((c.tc : Thread Cert.StepPw2RefIdeal.nD Cert.StepPw2RefIdeal.τ).loc Cert.StepPw2RefIdeal.main_arg2) = m ((c.tc : Thread Cert.StepPw2Ideal.nD Cert.StepPw2Ideal.τ).loc Cert.StepPw2Ideal.main_arg2)
      ∧ m' ((c.tc : Thread Cert.StepPw2RefIdeal.nD Cert.StepPw2RefIdeal.τ).loc Cert.StepPw2RefIdeal.main_arg3) = m ((c.tc : Thread Cert.StepPw2Ideal.nD Cert.StepPw2Ideal.τ).loc Cert.StepPw2Ideal.main_arg3)) →
    ∃ (v0 : (c : Dev Cert.StepPw2Ideal.nD) → Buf (Elt Ideal) ((c.tc : Thread Cert.StepPw2Ideal.nD Cert.StepPw2Ideal.τ).loc Cert.StepPw2Ideal.main_v1_0)) (v1 : (c : Dev Cert.StepPw2Ideal.nD) → Buf (Elt Ideal) ((c.tc : Thread Cert.StepPw2Ideal.nD Cert.StepPw2Ideal.τ).loc Cert.StepPw2Ideal.main_v1_1)) (v2 : (c : Dev Cert.StepPw2Ideal.nD) → Buf (Elt Ideal) ((c.tc : Thread Cert.StepPw2Ideal.nD Cert.StepPw2Ideal.τ).loc Cert.StepPw2Ideal.main_v1_2)) (v3 : (c : Dev Cert.StepPw2Ideal.nD) → Buf (Elt Ideal) ((c.tc : Thread Cert.StepPw2Ideal.nD Cert.StepPw2Ideal.τ).loc Cert.StepPw2Ideal.main_v1_3)),
      θ_run (Cert.StepPw2Ideal.defs (F := Ideal)) (onTc (τ := Cert.StepPw2Ideal.τ) (Cert.StepPw2Ideal.main (F := Ideal))) ⟨m, fun _ => 0, g⟩ (fun r => ∀ c : Dev Cert.StepPw2Ideal.nD,
          r.2.mem ((c.tc : Thread Cert.StepPw2Ideal.nD Cert.StepPw2Ideal.τ).loc Cert.StepPw2Ideal.main_v1_0) = v0 c
          ∧ r.2.mem ((c.tc : Thread Cert.StepPw2Ideal.nD Cert.StepPw2Ideal.τ).loc Cert.StepPw2Ideal.main_v1_1) = v1 c
          ∧ r.2.mem ((c.tc : Thread Cert.StepPw2Ideal.nD Cert.StepPw2Ideal.τ).loc Cert.StepPw2Ideal.main_v1_2) = v2 c
          ∧ r.2.mem ((c.tc : Thread Cert.StepPw2Ideal.nD Cert.StepPw2Ideal.τ).loc Cert.StepPw2Ideal.main_v1_3) = v3 c
          ∧ r.2.mem ((c.tc : Thread Cert.StepPw2Ideal.nD Cert.StepPw2Ideal.τ).loc Cert.StepPw2Ideal.main_arg0) = m ((c.tc : Thread Cert.StepPw2Ideal.nD Cert.StepPw2Ideal.τ).loc Cert.StepPw2Ideal.main_arg0)
          ∧ r.2.mem ((c.tc : Thread Cert.StepPw2Ideal.nD Cert.StepPw2Ideal.τ).loc Cert.StepPw2Ideal.main_arg1) = m ((c.tc : Thread Cert.StepPw2Ideal.nD Cert.StepPw2Ideal.τ).loc Cert.StepPw2Ideal.main_arg1)
          ∧ r.2.mem ((c.tc : Thread Cert.StepPw2Ideal.nD Cert.StepPw2Ideal.τ).loc Cert.StepPw2Ideal.main_arg2) = m ((c.tc : Thread Cert.StepPw2Ideal.nD Cert.StepPw2Ideal.τ).loc Cert.StepPw2Ideal.main_arg2)
          ∧ r.2.mem ((c.tc : Thread Cert.StepPw2Ideal.nD Cert.StepPw2Ideal.τ).loc Cert.StepPw2Ideal.main_arg3) = m ((c.tc : Thread Cert.StepPw2Ideal.nD Cert.StepPw2Ideal.τ).loc Cert.StepPw2Ideal.main_arg3))
      ∧ θ_run (Cert.StepPw2RefIdeal.defs (F := Ideal)) (onTc (τ := Cert.StepPw2RefIdeal.τ) (Cert.StepPw2RefIdeal.main (F := Ideal))) ⟨m', fun _ => 0, g'⟩ (fun r => ∀ c : Dev Cert.StepPw2RefIdeal.nD,
          r.2.mem ((c.tc : Thread Cert.StepPw2RefIdeal.nD Cert.StepPw2RefIdeal.τ).loc Cert.StepPw2RefIdeal.main_v3) = v0 c
          ∧ r.2.mem ((c.tc : Thread Cert.StepPw2RefIdeal.nD Cert.StepPw2RefIdeal.τ).loc Cert.StepPw2RefIdeal.main_v27) = v1 c
          ∧ r.2.mem ((c.tc : Thread Cert.StepPw2RefIdeal.nD Cert.StepPw2RefIdeal.τ).loc Cert.StepPw2RefIdeal.main_v8) = v2 c
          ∧ r.2.mem ((c.tc : Thread Cert.StepPw2RefIdeal.nD Cert.StepPw2RefIdeal.τ).loc Cert.StepPw2RefIdeal.main_v14) = v3 c
          ∧ r.2.mem ((c.tc : Thread Cert.StepPw2RefIdeal.nD Cert.StepPw2RefIdeal.τ).loc Cert.StepPw2RefIdeal.main_arg0) = m' ((c.tc : Thread Cert.StepPw2RefIdeal.nD Cert.StepPw2RefIdeal.τ).loc Cert.StepPw2RefIdeal.main_arg0)
          ∧ r.2.mem ((c.tc : Thread Cert.StepPw2RefIdeal.nD Cert.StepPw2RefIdeal.τ).loc Cert.StepPw2RefIdeal.main_arg1) = m' ((c.tc : Thread Cert.StepPw2RefIdeal.nD Cert.StepPw2RefIdeal.τ).loc Cert.StepPw2RefIdeal.main_arg1)
          ∧ r.2.mem ((c.tc : Thread Cert.StepPw2RefIdeal.nD Cert.StepPw2RefIdeal.τ).loc Cert.StepPw2RefIdeal.main_arg2) = m' ((c.tc : Thread Cert.StepPw2RefIdeal.nD Cert.StepPw2RefIdeal.τ).loc Cert.StepPw2RefIdeal.main_arg2)
          ∧ r.2.mem ((c.tc : Thread Cert.StepPw2RefIdeal.nD Cert.StepPw2RefIdeal.τ).loc Cert.StepPw2RefIdeal.main_arg3) = m' ((c.tc : Thread Cert.StepPw2RefIdeal.nD Cert.StepPw2RefIdeal.τ).loc Cert.StepPw2RefIdeal.main_arg3))

def preserves_StepDown_StepDownIdeal : Prop :=
  True

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)
      ∧ m' ((c.tc : Thread Cert.StepDownRefIdeal.nD Cert.StepDownRefIdeal.τ).loc Cert.StepDownRefIdeal.main_arg4) = m ((c.tc : Thread Cert.StepDownIdeal.nD Cert.StepDownIdeal.τ).loc Cert.StepDownIdeal.main_arg4)) →
    ∃ (v0 : (c : Dev Cert.StepDownIdeal.nD) → Buf (Elt Ideal) ((c.tc : Thread Cert.StepDownIdeal.nD Cert.StepDownIdeal.τ).loc Cert.StepDownIdeal.main_v1_0)) (v1 : (c : Dev Cert.StepDownIdeal.nD) → Buf (Elt Ideal) ((c.tc : Thread Cert.StepDownIdeal.nD Cert.StepDownIdeal.τ).loc Cert.StepDownIdeal.main_v1_1)) (v2 : (c : Dev Cert.StepDownIdeal.nD) → Buf (Elt Ideal) ((c.tc : Thread Cert.StepDownIdeal.nD Cert.StepDownIdeal.τ).loc Cert.StepDownIdeal.main_v1_2)) (v3 : (c : Dev Cert.StepDownIdeal.nD) → Buf (Elt Ideal) ((c.tc : Thread Cert.StepDownIdeal.nD Cert.StepDownIdeal.τ).loc Cert.StepDownIdeal.main_v1_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v1_0) = v0 c
          ∧ r.2.mem ((c.tc : Thread Cert.StepDownIdeal.nD Cert.StepDownIdeal.τ).loc Cert.StepDownIdeal.main_v1_1) = v1 c
          ∧ r.2.mem ((c.tc : Thread Cert.StepDownIdeal.nD Cert.StepDownIdeal.τ).loc Cert.StepDownIdeal.main_v1_2) = v2 c
          ∧ r.2.mem ((c.tc : Thread Cert.StepDownIdeal.nD Cert.StepDownIdeal.τ).loc Cert.StepDownIdeal.main_v1_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
          ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v6) = v0 c
          ∧ r.2.mem ((c.tc : Thread Cert.StepDownRefIdeal.nD Cert.StepDownRefIdeal.τ).loc Cert.StepDownRefIdeal.main_v30) = v1 c
          ∧ r.2.mem ((c.tc : Thread Cert.StepDownRefIdeal.nD Cert.StepDownRefIdeal.τ).loc Cert.StepDownRefIdeal.main_v11) = v2 c
          ∧ r.2.mem ((c.tc : Thread Cert.StepDownRefIdeal.nD Cert.StepDownRefIdeal.τ).loc Cert.StepDownRefIdeal.main_v17) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3)
          ∧ r.2.mem ((c.tc : Thread Cert.StepDownRefIdeal.nD Cert.StepDownRefIdeal.τ).loc Cert.StepDownRefIdeal.main_arg4) = m' ((c.tc : Thread Cert.StepDownRefIdeal.nD Cert.StepDownRefIdeal.τ).loc Cert.StepDownRefIdeal.main_arg4))

def preserves_StepGate_StepGateIdeal : Prop :=
  True

def algebraic_StepGateIdeal_StepGateRefIdeal [hStepGateIdeal : Cert.StepGateIdeal.Facts] [hStepGateRefIdeal : Cert.StepGateRefIdeal.Facts] : Prop :=
  ∀ (m : (ℓ : Loc Cert.StepGateIdeal.nD Cert.StepGateIdeal.τ Cert.StepGateIdeal.sig) → Buf (Elt Ideal) ℓ) (g : Dev Cert.StepGateIdeal.nD → PrngReg)
    (m' : (ℓ : Loc Cert.StepGateRefIdeal.nD Cert.StepGateRefIdeal.τ Cert.StepGateRefIdeal.sig) → Buf (Elt Ideal) ℓ) (g' : Dev Cert.StepGateRefIdeal.nD → PrngReg), Pre_StepGateIdeal m →
    (∀ c : Dev Cert.StepGateIdeal.nD,
      m' ((c.tc : Thread Cert.StepGateRefIdeal.nD Cert.StepGateRefIdeal.τ).loc Cert.StepGateRefIdeal.main_arg0) = m ((c.tc : Thread Cert.StepGateIdeal.nD Cert.StepGateIdeal.τ).loc Cert.StepGateIdeal.main_arg0)
      ∧ m' ((c.tc : Thread Cert.StepGateRefIdeal.nD Cert.StepGateRefIdeal.τ).loc Cert.StepGateRefIdeal.main_arg1) = m ((c.tc : Thread Cert.StepGateIdeal.nD Cert.StepGateIdeal.τ).loc Cert.StepGateIdeal.main_arg1)
      ∧ m' ((c.tc : Thread Cert.StepGateRefIdeal.nD Cert.StepGateRefIdeal.τ).loc Cert.StepGateRefIdeal.main_arg2) = m ((c.tc : Thread Cert.StepGateIdeal.nD Cert.StepGateIdeal.τ).loc Cert.StepGateIdeal.main_arg2)
      ∧ m' ((c.tc : Thread Cert.StepGateRefIdeal.nD Cert.StepGateRefIdeal.τ).loc Cert.StepGateRefIdeal.main_arg3) = m ((c.tc : Thread Cert.StepGateIdeal.nD Cert.StepGateIdeal.τ).loc Cert.StepGateIdeal.main_arg3)
      ∧ m' ((c.tc : Thread Cert.StepGateRefIdeal.nD Cert.StepGateRefIdeal.τ).loc Cert.StepGateRefIdeal.main_arg4) = m ((c.tc : Thread Cert.StepGateIdeal.nD Cert.StepGateIdeal.τ).loc Cert.StepGateIdeal.main_arg4)) →
    ∃ (v0 : (c : Dev Cert.StepGateIdeal.nD) → Buf (Elt Ideal) ((c.tc : Thread Cert.StepGateIdeal.nD Cert.StepGateIdeal.τ).loc Cert.StepGateIdeal.main_v4_0)) (v1 : (c : Dev Cert.StepGateIdeal.nD) → Buf (Elt Ideal) ((c.tc : Thread Cert.StepGateIdeal.nD Cert.StepGateIdeal.τ).loc Cert.StepGateIdeal.main_v4_1)) (v2 : (c : Dev Cert.StepGateIdeal.nD) → Buf (Elt Ideal) ((c.tc : Thread Cert.StepGateIdeal.nD Cert.StepGateIdeal.τ).loc Cert.StepGateIdeal.main_v4_2)) (v3 : (c : Dev Cert.StepGateIdeal.nD) → Buf (Elt Ideal) ((c.tc : Thread Cert.StepGateIdeal.nD Cert.StepGateIdeal.τ).loc Cert.StepGateIdeal.main_v4_3)),
      θ_run (Cert.StepGateIdeal.defs (F := Ideal)) (onTc (τ := Cert.StepGateIdeal.τ) (Cert.StepGateIdeal.main (F := Ideal))) ⟨m, fun _ => 0, g⟩ (fun r => ∀ c : Dev Cert.StepGateIdeal.nD,
          r.2.mem ((c.tc : Thread Cert.StepGateIdeal.nD Cert.StepGateIdeal.τ).loc Cert.StepGateIdeal.main_v4_0) = v0 c
          ∧ r.2.mem ((c.tc : Thread Cert.StepGateIdeal.nD Cert.StepGateIdeal.τ).loc Cert.StepGateIdeal.main_v4_1) = v1 c
          ∧ r.2.mem ((c.tc : Thread Cert.StepGateIdeal.nD Cert.StepGateIdeal.τ).loc Cert.StepGateIdeal.main_v4_2) = v2 c
          ∧ r.2.mem ((c.tc : Thread Cert.StepGateIdeal.nD Cert.StepGateIdeal.τ).loc Cert.StepGateIdeal.main_v4_3) = v3 c
          ∧ r.2.mem ((c.tc : Thread Cert.StepGateIdeal.nD Cert.StepGateIdeal.τ).loc Cert.StepGateIdeal.main_arg0) = m ((c.tc : Thread Cert.StepGateIdeal.nD Cert.StepGateIdeal.τ).loc Cert.StepGateIdeal.main_arg0)
          ∧ r.2.mem ((c.tc : Thread Cert.StepGateIdeal.nD Cert.StepGateIdeal.τ).loc Cert.StepGateIdeal.main_arg1) = m ((c.tc : Thread Cert.StepGateIdeal.nD Cert.StepGateIdeal.τ).loc Cert.StepGateIdeal.main_arg1)
          ∧ r.2.mem ((c.tc : Thread Cert.StepGateIdeal.nD Cert.StepGateIdeal.τ).loc Cert.StepGateIdeal.main_arg2) = m ((c.tc : Thread Cert.StepGateIdeal.nD Cert.StepGateIdeal.τ).loc Cert.StepGateIdeal.main_arg2)
          ∧ r.2.mem ((c.tc : Thread Cert.StepGateIdeal.nD Cert.StepGateIdeal.τ).loc Cert.StepGateIdeal.main_arg3) = m ((c.tc : Thread Cert.StepGateIdeal.nD Cert.StepGateIdeal.τ).loc Cert.StepGateIdeal.main_arg3)
          ∧ r.2.mem ((c.tc : Thread Cert.StepGateIdeal.nD Cert.StepGateIdeal.τ).loc Cert.StepGateIdeal.main_arg4) = m ((c.tc : Thread Cert.StepGateIdeal.nD Cert.StepGateIdeal.τ).loc Cert.StepGateIdeal.main_arg4))
      ∧ θ_run (Cert.StepGateRefIdeal.defs (F := Ideal)) (onTc (τ := Cert.StepGateRefIdeal.τ) (Cert.StepGateRefIdeal.main (F := Ideal))) ⟨m', fun _ => 0, g'⟩ (fun r => ∀ c : Dev Cert.StepGateRefIdeal.nD,
          r.2.mem ((c.tc : Thread Cert.StepGateRefIdeal.nD Cert.StepGateRefIdeal.τ).loc Cert.StepGateRefIdeal.main_v6) = v0 c
          ∧ r.2.mem ((c.tc : Thread Cert.StepGateRefIdeal.nD Cert.StepGateRefIdeal.τ).loc Cert.StepGateRefIdeal.main_v33) = v1 c
          ∧ r.2.mem ((c.tc : Thread Cert.StepGateRefIdeal.nD Cert.StepGateRefIdeal.τ).loc Cert.StepGateRefIdeal.main_v14) = v2 c
          ∧ r.2.mem ((c.tc : Thread Cert.StepGateRefIdeal.nD Cert.StepGateRefIdeal.τ).loc Cert.StepGateRefIdeal.main_v20) = v3 c
          ∧ r.2.mem ((c.tc : Thread Cert.StepGateRefIdeal.nD Cert.StepGateRefIdeal.τ).loc Cert.StepGateRefIdeal.main_arg0) = m' ((c.tc : Thread Cert.StepGateRefIdeal.nD Cert.StepGateRefIdeal.τ).loc Cert.StepGateRefIdeal.main_arg0)
          ∧ r.2.mem ((c.tc : Thread Cert.StepGateRefIdeal.nD Cert.StepGateRefIdeal.τ).loc Cert.StepGateRefIdeal.main_arg1) = m' ((c.tc : Thread Cert.StepGateRefIdeal.nD Cert.StepGateRefIdeal.τ).loc Cert.StepGateRefIdeal.main_arg1)
          ∧ r.2.mem ((c.tc : Thread Cert.StepGateRefIdeal.nD Cert.StepGateRefIdeal.τ).loc Cert.StepGateRefIdeal.main_arg2) = m' ((c.tc : Thread Cert.StepGateRefIdeal.nD Cert.StepGateRefIdeal.τ).loc Cert.StepGateRefIdeal.main_arg2)
          ∧ r.2.mem ((c.tc : Thread Cert.StepGateRefIdeal.nD Cert.StepGateRefIdeal.τ).loc Cert.StepGateRefIdeal.main_arg3) = m' ((c.tc : Thread Cert.StepGateRefIdeal.nD Cert.StepGateRefIdeal.τ).loc Cert.StepGateRefIdeal.main_arg3)
          ∧ r.2.mem ((c.tc : Thread Cert.StepGateRefIdeal.nD Cert.StepGateRefIdeal.τ).loc Cert.StepGateRefIdeal.main_arg4) = m' ((c.tc : Thread Cert.StepGateRefIdeal.nD Cert.StepGateRefIdeal.τ).loc Cert.StepGateRefIdeal.main_arg4))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)
      ∧ m' ((c.tc : Thread Cert.StepUpRefIdeal.nD Cert.StepUpRefIdeal.τ).loc Cert.StepUpRefIdeal.main_arg4) = m ((c.tc : Thread Cert.StepUpIdeal.nD Cert.StepUpIdeal.τ).loc Cert.StepUpIdeal.main_arg4)) →
    ∃ (v0 : (c : Dev Cert.StepUpIdeal.nD) → Buf (Elt Ideal) ((c.tc : Thread Cert.StepUpIdeal.nD Cert.StepUpIdeal.τ).loc Cert.StepUpIdeal.main_v4_0)) (v1 : (c : Dev Cert.StepUpIdeal.nD) → Buf (Elt Ideal) ((c.tc : Thread Cert.StepUpIdeal.nD Cert.StepUpIdeal.τ).loc Cert.StepUpIdeal.main_v4_1)) (v2 : (c : Dev Cert.StepUpIdeal.nD) → Buf (Elt Ideal) ((c.tc : Thread Cert.StepUpIdeal.nD Cert.StepUpIdeal.τ).loc Cert.StepUpIdeal.main_v4_2)) (v3 : (c : Dev Cert.StepUpIdeal.nD) → Buf (Elt Ideal) ((c.tc : Thread Cert.StepUpIdeal.nD Cert.StepUpIdeal.τ).loc Cert.StepUpIdeal.main_v4_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v4_0) = v0 c
          ∧ r.2.mem ((c.tc : Thread Cert.StepUpIdeal.nD Cert.StepUpIdeal.τ).loc Cert.StepUpIdeal.main_v4_1) = v1 c
          ∧ r.2.mem ((c.tc : Thread Cert.StepUpIdeal.nD Cert.StepUpIdeal.τ).loc Cert.StepUpIdeal.main_v4_2) = v2 c
          ∧ r.2.mem ((c.tc : Thread Cert.StepUpIdeal.nD Cert.StepUpIdeal.τ).loc Cert.StepUpIdeal.main_v4_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
          ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v6) = v0 c
          ∧ r.2.mem ((c.tc : Thread Cert.StepUpRefIdeal.nD Cert.StepUpRefIdeal.τ).loc Cert.StepUpRefIdeal.main_v33) = v1 c
          ∧ r.2.mem ((c.tc : Thread Cert.StepUpRefIdeal.nD Cert.StepUpRefIdeal.τ).loc Cert.StepUpRefIdeal.main_v14) = v2 c
          ∧ r.2.mem ((c.tc : Thread Cert.StepUpRefIdeal.nD Cert.StepUpRefIdeal.τ).loc Cert.StepUpRefIdeal.main_v20) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3)
          ∧ r.2.mem ((c.tc : Thread Cert.StepUpRefIdeal.nD Cert.StepUpRefIdeal.τ).loc Cert.StepUpRefIdeal.main_arg4) = m' ((c.tc : Thread Cert.StepUpRefIdeal.nD Cert.StepUpRefIdeal.τ).loc Cert.StepUpRefIdeal.main_arg4))

def Claim : Prop :=
  ∃ (hKernel : Cert.Kernel.Facts) (hKernelIdeal : Cert.KernelIdeal.Facts) (hReferenceIdeal : Cert.ReferenceIdeal.Facts) (hGradIn : Cert.GradIn.Facts) (hGradInIdeal : Cert.GradInIdeal.Facts) (hGradInRefIdeal : Cert.GradInRefIdeal.Facts) (hGradDown : Cert.GradDown.Facts) (hGradDownIdeal : Cert.GradDownIdeal.Facts) (hGradDownRefIdeal : Cert.GradDownRefIdeal.Facts) (hFfn : Cert.Ffn.Facts) (hFfnIdeal : Cert.FfnIdeal.Facts) (hFfnRefIdeal : Cert.FfnRefIdeal.Facts) (hHead : Cert.Head.Facts) (hHeadIdeal : Cert.HeadIdeal.Facts) (hHeadRefIdeal : Cert.HeadRefIdeal.Facts) (hSums : Cert.Sums.Facts) (hSumsIdeal : Cert.SumsIdeal.Facts) (hSumsRefIdeal : Cert.SumsRefIdeal.Facts) (hStepOut : Cert.StepOut.Facts) (hStepOutIdeal : Cert.StepOutIdeal.Facts) (hStepOutRefIdeal : Cert.StepOutRefIdeal.Facts) (hStepIn : Cert.StepIn.Facts) (hStepInIdeal : Cert.StepInIdeal.Facts) (hStepInRefIdeal : Cert.StepInRefIdeal.Facts) (hStepPw1 : Cert.StepPw1.Facts) (hStepPw1Ideal : Cert.StepPw1Ideal.Facts) (hStepPw1RefIdeal : Cert.StepPw1RefIdeal.Facts) (hStepPw2 : Cert.StepPw2.Facts) (hStepPw2Ideal : Cert.StepPw2Ideal.Facts) (hStepPw2RefIdeal : Cert.StepPw2RefIdeal.Facts) (hStepDown : Cert.StepDown.Facts) (hStepDownIdeal : Cert.StepDownIdeal.Facts) (hStepDownRefIdeal : Cert.StepDownRefIdeal.Facts) (hStepGate : Cert.StepGate.Facts) (hStepGateIdeal : Cert.StepGateIdeal.Facts) (hStepGateRefIdeal : Cert.StepGateRefIdeal.Facts) (hStepUp : Cert.StepUp.Facts) (hStepUpIdeal : Cert.StepUpIdeal.Facts) (hStepUpRefIdeal : Cert.StepUpRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Head (hHead := hHead)
    ∧ quiescent_HeadIdeal (hHeadIdeal := hHeadIdeal)
    ∧ quiescent_HeadRefIdeal (hHeadRefIdeal := hHeadRefIdeal)
    ∧ quiescent_Sums (hSums := hSums)
    ∧ quiescent_SumsIdeal (hSumsIdeal := hSumsIdeal)
    ∧ quiescent_SumsRefIdeal (hSumsRefIdeal := hSumsRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepPw1 (hStepPw1 := hStepPw1)
    ∧ quiescent_StepPw1Ideal (hStepPw1Ideal := hStepPw1Ideal)
    ∧ quiescent_StepPw1RefIdeal (hStepPw1RefIdeal := hStepPw1RefIdeal)
    ∧ quiescent_StepPw2 (hStepPw2 := hStepPw2)
    ∧ quiescent_StepPw2Ideal (hStepPw2Ideal := hStepPw2Ideal)
    ∧ quiescent_StepPw2RefIdeal (hStepPw2RefIdeal := hStepPw2RefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ quiescent_StepGate (hStepGate := hStepGate)
    ∧ quiescent_StepGateIdeal (hStepGateIdeal := hStepGateIdeal)
    ∧ quiescent_StepGateRefIdeal (hStepGateRefIdeal := hStepGateRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ preserves_Kernel_KernelIdeal
    ∧ algebraic_KernelIdeal_ReferenceIdeal (hKernelIdeal := hKernelIdeal) (hReferenceIdeal := hReferenceIdeal)
    ∧ preserves_GradIn_GradInIdeal
    ∧ algebraic_GradInIdeal_GradInRefIdeal (hGradInIdeal := hGradInIdeal) (hGradInRefIdeal := hGradInRefIdeal)
    ∧ preserves_GradDown_GradDownIdeal
    ∧ algebraic_GradDownIdeal_GradDownRefIdeal (hGradDownIdeal := hGradDownIdeal) (hGradDownRefIdeal := hGradDownRefIdeal)
    ∧ preserves_Ffn_FfnIdeal
    ∧ algebraic_FfnIdeal_FfnRefIdeal_pre_finite (hFfnIdeal := hFfnIdeal) (hFfnRefIdeal := hFfnRefIdeal) (hPre_finite := hPre_finite)
    ∧ preserves_Head_HeadIdeal
    ∧ algebraic_HeadIdeal_HeadRefIdeal (hHeadIdeal := hHeadIdeal) (hHeadRefIdeal := hHeadRefIdeal)
    ∧ preserves_Sums_SumsIdeal
    ∧ algebraic_SumsIdeal_SumsRefIdeal (hSumsIdeal := hSumsIdeal) (hSumsRefIdeal := hSumsRefIdeal)
    ∧ preserves_StepOut_StepOutIdeal
    ∧ algebraic_StepOutIdeal_StepOutRefIdeal (hStepOutIdeal := hStepOutIdeal) (hStepOutRefIdeal := hStepOutRefIdeal)
    ∧ preserves_StepIn_StepInIdeal
    ∧ algebraic_StepInIdeal_StepInRefIdeal (hStepInIdeal := hStepInIdeal) (hStepInRefIdeal := hStepInRefIdeal)
    ∧ preserves_StepPw1_StepPw1Ideal
    ∧ algebraic_StepPw1Ideal_StepPw1RefIdeal (hStepPw1Ideal := hStepPw1Ideal) (hStepPw1RefIdeal := hStepPw1RefIdeal)
    ∧ preserves_StepPw2_StepPw2Ideal
    ∧ algebraic_StepPw2Ideal_StepPw2RefIdeal (hStepPw2Ideal := hStepPw2Ideal) (hStepPw2RefIdeal := hStepPw2RefIdeal)
    ∧ preserves_StepDown_StepDownIdeal
    ∧ algebraic_StepDownIdeal_StepDownRefIdeal (hStepDownIdeal := hStepDownIdeal) (hStepDownRefIdeal := hStepDownRefIdeal)
    ∧ preserves_StepGate_StepGateIdeal
    ∧ algebraic_StepGateIdeal_StepGateRefIdeal (hStepGateIdeal := hStepGateIdeal) (hStepGateRefIdeal := hStepGateRefIdeal)
    ∧ preserves_StepUp_StepUpIdeal
    ∧ algebraic_StepUpIdeal_StepUpRefIdeal (hStepUpIdeal := hStepUpIdeal) (hStepUpRefIdeal := hStepUpRefIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S9729x1024 : Shape := ⟨2, ![9729, 1024]⟩
abbrev S_ : Shape := ⟨0, ![]⟩

class Facts : Prop where
  transposes_S1024x2816_S2816x1024_1_0 : S1024x2816.Transposes [1, 0] S2816x1024
  concatenates_S1x1024_S2816x1024_S2816x1024_S4096x1024_S9729x1024_d0 : Shape.Concatenates [S1x1024, S2816x1024, S2816x1024, S4096x1024] S9729x1024 0
  bcast_S_S9729x1024 : S_.BroadcastsInDim S9729x1024 (![] : Fin 0 → Fin S9729x1024.rank)

variable [Facts]

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S9729x1024 1 :=
  let main_v0 : FVec F S2816x1024 .f32 := (transpose S2816x1024 [1, 0] · transposes_S1024x2816_S2816x1024_1_0) main_arg3
  let main_v1 : FVec F S9729x1024 .f32 := concatenate S9729x1024 0 [⟨S1x1024, main_arg1⟩, ⟨S2816x1024, main_v0⟩, ⟨S2816x1024, main_arg4⟩, ⟨S4096x1024, main_arg5⟩] concatenates_S1x1024_S2816x1024_S2816x1024_S4096x1024_S9729x1024_d0
  let main_v2 : FVec F S9729x1024 .f32 := Host.absf main_v1
  let main_cst : FVec F S_ .f32 := constant S_ .f32 0x7F800000#32
  let main_v3 : FVec F S9729x1024 .f32 := broadcastInDim S9729x1024 ![] bcast_S_S9729x1024 main_cst
  let main_v4 : IVec S9729x1024 1 := cmpf .olt main_v2 main_v3
  main_v4
-- ==== Kernel.lean ====
abbrev S4096x1024 : Shape := ⟨2, ![4096, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S2x1024 : Shape := ⟨2, ![2, 1024]⟩
abbrev S4098x1024 : Shape := ⟨2, ![4098, 1024]⟩
abbrev S3072x1024 : Shape := ⟨2, ![3072, 1024]⟩
abbrev S8x384x1024 : Shape := ⟨3, ![8, 384, 1024]⟩
abbrev S8x128x1024 : Shape := ⟨3, ![8, 128, 1024]⟩
abbrev S8x2496x1024 : Shape := ⟨3, ![8, 2496, 1024]⟩
abbrev S8x3008x1024 : Shape := ⟨3, ![8, 3008, 1024]⟩
abbrev S8x128 : Shape := ⟨2, ![8, 128]⟩
abbrev S8x1024 : Shape := ⟨2, ![8, 1024]⟩
abbrev S256x1024 : Shape := ⟨2, ![256, 1024]⟩
abbrev S264x1024 : Shape := ⟨2, ![264, 1024]⟩
abbrev S16 : Shape := ⟨1, ![16]⟩
abbrev S4 : Shape := ⟨1, ![4]⟩
abbrev S1 : Shape := ⟨1, ![1]⟩
abbrev S128x1024 : Shape := ⟨2, ![128, 1024]⟩
abbrev S1x128x1024 : Shape := ⟨3, ![1, 128, 1024]⟩
abbrev S384x1024 : Shape := ⟨2, ![384, 1024]⟩
abbrev S1x384x1024 : Shape := ⟨3, ![1, 384, 1024]⟩
abbrev S1024 : Shape := ⟨1, ![1024]⟩
abbrev S256 : Shape := ⟨1, ![256]⟩
abbrev S256x1 : Shape := ⟨2, ![256, 1]⟩

abbrev nBuf : Space → Nat
  | .hbm => 62
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3072, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S2x1024, .f32⟩
  | .hbm, ⟨27, _⟩ => ⟨S4096x1024, .f32⟩
  | .hbm, ⟨28, _⟩ => ⟨S4098x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S3072x1024, .f32⟩
  | .hbm, ⟨45, _⟩ => ⟨S8x384x1024, .f32⟩
  | .hbm, ⟨46, _⟩ => ⟨S8x128x1024, .f32⟩
  | .hbm, ⟨47, _⟩ => ⟨S_, .f32⟩
  | .hbm, ⟨48, _⟩ => ⟨S8x2496x1024, .f32⟩
  | .hbm, ⟨49, _⟩ => ⟨S8x3008x1024, .f32⟩
  | .hbm, ⟨50, _⟩ => ⟨S8x3008x1024, .bf16⟩
  | .hbm, ⟨51, _⟩ => ⟨S_, .f32⟩
  | .hbm, ⟨52, _⟩ => ⟨S8x128, .f32⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S4096x1024, .f32⟩
  | .hbm, ⟨59, _⟩ => ⟨S8x1024, .f32⟩
  | .hbm, ⟨60, _⟩ => ⟨S3072x1024, .bf16⟩
  | .hbm, ⟨61, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S3x1024, .f32⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | .local _ .vmem, ⟨19, _⟩ => ⟨S3072x1024, .bf16⟩
  | .local _ .vmem, ⟨20, _⟩ => ⟨S1024x1024, .bf16⟩
  | .local _ .vmem, ⟨21, _⟩ => ⟨S264x1024, .f32⟩
  | .local _ .vmem, ⟨22, _⟩ => ⟨S3072x1024, .f32⟩
  | .local _ .vmem, ⟨23, _⟩ => ⟨S1024x1024, .f32⟩
  | .local _ .vmem, ⟨24, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev main_v46_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S2x1024 : Shape := ⟨2, ![2, 1024]⟩
abbrev S4098x1024 : Shape := ⟨2, ![4098, 1024]⟩
abbrev S3072x1024 : Shape := ⟨2, ![3072, 1024]⟩
abbrev S4x1024 : Shape := ⟨2, ![4, 1024]⟩
abbrev S8x1024 : Shape := ⟨2, ![8, 1024]⟩

abbrev nBuf : Space → Nat
  | .hbm => 153
  | .vmem => 0
  | .smem => 0
  | _ => 0

abbrev hbmTy0_0 (i : Nat) : BufTy := match i % 128 with
  | 0 => ⟨S4096x1024, .f32⟩
  | 1 => ⟨S1x1024, .f32⟩
  | 2 => ⟨S1024x3072, .f32⟩
  | 3 => ⟨S3x1024, .f32⟩
  | 4 => ⟨S1024x1024, .f32⟩
  | 5 => ⟨S4096x1024, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x3072, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S2x1024, .f32⟩
  | 34 => ⟨S4098x1024, .f32⟩
  | 35 => ⟨S_, .f32⟩
  | 36 => ⟨S2x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S1024x1024, .f32⟩
  | 65 => ⟨S1024x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S_, .f32⟩
  | 78 => ⟨S4098x1024, .f32⟩
  | 79 => ⟨S1x1024, .f32⟩
  | 80 => ⟨S_, .f32⟩
  | 81 => ⟨S3x1024, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S_, .f32⟩
  | 89 => ⟨S1024, .f32⟩
  | 90 => ⟨S_, .f32⟩
  | 91 => ⟨S4098x1024, .f32⟩
  | 92 => ⟨S4098x1024, .f32⟩
  | 93 => ⟨S1x1024, .f32⟩
  | 94 => ⟨S_, .f32⟩
  | 95 => ⟨S3x1024, .f32⟩
  | 96 => ⟨S3x1024, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S_, .f32⟩
  | 106 => ⟨S4098x1024, .f32⟩
  | 107 => ⟨S4098x1024, .f32⟩
  | 108 => ⟨S1x1024, .f32⟩
  | 109 => ⟨S_, .f32⟩
  | 110 => ⟨S3x1024, .f32⟩
  | 111 => ⟨S3x1024, .f32⟩
  | 112 => ⟨S2x1024, .f32⟩
  | 113 => ⟨S4096x1024, .f32⟩
  | 114 => ⟨S4096x1024, .f32⟩
  | 115 => ⟨S4096x1024, .f32⟩
  | 116 => ⟨S4096x3072, .f32⟩
  | 117 => ⟨S3072x1024, .f32⟩
  | 118 => ⟨S1024x3072, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S4096x1024, .f32⟩
  | 5 => ⟨S4096x1024, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S1x1024, .f32⟩
  | 19 => ⟨S_, .f32⟩
  | 20 => ⟨S4x1024, .f32⟩
  | 21 => ⟨S8x1024, .f32⟩
  | 22 => ⟨S3072x1024, .f32⟩
  | 23 => ⟨S3072x1024, .bf16⟩
  | 24 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_cst_15 : Ref sig .tc := ⟨.hbm, 103, rfl⟩
abbrev main_v81 : Ref sig .tc := ⟨.hbm, 104, rfl⟩
abbrev main_cst_16 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_17 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_19 : Ref sig .tc := ⟨.hbm, 126, rfl⟩
abbrev main_v100 : Ref sig .tc := ⟨.hbm, 127, rfl⟩
abbrev main_v101 : Ref sig .tc := ⟨.hbm, 128, rfl⟩
abbrev main_cst_20 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_21 : Ref sig .tc := ⟨.hbm, 136, rfl⟩
abbrev main_v108 : Ref sig .tc := ⟨.hbm, 137, rfl⟩
abbrev main_v109 : Ref sig .tc := ⟨.hbm, 138, rfl⟩
abbrev main_cst_22 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_23 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩

abbrev nD : Nat := 1
abbrev τ : Topo := Topo.v7x

variable {F : FTy → Type} [FloatOps F]
-- ==== GradIn.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradDown.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x1952x1024 : Shape := ⟨3, ![8, 1952, 1024]⟩
abbrev S8x352x1024 : Shape := ⟨3, ![8, 352, 1024]⟩
abbrev S8x3008x1024 : Shape := ⟨3, ![8, 3008, 1024]⟩
abbrev S8x1024 : Shape := ⟨2, ![8, 1024]⟩
abbrev S512x1024 : Shape := ⟨2, ![512, 1024]⟩
abbrev S512x2816 : Shape := ⟨2, ![512, 2816]⟩
abbrev S24 : Shape := ⟨1, ![24]⟩
abbrev S1 : Shape := ⟨1, ![1]⟩
abbrev S352x1024 : Shape := ⟨2, ![352, 1024]⟩
abbrev S1x352x1024 : Shape := ⟨3, ![1, 352, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 40
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S8x1952x1024, .f32⟩
  | .hbm, ⟨27, _⟩ => ⟨S2816x1024, .f32⟩
  | .hbm, ⟨28, _⟩ => ⟨S8x352x1024, .f32⟩
  | .hbm, ⟨29, _⟩ => ⟨S2816x1024, .f32⟩
  | .hbm, ⟨30, _⟩ => ⟨S8x352x1024, .f32⟩
  | .hbm, ⟨31, _⟩ => ⟨S8x352x1024, .f32⟩
  | .hbm, ⟨32, _⟩ => ⟨S8x3008x1024, .f32⟩
  | .hbm, ⟨33, _⟩ => ⟨S8x3008x1024, .bf16⟩
  | .hbm, ⟨34, _⟩ => ⟨S4096x2816, .bf16⟩
  | .hbm, ⟨35, _⟩ => ⟨S4096x2816, .bf16⟩
  | .hbm, ⟨36, _⟩ => ⟨S4096x1024, .f32⟩
  | .hbm, ⟨37, _⟩ => ⟨S4096x2816, .bf16⟩
  | .hbm, ⟨38, _⟩ => ⟨S4096x2816, .bf16⟩
  | .hbm, ⟨39, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S8x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S7x1024 : Shape := ⟨2, ![7, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S_, .f32⟩
  | .hbm, ⟨81, _⟩ => ⟨S7x1024, .f32⟩
  | .hbm, ⟨82, _⟩ => ⟨S8x1024, .f32⟩
  | .hbm, ⟨83, _⟩ => ⟨S4096x1024, .f32⟩
  | .hbm, ⟨84, _⟩ => ⟨S4096x2816, .bf16⟩
  | .hbm, ⟨85, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== Head.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8x1952x1024 : Shape := ⟨3, ![8, 1952, 1024]⟩
abbrev S8x352x1024 : Shape := ⟨3, ![8, 352, 1024]⟩
abbrev S8x3008x1024 : Shape := ⟨3, ![8, 3008, 1024]⟩
abbrev S4096x2816 : Shape := ⟨2, ![4096, 2816]⟩
abbrev S8x1024 : Shape := ⟨2, ![8, 1024]⟩
abbrev S512x1024 : Shape := ⟨2, ![512, 1024]⟩
abbrev S512x2816 : Shape := ⟨2, ![512, 2816]⟩
abbrev S24 : Shape := ⟨1, ![24]⟩
abbrev S1 : Shape := ⟨1, ![1]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S1408x1024 : Shape := ⟨2, ![1408, 1024]⟩
abbrev S512x1408 : Shape := ⟨2, ![512, 1408]⟩
abbrev S1024 : Shape := ⟨1, ![1024]⟩

abbrev nBuf : Space → Nat
  | .hbm => 22
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S_, .f32⟩
  | .hbm, ⟨8, _⟩ => ⟨S8x1952x1024, .f32⟩
  | .hbm, ⟨9, _⟩ => ⟨S2816x1024, .f32⟩
  | .hbm, ⟨10, _⟩ => ⟨S8x352x1024, .f32⟩
  | .hbm, ⟨11, _⟩ => ⟨S2816x1024, .f32⟩
  | .hbm, ⟨12, _⟩ => ⟨S8x352x1024, .f32⟩
  | .hbm, ⟨13, _⟩ => ⟨S8x352x1024, .f32⟩
  | .hbm, ⟨14, _⟩ => ⟨S8x3008x1024, .f32⟩
  | .hbm, ⟨15, _⟩ => ⟨S8x3008x1024, .bf16⟩
  | .hbm, ⟨16, _⟩ => ⟨S4096x1024, .f32⟩
  | .hbm, ⟨17, _⟩ => ⟨S4096x1024, .bf16⟩
  | .hbm, ⟨18, _⟩ => ⟨S4096x2816, .bf16⟩
  | .hbm, ⟨19, _⟩ => ⟨S4096x2816, .bf16⟩
  | .hbm, ⟨20, _⟩ => ⟨S4096x2816, .bf16⟩
  | .hbm, ⟨21, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S8x1024, .f32⟩
  | .local _ .vmem, ⟨17, _⟩ => ⟨S2816x1024, .bf16⟩
  | .local _ .vmem, ⟨18, _⟩ => ⟨S2816x1024, .bf16⟩
  | .local _ .vmem, ⟨19, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HeadRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S6x1024 : Shape := ⟨2, ![6, 1024]⟩
abbrev S8x1024 : Shape := ⟨2, ![8, 1024]⟩

abbrev nBuf : Space → Nat
  | .hbm => 143
  | .vmem => 0
  | .smem => 0
  | _ => 0

abbrev hbmTy0_0 (i : Nat) : BufTy := match i % 128 with
  | 0 => ⟨S4096x1024, .f32⟩
  | 1 => ⟨S1x1024, .f32⟩
  | 2 => ⟨S1024x2816, .f32⟩
  | 3 => ⟨S1024x2816, .f32⟩
  | 4 => ⟨S2816x1024, .f32⟩
  | 5 => ⟨S4096x1024, .f32⟩
  | 6 => ⟨S1x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2816, .f32⟩
  | 25 => ⟨S4096x2816, .f32⟩
  | 26 => ⟨S4096x2816, .f32⟩
  | 27 => ⟨S4096x2816, .f32⟩
  | 28 => ⟨S_, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S4096x2816, .f32⟩
  | 35 => ⟨S4096x2816, .f32⟩
  | 36 => ⟨S4096x1024, .f32⟩
  | 37 => ⟨S4096x1024, .f32⟩
  | 38 => ⟨S1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096, .f32⟩
  | 66 => ⟨S_, .f32⟩
  | 67 => ⟨S4096, .f32⟩
  | 68 => ⟨S4096, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S4096, .f32⟩
  | 77 => ⟨S_, .f32⟩
  | 78 => ⟨S4096, .f32⟩
  | 79 => ⟨S4096, .f32⟩
  | 80 => ⟨S4096x1024, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S_, .f32⟩
  | 89 => ⟨S1024, .f32⟩
  | 90 => ⟨S4096x1024, .f32⟩
  | 91 => ⟨S_, .f32⟩
  | 92 => ⟨S4096, .f32⟩
  | 93 => ⟨S4096x1, .f32⟩
  | 94 => ⟨S4096x1024, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096x1, .f32⟩
  | 118 => ⟨S4096x1, .f32⟩
  | 119 => ⟨S4096x1, .f32⟩
  | 120 => ⟨S4096x1024, .f32⟩
  | 121 => ⟨S4096x1024, .f32⟩
  | 122 => ⟨S1x1024, .f32⟩
  | 123 => ⟨S4096x1024, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S1024, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S6x1024, .f32⟩
  | 10 => ⟨S8x1024, .f32⟩
  | 11 => ⟨S4096x1024, .bf16⟩
  | 12 => ⟨S4096x2816, .bf16⟩
  | 13 => ⟨S4096x2816, .bf16⟩
  | 14 => ⟨S4096x2816, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_cst_11 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_cst_18 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_19 : Ref sig .tc := ⟨.hbm, 110, rfl⟩
abbrev main_v75 : Ref sig .tc := ⟨.hbm, 111, rfl⟩
abbrev main_v76 : Ref sig .tc := ⟨.hbm, 112, rfl⟩
abbrev main_cst_20 : Ref sig .tc := ⟨.hbm, 113, rfl⟩
abbrev main_v77 : Ref sig .tc := ⟨.hbm, 114, rfl⟩
abbrev main_v78 : Ref sig .tc := ⟨.hbm, 115, rfl⟩
abbrev main_cst_21 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_22 : Ref sig .tc := ⟨.hbm, 127, rfl⟩
abbrev main_v89 : Ref sig .tc := ⟨.hbm, 128, rfl⟩
abbrev main_v90 : Ref sig .tc := ⟨.hbm, 129, rfl⟩
abbrev main_cst_23 : Ref sig .tc := ⟨.hbm, 130, rfl⟩
abbrev main_v91 : Ref sig .tc := ⟨.hbm, 131, rfl⟩
abbrev main_v92 : Ref sig .tc := ⟨.hbm, 132, rfl⟩
abbrev main_cst_24 : Ref sig .tc := ⟨.hbm, 133, rfl⟩
abbrev main_v93 : Ref sig .tc := ⟨.hbm, 134, rfl⟩
abbrev main_v94 : Ref sig .tc := ⟨.hbm, 135, rfl⟩
abbrev main_cst_25 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]
-- ==== Sums.lean ====
abbrev S8x64x128 : Shape := ⟨3, ![8, 64, 128]⟩
abbrev S8x8x1024 : Shape := ⟨3, ![8, 8, 1024]⟩
abbrev S64x128 : Shape := ⟨2, ![64, 128]⟩
abbrev S8x1024 : Shape := ⟨2, ![8, 1024]⟩
abbrev S8x128 : Shape := ⟨2, ![8, 128]⟩
abbrev S1x64x128 : Shape := ⟨3, ![1, 64, 128]⟩
abbrev S1x8x1024 : Shape := ⟨3, ![1, 8, 1024]⟩
abbrev S1x1024 : Shape := ⟨2, ![1, 1024]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x64x128, .f32⟩
  | .hbm, ⟨1, _⟩ => ⟨S8x8x1024, .f32⟩
  | .hbm, ⟨2, _⟩ => ⟨S64x128, .f32⟩
  | .hbm, ⟨3, _⟩ => ⟨S8x1024, .f32⟩
  | .hbm, ⟨4, _⟩ => ⟨S8x128, .f32⟩
  | .local _ .vmem, ⟨0, _⟩ => ⟨S8x64x128, .f32⟩
  | .local _ .vmem, ⟨1, _⟩ => ⟨S8x8x1024, .f32⟩
  | .local _ .vmem, ⟨2, _⟩ => ⟨S64x128, .f32⟩
  | .local _ .vmem, ⟨3, _⟩ => ⟨S8x1024, .f32⟩
  | .local _ .vmem, ⟨4, _⟩ => ⟨S8x128, .f32⟩
  | _, _ => ⟨S8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== SumsRefIdeal.lean ====
abbrev S8x64x128 : Shape := ⟨3, ![8, 64, 128]⟩
abbrev S8x8x1024 : Shape := ⟨3, ![8, 8, 1024]⟩
abbrev S_ : Shape := ⟨0, ![]⟩
abbrev S8x1024 : Shape := ⟨2, ![8, 1024]⟩
abbrev S64x128 : Shape := ⟨2, ![64, 128]⟩
abbrev S1x1024 : Shape := ⟨2, ![1, 1024]⟩
abbrev S1024 : Shape := ⟨1, ![1024]⟩
abbrev S8x128 : Shape := ⟨2, ![8, 128]⟩

abbrev nBuf : Space → Nat
  | .hbm => 11
  | .vmem => 0
  | .smem => 0
  | _ => 0

abbrev bufTy : (tb : Table) → Fin (tcTables nBuf tb) → BufTy
  | .hbm, ⟨0, _⟩ => ⟨S8x64x128, .f32⟩
  | .hbm, ⟨1, _⟩ => ⟨S8x8x1024, .f32⟩
  | .hbm, ⟨2, _⟩ => ⟨S_, .f32⟩
  | .hbm, ⟨3, _⟩ => ⟨S8x1024, .f32⟩
  | .hbm, ⟨4, _⟩ => ⟨S_, .f32⟩
  | .hbm, ⟨5, _⟩ => ⟨S64x128, .f32⟩
  | .hbm, ⟨6, _⟩ => ⟨S1x1024, .f32⟩
  | .hbm, ⟨7, _⟩ => ⟨S1024, .f32⟩
  | .hbm, ⟨8, _⟩ => ⟨S_, .f32⟩
  | .hbm, ⟨9, _⟩ => ⟨S_, .f32⟩
  | .hbm, ⟨10, _⟩ => ⟨S8x128, .f32⟩
  | _, _ => ⟨S8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== StepOut.lean ====
abbrev S1x128x1024 : Shape := ⟨3, ![1, 128, 1024]⟩
abbrev S4x512x1024 : Shape := ⟨3, ![4, 512, 1024]⟩
abbrev S4x128x1024 : Shape := ⟨3, ![4, 128, 1024]⟩
abbrev S_ : Shape := ⟨0, ![]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x512x1024, .bf16⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S4x128x1024, .bf16⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOutRefIdeal.lean ====
abbrev S1x128x1024 : Shape := ⟨3, ![1, 128, 1024]⟩
abbrev S4x512x1024 : Shape := ⟨3, ![4, 512, 1024]⟩
abbrev S4x128x1024 : Shape := ⟨3, ![4, 128, 1024]⟩
abbrev S_ : Shape := ⟨0, ![]⟩
abbrev S128x1024 : Shape := ⟨2, ![128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x512x1024, .bf16⟩
  | .hbm, ⟨4, _⟩ => ⟨S4x128x1024, .bf16⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S1x128x1024, .f32⟩
  | .hbm, ⟨9, _⟩ => ⟨S_, .f32⟩
  | .hbm, ⟨10, _⟩ => ⟨S1x128x1024, .f32⟩
  | .hbm, ⟨11, _⟩ => ⟨S1x128x1024, .f32⟩
  | .hbm, ⟨12, _⟩ => ⟨S_, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S1x128x1024, .f32⟩
  | .hbm, ⟨39, _⟩ => ⟨S_, .f32⟩
  | .hbm, ⟨40, _⟩ => ⟨S1x128x1024, .f32⟩
  | .hbm, ⟨41, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== StepIn.lean ====
abbrev S1x1024x384 : Shape := ⟨3, ![1, 1024, 384]⟩
abbrev S4x512x1024 : Shape := ⟨3, ![4, 512, 1024]⟩
abbrev S4x384x1024 : Shape := ⟨3, ![4, 384, 1024]⟩
abbrev S_ : Shape := ⟨0, ![]⟩
abbrev S1x384x1024 : Shape := ⟨3, ![1, 384, 1024]⟩
abbrev S384x1024 : Shape := ⟨2, ![384, 1024]⟩
abbrev S1024x384 : Shape := ⟨2, ![1024, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S4x512x1024, .bf16⟩
  | .hbm, ⟨4, _⟩ => ⟨S1x1024x384, .f32⟩
  | .hbm, ⟨5, _⟩ => ⟨S1x1024x384, .f32⟩
  | .hbm, ⟨6, _⟩ => ⟨S1x1024x384, .f32⟩
  | .hbm, ⟨7, _⟩ => ⟨S1x1024x384, .f32⟩
  | .local _ .vmem, ⟨0, _⟩ => ⟨S1x1024x384, .f32⟩
  | .local _ .vmem, ⟨1, _⟩ => ⟨S1x1024x384, .f32⟩
  | .local _ .vmem, ⟨2, _⟩ => ⟨S1x1024x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S4x384x1024, .bf16⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepInRefIdeal.lean ====
abbrev S1x1024x384 : Shape := ⟨3, ![1, 1024, 384]⟩
abbrev S4x512x1024 : Shape := ⟨3, ![4, 512, 1024]⟩
abbrev S4x384x1024 : Shape := ⟨3, ![4, 384, 1024]⟩
abbrev S_ : Shape := ⟨0, ![]⟩
abbrev S384x1024 : Shape := ⟨2, ![384, 1024]⟩
abbrev S1024x384 : Shape := ⟨2, ![1024, 384]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S4x512x1024, .bf16⟩
  | .hbm, ⟨4, _⟩ => ⟨S4x384x1024, .bf16⟩
  | .hbm, ⟨5, _⟩ => ⟨S4x384x1024, .f32⟩
  | .hbm, ⟨6, _⟩ => ⟨S_, .f32⟩
  | .hbm, ⟨7, _⟩ => ⟨S384x1024, .f32⟩
  | .hbm, ⟨8, _⟩ => ⟨S1024x384, .f32⟩
  | .hbm, ⟨9, _⟩ => ⟨S1x1024x384, .f32⟩
  | .hbm, ⟨10, _⟩ => ⟨S_, .f32⟩
  | .hbm, ⟨11, _⟩ => ⟨S1x1024x384, .f32⟩
  | .hbm, ⟨12, _⟩ => ⟨S1x1024x384, .f32⟩
  | .hbm, ⟨13, _⟩ => ⟨S_, .f32⟩
  | .hbm, ⟨14, _⟩ => ⟨S1x1024x384, .f32⟩
  | .hbm, ⟨15, _⟩ => ⟨S1x1024x384, .f32⟩
  | .hbm, ⟨16, _⟩ => ⟨S1x1024x384, .f32⟩
  | .hbm, ⟨17, _⟩ => ⟨S_, .f32⟩
  | .hbm, ⟨18, _⟩ => ⟨S1x1024x384, .f32⟩
  | .hbm, ⟨19, _⟩ => ⟨S1x1024x384, .f32⟩
  | .hbm, ⟨20, _⟩ => ⟨S1x1024x384, .f32⟩
  | .hbm, ⟨21, _⟩ => ⟨S_, .f32⟩
  | .hbm, ⟨22, _⟩ => ⟨S1x1024x384, .f32⟩
  | .hbm, ⟨23, _⟩ => ⟨S1x1024x384, .f32⟩
  | .hbm, ⟨24, _⟩ => ⟨S1x1024x384, .f32⟩
  | .hbm, ⟨25, _⟩ => ⟨S_, .f32⟩
  | .hbm, ⟨26, _⟩ => ⟨S1x1024x384, .f32⟩
  | .hbm, ⟨27, _⟩ => ⟨S1x1024x384, .f32⟩
  | .hbm, ⟨28, _⟩ => ⟨S_, .f32⟩
  | .hbm, ⟨29, _⟩ => ⟨S1x1024x384, .f32⟩
  | .hbm, ⟨30, _⟩ => ⟨S1x1024x384, .f32⟩
  | .hbm, ⟨31, _⟩ => ⟨S1x1024x384, .f32⟩
  | .hbm, ⟨32, _⟩ => ⟨S_, .f32⟩
  | .hbm, ⟨33, _⟩ => ⟨S1x1024x384, .f32⟩
  | .hbm, ⟨34, _⟩ => ⟨S1x1024x384, .f32⟩
  | .hbm, ⟨35, _⟩ => ⟨S1x1024x384, .f32⟩
  | .hbm, ⟨36, _⟩ => ⟨S_, .f32⟩
  | .hbm, ⟨37, _⟩ => ⟨S1x1024x384, .f32⟩
  | .hbm, ⟨38, _⟩ => ⟨S1x1024x384, .f32⟩
  | .hbm, ⟨39, _⟩ => ⟨S1x1024x384, .f32⟩
  | .hbm, ⟨40, _⟩ => ⟨S_, .f32⟩
  | .hbm, ⟨41, _⟩ => ⟨S1x1024x384, .f32⟩
  | .hbm, ⟨42, _⟩ => ⟨S1x1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== StepPw1.lean ====
abbrev S1x1024x256 : Shape := ⟨3, ![1, 1024, 256]⟩
abbrev S4x3008x1024 : Shape := ⟨3, ![4, 3008, 1024]⟩
abbrev S_ : Shape := ⟨0, ![]⟩
abbrev S8x128 : Shape := ⟨2, ![8, 128]⟩
abbrev S4x256x1024 : Shape := ⟨3, ![4, 256, 1024]⟩
abbrev S1x256x1024 : Shape := ⟨3, ![1, 256, 1024]⟩
abbrev S256x1024 : Shape := ⟨2, ![256, 1024]⟩
abbrev S1024x256 : Shape := ⟨2, ![1024, 256]⟩

abbrev nBuf : Space → Nat
  | .hbm => 10
  | .vmem => 8
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S4x3008x1024, .bf16⟩
  | .hbm, ⟨4, _⟩ => ⟨S_, .f32⟩
  | .hbm, ⟨5, _⟩ => ⟨S8x128, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .hbm, ⟨9, _⟩ => ⟨S1x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S4x256x1024, .bf16⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepPw1RefIdeal.lean ====
abbrev S1x1024x256 : Shape := ⟨3, ![1, 1024, 256]⟩
abbrev S4x3008x1024 : Shape := ⟨3, ![4, 3008, 1024]⟩
abbrev S4x256x1024 : Shape := ⟨3, ![4, 256, 1024]⟩
abbrev S_ : Shape := ⟨0, ![]⟩
abbrev S256x1024 : Shape := ⟨2, ![256, 1024]⟩
abbrev S1024x256 : Shape := ⟨2, ![1024, 256]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S4x3008x1024, .bf16⟩
  | .hbm, ⟨4, _⟩ => ⟨S4x256x1024, .bf16⟩
  | .hbm, ⟨5, _⟩ => ⟨S4x256x1024, .f32⟩
  | .hbm, ⟨6, _⟩ => ⟨S_, .f32⟩
  | .hbm, ⟨7, _⟩ => ⟨S256x1024, .f32⟩
  | .hbm, ⟨8, _⟩ => ⟨S1024x256, .f32⟩
  | .hbm, ⟨9, _⟩ => ⟨S1x1024x256, .f32⟩
  | .hbm, ⟨10, _⟩ => ⟨S_, .f32⟩
  | .hbm, ⟨11, _⟩ => ⟨S1x1024x256, .f32⟩
  | .hbm, ⟨12, _⟩ => ⟨S1x1024x256, .f32⟩
  | .hbm, ⟨13, _⟩ => ⟨S_, .f32⟩
  | .hbm, ⟨14, _⟩ => ⟨S1x1024x256, .f32⟩
  | .hbm, ⟨15, _⟩ => ⟨S1x1024x256, .f32⟩
  | .hbm, ⟨16, _⟩ => ⟨S1x1024x256, .f32⟩
  | .hbm, ⟨17, _⟩ => ⟨S_, .f32⟩
  | .hbm, ⟨18, _⟩ => ⟨S1x1024x256, .f32⟩
  | .hbm, ⟨19, _⟩ => ⟨S1x1024x256, .f32⟩
  | .hbm, ⟨20, _⟩ => ⟨S1x1024x256, .f32⟩
  | .hbm, ⟨21, _⟩ => ⟨S_, .f32⟩
  | .hbm, ⟨22, _⟩ => ⟨S1x1024x256, .f32⟩
  | .hbm, ⟨23, _⟩ => ⟨S1x1024x256, .f32⟩
  | .hbm, ⟨24, _⟩ => ⟨S1x1024x256, .f32⟩
  | .hbm, ⟨25, _⟩ => ⟨S_, .f32⟩
  | .hbm, ⟨26, _⟩ => ⟨S1x1024x256, .f32⟩
  | .hbm, ⟨27, _⟩ => ⟨S1x1024x256, .f32⟩
  | .hbm, ⟨28, _⟩ => ⟨S_, .f32⟩
  | .hbm, ⟨29, _⟩ => ⟨S1x1024x256, .f32⟩
  | .hbm, ⟨30, _⟩ => ⟨S1x1024x256, .f32⟩
  | .hbm, ⟨31, _⟩ => ⟨S1x1024x256, .f32⟩
  | .hbm, ⟨32, _⟩ => ⟨S_, .f32⟩
  | .hbm, ⟨33, _⟩ => ⟨S1x1024x256, .f32⟩
  | .hbm, ⟨34, _⟩ => ⟨S1x1024x256, .f32⟩
  | .hbm, ⟨35, _⟩ => ⟨S1x1024x256, .f32⟩
  | .hbm, ⟨36, _⟩ => ⟨S_, .f32⟩
  | .hbm, ⟨37, _⟩ => ⟨S1x1024x256, .f32⟩
  | .hbm, ⟨38, _⟩ => ⟨S1x1024x256, .f32⟩
  | .hbm, ⟨39, _⟩ => ⟨S1x1024x256, .f32⟩
  | .hbm, ⟨40, _⟩ => ⟨S_, .f32⟩
  | .hbm, ⟨41, _⟩ => ⟨S1x1024x256, .f32⟩
  | .hbm, ⟨42, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== StepPw2.lean ====
abbrev S1x128x1024 : Shape := ⟨3, ![1, 128, 1024]⟩
abbrev S4x3008x1024 : Shape := ⟨3, ![4, 3008, 1024]⟩
abbrev S_ : Shape := ⟨0, ![]⟩
abbrev S8x128 : Shape := ⟨2, ![8, 128]⟩
abbrev S4x128x1024 : Shape := ⟨3, ![4, 128, 1024]⟩
abbrev S128x1024 : Shape := ⟨2, ![128, 1024]⟩

abbrev nBuf : Space → Nat
  | .hbm => 10
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x3008x1024, .bf16⟩
  | .hbm, ⟨4, _⟩ => ⟨S_, .f32⟩
  | .hbm, ⟨5, _⟩ => ⟨S8x128, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S4x128x1024, .bf16⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepPw2RefIdeal.lean ====
abbrev S1x128x1024 : Shape := ⟨3, ![1, 128, 1024]⟩
abbrev S4x3008x1024 : Shape := ⟨3, ![4, 3008, 1024]⟩
abbrev S4x128x1024 : Shape := ⟨3, ![4, 128, 1024]⟩
abbrev S_ : Shape := ⟨0, ![]⟩
abbrev S128x1024 : Shape := ⟨2, ![128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x3008x1024, .bf16⟩
  | .hbm, ⟨4, _⟩ => ⟨S4x128x1024, .bf16⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S1x128x1024, .f32⟩
  | .hbm, ⟨9, _⟩ => ⟨S_, .f32⟩
  | .hbm, ⟨10, _⟩ => ⟨S1x128x1024, .f32⟩
  | .hbm, ⟨11, _⟩ => ⟨S1x128x1024, .f32⟩
  | .hbm, ⟨12, _⟩ => ⟨S_, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S1x128x1024, .f32⟩
  | .hbm, ⟨39, _⟩ => ⟨S_, .f32⟩
  | .hbm, ⟨40, _⟩ => ⟨S1x128x1024, .f32⟩
  | .hbm, ⟨41, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== StepDown.lean ====
abbrev S2x352x1024 : Shape := ⟨3, ![2, 352, 1024]⟩
abbrev S4x3008x1024 : Shape := ⟨3, ![4, 3008, 1024]⟩
abbrev S_ : Shape := ⟨0, ![]⟩
abbrev S8x128 : Shape := ⟨2, ![8, 128]⟩
abbrev S1x352x1024 : Shape := ⟨3, ![1, 352, 1024]⟩
abbrev S4x352x1024 : Shape := ⟨3, ![4, 352, 1024]⟩
abbrev S352x1024 : Shape := ⟨2, ![352, 1024]⟩

abbrev nBuf : Space → Nat
  | .hbm => 11
  | .vmem => 15
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S4x3008x1024, .bf16⟩
  | .hbm, ⟨4, _⟩ => ⟨S4x3008x1024, .bf16⟩
  | .hbm, ⟨5, _⟩ => ⟨S_, .f32⟩
  | .hbm, ⟨6, _⟩ => ⟨S8x128, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S4x352x1024, .bf16⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepDownRefIdeal.lean ====
abbrev S2x352x1024 : Shape := ⟨3, ![2, 352, 1024]⟩
abbrev S4x3008x1024 : Shape := ⟨3, ![4, 3008, 1024]⟩
abbrev S4x352x1024 : Shape := ⟨3, ![4, 352, 1024]⟩
abbrev S1x4x352x1024 : Shape := ⟨4, ![1, 4, 352, 1024]⟩
abbrev S2x4x352x1024 : Shape := ⟨4, ![2, 4, 352, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S4x3008x1024, .bf16⟩
  | .hbm, ⟨4, _⟩ => ⟨S4x3008x1024, .bf16⟩
  | .hbm, ⟨5, _⟩ => ⟨S4x352x1024, .bf16⟩
  | .hbm, ⟨6, _⟩ => ⟨S4x352x1024, .bf16⟩
  | .hbm, ⟨7, _⟩ => ⟨S1x4x352x1024, .bf16⟩
  | .hbm, ⟨8, _⟩ => ⟨S1x4x352x1024, .bf16⟩
  | .hbm, ⟨9, _⟩ => ⟨S2x4x352x1024, .bf16⟩
  | .hbm, ⟨10, _⟩ => ⟨S2x4x352x1024, .f32⟩
  | .hbm, ⟨11, _⟩ => ⟨S_, .f32⟩
  | .hbm, ⟨12, _⟩ => ⟨S2x352x1024, .f32⟩
  | .hbm, ⟨13, _⟩ => ⟨S_, .f32⟩
  | .hbm, ⟨14, _⟩ => ⟨S2x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S2x352x1024, .f32⟩
  | .hbm, ⟨20, _⟩ => ⟨S_, .f32⟩
  | .hbm, ⟨21, _⟩ => ⟨S2x352x1024, .f32⟩
  | .hbm, ⟨22, _⟩ => ⟨S2x352x1024, .f32⟩
  | .hbm, ⟨23, _⟩ => ⟨S2x352x1024, .f32⟩
  | .hbm, ⟨24, _⟩ => ⟨S_, .f32⟩
  | .hbm, ⟨25, _⟩ => ⟨S2x352x1024, .f32⟩
  | .hbm, ⟨26, _⟩ => ⟨S2x352x1024, .f32⟩
  | .hbm, ⟨27, _⟩ => ⟨S2x352x1024, .f32⟩
  | .hbm, ⟨28, _⟩ => ⟨S_, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S2x352x1024, .f32⟩
  | .hbm, ⟨35, _⟩ => ⟨S_, .f32⟩
  | .hbm, ⟨36, _⟩ => ⟨S2x352x1024, .f32⟩
  | .hbm, ⟨37, _⟩ => ⟨S2x352x1024, .f32⟩
  | .hbm, ⟨38, _⟩ => ⟨S2x352x1024, .f32⟩
  | .hbm, ⟨39, _⟩ => ⟨S_, .f32⟩
  | .hbm, ⟨40, _⟩ => ⟨S2x352x1024, .f32⟩
  | .hbm, ⟨41, _⟩ => ⟨S2x352x1024, .f32⟩
  | .hbm, ⟨42, _⟩ => ⟨S2x352x1024, .f32⟩
  | .hbm, ⟨43, _⟩ => ⟨S_, .f32⟩
  | .hbm, ⟨44, _⟩ => ⟨S2x352x1024, .f32⟩
  | .hbm, ⟨45, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== StepGate.lean ====
abbrev S2x1024x352 : Shape := ⟨3, ![2, 1024, 352]⟩
abbrev S4x704x1024 : Shape := ⟨3, ![4, 704, 1024]⟩
abbrev S4x3008x1024 : Shape := ⟨3, ![4, 3008, 1024]⟩
abbrev S_ : Shape := ⟨0, ![]⟩
abbrev S8x128 : Shape := ⟨2, ![8, 128]⟩
abbrev S2x352x1024 : Shape := ⟨3, ![2, 352, 1024]⟩
abbrev S1x352x1024 : Shape := ⟨3, ![1, 352, 1024]⟩
abbrev S4x352x1024 : Shape := ⟨3, ![4, 352, 1024]⟩
abbrev S352x1024 : Shape := ⟨2, ![352, 1024]⟩

abbrev nBuf : Space → Nat
  | .hbm => 14
  | .vmem => 15
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S4x704x1024, .bf16⟩
  | .hbm, ⟨4, _⟩ => ⟨S4x3008x1024, .bf16⟩
  | .hbm, ⟨5, _⟩ => ⟨S_, .f32⟩
  | .hbm, ⟨6, _⟩ => ⟨S8x128, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S4x352x1024, .bf16⟩
  | _, _ => ⟨S2x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepGateRefIdeal.lean ====
abbrev S2x1024x352 : Shape := ⟨3, ![2, 1024, 352]⟩
abbrev S4x704x1024 : Shape := ⟨3, ![4, 704, 1024]⟩
abbrev S4x3008x1024 : Shape := ⟨3, ![4, 3008, 1024]⟩
abbrev S4x352x1024 : Shape := ⟨3, ![4, 352, 1024]⟩
abbrev S1x4x352x1024 : Shape := ⟨4, ![1, 4, 352, 1024]⟩
abbrev S2x4x352x1024 : Shape := ⟨4, ![2, 4, 352, 1024]⟩
abbrev S_ : Shape := ⟨0, ![]⟩
abbrev S2x352x1024 : Shape := ⟨3, ![2, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S4x704x1024, .bf16⟩
  | .hbm, ⟨4, _⟩ => ⟨S4x3008x1024, .bf16⟩
  | .hbm, ⟨5, _⟩ => ⟨S4x352x1024, .bf16⟩
  | .hbm, ⟨6, _⟩ => ⟨S4x352x1024, .bf16⟩
  | .hbm, ⟨7, _⟩ => ⟨S1x4x352x1024, .bf16⟩
  | .hbm, ⟨8, _⟩ => ⟨S1x4x352x1024, .bf16⟩
  | .hbm, ⟨9, _⟩ => ⟨S2x4x352x1024, .bf16⟩
  | .hbm, ⟨10, _⟩ => ⟨S2x4x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | _, _ => ⟨S2x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== StepUp.lean ====
abbrev S2x1024x352 : Shape := ⟨3, ![2, 1024, 352]⟩
abbrev S4x704x1024 : Shape := ⟨3, ![4, 704, 1024]⟩
abbrev S4x3008x1024 : Shape := ⟨3, ![4, 3008, 1024]⟩
abbrev S_ : Shape := ⟨0, ![]⟩
abbrev S8x128 : Shape := ⟨2, ![8, 128]⟩
abbrev S2x352x1024 : Shape := ⟨3, ![2, 352, 1024]⟩
abbrev S1x352x1024 : Shape := ⟨3, ![1, 352, 1024]⟩
abbrev S4x352x1024 : Shape := ⟨3, ![4, 352, 1024]⟩
abbrev S352x1024 : Shape := ⟨2, ![352, 1024]⟩

abbrev nBuf : Space → Nat
  | .hbm => 14
  | .vmem => 15
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S4x704x1024, .bf16⟩
  | .hbm, ⟨4, _⟩ => ⟨S4x3008x1024, .bf16⟩
  | .hbm, ⟨5, _⟩ => ⟨S_, .f32⟩
  | .hbm, ⟨6, _⟩ => ⟨S8x128, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S4x352x1024, .bf16⟩
  | _, _ => ⟨S2x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepUpRefIdeal.lean ====
abbrev S2x1024x352 : Shape := ⟨3, ![2, 1024, 352]⟩
abbrev S4x704x1024 : Shape := ⟨3, ![4, 704, 1024]⟩
abbrev S4x3008x1024 : Shape := ⟨3, ![4, 3008, 1024]⟩
abbrev S4x352x1024 : Shape := ⟨3, ![4, 352, 1024]⟩
abbrev S1x4x352x1024 : Shape := ⟨4, ![1, 4, 352, 1024]⟩
abbrev S2x4x352x1024 : Shape := ⟨4, ![2, 4, 352, 1024]⟩
abbrev S_ : Shape := ⟨0, ![]⟩
abbrev S2x352x1024 : Shape := ⟨3, ![2, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S4x704x1024, .bf16⟩
  | .hbm, ⟨4, _⟩ => ⟨S4x3008x1024, .bf16⟩
  | .hbm, ⟨5, _⟩ => ⟨S4x352x1024, .bf16⟩
  | .hbm, ⟨6, _⟩ => ⟨S4x352x1024, .bf16⟩
  | .hbm, ⟨7, _⟩ => ⟨S1x4x352x1024, .bf16⟩
  | .hbm, ⟨8, _⟩ => ⟨S1x4x352x1024, .bf16⟩
  | .hbm, ⟨9, _⟩ => ⟨S2x4x352x1024, .bf16⟩
  | .hbm, ⟨10, _⟩ => ⟨S2x4x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | _, _ => ⟨S2x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Proof.Step.lean ====
module

public import proofs.«01_k».proof.Proof.Gen.KernelIdeal.Skeleton
public import Idealize.ShloMosaic.Lib.VecWindow

@[expose] public section

noncomputable section

/-! # One grid point of the mixer's backward pass, as functions of vectors

The kernel walks the sixteen row tiles of the sequence from the last to the first. What one point
reads is a `Tile`; what the points hand on to one another is a `Carry`. The functions below say what
a point makes of the two, over the values its stores write (`k0_payN`), and in any float format. -/

namespace Cert.KernelIdeal.Mixer

open Idealize.ShloMosaic Cert.KernelIdeal.Gen VecWindow

variable (F : FTy → Type) [FloatOps F]

/-- The blocks one grid point reads: 256 rows of the incoming gradient, of the layer's input and of
the arrays saved in the forward pass, and the two parameter rows the whole launch shares. -/
structure Tile where
  dh : Vec F S256x1024 .f32
  x : Vec F S256x1024 .f32
  b : Vec F S256x1024 .bf16
  cgate : Vec F S256x1024 .bf16
  v : Vec F S256x1024 .bf16
  conv : Vec F S256x1024 .bf16
  y : Vec F S256x1024 .bf16
  gamma : Vec F S1x1024 .f32
  taps : Vec F S3x1024 .f32

/-- What is kept from one grid point to the next: the two gathered weights, the convolution's line
with its halo below, the four running row sums, and the two running weight gradients. -/
structure Carry where
  win : Vec F S3072x1024 .bf16
  wout : Vec F S1024x1024 .bf16
  line : Vec F S264x1024 .f32
  sums : Vec F S8x1024 .f32
  gin : Vec F S3072x1024 .f32
  gout : Vec F S1024x1024 .f32

variable {F}

/-- The gradient at the mixer's output projection's input. -/
def gy (s : Carry F) (t : Tile F) : Vec F S256x1024 .f32 := k0_pay13 t.dh s.wout

/-- The gradient of the first third of the input projection. -/
def gb (s : Carry F) (t : Tile F) : Vec F S256x1024 .bf16 := k0_pay16 (gy s t) t.conv

/-- The convolution's line once the tile's own 256 rows are in it: the halo of the tile after this
one stays below them. -/
def lineIn (s : Carry F) (t : Tile F) : Vec F S264x1024 .f32 :=
  put s.line ![0, 0] ![256, 1024] (k0_pay17 (gy s t) t.b)

/-- The line's 256 rows from row `j` on: the tile's gradient shifted by `j` positions of the sequence. -/
def ahead0 (s : Carry F) (t : Tile F) : Vec F S256x1024 .f32 := window (lineIn s t) ![0, 0] ![256, 1024] inb_S264x1024_S256x1024_0_0
/-- As `ahead0`, one position on. -/
def ahead1 (s : Carry F) (t : Tile F) : Vec F S256x1024 .f32 := window (lineIn s t) ![1, 0] ![256, 1024] inb_S264x1024_S256x1024_1_0
/-- As `ahead0`, two positions on. -/
def ahead2 (s : Carry F) (t : Tile F) : Vec F S256x1024 .f32 := window (lineIn s t) ![2, 0] ![256, 1024] inb_S264x1024_S256x1024_2_0

/-- The convolution's three taps, one row each. -/
def tap0 (t : Tile F) : Vec F S1x1024 .f32 := window t.taps ![0, 0] ![1, 1024] inb_S3x1024_S1x1024_0_0
/-- The second tap. -/
def tap1 (t : Tile F) : Vec F S1x1024 .f32 := window t.taps ![1, 0] ![1, 1024] inb_S3x1024_S1x1024_1_0
/-- The third tap. -/
def tap2 (t : Tile F) : Vec F S1x1024 .f32 := window t.taps ![2, 0] ![1, 1024] inb_S3x1024_S1x1024_2_0

/-- The first two summands of the gradient that reaches the convolution's input. -/
def gcv2 (s : Carry F) (t : Tile F) : Vec F S256x1024 .f32 := k0_pay20 (ahead0 s t) (tap2 t) (ahead1 s t) (tap1 t)

/-- The gradient of the second third of the input projection. -/
def gc (s : Carry F) (t : Tile F) : Vec F S256x1024 .bf16 := k0_pay25 (k0_pay15 t.v) (gcv2 s t) (ahead2 s t) (tap0 t)

/-- The gradient of the last third of the input projection. -/
def gv (s : Carry F) (t : Tile F) : Vec F S256x1024 .bf16 := k0_pay26 (k0_pay14 t.cgate) (gcv2 s t) (ahead2 s t) (tap0 t)

/-- The first third's contribution to the gradient at the normalised input. -/
def gn1 (s : Carry F) (t : Tile F) : Vec F S256x1024 .f32 :=
  k0_pay34 (gb s t) (window s.win ![0, 0] ![1024, 1024] inb_S3072x1024_S1024x1024_0_0)

/-- The tile of the gradient at the layer's input. -/
def dx (s : Carry F) (t : Tile F) : Vec F S256x1024 .f32 :=
  k0_pay2 t.dh (gc s t) (gv s t) t.x (k0_pay27 t.x) t.gamma (gn1 s t)
    (window s.win ![1024, 0] ![1024, 1024] inb_S3072x1024_S1024x1024_1024_0)
    (window s.win ![2048, 0] ![1024, 1024] inb_S3072x1024_S1024x1024_2048_0)

/-- The halo row block handed to the tile before this one. -/
def nextLine (s : Carry F) (t : Tile F) : Vec F S264x1024 .f32 :=
  put (lineIn s t) ![256, 0] ![8, 1024] (k0_pay24 (window (lineIn s t) ![0, 0] ![8, 1024] inb_S264x1024_S8x1024_0_0))

/-- The row sums after the third tap's. -/
def sums3 (s : Carry F) (t : Tile F) : Vec F S8x1024 .f32 :=
  put s.sums ![3, 0] ![1, 1024] (k0_pay19 (k0_pay14 t.cgate) (k0_pay15 t.v) (ahead0 s t) (window s.sums ![3, 0] ![1, 1024] inb_S8x1024_S1x1024_3_0))

/-- The row sums after the second tap's. -/
def sums2 (s : Carry F) (t : Tile F) : Vec F S8x1024 .f32 :=
  put (sums3 s t) ![2, 0] ![1, 1024] (k0_pay21 (k0_pay14 t.cgate) (k0_pay15 t.v) (ahead1 s t) (window s.sums ![2, 0] ![1, 1024] inb_S8x1024_S1x1024_2_0))

/-- The row sums after the first tap's. -/
def sums1 (s : Carry F) (t : Tile F) : Vec F S8x1024 .f32 :=
  put (sums2 s t) ![1, 0] ![1, 1024] (k0_pay23 (k0_pay18 (k0_pay14 t.cgate) (k0_pay15 t.v)) (ahead2 s t) (window s.sums ![1, 0] ![1, 1024] inb_S8x1024_S1x1024_1_0))

/-- The four running row sums after the point. -/
def nextSums (s : Carry F) (t : Tile F) : Vec F S8x1024 .f32 :=
  put (sums1 s t) ![0, 0] ![1, 1024]
    (k0_pay3 (gc s t) (gv s t) t.x (k0_pay27 t.x) (gn1 s t)
      (window s.win ![1024, 0] ![1024, 1024] inb_S3072x1024_S1024x1024_1024_0)
      (window s.win ![2048, 0] ![1024, 1024] inb_S3072x1024_S1024x1024_2048_0)
      (window s.sums ![0, 0] ![1, 1024] inb_S8x1024_S1x1024_0_0))

/-- The running gradient of the input projection after the point, its three thirds one by one. -/
def nextGin (s : Carry F) (t : Tile F) : Vec F S3072x1024 .f32 :=
  put (put (put s.gin ![0, 0] ![1024, 1024] (k0_pay30 (gb s t) (k0_pay28 t.x t.gamma) (window s.gin ![0, 0] ![1024, 1024] inb_S3072x1024_S1024x1024_0_0)))
      ![1024, 0] ![1024, 1024] (k0_pay31 (gc s t) (k0_pay28 t.x t.gamma) (window s.gin ![1024, 0] ![1024, 1024] inb_S3072x1024_S1024x1024_1024_0)))
    ![2048, 0] ![1024, 1024] (k0_pay32 (gv s t) (k0_pay28 t.x t.gamma) (window s.gin ![2048, 0] ![1024, 1024] inb_S3072x1024_S1024x1024_2048_0))

/-- The running gradient of the output projection after the point. -/
def nextGout (s : Carry F) (t : Tile F) : Vec F S1024x1024 .f32 := k0_pay33 (k0_pay12 t.dh) s.gout t.y

/-- What a point leaves for the next. -/
def next (s : Carry F) (t : Tile F) : Carry F where
  win := s.win
  wout := s.wout
  line := nextLine s t
  sums := nextSums s t
  gin := nextGin s t
  gout := nextGout s t

/-- What the first point starts from: the two weights gathered from the eight devices' packed shares
(of each share rows 0 to 383 are its part of the input projection, rows 384 to 511 of the output
projection), and zeros. -/
def start (w : Vec F S8x3008x1024 .bf16) : Carry F where
  win := fun i => w (fun a => match a with
    | 0 => ⟨(i 0).val / 384, by have := (i 0).isLt; show _ < 8; change (i 0).val < 3072 at this; omega⟩
    | 1 => ⟨(i 0).val % 384, by show _ < 3008; omega⟩
    | 2 => ⟨(i 1).val, (i 1).isLt⟩)
  wout := fun i => w (fun a => match a with
    | 0 => ⟨(i 0).val / 128, by have := (i 0).isLt; show _ < 8; change (i 0).val < 1024 at this; omega⟩
    | 1 => ⟨384 + (i 0).val % 128, by show _ < 3008; omega⟩
    | 2 => ⟨(i 1).val, (i 1).isLt⟩)
  line := fun _ => Scalar.ofBits .f32 0x00000000#32
  sums := k0_pay9
  gin := k0_pay10
  gout := k0_pay11

/-- The input projection's gradient as the last point stores it. -/
def ginOut (s : Carry F) : Vec F S3072x1024 .bf16 := fun i => truncf .bf16 s.gin bitsLt_bf16_f32 i

/-- The output projection's gradient as the last point stores it. -/
def goutOut (s : Carry F) : Vec F S1024x1024 .bf16 := k0_pay4 s.gout

end Cert.KernelIdeal.Mixer

end
-- ==== Proof.Hold.lean ====
module

public import proofs.«01_k».proof.Proof.Gen.KernelIdeal.Frame.Runs
public import proofs.«01_k».proof.Proof.Step

@[expose] public section

noncomputable section

/-! # What one run of the body holds -/

namespace Cert.KernelIdeal.Mixer

open Idealize.ShloMosaic Idealize.ShloMosaic.TcCoe
open Idealize.SL Idealize.SL.RA Idealize.SL.BI Idealize.SL.BI.BIBase
open scoped Idealize.SL.BI
open Cert.KernelIdeal.Gen

variable {F : FTy → Type} [FloatOps F]

local notation "𝕄" => MT nD τ sig Unit (Elt F) ℕ (Pipeline.UD sig nD τ) ℕ

/-- The nine input blocks of a grid point, in their staging buffers. -/
def tileHeld (c : Dev nD) (arg1 arg2 : Memref sig .tc .vmem S256x1024 .f32) (arg3 arg4 arg5 arg6 arg7 : Memref sig .tc .vmem S256x1024 .bf16)
    (arg8 : Memref sig .tc .vmem S1x1024 .f32) (arg9 : Memref sig .tc .vmem S3x1024 .f32) (t : Tile F) : sProp 𝕄 :=
  iprop(owns (c : Thread nD τ) arg1 fullShare t.dh ∗ owns (c : Thread nD τ) arg2 fullShare t.x ∗ owns (c : Thread nD τ) arg3 fullShare t.b
    ∗ owns (c : Thread nD τ) arg4 fullShare t.cgate ∗ owns (c : Thread nD τ) arg5 fullShare t.v ∗ owns (c : Thread nD τ) arg6 fullShare t.conv
    ∗ owns (c : Thread nD τ) arg7 fullShare t.y ∗ owns (c : Thread nD τ) arg8 fullShare t.gamma ∗ owns (c : Thread nD τ) arg9 fullShare t.taps)

/-- The buffers kept from point to point, at `s`. -/
def carryHeld (c : Dev nD) (arg13 : Memref sig .tc .vmem S8x1024 .f32) (arg16 : Memref sig .tc .vmem S3072x1024 .bf16)
    (arg17 : Memref sig .tc .vmem S1024x1024 .bf16) (arg18 : Memref sig .tc .vmem S264x1024 .f32) (arg19 : Memref sig .tc .vmem S3072x1024 .f32)
    (arg20 : Memref sig .tc .vmem S1024x1024 .f32) (s : Carry F) : sProp 𝕄 :=
  iprop(owns (c : Thread nD τ) arg13 fullShare s.sums ∗ owns (c : Thread nD τ) arg16 fullShare s.win ∗ owns (c : Thread nD τ) arg17 fullShare s.wout
    ∗ owns (c : Thread nD τ) arg18 fullShare s.line ∗ owns (c : Thread nD τ) arg19 fullShare s.gin ∗ owns (c : Thread nD τ) arg20 fullShare s.gout)

/-- The sixteen counters of the copies that gather the weights, at rest. -/
def inCells (c : Dev nD) : sProp 𝕄 :=
  iprop(semVal ((c : Thread nD τ), SemLoc.dma 19) 0 ∗ semVal ((c : Thread nD τ), SemLoc.dma 20) 0 ∗ semVal ((c : Thread nD τ), SemLoc.dma 21) 0
    ∗ semVal ((c : Thread nD τ), SemLoc.dma 22) 0 ∗ semVal ((c : Thread nD τ), SemLoc.dma 23) 0 ∗ semVal ((c : Thread nD τ), SemLoc.dma 24) 0
    ∗ semVal ((c : Thread nD τ), SemLoc.dma 25) 0 ∗ semVal ((c : Thread nD τ), SemLoc.dma 26) 0 ∗ semVal ((c : Thread nD τ), SemLoc.dma 27) 0
    ∗ semVal ((c : Thread nD τ), SemLoc.dma 28) 0 ∗ semVal ((c : Thread nD τ), SemLoc.dma 29) 0 ∗ semVal ((c : Thread nD τ), SemLoc.dma 30) 0
    ∗ semVal ((c : Thread nD τ), SemLoc.dma 31) 0 ∗ semVal ((c : Thread nD τ), SemLoc.dma 32) 0 ∗ semVal ((c : Thread nD τ), SemLoc.dma 33) 0
    ∗ semVal ((c : Thread nD τ), SemLoc.dma 34) 0)

/-- The four counters of the copies that write the weight gradients out, at rest. -/
def outCells (c : Dev nD) : sProp 𝕄 :=
  iprop(semVal ((c : Thread nD τ), SemLoc.dma 35) 0 ∗ semVal ((c : Thread nD τ), SemLoc.dma 36) 0 ∗ semVal ((c : Thread nD τ), SemLoc.dma 37) 0
    ∗ semVal ((c : Thread nD τ), SemLoc.dma 38) 0)

end Cert.KernelIdeal.Mixer

end
-- ==== Proof.RunFirst.lean ====
module

public import proofs.«01_k».proof.Proof.Hold

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S1x1024 .f32) (harg8 : arg8.IsWhole)
  (arg9 : Memref sig .tc .vmem S3x1024 .f32) (harg9 : arg9.IsWhole) (arg12 : Memref sig .tc .vmem S256x1024 .f32) (harg12 : arg12.IsWhole)
  (arg13 : Memref sig .tc .vmem S8x1024 .f32) (harg13 : arg13.IsWhole) (arg16 : Memref sig .tc .vmem S3072x1024 .bf16) (harg16 : arg16.IsWhole)
  (arg17 : Memref sig .tc .vmem S1024x1024 .bf16) (harg17 : arg17.IsWhole) (arg18 : Memref sig .tc .vmem S264x1024 .f32) (harg18 : arg18.IsWhole)
  (arg19 : Memref sig .tc .vmem S3072x1024 .f32) (harg19 : arg19.IsWhole) (arg20 : Memref sig .tc .vmem S1024x1024 .f32) (harg20 : arg20.IsWhole)
  (arg21 : Memref sig .tc .vmem S1024x1024 .bf16) (harg21 : arg21.IsWhole)

set_option maxHeartbeats 40000000 in
set_option sl_exec.dmaWindow true in
set_option sl_exec.dmaWindowSet true in
set_option sl_exec.rejoinFuel 64 in
set_option sl_exec.rejoinHeartbeats 2000000 in
/-- The first point: what its sixteen copies leave in the two weights and its stores in the buffers it writes, as pieces
(the last first), whatever the kept buffers held before, with the proof that its body ends with those pieces written. -/
def runFirst (hc0 : cond0_0 i) (hc1 : ¬cond0_1 i) (t : Tile F) (w : HbBuf0 (F := F) c hbM0_0) :
    Σ' (L9 : List (View.Piece (Elt F) S256x1024 .f32)), Σ' (L10 : List (View.Piece (Elt F) S8x1024 .f32)), Σ' (LS0 : List (View.Piece (Elt F) S3072x1024 .bf16)),
    Σ' (LS1 : List (View.Piece (Elt F) S1024x1024 .bf16)), Σ' (LS2 : List (View.Piece (Elt F) S264x1024 .f32)),
    Σ' (LS3 : List (View.Piece (Elt F) S3072x1024 .f32)), { LS4 : List (View.Piece (Elt F) S1024x1024 .f32) //
      ∀ (W : Waits sig Unit) (K : PUnit → sProp 𝕄),
        iprop(tileHeld c arg1 arg2 arg3 arg4 arg5 arg6 arg7 arg8 arg9 t ∗ (∃ d, owns (c : Thread nD τ) arg12 fullShare d)
            ∗ (∃ s, carryHeld c arg13 arg16 arg17 arg18 arg19 arg20 s)
            ∗ inCells c ∗ hbPt0 c hbM0_0 w ∗ owes (c : Thread nD τ) 0 W
            ∗ (iprop(tileHeld c arg1 arg2 arg3 arg4 arg5 arg6 arg7 arg8 arg9 t
              ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10)
              ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)
              ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3)
              ∗ (∃ f, arg20.view.loc (c : Thread nD τ) ↦[arg20.view.set]{fullShare} arg20.view.writes (Elt F) f LS4) ∗ inCells c ∗ hbPt0 c hbM0_0 w
              ∗ (∃ W', owes (c : Thread nD τ) 0 W')) -∗ K ⟨⟩))
        ⊢ wp frame (wpE (defs₀ (F := F)) Variants.none c none) Set.univ (cc0_mixa_bwd i arg1 harg1 arg2 harg2 arg3 harg3 arg4 harg4 arg5 harg5 arg6 harg6 arg7 harg7 arg8 harg8 arg9 harg9
          (Memref.whole main_v39) (Memref.isWhole_whole _) (Memref.whole main_v40) (Memref.isWhole_whole _) arg12 harg12 arg13 harg13
          (Memref.whole main_v46_2) (Memref.isWhole_whole _) (Memref.whole main_v46_3) (Memref.isWhole_whole _) arg16 harg16 arg17 harg17 arg18 harg18
          arg19 harg19 arg20 harg20 arg21 harg21 cc0_scratch6 cc0_scratch7) K } := by
  refine ⟨?_, ?_, ?_, ?_, ?_, ?_, ?_, fun W K => ?run⟩
  case run =>
    simp only [cc0_mixa_bwd_eq_skeleton]; unfold cc0_mixa_bwd_skel
    simp only [k0_part7_eq_skeleton, k0_part1_eq_skeleton, k0_part2_eq_skeleton, k0_part3_eq_skeleton, k0_part4_eq_skeleton, k0_part5_eq_skeleton, k0_part8_eq_skeleton, k0_part9_eq_skeleton, k0_part10_eq_skeleton]
    unfold tileHeld carryHeld inCells owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩,
      ⟨%s, ⟨%f10, -, H10⟩, ⟨%fs0, -, HS0⟩, ⟨%fs1, -, HS1⟩, ⟨%fs2, -, HS2⟩, ⟨%fs3, -, HS3⟩, ⟨%fs4, -, HS4⟩⟩,
      ⟨Hq0, Hq1, Hq2, Hq3, Hq4, Hq5, Hq6, Hq7, Hq8, Hq9, Hq10, Hq11, Hq12, Hq13, Hq14, Hq15⟩, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      iexists _; isplitr; · ipureintro; exact harg9.read_unread _
      iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hh0]; · iexact Hh0
    iexists _; iexact HW

end Cert.KernelIdeal.Mixer

end
-- ==== Proof.Reads.lean ====
module

public import proofs.«01_k».proof.Proof.Hold
public import Idealize.ShloMosaic.Lib.WholeRead
public import Idealize.ShloMosaic.Lib.Pointwise.Reshape
public import Idealize.ShloMosaic.Lib.ValueIdxCore

@[expose] public section

noncomputable section

/-! # Reading a buffer back after the stores into it -/

namespace Cert.KernelIdeal.Mixer

open Idealize.ShloMosaic VecWindow
open Cert.KernelIdeal.Gen

variable {F : FTy → Type} [FloatOps F]

section
variable {κ : Kind} {sp : Space} {S : Shape} {e : EltTy} {α : Type}

/-- The window of a vector's own sizes is the vector. -/
theorem window_all (x : S.Idx → α) (off : Fin S.rank → ℕ) (inb : ∀ a, off a + S.size a ≤ S.size a) : window x off S.size inb = x :=
  funext fun y => congrArg x (Rect.emb_unit_full inb y)

/-- `window_all` for a tile. -/
theorem all256 (x : S256x1024.Idx → α) (inb) : window x ![0, 0] ![256, 1024] inb = x := window_all x _ inb
/-- `window_all` for a square weight. -/
theorem all1024 (x : S1024x1024.Idx → α) (inb) : window x ![0, 0] ![1024, 1024] inb = x := window_all x _ inb
/-- `window_all` for a single row. -/
theorem all1 (x : S1x1024.Idx → α) (inb) : window x ![0, 0] ![1, 1024] inb = x := window_all x _ inb

/-- What the first eight rows of the line are, once its first 256 rows are written, does not depend on what was there. -/
theorem halo_eq (x x' : S264x1024.Idx → α) (w : S256x1024.Idx → α) (inb) :
    window (put x ![0, 0] ![256, 1024] w) ![0, 0] ![8, 1024] inb = window (put x' ![0, 0] ![256, 1024] w) ![0, 0] ![8, 1024] inb :=
  (window_put_of_inside x ![0, 0] ![256, 1024] ![0, 0] ![8, 1024] inb w (by decide)).trans
    (window_put_of_inside x' ![0, 0] ![256, 1024] ![0, 0] ![8, 1024] inb w (by decide)).symm

/-- Whole rows put into a vector: an entry of one of those rows is the payload's. -/
theorem put_rows_of_mem {R C n : ℕ} (x : (⟨2, ![R, C]⟩ : Shape).Idx → α) (r0 : ℕ) (w : (⟨2, ![n, C]⟩ : Shape).Idx → α) (r : Fin R) (q : Fin C)
    (h : r0 ≤ r.val) (h' : r.val < r0 + n) :
    put (s := ⟨2, ![R, C]⟩) x ![r0, 0] ![n, C] w (ix2 r q) = w (ix2 ⟨r.val - r0, by omega⟩ q) := by
  unfold put
  rw [dif_pos (show ∀ a : Fin 2, (![r0, 0] : Fin 2 → ℕ) a ≤ ((ix2 r q : (⟨2, ![R, C]⟩ : Shape).Idx) a).val
      ∧ ((ix2 r q : (⟨2, ![R, C]⟩ : Shape).Idx) a).val < (![r0, 0] : Fin 2 → ℕ) a + (![n, C] : Fin 2 → ℕ) a from
    Fin.forall_fin_two.mpr ⟨⟨h, h'⟩, ⟨Nat.zero_le _, by show q.val < 0 + C; have := q.isLt; omega⟩⟩)]
  refine congrArg w (funext fun a => Fin.ext ?_)
  refine Fin.cases ?_ (fun a => ?_) a
  · rfl
  · obtain rfl := Subsingleton.elim a 0
    rfl

/-- Whole rows put into a vector: an entry of another row is as it was. -/
theorem put_rows_of_not_mem {R C n : ℕ} (x : (⟨2, ![R, C]⟩ : Shape).Idx → α) (r0 : ℕ) (w : (⟨2, ![n, C]⟩ : Shape).Idx → α) (r : Fin R) (q : Fin C)
    (h : r.val < r0 ∨ r0 + n ≤ r.val) :
    put (s := ⟨2, ![R, C]⟩) x ![r0, 0] ![n, C] w (ix2 r q) = x (ix2 r q) :=
  dif_neg fun hall => by
    have : r0 ≤ r.val ∧ r.val < r0 + n := hall (0 : Fin 2)
    omega

/-- What is put over a whole square weight is all of it. -/
theorem put_all1024 (x w : S1024x1024.Idx → α) : put x ![0, 0] ![1024, 1024] w = w :=
  funext fun y => by
    obtain ⟨r, q, rfl⟩ : ∃ r q, y = ix2 r q := ⟨_, _, eq_ix2 y⟩
    exact put_rows_of_mem x 0 w r q (Nat.zero_le _) (by have := r.isLt; omega)

/-- Three square blocks laid one below the other. -/
def stack3 (x : S3072x1024.Idx → α) (w0 w1 w2 : S1024x1024.Idx → α) : S3072x1024.Idx → α :=
  put (put (put x ![0, 0] ![1024, 1024] w0) ![1024, 0] ![1024, 1024] w1) ![2048, 0] ![1024, 1024] w2

/-- The first of the three blocks. -/
theorem stack3_0 (x : S3072x1024.Idx → α) (w0 w1 w2 : S1024x1024.Idx → α) (inb) : window (put (put (put x ![0, 0] ![1024, 1024] w0) ![1024, 0] ![1024, 1024] w1) ![2048, 0] ![1024, 1024] w2) ![0, 0] ![1024, 1024] inb = w0 := by
  rw [window_put_of_disjoint _ _ _ _ _ _ _ 0 (by decide), window_put_of_disjoint _ _ _ _ _ _ _ 0 (by decide)]; exact window_put_same _ _ _ _ _

/-- The second of the three blocks. -/
theorem stack3_1 (x : S3072x1024.Idx → α) (w0 w1 w2 : S1024x1024.Idx → α) (inb) : window (put (put (put x ![0, 0] ![1024, 1024] w0) ![1024, 0] ![1024, 1024] w1) ![2048, 0] ![1024, 1024] w2) ![1024, 0] ![1024, 1024] inb = w1 := by
  rw [window_put_of_disjoint _ _ _ _ _ _ _ 0 (by decide)]; exact window_put_same _ _ _ _ _

/-- An entry of the first block. -/
theorem stack3_top (x : S3072x1024.Idx → α) (w0 w1 w2 : S1024x1024.Idx → α) (r : Fin 1024) (q : Fin 1024) (h : r.val < 3072) :
    stack3 x w0 w1 w2 (ix2 ⟨r.val, h⟩ q) = w0 (ix2 r q) := by
  unfold stack3
  exact (put_rows_of_not_mem _ 2048 w2 _ q (.inl (by have := r.isLt; show r.val < 2048; omega))).trans
    ((put_rows_of_not_mem _ 1024 w1 _ q (.inl (by have := r.isLt; show r.val < 1024; omega))).trans
      (put_rows_of_mem x 0 w0 _ q (Nat.zero_le _) (by have := r.isLt; show r.val < 0 + 1024; omega)))

/-- An entry of the second block. -/
theorem stack3_middle (x : S3072x1024.Idx → α) (w0 w1 w2 : S1024x1024.Idx → α) (r : Fin 1024) (q : Fin 1024) (h : 1024 + r.val < 3072) :
    stack3 x w0 w1 w2 (ix2 ⟨1024 + r.val, h⟩ q) = w1 (ix2 r q) := by
  unfold stack3
  exact (put_rows_of_not_mem _ 2048 w2 _ q (.inl (by have := r.isLt; show 1024 + r.val < 2048; omega))).trans
    ((put_rows_of_mem _ 1024 w1 _ q (Nat.le_add_right _ _) (by have := r.isLt; show 1024 + r.val < 1024 + 1024; omega)).trans
      (congrArg (fun k => w1 (ix2 k q)) (Fin.ext (Nat.add_sub_cancel_left ..))))

/-- An entry of the last block. -/
theorem stack3_bottom (x : S3072x1024.Idx → α) (w0 w1 w2 : S1024x1024.Idx → α) (r : Fin 1024) (q : Fin 1024) (h : 2048 + r.val < 3072) :
    stack3 x w0 w1 w2 (ix2 ⟨2048 + r.val, h⟩ q) = w2 (ix2 r q) := by
  unfold stack3
  exact (put_rows_of_mem _ 2048 w2 _ q (Nat.le_add_right _ _) (by have := r.isLt; show 2048 + r.val < 2048 + 1024; omega)).trans
      (congrArg (fun k => w2 (ix2 k q)) (Fin.ext (Nat.add_sub_cancel_left ..)))

/-- Every row of 3072 lies in one of the three blocks. -/
theorem rows3 (r : Fin 3072) : (∃ k : Fin 1024, ∃ h, r = ⟨k.val, h⟩) ∨ (∃ k : Fin 1024, ∃ h, r = ⟨1024 + k.val, h⟩) ∨ (∃ k : Fin 1024, ∃ h, r = ⟨2048 + k.val, h⟩) := by
  have hr := r.isLt
  by_cases h0 : r.val < 1024
  · exact .inl ⟨⟨r.val, h0⟩, hr, rfl⟩
  by_cases h1 : r.val < 2048
  · exact .inr (.inl ⟨⟨r.val - 1024, by omega⟩, by show 1024 + (r.val - 1024) < 3072; omega, Fin.ext (by show r.val = 1024 + (r.val - 1024); omega)⟩)
  · exact .inr (.inr ⟨⟨r.val - 2048, by omega⟩, by show 2048 + (r.val - 2048) < 3072; omega, Fin.ext (by show r.val = 2048 + (r.val - 2048); omega)⟩)

/-- Blocks rounded one by one and laid one below the other are the rounded stack. -/
theorem stack3_round (x : S3072x1024.Idx → Elt F .bf16) (x' : S3072x1024.Idx → Elt F .f32) (w0 w1 w2 : Vec F S1024x1024 .f32) :
    stack3 x (k0_pay5 w0) (k0_pay6 w1) (k0_pay7 w2) = fun i => truncf .bf16 (stack3 x' w0 w1 w2) bitsLt_bf16_f32 i := by
  funext i
  obtain ⟨r, q, rfl⟩ : ∃ r q, i = ix2 r q := ⟨_, _, eq_ix2 i⟩
  have e5 : k0_pay5 w0 = truncf .bf16 w0 bitsLt_bf16_f32 := shapeCast_id _ _
  have e6 : k0_pay6 w1 = truncf .bf16 w1 bitsLt_bf16_f32 := shapeCast_id _ _
  have e7 : k0_pay7 w2 = truncf .bf16 w2 bitsLt_bf16_f32 := shapeCast_id _ _
  obtain ⟨k, h, rfl⟩ | ⟨k, h, rfl⟩ | ⟨k, h, rfl⟩ := rows3 r
  · rw [stack3_top, e5]; exact congrArg (fun z : F .f32 => FloatOps.truncf .bf16 bitsLt_bf16_f32 z) (stack3_top x' w0 w1 w2 k q h).symm
  · rw [stack3_middle, e6]; exact congrArg (fun z : F .f32 => FloatOps.truncf .bf16 bitsLt_bf16_f32 z) (stack3_middle x' w0 w1 w2 k q h).symm
  · rw [stack3_bottom, e7]; exact congrArg (fun z : F .f32 => FloatOps.truncf .bf16 bitsLt_bf16_f32 z) (stack3_bottom x' w0 w1 w2 k q h).symm

/-- A load is a window of what the memref reads. -/
theorem readAt_window (v : View sig κ sp S e) (f : v.ty.Contents (Elt F)) (off size : Fin S.rank → ℕ) (inb : ∀ a, off a + size a ≤ S.size a) :
    v.readAt (Elt F) (Rect.unit off size inb).toLoadRect f = window (v.read (Elt F) f) off size inb := rfl

/-- A load stated over the stores alone is a window of what they leave over any contents. -/
theorem readCov_window (v : View sig κ sp S e) (L : List (View.Piece (Elt F) S e)) (off size : Fin S.rank → ℕ) (inb : ∀ a, off a + size a ≤ S.size a) :
    v.readCov L (Rect.unit off size inb).toLoadRect = window (v.read (Elt F) (v.writes (Elt F) v.junk L)) off size inb := rfl

/-- A store puts its payload over what was there. -/
theorem read_writes_put (v : View sig κ sp S e) (f : v.ty.Contents (Elt F)) (off size : Fin S.rank → ℕ) (inb : ∀ a, off a + size a ≤ S.size a)
    (w : (Rect.unit off size inb).shape.Idx → Elt F e) (L : List (View.Piece (Elt F) S e)) :
    v.read (Elt F) (v.writes (Elt F) f (⟨Rect.unit off size inb, w⟩ :: L)) = put (v.read (Elt F) (v.writes (Elt F) f L)) off size w :=
  View.read_writes_cons_put v f inb w L rfl

/-- No store leaves everything. -/
theorem writes_none (v : View sig κ sp S e) (f : v.ty.Contents (Elt F)) : v.writes (Elt F) f [] = f := rfl

/-- A load of the rectangle stored last reads the payload. -/
theorem readCov_put_same (v : View sig κ sp S e) (off size : Fin S.rank → ℕ) (inb : ∀ a, off a + size a ≤ S.size a)
    (w : (Rect.unit off size inb).shape.Idx → Elt F e) (L : List (View.Piece (Elt F) S e)) :
    v.readCov (⟨Rect.unit off size inb, w⟩ :: L) (Rect.unit off size inb).toLoadRect = w := by
  rw [readCov_window, read_writes_put]; exact window_put_same _ _ _ _ _
end

/-- The tile's own rows of the line are what has just been stored there. -/
theorem ahead0_eq (s : Carry F) (t : Tile F) : ahead0 s t = k0_pay17 (gy s t) t.b := window_put_same _ _ _ _ _

/-- The next line's halo is the first eight rows of the tile's own. -/
theorem nextLine_eq (s : Carry F) (t : Tile F) (x : S264x1024.Idx → Elt F .f32) :
    nextLine s t = put (lineIn s t) ![256, 0] ![8, 1024]
      (k0_pay24 (window (put x ![0, 0] ![256, 1024] (k0_pay17 (gy s t) t.b)) ![0, 0] ![8, 1024] inb_S264x1024_S8x1024_0_0)) := by
  unfold nextLine; rw [show lineIn s t = put s.line ![0, 0] ![256, 1024] (k0_pay17 (gy s t) t.b) from rfl, halo_eq s.line x]

end Cert.KernelIdeal.Mixer

end
-- ==== Proof.Gathered.lean ====
module

public import proofs.«01_k».proof.Proof.Reads
public import Idealize.ShloMosaic.Lib.ValueLayout
public import Idealize.ShloMosaic.Lib.ValueIdxCore

@[expose] public section

noncomputable section

/-! # The weights gathered from the packed shares, and the line's first contents -/

namespace Cert.KernelIdeal.Mixer

open Idealize.ShloMosaic VecWindow
open Cert.KernelIdeal.Gen

variable {F : FTy → Type} [FloatOps F]

/-- One device's rows of the packed weights, as the copy of its part of `win` carries them over. -/
theorem share_win (c : Dev nD) (w : HbBuf0 (F := F) c hbM0_0) (d : ℕ) (hd : d < 8) (inb) (hn) (a : Fin 384) (q : Fin 1024) :
    View.read (Elt F) (((View.whole main_v39).slice (Rect.unit ![d, 0, 0] ![1, 384, 1024] inb)).reshape S384x1024 hn) w (ix2 a q)
      = hbM0_0.view.read (Elt F) w (ix3 ⟨d, hd⟩ ⟨a.val, by have := a.isLt; omega⟩ q) := by
  refine (ValueIdx.shapeCast_1ab_ab_apply (window (s := S8x3008x1024) (hbM0_0.view.read (Elt F) w) ![d, 0, 0] ![1, 384, 1024] inb) hn a q).trans ?_
  refine congrArg (hbM0_0.view.read (Elt F) w) (funext fun k => Fin.ext ?_)
  match k with
  | ⟨0, _⟩ => show d + 1 * 0 = d; omega
  | ⟨1, _⟩ => show 0 + 1 * a.val = a.val; omega
  | ⟨2, _⟩ => show 0 + 1 * q.val = q.val; omega

/-- Eight blocks of 384 rows laid one below the other, read back. -/
theorem rows8_win {α : Type} (x : S3072x1024.Idx → α) (p0 p1 p2 p3 p4 p5 p6 p7 : S384x1024.Idx → α) (y : S3072x1024.Idx → α)
    (h0 : ∀ (r : Fin 384) (q : Fin 1024), p0 (ix2 r q) = y (ix2 ⟨0 + r.val, by have := r.isLt; omega⟩ q))
    (h1 : ∀ (r : Fin 384) (q : Fin 1024), p1 (ix2 r q) = y (ix2 ⟨384 + r.val, by have := r.isLt; omega⟩ q))
    (h2 : ∀ (r : Fin 384) (q : Fin 1024), p2 (ix2 r q) = y (ix2 ⟨768 + r.val, by have := r.isLt; omega⟩ q))
    (h3 : ∀ (r : Fin 384) (q : Fin 1024), p3 (ix2 r q) = y (ix2 ⟨1152 + r.val, by have := r.isLt; omega⟩ q))
    (h4 : ∀ (r : Fin 384) (q : Fin 1024), p4 (ix2 r q) = y (ix2 ⟨1536 + r.val, by have := r.isLt; omega⟩ q))
    (h5 : ∀ (r : Fin 384) (q : Fin 1024), p5 (ix2 r q) = y (ix2 ⟨1920 + r.val, by have := r.isLt; omega⟩ q))
    (h6 : ∀ (r : Fin 384) (q : Fin 1024), p6 (ix2 r q) = y (ix2 ⟨2304 + r.val, by have := r.isLt; omega⟩ q))
    (h7 : ∀ (r : Fin 384) (q : Fin 1024), p7 (ix2 r q) = y (ix2 ⟨2688 + r.val, by have := r.isLt; omega⟩ q)) :
    put (put (put (put (put (put (put (put x ![0, 0] ![384, 1024] p0) ![384, 0] ![384, 1024] (p1)) ![768, 0] ![384, 1024] (p2)) ![1152, 0] ![384, 1024] (p3)) ![1536, 0] ![384, 1024] (p4)) ![1920, 0] ![384, 1024] (p5)) ![2304, 0] ![384, 1024] (p6)) ![2688, 0] ![384, 1024] (p7) = y := by
  funext i
  obtain ⟨r, q, rfl⟩ : ∃ r q, i = ix2 r q := ⟨_, _, eq_ix2 i⟩
  have hr : r.val < 3072 := r.isLt
  by_cases c0 : r.val < 384
  · exact (put_rows_of_not_mem _ 2688 p7 r q (.inl (by omega))).trans ((put_rows_of_not_mem _ 2304 p6 r q (.inl (by omega))).trans ((put_rows_of_not_mem _ 1920 p5 r q (.inl (by omega))).trans ((put_rows_of_not_mem _ 1536 p4 r q (.inl (by omega))).trans ((put_rows_of_not_mem _ 1152 p3 r q (.inl (by omega))).trans ((put_rows_of_not_mem _ 768 p2 r q (.inl (by omega))).trans ((put_rows_of_not_mem _ 384 p1 r q (.inl (by omega))).trans ((put_rows_of_mem _ 0 p0 r q (by omega) (by omega)).trans ((h0 _ q).trans (congrArg (fun k => y (ix2 k q)) (Fin.ext (by show 0 + (r.val - 0) = r.val; omega)))))))))))
  by_cases c1 : r.val < 768
  · exact (put_rows_of_not_mem _ 2688 p7 r q (.inl (by omega))).trans ((put_rows_of_not_mem _ 2304 p6 r q (.inl (by omega))).trans ((put_rows_of_not_mem _ 1920 p5 r q (.inl (by omega))).trans ((put_rows_of_not_mem _ 1536 p4 r q (.inl (by omega))).trans ((put_rows_of_not_mem _ 1152 p3 r q (.inl (by omega))).trans ((put_rows_of_not_mem _ 768 p2 r q (.inl (by omega))).trans ((put_rows_of_mem _ 384 p1 r q (by omega) (by omega)).trans ((h1 _ q).trans (congrArg (fun k => y (ix2 k q)) (Fin.ext (by show 384 + (r.val - 384) = r.val; omega))))))))))
  by_cases c2 : r.val < 1152
  · exact (put_rows_of_not_mem _ 2688 p7 r q (.inl (by omega))).trans ((put_rows_of_not_mem _ 2304 p6 r q (.inl (by omega))).trans ((put_rows_of_not_mem _ 1920 p5 r q (.inl (by omega))).trans ((put_rows_of_not_mem _ 1536 p4 r q (.inl (by omega))).trans ((put_rows_of_not_mem _ 1152 p3 r q (.inl (by omega))).trans ((put_rows_of_mem _ 768 p2 r q (by omega) (by omega)).trans ((h2 _ q).trans (congrArg (fun k => y (ix2 k q)) (Fin.ext (by show 768 + (r.val - 768) = r.val; omega)))))))))
  by_cases c3 : r.val < 1536
  · exact (put_rows_of_not_mem _ 2688 p7 r q (.inl (by omega))).trans ((put_rows_of_not_mem _ 2304 p6 r q (.inl (by omega))).trans ((put_rows_of_not_mem _ 1920 p5 r q (.inl (by omega))).trans ((put_rows_of_not_mem _ 1536 p4 r q (.inl (by omega))).trans ((put_rows_of_mem _ 1152 p3 r q (by omega) (by omega)).trans ((h3 _ q).trans (congrArg (fun k => y (ix2 k q)) (Fin.ext (by show 1152 + (r.val - 1152) = r.val; omega))))))))
  by_cases c4 : r.val < 1920
  · exact (put_rows_of_not_mem _ 2688 p7 r q (.inl (by omega))).trans ((put_rows_of_not_mem _ 2304 p6 r q (.inl (by omega))).trans ((put_rows_of_not_mem _ 1920 p5 r q (.inl (by omega))).trans ((put_rows_of_mem _ 1536 p4 r q (by omega) (by omega)).trans ((h4 _ q).trans (congrArg (fun k => y (ix2 k q)) (Fin.ext (by show 1536 + (r.val - 1536) = r.val; omega)))))))
  by_cases c5 : r.val < 2304
  · exact (put_rows_of_not_mem _ 2688 p7 r q (.inl (by omega))).trans ((put_rows_of_not_mem _ 2304 p6 r q (.inl (by omega))).trans ((put_rows_of_mem _ 1920 p5 r q (by omega) (by omega)).trans ((h5 _ q).trans (congrArg (fun k => y (ix2 k q)) (Fin.ext (by show 1920 + (r.val - 1920) = r.val; omega))))))
  by_cases c6 : r.val < 2688
  · exact (put_rows_of_not_mem _ 2688 p7 r q (.inl (by omega))).trans ((put_rows_of_mem _ 2304 p6 r q (by omega) (by omega)).trans ((h6 _ q).trans (congrArg (fun k => y (ix2 k q)) (Fin.ext (by show 2304 + (r.val - 2304) = r.val; omega)))))
  exact (put_rows_of_mem _ 2688 p7 r q (by omega) (by omega)).trans ((h7 _ q).trans (congrArg (fun k => y (ix2 k q)) (Fin.ext (by show 2688 + (r.val - 2688) = r.val; omega))))

/-- The eight copies of the first point leave `win` of `start`, whatever was there before. -/
theorem gathered_win (c : Dev nD) (w : HbBuf0 (F := F) c hbM0_0) (x : S3072x1024.Idx → Elt F .bf16) (i0) (n0) (i1) (n1) (i2) (n2) (i3) (n3) (i4) (n4) (i5) (n5) (i6) (n6) (i7) (n7) :
    put (put (put (put (put (put (put (put x ![0, 0] ![384, 1024] (View.read (Elt F) (((View.whole main_v39).slice (Rect.unit ![0, 0, 0] ![1, 384, 1024] i0)).reshape S384x1024 n0) w)) ![384, 0] ![384, 1024] (View.read (Elt F) (((View.whole main_v39).slice (Rect.unit ![1, 0, 0] ![1, 384, 1024] i1)).reshape S384x1024 n1) w)) ![768, 0] ![384, 1024] (View.read (Elt F) (((View.whole main_v39).slice (Rect.unit ![2, 0, 0] ![1, 384, 1024] i2)).reshape S384x1024 n2) w)) ![1152, 0] ![384, 1024] (View.read (Elt F) (((View.whole main_v39).slice (Rect.unit ![3, 0, 0] ![1, 384, 1024] i3)).reshape S384x1024 n3) w)) ![1536, 0] ![384, 1024] (View.read (Elt F) (((View.whole main_v39).slice (Rect.unit ![4, 0, 0] ![1, 384, 1024] i4)).reshape S384x1024 n4) w)) ![1920, 0] ![384, 1024] (View.read (Elt F) (((View.whole main_v39).slice (Rect.unit ![5, 0, 0] ![1, 384, 1024] i5)).reshape S384x1024 n5) w)) ![2304, 0] ![384, 1024] (View.read (Elt F) (((View.whole main_v39).slice (Rect.unit ![6, 0, 0] ![1, 384, 1024] i6)).reshape S384x1024 n6) w)) ![2688, 0] ![384, 1024] (View.read (Elt F) (((View.whole main_v39).slice (Rect.unit ![7, 0, 0] ![1, 384, 1024] i7)).reshape S384x1024 n7) w)
      = (start (hbM0_0.view.read (Elt F) w)).win := by
  refine rows8_win x _ _ _ _ _ _ _ _ _ (fun r q => (share_win c w 0 (by omega) i0 n0 r q).trans ?_) (fun r q => (share_win c w 1 (by omega) i1 n1 r q).trans ?_) (fun r q => (share_win c w 2 (by omega) i2 n2 r q).trans ?_) (fun r q => (share_win c w 3 (by omega) i3 n3 r q).trans ?_) (fun r q => (share_win c w 4 (by omega) i4 n4 r q).trans ?_) (fun r q => (share_win c w 5 (by omega) i5 n5 r q).trans ?_) (fun r q => (share_win c w 6 (by omega) i6 n6 r q).trans ?_) (fun r q => (share_win c w 7 (by omega) i7 n7 r q).trans ?_)
  · refine congrArg (hbM0_0.view.read (Elt F) w) (funext fun k => Fin.ext ?_)
    have hr : r.val < 384 := r.isLt
    match k with
    | ⟨0, _⟩ => show 0 = (0 + r.val) / 384; omega
    | ⟨1, _⟩ => show r.val = (0 + r.val) % 384; omega
    | ⟨2, _⟩ => rfl
  · refine congrArg (hbM0_0.view.read (Elt F) w) (funext fun k => Fin.ext ?_)
    have hr : r.val < 384 := r.isLt
    match k with
    | ⟨0, _⟩ => show 1 = (384 + r.val) / 384; omega
    | ⟨1, _⟩ => show r.val = (384 + r.val) % 384; omega
    | ⟨2, _⟩ => rfl
  · refine congrArg (hbM0_0.view.read (Elt F) w) (funext fun k => Fin.ext ?_)
    have hr : r.val < 384 := r.isLt
    match k with
    | ⟨0, _⟩ => show 2 = (768 + r.val) / 384; omega
    | ⟨1, _⟩ => show r.val = (768 + r.val) % 384; omega
    | ⟨2, _⟩ => rfl
  · refine congrArg (hbM0_0.view.read (Elt F) w) (funext fun k => Fin.ext ?_)
    have hr : r.val < 384 := r.isLt
    match k with
    | ⟨0, _⟩ => show 3 = (1152 + r.val) / 384; omega
    | ⟨1, _⟩ => show r.val = (1152 + r.val) % 384; omega
    | ⟨2, _⟩ => rfl
  · refine congrArg (hbM0_0.view.read (Elt F) w) (funext fun k => Fin.ext ?_)
    have hr : r.val < 384 := r.isLt
    match k with
    | ⟨0, _⟩ => show 4 = (1536 + r.val) / 384; omega
    | ⟨1, _⟩ => show r.val = (1536 + r.val) % 384; omega
    | ⟨2, _⟩ => rfl
  · refine congrArg (hbM0_0.view.read (Elt F) w) (funext fun k => Fin.ext ?_)
    have hr : r.val < 384 := r.isLt
    match k with
    | ⟨0, _⟩ => show 5 = (1920 + r.val) / 384; omega
    | ⟨1, _⟩ => show r.val = (1920 + r.val) % 384; omega
    | ⟨2, _⟩ => rfl
  · refine congrArg (hbM0_0.view.read (Elt F) w) (funext fun k => Fin.ext ?_)
    have hr : r.val < 384 := r.isLt
    match k with
    | ⟨0, _⟩ => show 6 = (2304 + r.val) / 384; omega
    | ⟨1, _⟩ => show r.val = (2304 + r.val) % 384; omega
    | ⟨2, _⟩ => rfl
  · refine congrArg (hbM0_0.view.read (Elt F) w) (funext fun k => Fin.ext ?_)
    have hr : r.val < 384 := r.isLt
    match k with
    | ⟨0, _⟩ => show 7 = (2688 + r.val) / 384; omega
    | ⟨1, _⟩ => show r.val = (2688 + r.val) % 384; omega
    | ⟨2, _⟩ => rfl

/-- One device's rows of the packed weights, as the copy of its part of `wout` carries them over. -/
theorem share_wout (c : Dev nD) (w : HbBuf0 (F := F) c hbM0_0) (d : ℕ) (hd : d < 8) (inb) (hn) (a : Fin 128) (q : Fin 1024) :
    View.read (Elt F) (((View.whole main_v39).slice (Rect.unit ![d, 384, 0] ![1, 128, 1024] inb)).reshape S128x1024 hn) w (ix2 a q)
      = hbM0_0.view.read (Elt F) w (ix3 ⟨d, hd⟩ ⟨384 + a.val, by have := a.isLt; omega⟩ q) := by
  refine (ValueIdx.shapeCast_1ab_ab_apply (window (s := S8x3008x1024) (hbM0_0.view.read (Elt F) w) ![d, 384, 0] ![1, 128, 1024] inb) hn a q).trans ?_
  refine congrArg (hbM0_0.view.read (Elt F) w) (funext fun k => Fin.ext ?_)
  match k with
  | ⟨0, _⟩ => show d + 1 * 0 = d; omega
  | ⟨1, _⟩ => show 384 + 1 * a.val = 384 + a.val; omega
  | ⟨2, _⟩ => show 0 + 1 * q.val = q.val; omega

/-- Eight blocks of 128 rows laid one below the other, read back. -/
theorem rows8_wout {α : Type} (x : S1024x1024.Idx → α) (p0 p1 p2 p3 p4 p5 p6 p7 : S128x1024.Idx → α) (y : S1024x1024.Idx → α)
    (h0 : ∀ (r : Fin 128) (q : Fin 1024), p0 (ix2 r q) = y (ix2 ⟨0 + r.val, by have := r.isLt; omega⟩ q))
    (h1 : ∀ (r : Fin 128) (q : Fin 1024), p1 (ix2 r q) = y (ix2 ⟨128 + r.val, by have := r.isLt; omega⟩ q))
    (h2 : ∀ (r : Fin 128) (q : Fin 1024), p2 (ix2 r q) = y (ix2 ⟨256 + r.val, by have := r.isLt; omega⟩ q))
    (h3 : ∀ (r : Fin 128) (q : Fin 1024), p3 (ix2 r q) = y (ix2 ⟨384 + r.val, by have := r.isLt; omega⟩ q))
    (h4 : ∀ (r : Fin 128) (q : Fin 1024), p4 (ix2 r q) = y (ix2 ⟨512 + r.val, by have := r.isLt; omega⟩ q))
    (h5 : ∀ (r : Fin 128) (q : Fin 1024), p5 (ix2 r q) = y (ix2 ⟨640 + r.val, by have := r.isLt; omega⟩ q))
    (h6 : ∀ (r : Fin 128) (q : Fin 1024), p6 (ix2 r q) = y (ix2 ⟨768 + r.val, by have := r.isLt; omega⟩ q))
    (h7 : ∀ (r : Fin 128) (q : Fin 1024), p7 (ix2 r q) = y (ix2 ⟨896 + r.val, by have := r.isLt; omega⟩ q)) :
    put (put (put (put (put (put (put (put x ![0, 0] ![128, 1024] p0) ![128, 0] ![128, 1024] (p1)) ![256, 0] ![128, 1024] (p2)) ![384, 0] ![128, 1024] (p3)) ![512, 0] ![128, 1024] (p4)) ![640, 0] ![128, 1024] (p5)) ![768, 0] ![128, 1024] (p6)) ![896, 0] ![128, 1024] (p7) = y := by
  funext i
  obtain ⟨r, q, rfl⟩ : ∃ r q, i = ix2 r q := ⟨_, _, eq_ix2 i⟩
  have hr : r.val < 1024 := r.isLt
  by_cases c0 : r.val < 128
  · exact (put_rows_of_not_mem _ 896 p7 r q (.inl (by omega))).trans ((put_rows_of_not_mem _ 768 p6 r q (.inl (by omega))).trans ((put_rows_of_not_mem _ 640 p5 r q (.inl (by omega))).trans ((put_rows_of_not_mem _ 512 p4 r q (.inl (by omega))).trans ((put_rows_of_not_mem _ 384 p3 r q (.inl (by omega))).trans ((put_rows_of_not_mem _ 256 p2 r q (.inl (by omega))).trans ((put_rows_of_not_mem _ 128 p1 r q (.inl (by omega))).trans ((put_rows_of_mem _ 0 p0 r q (by omega) (by omega)).trans ((h0 _ q).trans (congrArg (fun k => y (ix2 k q)) (Fin.ext (by show 0 + (r.val - 0) = r.val; omega)))))))))))
  by_cases c1 : r.val < 256
  · exact (put_rows_of_not_mem _ 896 p7 r q (.inl (by omega))).trans ((put_rows_of_not_mem _ 768 p6 r q (.inl (by omega))).trans ((put_rows_of_not_mem _ 640 p5 r q (.inl (by omega))).trans ((put_rows_of_not_mem _ 512 p4 r q (.inl (by omega))).trans ((put_rows_of_not_mem _ 384 p3 r q (.inl (by omega))).trans ((put_rows_of_not_mem _ 256 p2 r q (.inl (by omega))).trans ((put_rows_of_mem _ 128 p1 r q (by omega) (by omega)).trans ((h1 _ q).trans (congrArg (fun k => y (ix2 k q)) (Fin.ext (by show 128 + (r.val - 128) = r.val; omega))))))))))
  by_cases c2 : r.val < 384
  · exact (put_rows_of_not_mem _ 896 p7 r q (.inl (by omega))).trans ((put_rows_of_not_mem _ 768 p6 r q (.inl (by omega))).trans ((put_rows_of_not_mem _ 640 p5 r q (.inl (by omega))).trans ((put_rows_of_not_mem _ 512 p4 r q (.inl (by omega))).trans ((put_rows_of_not_mem _ 384 p3 r q (.inl (by omega))).trans ((put_rows_of_mem _ 256 p2 r q (by omega) (by omega)).trans ((h2 _ q).trans (congrArg (fun k => y (ix2 k q)) (Fin.ext (by show 256 + (r.val - 256) = r.val; omega)))))))))
  by_cases c3 : r.val < 512
  · exact (put_rows_of_not_mem _ 896 p7 r q (.inl (by omega))).trans ((put_rows_of_not_mem _ 768 p6 r q (.inl (by omega))).trans ((put_rows_of_not_mem _ 640 p5 r q (.inl (by omega))).trans ((put_rows_of_not_mem _ 512 p4 r q (.inl (by omega))).trans ((put_rows_of_mem _ 384 p3 r q (by omega) (by omega)).trans ((h3 _ q).trans (congrArg (fun k => y (ix2 k q)) (Fin.ext (by show 384 + (r.val - 384) = r.val; omega))))))))
  by_cases c4 : r.val < 640
  · exact (put_rows_of_not_mem _ 896 p7 r q (.inl (by omega))).trans ((put_rows_of_not_mem _ 768 p6 r q (.inl (by omega))).trans ((put_rows_of_not_mem _ 640 p5 r q (.inl (by omega))).trans ((put_rows_of_mem _ 512 p4 r q (by omega) (by omega)).trans ((h4 _ q).trans (congrArg (fun k => y (ix2 k q)) (Fin.ext (by show 512 + (r.val - 512) = r.val; omega)))))))
  by_cases c5 : r.val < 768
  · exact (put_rows_of_not_mem _ 896 p7 r q (.inl (by omega))).trans ((put_rows_of_not_mem _ 768 p6 r q (.inl (by omega))).trans ((put_rows_of_mem _ 640 p5 r q (by omega) (by omega)).trans ((h5 _ q).trans (congrArg (fun k => y (ix2 k q)) (Fin.ext (by show 640 + (r.val - 640) = r.val; omega))))))
  by_cases c6 : r.val < 896
  · exact (put_rows_of_not_mem _ 896 p7 r q (.inl (by omega))).trans ((put_rows_of_mem _ 768 p6 r q (by omega) (by omega)).trans ((h6 _ q).trans (congrArg (fun k => y (ix2 k q)) (Fin.ext (by show 768 + (r.val - 768) = r.val; omega)))))
  exact (put_rows_of_mem _ 896 p7 r q (by omega) (by omega)).trans ((h7 _ q).trans (congrArg (fun k => y (ix2 k q)) (Fin.ext (by show 896 + (r.val - 896) = r.val; omega))))

/-- The eight copies of the first point leave `wout` of `start`, whatever was there before. -/
theorem gathered_wout (c : Dev nD) (w : HbBuf0 (F := F) c hbM0_0) (x : S1024x1024.Idx → Elt F .bf16) (i0) (n0) (i1) (n1) (i2) (n2) (i3) (n3) (i4) (n4) (i5) (n5) (i6) (n6) (i7) (n7) :
    put (put (put (put (put (put (put (put x ![0, 0] ![128, 1024] (View.read (Elt F) (((View.whole main_v39).slice (Rect.unit ![0, 384, 0] ![1, 128, 1024] i0)).reshape S128x1024 n0) w)) ![128, 0] ![128, 1024] (View.read (Elt F) (((View.whole main_v39).slice (Rect.unit ![1, 384, 0] ![1, 128, 1024] i1)).reshape S128x1024 n1) w)) ![256, 0] ![128, 1024] (View.read (Elt F) (((View.whole main_v39).slice (Rect.unit ![2, 384, 0] ![1, 128, 1024] i2)).reshape S128x1024 n2) w)) ![384, 0] ![128, 1024] (View.read (Elt F) (((View.whole main_v39).slice (Rect.unit ![3, 384, 0] ![1, 128, 1024] i3)).reshape S128x1024 n3) w)) ![512, 0] ![128, 1024] (View.read (Elt F) (((View.whole main_v39).slice (Rect.unit ![4, 384, 0] ![1, 128, 1024] i4)).reshape S128x1024 n4) w)) ![640, 0] ![128, 1024] (View.read (Elt F) (((View.whole main_v39).slice (Rect.unit ![5, 384, 0] ![1, 128, 1024] i5)).reshape S128x1024 n5) w)) ![768, 0] ![128, 1024] (View.read (Elt F) (((View.whole main_v39).slice (Rect.unit ![6, 384, 0] ![1, 128, 1024] i6)).reshape S128x1024 n6) w)) ![896, 0] ![128, 1024] (View.read (Elt F) (((View.whole main_v39).slice (Rect.unit ![7, 384, 0] ![1, 128, 1024] i7)).reshape S128x1024 n7) w)
      = (start (hbM0_0.view.read (Elt F) w)).wout := by
  refine rows8_wout x _ _ _ _ _ _ _ _ _ (fun r q => (share_wout c w 0 (by omega) i0 n0 r q).trans ?_) (fun r q => (share_wout c w 1 (by omega) i1 n1 r q).trans ?_) (fun r q => (share_wout c w 2 (by omega) i2 n2 r q).trans ?_) (fun r q => (share_wout c w 3 (by omega) i3 n3 r q).trans ?_) (fun r q => (share_wout c w 4 (by omega) i4 n4 r q).trans ?_) (fun r q => (share_wout c w 5 (by omega) i5 n5 r q).trans ?_) (fun r q => (share_wout c w 6 (by omega) i6 n6 r q).trans ?_) (fun r q => (share_wout c w 7 (by omega) i7 n7 r q).trans ?_)
  · refine congrArg (hbM0_0.view.read (Elt F) w) (funext fun k => Fin.ext ?_)
    have hr : r.val < 128 := r.isLt
    match k with
    | ⟨0, _⟩ => show 0 = (0 + r.val) / 128; omega
    | ⟨1, _⟩ => show 384 + r.val = 384 + (0 + r.val) % 128; omega
    | ⟨2, _⟩ => rfl
  · refine congrArg (hbM0_0.view.read (Elt F) w) (funext fun k => Fin.ext ?_)
    have hr : r.val < 128 := r.isLt
    match k with
    | ⟨0, _⟩ => show 1 = (128 + r.val) / 128; omega
    | ⟨1, _⟩ => show 384 + r.val = 384 + (128 + r.val) % 128; omega
    | ⟨2, _⟩ => rfl
  · refine congrArg (hbM0_0.view.read (Elt F) w) (funext fun k => Fin.ext ?_)
    have hr : r.val < 128 := r.isLt
    match k with
    | ⟨0, _⟩ => show 2 = (256 + r.val) / 128; omega
    | ⟨1, _⟩ => show 384 + r.val = 384 + (256 + r.val) % 128; omega
    | ⟨2, _⟩ => rfl
  · refine congrArg (hbM0_0.view.read (Elt F) w) (funext fun k => Fin.ext ?_)
    have hr : r.val < 128 := r.isLt
    match k with
    | ⟨0, _⟩ => show 3 = (384 + r.val) / 128; omega
    | ⟨1, _⟩ => show 384 + r.val = 384 + (384 + r.val) % 128; omega
    | ⟨2, _⟩ => rfl
  · refine congrArg (hbM0_0.view.read (Elt F) w) (funext fun k => Fin.ext ?_)
    have hr : r.val < 128 := r.isLt
    match k with
    | ⟨0, _⟩ => show 4 = (512 + r.val) / 128; omega
    | ⟨1, _⟩ => show 384 + r.val = 384 + (512 + r.val) % 128; omega
    | ⟨2, _⟩ => rfl
  · refine congrArg (hbM0_0.view.read (Elt F) w) (funext fun k => Fin.ext ?_)
    have hr : r.val < 128 := r.isLt
    match k with
    | ⟨0, _⟩ => show 5 = (640 + r.val) / 128; omega
    | ⟨1, _⟩ => show 384 + r.val = 384 + (640 + r.val) % 128; omega
    | ⟨2, _⟩ => rfl
  · refine congrArg (hbM0_0.view.read (Elt F) w) (funext fun k => Fin.ext ?_)
    have hr : r.val < 128 := r.isLt
    match k with
    | ⟨0, _⟩ => show 6 = (768 + r.val) / 128; omega
    | ⟨1, _⟩ => show 384 + r.val = 384 + (768 + r.val) % 128; omega
    | ⟨2, _⟩ => rfl
  · refine congrArg (hbM0_0.view.read (Elt F) w) (funext fun k => Fin.ext ?_)
    have hr : r.val < 128 := r.isLt
    match k with
    | ⟨0, _⟩ => show 7 = (896 + r.val) / 128; omega
    | ⟨1, _⟩ => show 384 + r.val = 384 + (896 + r.val) % 128; omega
    | ⟨2, _⟩ => rfl

/-- Once the tile's rows and the zero halo are in it, the line is as if it had been zeros. -/
theorem line_start (w : Vec F S8x3008x1024 .bf16) (x : S264x1024.Idx → Elt F .f32) (g : S256x1024.Idx → Elt F .f32) :
    put (put x ![256, 0] ![8, 1024] (k0_pay8 (F := F))) ![0, 0] ![256, 1024] g = put (start w).line ![0, 0] ![256, 1024] g := by
  funext i
  obtain ⟨r, q, rfl⟩ : ∃ r q, i = ix2 r q := ⟨_, _, eq_ix2 i⟩
  have hr : r.val < 264 := r.isLt
  by_cases h : r.val < 256
  · exact (put_rows_of_mem _ 0 g r q (by omega) (by omega)).trans (put_rows_of_mem _ 0 g r q (by omega) (by omega)).symm
  · exact (put_rows_of_not_mem _ 0 g r q (.inr (by omega))).trans ((put_rows_of_mem _ 256 k0_pay8 r q (by omega) (by omega)).trans <|
      (show k0_pay8 (F := F) (ix2 ⟨r.val - 256, by omega⟩ q) = (start w).line (ix2 r q) from rfl).trans
      (put_rows_of_not_mem (start w).line 0 g r q (.inr (by omega))).symm)

/-- What is put over all eight rows of the sums is all of them. -/
theorem put_all8 (x w : S8x1024.Idx → Elt F .f32) : put x ![0, 0] ![8, 1024] w = w :=
  funext fun y => by
    obtain ⟨r, q, rfl⟩ : ∃ r q, y = ix2 r q := ⟨_, _, eq_ix2 y⟩
    exact put_rows_of_mem x 0 w r q (Nat.zero_le _) (by have := r.isLt; omega)

/-- What is put over all 3072 rows of a running gradient is all of them. -/
theorem put_all3072 (x w : S3072x1024.Idx → Elt F .f32) : put x ![0, 0] ![3072, 1024] w = w :=
  funext fun y => by
    obtain ⟨r, q, rfl⟩ : ∃ r q, y = ix2 r q := ⟨_, _, eq_ix2 y⟩
    exact put_rows_of_mem x 0 w r q (Nat.zero_le _) (by have := r.isLt; omega)

/-- Row 2 of the sums does not change when row 3 does. -/
theorem row2_put3 (x : S8x1024.Idx → Elt F .f32) (w : S1x1024.Idx → Elt F .f32) (inb) :
    window (put x ![3, 0] ![1, 1024] w) ![2, 0] ![1, 1024] inb = window x ![2, 0] ![1, 1024] inb :=
  window_put_of_disjoint _ _ _ _ _ _ _ 0 (by decide)

/-- Row 1 of the sums does not change when row 3 does. -/
theorem row1_put3 (x : S8x1024.Idx → Elt F .f32) (w : S1x1024.Idx → Elt F .f32) (inb) :
    window (put x ![3, 0] ![1, 1024] w) ![1, 0] ![1, 1024] inb = window x ![1, 0] ![1, 1024] inb :=
  window_put_of_disjoint _ _ _ _ _ _ _ 0 (by decide)

/-- Row 1 of the sums does not change when row 2 does. -/
theorem row1_put2 (x : S8x1024.Idx → Elt F .f32) (w : S1x1024.Idx → Elt F .f32) (inb) :
    window (put x ![2, 0] ![1, 1024] w) ![1, 0] ![1, 1024] inb = window x ![1, 0] ![1, 1024] inb :=
  window_put_of_disjoint _ _ _ _ _ _ _ 0 (by decide)

/-- Row 0 of the sums does not change when row 3 does. -/
theorem row0_put3 (x : S8x1024.Idx → Elt F .f32) (w : S1x1024.Idx → Elt F .f32) (inb) :
    window (put x ![3, 0] ![1, 1024] w) ![0, 0] ![1, 1024] inb = window x ![0, 0] ![1, 1024] inb :=
  window_put_of_disjoint _ _ _ _ _ _ _ 0 (by decide)

/-- Row 0 of the sums does not change when row 2 does. -/
theorem row0_put2 (x : S8x1024.Idx → Elt F .f32) (w : S1x1024.Idx → Elt F .f32) (inb) :
    window (put x ![2, 0] ![1, 1024] w) ![0, 0] ![1, 1024] inb = window x ![0, 0] ![1, 1024] inb :=
  window_put_of_disjoint _ _ _ _ _ _ _ 0 (by decide)

/-- Row 0 of the sums does not change when row 1 does. -/
theorem row0_put1 (x : S8x1024.Idx → Elt F .f32) (w : S1x1024.Idx → Elt F .f32) (inb) :
    window (put x ![1, 0] ![1, 1024] w) ![0, 0] ![1, 1024] inb = window x ![0, 0] ![1, 1024] inb :=
  window_put_of_disjoint _ _ _ _ _ _ _ 0 (by decide)

/-- The block at row 1024 does not change when the one at row 0 does. -/
theorem block1024_put0 (x : S3072x1024.Idx → Elt F .f32) (w : S1024x1024.Idx → Elt F .f32) (inb) :
    window (put x ![0, 0] ![1024, 1024] w) ![1024, 0] ![1024, 1024] inb = window x ![1024, 0] ![1024, 1024] inb :=
  window_put_of_disjoint _ _ _ _ _ _ _ 0 (by decide)

/-- The block at row 2048 does not change when the one at row 0 does. -/
theorem block2048_put0 (x : S3072x1024.Idx → Elt F .f32) (w : S1024x1024.Idx → Elt F .f32) (inb) :
    window (put x ![0, 0] ![1024, 1024] w) ![2048, 0] ![1024, 1024] inb = window x ![2048, 0] ![1024, 1024] inb :=
  window_put_of_disjoint _ _ _ _ _ _ _ 0 (by decide)

/-- The block at row 2048 does not change when the one at row 1024 does. -/
theorem block2048_put1024 (x : S3072x1024.Idx → Elt F .f32) (w : S1024x1024.Idx → Elt F .f32) (inb) :
    window (put x ![1024, 0] ![1024, 1024] w) ![2048, 0] ![1024, 1024] inb = window x ![2048, 0] ![1024, 1024] inb :=
  window_put_of_disjoint _ _ _ _ _ _ _ 0 (by decide)

end Cert.KernelIdeal.Mixer

end
-- ==== Proof.PostFirst.lean ====
module

public import proofs.«01_k».proof.Proof.RunFirst
public import proofs.«01_k».proof.Proof.Gathered

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S1x1024 .f32) (harg8 : arg8.IsWhole)
  (arg9 : Memref sig .tc .vmem S3x1024 .f32) (harg9 : arg9.IsWhole) (arg12 : Memref sig .tc .vmem S256x1024 .f32) (harg12 : arg12.IsWhole)
  (arg13 : Memref sig .tc .vmem S8x1024 .f32) (harg13 : arg13.IsWhole) (arg16 : Memref sig .tc .vmem S3072x1024 .bf16) (harg16 : arg16.IsWhole)
  (arg17 : Memref sig .tc .vmem S1024x1024 .bf16) (harg17 : arg17.IsWhole) (arg18 : Memref sig .tc .vmem S264x1024 .f32) (harg18 : arg18.IsWhole)
  (arg19 : Memref sig .tc .vmem S3072x1024 .f32) (harg19 : arg19.IsWhole) (arg20 : Memref sig .tc .vmem S1024x1024 .f32) (harg20 : arg20.IsWhole)
  (arg21 : Memref sig .tc .vmem S1024x1024 .bf16) (harg21 : arg21.IsWhole)

/-- The gathered input projection. -/
theorem first_win (hc0 : cond0_0 i) (hc1 : ¬cond0_1 i) (t : Tile F) (w : HbBuf0 (F := F) c hbM0_0) (f : arg16.view.ty.Contents (Elt F)) :
    arg16.view.read (Elt F) (arg16.view.writes (Elt F) f (runFirst c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t w).2.2.1) = (start (hbM0_0.view.read (Elt F) w)).win := by
  unfold runFirst; dsimp only; sl_unfold_words
  simp only [readCov_put_same, readAt_window, read_writes_put, writes_none, Memref.IsWhole.read_unread, all256, all1024, all1]
  dsimp only [ReadAs.apply]
  exact gathered_win c w _ _ _ _ _ _ _ _ _ _ _ _ _ _ _ _ _

/-- The gathered output projection. -/
theorem first_wout (hc0 : cond0_0 i) (hc1 : ¬cond0_1 i) (t : Tile F) (w : HbBuf0 (F := F) c hbM0_0) (f : arg17.view.ty.Contents (Elt F)) :
    arg17.view.read (Elt F) (arg17.view.writes (Elt F) f (runFirst c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t w).2.2.2.1) = (start (hbM0_0.view.read (Elt F) w)).wout := by
  unfold runFirst; dsimp only; sl_unfold_words
  simp only [readCov_put_same, readAt_window, read_writes_put, writes_none, Memref.IsWhole.read_unread, all256, all1024, all1]
  dsimp only [ReadAs.apply]
  exact gathered_wout c w _ _ _ _ _ _ _ _ _ _ _ _ _ _ _ _ _

/-- What the first point leaves in the tile of the gradient at the input. -/
theorem first_dx (hc0 : cond0_0 i) (hc1 : ¬cond0_1 i) (t : Tile F) (w : HbBuf0 (F := F) c hbM0_0) (f : arg12.view.ty.Contents (Elt F)) :
    arg12.view.read (Elt F) (arg12.view.writes (Elt F) f (runFirst c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t w).1) = dx (start (hbM0_0.view.read (Elt F) w)) t := by
  unfold runFirst; dsimp only; sl_unfold_words
  unfold dx gc gv gcv2; rw [ahead0_eq]
  refine (View.read_writes_full arg12.view _ _ _ _).trans ?_
  simp only [readCov_put_same, readAt_window, read_writes_put, writes_none, Memref.IsWhole.read_unread, all256, all1024, all1]
  simp only [readCov_window]
  simp only [readCov_put_same, readAt_window, read_writes_put, writes_none, Memref.IsWhole.read_unread, all256, all1024, all1]
  dsimp only [ReadAs.apply]
  repeat rw [gathered_wout c w]
  repeat rw [gathered_win c w]
  repeat rw [line_start (hbM0_0.view.read (Elt F) w)]
  repeat rw [put_all8]
  repeat rw [put_all3072]
  repeat rw [put_all1024]
  repeat rw [all1024]
  rfl

/-- What it leaves in the running row sums. -/
theorem first_sums (hc0 : cond0_0 i) (hc1 : ¬cond0_1 i) (t : Tile F) (w : HbBuf0 (F := F) c hbM0_0) (f : arg13.view.ty.Contents (Elt F)) :
    arg13.view.read (Elt F) (arg13.view.writes (Elt F) f (runFirst c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t w).2.1) = nextSums (start (hbM0_0.view.read (Elt F) w)) t := by
  unfold runFirst; dsimp only; sl_unfold_words
  unfold nextSums sums1 sums2 sums3 gc gv gcv2; rw [ahead0_eq]
  simp only [readCov_put_same, readAt_window, read_writes_put, writes_none, Memref.IsWhole.read_unread, all256, all1024, all1]
  simp only [readCov_window]
  simp only [readCov_put_same, readAt_window, read_writes_put, writes_none, Memref.IsWhole.read_unread, all256, all1024, all1]
  dsimp only [ReadAs.apply]
  repeat rw [gathered_wout c w]
  repeat rw [gathered_win c w]
  repeat rw [line_start (hbM0_0.view.read (Elt F) w)]
  repeat rw [put_all8]
  repeat rw [put_all3072]
  repeat rw [put_all1024]
  repeat rw [all1024]
  repeat rw [row0_put1]
  repeat rw [row1_put2]
  repeat rw [row0_put2]
  repeat rw [row2_put3]
  repeat rw [row1_put3]
  repeat rw [row0_put3]
  rfl

/-- What it leaves in the line. -/
theorem first_line (hc0 : cond0_0 i) (hc1 : ¬cond0_1 i) (t : Tile F) (w : HbBuf0 (F := F) c hbM0_0) (f : arg18.view.ty.Contents (Elt F)) :
    arg18.view.read (Elt F) (arg18.view.writes (Elt F) f (runFirst c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t w).2.2.2.2.1) = nextLine (start (hbM0_0.view.read (Elt F) w)) t := by
  unfold runFirst; dsimp only; sl_unfold_words
  simp only [readCov_put_same, readAt_window, read_writes_put, writes_none, Memref.IsWhole.read_unread, all256, all1024, all1]
  simp only [readCov_window]
  simp only [readCov_put_same, readAt_window, read_writes_put, writes_none, Memref.IsWhole.read_unread, all256, all1024, all1]
  dsimp only [ReadAs.apply]
  repeat rw [gathered_wout c w]
  repeat rw [gathered_win c w]
  repeat rw [line_start (hbM0_0.view.read (Elt F) w)]
  repeat rw [put_all8]
  repeat rw [put_all3072]
  repeat rw [put_all1024]
  repeat rw [all1024]
  rfl

/-- What it leaves in the running gradient of the input projection. -/
theorem first_gin (hc0 : cond0_0 i) (hc1 : ¬cond0_1 i) (t : Tile F) (w : HbBuf0 (F := F) c hbM0_0) (f : arg19.view.ty.Contents (Elt F)) :
    arg19.view.read (Elt F) (arg19.view.writes (Elt F) f (runFirst c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t w).2.2.2.2.2.1) = nextGin (start (hbM0_0.view.read (Elt F) w)) t := by
  unfold runFirst; dsimp only; sl_unfold_words
  unfold nextGin gc gv gcv2; rw [ahead0_eq]
  simp only [readCov_put_same, readAt_window, read_writes_put, writes_none, Memref.IsWhole.read_unread, all256, all1024, all1]
  simp only [readCov_window]
  simp only [readCov_put_same, readAt_window, read_writes_put, writes_none, Memref.IsWhole.read_unread, all256, all1024, all1]
  dsimp only [ReadAs.apply]
  repeat rw [gathered_wout c w]
  repeat rw [gathered_win c w]
  repeat rw [line_start (hbM0_0.view.read (Elt F) w)]
  repeat rw [put_all8]
  repeat rw [put_all3072]
  repeat rw [put_all1024]
  repeat rw [all1024]
  repeat rw [block2048_put1024]
  repeat rw [block1024_put0]
  repeat rw [block2048_put0]
  rfl

/-- What it leaves in the running gradient of the output projection. -/
theorem first_gout (hc0 : cond0_0 i) (hc1 : ¬cond0_1 i) (t : Tile F) (w : HbBuf0 (F := F) c hbM0_0) (f : arg20.view.ty.Contents (Elt F)) :
    arg20.view.read (Elt F) (arg20.view.writes (Elt F) f (runFirst c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t w).2.2.2.2.2.2.1) = nextGout (start (hbM0_0.view.read (Elt F) w)) t := by
  unfold runFirst; dsimp only; sl_unfold_words
  refine (View.read_writes_full arg20.view _ _ _ _).trans ?_
  simp only [readCov_put_same, readAt_window, read_writes_put, writes_none, Memref.IsWhole.read_unread, all256, all1024, all1]
  rfl

end Cert.KernelIdeal.Mixer

end
-- ==== Proof.RunMid.lean ====
module

public import proofs.«01_k».proof.Proof.Hold

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S1x1024 .f32) (harg8 : arg8.IsWhole)
  (arg9 : Memref sig .tc .vmem S3x1024 .f32) (harg9 : arg9.IsWhole) (arg12 : Memref sig .tc .vmem S256x1024 .f32) (harg12 : arg12.IsWhole)
  (arg13 : Memref sig .tc .vmem S8x1024 .f32) (harg13 : arg13.IsWhole) (arg16 : Memref sig .tc .vmem S3072x1024 .bf16) (harg16 : arg16.IsWhole)
  (arg17 : Memref sig .tc .vmem S1024x1024 .bf16) (harg17 : arg17.IsWhole) (arg18 : Memref sig .tc .vmem S264x1024 .f32) (harg18 : arg18.IsWhole)
  (arg19 : Memref sig .tc .vmem S3072x1024 .f32) (harg19 : arg19.IsWhole) (arg20 : Memref sig .tc .vmem S1024x1024 .f32) (harg20 : arg20.IsWhole)
  (arg21 : Memref sig .tc .vmem S1024x1024 .bf16) (harg21 : arg21.IsWhole)

set_option maxHeartbeats 40000000 in
/-- A point that is neither the first nor the last: what its stores leave in the buffers it writes, as pieces (the last
store first), with the proof that its body, from its nine blocks and the kept buffers at `s`, ends with those pieces
written and the two weights as they were. -/
def runMid (hc0 : ¬cond0_0 i) (hc1 : ¬cond0_1 i) (t : Tile F) (s : Carry F) :
    Σ' (L9 : List (View.Piece (Elt F) S256x1024 .f32)), Σ' (L10 : List (View.Piece (Elt F) S8x1024 .f32)), Σ' (LS2 : List (View.Piece (Elt F) S264x1024 .f32)),
    Σ' (LS3 : List (View.Piece (Elt F) S3072x1024 .f32)), { LS4 : List (View.Piece (Elt F) S1024x1024 .f32) //
      ∀ (K : PUnit → sProp 𝕄),
        iprop(tileHeld c arg1 arg2 arg3 arg4 arg5 arg6 arg7 arg8 arg9 t ∗ (∃ d, owns (c : Thread nD τ) arg12 fullShare d)
            ∗ carryHeld c arg13 arg16 arg17 arg18 arg19 arg20 s
            ∗ (iprop(tileHeld c arg1 arg2 arg3 arg4 arg5 arg6 arg7 arg8 arg9 t
              ∗ (∃ f, arg12.view.loc (c : Thread nD τ) ↦[arg12.view.set]{fullShare} arg12.view.writes (Elt F) f L9)
              ∗ (arg13.view.loc (c : Thread nD τ) ↦[arg13.view.set]{fullShare} arg13.view.writes (Elt F) (harg13.unread s.sums) L10)
              ∗ owns (c : Thread nD τ) arg16 fullShare s.win ∗ owns (c : Thread nD τ) arg17 fullShare s.wout
              ∗ (arg18.view.loc (c : Thread nD τ) ↦[arg18.view.set]{fullShare} arg18.view.writes (Elt F) (harg18.unread s.line) LS2)
              ∗ (arg19.view.loc (c : Thread nD τ) ↦[arg19.view.set]{fullShare} arg19.view.writes (Elt F) (harg19.unread s.gin) LS3)
              ∗ (arg20.view.loc (c : Thread nD τ) ↦[arg20.view.set]{fullShare} arg20.view.writes (Elt F) (harg20.unread s.gout) LS4)) -∗ K ⟨⟩))
        ⊢ wp frame (wpE (defs₀ (F := F)) Variants.none c none) Set.univ (cc0_mixa_bwd i arg1 harg1 arg2 harg2 arg3 harg3 arg4 harg4 arg5 harg5 arg6 harg6 arg7 harg7 arg8 harg8 arg9 harg9
          (Memref.whole main_v39) (Memref.isWhole_whole _) (Memref.whole main_v40) (Memref.isWhole_whole _) arg12 harg12 arg13 harg13
          (Memref.whole main_v46_2) (Memref.isWhole_whole _) (Memref.whole main_v46_3) (Memref.isWhole_whole _) arg16 harg16 arg17 harg17 arg18 harg18
          arg19 harg19 arg20 harg20 arg21 harg21 cc0_scratch6 cc0_scratch7) K } := by
  refine ⟨?_, ?_, ?_, ?_, ?_, fun K => ?run⟩
  case run =>
    simp only [cc0_mixa_bwd_eq_skeleton]; unfold cc0_mixa_bwd_skel
    simp only [k0_part7_eq_skeleton, k0_part8_eq_skeleton, k0_part9_eq_skeleton, k0_part10_eq_skeleton]
    unfold tileHeld carryHeld owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩,
      ⟨⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg13.eq_unread hf10; obtain rfl := harg16.eq_unread hfs0; obtain rfl := harg17.eq_unread hfs1; obtain rfl := harg18.eq_unread hfs2; obtain rfl := harg19.eq_unread hfs3; obtain rfl := harg20.eq_unread hfs4
    sl_exec (disch := first | sl_exact hc0 | sl_exact hc1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      iexists _; isplitr; · ipureintro; exact harg9.read_unread _
      iexact H8
    isplitl [H9]; · iexists _; iexact H9
    isplitl [H10]; · iexact H10
    isplitl [HS0]
    · iexists _; isplitr; · ipureintro; exact harg16.read_unread _
      iexact HS0
    isplitl [HS1]
    · iexists _; isplitr; · ipureintro; exact harg17.read_unread _
      iexact HS1
    isplitl [HS2]; · iexact HS2
    isplitl [HS3]; · iexact HS3
    iexact HS4

end Cert.KernelIdeal.Mixer

end
-- ==== Proof.PostMid.lean ====
module

public import proofs.«01_k».proof.Proof.RunMid
public import proofs.«01_k».proof.Proof.Reads

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S1x1024 .f32) (harg8 : arg8.IsWhole)
  (arg9 : Memref sig .tc .vmem S3x1024 .f32) (harg9 : arg9.IsWhole) (arg12 : Memref sig .tc .vmem S256x1024 .f32) (harg12 : arg12.IsWhole)
  (arg13 : Memref sig .tc .vmem S8x1024 .f32) (harg13 : arg13.IsWhole) (arg16 : Memref sig .tc .vmem S3072x1024 .bf16) (harg16 : arg16.IsWhole)
  (arg17 : Memref sig .tc .vmem S1024x1024 .bf16) (harg17 : arg17.IsWhole) (arg18 : Memref sig .tc .vmem S264x1024 .f32) (harg18 : arg18.IsWhole)
  (arg19 : Memref sig .tc .vmem S3072x1024 .f32) (harg19 : arg19.IsWhole) (arg20 : Memref sig .tc .vmem S1024x1024 .f32) (harg20 : arg20.IsWhole)
  (arg21 : Memref sig .tc .vmem S1024x1024 .bf16) (harg21 : arg21.IsWhole)

/-- What the point leaves in the tile of the gradient at the input. -/
theorem mid_dx (hc0 : ¬cond0_0 i) (hc1 : ¬cond0_1 i) (t : Tile F) (s : Carry F) (f : arg12.view.ty.Contents (Elt F)) :
    arg12.view.read (Elt F) (arg12.view.writes (Elt F) f (runMid c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s).1) = dx s t := by
  unfold runMid; dsimp only; sl_unfold_words
  unfold dx gc gv gcv2; rw [ahead0_eq]
  refine (View.read_writes_full arg12.view f _ _ _).trans ?_
  simp only [readCov_put_same, readAt_window, read_writes_put, writes_none, Memref.IsWhole.read_unread, all256, all1024, all1]
  rfl

/-- What it leaves in the running row sums. -/
theorem mid_sums (hc0 : ¬cond0_0 i) (hc1 : ¬cond0_1 i) (t : Tile F) (s : Carry F) :
    arg13.view.read (Elt F) (arg13.view.writes (Elt F) (harg13.unread s.sums) (runMid c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s).2.1) = nextSums s t := by
  unfold runMid; dsimp only; sl_unfold_words
  unfold nextSums sums1 sums2 sums3 gc gv gcv2; rw [ahead0_eq]
  simp only [readCov_put_same, readAt_window, read_writes_put, writes_none, Memref.IsWhole.read_unread, all256, all1024, all1]
  rfl

/-- What it leaves in the line. -/
theorem mid_line (hc0 : ¬cond0_0 i) (hc1 : ¬cond0_1 i) (t : Tile F) (s : Carry F) :
    arg18.view.read (Elt F) (arg18.view.writes (Elt F) (harg18.unread s.line) (runMid c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s).2.2.1) = nextLine s t := by
  rw [nextLine_eq s t (arg18.view.read (Elt F) arg18.view.junk)]
  unfold runMid; dsimp only; sl_unfold_words
  simp only [readCov_put_same, readAt_window, read_writes_put, writes_none, Memref.IsWhole.read_unread, all256, all1024, all1]
  rw [readCov_window]
  simp only [readCov_put_same, readAt_window, read_writes_put, writes_none, Memref.IsWhole.read_unread, all256, all1024, all1]
  rfl

/-- What it leaves in the running gradient of the input projection. -/
theorem mid_gin (hc0 : ¬cond0_0 i) (hc1 : ¬cond0_1 i) (t : Tile F) (s : Carry F) :
    arg19.view.read (Elt F) (arg19.view.writes (Elt F) (harg19.unread s.gin) (runMid c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s).2.2.2.1) = nextGin s t := by
  unfold runMid; dsimp only; sl_unfold_words
  unfold nextGin gc gv gcv2; rw [ahead0_eq]
  simp only [readCov_put_same, readAt_window, read_writes_put, writes_none, Memref.IsWhole.read_unread, all256, all1024, all1]
  rfl

/-- What it leaves in the running gradient of the output projection. -/
theorem mid_gout (hc0 : ¬cond0_0 i) (hc1 : ¬cond0_1 i) (t : Tile F) (s : Carry F) :
    arg20.view.read (Elt F) (arg20.view.writes (Elt F) (harg20.unread s.gout) (runMid c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s).2.2.2.2.1) = nextGout s t := by
  unfold runMid; dsimp only; sl_unfold_words
  refine (View.read_writes_full arg20.view _ _ _ _).trans ?_
  simp only [readCov_put_same, readAt_window, read_writes_put, writes_none, Memref.IsWhole.read_unread, all256, all1024, all1]
  rfl

end Cert.KernelIdeal.Mixer

end
-- ==== Proof.RunLast.lean ====
module

public import proofs.«01_k».proof.Proof.Hold

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S1x1024 .f32) (harg8 : arg8.IsWhole)
  (arg9 : Memref sig .tc .vmem S3x1024 .f32) (harg9 : arg9.IsWhole) (arg12 : Memref sig .tc .vmem S256x1024 .f32) (harg12 : arg12.IsWhole)
  (arg13 : Memref sig .tc .vmem S8x1024 .f32) (harg13 : arg13.IsWhole) (arg16 : Memref sig .tc .vmem S3072x1024 .bf16) (harg16 : arg16.IsWhole)
  (arg17 : Memref sig .tc .vmem S1024x1024 .bf16) (harg17 : arg17.IsWhole) (arg18 : Memref sig .tc .vmem S264x1024 .f32) (harg18 : arg18.IsWhole)
  (arg19 : Memref sig .tc .vmem S3072x1024 .f32) (harg19 : arg19.IsWhole) (arg20 : Memref sig .tc .vmem S1024x1024 .f32) (harg20 : arg20.IsWhole)
  (arg21 : Memref sig .tc .vmem S1024x1024 .bf16) (harg21 : arg21.IsWhole)

set_option maxHeartbeats 40000000 in
/-- The last point: what its stores leave in the buffers it writes and its four copies in the two weight gradients, as
pieces (the last first), with the proof that its body ends with those pieces written. -/
def runLast (hc0 : ¬cond0_0 i) (hc1 : cond0_1 i) (t : Tile F) (s : Carry F) (stage : Vec F S1024x1024 .bf16) :
    Σ' (L9 : List (View.Piece (Elt F) S256x1024 .f32)), Σ' (L10 : List (View.Piece (Elt F) S8x1024 .f32)), Σ' (LS2 : List (View.Piece (Elt F) S264x1024 .f32)),
    Σ' (LS3 : List (View.Piece (Elt F) S3072x1024 .f32)), Σ' (LS4 : List (View.Piece (Elt F) S1024x1024 .f32)),
    Σ' (LG2 : List (View.Piece (Elt F) S3072x1024 .bf16)), { LG3 : List (View.Piece (Elt F) S1024x1024 .bf16) //
      ∀ (W : Waits sig Unit) (K : PUnit → sProp 𝕄) (g2 : HbBuf0 (F := F) c hbM0_2) (g3 : HbBuf0 (F := F) c hbM0_3),
        iprop(tileHeld c arg1 arg2 arg3 arg4 arg5 arg6 arg7 arg8 arg9 t ∗ (∃ d, owns (c : Thread nD τ) arg12 fullShare d)
            ∗ carryHeld c arg13 arg16 arg17 arg18 arg19 arg20 s
            ∗ owns (c : Thread nD τ) arg21 fullShare stage ∗ outCells c ∗ hbPt0 c hbM0_2 g2 ∗ hbPt0 c hbM0_3 g3 ∗ owes (c : Thread nD τ) 0 W
            ∗ (iprop(tileHeld c arg1 arg2 arg3 arg4 arg5 arg6 arg7 arg8 arg9 t
              ∗ (∃ f, arg12.view.loc (c : Thread nD τ) ↦[arg12.view.set]{fullShare} arg12.view.writes (Elt F) f L9)
              ∗ (arg13.view.loc (c : Thread nD τ) ↦[arg13.view.set]{fullShare} arg13.view.writes (Elt F) (harg13.unread s.sums) L10)
              ∗ owns (c : Thread nD τ) arg16 fullShare s.win ∗ owns (c : Thread nD τ) arg17 fullShare s.wout
              ∗ (arg18.view.loc (c : Thread nD τ) ↦[arg18.view.set]{fullShare} arg18.view.writes (Elt F) (harg18.unread s.line) LS2)
              ∗ (arg19.view.loc (c : Thread nD τ) ↦[arg19.view.set]{fullShare} arg19.view.writes (Elt F) (harg19.unread s.gin) LS3)
              ∗ (arg20.view.loc (c : Thread nD τ) ↦[arg20.view.set]{fullShare} arg20.view.writes (Elt F) (harg20.unread s.gout) LS4)
              ∗ (∃ d, owns (c : Thread nD τ) arg21 fullShare d) ∗ outCells c
              ∗ hbPt0 c hbM0_2 (hbM0_2.view.writes (Elt F) g2 LG2) ∗ hbPt0 c hbM0_3 (hbM0_3.view.writes (Elt F) g3 LG3)
              ∗ (∃ W', owes (c : Thread nD τ) 0 W')) -∗ K ⟨⟩))
        ⊢ wp frame (wpE (defs₀ (F := F)) Variants.none c none) Set.univ (cc0_mixa_bwd i arg1 harg1 arg2 harg2 arg3 harg3 arg4 harg4 arg5 harg5 arg6 harg6 arg7 harg7 arg8 harg8 arg9 harg9
          (Memref.whole main_v39) (Memref.isWhole_whole _) (Memref.whole main_v40) (Memref.isWhole_whole _) arg12 harg12 arg13 harg13
          (Memref.whole main_v46_2) (Memref.isWhole_whole _) (Memref.whole main_v46_3) (Memref.isWhole_whole _) arg16 harg16 arg17 harg17 arg18 harg18
          arg19 harg19 arg20 harg20 arg21 harg21 cc0_scratch6 cc0_scratch7) K } := by
  refine ⟨?_, ?_, ?_, ?_, ?_, ?_, ?_, fun W K g2 g3 => ?run⟩
  case run =>
    simp only [cc0_mixa_bwd_eq_skeleton]; unfold cc0_mixa_bwd_skel
    simp only [k0_part7_eq_skeleton, k0_part8_eq_skeleton, k0_part9_eq_skeleton, k0_part10_eq_skeleton, k0_part6_eq_skeleton]
    unfold tileHeld carryHeld outCells owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩,
      ⟨⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩⟩,
      ⟨%fs5, %hfs5, HS5⟩, ⟨Hq16, Hq17, Hq18, Hq19⟩, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg13.eq_unread hf10; obtain rfl := harg16.eq_unread hfs0; obtain rfl := harg17.eq_unread hfs1; obtain rfl := harg18.eq_unread hfs2; obtain rfl := harg19.eq_unread hfs3; obtain rfl := harg20.eq_unread hfs4; obtain rfl := harg21.eq_unread hfs5
    sl_exec (disch := first | sl_exact hc0 | sl_exact hc1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      iexists _; isplitr; · ipureintro; exact harg9.read_unread _
      iexact H8
    isplitl [H9]; · iexists _; iexact H9
    isplitl [H10]; · iexact H10
    isplitl [HS0]
    · iexists _; isplitr; · ipureintro; exact harg16.read_unread _
      iexact HS0
    isplitl [HS1]
    · iexists _; isplitr; · ipureintro; exact harg17.read_unread _
      iexact HS1
    isplitl [HS2]; · iexact HS2
    isplitl [HS3]; · iexact HS3
    isplitl [HS4]; · iexact HS4
    isplitl [HS5]
    · iexists _, _; isplitr; swap; · iexact HS5
      ipureintro; rfl
    isplitl [Hq16 Hq17 Hq18 Hq19]
    · isplitl [Hq16]; · iexact Hq16
      isplitl [Hq17]; · iexact Hq17
      isplitl [Hq18]; · iexact Hq18
      iexact Hq19
    isplitl [Hh2]; · iexact Hh2
    isplitl [Hh3]; · iexact Hh3
    iexists _; iexact HW

end Cert.KernelIdeal.Mixer

end
-- ==== Proof.PostLast.lean ====
module

public import proofs.«01_k».proof.Proof.RunLast
public import proofs.«01_k».proof.Proof.Reads

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S1x1024 .f32) (harg8 : arg8.IsWhole)
  (arg9 : Memref sig .tc .vmem S3x1024 .f32) (harg9 : arg9.IsWhole) (arg12 : Memref sig .tc .vmem S256x1024 .f32) (harg12 : arg12.IsWhole)
  (arg13 : Memref sig .tc .vmem S8x1024 .f32) (harg13 : arg13.IsWhole) (arg16 : Memref sig .tc .vmem S3072x1024 .bf16) (harg16 : arg16.IsWhole)
  (arg17 : Memref sig .tc .vmem S1024x1024 .bf16) (harg17 : arg17.IsWhole) (arg18 : Memref sig .tc .vmem S264x1024 .f32) (harg18 : arg18.IsWhole)
  (arg19 : Memref sig .tc .vmem S3072x1024 .f32) (harg19 : arg19.IsWhole) (arg20 : Memref sig .tc .vmem S1024x1024 .f32) (harg20 : arg20.IsWhole)
  (arg21 : Memref sig .tc .vmem S1024x1024 .bf16) (harg21 : arg21.IsWhole)

/-- What the point leaves in the tile of the gradient at the input. -/
theorem last_dx (hc0 : ¬cond0_0 i) (hc1 : cond0_1 i) (t : Tile F) (s : Carry F) (stage : Vec F S1024x1024 .bf16) (f : arg12.view.ty.Contents (Elt F)) :
    arg12.view.read (Elt F) (arg12.view.writes (Elt F) f (runLast c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s stage).1) = dx s t := by
  unfold runLast; dsimp only; sl_unfold_words
  unfold dx gc gv gcv2; rw [ahead0_eq]
  refine (View.read_writes_full arg12.view f _ _ _).trans ?_
  simp only [readCov_put_same, readAt_window, read_writes_put, writes_none, Memref.IsWhole.read_unread, all256, all1024, all1]
  rfl

/-- What it leaves in the running row sums. -/
theorem last_sums (hc0 : ¬cond0_0 i) (hc1 : cond0_1 i) (t : Tile F) (s : Carry F) (stage : Vec F S1024x1024 .bf16) :
    arg13.view.read (Elt F) (arg13.view.writes (Elt F) (harg13.unread s.sums) (runLast c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s stage).2.1) = nextSums s t := by
  unfold runLast; dsimp only; sl_unfold_words
  unfold nextSums sums1 sums2 sums3 gc gv gcv2; rw [ahead0_eq]
  simp only [readCov_put_same, readAt_window, read_writes_put, writes_none, Memref.IsWhole.read_unread, all256, all1024, all1]
  rfl

/-- What it leaves in the line. -/
theorem last_line (hc0 : ¬cond0_0 i) (hc1 : cond0_1 i) (t : Tile F) (s : Carry F) (stage : Vec F S1024x1024 .bf16) :
    arg18.view.read (Elt F) (arg18.view.writes (Elt F) (harg18.unread s.line) (runLast c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s stage).2.2.1) = nextLine s t := by
  rw [nextLine_eq s t (arg18.view.read (Elt F) arg18.view.junk)]
  unfold runLast; dsimp only; sl_unfold_words
  simp only [readCov_put_same, readAt_window, read_writes_put, writes_none, Memref.IsWhole.read_unread, all256, all1024, all1]
  rw [readCov_window]
  simp only [readCov_put_same, readAt_window, read_writes_put, writes_none, Memref.IsWhole.read_unread, all256, all1024, all1]
  rfl

/-- What it leaves in the running gradient of the input projection. -/
theorem last_gin (hc0 : ¬cond0_0 i) (hc1 : cond0_1 i) (t : Tile F) (s : Carry F) (stage : Vec F S1024x1024 .bf16) :
    arg19.view.read (Elt F) (arg19.view.writes (Elt F) (harg19.unread s.gin) (runLast c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s stage).2.2.2.1) = nextGin s t := by
  unfold runLast; dsimp only; sl_unfold_words
  unfold nextGin gc gv gcv2; rw [ahead0_eq]
  simp only [readCov_put_same, readAt_window, read_writes_put, writes_none, Memref.IsWhole.read_unread, all256, all1024, all1]
  rfl

/-- What it leaves in the running gradient of the output projection. -/
theorem last_gout (hc0 : ¬cond0_0 i) (hc1 : cond0_1 i) (t : Tile F) (s : Carry F) (stage : Vec F S1024x1024 .bf16) :
    arg20.view.read (Elt F) (arg20.view.writes (Elt F) (harg20.unread s.gout) (runLast c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s stage).2.2.2.2.1) = nextGout s t := by
  unfold runLast; dsimp only; sl_unfold_words
  refine (View.read_writes_full arg20.view _ _ _ _).trans ?_
  simp only [readCov_put_same, readAt_window, read_writes_put, writes_none, Memref.IsWhole.read_unread, all256, all1024, all1]
  rfl

/-- The input projection's gradient the last point writes out: its running gradient's three blocks, each rounded. -/
theorem last_ginOut (hc0 : ¬cond0_0 i) (hc1 : cond0_1 i) (t : Tile F) (s : Carry F) (stage : Vec F S1024x1024 .bf16) (g : HbBuf0 (F := F) c hbM0_2) :
    hbM0_2.view.read (Elt F) (hbM0_2.view.writes (Elt F) g (runLast c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s stage).2.2.2.2.2.1) = ginOut (next s t) := by
  unfold runLast; dsimp only; sl_unfold_words
  unfold ginOut next nextGin gc gv gcv2; dsimp only; rw [ahead0_eq]
  simp only [readCov_put_same, readAt_window, read_writes_put, writes_none, Memref.IsWhole.read_unread, all256, all1024, all1]
  simp only [readCov_window]
  simp only [readCov_put_same, readAt_window, read_writes_put, writes_none, Memref.IsWhole.read_unread, all256, all1024, all1]
  dsimp only [ReadAs.apply]
  simp only [put_all1024, stack3_0, stack3_1]
  exact stack3_round _ _ _ _ _

/-- The output projection's gradient the last point writes out: its running gradient, rounded. -/
theorem last_goutOut (hc0 : ¬cond0_0 i) (hc1 : cond0_1 i) (t : Tile F) (s : Carry F) (stage : Vec F S1024x1024 .bf16) (g : HbBuf0 (F := F) c hbM0_3) :
    hbM0_3.view.read (Elt F) (hbM0_3.view.writes (Elt F) g (runLast c i arg1 harg1 arg2 harg2 arg3 harg3 arg4 harg4 arg5 harg5 arg6 harg6 arg7 harg7 arg8 harg8 arg9 harg9 arg12 harg12 arg13 harg13 arg16 harg16 arg17 harg17 arg18 harg18 arg19 harg19 arg20 harg20 arg21 harg21 hc0 hc1 t s stage).2.2.2.2.2.2.1) = goutOut (next s t) := by
  unfold runLast; dsimp only; sl_unfold_words
  refine (View.read_writes_full hbM0_3.view _ _ _ _).trans ?_
  simp only [readCov_put_same, readAt_window, read_writes_put, writes_none, Memref.IsWhole.read_unread, all256, all1024, all1]
  dsimp only [ReadAs.apply]
  simp only [put_all1024]
  rfl

end Cert.KernelIdeal.Mixer

end
-- ==== Proof.Launch.lean ====
module

public import proofs.«01_k».proof.Proof.PostFirst
public import proofs.«01_k».proof.Proof.PostMid
public import proofs.«01_k».proof.Proof.PostLast
public import Idealize.ShloMosaic.Lib.Pipeline.FrameValue
public import Idealize.ShloMosaic.Lib.Claim

@[expose] public section

set_option maxRecDepth 16384

noncomputable section

/-! # The whole launch

The sixteen points in order, each from what the point before left; then the run of @main, with every array it writes named. -/

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The nine blocks point `t` reads. -/
def tile (c : Dev nD) (t : Fin cfg0.N) : Tile F where
  dh := iblk m c 0 t
  x := iblk m c 1 t
  b := iblk m c 2 t
  cgate := iblk m c 3 t
  v := iblk m c 4 t
  conv := iblk m c 5 t
  y := iblk m c 6 t
  gamma := iblk m c 7 t
  taps := iblk m c 8 t

/-- What point `n` starts from. -/
def stateAt (c : Dev nD) : ℕ → Carry F
  | 0 => start (hbM0_0.view.read (Elt F) (V m c main_v39))
  | n + 1 => if h : n < cfg0.N then next (stateAt c n) (tile m c ⟨n, h⟩) else stateAt c n

/-- Point `t` takes one step. -/
theorem stateAt_succ (c : Dev nD) (t : Fin cfg0.N) : stateAt m c (t.val + 1) = next (stateAt m c t.val) (tile m c t) := dif_pos t.isLt

/-- The arrays as the region leaves them: the two weight gradients the last point copies out, everything else as it was. -/
def finalOf (c : Dev nD) : (b : Ref sig .tc) → Buf (Elt F) ((c.tc : Thread nD τ).loc b) :=
  Function.update (Function.update (V m c) main_v46_2 ((Memref.isWhole_whole main_v46_2).unread (ginOut (stateAt m c 16))))
    main_v46_3 ((Memref.isWhole_whole main_v46_3).unread (goutOut (stateAt m c 16)))

/-- The arrays the body writes by its own copies, before point `n`. -/
def outsAt (c : Dev nD) (n : ℕ) (b : Ref sig .tc) : Buf (Elt F) ((c.tc : Thread nD τ).loc b) := if n = 16 then finalOf m c b else V m c b

/-- Before the end they are as they were. -/
theorem outsAt_lt (c : Dev nD) (n : ℕ) (h : n < 16) (b : Ref sig .tc) : outsAt m c n b = V m c b := if_neg (by omega)

/-- At the end they are final. -/
theorem outsAt_end (c : Dev nD) (b : Ref sig .tc) : outsAt m c 16 b = finalOf m c b := if_pos rfl

/-- The input projection's gradient at the end. -/
theorem finalOf_gin (c : Dev nD) : finalOf m c main_v46_2 = (Memref.isWhole_whole main_v46_2).unread (ginOut (stateAt m c 16)) := by
  unfold finalOf; rw [Function.update_of_ne (by decide), Function.update_self]

/-- The output projection's gradient at the end. -/
theorem finalOf_gout (c : Dev nD) : finalOf m c main_v46_3 = (Memref.isWhole_whole main_v46_3).unread (goutOut (stateAt m c 16)) := by
  unfold finalOf; rw [Function.update_self]

/-- What the region owns between two points, the buffers kept between them at `s` and the two gradients' arrays at `g`. -/
def between (c : Dev nD) (s : Carry F) (g : (b : Ref sig .tc) → Buf (Elt F) ((c.tc : Thread nD τ).loc b)) : sProp 𝕄 :=
  iprop(iprop(owns (c : Thread nD τ) scM0_0 fullShare s.win ∗ owns (c : Thread nD τ) scM0_1 fullShare s.wout ∗ owns (c : Thread nD τ) scM0_2 fullShare s.line
      ∗ owns (c : Thread nD τ) scM0_3 fullShare s.gin ∗ owns (c : Thread nD τ) scM0_4 fullShare s.gout ∗ (∃ d, owns (c : Thread nD τ) scM0_5 fullShare d))
    ∗ (∃ r, prngReg c r) ∗ inCells c ∗ outCells c
    ∗ iprop(hbPt0 c hbM0_0 (V m c main_v39) ∗ hbPt0 c hbM0_1 (V m c main_v40))
    ∗ iprop(hbPt0 c hbM0_2 (g main_v46_2) ∗ hbPt0 c hbM0_3 (g main_v46_3)))

/-- The invariant: before the first point what the launch hands over, later `between` at the point's state. -/
def Phi (c : Dev nD) : ℕ → sProp 𝕄
  | 0 => Pipeline.ΦDRG osem0 spec0 H0 R0 (V m) (V m) c
  | n + 1 => between m c (stateAt m c (n + 1)) (outsAt m c (n + 1))

/-- The two written arrays, listed. -/
theorem routed_eq (c : Dev nD) (g : (b : Ref sig .tc) → Buf (Elt F) ((c.tc : Thread nD τ).loc b)) :
    (Pipeline.routed (Val := Elt F) R0 c g : sProp 𝕄) = iprop(hbPt0 c hbM0_2 (g main_v46_2) ∗ hbPt0 c hbM0_3 (g main_v46_3)) := by
  unfold Pipeline.routed; rw [BI.bigSep_eq_bigSepL_of_eq [main_v46_2, main_v46_3] (by decide) (by decide)]; rfl

/-- What the launch hands over and takes back, conjunct by conjunct. -/
theorem entry_eq (c : Dev nD) (G : (c : Dev nD) → (b : Ref sig .tc) → Buf (Elt F) ((c.tc : Thread nD τ).loc b)) :
    (Pipeline.ΦDRG osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d))
        ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
        ∗ iprop(hbPt0 c hbM0_0 (V m c main_v39) ∗ hbPt0 c hbM0_1 (V m c main_v40)) ∗ iprop(hbPt0 c hbM0_2 (G c main_v46_2) ∗ hbPt0 c hbM0_3 (G c main_v46_3))) := by
  rw [Pipeline.ΦDRG_eq, scopedRest0_eq, ownSems00_eq, hbmPts0_eq, routed_eq]; simp only [scM0_0, scM0_1, scM0_2, scM0_3, scM0_4, scM0_5, owns_whole]; rfl

/-! ## The proof data -/

/-- Each input's buffer keeps its block; the tile's output is `dx`, the row sums those the next point starts from. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dx (stateAt m c t.val) (tile m c t)
    | ⟨10, _⟩ => (stateAt m c (t.val + 1)).sums
  Φ t := Phi m c t.val
  q _ := fullShare
  owed _ := 0

/-- The proof data's arrays are the region's at its entry. -/
theorem A_eq (c : Dev nD) (w : Fin cfg0.W) : (dats m 0 c).A w = V m c (Pipeline.arrRef spec0 w) := by
  dsimp only [dats]

/-- What the body leaves in input 0's buffer, and in the others' below. -/
theorem after_0 (c : Dev nD) (t : Fin cfg0.N) : (dats m 0 c).after 0 t = iblk m c 0 t := by dsimp only [dats]
/-- Input 1. -/
theorem after_1 (c : Dev nD) (t : Fin cfg0.N) : (dats m 0 c).after 1 t = iblk m c 1 t := by dsimp only [dats]
/-- Input 2. -/
theorem after_2 (c : Dev nD) (t : Fin cfg0.N) : (dats m 0 c).after 2 t = iblk m c 2 t := by dsimp only [dats]
/-- Input 3. -/
theorem after_3 (c : Dev nD) (t : Fin cfg0.N) : (dats m 0 c).after 3 t = iblk m c 3 t := by dsimp only [dats]
/-- Input 4. -/
theorem after_4 (c : Dev nD) (t : Fin cfg0.N) : (dats m 0 c).after 4 t = iblk m c 4 t := by dsimp only [dats]
/-- Input 5. -/
theorem after_5 (c : Dev nD) (t : Fin cfg0.N) : (dats m 0 c).after 5 t = iblk m c 5 t := by dsimp only [dats]
/-- Input 6. -/
theorem after_6 (c : Dev nD) (t : Fin cfg0.N) : (dats m 0 c).after 6 t = iblk m c 6 t := by dsimp only [dats]
/-- Input 7. -/
theorem after_7 (c : Dev nD) (t : Fin cfg0.N) : (dats m 0 c).after 7 t = iblk m c 7 t := by dsimp only [dats]
/-- Input 8. -/
theorem after_8 (c : Dev nD) (t : Fin cfg0.N) : (dats m 0 c).after 8 t = iblk m c 8 t := by dsimp only [dats]
/-- The tile of the gradient at the input. -/
theorem after_9 (c : Dev nD) (t : Fin cfg0.N) : (dats m 0 c).after 9 t = dx (stateAt m c t.val) (tile m c t) := by dsimp only [dats]
/-- The row sums. -/
theorem after_10 (c : Dev nD) (t : Fin cfg0.N) : (dats m 0 c).after 10 t = (stateAt m c (t.val + 1)).sums := by dsimp only [dats]

/-- Input 0's buffer holds its block at every point. -/
theorem before_0 (c : Dev nD) (t : Fin cfg0.N) (d) : (dats m 0 c).before 0 t d = (tile m c t).dh :=
  before0_0_of m (dats m 0 c) (A_eq m c 0) (after_0 m c) t d
/-- Input 1's buffer holds its block at every point. -/
theorem before_1 (c : Dev nD) (t : Fin cfg0.N) (d) : (dats m 0 c).before 1 t d = (tile m c t).x :=
  before0_1_of m (dats m 0 c) (A_eq m c 1) (after_1 m c) t d
/-- Input 2's buffer holds its block at every point. -/
theorem before_2 (c : Dev nD) (t : Fin cfg0.N) (d) : (dats m 0 c).before 2 t d = (tile m c t).b :=
  before0_2_of m (dats m 0 c) (A_eq m c 2) (after_2 m c) t d
/-- Input 3's buffer holds its block at every point. -/
theorem before_3 (c : Dev nD) (t : Fin cfg0.N) (d) : (dats m 0 c).before 3 t d = (tile m c t).cgate :=
  before0_3_of m (dats m 0 c) (A_eq m c 3) (after_3 m c) t d
/-- Input 4's buffer holds its block at every point. -/
theorem before_4 (c : Dev nD) (t : Fin cfg0.N) (d) : (dats m 0 c).before 4 t d = (tile m c t).v :=
  before0_4_of m (dats m 0 c) (A_eq m c 4) (after_4 m c) t d
/-- Input 5's buffer holds its block at every point. -/
theorem before_5 (c : Dev nD) (t : Fin cfg0.N) (d) : (dats m 0 c).before 5 t d = (tile m c t).conv :=
  before0_5_of m (dats m 0 c) (A_eq m c 5) (after_5 m c) t d
/-- Input 6's buffer holds its block at every point. -/
theorem before_6 (c : Dev nD) (t : Fin cfg0.N) (d) : (dats m 0 c).before 6 t d = (tile m c t).y :=
  before0_6_of m (dats m 0 c) (A_eq m c 6) (after_6 m c) t d
/-- Input 7's buffer holds its block at every point. -/
theorem before_7 (c : Dev nD) (t : Fin cfg0.N) (d) : (dats m 0 c).before 7 t d = (tile m c t).gamma :=
  before0_7_of m (dats m 0 c) (A_eq m c 7) (after_7 m c) t d
/-- Input 8's buffer holds its block at every point. -/
theorem before_8 (c : Dev nD) (t : Fin cfg0.N) (d) : (dats m 0 c).before 8 t d = (tile m c t).taps :=
  before0_8_of m (dats m 0 c) (A_eq m c 8) (after_8 m c) t d
/-- After the first point the row sums' buffer holds what the point before left. -/
theorem before_10 (c : Dev nD) (t : Fin cfg0.N) (h0 : ¬t.val % 16 = 0) (d) : (dats m 0 c).before 10 t d = (stateAt m c t.val).sums := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl), after_10]
  dsimp only
  rw [Nat.sub_add_cancel (by omega)]

/-! ## The body, at any point -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 19200000 in
/-- The first point. -/
theorem bodyFirst (c : Dev nD) (t : Fin cfg0.N) (h0 : t.val % 16 = 0) (h1 : ¬t.val % 16 = 15) :
    pre m c t ⊢ wp frame (wpE (defs₀ (F := F)) Variants.none c none) Set.univ (bodyAt0 t) (fun _ => post m c t) := by
  have hN : t.val < 16 := lt_of_lt_of_eq t.isLt (show cfg0.N = 16 from N_0)
  unfold pre post bodyAt0
  simp only [before_0, before_1, before_2, before_3, before_4, before_5, before_6, before_7, before_8]
  rw [show (dats m 0 c).Φ t.succ = between m c (stateAt m c (t.val + 1)) (outsAt m c (t.val + 1)) from rfl,
    after_0, after_1, after_2, after_3, after_4, after_5, after_6, after_7, after_8, after_9, after_10, stateAt_succ]
  unfold Dat.owesAt Pipeline.owesWithin
  rw [show (dats m 0 c).owed t.castSucc = 0 from rfl, show (dats m 0 c).owed t.succ = 0 from rfl]
  have hz : t.val = 0 := by omega
  rw [show (dats m 0 c).Φ t.castSucc = Pipeline.ΦDRG osem0 spec0 H0 R0 (V m) (V m) c from (show (dats m 0 c).Φ t.castSucc = Phi m c t.val from rfl).trans (by rw [hz]; rfl), entry_eq]
  rw [show stateAt m c t.val = start (hbM0_0.view.read (Elt F) (V m c main_v39)) by rw [hz]; rfl]
  unfold between; simp only [outsAt_lt m c (t.val + 1) (by omega)]
  iintro ⟨⟨⟨⟨%e0, HS0⟩, ⟨%e1, HS1⟩, ⟨%e2, HS2⟩, ⟨%e3, HS3⟩, ⟨%e4, HS4⟩, HS5⟩, Hg, ⟨Hq0, Hq1, Hq2, Hq3, Hq4, Hq5, Hq6, Hq7, Hq8, Hq9, Hq10, Hq11, Hq12, Hq13, Hq14, Hq15, Hq16, Hq17, Hq18, Hq19⟩, ⟨Hh0, Hh1⟩, HG⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runFirst c (grid0.coords t) _ _ _ _ _ _ _ _ _ _ _ _ _ _ _ _ _ _ _ _ _ _ _ _ _ _ _ _ _ _ _ _ _ _ ((hcond0_0 t).mpr h0) (fun h => h1 ((hcond0_1 t).mp h)) (tile m c t) (V m c main_v39)).2.2.2.2.2.2.2 W _)
  unfold tileHeld carryHeld
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10 HS0 HS1 HS2 HS3 HS4]
  · iexists (⟨e0, e1, e2, (dats m 0 c).before 10 t d10, e3, e4⟩ : Carry F)
    isplitl [H10]; · iexact H10
    isplitl [HS0]; · iexact HS0
    isplitl [HS1]; · iexact HS1
    isplitl [HS2]; · iexact HS2
    isplitl [HS3]; · iexact HS3
    iexact HS4
  isplitl [Hq0 Hq1 Hq2 Hq3 Hq4 Hq5 Hq6 Hq7 Hq8 Hq9 Hq10 Hq11 Hq12 Hq13 Hq14 Hq15]
  · unfold inCells
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  isplitl [HW]; · iexact HW
  iintro ⟨⟨H0, H1, H2, H3, H4, H5, H6, H7, H8⟩, ⟨%f9, H9⟩, ⟨%f10, H10⟩, ⟨%g0, HS0⟩, ⟨%g1, HS1⟩, ⟨%g2, HS2⟩, ⟨%g3, HS3⟩, ⟨%g4, HS4⟩, Hin, Hh0, ⟨%W', HW'⟩⟩
  isplitl [HS0 HS1 HS2 HS3 HS4 HS5 Hg Hin Hq16 Hq17 Hq18 Hq19 Hh0 Hh1 HG]
  · isplitl [HS0 HS1 HS2 HS3 HS4 HS5]
    · isplitl [HS0]
      · unfold owns; iexists _; isplitr
        swap; · iexact HS0
        ipureintro; exact first_win c _ _ _ _ _ _ _ _ _ _ _ _ _ _ _ _ _ _ _ _ _ _ _ _ _ _ _ _ _ _ _ _ _ _ _ _ _ _ _ _
      isplitl [HS1]
      · unfold owns; iexists _; isplitr
        swap; · iexact HS1
        ipureintro; exact first_wout c _ _ _ _ _ _ _ _ _ _ _ _ _ _ _ _ _ _ _ _ _ _ _ _ _ _ _ _ _ _ _ _ _ _ _ _ _ _ _ _
      isplitl [HS2]
      · unfold owns; iexists _; isplitr
        swap; · iexact HS2
        ipureintro; exact first_line c _ _ _ _ _ _ _ _ _ _ _ _ _ _ _ _ _ _ _ _ _ _ _ _ _ _ _ _ _ _ _ _ _ _ _ _ _ _ _ _
      isplitl [HS3]
      · unfold owns; iexists _; isplitr
        swap; · iexact HS3
        ipureintro; exact first_gin c _ _ _ _ _ _ _ _ _ _ _ _ _ _ _ _ _ _ _ _ _ _ _ _ _ _ _ _ _ _ _ _ _ _ _ _ _ _ _ _
      isplitl [HS4]
      · unfold owns; iexists _; isplitr
        swap; · iexact HS4
        ipureintro; exact first_gout c _ _ _ _ _ _ _ _ _ _ _ _ _ _ _ _ _ _ _ _ _ _ _ _ _ _ _ _ _ _ _ _ _ _ _ _ _ _ _ _
      iexact HS5
    isplitl [Hg]; · iexact Hg
    isplitl [Hin]; · iexact Hin
    isplitl [Hq16 Hq17 Hq18 Hq19]
    · unfold outCells
      isplitl [Hq16]; · iexact Hq16
      isplitl [Hq17]; · iexact Hq17
      isplitl [Hq18]; · iexact Hq18
      iexact Hq19
    isplitl [Hh0 Hh1]
    · isplitl [Hh0]; · iexact Hh0
      iexact Hh1
    iexact HG
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact first_dx c _ _ _ _ _ _ _ _ _ _ _ _ _ _ _ _ _ _ _ _ _ _ _ _ _ _ _ _ _ _ _ _ _ _ _ _ _ _ _ _
  unfold owns; iexists _; isplitr
  swap; · iexact H10
  ipureintro; exact first_sums c _ _ _ _ _ _ _ _ _ _ _ _ _ _ _ _ _ _ _ _ _ _ _ _ _ _ _ _ _ _ _ _ _ _ _ _ _ _ _ _

set_option maxHeartbeats 19200000 in
/-- A point between. -/
theorem bodyMid (c : Dev nD) (t : Fin cfg0.N) (h0 : ¬t.val % 16 = 0) (h1 : ¬t.val % 16 = 15) :
    pre m c t ⊢ wp frame (wpE (defs₀ (F := F)) Variants.none c none) Set.univ (bodyAt0 t) (fun _ => post m c t) := by
  have hN : t.val < 16 := lt_of_lt_of_eq t.isLt (show cfg0.N = 16 from N_0)
  unfold pre post bodyAt0
  simp only [before_0, before_1, before_2, before_3, before_4, before_5, before_6, before_7, before_8, before_10 m c t h0]
  rw [show (dats m 0 c).Φ t.succ = between m c (stateAt m c (t.val + 1)) (outsAt m c (t.val + 1)) from rfl,
    after_0, after_1, after_2, after_3, after_4, after_5, after_6, after_7, after_8, after_9, after_10, stateAt_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [show (dats m 0 c).Φ t.castSucc = between m c (stateAt m c t.val) (outsAt m c t.val) from
    (show (dats m 0 c).Φ t.castSucc = Phi m c t.val from rfl).trans (by rw [hk]; rfl)]
  unfold between; simp only [outsAt_lt m c (t.val + 1) (by omega), outsAt_lt m c t.val hN]
  iintro ⟨⟨⟨HS0, HS1, HS2, HS3, HS4, HS5⟩, Hg, Hin, Hout, HH, HG⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runMid c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (tile m c t) (stateAt m c t.val)).2.2.2.2.2 _)
  unfold tileHeld carryHeld
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10 HS0 HS1 HS2 HS3 HS4]
  · isplitl [H10]; · iexact H10
    isplitl [HS0]; · iexact HS0
    isplitl [HS1]; · iexact HS1
    isplitl [HS2]; · iexact HS2
    isplitl [HS3]; · iexact HS3
    iexact HS4
  iintro ⟨⟨H0, H1, H2, H3, H4, H5, H6, H7, H8⟩, ⟨%f9, H9⟩, H10, HS0, HS1, HS2, HS3, HS4⟩
  isplitl [HS0 HS1 HS2 HS3 HS4 HS5 Hg Hin Hout HH HG]
  · isplitl [HS0 HS1 HS2 HS3 HS4 HS5]
    · isplitl [HS0]; · iexact HS0
      isplitl [HS1]; · iexact HS1
      isplitl [HS2]
      · unfold owns; iexists _; isplitr
        swap; · iexact HS2
        ipureintro; exact mid_line c _ _ _ _ _ _ _ _ _ _ _ _ _ _ _ _ _ _ _ _ _ _ _ _ _ _ _ _ _ _ _ _ _ _ _ _ _ _ _
      isplitl [HS3]
      · unfold owns; iexists _; isplitr
        swap; · iexact HS3
        ipureintro; exact mid_gin c _ _ _ _ _ _ _ _ _ _ _ _ _ _ _ _ _ _ _ _ _ _ _ _ _ _ _ _ _ _ _ _ _ _ _ _ _ _ _
      isplitl [HS4]
      · unfold owns; iexists _; isplitr
        swap; · iexact HS4
        ipureintro; exact mid_gout c _ _ _ _ _ _ _ _ _ _ _ _ _ _ _ _ _ _ _ _ _ _ _ _ _ _ _ _ _ _ _ _ _ _ _ _ _ _ _
      iexact HS5
    isplitl [Hg]; · iexact Hg
    isplitl [Hin]; · iexact Hin
    isplitl [Hout]; · iexact Hout
    isplitl [HH]; · iexact HH
    iexact HG
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact mid_dx c _ _ _ _ _ _ _ _ _ _ _ _ _ _ _ _ _ _ _ _ _ _ _ _ _ _ _ _ _ _ _ _ _ _ _ _ _ _ _ _
  unfold owns; iexists _; isplitr
  swap; · iexact H10
  ipureintro; exact mid_sums c _ _ _ _ _ _ _ _ _ _ _ _ _ _ _ _ _ _ _ _ _ _ _ _ _ _ _ _ _ _ _ _ _ _ _ _ _ _ _

set_option maxHeartbeats 19200000 in
/-- The last point. -/
theorem bodyLast (c : Dev nD) (t : Fin cfg0.N) (h0 : ¬t.val % 16 = 0) (h1 : t.val % 16 = 15) :
    pre m c t ⊢ wp frame (wpE (defs₀ (F := F)) Variants.none c none) Set.univ (bodyAt0 t) (fun _ => post m c t) := by
  have hN : t.val < 16 := lt_of_lt_of_eq t.isLt (show cfg0.N = 16 from N_0)
  unfold pre post bodyAt0
  simp only [before_0, before_1, before_2, before_3, before_4, before_5, before_6, before_7, before_8, before_10 m c t h0]
  rw [show (dats m 0 c).Φ t.succ = between m c (stateAt m c (t.val + 1)) (outsAt m c (t.val + 1)) from rfl,
    after_0, after_1, after_2, after_3, after_4, after_5, after_6, after_7, after_8, after_9, after_10, stateAt_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [show (dats m 0 c).Φ t.castSucc = between m c (stateAt m c t.val) (outsAt m c t.val) from
    (show (dats m 0 c).Φ t.castSucc = Phi m c t.val from rfl).trans (by rw [hk]; rfl)]
  have e16 : t.val + 1 = 16 := by omega
  have es : stateAt m c 16 = next (stateAt m c t.val) (tile m c t) := by rw [← e16]; exact stateAt_succ m c t
  unfold between; simp only [outsAt_lt m c t.val hN, e16, outsAt_end, finalOf_gin, finalOf_gout, es]
  iintro ⟨⟨⟨HS0, HS1, HS2, HS3, HS4, ⟨%e5, HS5⟩⟩, Hg, Hin, Hout, HH, ⟨Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runLast c (grid0.coords t) _ _ _ _ _ _ _ _ _ _ _ _ _ _ _ _ _ _ _ _ _ _ _ _ _ _ _ _ _ _ _ _ _ _ (fun h => h0 ((hcond0_0 t).mp h)) ((hcond0_1 t).mpr h1) (tile m c t) (stateAt m c t.val) e5).2.2.2.2.2.2.2 W _ _ _)
  unfold tileHeld carryHeld
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10 HS0 HS1 HS2 HS3 HS4]
  · isplitl [H10]; · iexact H10
    isplitl [HS0]; · iexact HS0
    isplitl [HS1]; · iexact HS1
    isplitl [HS2]; · iexact HS2
    isplitl [HS3]; · iexact HS3
    iexact HS4
  isplitl [HS5]; · iexact HS5
  isplitl [Hout]; · iexact Hout
  isplitl [Hh2]; · iexact Hh2
  isplitl [Hh3]; · iexact Hh3
  isplitl [HW]; · iexact HW
  iintro ⟨⟨H0, H1, H2, H3, H4, H5, H6, H7, H8⟩, ⟨%f9, H9⟩, H10, HS0, HS1, HS2, HS3, HS4, HS5, Hout, Hh2, Hh3, ⟨%W', HW'⟩⟩
  isplitl [HS0 HS1 HS2 HS3 HS4 HS5 Hg Hin Hout HH Hh2 Hh3]
  · isplitl [HS0 HS1 HS2 HS3 HS4 HS5]
    · isplitl [HS0]; · iexact HS0
      isplitl [HS1]; · iexact HS1
      isplitl [HS2]
      · unfold owns; iexists _; isplitr
        swap; · iexact HS2
        ipureintro; exact last_line c _ _ _ _ _ _ _ _ _ _ _ _ _ _ _ _ _ _ _ _ _ _ _ _ _ _ _ _ _ _ _ _ _ _ _ _ _ _ _ _
      isplitl [HS3]
      · unfold owns; iexists _; isplitr
        swap; · iexact HS3
        ipureintro; exact last_gin c _ _ _ _ _ _ _ _ _ _ _ _ _ _ _ _ _ _ _ _ _ _ _ _ _ _ _ _ _ _ _ _ _ _ _ _ _ _ _ _
      isplitl [HS4]
      · unfold owns; iexists _; isplitr
        swap; · iexact HS4
        ipureintro; exact last_gout c _ _ _ _ _ _ _ _ _ _ _ _ _ _ _ _ _ _ _ _ _ _ _ _ _ _ _ _ _ _ _ _ _ _ _ _ _ _ _ _
      iexact HS5
    isplitl [Hg]; · iexact Hg
    isplitl [Hin]; · iexact Hin
    isplitl [Hout]; · iexact Hout
    isplitl [HH]; · iexact HH
    isplitl [Hh2]
    · rw [← (Memref.isWhole_whole main_v46_2).eq_unread (last_ginOut c _ _ _ _ _ _ _ _ _ _ _ _ _ _ _ _ _ _ _ _ _ _ _ _ _ _ _ _ _ _ _ _ _ _ _ _ _ _ _ _ _)]; iexact Hh2
    rw [← (Memref.isWhole_whole main_v46_3).eq_unread (last_goutOut c _ _ _ _ _ _ _ _ _ _ _ _ _ _ _ _ _ _ _ _ _ _ _ _ _ _ _ _ _ _ _ _ _ _ _ _ _ _ _ _ _)]; iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact last_dx c _ _ _ _ _ _ _ _ _ _ _ _ _ _ _ _ _ _ _ _ _ _ _ _ _ _ _ _ _ _ _ _ _ _ _ _ _ _ _ _ _
  unfold owns; iexists _; isplitr
  swap; · iexact H10
  ipureintro; exact last_sums c _ _ _ _ _ _ _ _ _ _ _ _ _ _ _ _ _ _ _ _ _ _ _ _ _ _ _ _ _ _ _ _ _ _ _ _ _ _ _ _

/-- The body at any point. -/
theorem body (c : Dev nD) (t : Fin cfg0.N) :
    pre m c t ⊢ wp frame (wpE (defs₀ (F := F)) Variants.none c none) Set.univ (bodyAt0 t) (fun _ => post m c t) := by
  by_cases h0 : t.val % 16 = 0
  · exact bodyFirst m c t h0 (by omega)
  · by_cases h1 : t.val % 16 = 15
    · exact bodyLast m c t h0 h1
    · exact bodyMid m c t h0 h1

/-- The body table's row at point `t`'s slots. -/
theorem row (t : Fin cfg0.N) : defs₀ (F := F) .tc cfg0.body (cfg0.bodyArgs t (cfg0.slots t)) = bodyAt0 t := by
  unfold defs₀; rw [Defs.onTc_tc]

/-- What the launch theorem asks of the body. -/
theorem obligation (c : Dev nD) : BodyObligation (dats (F := F) m 0 c) (defs₀ (F := F)) Variants.none () Set.univ := fun t => by
  rw [bigSep_W0, bigSep_W0, row]
  exact triple_restated (body m c t) rfl .rfl fun _ => .rfl

/-- The region starts from what the launch hands over. -/
theorem hin (c : Dev nD) : Pipeline.ΦDRG osem0 spec0 H0 R0 (V m) (V m) c ⊢ (dats m 0 c).Φ 0 := Idealize.SL.BI.Entails.refl _

/-- The region gives it back with the two weight gradients final. -/
theorem hout (c : Dev nD) : (dats m 0 c).Φ (Fin.last cfg0.N) ⊢ Pipeline.ΦDRG osem0 spec0 H0 R0 (V m) (finalOf m) c := by
  rw [show (dats m 0 c).Φ (Fin.last cfg0.N) = between m c (stateAt m c 16) (outsAt m c 16) from rfl, entry_eq]
  unfold between inCells outCells; simp only [outsAt_end]
  iintro ⟨⟨HS0, HS1, HS2, HS3, HS4, HS5⟩, Hg, ⟨Hq0, Hq1, Hq2, Hq3, Hq4, Hq5, Hq6, Hq7, Hq8, Hq9, Hq10, Hq11, Hq12, Hq13, Hq14, Hq15⟩, ⟨Hq16, Hq17, Hq18, Hq19⟩, HH, HG⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexact HS5
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    iexact Hq19
  isplitl [HH]; · iexact HH
  iexact HG

/-! ## The run -/

-- the launch theorem's implicit arguments are found by unifying its conclusion with this one, which takes unfolding plain
-- definitions in a metavariable's type
set_option backward.isDefEq.respectTransparency.types false in
/-- Every execution of @main ends with each array of the region at what the points leave, the two weight gradients final,
every other array as it was, and every counter at zero. -/
theorem run_main_quiescent : θ_run defs (onTc (τ := τ) (main (F := F))) (s₀ m ρ) (fun r => (Pipeline.FramePostRG cfgs (dats m) 0 R0 (V m) (finalOf m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (obligation m c).loose) (hshare := fun c => (dats m 0 c).share_full fun _ => rfl)
    (howed := fun _ _ => rfl) (V := V m) (hmain := hmain m Variants.none) (hA := A_eq m)
    (G := finalOf m) (hin := hin m) (hout := hout m)

/-- The same without the counters. -/
theorem run_main : θ_run defs (onTc (τ := τ) (main (F := F))) (s₀ m ρ) (Pipeline.FramePostRG cfgs (dats m) 0 R0 (V m) (finalOf m)) :=
  (θ_run defs _ _).mono (fun _ h => h.1) (run_main_quiescent m ρ)

/-- The argument arrays end unchanged, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.toR) (run_main m ρ)))
    ((θ_run defs _ _).mono (fun _ h => h.2) (run_main_quiescent m ρ))

end Cert.KernelIdeal.Mixer

end
-- ==== Proof.Same.lean ====
module

public import proofs.«01_k».proof.Kernel
public import proofs.«01_k».proof.KernelIdeal
public import proofs.«01_k».proof.Proof.Gen.Kernel
public import proofs.«01_k».proof.Proof.Gen.KernelIdeal

@[expose] public section

noncomputable section

/-! # One text, two names

The kernel as printed and the kernel printed for the extended reals are the same program: here, that their body tables and their @mains are equal. -/

namespace Cert.KernelIdeal.Mixer

open Idealize.ShloMosaic Idealize.SL.Sem

local instance : Cert.Kernel.Facts := Cert.Kernel.Gen.facts
local instance : Cert.KernelIdeal.Facts := Cert.KernelIdeal.Gen.facts

variable {F : FTy → Type} [FloatOps F]

set_option maxHeartbeats 4000000 in
/-- The two body tables are equal: each has one label, and the label runs the same body on the same buffers. -/
theorem bodies_same : Cert.Kernel.defs₀ (F := F) = Cert.KernelIdeal.defs₀ (F := F) := by
  unfold Cert.Kernel.defs₀ Cert.KernelIdeal.defs₀
  congr 1
  funext l p
  match l, p with
  | 0, (t, s) => rfl

/-- So are the tables with the pipeline around the body. -/
theorem defs_same : Cert.Kernel.defs (F := F) = Cert.KernelIdeal.defs (F := F) :=
  show Pipeline.defs Cert.KernelIdeal.pcfgs (Cert.Kernel.defs₀ (F := F)) = Pipeline.defs Cert.KernelIdeal.pcfgs Cert.KernelIdeal.defs₀ from
    congrArg (Pipeline.defs Cert.KernelIdeal.pcfgs) bodies_same

set_option maxHeartbeats 4000000 in
set_option maxRecDepth 8192 in
/-- So are the two @mains. -/
theorem main_same : Cert.Kernel.main (F := F) = Cert.KernelIdeal.main (F := F) := rfl

end Cert.KernelIdeal.Mixer

end
-- ==== Proof.Spec.lean ====
module

public import Idealize.ShloMosaic.Lib.IdealHost

@[expose] public section

noncomputable section

/-! # The mixer's backward pass as formulas

The layer is `h = x + (B * conv (C * V)) wout` with `(B, C, V)` the thirds of `(x / rms x * gamma) win` and `conv` a
causal convolution of three taps. Below are the gradients of its five arguments for an incoming gradient `dh`, entry by
entry over the extended reals: no array, no tile, no program. -/

namespace Cert.Mixer

open Idealize.ShloMosaic
open scoped BigOperators

/-- The layer's arguments and the incoming gradient. -/
structure Args where
  x : Fin 4096 → Fin 1024 → EReal
  gamma : Fin 1024 → EReal
  win : Fin 1024 → Fin 3072 → EReal
  taps : Fin 3 → Fin 1024 → EReal
  wout : Fin 1024 → Fin 1024 → EReal
  dh : Fin 4096 → Fin 1024 → EReal

/-- The number of columns, as the programs' constant denotes it. -/
def width : EReal := Ideal.ofBits .f32 0x44800000#32
/-- The constant under the norm's root. -/
def eps : EReal := Ideal.ofBits .f32 0x358637BD#32
/-- Minus a half, the derivative's constant. -/
def minusHalf : EReal := Ideal.ofBits .f32 0xBF000000#32

/-- The first, second and third part of the 3072 columns of the input projection. -/
def third0 (e : Fin 1024) : Fin 3072 := ⟨e.val, by omega⟩
/-- The second. -/
def third1 (e : Fin 1024) : Fin 3072 := ⟨1024 + e.val, by omega⟩
/-- The third. -/
def third2 (e : Fin 1024) : Fin 3072 := ⟨2048 + e.val, by omega⟩

variable (A : Args)

/-! ## The forward pass -/

/-- The mean square of a row, plus the constant. -/
def under (s : Fin 4096) : EReal := Ideal.div (∑ d, A.x s d * A.x s d) width + eps
/-- The row's inverse root mean square. -/
def inv (s : Fin 4096) : EReal := Ideal.rsqrt (under A s)
/-- The normalised input before its gain. -/
def scaled (s : Fin 4096) (d : Fin 1024) : EReal := A.x s d * inv A s
/-- The normalised input. -/
def normed (s : Fin 4096) (d : Fin 1024) : EReal := scaled A s d * A.gamma d
/-- The input projection. -/
def proj (s : Fin 4096) (j : Fin 3072) : EReal := ∑ d, normed A s d * A.win d j
/-- What the convolution runs along. -/
def held (s : Fin 4096) (e : Fin 1024) : EReal := proj A s (third1 e) * proj A s (third2 e)
/-- The same, `k` positions before; zero before the sequence's start. -/
def before (k : ℕ) (s : Fin 4096) (e : Fin 1024) : EReal := if k ≤ s.val then held A ⟨s.val - k, by omega⟩ e else 0
/-- The convolution. -/
def conv (s : Fin 4096) (e : Fin 1024) : EReal := A.taps 0 e * before A 2 s e + A.taps 1 e * before A 1 s e + A.taps 2 e * before A 0 s e
/-- The output projection's input. -/
def gated (s : Fin 4096) (e : Fin 1024) : EReal := proj A s (third0 e) * conv A s e

/-! ## The gradients -/

/-- The gradient at the output projection's input. -/
def gGated (s : Fin 4096) (e : Fin 1024) : EReal := ∑ k, A.dh s k * A.wout e k
/-- The gradient at the convolution's output. -/
def gConv (s : Fin 4096) (e : Fin 1024) : EReal := proj A s (third0 e) * gGated A s e
/-- The gradient at the convolution's output in row `r`; zero past the sequence's end. -/
def late (r : ℕ) (e : Fin 1024) : EReal := if h : r < 4096 then gConv A ⟨r, h⟩ e else 0
/-- The gradient at the convolution's input. -/
def gHeld (s : Fin 4096) (e : Fin 1024) : EReal := A.taps 2 e * late A s.val e + A.taps 1 e * late A (s.val + 1) e + A.taps 0 e * late A (s.val + 2) e
/-- The gradient of the projection's first third. -/
def gB (s : Fin 4096) (e : Fin 1024) : EReal := gGated A s e * conv A s e
/-- Of its second third. -/
def gC (s : Fin 4096) (e : Fin 1024) : EReal := gHeld A s e * proj A s (third2 e)
/-- Of its last third. -/
def gV (s : Fin 4096) (e : Fin 1024) : EReal := gHeld A s e * proj A s (third1 e)
/-- The gradient at the normalised input. -/
def gNormed (s : Fin 4096) (d : Fin 1024) : EReal :=
  (∑ e, gB A s e * A.win d (third0 e)) + (∑ e, gC A s e * A.win d (third1 e)) + ∑ e, gV A s e * A.win d (third2 e)
/-- The same before the gain. -/
def gScaled (s : Fin 4096) (d : Fin 1024) : EReal := gNormed A s d * A.gamma d

/-- The gradient at the layer's input. -/
def dX (s : Fin 4096) (d : Fin 1024) : EReal :=
  A.dh s d + (inv A s * gScaled A s d - A.x s d * (inv A s * inv A s * inv A s) * Ideal.div (∑ k, gScaled A s k * A.x s k) width)
/-- The gradient of the norm's gain. -/
def dGamma (d : Fin 1024) : EReal := ∑ s, gNormed A s d * A.x s d * inv A s
/-- The gradient of the convolution's tap that looks `k` positions back. -/
def dTap (k : ℕ) (e : Fin 1024) : EReal := ∑ s : Fin 4096, held A s e * late A (s.val + k) e
/-- The gradient of the output projection. -/
def dWout (e i : Fin 1024) : EReal := ∑ s, gated A s e * A.dh s i

/-! ## Sums taken tile by tile, the last tile first -/

/-- Row `i` of the tile that point `n` works on. -/
def row (n : ℕ) (i : Fin 256) : Fin 4096 := ⟨256 * (15 - n) + i.val, by omega⟩

/-- The sum over the rows of the tiles before point `n`. -/
def soFar (n : ℕ) (f : Fin 4096 → EReal) : EReal := ∑ k ∈ Finset.range n, ∑ i, f (row k i)

/-- A point adds its tile. -/
theorem soFar_succ (n : ℕ) (f : Fin 4096 → EReal) : soFar (n + 1) f = soFar n f + ∑ i, f (row n i) := Finset.sum_range_succ _ _

/-- The sixteen tiles are all the rows. -/
theorem soFar_all (f : Fin 4096 → EReal) : soFar 16 f = ∑ s, f s := by
  unfold soFar
  rw [Finset.sum_range fun k => ∑ i, f (row k i), ← Fintype.sum_prod_type' fun (k : Fin 16) (i : Fin 256) => f (row k.val i)]
  refine Fintype.sum_bijective (fun p : Fin 16 × Fin 256 => row p.1.val p.2) ⟨fun p q h => ?_, fun s => ?_⟩ _ _ fun _ => rfl
  · have h' := congrArg Fin.val h
    simp only [row] at h'
    exact Prod.ext (Fin.ext (by omega)) (Fin.ext (by omega))
  · refine ⟨(⟨15 - s.val / 256, by omega⟩, ⟨s.val % 256, by omega⟩), Fin.ext ?_⟩
    simp only [row]
    omega

/-! ## A sum shifted along the sequence -/

/-- Pairing each row with the one `k` before, or each with the one `k` after, sums the same products. -/
theorem shifted_sum (k N : ℕ) (f g : ℕ → EReal) :
    ∑ s : Fin N, f s.val * (if k ≤ s.val then g (s.val - k) else 0) = ∑ s : Fin N, g s.val * (if s.val + k < N then f (s.val + k) else 0) := by
  rw [Fin.sum_univ_eq_sum_range (fun s => f s * (if k ≤ s then g (s - k) else 0)) N,
    Fin.sum_univ_eq_sum_range (fun s => g s * (if s + k < N then f (s + k) else 0)) N]
  simp only [mul_ite, mul_zero]
  rw [← Finset.sum_filter, ← Finset.sum_filter]
  refine Finset.sum_nbij' (· - k) (· + k) ?_ ?_ ?_ ?_ ?_
  all_goals simp only [Finset.mem_filter, Finset.mem_range]
  · rintro s ⟨h1, h2⟩; omega
  · rintro s ⟨h1, h2⟩; omega
  · rintro s ⟨h1, h2⟩; omega
  · rintro s ⟨h1, h2⟩; omega
  · rintro s ⟨h1, h2⟩
    rw [Nat.sub_add_cancel h2, mul_comm]

/-- A tap's gradient from the convolution's input, looked at `k` positions before. -/
theorem dTap_eq (k : ℕ) (e : Fin 1024) : dTap A k e = ∑ s, gConv A s e * before A k s e := by
  have h := shifted_sum k 4096 (fun r => late A r e) fun r => if h : r < 4096 then held A ⟨r, h⟩ e else 0
  unfold dTap
  refine Eq.trans (Finset.sum_congr rfl fun s _ => ?_) (h.symm.trans (Finset.sum_congr rfl fun s _ => ?_))
  · rw [dif_pos s.isLt]
    by_cases hs : s.val + k < 4096
    · rw [if_pos hs]
    · rw [if_neg hs, late, dif_neg hs]
  · show late A s.val e * _ = _
    rw [late, dif_pos s.isLt]
    unfold before
    by_cases hs : k ≤ s.val
    · rw [if_pos hs, if_pos hs, dif_pos (by omega)]
    · rw [if_neg hs, if_neg hs]

/-! ## The derivative of the norm -/

/-- The constants, as real numbers. -/
theorem width_eq : width = ((1024 : ℝ) : EReal) := by
  unfold width
  simp [Ideal.ofBits, Ideal.ieee, -EReal.coe_mul]; norm_num

/-- Minus a half. -/
theorem minusHalf_eq : minusHalf = ((-(1 / 2) : ℝ) : EReal) := by
  unfold minusHalf
  simp [Ideal.ofBits, Ideal.ieee, -EReal.coe_mul]; norm_num

/-- The norm's constant is some positive real number. -/
theorem eps_pos : ∃ q : ℝ, 0 < q ∧ eps = (q : EReal) := by
  unfold eps
  simp [Ideal.ofBits, Ideal.ieee, -EReal.coe_mul]

/-- A square is not negative. -/
theorem square_nonneg (a : EReal) : 0 ≤ a * a := by
  rcases le_total 0 a with h | h
  · exact mul_nonneg h h
  · rw [← neg_mul_neg]
    exact mul_nonneg (EReal.neg_nonneg.2 h) (EReal.neg_nonneg.2 h)

/-- Under the root stands infinity or a positive real number. -/
theorem under_cases (s : Fin 4096) : under A s = ⊤ ∨ ∃ z : ℝ, 0 < z ∧ under A s = (z : EReal) := by
  obtain ⟨q, hq, he⟩ := eps_pos
  have h0 : (0 : EReal) ≤ ∑ d, A.x s d * A.x s d := Finset.sum_nonneg fun d _ => square_nonneg _
  have hw : (((1024 : ℝ) : EReal)) ≠ 0 := by norm_cast
  unfold under
  rw [he, width_eq, Ideal.div, if_neg hw, ← EReal.coe_inv]
  generalize (∑ d, A.x s d * A.x s d) = a at h0
  induction a with
  | bot => exact absurd h0 (by simp)
  | top => left; rw [EReal.top_mul_coe_of_pos (by norm_num)]; exact EReal.top_add_coe q
  | coe a =>
    right
    have ha : 0 ≤ a := EReal.coe_nonneg.1 h0
    exact ⟨a * (1024 : ℝ)⁻¹ + q, by positivity, by push_cast; rfl⟩

/-- Half of a product with minus a real number, twice, is minus the product. -/
theorem two_halves (w : EReal) (k : ℝ) (hk : 0 < k) : w * ((-(1 / 2) * k : ℝ) : EReal) + w * ((-(1 / 2) * k : ℝ) : EReal) = -(w * (k : EReal)) := by
  have hn : -(1 / 2) * k < 0 := by linarith
  induction w with
  | bot => rw [EReal.bot_mul_coe_of_neg hn, EReal.bot_mul_coe_of_pos hk]; rfl
  | top => rw [EReal.top_mul_coe_of_neg hn, EReal.top_mul_coe_of_pos hk]; rfl
  | coe w => norm_cast; ring

/-- The norm's derivative, in the kernel's form and as the norm's own operations give it: of the root's derivative the square of
the row takes one part from each of its two factors. `b` is what is added to, `u` the gradient before the gain, `P` the row's sum. -/
theorem norm_back (s : Fin 4096) (d : Fin 1024) (b u P : EReal) :
    b + (inv A s * u - A.x s d * (inv A s * inv A s * inv A s) * Ideal.div P width)
      = b + u * inv A s + A.x s d * Ideal.div (P * (minusHalf * Ideal.div (inv A s) (under A s))) width
        + Ideal.div (P * (minusHalf * Ideal.div (inv A s) (under A s))) width * A.x s d := by
  have hw : (((1024 : ℝ) : EReal)) ≠ 0 := by norm_cast
  rw [mul_comm (inv A s) u, sub_eq_add_neg, ← add_assoc, add_assoc (b + u * inv A s)]
  congr 1
  rw [mul_comm (Ideal.div _ width) (A.x s d), width_eq, Ideal.div, if_neg hw, Ideal.div, if_neg hw, minusHalf_eq, ← EReal.coe_inv]
  unfold inv
  rcases under_cases A s with h | ⟨z, hz, h⟩
  · rw [h]
    simp [show Ideal.rsqrt ⊤ = 0 from rfl, Ideal.div]
  · have hz0 : ((z : ℝ) : EReal) ≠ 0 := by exact_mod_cast hz.ne'
    rw [h]
    have hr : Ideal.rsqrt (z : EReal) = (((Real.sqrt z)⁻¹ : ℝ) : EReal) := by
      show (if z < 0 then ⊥ else if z = 0 then ⊤ else (((Real.sqrt z)⁻¹ : ℝ) : EReal)) = _
      rw [if_neg (by linarith), if_neg hz.ne']
    rw [hr, Ideal.div, if_neg hz0, ← EReal.coe_inv]
    have hk : 0 < (Real.sqrt z)⁻¹ * z⁻¹ * (1024 : ℝ)⁻¹ := by positivity
    have hs : (Real.sqrt z)⁻¹ * (Real.sqrt z)⁻¹ = z⁻¹ := by rw [← mul_inv, Real.mul_self_sqrt hz.le]
    have hl : A.x s d * ((((Real.sqrt z)⁻¹ : ℝ) : EReal) * (((Real.sqrt z)⁻¹ : ℝ) : EReal) * (((Real.sqrt z)⁻¹ : ℝ) : EReal)) * (P * (((1024 : ℝ)⁻¹ : ℝ) : EReal))
        = A.x s d * P * (((Real.sqrt z)⁻¹ * z⁻¹ * (1024 : ℝ)⁻¹ : ℝ) : EReal) := by
      rw [← EReal.coe_mul, ← EReal.coe_mul, hs, mul_comm z⁻¹, mul_mul_mul_comm, ← EReal.coe_mul]
    have hu : A.x s d * (P * (((-(1 / 2) : ℝ) : EReal) * ((((Real.sqrt z)⁻¹ : ℝ) : EReal) * ((z⁻¹ : ℝ) : EReal))) * (((1024 : ℝ)⁻¹ : ℝ) : EReal))
        = A.x s d * P * ((-(1 / 2) * ((Real.sqrt z)⁻¹ * z⁻¹ * (1024 : ℝ)⁻¹) : ℝ) : EReal) := by
      rw [← EReal.coe_mul, ← EReal.coe_mul, mul_assoc P, ← EReal.coe_mul, ← mul_assoc (A.x s d)]
      congr 2
      ring
    rw [hl, hu, two_halves _ _ hk]

/-- The gradient at the input, in the reference's form. -/
theorem dX_eq (s : Fin 4096) (d : Fin 1024) :
    dX A s d = A.dh s d + gScaled A s d * inv A s
      + A.x s d * Ideal.div ((∑ k, A.x s k * gScaled A s k) * (minusHalf * Ideal.div (inv A s) (under A s))) width
      + Ideal.div ((∑ k, A.x s k * gScaled A s k) * (minusHalf * Ideal.div (inv A s) (under A s))) width * A.x s d := by
  unfold dX
  rw [show (∑ k, gScaled A s k * A.x s k) = ∑ k, A.x s k * gScaled A s k from Finset.sum_congr rfl fun k _ => mul_comm _ _]
  exact norm_back A s d _ _ _

end Cert.Mixer

end
-- ==== Proof.StepValue.lean ====
module

public import proofs.«01_k».proof.Proof.Step
public import proofs.«01_k».proof.Proof.Spec
public import Idealize.ShloMosaic.Lib.Pointwise

@[expose] public section

noncomputable section

/-! # One grid point over the extended reals

A point that reads its tile of the formulas' arrays, from a state that holds the sums of the tiles before, writes the
formulas' gradients into its tile and leaves the state with its tile's sums added. -/

namespace Cert.KernelIdeal.Mixer

open Idealize.ShloMosaic Cert.KernelIdeal.Gen VecWindow Cert.Mixer
open scoped BigOperators

/-! ## Bands of rows -/

section Bands
variable {α : Type} {a b c o : ℕ}

/-- An entry of a band of rows. -/
theorem window_band (x : (⟨2, ![a, b]⟩ : Shape).Idx → α) (inb) (i : Fin c) (j : Fin b) (h : o + i.val < a) :
    window x ![o, 0] ![c, b] inb (ix2 i j) = x (ix2 ⟨o + i.val, h⟩ j) :=
  congrArg x (funext fun k => Fin.ext (by
    match k with
    | ⟨0, _⟩ => show o + 1 * i.val = o + i.val; omega
    | ⟨1, _⟩ => show 0 + 1 * j.val = j.val; omega))

/-- An entry inside the band that was written. -/
theorem put_inside (x : (⟨2, ![a, b]⟩ : Shape).Idx → α) (w : ((k : Fin 2) → Fin (![c, b] k)) → α) (i : Fin a) (j : Fin b)
    (k : Fin c) (hk : i.val = o + k.val) : put x ![o, 0] ![c, b] w (ix2 i j) = w (ix2 k j) := by
  unfold put
  rw [dif_pos fun q => match q with
    | ⟨0, _⟩ => ⟨show o ≤ i.val by omega, show i.val < o + c by omega⟩
    | ⟨1, _⟩ => ⟨Nat.zero_le _, show j.val < 0 + b by omega⟩]
  refine congrArg w (funext fun q => Fin.ext ?_)
  match q with
  | ⟨0, _⟩ => show i.val - o = k.val; omega
  | ⟨1, _⟩ => show j.val - 0 = j.val; omega

/-- An entry outside it. -/
theorem put_outside (x : (⟨2, ![a, b]⟩ : Shape).Idx → α) (w : ((k : Fin 2) → Fin (![c, b] k)) → α) (i : Fin a) (j : Fin b)
    (hi : i.val < o ∨ o + c ≤ i.val) : put x ![o, 0] ![c, b] w (ix2 i j) = x (ix2 i j) := by
  unfold put
  rw [dif_neg fun h => ?_]
  have h0 : o ≤ i.val ∧ i.val < o + c := h 0
  omega

end Bands

/-! ## What a tile and a state hold -/

variable (A : Args)

/-- The nine blocks point `n` reads are its tile of the formulas' arrays. -/
structure TileIs (n : ℕ) (t : Tile Ideal) : Prop where
  dh : ∀ i e, t.dh (ix2 i e) = A.dh (row n i) e
  x : ∀ i e, t.x (ix2 i e) = A.x (row n i) e
  b : ∀ i e, t.b (ix2 i e) = proj A (row n i) (third0 e)
  cgate : ∀ i e, t.cgate (ix2 i e) = proj A (row n i) (third1 e)
  v : ∀ i e, t.v (ix2 i e) = proj A (row n i) (third2 e)
  conv : ∀ i e, t.conv (ix2 i e) = conv A (row n i) e
  y : ∀ i e, t.y (ix2 i e) = gated A (row n i) e
  gamma : ∀ e, t.gamma (ix2 0 e) = A.gamma e
  taps : ∀ k e, t.taps (ix2 k e) = A.taps k e

/-- Before point `n` the state holds the two weights, the first eight rows of the gradient of the tile after, and the
sums over the tiles done. -/
structure StateIs (n : ℕ) (s : Carry Ideal) : Prop where
  win : ∀ j d, s.win (ix2 j d) = A.win d j
  wout : ∀ e k, s.wout (ix2 e k) = A.wout e k
  line : n < 16 → ∀ (k : Fin 264) e, 256 ≤ k.val → s.line (ix2 k e) = late A (256 * (15 - n) + k.val) e
  sum0 : ∀ d, s.sums (ix2 0 d) = soFar n fun r => gNormed A r d * A.x r d * inv A r
  sum1 : ∀ e, s.sums (ix2 1 e) = soFar n fun r => held A r e * late A (r.val + 2) e
  sum2 : ∀ e, s.sums (ix2 2 e) = soFar n fun r => held A r e * late A (r.val + 1) e
  sum3 : ∀ e, s.sums (ix2 3 e) = soFar n fun r => held A r e * late A r.val e
  rest : ∀ (k : Fin 8) e, 4 ≤ k.val → s.sums (ix2 k e) = 0
  gin0 : ∀ e d, s.gin (ix2 (third0 e) d) = soFar n fun r => gB A r e * normed A r d
  gin1 : ∀ e d, s.gin (ix2 (third1 e) d) = soFar n fun r => gC A r e * normed A r d
  gin2 : ∀ e d, s.gin (ix2 (third2 e) d) = soFar n fun r => gV A r e * normed A r d
  gout : ∀ e i, s.gout (ix2 e i) = soFar n fun r => gated A r e * A.dh r i

section Point
variable {A} {n : ℕ} {t : Tile Ideal} {s : Carry Ideal} (ht : TileIs A n t) (hs : StateIs A n s)
include ht

/-- The tile's inverse root mean squares. -/
theorem inv_at (i : Fin 256) : (k0_pay27 t.x : FVec Ideal S256x1 .f32) (ix2 i 0) = inv A (row n i) := by
  unfold k0_pay27
  simp only [pointwise, ht.x, zero_add]
  rfl

/-- The tile's normalised input. -/
theorem normed_at (i : Fin 256) (d : Fin 1024) : (k0_pay28 t.x t.gamma : FVec Ideal S256x1024 .f32) (ix2 i d) = normed A (row n i) d := by
  unfold k0_pay28 k0_pay27
  simp only [pointwise, ht.x, ht.gamma, zero_add, reduceDIte, Nat.reduceEqDiff, OfNat.ofNat_ne_one]
  rfl

include hs

/-- The tile's gradient at the output projection's input. -/
theorem gy_at (i : Fin 256) (e : Fin 1024) : gy s t (ix2 i e) = gGated A (row n i) e := by
  unfold gy k0_pay13 k0_pay12
  simp only [pointwise, ht.dh, hs.wout, zero_add]
  rfl

/-- Its gradient of the first third. -/
theorem gb_at (i : Fin 256) (e : Fin 1024) : gb s t (ix2 i e) = gB A (row n i) e := by
  unfold gb k0_pay16
  simp only [pointwise, gy_at ht hs, ht.conv]
  rfl

variable (hn : n < 16)
include hn

/-- The convolution's line: the tile's gradient and, below it, the beginning of the tile after. -/
theorem lineIn_at (k : Fin 264) (e : Fin 1024) : lineIn s t (ix2 k e) = late A (256 * (15 - n) + k.val) e := by
  unfold lineIn
  by_cases hk : k.val < 256
  · rw [put_inside _ _ k e ⟨k.val, hk⟩ (by simp)]
    unfold k0_pay17
    simp only [pointwise, gy_at ht hs, ht.b]
    rw [late, dif_pos (by omega), mul_comm]
    rfl
  · rw [put_outside _ _ k e (Or.inr (by omega))]
    exact hs.line hn k e (by omega)

/-- The line from its first row on, and in the next two from its second and third. -/
theorem ahead0_at (i : Fin 256) (e : Fin 1024) : ahead0 s t (ix2 i e) = late A (row n i).val e :=
  (window_band _ _ i e (by omega)).trans ((lineIn_at ht hs hn _ e).trans (congrArg (late A · e) (by simp only [row]; omega)))

/-- From the second. -/
theorem ahead1_at (i : Fin 256) (e : Fin 1024) : ahead1 s t (ix2 i e) = late A ((row n i).val + 1) e :=
  (window_band _ _ i e (by omega)).trans ((lineIn_at ht hs hn _ e).trans (congrArg (late A · e) (by simp only [row]; omega)))

/-- From the third. -/
theorem ahead2_at (i : Fin 256) (e : Fin 1024) : ahead2 s t (ix2 i e) = late A ((row n i).val + 2) e :=
  (window_band _ _ i e (by omega)).trans ((lineIn_at ht hs hn _ e).trans (congrArg (late A · e) (by simp only [row]; omega)))

omit hs hn in
/-- The three taps. -/
theorem tap0_at (e : Fin 1024) : tap0 t (ix2 0 e) = A.taps 0 e := (window_band _ _ 0 e (by simp)).trans (ht.taps 0 e)
omit hs hn in
/-- The second. -/
theorem tap1_at (e : Fin 1024) : tap1 t (ix2 0 e) = A.taps 1 e := (window_band _ _ 0 e (by simp)).trans (ht.taps 1 e)
omit hs hn in
/-- The third. -/
theorem tap2_at (e : Fin 1024) : tap2 t (ix2 0 e) = A.taps 2 e := (window_band _ _ 0 e (by simp)).trans (ht.taps 2 e)

/-- The tile's gradient at the convolution's input. -/
theorem gHeld_at (i : Fin 256) (e : Fin 1024) : (k0_pay22 (gcv2 s t) (ahead2 s t) (tap0 t) : FVec Ideal S256x1024 .f32) (ix2 i e) = gHeld A (row n i) e := by
  unfold k0_pay22 gcv2 k0_pay20
  simp only [pointwise, ahead0_at ht hs hn, ahead1_at ht hs hn, ahead2_at ht hs hn, zero_add, reduceDIte, Nat.reduceEqDiff, OfNat.ofNat_ne_one, tap0_at ht, tap1_at ht, tap2_at ht]
  rfl

/-- Its gradient of the second third. -/
theorem gc_at (i : Fin 256) (e : Fin 1024) : gc s t (ix2 i e) = gC A (row n i) e := by
  unfold gc k0_pay25 k0_pay15
  simp only [pointwise, gHeld_at ht hs hn, ht.v]
  rfl

/-- Its gradient of the last third. -/
theorem gv_at (i : Fin 256) (e : Fin 1024) : gv s t (ix2 i e) = gV A (row n i) e := by
  unfold gv k0_pay26 k0_pay14
  simp only [pointwise, gHeld_at ht hs hn, ht.cgate]
  rfl

omit hn ht in
/-- The three parts of the input projection's weight. -/
theorem win0_at (k d : Fin 1024) : (window s.win ![0, 0] ![1024, 1024] inb_S3072x1024_S1024x1024_0_0) (ix2 k d) = A.win d (third0 k) :=
  (window_band _ _ k d (by omega)).trans ((hs.win _ d).trans (congrArg (A.win d) (Fin.ext (Nat.zero_add _))))
omit hn ht in
/-- The second. -/
theorem win1_at (k d : Fin 1024) : (window s.win ![1024, 0] ![1024, 1024] inb_S3072x1024_S1024x1024_1024_0) (ix2 k d) = A.win d (third1 k) :=
  (window_band _ _ k d (by omega)).trans (hs.win _ d)
omit hn ht in
/-- The third. -/
theorem win2_at (k d : Fin 1024) : (window s.win ![2048, 0] ![1024, 1024] inb_S3072x1024_S1024x1024_2048_0) (ix2 k d) = A.win d (third2 k) :=
  (window_band _ _ k d (by omega)).trans (hs.win _ d)

/-- The tile's gradient at the normalised input. -/
theorem gNormed_at (i : Fin 256) (d : Fin 1024) :
    (k0_pay1 (gc s t) (gv s t) (gn1 s t) (window s.win ![1024, 0] ![1024, 1024] inb_S3072x1024_S1024x1024_1024_0)
      (window s.win ![2048, 0] ![1024, 1024] inb_S3072x1024_S1024x1024_2048_0) : FVec Ideal S256x1024 .f32) (ix2 i d) = gNormed A (row n i) d := by
  unfold k0_pay1 gn1 k0_pay34
  simp only [pointwise, gb_at ht hs, gc_at ht hs hn, gv_at ht hs hn, win0_at hs, win1_at hs, win2_at hs, zero_add]
  rfl

/-- The tile's gradient at the layer's input. -/
theorem dx_at (i : Fin 256) (d : Fin 1024) : dx s t (ix2 i d) = dX A (row n i) d := by
  unfold dx k0_pay2
  simp only [pointwise, gNormed_at ht hs hn, ht.dh, ht.x, ht.gamma, inv_at ht, zero_add, reduceDIte, Nat.reduceEqDiff, OfNat.ofNat_ne_one]
  rfl

/-- The row of the gain's gradient the point adds. -/
theorem gamma_row_at (acc : Vec Ideal S1x1024 .f32) (d : Fin 1024) :
    (k0_pay3 (gc s t) (gv s t) t.x (k0_pay27 t.x) (gn1 s t) (window s.win ![1024, 0] ![1024, 1024] inb_S3072x1024_S1024x1024_1024_0)
      (window s.win ![2048, 0] ![1024, 1024] inb_S3072x1024_S1024x1024_2048_0) acc : FVec Ideal S1x1024 .f32) (ix2 0 d)
      = acc (ix2 0 d) + ∑ i, gNormed A (row n i) d * A.x (row n i) d * inv A (row n i) := by
  unfold k0_pay3
  simp only [pointwise, gNormed_at ht hs hn, ht.x, inv_at ht, zero_add, reduceDIte, Nat.reduceEqDiff, OfNat.ofNat_ne_one]

/-- The row of the third tap's gradient the point adds, and in the next two the second's and the first's. -/
theorem tap2_row_at (acc : Vec Ideal S1x1024 .f32) (e : Fin 1024) :
    (k0_pay19 (k0_pay14 t.cgate) (k0_pay15 t.v) (ahead0 s t) acc : FVec Ideal S1x1024 .f32) (ix2 0 e)
      = acc (ix2 0 e) + ∑ i, held A (row n i) e * late A (row n i).val e := by
  unfold k0_pay19 k0_pay18 k0_pay14 k0_pay15
  simp only [pointwise, ahead0_at ht hs hn, ht.cgate, ht.v]
  rfl

/-- The second tap's. -/
theorem tap1_row_at (acc : Vec Ideal S1x1024 .f32) (e : Fin 1024) :
    (k0_pay21 (k0_pay14 t.cgate) (k0_pay15 t.v) (ahead1 s t) acc : FVec Ideal S1x1024 .f32) (ix2 0 e)
      = acc (ix2 0 e) + ∑ i, held A (row n i) e * late A ((row n i).val + 1) e := by
  unfold k0_pay21 k0_pay18 k0_pay14 k0_pay15
  simp only [pointwise, ahead1_at ht hs hn, ht.cgate, ht.v]
  rfl

/-- The first tap's. -/
theorem tap0_row_at (acc : Vec Ideal S1x1024 .f32) (e : Fin 1024) :
    (k0_pay23 (k0_pay18 (k0_pay14 t.cgate) (k0_pay15 t.v)) (ahead2 s t) acc : FVec Ideal S1x1024 .f32) (ix2 0 e)
      = acc (ix2 0 e) + ∑ i, held A (row n i) e * late A ((row n i).val + 2) e := by
  unfold k0_pay23 k0_pay18 k0_pay14 k0_pay15
  simp only [pointwise, ahead2_at ht hs hn, ht.cgate, ht.v]
  rfl

omit hs hn in
/-- What the point adds to the output projection's gradient. -/
theorem gout_at (e i : Fin 1024) : nextGout s t (ix2 e i) = s.gout (ix2 e i) + ∑ r, gated A (row n r) e * A.dh (row n r) i := by
  unfold nextGout k0_pay33 k0_pay12
  simp only [pointwise, ht.y, ht.dh, zero_add]

/-- What it adds to the input projection's gradient, third by third. -/
theorem gin0_at (e d : Fin 1024) : nextGin s t (ix2 (third0 e) d) = s.gin (ix2 (third0 e) d) + ∑ i, gB A (row n i) e * normed A (row n i) d := by
  unfold nextGin
  rw [put_outside _ _ _ _ (Or.inl (by simp [third0]; omega)), put_outside _ _ _ _ (Or.inl (by simp [third0])),
    put_inside _ _ _ _ e (by simp [third0])]
  unfold k0_pay30 k0_pay29
  simp only [pointwise, gb_at ht hs, normed_at ht, zero_add]
  exact congrArg (· + _) ((window_band _ _ e d (by omega)).trans (congrArg (fun k => s.gin (ix2 k d)) (Fin.ext (Nat.zero_add _))))

/-- The second third. -/
theorem gin1_at (e d : Fin 1024) : nextGin s t (ix2 (third1 e) d) = s.gin (ix2 (third1 e) d) + ∑ i, gC A (row n i) e * normed A (row n i) d := by
  unfold nextGin
  rw [put_outside _ _ _ _ (Or.inl (by simp [third1]; omega)), put_inside _ _ _ _ e (by simp [third1])]
  unfold k0_pay31 k0_pay29
  simp only [pointwise, gc_at ht hs hn, normed_at ht, zero_add]
  exact congrArg (· + _) (window_band _ _ e d (by omega))

/-- The last third. -/
theorem gin2_at (e d : Fin 1024) : nextGin s t (ix2 (third2 e) d) = s.gin (ix2 (third2 e) d) + ∑ i, gV A (row n i) e * normed A (row n i) d := by
  unfold nextGin
  rw [put_inside _ _ _ _ e (by simp [third2])]
  unfold k0_pay32 k0_pay29
  simp only [pointwise, gv_at ht hs hn, normed_at ht, zero_add]
  exact congrArg (· + _) (window_band _ _ e d (by omega))

/-- A row of sums the four stores leave alone, and each of the four. -/
theorem sums_rest_at (k : Fin 8) (e : Fin 1024) (hk : 4 ≤ k.val) : nextSums s t (ix2 k e) = s.sums (ix2 k e) := by
  unfold nextSums sums1 sums2 sums3
  rw [put_outside _ _ _ _ (Or.inr (by omega)), put_outside _ _ _ _ (Or.inr (by omega)), put_outside _ _ _ _ (Or.inr (by omega)),
    put_outside _ _ _ _ (Or.inr (by omega))]

/-- The gain's. -/
theorem sums0_at (d : Fin 1024) : nextSums s t (ix2 0 d) = s.sums (ix2 0 d) + ∑ i, gNormed A (row n i) d * A.x (row n i) d * inv A (row n i) := by
  unfold nextSums
  rw [put_inside _ _ _ _ 0 (by simp), gamma_row_at ht hs hn]
  exact congrArg (· + _) (window_band _ _ 0 d (by simp))

/-- The first tap's. -/
theorem sums1_at (e : Fin 1024) : nextSums s t (ix2 1 e) = s.sums (ix2 1 e) + ∑ i, held A (row n i) e * late A ((row n i).val + 2) e := by
  unfold nextSums sums1
  rw [put_outside _ _ _ _ (Or.inr (by simp)), put_inside _ _ _ _ 0 (by simp), tap0_row_at ht hs hn]
  exact congrArg (· + _) (window_band _ _ 0 e (by simp))

/-- The second tap's. -/
theorem sums2_at (e : Fin 1024) : nextSums s t (ix2 2 e) = s.sums (ix2 2 e) + ∑ i, held A (row n i) e * late A ((row n i).val + 1) e := by
  unfold nextSums sums1 sums2
  rw [put_outside _ _ _ _ (Or.inr (by simp)), put_outside _ _ _ _ (Or.inr (by simp)), put_inside _ _ _ _ 0 (by simp), tap1_row_at ht hs hn]
  exact congrArg (· + _) (window_band _ _ 0 e (by simp))

/-- The third tap's. -/
theorem sums3_at (e : Fin 1024) : nextSums s t (ix2 3 e) = s.sums (ix2 3 e) + ∑ i, held A (row n i) e * late A (row n i).val e := by
  unfold nextSums sums1 sums2 sums3
  rw [put_outside _ _ _ _ (Or.inr (by simp)), put_outside _ _ _ _ (Or.inr (by simp)), put_outside _ _ _ _ (Or.inr (by simp)),
    put_inside _ _ _ _ 0 (by simp), tap2_row_at ht hs hn]
  exact congrArg (· + _) (window_band _ _ 0 e (by simp))

/-- The halo the point hands on is the beginning of its own gradient. -/
theorem nextLine_at (hn' : n + 1 < 16) (k : Fin 264) (e : Fin 1024) (hk : 256 ≤ k.val) :
    nextLine s t (ix2 k e) = late A (256 * (15 - (n + 1)) + k.val) e := by
  unfold nextLine k0_pay24
  rw [put_inside _ _ k e ⟨k.val - 256, by omega⟩ (by simp; omega)]
  simp only [pointwise]
  exact (window_band _ _ _ e (by simp; omega)).trans ((lineIn_at ht hs hn _ e).trans (congrArg (late A · e) (by simp; omega)))

/-- The state after a point: its tile's sums added. -/
theorem next_is : StateIs A (n + 1) (next s t) where
  win := hs.win
  wout := hs.wout
  line hn' := nextLine_at ht hs hn hn'
  sum0 d := (sums0_at ht hs hn d).trans (by rw [hs.sum0, soFar_succ])
  sum1 e := (sums1_at ht hs hn e).trans (by rw [hs.sum1, soFar_succ])
  sum2 e := (sums2_at ht hs hn e).trans (by rw [hs.sum2, soFar_succ])
  sum3 e := (sums3_at ht hs hn e).trans (by rw [hs.sum3, soFar_succ])
  rest k e hk := (sums_rest_at ht hs hn k e hk).trans (hs.rest k e hk)
  gin0 e d := (gin0_at ht hs hn e d).trans (by rw [hs.gin0, soFar_succ])
  gin1 e d := (gin1_at ht hs hn e d).trans (by rw [hs.gin1, soFar_succ])
  gin2 e d := (gin2_at ht hs hn e d).trans (by rw [hs.gin2, soFar_succ])
  gout e i := (gout_at ht e i).trans (by rw [hs.gout, soFar_succ])

end Point

/-! ## The first point's state -/

/-- A packed weight array: share `k`'s rows 0 to 383 are rows `384 k` on of the input projection's transpose, its rows
384 to 511 rows `128 k` on of the output projection. -/
structure PackIs (w : Vec Ideal S8x3008x1024 .bf16) : Prop where
  win : ∀ (k : Fin 8) (r : Fin 3008) (d : Fin 1024) (h : r.val < 384), w (ix3 k r d) = A.win d ⟨384 * k.val + r.val, by omega⟩
  wout : ∀ (k : Fin 8) (r : Fin 3008) (d : Fin 1024) (h : r.val < 128) (r' : Fin 3008), r'.val = 384 + r.val →
    w (ix3 k r' d) = A.wout ⟨128 * k.val + r.val, by omega⟩ d

/-- The input projection's gradient starts from zeros, and so does the output projection's. -/
theorem gin_zero (i : S3072x1024.Idx) : (k0_pay10 : FVec Ideal S3072x1024 .f32) i = 0 := Ideal.ofBits_zero_f32
/-- The output projection's. -/
theorem gout_zero (i : S1024x1024.Idx) : (k0_pay11 : FVec Ideal S1024x1024 .f32) i = 0 := Ideal.ofBits_zero_f32

/-- The state before the first point: the gathered weights and zeros. -/
theorem start_is {w : Vec Ideal S8x3008x1024 .bf16} (hw : PackIs A w) : StateIs A 0 (start w) where
  win j d := by
    have e : (start w).win (ix2 j d) = w (ix3 ⟨j.val / 384, by omega⟩ ⟨j.val % 384, by omega⟩ d) :=
      congrArg w (funext fun a => match a with | ⟨0, _⟩ => rfl | ⟨1, _⟩ => rfl | ⟨2, _⟩ => rfl)
    rw [e, hw.win _ _ _ (by simp; omega)]
    exact congrArg (A.win d) (Fin.ext (by simp; omega))
  wout k d := by
    have e : (start w).wout (ix2 k d) = w (ix3 ⟨k.val / 128, by omega⟩ ⟨384 + k.val % 128, by omega⟩ d) :=
      congrArg w (funext fun a => match a with | ⟨0, _⟩ => rfl | ⟨1, _⟩ => rfl | ⟨2, _⟩ => rfl)
    rw [e, hw.wout _ ⟨k.val % 128, by omega⟩ _ (by simp; omega) _ rfl]
    exact congrArg (A.wout · d) (Fin.ext (by simp; omega))
  line _ k e hk := by
    rw [late, dif_neg (by omega)]
    exact Ideal.ofBits_zero_f32
  sum0 d := Ideal.ofBits_zero_f32
  sum1 e := Ideal.ofBits_zero_f32
  sum2 e := Ideal.ofBits_zero_f32
  sum3 e := Ideal.ofBits_zero_f32
  rest k e _ := Ideal.ofBits_zero_f32
  gin0 e d := gin_zero (ix2 (third0 e) d)
  gin1 e d := gin_zero (ix2 (third1 e) d)
  gin2 e d := gin_zero (ix2 (third2 e) d)
  gout e i := gout_zero (ix2 e i)

end Cert.KernelIdeal.Mixer

end
-- ==== Proof.Forward.lean ====
module

public import proofs.«01_k».proof.Proof.Spec
public import proofs.«01_k».proof.Proof.Gen.ReferenceIdeal
public import Idealize.ShloMosaic.Lib.Pointwise

@[expose] public section

noncomputable section

/-! # The forward pass as arrays

Both programs compute the layer's projection, its three thirds and the line the convolution runs along by the same host
operations; here are those, as functions of arrays, and what each holds at an index. -/

namespace Cert.Mixer

open Idealize.ShloMosaic Cert.ReferenceIdeal Cert.ReferenceIdeal.Gen
open scoped BigOperators

/-- The formulas' arguments read off arrays. -/
def argsOf (x : FVec Ideal S4096x1024 .f32) (a : FVec Ideal S1x1024 .f32) (w : FVec Ideal S1024x3072 .f32) (t : FVec Ideal S3x1024 .f32)
    (o : FVec Ideal S1024x1024 .f32) (g : FVec Ideal S4096x1024 .f32) : Args where
  x s d := x (ix2 s d)
  gamma d := a (ix2 0 d)
  win d j := w (ix2 d j)
  taps k e := t (ix2 k e)
  wout e i := o (ix2 e i)
  dh s i := g (ix2 s i)

/-- The rows' mean squares plus the constant. -/
def underOf (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- The normalised input before its gain. -/
def scaledOf (x : FVec Ideal S4096x1024 .f32) : FVec Ideal S4096x1024 .f32 :=
  mulf x (broadcastInDim S4096x1024 ![0, 1] bcast_S4096x1_S4096x1024_0_1 (Host.rsqrt (underOf x)))

/-- The projection, the gain given as a whole array. -/
def projOf (x b : FVec Ideal S4096x1024 .f32) (w : FVec Ideal S1024x3072 .f32) : FVec Ideal S4096x3072 .f32 :=
  Host.dotGeneral dot_S4096x1024_S1024x3072_S4096x3072_1_0_0_1_n_n none (mulf (scaledOf x) b) w

/-- Its first third, second and last. -/
def part0 (p : FVec Ideal S4096x3072 .f32) : FVec Ideal S4096x1024 .f32 := extractStridedSlice S4096x1024 ![0, 0] p slices_S4096x3072_S4096x1024_0_0
/-- The second. -/
def part1 (p : FVec Ideal S4096x3072 .f32) : FVec Ideal S4096x1024 .f32 := extractStridedSlice S4096x1024 ![0, 1024] p slices_S4096x3072_S4096x1024_0_1024
/-- The last. -/
def part2 (p : FVec Ideal S4096x3072 .f32) : FVec Ideal S4096x1024 .f32 := extractStridedSlice S4096x1024 ![0, 2048] p slices_S4096x3072_S4096x1024_0_2048

/-- The convolution's input behind two rows of zeros. -/
def lineOf (p : FVec Ideal S4096x3072 .f32) : FVec Ideal S4098x1024 .f32 :=
  concatenate S4098x1024 0 [⟨S2x1024, (broadcastInDim S2x1024 ![] bcast_S_S2x1024 (constant S_ .f32 0x00000000#32) : FVec Ideal S2x1024 .f32)⟩,
    ⟨S4096x1024, mulf (part1 p) (part2 p)⟩] concatenates_S2x1024_S4096x1024_S4098x1024_d0

/-- The line from its first row on, its second and its third. -/
def line0 (p : FVec Ideal S4096x3072 .f32) : FVec Ideal S4096x1024 .f32 := extractStridedSlice S4096x1024 ![0, 0] (lineOf p) slices_S4098x1024_S4096x1024_0_0
/-- From the second. -/
def line1 (p : FVec Ideal S4096x3072 .f32) : FVec Ideal S4096x1024 .f32 := extractStridedSlice S4096x1024 ![1, 0] (lineOf p) slices_S4098x1024_S4096x1024_1_0
/-- From the third. -/
def line2 (p : FVec Ideal S4096x3072 .f32) : FVec Ideal S4096x1024 .f32 := extractStridedSlice S4096x1024 ![2, 0] (lineOf p) slices_S4098x1024_S4096x1024_2_0

section At
variable {x : FVec Ideal S4096x1024 .f32} {a : FVec Ideal S1x1024 .f32} {w : FVec Ideal S1024x3072 .f32} {t : FVec Ideal S3x1024 .f32}
  {o : FVec Ideal S1024x1024 .f32} {g b : FVec Ideal S4096x1024 .f32}

/-- The mean square at a row. -/
theorem underOf_at (s : Fin 4096) : underOf x (ix2 s 0) = under (argsOf x a w t o g) s := by
  unfold underOf
  simp only [pointwise, zero_add, reduceDIte, Nat.reduceEqDiff, OfNat.ofNat_ne_one]
  rfl

/-- The normalised input at an index. -/
theorem scaledOf_at (s : Fin 4096) (d : Fin 1024) : scaledOf x (ix2 s d) = scaled (argsOf x a w t o g) s d := by
  unfold scaledOf
  simp only [pointwise, zero_add, reduceDIte, Nat.reduceEqDiff, OfNat.ofNat_ne_one, underOf_at (a := a) (w := w) (t := t) (o := o) (g := g)]
  rfl

variable (hb : ∀ s d, b (ix2 s d) = a (ix2 0 d))
include hb

/-- The projection at an index. -/
theorem projOf_at (s : Fin 4096) (j : Fin 3072) : projOf x b w (ix2 s j) = proj (argsOf x a w t o g) s j := by
  unfold projOf
  simp only [pointwise, zero_add, scaledOf_at (a := a) (w := w) (t := t) (o := o) (g := g), hb]
  rfl

/-- Its thirds at an index. -/
theorem part0_at (s : Fin 4096) (e : Fin 1024) : part0 (projOf x b w) (ix2 s e) = proj (argsOf x a w t o g) s (third0 e) := by
  unfold part0
  simp only [pointwise]
  exact (projOf_at hb _ _).trans (congrArg₂ (proj _) (Fin.ext (by simp)) (Fin.ext (by simp [third0])))

/-- The second. -/
theorem part1_at (s : Fin 4096) (e : Fin 1024) : part1 (projOf x b w) (ix2 s e) = proj (argsOf x a w t o g) s (third1 e) := by
  unfold part1
  simp only [pointwise]
  exact (projOf_at hb _ _).trans (congrArg₂ (proj _) (Fin.ext (by simp)) (Fin.ext (by simp [third1])))

/-- The last. -/
theorem part2_at (s : Fin 4096) (e : Fin 1024) : part2 (projOf x b w) (ix2 s e) = proj (argsOf x a w t o g) s (third2 e) := by
  unfold part2
  simp only [pointwise]
  exact (projOf_at hb _ _).trans (congrArg₂ (proj _) (Fin.ext (by simp)) (Fin.ext (by simp [third2])))

/-- The line at an index: its row `r` is row `r - 2` of the convolution's input. -/
theorem lineOf_at (s : Fin 4096) (k : ℕ) (hk : k ≤ 2) (r : Fin 4098) (hr : r.val + k = s.val + 2) (e : Fin 1024) :
    lineOf (projOf x b w) (ix2 r e) = before (argsOf x a w t o g) k s e := by
  unfold lineOf before
  by_cases h : k ≤ s.val
  · rw [if_pos h]
    refine (concatenate_pair_apply_right (t := S4098x1024) (s₁ := S2x1024) (s₂ := S4096x1024) 0 _ _ _ (ix2 r e) rfl rfl (ix2 (n0 := 4096) ⟨s.val - k, by omega⟩ e) (fun q hq => ?_) ?_).trans ?_
    · match q with
      | ⟨0, _⟩ => exact absurd rfl hq
      | ⟨1, _⟩ => rfl
    · show s.val - k + 2 = r.val
      omega
    · exact congrArg₂ (· * ·) (part1_at hb _ _) (part2_at hb _ _)
  · rw [if_neg h]
    refine (concatenate_pair_apply_left (t := S4098x1024) (s₁ := S2x1024) (s₂ := S4096x1024) 0 _ _ _ (ix2 r e) rfl (ix2 (n0 := 2) ⟨r.val, by omega⟩ e) fun q => ?_).trans ?_
    · match q with
      | ⟨0, _⟩ => rfl
      | ⟨1, _⟩ => rfl
    · simp only [pointwise]

/-- The three shifted lines at an index. -/
theorem line0_at (s : Fin 4096) (e : Fin 1024) : line0 (projOf x b w) (ix2 s e) = before (argsOf x a w t o g) 2 s e := by
  unfold line0
  simp only [pointwise]
  exact (congrArg _ (by simp)).trans (lineOf_at hb s 2 (by omega) ⟨s.val, by omega⟩ rfl e)

/-- The second. -/
theorem line1_at (s : Fin 4096) (e : Fin 1024) : line1 (projOf x b w) (ix2 s e) = before (argsOf x a w t o g) 1 s e := by
  unfold line1
  simp only [pointwise]
  exact (congrArg _ (by simp)).trans (lineOf_at hb s 1 (by omega) ⟨1 + s.val, by omega⟩ (by simp; omega) e)

/-- The third. -/
theorem line2_at (s : Fin 4096) (e : Fin 1024) : line2 (projOf x b w) (ix2 s e) = before (argsOf x a w t o g) 0 s e := by
  unfold line2
  simp only [pointwise]
  exact (congrArg _ (by simp)).trans (lineOf_at hb s 0 (by omega) ⟨2 + s.val, by omega⟩ (by simp; omega) e)

end At

end Cert.Mixer

end
-- ==== Proof.Prefix.lean ====
module

public import proofs.«01_k».proof.Proof.Launch
public import proofs.«01_k».proof.Proof.StepValue
public import proofs.«01_k».proof.Proof.Forward
public import Idealize.ShloMosaic.Lib.Pipeline.ValueKit.Point

@[expose] public section

noncomputable section

/-! # What the launch finds

The kernel's program prepares the launch's arrays by host operations; each holds the formulas' array. -/

namespace Cert.KernelIdeal.Mixer

open Idealize.ShloMosaic Idealize.ShloMosaic.TcCoe Cert.KernelIdeal.Gen Cert.Mixer
open scoped BigOperators

variable (m : (ℓ : Loc nD τ sig) → Buf (Elt Ideal) ℓ) (c : Dev nD)

/-- The formulas' arguments in the launch's memory. -/
def args : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

/-- The gain as a whole array. -/
def gainOf (a : FVec Ideal S1x1024 .f32) : FVec Ideal S4096x1024 .f32 := broadcastInDim S4096x1024 ![0, 1] bcast_S1x1024_S4096x1024_0_1 a

/-- The convolution as the host computes it. -/
def convOf (p : FVec Ideal S4096x3072 .f32) (t : FVec Ideal S3x1024 .f32) : FVec Ideal S4096x1024 .f32 :=
  addf (addf (mulf (broadcastInDim S4096x1024 ![0, 1] bcast_S1x1024_S4096x1024_0_1 (extractStridedSlice S1x1024 ![0, 0] t slices_S3x1024_S1x1024_0_0)) (line0 p))
      (mulf (broadcastInDim S4096x1024 ![0, 1] bcast_S1x1024_S4096x1024_0_1 (extractStridedSlice S1x1024 ![1, 0] t slices_S3x1024_S1x1024_1_0)) (line1 p)))
    (mulf (broadcastInDim S4096x1024 ![0, 1] bcast_S1x1024_S4096x1024_0_1 (extractStridedSlice S1x1024 ![2, 0] t slices_S3x1024_S1x1024_2_0)) (line2 p))

/-- The projection in the launch's memory. -/
def projIn : FVec Ideal S4096x3072 .f32 :=
  projOf (m ((c.tc : Thread nD τ).loc main_arg0)) (gainOf (m ((c.tc : Thread nD τ).loc main_arg1))) (m ((c.tc : Thread nD τ).loc main_arg2))

/-- The packed weights as the host prepares them. -/
def packOf (w : FVec Ideal S1024x3072 .f32) (o : FVec Ideal S1024x1024 .f32) : FVec Ideal S8x3008x1024 .f32 :=
  concatenate S8x3008x1024 1 [⟨S8x384x1024, shapeCast S8x384x1024 (transpose S3072x1024 [1, 0] w transposes_S1024x3072_S3072x1024_1_0) shapeCasts_S3072x1024_S8x384x1024⟩,
    ⟨S8x128x1024, shapeCast S8x128x1024 o shapeCasts_S1024x1024_S8x128x1024⟩,
    ⟨S8x2496x1024, (broadcastInDim S8x2496x1024 ![] bcast_S_S8x2496x1024 (constant S_ .f32 0x00000000#32) : FVec Ideal S8x2496x1024 .f32)⟩]
    concatenates_S8x384x1024_S8x128x1024_S8x2496x1024_S8x3008x1024_d1

set_option maxRecDepth 8192

/-- The packed weights in the launch's memory. -/
def packIn : FVec Ideal S8x3008x1024 .f32 := packOf (m ((c.tc : Thread nD τ).loc main_arg2)) (m ((c.tc : Thread nD τ).loc main_arg4))

/-- The convolution in the launch's memory. -/
def convIn : FVec Ideal S4096x1024 .f32 := convOf (projIn m c) (m ((c.tc : Thread nD τ).loc main_arg3))

/-- The launch's arrays, as the operations leave them: the packed weights. -/
theorem read_pack : V m c main_v39 = truncf .bf16 (packIn m c) bitsLt_bf16_f32 := rfl

/-- The three thirds. -/
theorem read_b : V m c main_v41 = truncf .bf16 (part0 (projIn m c)) bitsLt_bf16_f32 := rfl
/-- The second. -/
theorem read_cgate : V m c main_v42 = truncf .bf16 (part1 (projIn m c)) bitsLt_bf16_f32 := rfl
/-- The last. -/
theorem read_v : V m c main_v43 = truncf .bf16 (part2 (projIn m c)) bitsLt_bf16_f32 := rfl
/-- The convolution. -/
theorem read_conv : V m c main_v44 = truncf .bf16 (convIn m c) bitsLt_bf16_f32 := rfl
/-- The output projection's input. -/
theorem read_y : V m c main_v45 = truncf .bf16 (mulf (part0 (projIn m c)) (convIn m c)) bitsLt_bf16_f32 := rfl

section Values

/-- The gain at an index. -/
theorem gainOf_at (a : FVec Ideal S1x1024 .f32) (s d) : gainOf a (ix2 s d) = a (ix2 0 d) := by
  unfold gainOf
  simp only [pointwise, reduceDIte, Nat.reduceEqDiff, OfNat.ofNat_ne_one]

/-- The first third of the projection at an index. -/
theorem first_at (s e) : part0 (projIn m c) (ix2 s e) = proj (args m c) s (third0 e) := part0_at (gainOf_at _) s e
/-- The second. -/
theorem second_at (s e) : part1 (projIn m c) (ix2 s e) = proj (args m c) s (third1 e) := part1_at (gainOf_at _) s e
/-- The last. -/
theorem last_at (s e) : part2 (projIn m c) (ix2 s e) = proj (args m c) s (third2 e) := part2_at (gainOf_at _) s e

/-- The convolution at an index. -/
theorem convIn_at (s e) : convIn m c (ix2 s e) = conv (args m c) s e := by
  unfold convIn convOf projIn
  simp only [pointwise, reduceDIte, Nat.reduceEqDiff, OfNat.ofNat_ne_one, Matrix.cons_val_one, Matrix.cons_val_fin_one, line0_at (t := m ((c.tc : Thread nD τ).loc main_arg3)) (o := m ((c.tc : Thread nD τ).loc main_arg4)) (g := m ((c.tc : Thread nD τ).loc main_arg5)) (gainOf_at _), line1_at (t := m ((c.tc : Thread nD τ).loc main_arg3)) (o := m ((c.tc : Thread nD τ).loc main_arg4)) (g := m ((c.tc : Thread nD τ).loc main_arg5)) (gainOf_at _), line2_at (t := m ((c.tc : Thread nD τ).loc main_arg3)) (o := m ((c.tc : Thread nD τ).loc main_arg4)) (g := m ((c.tc : Thread nD τ).loc main_arg5)) (gainOf_at _), zero_add]
  rfl

/-- The packed weights hold eight slices of the transposed input weight, each before eight rows' share of the output weight. -/
theorem packIn_is : PackIs (args m c) (packIn m c) where
  win k r d h := by
    unfold packIn packOf
    refine Eq.trans (concatenate_apply_piece (t := S8x3008x1024) _ _ _ _ 0 (by simp) S8x384x1024 _ rfl rfl 0 (by simp) (ix3 k ⟨r.val, h⟩ d) (fun a ha => ?_) ?_) ?_
    · match a with
      | ⟨0, _⟩ => rfl
      | ⟨2, _⟩ => rfl
    · show 0 + r.val = r.val
      exact Nat.zero_add _
    · refine Eq.trans (shapeCast_apply _ _ _ (ix2 (n0 := 3072) ⟨384 * k.val + r.val, by omega⟩ d) ?_) (by simp only [pointwise]; rfl)
      rw [Shape.rowMajor_val_two, Shape.rowMajor_val_three]
      simp; omega
  wout k r d h r' hr := by
    unfold packIn packOf
    refine Eq.trans (concatenate_apply_piece (t := S8x3008x1024) _ _ _ _ 1 (by simp) S8x128x1024 _ rfl rfl 384 (by simp) (ix3 k ⟨r.val, h⟩ d) (fun a ha => ?_) ?_) ?_
    · match a with
      | ⟨0, _⟩ => rfl
      | ⟨2, _⟩ => rfl
    · show 384 + r.val = r'.val
      exact hr.symm
    · refine Eq.trans (shapeCast_apply _ _ _ (ix2 (n0 := 1024) ⟨128 * k.val + r.val, by omega⟩ d) ?_) rfl
      rw [Shape.rowMajor_val_two, Shape.rowMajor_val_three]
      simp; omega

end Values

/-- The index maps: the tiles run from the last to the first; the gain and the taps are whole. -/
theorem where_are (t : Fin cfg0.N) : win0_0.index t = ![15 - t.val, 0] ∧ win0_1.index t = ![15 - t.val, 0] ∧ win0_2.index t = ![15 - t.val, 0]
    ∧ win0_3.index t = ![15 - t.val, 0] ∧ win0_4.index t = ![15 - t.val, 0] ∧ win0_5.index t = ![15 - t.val, 0] ∧ win0_6.index t = ![15 - t.val, 0]
    ∧ win0_7.index t = ![0, 0] ∧ win0_8.index t = ![0, 0] ∧ win0_9.index t = ![15 - t.val, 0] ∧ win0_10.index t = ![0, 0] := by
  revert t
  decide +kernel

/-- The block of the incoming gradient is its tile. -/
theorem block0 (t : Fin cfg0.N) (i : Fin 256) (e : Fin 1024) : (iblk m c 0 t : S256x1024.Idx → EReal) (ix2 i e) = V m c main_arg5 (ix2 (Cert.Mixer.row t.val i) e) := by
  blk_ext [iblk, where_are t, Cert.Mixer.row]

/-- The input's. -/
theorem block1 (t : Fin cfg0.N) (i : Fin 256) (e : Fin 1024) : (iblk m c 1 t : S256x1024.Idx → EReal) (ix2 i e) = V m c main_arg0 (ix2 (Cert.Mixer.row t.val i) e) := by
  blk_ext [iblk, where_are t, Cert.Mixer.row]

/-- The first third's. -/
theorem block2 (t : Fin cfg0.N) (i : Fin 256) (e : Fin 1024) : (iblk m c 2 t : S256x1024.Idx → EReal) (ix2 i e) = V m c main_v41 (ix2 (Cert.Mixer.row t.val i) e) := by
  blk_ext [iblk, where_are t, Cert.Mixer.row]

/-- The second's. -/
theorem block3 (t : Fin cfg0.N) (i : Fin 256) (e : Fin 1024) : (iblk m c 3 t : S256x1024.Idx → EReal) (ix2 i e) = V m c main_v42 (ix2 (Cert.Mixer.row t.val i) e) := by
  blk_ext [iblk, where_are t, Cert.Mixer.row]

/-- The last's. -/
theorem block4 (t : Fin cfg0.N) (i : Fin 256) (e : Fin 1024) : (iblk m c 4 t : S256x1024.Idx → EReal) (ix2 i e) = V m c main_v43 (ix2 (Cert.Mixer.row t.val i) e) := by
  blk_ext [iblk, where_are t, Cert.Mixer.row]

/-- The convolution's. -/
theorem block5 (t : Fin cfg0.N) (i : Fin 256) (e : Fin 1024) : (iblk m c 5 t : S256x1024.Idx → EReal) (ix2 i e) = V m c main_v44 (ix2 (Cert.Mixer.row t.val i) e) := by
  blk_ext [iblk, where_are t, Cert.Mixer.row]

/-- The gated convolution's. -/
theorem block6 (t : Fin cfg0.N) (i : Fin 256) (e : Fin 1024) : (iblk m c 6 t : S256x1024.Idx → EReal) (ix2 i e) = V m c main_v45 (ix2 (Cert.Mixer.row t.val i) e) := by
  blk_ext [iblk, where_are t, Cert.Mixer.row]

/-- The gain's block is the gain. -/
theorem block7 (t : Fin cfg0.N) (e : Fin 1024) : (iblk m c 7 t : S1x1024.Idx → EReal) (ix2 0 e) = V m c main_arg1 (ix2 0 e) := by
  blk_ext [iblk, where_are t]

/-- The taps' block is the taps. -/
theorem block8 (t : Fin cfg0.N) (k : Fin 3) (e : Fin 1024) : (iblk m c 8 t : S3x1024.Idx → EReal) (ix2 k e) = V m c main_arg3 (ix2 k e) := by
  blk_ext [iblk, where_are t]

/-- So the first third's block is the formulas'. -/
theorem tile_b (t : Fin cfg0.N) (i : Fin 256) (e : Fin 1024) : (iblk m c 2 t : S256x1024.Idx → EReal) (ix2 i e) = proj (args m c) (Cert.Mixer.row t.val i) (third0 e) := by
  rw [block2, read_b]
  exact first_at m c _ e

/-- The second's. -/
theorem tile_cgate (t : Fin cfg0.N) (i : Fin 256) (e : Fin 1024) : (iblk m c 3 t : S256x1024.Idx → EReal) (ix2 i e) = proj (args m c) (Cert.Mixer.row t.val i) (third1 e) := by
  rw [block3, read_cgate]
  exact second_at m c _ e

/-- The last's. -/
theorem tile_v (t : Fin cfg0.N) (i : Fin 256) (e : Fin 1024) : (iblk m c 4 t : S256x1024.Idx → EReal) (ix2 i e) = proj (args m c) (Cert.Mixer.row t.val i) (third2 e) := by
  rw [block4, read_v]
  exact last_at m c _ e

/-- The convolution's. -/
theorem tile_conv (t : Fin cfg0.N) (i : Fin 256) (e : Fin 1024) : (iblk m c 5 t : S256x1024.Idx → EReal) (ix2 i e) = conv (args m c) (Cert.Mixer.row t.val i) e := by
  rw [block5, read_conv]
  exact convIn_at m c _ e

/-- The gated convolution's. -/
theorem tile_y (t : Fin cfg0.N) (i : Fin 256) (e : Fin 1024) : (iblk m c 6 t : S256x1024.Idx → EReal) (ix2 i e) = gated (args m c) (Cert.Mixer.row t.val i) e := by
  rw [block6, read_y]
  exact congrArg₂ (· * ·) (first_at m c _ e) (convIn_at m c _ e)

/-- The incoming gradient's. -/
theorem tile_dh (t : Fin cfg0.N) (i : Fin 256) (e : Fin 1024) : (iblk m c 0 t : S256x1024.Idx → EReal) (ix2 i e) = (args m c).dh (Cert.Mixer.row t.val i) e := by
  rw [block0, V_main_arg5]
  rfl

/-- The input's. -/
theorem tile_x (t : Fin cfg0.N) (i : Fin 256) (e : Fin 1024) : (iblk m c 1 t : S256x1024.Idx → EReal) (ix2 i e) = (args m c).x (Cert.Mixer.row t.val i) e := by
  rw [block1, V_main_arg0]
  rfl

/-- The gain's. -/
theorem tile_gamma (t : Fin cfg0.N) (e : Fin 1024) : (iblk m c 7 t : S1x1024.Idx → EReal) (ix2 0 e) = (args m c).gamma e := by
  rw [block7, V_main_arg1]
  rfl

/-- The taps'. -/
theorem tile_taps (t : Fin cfg0.N) (k : Fin 3) (e : Fin 1024) : (iblk m c 8 t : S3x1024.Idx → EReal) (ix2 k e) = (args m c).taps k e := by
  rw [block8, V_main_arg3]
  rfl

end Cert.KernelIdeal.Mixer

end
-- ==== Proof.States.lean ====
module

public import proofs.«01_k».proof.Proof.Prefix

@[expose] public section

noncomputable section

/-! # The state before every point is the formulas' -/

namespace Cert.KernelIdeal.Mixer

open Idealize.ShloMosaic Idealize.ShloMosaic.TcCoe Cert.KernelIdeal.Gen Cert.Mixer

variable (m : (ℓ : Loc nD τ sig) → Buf (Elt Ideal) ℓ) (c : Dev nD)

/-- Point `t`'s tile is the formulas'. -/
theorem tile_is (t : Fin cfg0.N) : TileIs (args m c) t.val (tile m c t) := by
  constructor
  · intro i e
    dsimp only [tile]
    exact tile_dh m c t i e
  · intro i e
    dsimp only [tile]
    exact tile_x m c t i e
  · intro i e
    dsimp only [tile]
    exact tile_b m c t i e
  · intro i e
    dsimp only [tile]
    exact tile_cgate m c t i e
  · intro i e
    dsimp only [tile]
    exact tile_v m c t i e
  · intro i e
    dsimp only [tile]
    exact tile_conv m c t i e
  · intro i e
    dsimp only [tile]
    exact tile_y m c t i e
  · intro e
    dsimp only [tile]
    exact tile_gamma m c t e
  · intro k e
    dsimp only [tile]
    exact tile_taps m c t k e

/-- Before every point the state is the formulas'. -/
theorem state_is : ∀ n, n ≤ 16 → StateIs (args m c) n (stateAt m c n)
  | 0, _ => start_is (A := args m c) (by
      have e : hbM0_0.view.read (Elt Ideal) (V m c main_v39) = packIn m c := read_pack m c
      rw [e]
      exact packIn_is m c)
  | n + 1, h => by
      have e := stateAt_succ m c ⟨n, h⟩
      exact e ▸ next_is (tile_is m c ⟨n, h⟩) (state_is n (by omega)) h

end Cert.KernelIdeal.Mixer

end
-- ==== Proof.Arrays.lean ====
module

public import proofs.«01_k».proof.Proof.States

@[expose] public section

noncomputable section

/-! # The kernel's result arrays -/

namespace Cert.KernelIdeal.Mixer

open Idealize.ShloMosaic Idealize.ShloMosaic.TcCoe Cert.KernelIdeal.Gen Cert.Mixer

variable (m : (ℓ : Loc nD τ sig) → Buf (Elt Ideal) ℓ) (c : Dev nD)

/-- The gradient at the input ends at the formulas'. -/
theorem final_dx : (dats m 0 c).arrAt 9 cfg0.N = (fun j => dX (args m c) (j 0) (j 1) : S4096x1024.Idx → EReal) := by
  refine (dats m 0 c).arrAt_eq_of_covers 9 _ (by decide +kernel) fun t hf y => ?_
  blk_simp
  rw [after_9]
  obtain ⟨i, k, rfl⟩ : ∃ (i : Fin 256) (k : Fin 1024), (y : S256x1024.Idx) = ix2 i k := ⟨y 0, y 1, eq_ix2 y⟩
  have e : (win0_9.blk t).view.emb (ix2 i k : S256x1024.Idx) = (ix2 (Cert.Mixer.row t.val i) k : S4096x1024.Idx) := by
    blk_ext [where_are t, Cert.Mixer.row]
  refine (dx_at (tile_is m c t) (state_is m c t.val (le_of_lt t.isLt)) t.isLt i k).trans ?_
  exact congrArg (fun j : S4096x1024.Idx => dX (args m c) (j 0) (j 1)) e.symm

/-- The row sums end at the last state's. -/
theorem final_sums : (dats m 0 c).arrAt 10 cfg0.N = (stateAt m c 16).sums := by
  refine (dats m 0 c).arrAt_eq_of_covers 10 _ (by decide +kernel) fun t hf y => ?_
  blk_simp
  rw [after_10]
  have e : t.val + 1 = 16 := by
    have h := (flush0_10 t).mp hf
    have : t.val < 16 := t.isLt
    omega
  rw [e]
  refine congrArg (stateAt m c 16).sums (?_ : (y : S8x1024.Idx) = _)
  blk_ext [where_are t]

/-- Writing a whole buffer writes its vector: for the input projection's gradient. -/
theorem unread_gin (x : Vec Ideal S3072x1024 .bf16) : (Memref.isWhole_whole main_v46_2).unread (Val := Elt Ideal) x = x := (Memref.isWhole_whole main_v46_2).read_unread (Val := Elt Ideal) x
/-- And the output projection's. -/
theorem unread_gout (x : Vec Ideal S1024x1024 .bf16) : (Memref.isWhole_whole main_v46_3).unread (Val := Elt Ideal) x = x := (Memref.isWhole_whole main_v46_3).read_unread (Val := Elt Ideal) x

/-- Every run ends with the four results at these values and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v46_0) = (fun j => dX (args m c) (j 0) (j 1) : S4096x1024.Idx → EReal)
      ∧ r.2.mem ((c.tc : Thread nD τ).loc main_v46_1) = (stateAt m c 16).sums
      ∧ r.2.mem ((c.tc : Thread nD τ).loc main_v46_2) = ginOut (stateAt m c 16)
      ∧ r.2.mem ((c.tc : Thread nD τ).loc main_v46_3) = goutOut (stateAt m c 16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h.2.toR c).1 9).trans (final_dx m c), ((h.2.toR c).1 10).trans (final_sums m c),
        (h.2.written c (by decide)).trans ((finalOf_gin m c).trans (unread_gin _)), (h.2.written c (by decide)).trans ((finalOf_gout m c).trans (unread_gout _)), h.1.1 c⟩)
    (θ_run_and (frame_main m ρ) (run_main m ρ))

end Cert.KernelIdeal.Mixer

end
-- ==== Proof.Backward.lean ====
module

public import proofs.«01_k».proof.Proof.Forward
public import proofs.«01_k».proof.Proof.Gen.ReferenceIdeal.Run

@[expose] public section

noncomputable section

/-! # The reference's derivative as arrays

The reference's operations, gathered into functions of its arguments: the forward pass, and the derivative run back through it. -/

namespace Cert.Mixer

open Idealize.ShloMosaic Idealize.ShloMosaic.TcCoe Cert.ReferenceIdeal Cert.ReferenceIdeal.Gen

/-- The zero the sums start from. -/
abbrev none0 : FVec Ideal S_ .f32 := constant S_ .f32 0x00000000#32

/-- A row as a whole array. -/
def spread (r : FVec Ideal S1x1024 .f32) : FVec Ideal S4096x1024 .f32 :=
  broadcastInDim S4096x1024 ![0, 1] bcast_S1x1024_S4096x1024_0_1 (broadcastInDim S1x1024 ![1] bcast_S1024_S1x1024_1 (shapeCast S1024 r shapeCasts_S1x1024_S1024))

/-- The convolution. -/
def convR (p : FVec Ideal S4096x3072 .f32) (t : FVec Ideal S3x1024 .f32) : FVec Ideal S4096x1024 .f32 :=
  addf (addf (addf (broadcastInDim S4096x1024 ![] bcast_S_S4096x1024 none0)
    (mulf (spread (extractStridedSlice S1x1024 ![0, 0] t slices_S3x1024_S1x1024_0_0)) (line0 p)))
    (mulf (spread (extractStridedSlice S1x1024 ![1, 0] t slices_S3x1024_S1x1024_1_0)) (line1 p)))
    (mulf (spread (extractStridedSlice S1x1024 ![2, 0] t slices_S3x1024_S1x1024_2_0)) (line2 p))

/-- The incoming gradient as the reference takes it. -/
def inR (g : FVec Ideal S4096x1024 .f32) : FVec Ideal S4096x1024 .f32 := shapeCast S4096x1024 g shapeCasts_S4096x1024_S4096x1024

/-- The gradient at the output projection's input. -/
def gGatedR (o : FVec Ideal S1024x1024 .f32) (g : FVec Ideal S4096x1024 .f32) : FVec Ideal S4096x1024 .f32 :=
  Host.dotGeneral dot_S4096x1024_S1024x1024_S4096x1024_1_1_0_0_n_n none (inR g) o

/-- The gradient at the convolution's output. -/
def gConvR (p : FVec Ideal S4096x3072 .f32) (o : FVec Ideal S1024x1024 .f32) (g : FVec Ideal S4096x1024 .f32) : FVec Ideal S4096x1024 .f32 :=
  mulf (part0 p) (gGatedR o g)

/-- The gradient along the line, from the gradient at the convolution's output. -/
def gLineR (t : FVec Ideal S3x1024 .f32) (c : FVec Ideal S4096x1024 .f32) : FVec Ideal S4098x1024 .f32 :=
  addf (addf (pad S4098x1024 ![2, 0] ![0, 0] ![0, 0] (mulf (spread (extractStridedSlice S1x1024 ![2, 0] t slices_S3x1024_S1x1024_2_0)) c) none0 pads_S4096x1024_S4098x1024_200_000 h_S_)
    (pad S4098x1024 ![1, 0] ![1, 0] ![0, 0] (mulf (spread (extractStridedSlice S1x1024 ![1, 0] t slices_S3x1024_S1x1024_1_0)) c) none0 pads_S4096x1024_S4098x1024_110_000 h_S_))
    (pad S4098x1024 ![0, 0] ![2, 0] ![0, 0] (mulf (spread (extractStridedSlice S1x1024 ![0, 0] t slices_S3x1024_S1x1024_0_0)) c) none0 pads_S4096x1024_S4098x1024_020_000 h_S_)

/-- The gradient at the convolution's input. -/
def gHeldR (t : FVec Ideal S3x1024 .f32) (c : FVec Ideal S4096x1024 .f32) : FVec Ideal S4096x1024 .f32 :=
  extractStridedSlice S4096x1024 ![2, 0] (gLineR t c) slices_S4098x1024_S4096x1024_2_0

/-- The sum of an array's rows, as a row. -/
def down (v : FVec Ideal S4096x1024 .f32) : FVec Ideal S1x1024 .f32 :=
  broadcastInDim S1x1024 ![1] bcast_S1024_S1x1024_1 (Host.reduceAdd (shapeCast S1x1024 (Host.reduceAdd v none0 reducesTo_S4096x1024_S1024_d0 h_S_) shapeCasts_S1024_S1x1024) none0 reducesTo_S1x1024_S1024_d0 h_S_)

/-- The taps' gradients. -/
def dTapsR (p : FVec Ideal S4096x3072 .f32) (c : FVec Ideal S4096x1024 .f32) : FVec Ideal S3x1024 .f32 :=
  addf (addf (pad S3x1024 ![2, 0] ![0, 0] ![0, 0] (down (mulf c (line2 p))) none0 pads_S1x1024_S3x1024_200_000 h_S_)
    (pad S3x1024 ![1, 0] ![1, 0] ![0, 0] (down (mulf c (line1 p))) none0 pads_S1x1024_S3x1024_110_000 h_S_))
    (pad S3x1024 ![0, 0] ![2, 0] ![0, 0] (down (mulf c (line0 p))) none0 pads_S1x1024_S3x1024_020_000 h_S_)

/-- The gradient at the input projection's output. -/
def gProjR (p : FVec Ideal S4096x3072 .f32) (t : FVec Ideal S3x1024 .f32) (o : FVec Ideal S1024x1024 .f32) (g : FVec Ideal S4096x1024 .f32) : FVec Ideal S4096x3072 .f32 :=
  concatenate S4096x3072 1 [⟨S4096x1024, mulf (gGatedR o g) (convR p t)⟩, ⟨S4096x1024, mulf (gHeldR t (gConvR p o g)) (part2 p)⟩,
    ⟨S4096x1024, mulf (part1 p) (gHeldR t (gConvR p o g))⟩] concatenates_S4096x1024_S4096x1024_S4096x1024_S4096x3072_d1

/-- The gradient at the normalised input, from the gradient at the projection's output. -/
def gNormedR (q : FVec Ideal S4096x3072 .f32) (w : FVec Ideal S1024x3072 .f32) : FVec Ideal S4096x1024 .f32 :=
  Host.dotGeneral dot_S4096x3072_S1024x3072_S4096x1024_1_1_0_0_n_n none q w

/-- The part of the input's gradient that goes through a row's mean square. -/
def sideR (x u : FVec Ideal S4096x1024 .f32) : FVec Ideal S4096x1024 .f32 :=
  broadcastInDim S4096x1024 ![0] bcast_S4096_S4096x1024_0 (Host.reduceAdd (Host.divf (mulf (shapeCast S4096x1 (Host.reduceAdd (mulf x u) none0 reducesTo_S4096x1024_S4096_d1 h_S_) shapeCasts_S4096_S4096x1)
    (mulf (broadcastInDim S4096x1 ![] bcast_S_S4096x1 (constant S_ .f32 0xBF000000#32)) (Host.divf (Host.rsqrt (underOf x)) (underOf x))))
    (broadcastInDim S4096x1 ![] bcast_S_S4096x1 (constant S_ .f32 0x44800000#32))) none0 reducesTo_S4096x1_S4096_d1 h_S_)

/-- The gradient at the input, from the gradient `u` before the gain. -/
def dXR (x u g : FVec Ideal S4096x1024 .f32) : FVec Ideal S4096x1024 .f32 :=
  addf (addf (addf g (mulf u (broadcastInDim S4096x1024 ![0, 1] bcast_S4096x1_S4096x1024_0_1 (Host.rsqrt (underOf x))))) (mulf x (sideR x u))) (mulf (sideR x u) x)

/-- The norm's and the taps' gradients in one array of eight rows. -/
def rowsR (r : FVec Ideal S1x1024 .f32) (k : FVec Ideal S3x1024 .f32) : FVec Ideal S8x1024 .f32 :=
  concatenate S8x1024 0 [⟨S1x1024, r⟩, ⟨S3x1024, k⟩, ⟨S4x1024, (broadcastInDim S4x1024 ![] bcast_S_S4x1024 none0 : FVec Ideal S4x1024 .f32)⟩] concatenates_S1x1024_S3x1024_S4x1024_S8x1024_d0

/-- The input projection's gradient. -/
def dWinR (q : FVec Ideal S4096x3072 .f32) (n : FVec Ideal S4096x1024 .f32) : FVec Ideal S3072x1024 .bf16 :=
  truncf .bf16 (transpose S3072x1024 [1, 0] (transpose S1024x3072 [1, 0] (Host.dotGeneral dot_S4096x3072_S4096x1024_S3072x1024_0_0_1_1_n_n none q n) transposes_S3072x1024_S1024x3072_1_0)
    transposes_S1024x3072_S3072x1024_1_0) bitsLt_bf16_f32

/-- The output projection's gradient. -/
def dWoutR (y g : FVec Ideal S4096x1024 .f32) : FVec Ideal S1024x1024 .bf16 :=
  truncf .bf16 (transpose S1024x1024 [1, 0] (Host.dotGeneral dot_S4096x1024_S4096x1024_S1024x1024_0_0_1_1_n_n none (inR g) y) transposes_S1024x1024_S1024x1024_1_0) bitsLt_bf16_f32

section Results
variable (m : (ℓ : Loc nD τ sig) → Buf (Elt Ideal) ℓ) (c : Dev nD)

/-- The arguments in memory. -/
abbrev xIn : FVec Ideal S4096x1024 .f32 := m ((c.tc : Thread nD τ).loc main_arg0)
/-- The norm's gain. -/
abbrev aIn : FVec Ideal S1x1024 .f32 := m ((c.tc : Thread nD τ).loc main_arg1)
/-- The input projection. -/
abbrev wIn : FVec Ideal S1024x3072 .f32 := m ((c.tc : Thread nD τ).loc main_arg2)
/-- The taps. -/
abbrev tIn : FVec Ideal S3x1024 .f32 := m ((c.tc : Thread nD τ).loc main_arg3)
/-- The output projection. -/
abbrev oIn : FVec Ideal S1024x1024 .f32 := m ((c.tc : Thread nD τ).loc main_arg4)
/-- The incoming gradient. -/
abbrev gIn : FVec Ideal S4096x1024 .f32 := m ((c.tc : Thread nD τ).loc main_arg5)
/-- The projection of the arguments in memory. -/
def pIn : FVec Ideal S4096x3072 .f32 := projOf (xIn m c) (spread (aIn m c)) (wIn m c)
/-- The gradient at the projection's output. -/
def qIn : FVec Ideal S4096x3072 .f32 := gProjR (pIn m c) (tIn m c) (oIn m c) (gIn m c)

set_option maxRecDepth 8192

/-- The reference's four results are these arrays. -/
theorem res_dx : Value.res_main_v115 m c = dXR (xIn m c) (mulf (gNormedR (qIn m c) (wIn m c)) (spread (aIn m c))) (gIn m c) := by
  unfold Value.res_main_v115
  rfl
/-- The rows. -/
theorem res_rows : Value.res_main_v118 m c
    = rowsR (down (mulf (scaledOf (xIn m c)) (gNormedR (qIn m c) (wIn m c)))) (dTapsR (pIn m c) (gConvR (pIn m c) (oIn m c) (gIn m c))) := by
  unfold Value.res_main_v118
  rfl
/-- The input projection's gradient. -/
theorem res_win : Value.res_main_v120 m c = dWinR (qIn m c) (mulf (scaledOf (xIn m c)) (spread (aIn m c))) := by
  unfold Value.res_main_v120
  rfl
/-- The output projection's gradient. -/
theorem res_wout : Value.res_main_v121 m c = dWoutR (mulf (part0 (pIn m c)) (convR (pIn m c) (tIn m c))) (gIn m c) := by
  unfold Value.res_main_v121
  rfl

end Results

end Cert.Mixer

end
-- ==== Proof.BackwardValue.lean ====
module

public import proofs.«01_k».proof.Proof.Backward
public import Idealize.ShloMosaic.Lib.KernelVsHost

@[expose] public section

noncomputable section

/-! # What the reference's arrays hold

Each array of the reference's derivative at an index, as the formulas state it. -/

namespace Cert.Mixer

open Idealize.ShloMosaic Cert.ReferenceIdeal Cert.ReferenceIdeal.Gen
open scoped BigOperators

/-- A row spread over the sequence, at an index. -/
theorem spread_at (r : FVec Ideal S1x1024 .f32) (s : Fin 4096) (e : Fin 1024) : spread r (ix2 s e) = r (ix2 0 e) := by
  unfold spread
  simp only [pointwise, reduceDIte, Nat.reduceEqDiff, OfNat.ofNat_ne_one]

/-- One tap. -/
theorem tapR0_at (t : FVec Ideal S3x1024 .f32) (s e) : spread (extractStridedSlice S1x1024 ![0, 0] t slices_S3x1024_S1x1024_0_0) (ix2 s e) = t (ix2 0 e) := by
  rw [spread_at]
  simp only [pointwise]
  exact congrArg t (by simp)
/-- The next. -/
theorem tapR1_at (t : FVec Ideal S3x1024 .f32) (s e) : spread (extractStridedSlice S1x1024 ![1, 0] t slices_S3x1024_S1x1024_1_0) (ix2 s e) = t (ix2 1 e) := by
  rw [spread_at]
  simp only [pointwise]
  exact congrArg t (by simp)
/-- The last. -/
theorem tapR2_at (t : FVec Ideal S3x1024 .f32) (s e) : spread (extractStridedSlice S1x1024 ![2, 0] t slices_S3x1024_S1x1024_2_0) (ix2 s e) = t (ix2 2 e) := by
  rw [spread_at]
  simp only [pointwise]
  exact congrArg t (by simp)

/-- The sum of the rows, at a column. -/
theorem down_at (v : FVec Ideal S4096x1024 .f32) (e : Fin 1024) : down v (ix2 0 e) = ∑ s, v (ix2 s e) := by
  unfold down
  simp only [pointwise, zero_add, reduceDIte, Nat.reduceEqDiff, OfNat.ofNat_ne_one]
  exact Fin.sum_univ_one _

/-- The incoming gradient is the argument. -/
theorem inR_eq (g : FVec Ideal S4096x1024 .f32) : inR g = g := by
  unfold inR
  exact funext fun j => shapeCast_apply _ _ _ j rfl

/-- Rows put after `lo` rows of zeros, read from the third row on: the rows `2 - lo` later, and zeros past the end. -/
theorem padded_at (lo hi k : ℕ) (hk : lo + k = 2) (v : FVec Ideal S4096x1024 .f32) (hp : S4096x1024.Pads (![lo, 0] : Fin 2 → ℕ) ![hi, 0] ![0, 0] S4098x1024) (s : Fin 4096) (r : Fin 4098) (hr : r.val = s.val + 2) (e : Fin 1024) :
    pad S4098x1024 ![lo, 0] ![hi, 0] ![0, 0] v none0 hp h_S_ (ix2 r e) = if h : s.val + k < 4096 then v (ix2 ⟨s.val + k, h⟩ e) else 0 := by
  by_cases h : s.val + k < 4096
  · rw [dif_pos h]
    refine pad_apply_of_inside _ _ _ _ _ hp h_S_ (ix2 r e) (ix2 (n0 := 4096) ⟨s.val + k, h⟩ e) fun a => ?_
    match a with
    | ⟨0, _⟩ => show r.val = lo + (s.val + k) * (0 + 1); omega
    | ⟨1, _⟩ => show e.val = 0 + e.val * (0 + 1); omega
  · rw [dif_neg h]
    refine (pad_apply_of_not_inside _ _ _ _ _ hp h_S_ (ix2 r e) 0 fun hin => h ?_).trans Ideal.ofBits_zero_f32
    have h2 : (r.val - lo) / (0 + 1) < 4096 := hin.2.2
    omega

/-- A row put into the third row of three, into the second and into the first. -/
theorem padRow_at (lo hi : ℕ) (v : FVec Ideal S1x1024 .f32) (hp : S1x1024.Pads (![lo, 0] : Fin 2 → ℕ) ![hi, 0] ![0, 0] S3x1024) (k : Fin 3) (e : Fin 1024) :
    pad S3x1024 ![lo, 0] ![hi, 0] ![0, 0] v none0 hp h_S_ (ix2 k e) = if k.val = lo then v (ix2 0 e) else 0 := by
  by_cases h : k.val = lo
  · rw [if_pos h]
    refine pad_apply_of_inside _ _ _ _ _ hp h_S_ (ix2 k e) (ix2 (n0 := 1) 0 e) fun a => ?_
    match a with
    | ⟨0, _⟩ => show k.val = lo + 0 * (0 + 1); omega
    | ⟨1, _⟩ => show e.val = 0 + e.val * (0 + 1); omega
  · rw [if_neg h]
    refine (pad_apply_of_not_inside _ _ _ _ _ hp h_S_ (ix2 k e) 0 fun hin => h ?_).trans Ideal.ofBits_zero_f32
    have h1 : lo ≤ k.val := hin.1
    have h2 : (k.val - lo) / (0 + 1) < 1 := hin.2.2
    omega

section At
variable (x : FVec Ideal S4096x1024 .f32) (a : FVec Ideal S1x1024 .f32) (w : FVec Ideal S1024x3072 .f32) (t : FVec Ideal S3x1024 .f32)
  (o : FVec Ideal S1024x1024 .f32) (g : FVec Ideal S4096x1024 .f32)

/-- The convolution. -/
theorem convR_at (s e) : convR (projOf x (spread a) w) t (ix2 s e) = conv (argsOf x a w t o g) s e := by
  unfold convR
  simp only [pointwise, zero_add, tapR0_at, tapR1_at, tapR2_at, line0_at (t := t) (o := o) (g := g) (spread_at a), line1_at (t := t) (o := o) (g := g) (spread_at a), line2_at (t := t) (o := o) (g := g) (spread_at a)]
  rfl

/-- The gradient at the output projection's input. -/
theorem gGatedR_at (s e) : gGatedR o g (ix2 s e) = gGated (argsOf x a w t o g) s e := by
  unfold gGatedR
  rw [inR_eq]
  simp only [pointwise, zero_add]
  rfl

/-- The gradient at the convolution's output. -/
theorem gConvR_at (s e) : gConvR (projOf x (spread a) w) o g (ix2 s e) = gConv (argsOf x a w t o g) s e :=
  congrArg₂ (· * ·) (part0_at (spread_at a) s e) (gGatedR_at x a w t o g s e)

/-- A tap times the gradient at the convolution's output `k` rows later, read where it stands. -/
theorem later_at (k : ℕ) (r : FVec Ideal S1x1024 .f32) (s : Fin 4096) (e : Fin 1024) :
    (if h : s.val + k < 4096 then mulf (spread r) (gConvR (projOf x (spread a) w) o g) (ix2 ⟨s.val + k, h⟩ e) else 0) = r (ix2 0 e) * late (argsOf x a w t o g) (s.val + k) e := by
  unfold late
  by_cases h : s.val + k < 4096
  · rw [dif_pos h, dif_pos h]
    exact congrArg₂ (· * ·) (spread_at r _ e) (gConvR_at x a w t o g _ e)
  · rw [dif_neg h, dif_neg h, mul_zero]

/-- One row of the taps. -/
theorem tapRow_at (k : Fin 3) (e : Fin 1024) (h) : extractStridedSlice S1x1024 ![k.val, 0] t h (ix2 0 e) = t (ix2 k e) := by
  simp only [pointwise]
  exact congrArg t (by simp)

/-- The gradient at the convolution's input. -/
theorem gHeldR_at (s e) : gHeldR t (gConvR (projOf x (spread a) w) o g) (ix2 s e) = gHeld (argsOf x a w t o g) s e := by
  have hs : gHeldR t (gConvR (projOf x (spread a) w) o g) (ix2 s e) = gLineR t (gConvR (projOf x (spread a) w) o g) (ix2 (n0 := 4098) ⟨s.val + 2, by omega⟩ e) :=
    congrArg (gLineR t (gConvR (projOf x (spread a) w) o g)) (funext fun q => Fin.ext (by
      match q with
      | ⟨0, _⟩ => show 2 + s.val = s.val + 2; omega
      | ⟨1, _⟩ => show 0 + e.val = e.val; omega))
  have h2 := (padded_at 2 0 0 rfl (mulf (spread (extractStridedSlice S1x1024 ![2, 0] t slices_S3x1024_S1x1024_2_0)) (gConvR (projOf x (spread a) w) o g)) pads_S4096x1024_S4098x1024_200_000 s ⟨s.val + 2, by omega⟩ rfl e).trans
    ((later_at x a w t o g 0 _ s e).trans (congrArg (· * late _ s.val e) (tapRow_at t 2 e slices_S3x1024_S1x1024_2_0)))
  have h1 := (padded_at 1 1 1 rfl (mulf (spread (extractStridedSlice S1x1024 ![1, 0] t slices_S3x1024_S1x1024_1_0)) (gConvR (projOf x (spread a) w) o g)) pads_S4096x1024_S4098x1024_110_000 s ⟨s.val + 2, by omega⟩ rfl e).trans
    ((later_at x a w t o g 1 _ s e).trans (congrArg (· * late _ (s.val + 1) e) (tapRow_at t 1 e slices_S3x1024_S1x1024_1_0)))
  have h0 := (padded_at 0 2 2 rfl (mulf (spread (extractStridedSlice S1x1024 ![0, 0] t slices_S3x1024_S1x1024_0_0)) (gConvR (projOf x (spread a) w) o g)) pads_S4096x1024_S4098x1024_020_000 s ⟨s.val + 2, by omega⟩ rfl e).trans
    ((later_at x a w t o g 2 _ s e).trans (congrArg (· * late _ (s.val + 2) e) (tapRow_at t 0 e slices_S3x1024_S1x1024_0_0)))
  exact hs.trans (congrArg₂ (· + ·) (congrArg₂ (· + ·) h2 h1) h0)

/-- The gradient of one tap, before it is put into its row. -/
theorem dTapsR_at (k : Fin 3) (e : Fin 1024) : dTapsR (projOf x (spread a) w) (gConvR (projOf x (spread a) w) o g) (ix2 k e) = dTap (argsOf x a w t o g) (2 - k.val) e := by
  have e2 : down (mulf (gConvR (projOf x (spread a) w) o g) (line2 (projOf x (spread a) w))) (ix2 0 e) = dTap (argsOf x a w t o g) 0 e :=
    (down_at _ e).trans ((Finset.sum_congr rfl fun s _ => congrArg₂ (· * ·) (gConvR_at x a w t o g s e) (line2_at (spread_at a) s e)).trans (dTap_eq _ 0 e).symm)
  have e1 : down (mulf (gConvR (projOf x (spread a) w) o g) (line1 (projOf x (spread a) w))) (ix2 0 e) = dTap (argsOf x a w t o g) 1 e :=
    (down_at _ e).trans ((Finset.sum_congr rfl fun s _ => congrArg₂ (· * ·) (gConvR_at x a w t o g s e) (line1_at (spread_at a) s e)).trans (dTap_eq _ 1 e).symm)
  have e0 : down (mulf (gConvR (projOf x (spread a) w) o g) (line0 (projOf x (spread a) w))) (ix2 0 e) = dTap (argsOf x a w t o g) 2 e :=
    (down_at _ e).trans ((Finset.sum_congr rfl fun s _ => congrArg₂ (· * ·) (gConvR_at x a w t o g s e) (line0_at (spread_at a) s e)).trans (dTap_eq _ 2 e).symm)
  have h := congrArg₂ (· + ·) (congrArg₂ (· + ·)
      ((padRow_at 2 0 (down (mulf (gConvR (projOf x (spread a) w) o g) (line2 (projOf x (spread a) w)))) pads_S1x1024_S3x1024_200_000 k e).trans (by rw [e2]))
      ((padRow_at 1 1 (down (mulf (gConvR (projOf x (spread a) w) o g) (line1 (projOf x (spread a) w)))) pads_S1x1024_S3x1024_110_000 k e).trans (by rw [e1])))
    ((padRow_at 0 2 (down (mulf (gConvR (projOf x (spread a) w) o g) (line0 (projOf x (spread a) w)))) pads_S1x1024_S3x1024_020_000 k e).trans (by rw [e0]))
  refine Eq.trans h ?_
  match k with
  | 0 => simp
  | 1 => simp
  | 2 => simp

/-- The three thirds of the gradient at the projection's output. -/
theorem gProjR0_at (s e) : gProjR (projOf x (spread a) w) t o g (ix2 s (third0 e)) = gB (argsOf x a w t o g) s e := by
  unfold gProjR
  refine Eq.trans (concatenate_apply_piece (t := S4096x3072) _ _ _ _ 0 (by simp) S4096x1024 _ rfl rfl 0 (by simp) (ix2 s e) (fun q hq => ?_) ?_) ?_
  · match q with
    | ⟨0, _⟩ => rfl
    | ⟨1, _⟩ => exact absurd rfl hq
  · exact Nat.zero_add _
  · exact congrArg₂ (· * ·) (gGatedR_at x a w t o g s e) (convR_at x a w t o g s e)
/-- The second. -/
theorem gProjR1_at (s e) : gProjR (projOf x (spread a) w) t o g (ix2 s (third1 e)) = gC (argsOf x a w t o g) s e := by
  unfold gProjR
  refine Eq.trans (concatenate_apply_piece (t := S4096x3072) _ _ _ _ 1 (by simp) S4096x1024 _ rfl rfl 1024 (by simp) (ix2 s e) (fun q hq => ?_) ?_) ?_
  · match q with
    | ⟨0, _⟩ => rfl
    | ⟨1, _⟩ => exact absurd rfl hq
  · rfl
  · exact congrArg₂ (· * ·) (gHeldR_at x a w t o g s e) (part2_at (spread_at a) s e)
/-- The last. -/
theorem gProjR2_at (s e) : gProjR (projOf x (spread a) w) t o g (ix2 s (third2 e)) = gV (argsOf x a w t o g) s e := by
  unfold gProjR
  refine Eq.trans (concatenate_apply_piece (t := S4096x3072) _ _ _ _ 2 (by simp) S4096x1024 _ rfl rfl 2048 (by simp) (ix2 s e) (fun q hq => ?_) ?_) ?_
  · match q with
    | ⟨0, _⟩ => rfl
    | ⟨1, _⟩ => exact absurd rfl hq
  · rfl
  · exact (mul_comm _ _).trans (congrArg₂ (· * ·) (gHeldR_at x a w t o g s e) (part1_at (spread_at a) s e))

/-- A sum over the projection's columns is the sum over its three thirds. -/
theorem sum_thirds (f : Fin 3072 → EReal) : ∑ j, f j = (∑ e, f (third0 e)) + (∑ e, f (third1 e)) + ∑ e, f (third2 e) := by
  refine (Fin.sum_univ_add (a := 2048) (b := 1024) f).trans (congrArg₂ (· + ·) ((Fin.sum_univ_add (a := 1024) (b := 1024) _).trans rfl) rfl)

/-- The gradient at the normalised input. -/
theorem gNormedR_at (s d) : gNormedR (gProjR (projOf x (spread a) w) t o g) w (ix2 s d) = gNormed (argsOf x a w t o g) s d := by
  unfold gNormedR
  simp only [pointwise, zero_add]
  rw [sum_thirds]
  simp only [gProjR0_at, gProjR1_at, gProjR2_at]
  rfl

/-- The part through the mean square. -/
theorem sideR_at (u : FVec Ideal S4096x1024 .f32) (s : Fin 4096) (d : Fin 1024) : sideR x u (ix2 s d)
    = Ideal.div ((∑ k, x (ix2 s k) * u (ix2 s k)) * (minusHalf * Ideal.div (inv (argsOf x a w t o g) s) (under (argsOf x a w t o g) s))) width := by
  unfold sideR
  simp only [pointwise, zero_add, reduceDIte, Nat.reduceEqDiff, OfNat.ofNat_ne_one, underOf_at (a := a) (w := w) (t := t) (o := o) (g := g)]
  refine (Fin.sum_univ_one _).trans ?_
  rw [underOf_at (a := a) (w := w) (t := t) (o := o) (g := g) s]
  rfl

/-- The gradient at the input. -/
theorem dXR_at (s d) : dXR x (mulf (gNormedR (gProjR (projOf x (spread a) w) t o g) w) (spread a)) g (ix2 s d) = dX (argsOf x a w t o g) s d := by
  unfold dXR
  rw [dX_eq]
  simp only [pointwise, zero_add, reduceDIte, Nat.reduceEqDiff, OfNat.ofNat_ne_one, underOf_at (a := a) (w := w) (t := t) (o := o) (g := g), sideR_at x a w t o g, gNormedR_at, spread_at]
  rfl

/-- The gain's gradient. -/
theorem dGammaR_at (d) : down (mulf (scaledOf x) (gNormedR (gProjR (projOf x (spread a) w) t o g) w)) (ix2 0 d) = dGamma (argsOf x a w t o g) d := by
  rw [down_at]
  unfold dGamma
  refine Finset.sum_congr rfl fun s _ => ?_
  refine (congrArg₂ (· * ·) (scaledOf_at (a := a) (w := w) (t := t) (o := o) (g := g) s d) (gNormedR_at x a w t o g s d)).trans ?_
  unfold scaled
  rw [mul_comm, mul_assoc]

/-- The input projection's gradient, at column `j` of the projection. -/
theorem dWinR_at (q : FVec Ideal S4096x3072 .f32) (j d) : dWinR q (mulf (scaledOf x) (spread a)) (ix2 j d) = ∑ s, q (ix2 s j) * normed (argsOf x a w t o g) s d := by
  unfold dWinR
  simp only [pointwise, zero_add, scaledOf_at (a := a) (w := w) (t := t) (o := o) (g := g), spread_at]
  rfl

/-- The output projection's gradient. -/
theorem dWoutR_at (e i) : dWoutR (mulf (part0 (projOf x (spread a) w)) (convR (projOf x (spread a) w) t)) g (ix2 e i) = dWout (argsOf x a w t o g) e i := by
  unfold dWoutR
  rw [inR_eq]
  simp only [pointwise, zero_add, part0_at (t := t) (o := o) (g := g) (spread_at a), convR_at x a w t o g]
  exact Finset.sum_congr rfl fun s _ => mul_comm _ _

end At

section Rows
variable (r : FVec Ideal S1x1024 .f32) (q : FVec Ideal S3x1024 .f32)

/-- The first of the eight rows. -/
theorem rowsR_first (e : Fin 1024) : rowsR r q (ix2 0 e) = r (ix2 0 e) := by
  unfold rowsR
  refine concatenate_apply_piece (t := S8x1024) _ _ _ _ 0 (by simp) S1x1024 _ rfl rfl 0 (by simp) (ix2 0 e) (fun q hq => ?_) ?_
  · match q with
    | ⟨1, _⟩ => rfl
  · rfl
/-- The next three. -/
theorem rowsR_taps (k : Fin 3) (k' : Fin 8) (hk : k'.val = 1 + k.val) (e : Fin 1024) : rowsR r q (ix2 k' e) = q (ix2 k e) := by
  unfold rowsR
  refine concatenate_apply_piece (t := S8x1024) _ _ _ _ 1 (by simp) S3x1024 _ rfl rfl 1 (by simp) (ix2 k e) (fun q hq => ?_) ?_
  · match q with
    | ⟨1, _⟩ => rfl
  · exact hk.symm
/-- The rest. -/
theorem rowsR_rest (k : Fin 8) (hk : 4 ≤ k.val) (e : Fin 1024) : rowsR r q (ix2 k e) = 0 := by
  unfold rowsR
  refine (concatenate_apply_piece (t := S8x1024) _ _ _ _ 2 (by simp) S4x1024 _ rfl rfl 4 (by simp) (ix2 (n0 := 4) ⟨k.val - 4, by omega⟩ e) (fun q hq => ?_) ?_).trans Ideal.ofBits_zero_f32
  · match q with
    | ⟨1, _⟩ => rfl
  · show 4 + (k.val - 4) = k.val
    omega

end Rows

end Cert.Mixer

end
-- ==== Proof.Match.lean ====
module

public import proofs.«01_k».proof.Proof.Arrays
public import proofs.«01_k».proof.Proof.BackwardValue

@[expose] public section

noncomputable section

/-! # The two programs' arrays are the same

What the kernel's last state holds is what the reference's derivative computes, array by array. -/

namespace Cert.Mixer

open Idealize.ShloMosaic Cert.ReferenceIdeal Cert.ReferenceIdeal.Gen
open scoped BigOperators

/-- Every column of the projection lies in one of the thirds. -/
theorem third_cases (j : Fin 3072) : ∃ e, j = third0 e ∨ j = third1 e ∨ j = third2 e := by
  by_cases h0 : j.val < 1024
  · exact ⟨⟨j.val, h0⟩, Or.inl rfl⟩
  · by_cases h1 : j.val < 2048
    · exact ⟨⟨j.val - 1024, by omega⟩, Or.inr (Or.inl (Fin.ext (by simp only [third1]; omega)))⟩
    · exact ⟨⟨j.val - 2048, by omega⟩, Or.inr (Or.inr (Fin.ext (by simp only [third2]; omega)))⟩

variable (x : FVec Ideal S4096x1024 .f32) (a : FVec Ideal S1x1024 .f32) (w : FVec Ideal S1024x3072 .f32) (t : FVec Ideal S3x1024 .f32)
  (o : FVec Ideal S1024x1024 .f32) (g : FVec Ideal S4096x1024 .f32)

/-- The gradient at the input. -/
theorem match_dx : (fun j => dX (argsOf x a w t o g) (j 0) (j 1) : S4096x1024.Idx → EReal)
    = dXR x (mulf (gNormedR (gProjR (projOf x (spread a) w) t o g) w) (spread a)) g := by
  funext j
  obtain ⟨s, d, rfl⟩ : ∃ (s : Fin 4096) (d : Fin 1024), j = ix2 s d := ⟨j 0, j 1, eq_ix2 j⟩
  exact (dXR_at x a w t o g s d).symm

variable {s : Cert.KernelIdeal.Mixer.Carry Ideal} (hs : Cert.KernelIdeal.Mixer.StateIs (argsOf x a w t o g) 16 s)
include hs

/-- The eight rows of sums. -/
theorem match_rows : s.sums = rowsR (down (mulf (scaledOf x) (gNormedR (gProjR (projOf x (spread a) w) t o g) w)))
    (dTapsR (projOf x (spread a) w) (gConvR (projOf x (spread a) w) o g)) := by
  funext j
  obtain ⟨k, e, rfl⟩ : ∃ (k : Fin 8) (e : Fin 1024), j = ix2 k e := ⟨j 0, j 1, eq_ix2 j⟩
  match k with
  | 0 =>
    rw [rowsR_first, dGammaR_at]
    exact (hs.sum0 e).trans (soFar_all _)
  | 1 =>
    rw [rowsR_taps _ _ 0 1 rfl, dTapsR_at (t := t)]
    exact (hs.sum1 e).trans (soFar_all _)
  | 2 =>
    rw [rowsR_taps _ _ 1 2 rfl, dTapsR_at (t := t)]
    exact (hs.sum2 e).trans (soFar_all _)
  | 3 =>
    rw [rowsR_taps _ _ 2 3 rfl, dTapsR_at (t := t)]
    exact (hs.sum3 e).trans (soFar_all _)
  | 4 => exact (hs.rest 4 e (by decide)).trans (rowsR_rest _ _ 4 (by decide) e).symm
  | 5 => exact (hs.rest 5 e (by decide)).trans (rowsR_rest _ _ 5 (by decide) e).symm
  | 6 => exact (hs.rest 6 e (by decide)).trans (rowsR_rest _ _ 6 (by decide) e).symm
  | 7 => exact (hs.rest 7 e (by decide)).trans (rowsR_rest _ _ 7 (by decide) e).symm

/-- The input projection's gradient. -/
theorem match_win : Cert.KernelIdeal.Mixer.ginOut s = dWinR (gProjR (projOf x (spread a) w) t o g) (mulf (scaledOf x) (spread a)) := by
  funext i
  obtain ⟨j, d, rfl⟩ : ∃ (j : Fin 3072) (d : Fin 1024), i = ix2 j d := ⟨i 0, i 1, eq_ix2 i⟩
  refine Eq.trans ?_ (dWinR_at x a w t o g _ j d).symm
  obtain ⟨e, rfl | rfl | rfl⟩ := third_cases j
  · exact ((hs.gin0 e d).trans (soFar_all _)).trans (Finset.sum_congr rfl fun r _ => congrArg (· * _) (gProjR0_at x a w t o g r e).symm)
  · exact ((hs.gin1 e d).trans (soFar_all _)).trans (Finset.sum_congr rfl fun r _ => congrArg (· * _) (gProjR1_at x a w t o g r e).symm)
  · exact ((hs.gin2 e d).trans (soFar_all _)).trans (Finset.sum_congr rfl fun r _ => congrArg (· * _) (gProjR2_at x a w t o g r e).symm)

/-- The output projection's gradient. -/
theorem match_wout : Cert.KernelIdeal.Mixer.goutOut s = dWoutR (mulf (part0 (projOf x (spread a) w)) (convR (projOf x (spread a) w) t)) g := by
  funext i
  obtain ⟨e, k, rfl⟩ : ∃ (e : Fin 1024) (k : Fin 1024), i = ix2 e k := ⟨i 0, i 1, eq_ix2 i⟩
  refine (shapeCast_apply (s := S1024x1024) (t := S1024x1024) s.gout _ (ix2 e k) (ix2 e k) rfl).trans ?_
  exact ((hs.gout e k).trans (soFar_all _)).trans (dWoutR_at x a w t o g e k).symm

end Cert.Mixer

end
-- ==== Proof.FfnStep.lean ====
module

public import proofs.«01_k».proof.Proof.Gen.FfnIdeal.Skeleton
public import Idealize.ShloMosaic.Lib.VecWindow

@[expose] public section

noncomputable section

/-! # One grid point of the feed-forward layer's backward pass, as functions of vectors

The kernel walks eight tiles of 512 rows. What one point reads is a `Tile`; the three weights and the running row sum
that the points hand on to one another are `Kept`. The hidden units are taken in two halves of 1408. -/

namespace Cert.FfnIdeal.Layer

open Idealize.ShloMosaic Cert.FfnIdeal.Gen VecWindow

variable (F : FTy → Type) [FloatOps F]

/-- The blocks one grid point reads: 512 rows of the incoming gradient, of the layer's input and of the two saved
projections, and the norm's scale. -/
structure Tile where
  dh : Vec F S512x1024 .f32
  h : Vec F S512x1024 .f32
  g : Vec F S512x2816 .bf16
  u : Vec F S512x2816 .bf16
  gamma : Vec F S1x1024 .f32

/-- What is kept from one grid point to the next: the three gathered weights, one hidden unit a row, and the running
row sum with seven rows of zeros below it. -/
structure Kept where
  wgate : Vec F S2816x1024 .bf16
  wup : Vec F S2816x1024 .bf16
  wdown : Vec F S2816x1024 .bf16
  sums : Vec F S8x1024 .f32

variable {F}

/-- The first half of a weight's rows. -/
def top (w : Vec F S2816x1024 .bf16) : Vec F S1408x1024 .bf16 := window w ![0, 0] ![1408, 1024] inb_S2816x1024_S1408x1024_0_0
/-- The second half of a weight's rows. -/
def bottom (w : Vec F S2816x1024 .bf16) : Vec F S1408x1024 .bf16 := window w ![1408, 0] ![1408, 1024] inb_S2816x1024_S1408x1024_1408_0
/-- The first half of a projection's columns. -/
def left (x : Vec F S512x2816 .bf16) : Vec F S512x1408 .bf16 := window x ![0, 0] ![512, 1408] inb_S512x2816_S512x1408_0_0
/-- The second half of a projection's columns. -/
def right (x : Vec F S512x2816 .bf16) : Vec F S512x1408 .bf16 := window x ![0, 1408] ![512, 1408] inb_S512x2816_S512x1408_0_1408

/-- Two halves of a projection's columns side by side, written over `x`. -/
def beside (x : Vec F S512x2816 .bf16) (a b : Vec F S512x1408 .bf16) : Vec F S512x2816 .bf16 :=
  put (put x ![0, 0] ![512, 1408] a) ![0, 1408] ![512, 1408] b

/-- The first half of the gradient at the gate. -/
def dgL (s : Kept F) (t : Tile F) : Vec F S512x1408 .bf16 := k0_pay10 (k0_pay5 t.dh) (top s.wdown) (left t.g) (left t.u)
/-- The second half of the gradient at the gate. -/
def dgR (s : Kept F) (t : Tile F) : Vec F S512x1408 .bf16 := k0_pay16 (k0_pay5 t.dh) (bottom s.wdown) (right t.g) (right t.u)
/-- The first half of the gradient at the values. -/
def duL (s : Kept F) (t : Tile F) : Vec F S512x1408 .bf16 := k0_pay9 (k0_pay5 t.dh) (top s.wdown) (left t.g)
/-- The second half of the gradient at the values. -/
def duR (s : Kept F) (t : Tile F) : Vec F S512x1408 .bf16 := k0_pay15 (k0_pay5 t.dh) (bottom s.wdown) (right t.g)

/-- The gradient at the normalised input, the first half of the hidden units only. -/
def dnL (s : Kept F) (t : Tile F) : Vec F S512x1024 .f32 :=
  k0_pay11 (k0_pay5 t.dh) (FloatOps.ofBits .f32 0#32) (top s.wdown) (left t.g) (left t.u) (top s.wgate) (top s.wup)

/-- The gradient at the normalised input. -/
def dn (s : Kept F) (t : Tile F) : Vec F S512x1024 .f32 :=
  k0_pay17 (k0_pay5 t.dh) (dnL s t) (bottom s.wdown) (right t.g) (right t.u) (bottom s.wgate) (bottom s.wup)

/-- The tile of the gradient at the layer's input. -/
def dx (s : Kept F) (t : Tile F) : Vec F S512x1024 .f32 := k0_pay2 t.dh (dn s t) t.h t.gamma

/-- The tile of the gradient at the gate (the halves cover it, so what they are written over does not matter). -/
def dg (s : Kept F) (t : Tile F) : Vec F S512x2816 .bf16 := beside t.g (dgL s t) (dgR s t)
/-- The tile of the gradient at the values. -/
def du (s : Kept F) (t : Tile F) : Vec F S512x2816 .bf16 := beside t.u (duL s t) (duR s t)

/-- The running row sum after the point. -/
def nextSums (s : Kept F) (t : Tile F) : Vec F S8x1024 .f32 :=
  put s.sums ![0, 0] ![1, 1024] (k0_pay3 (dn s t) t.h (window s.sums ![0, 0] ![1, 1024] inb_S8x1024_S1x1024_0_0))

/-- What a point leaves for the next. -/
def next (s : Kept F) (t : Tile F) : Kept F where
  wgate := s.wgate
  wup := s.wup
  wdown := s.wdown
  sums := nextSums s t

/-- A weight gathered from the eight devices' packed shares: 352 rows of each share, from row `o` on. -/
def gathered (o : ℕ) (ho : o + 352 ≤ 3008) (w : Vec F S8x3008x1024 .bf16) : Vec F S2816x1024 .bf16 :=
  fun i => w (fun a => match a with
    | 0 => ⟨(i 0).val / 352, by have := (i 0).isLt; show _ < 8; change (i 0).val < 2816 at this; omega⟩
    | 1 => ⟨o + (i 0).val % 352, by have := Nat.mod_lt (i 0).val (show 0 < 352 by decide); show _ < 3008; omega⟩
    | 2 => ⟨(i 1).val, (i 1).isLt⟩)

/-- What the first point starts from: the three weights gathered, and zeros. -/
def start (w : Vec F S8x3008x1024 .bf16) : Kept F where
  wgate := gathered 1952 (by decide) w
  wup := gathered 2304 (by decide) w
  wdown := gathered 2656 (by decide) w
  sums := k0_pay4 (F := F)

end Cert.FfnIdeal.Layer

end
-- ==== Proof.FfnHold.lean ====
module

public import proofs.«01_k».proof.Proof.Gen.FfnIdeal.Frame.Runs
public import proofs.«01_k».proof.Proof.FfnStep

@[expose] public section

noncomputable section

/-! # What one run of the body holds -/

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (Pipeline.UD sig nD τ) ℕ

/-- The five input blocks of a grid point, in their staging buffers. -/
def tileHeld (c : Dev nD) (arg1 arg2 : Memref sig .tc .vmem S512x1024 .f32) (arg3 arg4 : Memref sig .tc .vmem S512x2816 .bf16) (arg5 : Memref sig .tc .vmem S1x1024 .f32) (t : Tile F) : sProp 𝕄 :=
  iprop(owns (c : Thread nD τ) arg1 fullShare t.dh ∗ owns (c : Thread nD τ) arg2 fullShare t.h ∗ owns (c : Thread nD τ) arg3 fullShare t.g
    ∗ owns (c : Thread nD τ) arg4 fullShare t.u ∗ owns (c : Thread nD τ) arg5 fullShare t.gamma)

/-- The buffers kept from point to point, at `s`. -/
def keptHeld (c : Dev nD) (arg10 : Memref sig .tc .vmem S8x1024 .f32) (arg11 arg12 arg13 : Memref sig .tc .vmem S2816x1024 .bf16) (s : Kept F) : sProp 𝕄 :=
  iprop(owns (c : Thread nD τ) arg10 fullShare s.sums ∗ owns (c : Thread nD τ) arg11 fullShare s.wgate ∗ owns (c : Thread nD τ) arg12 fullShare s.wup
    ∗ owns (c : Thread nD τ) arg13 fullShare s.wdown)

/-- The twenty-four counters of the copies that gather the weights, at rest. -/
def atRest (c : Dev nD) : sProp 𝕄 :=
  iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0
    ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0
    ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0)

end Cert.FfnIdeal.Layer

end
-- ==== Proof.FfnRunFirst.lean ====
module

public import proofs.«01_k».proof.Proof.FfnHold

@[expose] public section

set_option maxRecDepth 16384

noncomputable section

/-! # The body at the first point -/

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x2816 .bf16) (harg3 : arg3.IsWhole)
  (arg4 : Memref sig .tc .vmem S512x2816 .bf16) (harg4 : arg4.IsWhole)
  (arg5 : Memref sig .tc .vmem S1x1024 .f32) (harg5 : arg5.IsWhole)
  (arg7 : Memref sig .tc .vmem S512x1024 .f32) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S8x1024 .f32) (harg10 : arg10.IsWhole)
  (arg11 : Memref sig .tc .vmem S2816x1024 .bf16) (harg11 : arg11.IsWhole)
  (arg12 : Memref sig .tc .vmem S2816x1024 .bf16) (harg12 : arg12.IsWhole)
  (arg13 : Memref sig .tc .vmem S2816x1024 .bf16) (harg13 : arg13.IsWhole)

set_option maxHeartbeats 40000000 in
set_option sl_exec.dmaWindow true in
set_option sl_exec.dmaWindowSet true in
set_option sl_exec.rejoinFuel 64 in
set_option sl_exec.rejoinHeartbeats 2000000 in
/-- The first point: what its twenty-four copies leave in the three weights and its stores in the buffers it writes, as
pieces (the last first), whatever the kept buffers held before, with the proof that its body ends with those pieces written. -/
def runFirst (hc0 : cond0_0 i) (t : Tile F) (w : HbBuf0 (F := F) c hbM0_0) :
    Σ' (L5 : List (View.Piece (Elt F) S512x1024 .f32)), Σ' (L6 : List (View.Piece (Elt F) S512x2816 .bf16)), Σ' (L7 : List (View.Piece (Elt F) S512x2816 .bf16)),
    Σ' (L8 : List (View.Piece (Elt F) S8x1024 .f32)), Σ' (LS0 : List (View.Piece (Elt F) S2816x1024 .bf16)), Σ' (LS1 : List (View.Piece (Elt F) S2816x1024 .bf16)),
    { LS2 : List (View.Piece (Elt F) S2816x1024 .bf16) //
      ∀ (W : Waits sig Unit) (K : PUnit → sProp 𝕄),
        iprop(tileHeld c arg1 arg2 arg3 arg4 arg5 t ∗ (∃ d, owns (c : Thread nD τ) arg7 fullShare d) ∗ (∃ d, owns (c : Thread nD τ) arg8 fullShare d) ∗ (∃ d, owns (c : Thread nD τ) arg9 fullShare d)
            ∗ (∃ s, keptHeld c arg10 arg11 arg12 arg13 s) ∗ atRest c ∗ hbPt0 c hbM0_0 w ∗ owes (c : Thread nD τ) 0 W
            ∗ (iprop(tileHeld c arg1 arg2 arg3 arg4 arg5 t
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f LS0)
              ∗ (∃ f, arg12.view.loc (c : Thread nD τ) ↦[arg12.view.set]{fullShare} arg12.view.writes (Elt F) f LS1)
              ∗ (∃ f, arg13.view.loc (c : Thread nD τ) ↦[arg13.view.set]{fullShare} arg13.view.writes (Elt F) f LS2)
              ∗ atRest c ∗ hbPt0 c hbM0_0 w ∗ (∃ W', owes (c : Thread nD τ) 0 W')) -∗ K ⟨⟩))
        ⊢ wp frame (wpE (defs₀ (F := F)) Variants.none c none) Set.univ (cc0_ffn1_bwd_dx i arg1 harg1 arg2 harg2 arg3 harg3 arg4 harg4 arg5 harg5 (Memref.whole main_v23) (Memref.isWhole_whole _)
          arg7 harg7 arg8 harg8 arg9 harg9 arg10 harg10 arg11 harg11 arg12 harg12 arg13 harg13 cc0_scratch3) K } := by
  refine ⟨?_, ?_, ?_, ?_, ?_, ?_, ?_, fun W K => ?run⟩
  case run =>
    simp only [cc0_ffn1_bwd_dx_eq_skeleton]; unfold cc0_ffn1_bwd_dx_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part11_eq_skeleton]
    unfold tileHeld keptHeld atRest owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩,
      ⟨%s, ⟨%f8, -, H8⟩, ⟨%fs0, -, HS0⟩, ⟨%fs1, -, HS1⟩, ⟨%fs2, -, HS2⟩⟩,
      ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      iexact Hq23
    isplitl [Hh0]; · iexact Hh0
    iexists _; iexact HW

end Cert.FfnIdeal.Layer

end
-- ==== Proof.FfnReads.lean ====
module

public import proofs.«01_k».proof.Proof.FfnHold
public import Idealize.ShloMosaic.Lib.WholeRead
public import Idealize.ShloMosaic.Lib.Pointwise.Reshape
public import Idealize.ShloMosaic.Lib.ValueLayout
public import Idealize.ShloMosaic.Lib.ValueIdxCore

@[expose] public section

noncomputable section

/-! # Reading the layer's buffers back after the stores into them -/

namespace Cert.FfnIdeal.Layer

open Idealize.ShloMosaic VecWindow
open Cert.FfnIdeal.Gen

variable {F : FTy → Type} [FloatOps F]

section
variable {σ : RefSig} {κ : Kind} {sp : Space} {S : Shape} {e : EltTy} {α : Type}

/-- The window of a vector's own sizes is the vector. -/
theorem window_all (x : S.Idx → α) (off : Fin S.rank → ℕ) (inb : ∀ a, off a + S.size a ≤ S.size a) : window x off S.size inb = x :=
  funext fun y => congrArg x (Rect.emb_unit_full inb y)

/-- `window_all` for a tile. -/
theorem all512 (x : S512x1024.Idx → α) (inb) : window x ![0, 0] ![512, 1024] inb = x := window_all x _ inb
/-- `window_all` for a single row. -/
theorem all1 (x : S1x1024.Idx → α) (inb) : window x ![0, 0] ![1, 1024] inb = x := window_all x _ inb

/-- A window of a matrix, entry by entry. -/
theorem window_at {R C n k : ℕ} (x : (⟨2, ![R, C]⟩ : Shape).Idx → α) (r0 q0 : ℕ) (inb) (r : Fin n) (q : Fin k) (h : r0 + r.val < R) (h' : q0 + q.val < C) :
    window (s := ⟨2, ![R, C]⟩) x ![r0, q0] ![n, k] inb (ix2 r q) = x (ix2 ⟨r0 + r.val, h⟩ ⟨q0 + q.val, h'⟩) :=
  congrArg x (funext fun a => Fin.ext (by
    refine Fin.cases ?_ (fun a => ?_) a
    · show r0 + 1 * r.val = r0 + r.val; omega
    · obtain rfl := Subsingleton.elim a 0
      show q0 + 1 * q.val = q0 + q.val; omega))

/-- A block put into a matrix: an entry of the block is the payload's. -/
theorem put_inside {R C n k : ℕ} (x : (⟨2, ![R, C]⟩ : Shape).Idx → α) (r0 q0 : ℕ) (w : (⟨2, ![n, k]⟩ : Shape).Idx → α) (r : Fin R) (q : Fin C)
    (h : r0 ≤ r.val ∧ r.val < r0 + n) (h' : q0 ≤ q.val ∧ q.val < q0 + k) :
    put (s := ⟨2, ![R, C]⟩) x ![r0, q0] ![n, k] w (ix2 r q) = w (ix2 ⟨r.val - r0, by omega⟩ ⟨q.val - q0, by omega⟩) := by
  unfold put
  rw [dif_pos (show ∀ a : Fin 2, (![r0, q0] : Fin 2 → ℕ) a ≤ ((ix2 r q : (⟨2, ![R, C]⟩ : Shape).Idx) a).val
      ∧ ((ix2 r q : (⟨2, ![R, C]⟩ : Shape).Idx) a).val < (![r0, q0] : Fin 2 → ℕ) a + (![n, k] : Fin 2 → ℕ) a from
    Fin.forall_fin_two.mpr ⟨h, h'⟩)]
  refine congrArg w (funext fun a => Fin.ext ?_)
  refine Fin.cases ?_ (fun a => ?_) a
  · rfl
  · obtain rfl := Subsingleton.elim a 0
    rfl

/-- A block put into a matrix: an entry beside the block is as it was. -/
theorem put_outside {R C n k : ℕ} (x : (⟨2, ![R, C]⟩ : Shape).Idx → α) (r0 q0 : ℕ) (w : (⟨2, ![n, k]⟩ : Shape).Idx → α) (r : Fin R) (q : Fin C)
    (h : r.val < r0 ∨ r0 + n ≤ r.val ∨ q.val < q0 ∨ q0 + k ≤ q.val) :
    put (s := ⟨2, ![R, C]⟩) x ![r0, q0] ![n, k] w (ix2 r q) = x (ix2 r q) :=
  dif_neg fun hall => by
    have h0 : r0 ≤ r.val ∧ r.val < r0 + n := hall (0 : Fin 2)
    have h1 : q0 ≤ q.val ∧ q.val < q0 + k := hall (1 : Fin 2)
    omega

/-- What is put over all eight rows of the sums is all of them. -/
theorem put_all8 (x w : S8x1024.Idx → α) : put x ![0, 0] ![8, 1024] w = w :=
  funext fun y => by
    obtain ⟨r, q, rfl⟩ : ∃ r q, y = ix2 r q := ⟨_, _, eq_ix2 y⟩
    exact put_inside x 0 0 w r q ⟨Nat.zero_le _, by have := r.isLt; omega⟩ ⟨Nat.zero_le _, by have := q.isLt; omega⟩

/-- A load is a window of what the memref reads. -/
theorem readAt_window (v : View σ κ sp S e) (f : v.ty.Contents (Elt F)) (off size : Fin S.rank → ℕ) (inb : ∀ a, off a + size a ≤ S.size a) :
    v.readAt (Elt F) (Rect.unit off size inb).toLoadRect f = window (v.read (Elt F) f) off size inb := rfl

/-- A load stated over the stores alone is a window of what they leave over any contents. -/
theorem readCov_window (v : View σ κ sp S e) (L : List (View.Piece (Elt F) S e)) (off size : Fin S.rank → ℕ) (inb : ∀ a, off a + size a ≤ S.size a) :
    v.readCov L (Rect.unit off size inb).toLoadRect = window (v.read (Elt F) (v.writes (Elt F) v.junk L)) off size inb := rfl

/-- A store puts its payload over what was there. -/
theorem read_writes_put (v : View σ κ sp S e) (f : v.ty.Contents (Elt F)) (off size : Fin S.rank → ℕ) (inb : ∀ a, off a + size a ≤ S.size a)
    (w : (Rect.unit off size inb).shape.Idx → Elt F e) (L : List (View.Piece (Elt F) S e)) :
    v.read (Elt F) (v.writes (Elt F) f (⟨Rect.unit off size inb, w⟩ :: L)) = put (v.read (Elt F) (v.writes (Elt F) f L)) off size w :=
  View.read_writes_cons_put v f inb w L rfl

/-- No store leaves everything. -/
theorem writes_none (v : View σ κ sp S e) (f : v.ty.Contents (Elt F)) : v.writes (Elt F) f [] = f := rfl

/-- A load of the rectangle stored last reads the payload. -/
theorem readCov_put_same (v : View σ κ sp S e) (off size : Fin S.rank → ℕ) (inb : ∀ a, off a + size a ≤ S.size a)
    (w : (Rect.unit off size inb).shape.Idx → Elt F e) (L : List (View.Piece (Elt F) S e)) :
    v.readCov (⟨Rect.unit off size inb, w⟩ :: L) (Rect.unit off size inb).toLoadRect = w := by
  rw [readCov_window, read_writes_put]; exact window_put_same _ _ _ _ _
end

/-! ## The two halves side by side -/

/-- An entry of the first half. -/
theorem beside_left (x : Vec F S512x2816 .bf16) (a b : Vec F S512x1408 .bf16) (r : Fin 512) (q : Fin 1408) (h : q.val < 2816) :
    beside x a b (ix2 r ⟨q.val, h⟩) = a (ix2 r q) := by
  have hr := r.isLt
  have hq := q.isLt
  exact (put_outside _ 0 1408 b r ⟨q.val, h⟩ (.inr (.inr (.inl (show q.val < 1408 from hq))))).trans
    ((put_inside x 0 0 a r ⟨q.val, h⟩ ⟨Nat.zero_le _, by omega⟩ ⟨Nat.zero_le _, by show q.val < 0 + 1408; omega⟩).trans
      (congrArg a (funext fun k => Fin.ext (by match k with | ⟨0, _⟩ => exact Nat.sub_zero _ | ⟨1, _⟩ => exact Nat.sub_zero _))))

/-- An entry of the second half. -/
theorem beside_right (x : Vec F S512x2816 .bf16) (a b : Vec F S512x1408 .bf16) (r : Fin 512) (q : Fin 1408) (h : 1408 + q.val < 2816) :
    beside x a b (ix2 r ⟨1408 + q.val, h⟩) = b (ix2 r q) := by
  have hr := r.isLt
  have hq := q.isLt
  exact (put_inside _ 0 1408 b r ⟨1408 + q.val, h⟩ ⟨Nat.zero_le _, by omega⟩ ⟨Nat.le_add_right _ _, by show 1408 + q.val < 1408 + 1408; omega⟩).trans
      (congrArg b (funext fun k => Fin.ext (by
        match k with
        | ⟨0, _⟩ => exact Nat.sub_zero _
        | ⟨1, _⟩ => exact Nat.add_sub_cancel_left ..)))

/-- Every column lies in one of the halves. -/
theorem halves (q : Fin 2816) : (∃ k : Fin 1408, ∃ h, q = ⟨k.val, h⟩) ∨ (∃ k : Fin 1408, ∃ h, q = ⟨1408 + k.val, h⟩) := by
  have hq := q.isLt
  by_cases h0 : q.val < 1408
  · exact .inl ⟨⟨q.val, h0⟩, hq, rfl⟩
  · exact .inr ⟨⟨q.val - 1408, by omega⟩, by show 1408 + (q.val - 1408) < 2816; omega, Fin.ext (by show q.val = 1408 + (q.val - 1408); omega)⟩

/-- What was there before the two halves were written does not matter. -/
theorem beside_over (x x' : Vec F S512x2816 .bf16) (a b : Vec F S512x1408 .bf16) : beside x a b = beside x' a b := by
  funext i
  obtain ⟨r, q, rfl⟩ : ∃ r q, i = ix2 r q := ⟨_, _, eq_ix2 i⟩
  obtain ⟨k, h, rfl⟩ | ⟨k, h, rfl⟩ := halves q
  · exact (beside_left x a b r k h).trans (beside_left x' a b r k h).symm
  · exact (beside_right x a b r k h).trans (beside_right x' a b r k h).symm

/-! ## The gathered weights -/

/-- One device's rows of the packed weights, from row `o` of its share on, as one copy carries them over. -/
theorem share (c : Dev nD) (w : HbBuf0 (F := F) c hbM0_0) (d : ℕ) (hd : d < 8) (o : ℕ) (ho : o + 352 ≤ 3008) (inb) (hn) (a : Fin 352) (q : Fin 1024) :
    View.read (Elt F) (((View.whole main_v23).slice (Rect.unit ![d, o, 0] ![1, 352, 1024] inb)).reshape S352x1024 hn) w (ix2 a q)
      = gathered o ho (hbM0_0.view.read (Elt F) w) (ix2 ⟨352 * d + a.val, by have := a.isLt; omega⟩ q) := by
  refine (ValueIdx.shapeCast_1ab_ab_apply (window (s := S8x3008x1024) (hbM0_0.view.read (Elt F) w) ![d, o, 0] ![1, 352, 1024] inb) hn a q).trans ?_
  refine congrArg (hbM0_0.view.read (Elt F) w) (funext fun k => Fin.ext ?_)
  have ha : a.val < 352 := a.isLt
  match k with
  | ⟨0, _⟩ => show d + 1 * 0 = (352 * d + a.val) / 352; omega
  | ⟨1, _⟩ => show o + 1 * a.val = o + (352 * d + a.val) % 352; omega
  | ⟨2, _⟩ => show 0 + 1 * q.val = q.val; omega

/-- Blocks of 352 rows already in place up to row `352 * d`: one more block is put below them. -/
theorem one_more (d : ℕ) (x y : Vec F S2816x1024 .bf16) (p : S352x1024.Idx → Elt F .bf16) (hd : d < 8)
    (hx : ∀ (r : Fin 2816) (q : Fin 1024), r.val < 352 * d → x (ix2 r q) = y (ix2 r q))
    (hp : ∀ (a : Fin 352) (q : Fin 1024), p (ix2 a q) = y (ix2 ⟨352 * d + a.val, by have := a.isLt; omega⟩ q)) :
    ∀ (r : Fin 2816) (q : Fin 1024), r.val < 352 * (d + 1) → put x ![352 * d, 0] ![352, 1024] p (ix2 r q) = y (ix2 r q) := fun r q hr => by
  have hq := q.isLt
  by_cases hlt : r.val < 352 * d
  · exact (put_outside (R := 2816) (C := 1024) x (352 * d) 0 p r q (.inl hlt)).trans (hx r q hlt)
  · refine (put_inside (R := 2816) (C := 1024) x (352 * d) 0 p r q ⟨by omega, by omega⟩ ⟨Nat.zero_le _, by omega⟩).trans ?_
    refine (hp ⟨r.val - 352 * d, by omega⟩ ⟨q.val - 0, by omega⟩).trans (congrArg y (funext fun k => Fin.ext ?_))
    match k with
    | ⟨0, _⟩ => show 352 * d + (r.val - 352 * d) = r.val; omega
    | ⟨1, _⟩ => rfl

/-- The eight copies of one weight at the first point leave it gathered, whatever was there before. -/
theorem gathered_eq (c : Dev nD) (w : HbBuf0 (F := F) c hbM0_0) (o : ℕ) (ho : o + 352 ≤ 3008) (x : Vec F S2816x1024 .bf16) (i0) (n0) (i1) (n1) (i2) (n2) (i3) (n3) (i4) (n4) (i5) (n5) (i6) (n6) (i7) (n7) :
    put (put (put (put (put (put (put (put x ![0, 0] ![352, 1024] (View.read (Elt F) (((View.whole main_v23).slice (Rect.unit ![0, o, 0] ![1, 352, 1024] i0)).reshape S352x1024 n0) w)) ![352, 0] ![352, 1024] (View.read (Elt F) (((View.whole main_v23).slice (Rect.unit ![1, o, 0] ![1, 352, 1024] i1)).reshape S352x1024 n1) w)) ![704, 0] ![352, 1024] (View.read (Elt F) (((View.whole main_v23).slice (Rect.unit ![2, o, 0] ![1, 352, 1024] i2)).reshape S352x1024 n2) w)) ![1056, 0] ![352, 1024] (View.read (Elt F) (((View.whole main_v23).slice (Rect.unit ![3, o, 0] ![1, 352, 1024] i3)).reshape S352x1024 n3) w)) ![1408, 0] ![352, 1024] (View.read (Elt F) (((View.whole main_v23).slice (Rect.unit ![4, o, 0] ![1, 352, 1024] i4)).reshape S352x1024 n4) w)) ![1760, 0] ![352, 1024] (View.read (Elt F) (((View.whole main_v23).slice (Rect.unit ![5, o, 0] ![1, 352, 1024] i5)).reshape S352x1024 n5) w)) ![2112, 0] ![352, 1024] (View.read (Elt F) (((View.whole main_v23).slice (Rect.unit ![6, o, 0] ![1, 352, 1024] i6)).reshape S352x1024 n6) w)) ![2464, 0] ![352, 1024] (View.read (Elt F) (((View.whole main_v23).slice (Rect.unit ![7, o, 0] ![1, 352, 1024] i7)).reshape S352x1024 n7) w)
      = gathered o ho (hbM0_0.view.read (Elt F) w) := by
  funext i
  obtain ⟨r, q, rfl⟩ : ∃ r q, i = ix2 r q := ⟨_, _, eq_ix2 i⟩
  have s0 := one_more 0 x (gathered o ho (hbM0_0.view.read (Elt F) w)) _ (by omega) (fun r q h => absurd h (by omega)) (share c w 0 (by omega) o ho i0 n0)
  have s1 := one_more 1 _ _ _ (by omega) s0 (share c w 1 (by omega) o ho i1 n1)
  have s2 := one_more 2 _ _ _ (by omega) s1 (share c w 2 (by omega) o ho i2 n2)
  have s3 := one_more 3 _ _ _ (by omega) s2 (share c w 3 (by omega) o ho i3 n3)
  have s4 := one_more 4 _ _ _ (by omega) s3 (share c w 4 (by omega) o ho i4 n4)
  have s5 := one_more 5 _ _ _ (by omega) s4 (share c w 5 (by omega) o ho i5 n5)
  have s6 := one_more 6 _ _ _ (by omega) s5 (share c w 6 (by omega) o ho i6 n6)
  have s7 := one_more 7 _ _ _ (by omega) s6 (share c w 7 (by omega) o ho i7 n7)
  exact s7 r q (by have := r.isLt; omega)

end Cert.FfnIdeal.Layer

end
-- ==== Proof.FfnPostFirst.lean ====
module

public import proofs.«01_k».proof.Proof.FfnRunFirst
public import proofs.«01_k».proof.Proof.FfnReads

@[expose] public section

noncomputable section

/-! # What the first point leaves -/

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen VecWindow

variable {F : FTy → Type} [FloatOps F]

local notation "𝕄" => MT nD τ sig Unit (Elt F) ℕ (Pipeline.UD sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x2816 .bf16) (harg3 : arg3.IsWhole)
  (arg4 : Memref sig .tc .vmem S512x2816 .bf16) (harg4 : arg4.IsWhole)
  (arg5 : Memref sig .tc .vmem S1x1024 .f32) (harg5 : arg5.IsWhole)
  (arg7 : Memref sig .tc .vmem S512x1024 .f32) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S8x1024 .f32) (harg10 : arg10.IsWhole)
  (arg11 : Memref sig .tc .vmem S2816x1024 .bf16) (harg11 : arg11.IsWhole)
  (arg12 : Memref sig .tc .vmem S2816x1024 .bf16) (harg12 : arg12.IsWhole)
  (arg13 : Memref sig .tc .vmem S2816x1024 .bf16) (harg13 : arg13.IsWhole)

/-- The gathered gate weight. -/
theorem first_wgate (hc0 : cond0_0 i) (t : Tile F) (w : HbBuf0 (F := F) c hbM0_0) (f : arg11.view.ty.Contents (Elt F)) :
    arg11.view.read (Elt F) (arg11.view.writes (Elt F) f (runFirst c i arg1 harg1 arg2 harg2 arg3 harg3 arg4 harg4 arg5 harg5 arg7 harg7 arg8 harg8 arg9 harg9 arg10 harg10 arg11 harg11 arg12 harg12 arg13 harg13 hc0 t w).2.2.2.2.1) = (start (hbM0_0.view.read (Elt F) w)).wgate := by
  unfold runFirst; dsimp only; sl_unfold_words
  simp only [readCov_put_same, readAt_window, read_writes_put, writes_none, Memref.IsWhole.read_unread, all512, all1]
  dsimp only [ReadAs.apply]
  exact gathered_eq c w 1952 (by decide) _ _ _ _ _ _ _ _ _ _ _ _ _ _ _ _ _

/-- The gathered value weight. -/
theorem first_wup (hc0 : cond0_0 i) (t : Tile F) (w : HbBuf0 (F := F) c hbM0_0) (f : arg12.view.ty.Contents (Elt F)) :
    arg12.view.read (Elt F) (arg12.view.writes (Elt F) f (runFirst c i arg1 harg1 arg2 harg2 arg3 harg3 arg4 harg4 arg5 harg5 arg7 harg7 arg8 harg8 arg9 harg9 arg10 harg10 arg11 harg11 arg12 harg12 arg13 harg13 hc0 t w).2.2.2.2.2.1) = (start (hbM0_0.view.read (Elt F) w)).wup := by
  unfold runFirst; dsimp only; sl_unfold_words
  simp only [readCov_put_same, readAt_window, read_writes_put, writes_none, Memref.IsWhole.read_unread, all512, all1]
  dsimp only [ReadAs.apply]
  exact gathered_eq c w 2304 (by decide) _ _ _ _ _ _ _ _ _ _ _ _ _ _ _ _ _

/-- The gathered output weight. -/
theorem first_wdown (hc0 : cond0_0 i) (t : Tile F) (w : HbBuf0 (F := F) c hbM0_0) (f : arg13.view.ty.Contents (Elt F)) :
    arg13.view.read (Elt F) (arg13.view.writes (Elt F) f (runFirst c i arg1 harg1 arg2 harg2 arg3 harg3 arg4 harg4 arg5 harg5 arg7 harg7 arg8 harg8 arg9 harg9 arg10 harg10 arg11 harg11 arg12 harg12 arg13 harg13 hc0 t w).2.2.2.2.2.2.1) = (start (hbM0_0.view.read (Elt F) w)).wdown := by
  unfold runFirst; dsimp only; sl_unfold_words
  simp only [readCov_put_same, readAt_window, read_writes_put, writes_none, Memref.IsWhole.read_unread, all512, all1]
  dsimp only [ReadAs.apply]
  exact gathered_eq c w 2656 (by decide) _ _ _ _ _ _ _ _ _ _ _ _ _ _ _ _ _

/-- What it leaves in the tile of the gradient at the input. -/
theorem first_dx (hc0 : cond0_0 i) (t : Tile F) (w : HbBuf0 (F := F) c hbM0_0) (f : arg7.view.ty.Contents (Elt F)) :
    arg7.view.read (Elt F) (arg7.view.writes (Elt F) f (runFirst c i arg1 harg1 arg2 harg2 arg3 harg3 arg4 harg4 arg5 harg5 arg7 harg7 arg8 harg8 arg9 harg9 arg10 harg10 arg11 harg11 arg12 harg12 arg13 harg13 hc0 t w).1) = dx (start (hbM0_0.view.read (Elt F) w)) t := by
  unfold runFirst; dsimp only; sl_unfold_words
  refine (View.read_writes_full arg7.view _ _ _ _).trans ?_
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  rfl

/-- What it leaves in the tile of the gradient at the gate. -/
theorem first_dg (hc0 : cond0_0 i) (t : Tile F) (w : HbBuf0 (F := F) c hbM0_0) (f : arg8.view.ty.Contents (Elt F)) :
    arg8.view.read (Elt F) (arg8.view.writes (Elt F) f (runFirst c i arg1 harg1 arg2 harg2 arg3 harg3 arg4 harg4 arg5 harg5 arg7 harg7 arg8 harg8 arg9 harg9 arg10 harg10 arg11 harg11 arg12 harg12 arg13 harg13 hc0 t w).2.1) = dg (start (hbM0_0.view.read (Elt F) w)) t := by
  unfold runFirst; dsimp only; sl_unfold_words
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  exact beside_over _ _ _ _

/-- What it leaves in the tile of the gradient at the values. -/
theorem first_du (hc0 : cond0_0 i) (t : Tile F) (w : HbBuf0 (F := F) c hbM0_0) (f : arg9.view.ty.Contents (Elt F)) :
    arg9.view.read (Elt F) (arg9.view.writes (Elt F) f (runFirst c i arg1 harg1 arg2 harg2 arg3 harg3 arg4 harg4 arg5 harg5 arg7 harg7 arg8 harg8 arg9 harg9 arg10 harg10 arg11 harg11 arg12 harg12 arg13 harg13 hc0 t w).2.2.1) = du (start (hbM0_0.view.read (Elt F) w)) t := by
  unfold runFirst; dsimp only; sl_unfold_words
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  exact beside_over _ _ _ _

/-- What it leaves in the running row sum. -/
theorem first_sums (hc0 : cond0_0 i) (t : Tile F) (w : HbBuf0 (F := F) c hbM0_0) (f : arg10.view.ty.Contents (Elt F)) :
    arg10.view.read (Elt F) (arg10.view.writes (Elt F) f (runFirst c i arg1 harg1 arg2 harg2 arg3 harg3 arg4 harg4 arg5 harg5 arg7 harg7 arg8 harg8 arg9 harg9 arg10 harg10 arg11 harg11 arg12 harg12 arg13 harg13 hc0 t w).2.2.2.1) = nextSums (start (hbM0_0.view.read (Elt F) w)) t := by
  unfold runFirst; dsimp only; sl_unfold_words
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  rfl

end Cert.FfnIdeal.Layer

end
-- ==== Proof.FfnRunLater.lean ====
module

public import proofs.«01_k».proof.Proof.FfnHold

@[expose] public section

set_option maxRecDepth 16384

noncomputable section

/-! # The body at a later point -/

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x2816 .bf16) (harg3 : arg3.IsWhole)
  (arg4 : Memref sig .tc .vmem S512x2816 .bf16) (harg4 : arg4.IsWhole)
  (arg5 : Memref sig .tc .vmem S1x1024 .f32) (harg5 : arg5.IsWhole)
  (arg7 : Memref sig .tc .vmem S512x1024 .f32) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S8x1024 .f32) (harg10 : arg10.IsWhole)
  (arg11 : Memref sig .tc .vmem S2816x1024 .bf16) (harg11 : arg11.IsWhole)
  (arg12 : Memref sig .tc .vmem S2816x1024 .bf16) (harg12 : arg12.IsWhole)
  (arg13 : Memref sig .tc .vmem S2816x1024 .bf16) (harg13 : arg13.IsWhole)

set_option maxHeartbeats 40000000 in
/-- A later point: what its stores leave in the buffers it writes, as pieces (the last store first), with the proof that
its body, from its five blocks and the kept buffers at `s`, ends with those pieces written and the weights as they were. -/
def runLater (hc0 : ¬cond0_0 i) (t : Tile F) (s : Kept F) :
    Σ' (L5 : List (View.Piece (Elt F) S512x1024 .f32)), Σ' (L6 : List (View.Piece (Elt F) S512x2816 .bf16)), Σ' (L7 : List (View.Piece (Elt F) S512x2816 .bf16)),
    { L8 : List (View.Piece (Elt F) S8x1024 .f32) //
      ∀ (K : PUnit → sProp 𝕄),
        iprop(tileHeld c arg1 arg2 arg3 arg4 arg5 t ∗ (∃ d, owns (c : Thread nD τ) arg7 fullShare d) ∗ (∃ d, owns (c : Thread nD τ) arg8 fullShare d) ∗ (∃ d, owns (c : Thread nD τ) arg9 fullShare d)
            ∗ keptHeld c arg10 arg11 arg12 arg13 s
            ∗ (iprop(tileHeld c arg1 arg2 arg3 arg4 arg5 t
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (arg10.view.loc (c : Thread nD τ) ↦[arg10.view.set]{fullShare} arg10.view.writes (Elt F) (harg10.unread s.sums) L8)
              ∗ owns (c : Thread nD τ) arg11 fullShare s.wgate ∗ owns (c : Thread nD τ) arg12 fullShare s.wup ∗ owns (c : Thread nD τ) arg13 fullShare s.wdown) -∗ K ⟨⟩))
        ⊢ wp frame (wpE (defs₀ (F := F)) Variants.none c none) Set.univ (cc0_ffn1_bwd_dx i arg1 harg1 arg2 harg2 arg3 harg3 arg4 harg4 arg5 harg5 (Memref.whole main_v23) (Memref.isWhole_whole _)
          arg7 harg7 arg8 harg8 arg9 harg9 arg10 harg10 arg11 harg11 arg12 harg12 arg13 harg13 cc0_scratch3) K } := by
  refine ⟨?_, ?_, ?_, ?_, fun K => ?run⟩
  case run =>
    simp only [cc0_ffn1_bwd_dx_eq_skeleton]; unfold cc0_ffn1_bwd_dx_skel
    simp only [k0_part9_eq_skeleton, k0_part10_eq_skeleton, k0_part11_eq_skeleton]
    unfold tileHeld keptHeld owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩,
      ⟨⟨%f8, %hf8, H8⟩, ⟨%fs0, %hfs0, HS0⟩, ⟨%fs1, %hfs1, HS1⟩, ⟨%fs2, %hfs2, HS2⟩⟩, Hk⟩
    obtain rfl := harg1.eq_unread hf0; obtain rfl := harg2.eq_unread hf1; obtain rfl := harg3.eq_unread hf2; obtain rfl := harg4.eq_unread hf3; obtain rfl := harg5.eq_unread hf4
    obtain rfl := harg10.eq_unread hf8; obtain rfl := harg11.eq_unread hfs0; obtain rfl := harg12.eq_unread hfs1; obtain rfl := harg13.eq_unread hfs2
    sl_exec (disch := first | sl_exact hc0)
    sl_step
    iapply Hk
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _; isplitr; · ipureintro; exact harg5.read_unread _
      iexact H4
    isplitl [H5]; · iexists _; iexact H5
    isplitl [H6]; · iexists _; iexact H6
    isplitl [H7]; · iexists _; iexact H7
    isplitl [H8]; · iexact H8
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.FfnIdeal.Layer

end
-- ==== Proof.FfnPostLater.lean ====
module

public import proofs.«01_k».proof.Proof.FfnRunLater
public import proofs.«01_k».proof.Proof.FfnReads

@[expose] public section

noncomputable section

/-! # What a later point leaves -/

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen VecWindow

variable {F : FTy → Type} [FloatOps F]

local notation "𝕄" => MT nD τ sig Unit (Elt F) ℕ (Pipeline.UD sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x2816 .bf16) (harg3 : arg3.IsWhole)
  (arg4 : Memref sig .tc .vmem S512x2816 .bf16) (harg4 : arg4.IsWhole)
  (arg5 : Memref sig .tc .vmem S1x1024 .f32) (harg5 : arg5.IsWhole)
  (arg7 : Memref sig .tc .vmem S512x1024 .f32) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S8x1024 .f32) (harg10 : arg10.IsWhole)
  (arg11 : Memref sig .tc .vmem S2816x1024 .bf16) (harg11 : arg11.IsWhole)
  (arg12 : Memref sig .tc .vmem S2816x1024 .bf16) (harg12 : arg12.IsWhole)
  (arg13 : Memref sig .tc .vmem S2816x1024 .bf16) (harg13 : arg13.IsWhole)

/-- What it leaves in the tile of the gradient at the input. -/
theorem later_dx (hc0 : ¬cond0_0 i) (t : Tile F) (s : Kept F) (f : arg7.view.ty.Contents (Elt F)) :
    arg7.view.read (Elt F) (arg7.view.writes (Elt F) f (runLater c i arg1 harg1 arg2 harg2 arg3 harg3 arg4 harg4 arg5 harg5 arg7 harg7 arg8 harg8 arg9 harg9 arg10 harg10 arg11 harg11 arg12 harg12 arg13 harg13 hc0 t s).1) = dx s t := by
  unfold runLater; dsimp only; sl_unfold_words
  refine (View.read_writes_full arg7.view _ _ _ _).trans ?_
  simp only [readCov_put_same, readAt_window, read_writes_put, writes_none, Memref.IsWhole.read_unread, all512, all1]
  rfl

/-- What it leaves in the tile of the gradient at the gate. -/
theorem later_dg (hc0 : ¬cond0_0 i) (t : Tile F) (s : Kept F) (f : arg8.view.ty.Contents (Elt F)) :
    arg8.view.read (Elt F) (arg8.view.writes (Elt F) f (runLater c i arg1 harg1 arg2 harg2 arg3 harg3 arg4 harg4 arg5 harg5 arg7 harg7 arg8 harg8 arg9 harg9 arg10 harg10 arg11 harg11 arg12 harg12 arg13 harg13 hc0 t s).2.1) = dg s t := by
  unfold runLater; dsimp only; sl_unfold_words
  simp only [readCov_put_same, readAt_window, read_writes_put, writes_none, Memref.IsWhole.read_unread, all512, all1]
  exact beside_over _ _ _ _

/-- What it leaves in the tile of the gradient at the values. -/
theorem later_du (hc0 : ¬cond0_0 i) (t : Tile F) (s : Kept F) (f : arg9.view.ty.Contents (Elt F)) :
    arg9.view.read (Elt F) (arg9.view.writes (Elt F) f (runLater c i arg1 harg1 arg2 harg2 arg3 harg3 arg4 harg4 arg5 harg5 arg7 harg7 arg8 harg8 arg9 harg9 arg10 harg10 arg11 harg11 arg12 harg12 arg13 harg13 hc0 t s).2.2.1) = du s t := by
  unfold runLater; dsimp only; sl_unfold_words
  simp only [readCov_put_same, readAt_window, read_writes_put, writes_none, Memref.IsWhole.read_unread, all512, all1]
  exact beside_over _ _ _ _

/-- What it leaves in the running row sum. -/
theorem later_sums (hc0 : ¬cond0_0 i) (t : Tile F) (s : Kept F) :
    arg10.view.read (Elt F) (arg10.view.writes (Elt F) (harg10.unread s.sums) (runLater c i arg1 harg1 arg2 harg2 arg3 harg3 arg4 harg4 arg5 harg5 arg7 harg7 arg8 harg8 arg9 harg9 arg10 harg10 arg11 harg11 arg12 harg12 arg13 harg13 hc0 t s).2.2.2.1) = nextSums s t := by
  unfold runLater; dsimp only; sl_unfold_words
  simp only [readCov_put_same, readAt_window, read_writes_put, writes_none, Memref.IsWhole.read_unread, all512, all1]
  rfl

end Cert.FfnIdeal.Layer

end
-- ==== Proof.FfnLaunch.lean ====
module

public import proofs.«01_k».proof.Proof.FfnPostFirst
public import proofs.«01_k».proof.Proof.FfnPostLater
public import Idealize.ShloMosaic.Lib.Pipeline.FrameValue
public import Idealize.ShloMosaic.Lib.Claim

@[expose] public section

set_option maxRecDepth 16384

noncomputable section

/-! # The layer's whole launch

The eight points in order, each from what the point before left; then the run of @main. -/

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The five blocks point `t` reads. -/
def tile (c : Dev nD) (t : Fin cfg0.N) : Tile F where
  dh := iblk m c 0 t
  h := iblk m c 1 t
  g := iblk m c 2 t
  u := iblk m c 3 t
  gamma := iblk m c 4 t

/-- What point `n` starts from. -/
def keptAt (c : Dev nD) : ℕ → Kept F
  | 0 => start (hbM0_0.view.read (Elt F) (V m c main_v23))
  | n + 1 => if h : n < cfg0.N then next (keptAt c n) (tile m c ⟨n, h⟩) else keptAt c n

/-- Point `t` takes one step. -/
theorem keptAt_succ (c : Dev nD) (t : Fin cfg0.N) : keptAt m c (t.val + 1) = next (keptAt m c t.val) (tile m c t) := dif_pos t.isLt

/-- What the region owns between two points, the buffers kept between them at `s`. -/
def between (c : Dev nD) (s : Kept F) : sProp 𝕄 :=
  iprop(iprop(owns (c : Thread nD τ) scM0_0 fullShare s.wgate ∗ owns (c : Thread nD τ) scM0_1 fullShare s.wup ∗ owns (c : Thread nD τ) scM0_2 fullShare s.wdown)
    ∗ (∃ r, prngReg c r) ∗ atRest c ∗ iprop(hbPt0 c hbM0_0 (V m c main_v23)))

/-- The invariant: before the first point what the launch hands over, later `between` at the point's buffers. -/
def Phi (c : Dev nD) : ℕ → sProp 𝕄
  | 0 => Pipeline.ΦD osem0 spec0 H0 (V m) c
  | n + 1 => between m c (keptAt m c (n + 1))

/-! ## The proof data -/

/-- Each input's buffer keeps its block; the outputs hold the three tiles and the running row sum. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dx (keptAt m c t.val) (tile m c t)
    | ⟨6, _⟩ => dg (keptAt m c t.val) (tile m c t)
    | ⟨7, _⟩ => du (keptAt m c t.val) (tile m c t)
    | ⟨8, _⟩ => (keptAt m c (t.val + 1)).sums
  Φ t := Phi m c t.val
  q _ := fullShare
  owed _ := 0

/-- The proof data's arrays are the region's at its entry. -/
theorem A_eq (c : Dev nD) (w : Fin cfg0.W) : (dats m 0 c).A w = V m c (Pipeline.arrRef spec0 w) := by
  dsimp only [dats]

/-- What the body leaves in the buffer of the block dh. -/
theorem after_0 (c : Dev nD) (t : Fin cfg0.N) : (dats m 0 c).after 0 t = iblk m c 0 t := by dsimp only [dats]
/-- What the body leaves in the buffer of the block h. -/
theorem after_1 (c : Dev nD) (t : Fin cfg0.N) : (dats m 0 c).after 1 t = iblk m c 1 t := by dsimp only [dats]
/-- What the body leaves in the buffer of the block g. -/
theorem after_2 (c : Dev nD) (t : Fin cfg0.N) : (dats m 0 c).after 2 t = iblk m c 2 t := by dsimp only [dats]
/-- What the body leaves in the buffer of the block u. -/
theorem after_3 (c : Dev nD) (t : Fin cfg0.N) : (dats m 0 c).after 3 t = iblk m c 3 t := by dsimp only [dats]
/-- What the body leaves in the buffer of the block gamma. -/
theorem after_4 (c : Dev nD) (t : Fin cfg0.N) : (dats m 0 c).after 4 t = iblk m c 4 t := by dsimp only [dats]
/-- The tile of the gradient at the input. -/
theorem after_5 (c : Dev nD) (t : Fin cfg0.N) : (dats m 0 c).after 5 t = dx (keptAt m c t.val) (tile m c t) := by dsimp only [dats]
/-- The tile of the gradient at the gate. -/
theorem after_6 (c : Dev nD) (t : Fin cfg0.N) : (dats m 0 c).after 6 t = dg (keptAt m c t.val) (tile m c t) := by dsimp only [dats]
/-- The tile of the gradient at the values. -/
theorem after_7 (c : Dev nD) (t : Fin cfg0.N) : (dats m 0 c).after 7 t = du (keptAt m c t.val) (tile m c t) := by dsimp only [dats]
/-- The running row sum. -/
theorem after_8 (c : Dev nD) (t : Fin cfg0.N) : (dats m 0 c).after 8 t = (keptAt m c (t.val + 1)).sums := by dsimp only [dats]

/-- The buffer of the block dh holds it at every point. -/
theorem before_0 (c : Dev nD) (t : Fin cfg0.N) (d) : (dats m 0 c).before 0 t d = (tile m c t).dh :=
  before0_0_of m (dats m 0 c) (A_eq m c 0) (after_0 m c) t d
/-- The buffer of the block h holds it at every point. -/
theorem before_1 (c : Dev nD) (t : Fin cfg0.N) (d) : (dats m 0 c).before 1 t d = (tile m c t).h :=
  before0_1_of m (dats m 0 c) (A_eq m c 1) (after_1 m c) t d
/-- The buffer of the block g holds it at every point. -/
theorem before_2 (c : Dev nD) (t : Fin cfg0.N) (d) : (dats m 0 c).before 2 t d = (tile m c t).g :=
  before0_2_of m (dats m 0 c) (A_eq m c 2) (after_2 m c) t d
/-- The buffer of the block u holds it at every point. -/
theorem before_3 (c : Dev nD) (t : Fin cfg0.N) (d) : (dats m 0 c).before 3 t d = (tile m c t).u :=
  before0_3_of m (dats m 0 c) (A_eq m c 3) (after_3 m c) t d
/-- The buffer of the block gamma holds it at every point. -/
theorem before_4 (c : Dev nD) (t : Fin cfg0.N) (d) : (dats m 0 c).before 4 t d = (tile m c t).gamma :=
  before0_4_of m (dats m 0 c) (A_eq m c 4) (after_4 m c) t d
/-- After the first point the row sum's buffer holds what the point before left. -/
theorem before_8 (c : Dev nD) (t : Fin cfg0.N) (h0 : ¬t.val % 8 = 0) (d) : (dats m 0 c).before 8 t d = (keptAt m c t.val).sums := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl), after_8]
  dsimp only
  rw [Nat.sub_add_cancel (by omega)]

/-! ## The body, at any point -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 19200000 in
/-- The first point. -/
theorem bodyFirst (c : Dev nD) (t : Fin cfg0.N) (h0 : t.val % 8 = 0) :
    pre m c t ⊢ wp frame (wpE (defs₀ (F := F)) Variants.none c none) Set.univ (bodyAt0 t) (fun _ => post m c t) := by
  have hN : t.val < 8 := lt_of_lt_of_eq t.isLt (show cfg0.N = 8 from N_0)
  unfold pre post bodyAt0
  simp only [before_0, before_1, before_2, before_3, before_4]
  rw [show (dats m 0 c).Φ t.succ = between m c (keptAt m c (t.val + 1)) from rfl,
    after_0, after_1, after_2, after_3, after_4, after_5, after_6, after_7, after_8, keptAt_succ]
  unfold Dat.owesAt Pipeline.owesWithin
  rw [show (dats m 0 c).owed t.castSucc = 0 from rfl, show (dats m 0 c).owed t.succ = 0 from rfl]
  have hz : t.val = 0 := by omega
  rw [show (dats m 0 c).Φ t.castSucc = Pipeline.ΦD osem0 spec0 H0 (V m) c from (show (dats m 0 c).Φ t.castSucc = Phi m c t.val from rfl).trans (by rw [hz]; rfl), PhiD0_eq]
  rw [show keptAt m c t.val = start (hbM0_0.view.read (Elt F) (V m c main_v23)) by rw [hz]; rfl]
  unfold between
  iintro ⟨⟨⟨⟨%e0, HS0⟩, ⟨%e1, HS1⟩, ⟨%e2, HS2⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runFirst c (grid0.coords t) _ _ _ _ _ _ _ _ _ _ _ _ _ _ _ _ _ _ _ _ _ _ _ _ ((hcond0_0 t).mpr h0) (tile m c t) (V m c main_v23)).2.2.2.2.2.2.2 W _)
  unfold tileHeld keptHeld
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]; · iexists _; iexact H6
  isplitl [H7]; · iexists _; iexact H7
  isplitl [H8 HS0 HS1 HS2]
  · iexists (⟨e0, e1, e2, (dats m 0 c).before 8 t d8⟩ : Kept F)
    isplitl [H8]; · iexact H8
    isplitl [HS0]; · iexact HS0
    isplitl [HS1]; · iexact HS1
    iexact HS2
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · unfold atRest
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  isplitl [Hh0]; · iexact Hh0
  isplitl [HW]; · iexact HW
  iintro ⟨⟨H0, H1, H2, H3, H4⟩, ⟨%f5, H5⟩, ⟨%f6, H6⟩, ⟨%f7, H7⟩, ⟨%f8, H8⟩, ⟨%g0, HS0⟩, ⟨%g1, HS1⟩, ⟨%g2, HS2⟩, Hin, Hh0, ⟨%W', HW'⟩⟩
  isplitl [HS0 HS1 HS2 Hg Hin Hh0]
  · isplitl [HS0 HS1 HS2]
    · isplitl [HS0]
      · unfold owns; iexists _; isplitr
        swap; · iexact HS0
        ipureintro; exact first_wgate c _ _ _ _ _ _ _ _ _ _ _ _ _ _ _ _ _ _ _ _ _ _ _ _ _ _ _ _ _
      isplitl [HS1]
      · unfold owns; iexists _; isplitr
        swap; · iexact HS1
        ipureintro; exact first_wup c _ _ _ _ _ _ _ _ _ _ _ _ _ _ _ _ _ _ _ _ _ _ _ _ _ _ _ _ _
      unfold owns; iexists _; isplitr
      swap; · iexact HS2
      ipureintro; exact first_wdown c _ _ _ _ _ _ _ _ _ _ _ _ _ _ _ _ _ _ _ _ _ _ _ _ _ _ _ _ _
    isplitl [Hg]; · iexact Hg
    isplitl [Hin]; · iexact Hin
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact first_dx c _ _ _ _ _ _ _ _ _ _ _ _ _ _ _ _ _ _ _ _ _ _ _ _ _ _ _ _ _
  isplitl [H6]
  · unfold owns; iexists _; isplitr
    swap; · iexact H6
    ipureintro; exact first_dg c _ _ _ _ _ _ _ _ _ _ _ _ _ _ _ _ _ _ _ _ _ _ _ _ _ _ _ _ _
  isplitl [H7]
  · unfold owns; iexists _; isplitr
    swap; · iexact H7
    ipureintro; exact first_du c _ _ _ _ _ _ _ _ _ _ _ _ _ _ _ _ _ _ _ _ _ _ _ _ _ _ _ _ _
  unfold owns; iexists _; isplitr
  swap; · iexact H8
  ipureintro; exact first_sums c _ _ _ _ _ _ _ _ _ _ _ _ _ _ _ _ _ _ _ _ _ _ _ _ _ _ _ _ _

set_option maxHeartbeats 19200000 in
/-- A later point. -/
theorem bodyLater (c : Dev nD) (t : Fin cfg0.N) (h0 : ¬t.val % 8 = 0) :
    pre m c t ⊢ wp frame (wpE (defs₀ (F := F)) Variants.none c none) Set.univ (bodyAt0 t) (fun _ => post m c t) := by
  have hN : t.val < 8 := lt_of_lt_of_eq t.isLt (show cfg0.N = 8 from N_0)
  unfold pre post bodyAt0
  simp only [before_0, before_1, before_2, before_3, before_4, before_8 m c t h0]
  rw [show (dats m 0 c).Φ t.succ = between m c (keptAt m c (t.val + 1)) from rfl,
    after_0, after_1, after_2, after_3, after_4, after_5, after_6, after_7, after_8, keptAt_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [show (dats m 0 c).Φ t.castSucc = between m c (keptAt m c t.val) from
    (show (dats m 0 c).Φ t.castSucc = Phi m c t.val from rfl).trans (by rw [hk]; rfl)]
  unfold between
  iintro ⟨⟨⟨HS0, HS1, HS2⟩, Hg, Hin, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runLater c (grid0.coords t) _ _ _ _ _ _ _ _ _ _ _ _ _ _ _ _ _ _ _ _ _ _ _ _ (fun h => h0 ((hcond0_0 t).mp h)) (tile m c t) (keptAt m c t.val)).2.2.2.2 _)
  unfold tileHeld keptHeld
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]; · iexists _; iexact H6
  isplitl [H7]; · iexists _; iexact H7
  isplitl [H8 HS0 HS1 HS2]
  · isplitl [H8]; · iexact H8
    isplitl [HS0]; · iexact HS0
    isplitl [HS1]; · iexact HS1
    iexact HS2
  iintro ⟨⟨H0, H1, H2, H3, H4⟩, ⟨%f5, H5⟩, ⟨%f6, H6⟩, ⟨%f7, H7⟩, H8, HS0, HS1, HS2⟩
  isplitl [HS0 HS1 HS2 Hg Hin Hh0]
  · isplitl [HS0 HS1 HS2]
    · isplitl [HS0]; · iexact HS0
      isplitl [HS1]; · iexact HS1
      iexact HS2
    isplitl [Hg]; · iexact Hg
    isplitl [Hin]; · iexact Hin
    iexact Hh0
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact later_dx c _ _ _ _ _ _ _ _ _ _ _ _ _ _ _ _ _ _ _ _ _ _ _ _ _ _ _ _ _
  isplitl [H6]
  · unfold owns; iexists _; isplitr
    swap; · iexact H6
    ipureintro; exact later_dg c _ _ _ _ _ _ _ _ _ _ _ _ _ _ _ _ _ _ _ _ _ _ _ _ _ _ _ _ _
  isplitl [H7]
  · unfold owns; iexists _; isplitr
    swap; · iexact H7
    ipureintro; exact later_du c _ _ _ _ _ _ _ _ _ _ _ _ _ _ _ _ _ _ _ _ _ _ _ _ _ _ _ _ _
  unfold owns; iexists _; isplitr
  swap; · iexact H8
  ipureintro; exact later_sums c _ _ _ _ _ _ _ _ _ _ _ _ _ _ _ _ _ _ _ _ _ _ _ _ _ _ _ _

/-- The body at any point. -/
theorem body (c : Dev nD) (t : Fin cfg0.N) :
    pre m c t ⊢ wp frame (wpE (defs₀ (F := F)) Variants.none c none) Set.univ (bodyAt0 t) (fun _ => post m c t) := by
  by_cases h0 : t.val % 8 = 0
  · exact bodyFirst m c t h0
  · exact bodyLater m c t h0

/-- The body table's row at point `t`'s slots. -/
theorem row (t : Fin cfg0.N) : defs₀ (F := F) .tc cfg0.body (cfg0.bodyArgs t (cfg0.slots t)) = bodyAt0 t := by
  unfold defs₀; rw [Defs.onTc_tc]

/-- What the launch theorem asks of the body. -/
theorem obligation (c : Dev nD) : BodyObligation (dats (F := F) m 0 c) (defs₀ (F := F)) Variants.none () Set.univ := fun t => by
  rw [bigSep_W0, bigSep_W0, row]
  exact triple_restated (body m c t) rfl .rfl fun _ => .rfl

/-- The region starts from what the launch hands over. -/
theorem hin (c : Dev nD) : Pipeline.ΦD osem0 spec0 H0 (V m) c ⊢ (dats m 0 c).Φ 0 := Idealize.SL.BI.Entails.refl _

/-- The region gives it back. -/
theorem hout (c : Dev nD) : (dats m 0 c).Φ (Fin.last cfg0.N) ⊢ Pipeline.ΦD osem0 spec0 H0 (V m) c := by
  rw [show (dats m 0 c).Φ (Fin.last cfg0.N) = between m c (keptAt m c 8) from rfl, PhiD0_eq]
  unfold between atRest
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2]
  · isplitl [HS0]; · iexists _; iexact HS0
    isplitl [HS1]; · iexists _; iexact HS1
    iexists _; iexact HS2
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  iexact Hh0

/-! ## The run -/

-- the launch theorem's implicit arguments are found by unifying its conclusion with this one, which takes unfolding plain
-- definitions in a metavariable's type
set_option backward.isDefEq.respectTransparency.types false in
/-- Every execution of @main ends with each array of the region at what the points leave, every other array as it was, and
every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnIdeal.Layer

end
-- ==== Proof.FfnSpec.lean ====
module

public import proofs.«01_k».proof.Proof.Spec

@[expose] public section

noncomputable section

/-! # The feed-forward layer's backward pass as formulas

The layer is `h + (silu (n wgate) * (n wup)) wdown` with `n = h / rms h * gamma`. Below are the gradients at the gate, at the
values, at the layer's input and at the norm's gain for an incoming gradient `dh`, entry by entry over the extended reals. -/

namespace Cert.Layer

open Idealize.ShloMosaic
open scoped BigOperators

/-- The layer's arguments and the incoming gradient. -/
structure Args where
  h : Fin 4096 → Fin 1024 → EReal
  gamma : Fin 1024 → EReal
  wgate : Fin 1024 → Fin 2816 → EReal
  wup : Fin 1024 → Fin 2816 → EReal
  wdown : Fin 2816 → Fin 1024 → EReal
  dh : Fin 4096 → Fin 1024 → EReal

variable (A : Args)

/-- The norm's part of the arguments: the norm is the mixer's, whose formulas do not look at the mixer's weights. -/
def norm : Mixer.Args where
  x := A.h
  gamma := A.gamma
  win _ _ := 0
  taps _ _ := 0
  wout _ _ := 0
  dh := A.dh

/-- The gate before its activation. -/
def gate (s : Fin 4096) (f : Fin 2816) : EReal := ∑ d, Mixer.normed (norm A) s d * A.wgate d f
/-- The values. -/
def up (s : Fin 4096) (f : Fin 2816) : EReal := ∑ d, Mixer.normed (norm A) s d * A.wup d f
/-- The logistic function. -/
def sig (x : EReal) : EReal := Ideal.div 1 (1 + Ideal.exp (-x))
/-- The gradient at the output projection's input. -/
def back (s : Fin 4096) (f : Fin 2816) : EReal := ∑ k, A.dh s k * A.wdown f k
/-- The gradient at the values. -/
def gUp (s : Fin 4096) (f : Fin 2816) : EReal := back A s f * gate A s f * sig (gate A s f)
/-- The gradient at the gate. -/
def gGate (s : Fin 4096) (f : Fin 2816) : EReal :=
  back A s f * up A s f * (sig (gate A s f) * (1 + gate A s f * (1 - sig (gate A s f))))
/-- The gradient at the normalised input. -/
def gNormed (s : Fin 4096) (d : Fin 1024) : EReal := (∑ f, gGate A s f * A.wgate d f) + ∑ f, gUp A s f * A.wup d f
/-- The same before the gain. -/
def gScaled (s : Fin 4096) (d : Fin 1024) : EReal := gNormed A s d * A.gamma d
/-- The row's inverse root mean square. -/
abbrev inv (s : Fin 4096) : EReal := Mixer.inv (norm A) s
/-- The gradient at the layer's input. -/
def dX (s : Fin 4096) (d : Fin 1024) : EReal :=
  A.dh s d + (inv A s * gScaled A s d - A.h s d * (inv A s * inv A s * inv A s) * Ideal.div (∑ k, gScaled A s k * A.h s k) Mixer.width)
/-- The gradient at the norm's gain. -/
def dGamma (d : Fin 1024) : EReal := ∑ s, gNormed A s d * A.h s d * inv A s

/-! ## Two halves of the hidden units -/

/-- Unit `p` of the first half. -/
def lo (p : Fin 1408) : Fin 2816 := ⟨p.val, by omega⟩
/-- Unit `p` of the second. -/
def hi (p : Fin 1408) : Fin 2816 := ⟨1408 + p.val, by omega⟩

/-- A sum over the hidden units is the sum over the two halves. -/
theorem sum_halves (f : Fin 2816 → EReal) : ∑ j, f j = (∑ p, f (lo p)) + ∑ p, f (hi p) :=
  (Fin.sum_univ_add (a := 1408) (b := 1408) f).trans (congrArg₂ (· + ·) rfl rfl)

/-- The gradient at the normalised input as it is summed half by half. -/
theorem gNormed_halves (s : Fin 4096) (d : Fin 1024) :
    (∑ p, gGate A s (lo p) * A.wgate d (lo p)) + (∑ p, gUp A s (lo p) * A.wup d (lo p)) + (∑ p, gGate A s (hi p) * A.wgate d (hi p))
      + (∑ p, gUp A s (hi p) * A.wup d (hi p)) = gNormed A s d := by
  unfold gNormed
  rw [sum_halves fun f => gGate A s f * A.wgate d f, sum_halves fun f => gUp A s f * A.wup d f]
  generalize (∑ p, gGate A s (lo p) * A.wgate d (lo p)) = a
  generalize (∑ p, gGate A s (hi p) * A.wgate d (hi p)) = b
  rw [add_right_comm a, add_assoc]

/-! ## Sums taken tile by tile -/

/-- Row `i` of the tile that point `n` works on. -/
def row (n : ℕ) (i : Fin 512) : Fin 4096 := ⟨512 * (n % 8) + i.val, by omega⟩

/-- The sum over the rows of the tiles before point `n`. -/
def soFar (n : ℕ) (f : Fin 4096 → EReal) : EReal := ∑ k ∈ Finset.range n, ∑ i, f (row k i)

/-- A point adds its tile. -/
theorem soFar_succ (n : ℕ) (f : Fin 4096 → EReal) : soFar (n + 1) f = soFar n f + ∑ i, f (row n i) := Finset.sum_range_succ _ _

/-- The eight tiles are all the rows. -/
theorem soFar_all (f : Fin 4096 → EReal) : soFar 8 f = ∑ s, f s := by
  unfold soFar
  rw [Finset.sum_range fun k => ∑ i, f (row k i), ← Fintype.sum_prod_type' fun (k : Fin 8) (i : Fin 512) => f (row k.val i)]
  refine Fintype.sum_bijective (fun p : Fin 8 × Fin 512 => row p.1.val p.2) ⟨fun p q h => ?_, fun s => ?_⟩ _ _ fun _ => rfl
  · have h' := congrArg Fin.val h
    simp only [row] at h'
    exact Prod.ext (Fin.ext (by omega)) (Fin.ext (by omega))
  · refine ⟨(⟨s.val / 512, by omega⟩, ⟨s.val % 512, by omega⟩), Fin.ext ?_⟩
    simp only [row]
    omega

/-! ## Real numbers -/

/-- An extended real that is a real number. -/
def IsReal (x : EReal) : Prop := ∃ r : ℝ, x = (r : EReal)

/-- Products of real numbers are real. -/
theorem IsReal.mul {x y : EReal} : IsReal x → IsReal y → IsReal (x * y)
  | ⟨a, ha⟩, ⟨b, hb⟩ => ⟨a * b, by rw [ha, hb, EReal.coe_mul]⟩

/-- And sums. -/
theorem IsReal.add {x y : EReal} : IsReal x → IsReal y → IsReal (x + y)
  | ⟨a, ha⟩, ⟨b, hb⟩ => ⟨a + b, by rw [ha, hb, EReal.coe_add]⟩

/-- Of any length. -/
theorem IsReal.sum {ι : Type} [Fintype ι] {f : ι → EReal} (h : ∀ i, IsReal (f i)) : IsReal (∑ i, f i) :=
  Finset.sum_induction f IsReal (fun _ _ => IsReal.add) ⟨0, rfl⟩ fun i _ => h i

/-- Neither infinity is a real number, and all else is. -/
theorem IsReal.of_abs_lt {x : EReal} (h : max x (-x) < ⊤) : IsReal x := by
  induction x with
  | bot => exact absurd h (by simp)
  | top => exact absurd h (by simp)
  | coe r => exact ⟨r, rfl⟩

/-- An entry over its row's root mean square is a real number, whatever the row holds: of a row with an infinity that is zero. -/
theorem scaled_real (B : Mixer.Args) (s : Fin 4096) (d : Fin 1024) : IsReal (Mixer.scaled B s d) := by
  unfold Mixer.scaled Mixer.inv
  obtain ht | ⟨z, hz, hz'⟩ := Mixer.under_cases B s
  · rw [ht, show Ideal.rsqrt ⊤ = 0 from rfl, mul_zero]
    exact ⟨0, rfl⟩
  · have hr : IsReal (Ideal.rsqrt (Mixer.under B s)) := by
      rw [hz']
      refine ⟨(Real.sqrt z)⁻¹, ?_⟩
      show (if z < 0 then ⊥ else if z = 0 then ⊤ else (((Real.sqrt z)⁻¹ : ℝ) : EReal)) = _
      rw [if_neg (by linarith), if_neg hz.ne']
    refine IsReal.mul ?_ hr
    by_contra hx
    have hq : B.x s d * B.x s d = ⊤ := by
      generalize B.x s d = x at hx
      induction x with
      | bot => rfl
      | top => rfl
      | coe r => exact absurd ⟨r, rfl⟩ hx
    have hs : (∑ k, B.x s k * B.x s k) = ⊤ := top_le_iff.1 (hq ▸ Finset.single_le_sum (f := fun k => B.x s k * B.x s k)
      (fun k _ => Mixer.square_nonneg _) (Finset.mem_univ d))
    obtain ⟨q, -, he⟩ := Mixer.eps_pos
    have hw : (((1024 : ℝ) : EReal)) ≠ 0 := by norm_cast
    have ht : Mixer.under B s = ⊤ := by
      unfold Mixer.under
      rw [hs, he, Mixer.width_eq, Ideal.div, if_neg hw, ← EReal.coe_inv, EReal.top_mul_coe_of_pos (by norm_num)]
      exact EReal.top_add_coe q
    exact EReal.coe_ne_top z (hz'.symm.trans ht)

/-- The arguments that the gradient at the gate is made of hold no infinity. -/
structure Finite : Prop where
  gamma : ∀ d, IsReal (A.gamma d)
  wup : ∀ d f, IsReal (A.wup d f)
  wdown : ∀ f k, IsReal (A.wdown f k)
  dh : ∀ s k, IsReal (A.dh s k)

/-- Then what the activation's derivative is multiplied by is a real number. -/
theorem cotangent_real (hA : Finite A) (s : Fin 4096) (f : Fin 2816) : IsReal (back A s f * up A s f) :=
  IsReal.mul (IsReal.sum fun k => (hA.dh s k).mul (hA.wdown f k))
    (IsReal.sum fun d => ((scaled_real (norm A) s d).mul (hA.gamma d)).mul (hA.wup d f))

/-! ## The derivative of the activation -/

/-- The logistic function of a real number. -/
theorem sig_coe (r : ℝ) : sig (r : EReal) = (((1 + Real.exp (-r))⁻¹ : ℝ) : EReal) := by
  have h0 : (((1 + Real.exp (-r) : ℝ)) : EReal) ≠ 0 := by
    have : 0 < 1 + Real.exp (-r) := by positivity
    exact_mod_cast this.ne'
  unfold sig
  rw [show Ideal.exp (-(r : EReal)) = ((Real.exp (-r) : ℝ) : EReal) by rw [← EReal.coe_neg]; rfl, ← EReal.coe_one, ← EReal.coe_add, Ideal.div, if_neg h0, ← EReal.coe_inv, EReal.coe_one, one_mul]

/-- Of infinity. -/
theorem sig_top : sig ⊤ = 1 := by
  unfold sig
  rw [EReal.neg_top, show Ideal.exp ⊥ = 0 from rfl, add_zero, Ideal.div, if_neg one_ne_zero, one_mul, ← EReal.coe_one, ← EReal.coe_inv, inv_one]

/-- Of minus infinity. -/
theorem sig_bot : sig ⊥ = 0 := by
  unfold sig
  rw [EReal.neg_bot, show Ideal.exp ⊤ = ⊤ from rfl, ← EReal.coe_one, EReal.coe_add_top, Ideal.div, if_neg EReal.top_ne_zero, EReal.inv_top, mul_zero]

/-- The derivative of `x sig x` in the kernel's form and in the reference's, times a real number. -/
theorem silu_back (g c : EReal) (hc : IsReal c) : c * (sig g * (1 + g * (1 - sig g))) = c * sig g + g * c * (sig g * (1 - sig g)) := by
  obtain ⟨c, rfl⟩ := hc
  induction g with
  | bot => rw [sig_bot]; simp
  | top =>
    have h1 : (1 : EReal) - 1 = 0 := by rw [← EReal.coe_one, ← EReal.coe_sub, sub_self]; rfl
    rw [sig_top, h1]; simp
  | coe g =>
    rw [sig_coe, ← EReal.coe_one]
    generalize (1 + Real.exp (-g))⁻¹ = s
    norm_cast
    ring

/-- So the gradient at the gate in the reference's form. -/
theorem gGate_eq (hA : Finite A) (s : Fin 4096) (f : Fin 2816) :
    gGate A s f = back A s f * up A s f * sig (gate A s f) + gate A s f * (back A s f * up A s f) * (sig (gate A s f) * (1 - sig (gate A s f))) :=
  silu_back _ _ (cotangent_real A hA s f)

/-- The gradient at the input in the reference's form. -/
theorem dX_eq (s : Fin 4096) (d : Fin 1024) :
    dX A s d = A.dh s d + gScaled A s d * inv A s
      + A.h s d * Ideal.div ((∑ k, A.h s k * gScaled A s k) * (Mixer.minusHalf * Ideal.div (inv A s) (Mixer.under (norm A) s))) Mixer.width
      + Ideal.div ((∑ k, A.h s k * gScaled A s k) * (Mixer.minusHalf * Ideal.div (inv A s) (Mixer.under (norm A) s))) Mixer.width * A.h s d := by
  unfold dX
  rw [show (∑ k, gScaled A s k * A.h s k) = ∑ k, A.h s k * gScaled A s k from Finset.sum_congr rfl fun k _ => mul_comm _ _]
  exact Mixer.norm_back (norm A) s d _ _ _

end Cert.Layer

end
-- ==== Proof.FfnStepValue.lean ====
module

public import proofs.«01_k».proof.Proof.FfnReads
public import proofs.«01_k».proof.Proof.FfnSpec
public import Idealize.ShloMosaic.Lib.Pointwise

@[expose] public section

noncomputable section

/-! # One grid point of the layer over the extended reals

A point that reads its tile of the formulas' arrays writes the formulas' gradients into its tiles and adds its tile's sum. -/

namespace Cert.FfnIdeal.Layer

open Idealize.ShloMosaic Cert.FfnIdeal.Gen VecWindow Cert.Layer
open scoped BigOperators

variable (A : Args)

/-- The five blocks point `n` reads are its tile of the formulas' arrays. -/
structure TileIs (n : ℕ) (t : Tile Ideal) : Prop where
  dh : ∀ i e, t.dh (ix2 i e) = A.dh (row n i) e
  h : ∀ i e, t.h (ix2 i e) = A.h (row n i) e
  g : ∀ i f, t.g (ix2 i f) = gate A (row n i) f
  u : ∀ i f, t.u (ix2 i f) = up A (row n i) f
  gamma : ∀ e, t.gamma (ix2 0 e) = A.gamma e

/-- Before point `n` the three weights are there, and the sum over the tiles done above seven rows of zeros. -/
structure KeptIs (n : ℕ) (s : Kept Ideal) : Prop where
  wgate : ∀ f d, s.wgate (ix2 f d) = A.wgate d f
  wup : ∀ f d, s.wup (ix2 f d) = A.wup d f
  wdown : ∀ f d, s.wdown (ix2 f d) = A.wdown f d
  sum : ∀ d, s.sums (ix2 0 d) = soFar n fun r => gNormed A r d * A.h r d * inv A r
  rest : ∀ (k : Fin 8) d, 1 ≤ k.val → s.sums (ix2 k d) = 0

/-! ## The halves at an index -/

/-- The first half of a weight's rows. -/
theorem top_at (w : Vec Ideal S2816x1024 .bf16) (p : Fin 1408) (d : Fin 1024) : top w (ix2 p d) = w (ix2 (lo p) d) :=
  (window_at w 0 0 _ p d (by omega) (by omega)).trans (congrArg₂ (fun a b => w (ix2 a b)) (Fin.ext (Nat.zero_add _)) (Fin.ext (Nat.zero_add _)))
/-- The second. -/
theorem bottom_at (w : Vec Ideal S2816x1024 .bf16) (p : Fin 1408) (d : Fin 1024) : bottom w (ix2 p d) = w (ix2 (hi p) d) :=
  (window_at w 1408 0 _ p d (by omega) (by omega)).trans (congrArg₂ (fun a b => w (ix2 a b)) rfl (Fin.ext (Nat.zero_add _)))
/-- The first half of a projection's columns. -/
theorem left_at (x : Vec Ideal S512x2816 .bf16) (i : Fin 512) (p : Fin 1408) : left x (ix2 i p) = x (ix2 i (lo p)) :=
  (window_at x 0 0 _ i p (by omega) (by omega)).trans (congrArg₂ (fun a b => x (ix2 a b)) (Fin.ext (Nat.zero_add _)) (Fin.ext (Nat.zero_add _)))
/-- The second. -/
theorem right_at (x : Vec Ideal S512x2816 .bf16) (i : Fin 512) (p : Fin 1408) : right x (ix2 i p) = x (ix2 i (hi p)) :=
  (window_at x 0 1408 _ i p (by omega) (by omega)).trans (congrArg₂ (fun a b => x (ix2 a b)) (Fin.ext (Nat.zero_add _)) rfl)

section Point
variable {A} {n : ℕ} {t : Tile Ideal} {s : Kept Ideal} (ht : TileIs A n t)
include ht

/-- The tile's inverse root mean squares. -/
theorem inv_at (i : Fin 512) : (k0_pay1 t.h : FVec Ideal S512x1 .f32) (ix2 i 0) = inv A (row n i) := by
  unfold k0_pay1
  simp only [pointwise, ht.h, zero_add]
  rfl

variable (hs : KeptIs A n s)
include hs

/-- The first half of the gradient at the values. -/
theorem duL_at (i : Fin 512) (p : Fin 1408) : duL s t (ix2 i p) = gUp A (row n i) (lo p) := by
  unfold duL k0_pay9 k0_pay8 k0_pay7 k0_pay6 k0_pay5
  simp only [pointwise, top_at, left_at, ht.dh, ht.g, hs.wdown, zero_add, zero_sub]
  rfl

/-- The second. -/
theorem duR_at (i : Fin 512) (p : Fin 1408) : duR s t (ix2 i p) = gUp A (row n i) (hi p) := by
  unfold duR k0_pay15 k0_pay14 k0_pay13 k0_pay12 k0_pay5
  simp only [pointwise, bottom_at, right_at, ht.dh, ht.g, hs.wdown, zero_add, zero_sub]
  rfl

/-- The first half of the gradient at the gate. -/
theorem dgL_at (i : Fin 512) (p : Fin 1408) : dgL s t (ix2 i p) = gGate A (row n i) (lo p) := by
  unfold dgL k0_pay10 k0_pay8 k0_pay7 k0_pay6 k0_pay5
  simp only [pointwise, top_at, left_at, ht.dh, ht.g, ht.u, hs.wdown, zero_add, zero_sub]
  rfl

/-- The second. -/
theorem dgR_at (i : Fin 512) (p : Fin 1408) : dgR s t (ix2 i p) = gGate A (row n i) (hi p) := by
  unfold dgR k0_pay16 k0_pay14 k0_pay13 k0_pay12 k0_pay5
  simp only [pointwise, bottom_at, right_at, ht.dh, ht.g, ht.u, hs.wdown, zero_add, zero_sub]
  rfl

/-- The tile of the gradient at the gate. -/
theorem dg_at (i : Fin 512) (f : Fin 2816) : dg s t (ix2 i f) = gGate A (row n i) f := by
  obtain ⟨p, h, rfl⟩ | ⟨p, h, rfl⟩ := halves f
  · exact (beside_left _ _ _ i p h).trans (dgL_at ht hs i p)
  · exact (beside_right _ _ _ i p h).trans (dgR_at ht hs i p)

/-- The tile of the gradient at the values. -/
theorem du_at (i : Fin 512) (f : Fin 2816) : du s t (ix2 i f) = gUp A (row n i) f := by
  obtain ⟨p, h, rfl⟩ | ⟨p, h, rfl⟩ := halves f
  · exact (beside_left _ _ _ i p h).trans (duL_at ht hs i p)
  · exact (beside_right _ _ _ i p h).trans (duR_at ht hs i p)

/-- The tile of the gradient at the normalised input. -/
theorem dn_at (i : Fin 512) (d : Fin 1024) : dn s t (ix2 i d) = gNormed A (row n i) d := by
  have hL : ∀ i p, (k0_pay10 (k0_pay5 t.dh) (top s.wdown) (left t.g) (left t.u) : FVec Ideal S512x1408 .bf16) (ix2 i p) = gGate A (row n i) (lo p) := dgL_at ht hs
  have hR : ∀ i p, (k0_pay16 (k0_pay5 t.dh) (bottom s.wdown) (right t.g) (right t.u) : FVec Ideal S512x1408 .bf16) (ix2 i p) = gGate A (row n i) (hi p) := dgR_at ht hs
  have uL : ∀ i p, (k0_pay9 (k0_pay5 t.dh) (top s.wdown) (left t.g) : FVec Ideal S512x1408 .bf16) (ix2 i p) = gUp A (row n i) (lo p) := duL_at ht hs
  have uR : ∀ i p, (k0_pay15 (k0_pay5 t.dh) (bottom s.wdown) (right t.g) : FVec Ideal S512x1408 .bf16) (ix2 i p) = gUp A (row n i) (hi p) := duR_at ht hs
  unfold dn k0_pay17 dnL k0_pay11
  simp only [pointwise, hL, hR, uL, uR, top_at, bottom_at, hs.wgate, hs.wup, zero_add]
  exact gNormed_halves A (row n i) d

/-- The tile of the gradient at the layer's input. -/
theorem dx_at (i : Fin 512) (d : Fin 1024) : dx s t (ix2 i d) = dX A (row n i) d := by
  unfold dx k0_pay2
  simp only [pointwise, dn_at ht hs, ht.dh, ht.h, ht.gamma, inv_at ht, zero_add, reduceDIte, Nat.reduceEqDiff, OfNat.ofNat_ne_one]
  rfl

/-- The first row of the sums after the point. -/
theorem sum_at (d : Fin 1024) : nextSums s t (ix2 0 d) = s.sums (ix2 0 d) + ∑ i, gNormed A (row n i) d * A.h (row n i) d * inv A (row n i) := by
  unfold nextSums
  refine (put_inside s.sums 0 0 _ 0 d ⟨Nat.zero_le _, by simp⟩ ⟨Nat.zero_le _, by omega⟩).trans ?_
  have e : (ix2 ⟨((0 : Fin 8)).val - 0, by simp⟩ ⟨d.val - 0, by omega⟩ : S1x1024.Idx) = ix2 0 d := rfl
  refine (congrArg _ e).trans ?_
  unfold k0_pay3
  simp only [pointwise, dn_at ht hs, ht.h, inv_at ht, zero_add, reduceDIte, Nat.reduceEqDiff, OfNat.ofNat_ne_one]
  exact congrArg (· + _) ((window_at s.sums 0 0 _ (0 : Fin 1) d (by simp) (by omega)).trans
    (congrArg₂ (fun a b => s.sums (ix2 a b)) (Fin.ext rfl) (Fin.ext (Nat.zero_add _))))

omit ht in
/-- The rows below stay zeros. -/
theorem rest_at (k : Fin 8) (d : Fin 1024) (hk : 1 ≤ k.val) : nextSums s t (ix2 k d) = 0 :=
  (put_outside s.sums 0 0 _ k d (.inr (.inl (by omega)))).trans (hs.rest k d hk)

/-- What a point leaves is what the next one starts from. -/
theorem next_is : KeptIs A (n + 1) (next s t) where
  wgate := hs.wgate
  wup := hs.wup
  wdown := hs.wdown
  sum d := (sum_at ht hs d).trans (by rw [hs.sum, soFar_succ])
  rest k d hk := rest_at hs k d hk

end Point

/-! ## The first point -/

/-- A packed weight array: share `k`'s rows 1952 to 2303 are rows `352 k` on of the gate's transpose, its next 352 of the
values', its last 352 of the output projection. -/
structure PackIs (w : Vec Ideal S8x3008x1024 .bf16) : Prop where
  wgate : ∀ (k : Fin 8) (r : Fin 352) (r' : Fin 3008) (d : Fin 1024), r'.val = 1952 + r.val → w (ix3 k r' d) = A.wgate d ⟨352 * k.val + r.val, by omega⟩
  wup : ∀ (k : Fin 8) (r : Fin 352) (r' : Fin 3008) (d : Fin 1024), r'.val = 2304 + r.val → w (ix3 k r' d) = A.wup d ⟨352 * k.val + r.val, by omega⟩
  wdown : ∀ (k : Fin 8) (r : Fin 352) (r' : Fin 3008) (d : Fin 1024), r'.val = 2656 + r.val → w (ix3 k r' d) = A.wdown ⟨352 * k.val + r.val, by omega⟩ d

/-- A row of a gathered weight is a row of its share. -/
theorem gathered_at (o : ℕ) (ho : o + 352 ≤ 3008) (w : Vec Ideal S8x3008x1024 .bf16) (f : Fin 2816) (d : Fin 1024) :
    gathered o ho w (ix2 f d) = w (ix3 ⟨f.val / 352, by omega⟩ ⟨o + f.val % 352, by omega⟩ d) :=
  congrArg w (funext fun a => match a with | ⟨0, _⟩ => rfl | ⟨1, _⟩ => rfl | ⟨2, _⟩ => rfl)

/-- Before the first point: the gathered weights and zeros. -/
theorem start_is {w : Vec Ideal S8x3008x1024 .bf16} (hw : PackIs A w) : KeptIs A 0 (start w) where
  wgate f d := (gathered_at 1952 (by omega) w f d).trans ((hw.wgate _ ⟨f.val % 352, by omega⟩ _ d rfl).trans
    (congrArg (A.wgate d) (Fin.ext (by show 352 * (f.val / 352) + f.val % 352 = f.val; omega))))
  wup f d := (gathered_at 2304 (by omega) w f d).trans ((hw.wup _ ⟨f.val % 352, by omega⟩ _ d rfl).trans
    (congrArg (A.wup d) (Fin.ext (by show 352 * (f.val / 352) + f.val % 352 = f.val; omega))))
  wdown f d := (gathered_at 2656 (by omega) w f d).trans ((hw.wdown _ ⟨f.val % 352, by omega⟩ _ d rfl).trans
    (congrArg (A.wdown · d) (Fin.ext (by show 352 * (f.val / 352) + f.val % 352 = f.val; omega))))
  sum d := Ideal.ofBits_zero_f32
  rest k d _ := Ideal.ofBits_zero_f32

end Cert.FfnIdeal.Layer

end
-- ==== Proof.FfnForward.lean ====
module

public import proofs.«01_k».proof.Proof.FfnSpec
public import proofs.«01_k».proof.Proof.BackwardValue
public import proofs.«01_k».proof.Proof.Gen.FfnRefIdeal

@[expose] public section

noncomputable section

/-! # The layer's two projections as arrays

Both programs compute the gate and the values by the same host operations. -/

namespace Cert.Layer

open Idealize.ShloMosaic Cert.FfnRefIdeal Cert.FfnRefIdeal.Gen
open scoped BigOperators

/-- The formulas' arguments read off arrays. -/
def argsOf (h : FVec Ideal S4096x1024 .f32) (a : FVec Ideal S1x1024 .f32) (wg wu : FVec Ideal S1024x2816 .f32) (wd : FVec Ideal S2816x1024 .f32)
    (g : FVec Ideal S4096x1024 .f32) : Args where
  h s d := h (ix2 s d)
  gamma d := a (ix2 0 d)
  wgate d f := wg (ix2 d f)
  wup d f := wu (ix2 d f)
  wdown f d := wd (ix2 f d)
  dh s d := g (ix2 s d)

/-- The normalised input. -/
def normedOf (h : FVec Ideal S4096x1024 .f32) (a : FVec Ideal S1x1024 .f32) : FVec Ideal S4096x1024 .f32 := mulf (Mixer.scaledOf h) (Mixer.spread a)

/-- A projection of it onto the hidden units. -/
def hiddenOf (h : FVec Ideal S4096x1024 .f32) (a : FVec Ideal S1x1024 .f32) (w : FVec Ideal S1024x2816 .f32) : FVec Ideal S4096x2816 .f32 :=
  Host.dotGeneral dot_S4096x1024_S1024x2816_S4096x2816_1_0_0_1_n_n none (normedOf h a) w

variable (h : FVec Ideal S4096x1024 .f32) (a : FVec Ideal S1x1024 .f32) (wg wu : FVec Ideal S1024x2816 .f32) (wd : FVec Ideal S2816x1024 .f32)
  (g : FVec Ideal S4096x1024 .f32)

/-- The mean square at a row. -/
theorem under_at (s : Fin 4096) : Mixer.underOf h (ix2 s 0) = Mixer.under (norm (argsOf h a wg wu wd g)) s :=
  Mixer.underOf_at (a := a) (w := fun _ => 0) (t := fun _ => 0) (o := fun _ => 0) (g := g) s

/-- The input over its root mean square, at an index. -/
theorem scaled_at (s : Fin 4096) (d : Fin 1024) : Mixer.scaledOf h (ix2 s d) = Mixer.scaled (norm (argsOf h a wg wu wd g)) s d :=
  Mixer.scaledOf_at (a := a) (w := fun _ => 0) (t := fun _ => 0) (o := fun _ => 0) (g := g) s d

/-- The normalised input at an index. -/
theorem normed_at (s : Fin 4096) (d : Fin 1024) : normedOf h a (ix2 s d) = Mixer.normed (norm (argsOf h a wg wu wd g)) s d :=
  congrArg₂ (· * ·) (scaled_at h a wg wu wd g s d) (Mixer.spread_at a s d)

/-- A projection at an index. -/
theorem hidden_at (w : FVec Ideal S1024x2816 .f32) (s : Fin 4096) (f : Fin 2816) :
    hiddenOf h a w (ix2 s f) = ∑ d, Mixer.normed (norm (argsOf h a wg wu wd g)) s d * w (ix2 d f) := by
  unfold hiddenOf
  simp only [pointwise, zero_add, normed_at h a wg wu wd g]

/-- The gate at an index. -/
theorem gate_at (s : Fin 4096) (f : Fin 2816) : hiddenOf h a wg (ix2 s f) = gate (argsOf h a wg wu wd g) s f := hidden_at h a wg wu wd g wg s f
/-- The values. -/
theorem up_at (s : Fin 4096) (f : Fin 2816) : hiddenOf h a wu (ix2 s f) = up (argsOf h a wg wu wd g) s f := hidden_at h a wg wu wd g wu s f

end Cert.Layer

end
-- ==== Proof.FfnPrefix.lean ====
module

public import proofs.«01_k».proof.Proof.FfnLaunch
public import proofs.«01_k».proof.Proof.FfnStepValue
public import proofs.«01_k».proof.Proof.FfnForward
public import Idealize.ShloMosaic.Lib.Pipeline.ValueKit.Point

@[expose] public section

noncomputable section

/-! # What the layer's launch finds, and what it keeps -/

namespace Cert.FfnIdeal.Layer

open Idealize.ShloMosaic Idealize.ShloMosaic.TcCoe Cert.FfnIdeal.Gen Cert.Layer
open scoped BigOperators

variable (m : (ℓ : Loc nD τ sig) → Buf (Elt Ideal) ℓ) (c : Dev nD)

/-- The formulas' arguments in the launch's memory. -/
def args : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

/-- The packed weights as the host prepares them. -/
def packOf (wg wu : FVec Ideal S1024x2816 .f32) (wd : FVec Ideal S2816x1024 .f32) : FVec Ideal S8x3008x1024 .f32 :=
  concatenate S8x3008x1024 1 [⟨S8x1952x1024, (broadcastInDim S8x1952x1024 ![] bcast_S_S8x1952x1024 (constant S_ .f32 0x00000000#32) : FVec Ideal S8x1952x1024 .f32)⟩,
    ⟨S8x352x1024, shapeCast S8x352x1024 (transpose S2816x1024 [1, 0] wg transposes_S1024x2816_S2816x1024_1_0) shapeCasts_S2816x1024_S8x352x1024⟩,
    ⟨S8x352x1024, shapeCast S8x352x1024 (transpose S2816x1024 [1, 0] wu transposes_S1024x2816_S2816x1024_1_0) shapeCasts_S2816x1024_S8x352x1024⟩,
    ⟨S8x352x1024, shapeCast S8x352x1024 wd shapeCasts_S2816x1024_S8x352x1024⟩]
    concatenates_S8x1952x1024_S8x352x1024_S8x352x1024_S8x352x1024_S8x3008x1024_d1

set_option maxRecDepth 8192

/-- The packed weights in the launch's memory. -/
def packIn : FVec Ideal S8x3008x1024 .f32 :=
  packOf (m ((c.tc : Thread nD τ).loc main_arg2)) (m ((c.tc : Thread nD τ).loc main_arg3)) (m ((c.tc : Thread nD τ).loc main_arg4))

/-- The launch's arrays, as the operations leave them: the packed weights. -/
theorem read_pack : V m c main_v23 = truncf .bf16 (packIn m c) bitsLt_bf16_f32 := rfl
/-- The gate. -/
theorem read_gate : V m c main_v24 = truncf .bf16 (hiddenOf (m ((c.tc : Thread nD τ).loc main_arg0)) (m ((c.tc : Thread nD τ).loc main_arg1)) (m ((c.tc : Thread nD τ).loc main_arg2))) bitsLt_bf16_f32 := rfl
/-- The values. -/
theorem read_up : V m c main_v25 = truncf .bf16 (hiddenOf (m ((c.tc : Thread nD τ).loc main_arg0)) (m ((c.tc : Thread nD τ).loc main_arg1)) (m ((c.tc : Thread nD τ).loc main_arg3))) bitsLt_bf16_f32 := rfl

/-- The packed weights hold, in each share, 352 rows of each transposed input projection and of the output projection. -/
theorem packOf_is (h : FVec Ideal S4096x1024 .f32) (a : FVec Ideal S1x1024 .f32) (wg wu : FVec Ideal S1024x2816 .f32) (wd : FVec Ideal S2816x1024 .f32)
    (g : FVec Ideal S4096x1024 .f32) : PackIs (argsOf h a wg wu wd g) (packOf wg wu wd) where
  wgate k r r' d hr := by
    unfold packOf
    refine Eq.trans (concatenate_apply_piece (t := S8x3008x1024) _ _ _ _ 1 (by simp) S8x352x1024 _ rfl rfl 1952 (by simp) (ix3 k r d) (fun a ha => ?_) ?_) ?_
    · match a with
      | ⟨0, _⟩ => rfl
      | ⟨2, _⟩ => rfl
    · exact hr.symm
    · refine Eq.trans (shapeCast_apply _ _ _ (ix2 (n0 := 2816) ⟨352 * k.val + r.val, by omega⟩ d) ?_) (by simp only [pointwise]; rfl)
      rw [Shape.rowMajor_val_two, Shape.rowMajor_val_three]
      simp; omega
  wup k r r' d hr := by
    unfold packOf
    refine Eq.trans (concatenate_apply_piece (t := S8x3008x1024) _ _ _ _ 2 (by simp) S8x352x1024 _ rfl rfl 2304 (by simp) (ix3 k r d) (fun a ha => ?_) ?_) ?_
    · match a with
      | ⟨0, _⟩ => rfl
      | ⟨2, _⟩ => rfl
    · exact hr.symm
    · refine Eq.trans (shapeCast_apply _ _ _ (ix2 (n0 := 2816) ⟨352 * k.val + r.val, by omega⟩ d) ?_) (by simp only [pointwise]; rfl)
      rw [Shape.rowMajor_val_two, Shape.rowMajor_val_three]
      simp; omega
  wdown k r r' d hr := by
    unfold packOf
    refine Eq.trans (concatenate_apply_piece (t := S8x3008x1024) _ _ _ _ 3 (by simp) S8x352x1024 _ rfl rfl 2656 (by simp) (ix3 k r d) (fun a ha => ?_) ?_) ?_
    · match a with
      | ⟨0, _⟩ => rfl
      | ⟨2, _⟩ => rfl
    · exact hr.symm
    · refine Eq.trans (shapeCast_apply _ _ _ (ix2 (n0 := 2816) ⟨352 * k.val + r.val, by omega⟩ d) ?_) rfl
      rw [Shape.rowMajor_val_two, Shape.rowMajor_val_three]
      simp; omega

/-- So do those in the launch's memory. -/
theorem packIn_is : PackIs (args m c) (packIn m c) := packOf_is _ _ _ _ _ _

/-- The index maps: point `t` has the tile of its number; the gain and the sums are whole. -/
theorem where_are (t : Fin cfg0.N) : win0_0.index t = ![t.val % 8, 0] ∧ win0_1.index t = ![t.val % 8, 0] ∧ win0_2.index t = ![t.val % 8, 0]
    ∧ win0_3.index t = ![t.val % 8, 0] ∧ win0_4.index t = ![0, 0] ∧ win0_5.index t = ![t.val % 8, 0] ∧ win0_6.index t = ![t.val % 8, 0]
    ∧ win0_7.index t = ![t.val % 8, 0] ∧ win0_8.index t = ![0, 0] := by
  revert t
  decide +kernel

/-- The block of the incoming gradient is its tile. -/
theorem block0 (t : Fin cfg0.N) (i : Fin 512) (e : Fin 1024) : (iblk m c 0 t : S512x1024.Idx → EReal) (ix2 i e) = V m c main_arg5 (ix2 (Cert.Layer.row t.val i) e) := by
  blk_ext [iblk, where_are t, Cert.Layer.row]
/-- The input's. -/
theorem block1 (t : Fin cfg0.N) (i : Fin 512) (e : Fin 1024) : (iblk m c 1 t : S512x1024.Idx → EReal) (ix2 i e) = V m c main_arg0 (ix2 (Cert.Layer.row t.val i) e) := by
  blk_ext [iblk, where_are t, Cert.Layer.row]
/-- The gate's. -/
theorem block2 (t : Fin cfg0.N) (i : Fin 512) (f : Fin 2816) : (iblk m c 2 t : S512x2816.Idx → EReal) (ix2 i f) = V m c main_v24 (ix2 (Cert.Layer.row t.val i) f) := by
  blk_ext [iblk, where_are t, Cert.Layer.row]
/-- The values'. -/
theorem block3 (t : Fin cfg0.N) (i : Fin 512) (f : Fin 2816) : (iblk m c 3 t : S512x2816.Idx → EReal) (ix2 i f) = V m c main_v25 (ix2 (Cert.Layer.row t.val i) f) := by
  blk_ext [iblk, where_are t, Cert.Layer.row]
/-- The gain's block is the gain. -/
theorem block4 (t : Fin cfg0.N) (e : Fin 1024) : (iblk m c 4 t : S1x1024.Idx → EReal) (ix2 0 e) = V m c main_arg1 (ix2 0 e) := by
  blk_ext [iblk, where_are t]

/-- Point `t`'s tile is the formulas'. -/
theorem tile_is (t : Fin cfg0.N) : TileIs (args m c) t.val (tile m c t) where
  dh i e := by
    dsimp only [tile]
    exact (block0 m c t i e).trans (by rw [V_main_arg5]; rfl)
  h i e := by
    dsimp only [tile]
    exact (block1 m c t i e).trans (by rw [V_main_arg0]; rfl)
  g i f := by
    dsimp only [tile]
    refine (block2 m c t i f).trans ?_
    rw [read_gate]
    exact gate_at _ _ _ (m ((c.tc : Thread nD τ).loc main_arg3)) (m ((c.tc : Thread nD τ).loc main_arg4)) (m ((c.tc : Thread nD τ).loc main_arg5)) _ f
  u i f := by
    dsimp only [tile]
    refine (block3 m c t i f).trans ?_
    rw [read_up]
    exact up_at _ _ (m ((c.tc : Thread nD τ).loc main_arg2)) _ (m ((c.tc : Thread nD τ).loc main_arg4)) (m ((c.tc : Thread nD τ).loc main_arg5)) _ f
  gamma e := by
    dsimp only [tile]
    exact (block4 m c t e).trans (by rw [V_main_arg1]; rfl)

/-- Before every point what is kept is the formulas'. -/
theorem kept_is : ∀ n, n ≤ 8 → KeptIs (args m c) n (keptAt m c n)
  | 0, _ => start_is (A := args m c) (by
      have e : hbM0_0.view.read (Elt Ideal) (V m c main_v23) = packIn m c := read_pack m c
      rw [e]
      exact packIn_is m c)
  | n + 1, h => by
      have e := keptAt_succ m c ⟨n, h⟩
      exact e ▸ next_is (tile_is m c ⟨n, h⟩) (kept_is n (by omega))

end Cert.FfnIdeal.Layer

end
-- ==== Proof.FfnArrays.lean ====
module

public import proofs.«01_k».proof.Proof.FfnPrefix

@[expose] public section

noncomputable section

/-! # The layer's result arrays -/

namespace Cert.FfnIdeal.Layer

open Idealize.ShloMosaic Idealize.ShloMosaic.TcCoe Cert.FfnIdeal.Gen Cert.Layer

variable (m : (ℓ : Loc nD τ sig) → Buf (Elt Ideal) ℓ) (c : Dev nD)

/-- The gradient at the input ends at the formulas'. -/
theorem final_dx : (dats m 0 c).arrAt 5 cfg0.N = (fun j => dX (args m c) (j 0) (j 1) : S4096x1024.Idx → EReal) := by
  refine (dats m 0 c).arrAt_eq_of_covers 5 _ (by decide +kernel) fun t hf y => ?_
  blk_simp
  rw [after_5]
  obtain ⟨i, k, rfl⟩ : ∃ (i : Fin 512) (k : Fin 1024), (y : S512x1024.Idx) = ix2 i k := ⟨y 0, y 1, eq_ix2 y⟩
  have e : (win0_5.blk t).view.emb (ix2 i k : S512x1024.Idx) = (ix2 (Cert.Layer.row t.val i) k : S4096x1024.Idx) := by
    blk_ext [where_are t, Cert.Layer.row]
  refine (dx_at (tile_is m c t) (kept_is m c t.val (le_of_lt t.isLt)) i k).trans ?_
  exact congrArg (fun j : S4096x1024.Idx => dX (args m c) (j 0) (j 1)) e.symm

/-- The gradient at the gate. -/
theorem final_dg : (dats m 0 c).arrAt 6 cfg0.N = (fun j => gGate (args m c) (j 0) (j 1) : S4096x2816.Idx → EReal) := by
  refine (dats m 0 c).arrAt_eq_of_covers 6 _ (by decide +kernel) fun t hf y => ?_
  blk_simp
  rw [after_6]
  obtain ⟨i, f, rfl⟩ : ∃ (i : Fin 512) (f : Fin 2816), (y : S512x2816.Idx) = ix2 i f := ⟨y 0, y 1, eq_ix2 y⟩
  have e : (win0_6.blk t).view.emb (ix2 i f : S512x2816.Idx) = (ix2 (Cert.Layer.row t.val i) f : S4096x2816.Idx) := by
    blk_ext [where_are t, Cert.Layer.row]
  refine (dg_at (tile_is m c t) (kept_is m c t.val (le_of_lt t.isLt)) i f).trans ?_
  exact congrArg (fun j : S4096x2816.Idx => gGate (args m c) (j 0) (j 1)) e.symm

/-- The gradient at the values. -/
theorem final_du : (dats m 0 c).arrAt 7 cfg0.N = (fun j => gUp (args m c) (j 0) (j 1) : S4096x2816.Idx → EReal) := by
  refine (dats m 0 c).arrAt_eq_of_covers 7 _ (by decide +kernel) fun t hf y => ?_
  blk_simp
  rw [after_7]
  obtain ⟨i, f, rfl⟩ : ∃ (i : Fin 512) (f : Fin 2816), (y : S512x2816.Idx) = ix2 i f := ⟨y 0, y 1, eq_ix2 y⟩
  have e : (win0_7.blk t).view.emb (ix2 i f : S512x2816.Idx) = (ix2 (Cert.Layer.row t.val i) f : S4096x2816.Idx) := by
    blk_ext [where_are t, Cert.Layer.row]
  refine (du_at (tile_is m c t) (kept_is m c t.val (le_of_lt t.isLt)) i f).trans ?_
  exact congrArg (fun j : S4096x2816.Idx => gUp (args m c) (j 0) (j 1)) e.symm

/-- The row sums end at the last point's. -/
theorem final_sums : (dats m 0 c).arrAt 8 cfg0.N = (keptAt m c 8).sums := by
  refine (dats m 0 c).arrAt_eq_of_covers 8 _ (by decide +kernel) fun t hf y => ?_
  blk_simp
  rw [after_8]
  have e : t.val + 1 = 8 := by
    have h := (flush0_8 t).mp hf
    have : t.val < 8 := t.isLt
    omega
  rw [e]
  refine congrArg (keptAt m c 8).sums (?_ : (y : S8x1024.Idx) = _)
  blk_ext [where_are t]

/-- Every run ends with the four results at these values and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v26_0) = (fun j => dX (args m c) (j 0) (j 1) : S4096x1024.Idx → EReal)
      ∧ r.2.mem ((c.tc : Thread nD τ).loc main_v26_1) = (fun j => gGate (args m c) (j 0) (j 1) : S4096x2816.Idx → EReal)
      ∧ r.2.mem ((c.tc : Thread nD τ).loc main_v26_2) = (fun j => gUp (args m c) (j 0) (j 1) : S4096x2816.Idx → EReal)
      ∧ r.2.mem ((c.tc : Thread nD τ).loc main_v26_3) = (keptAt m c 8).sums
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h.2 c).1 5).trans (final_dx m c), ((h.2 c).1 6).trans (final_dg m c), ((h.2 c).1 7).trans (final_du m c),
        ((h.2 c).1 8).trans (final_sums m c), h.1.1 c⟩)
    (θ_run_and (frame_main m ρ) (run_main m ρ))

end Cert.FfnIdeal.Layer

end
-- ==== Proof.FfnBackward.lean ====
module

public import proofs.«01_k».proof.Proof.FfnForward
public import proofs.«01_k».proof.Proof.Gen.FfnRefIdeal.Run

@[expose] public section

noncomputable section

/-! # The layer's reference derivative

The reference's operations gathered into functions of its arguments, and what each array holds at an index. -/

namespace Cert.Layer

open Idealize.ShloMosaic Idealize.ShloMosaic.TcCoe Cert.FfnRefIdeal Cert.FfnRefIdeal.Gen
open scoped BigOperators

/-- The logistic function of an array. -/
def sigR (p : FVec Ideal S4096x2816 .f32) : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf p)))

/-- The gradient at the output projection's input. -/
def backR (wd : FVec Ideal S2816x1024 .f32) (g : FVec Ideal S4096x1024 .f32) : FVec Ideal S4096x2816 .f32 :=
  Host.dotGeneral dot_S4096x1024_S2816x1024_S4096x2816_1_1_0_0_n_n none g wd

/-- The gradient at the values, from the gate `p`. -/
def gUpR (p : FVec Ideal S4096x2816 .f32) (wd : FVec Ideal S2816x1024 .f32) (g : FVec Ideal S4096x1024 .f32) : FVec Ideal S4096x2816 .f32 :=
  mulf (mulf p (sigR p)) (backR wd g)

/-- The gradient at the gate `p`, from the gradient `b` at the activation. -/
def siluR (p b : FVec Ideal S4096x2816 .f32) : FVec Ideal S4096x2816 .f32 :=
  addf (mulf b (sigR p)) (mulf (mulf p b) (mulf (sigR p) (subf (broadcastInDim S4096x2816 ![] bcast_S_S4096x2816 (constant S_ .f32 0x3F800000#32)) (sigR p))))

/-- The gradient at the gate. -/
def gGateR (p q : FVec Ideal S4096x2816 .f32) (wd : FVec Ideal S2816x1024 .f32) (g : FVec Ideal S4096x1024 .f32) : FVec Ideal S4096x2816 .f32 :=
  siluR p (mulf (backR wd g) q)

/-- The gradient at the normalised input, from those at the gate and at the values. -/
def gNormedR (dg du : FVec Ideal S4096x2816 .f32) (wg wu : FVec Ideal S1024x2816 .f32) : FVec Ideal S4096x1024 .f32 :=
  addf (Host.dotGeneral dot_S4096x2816_S1024x2816_S4096x1024_1_1_0_0_n_n none du wu) (Host.dotGeneral dot_S4096x2816_S1024x2816_S4096x1024_1_1_0_0_n_n none dg wg)

/-- The gradient at the input, from the gradient `u` before the gain. -/
def dXR (x u g : FVec Ideal S4096x1024 .f32) : FVec Ideal S4096x1024 .f32 :=
  addf g (addf (addf (mulf u (broadcastInDim S4096x1024 ![0, 1] bcast_S4096x1_S4096x1024_0_1 (Host.rsqrt (Mixer.underOf x)))) (mulf x (Mixer.sideR x u))) (mulf (Mixer.sideR x u) x))

/-- The norm's gradient in the first of eight rows. -/
def rowsR (r : FVec Ideal S1x1024 .f32) : FVec Ideal S8x1024 .f32 :=
  concatenate S8x1024 0 [⟨S1x1024, r⟩, ⟨S7x1024, (broadcastInDim S7x1024 ![] bcast_S_S7x1024 (constant S_ .f32 0x00000000#32) : FVec Ideal S7x1024 .f32)⟩] concatenates_S1x1024_S7x1024_S8x1024_d0

section Results
variable (m : (ℓ : Loc nD τ Cert.FfnRefIdeal.sig) → Buf (Elt Ideal) ℓ) (c : Dev nD)

/-- The arguments in memory. -/
abbrev hIn : FVec Ideal S4096x1024 .f32 := m ((c.tc : Thread nD τ).loc main_arg0)
/-- The norm's gain. -/
abbrev aIn : FVec Ideal S1x1024 .f32 := m ((c.tc : Thread nD τ).loc main_arg1)
/-- The gate's weight. -/
abbrev wgIn : FVec Ideal S1024x2816 .f32 := m ((c.tc : Thread nD τ).loc main_arg2)
/-- The values'. -/
abbrev wuIn : FVec Ideal S1024x2816 .f32 := m ((c.tc : Thread nD τ).loc main_arg3)
/-- The output projection. -/
abbrev wdIn : FVec Ideal S2816x1024 .f32 := m ((c.tc : Thread nD τ).loc main_arg4)
/-- The incoming gradient. -/
abbrev gIn : FVec Ideal S4096x1024 .f32 := m ((c.tc : Thread nD τ).loc main_arg5)
/-- The gradient at the gate, of the arguments in memory. -/
def dgIn : FVec Ideal S4096x2816 .f32 := gGateR (hiddenOf (hIn m c) (aIn m c) (wgIn m c)) (hiddenOf (hIn m c) (aIn m c) (wuIn m c)) (wdIn m c) (gIn m c)
/-- The gradient at the values. -/
def duIn : FVec Ideal S4096x2816 .f32 := gUpR (hiddenOf (hIn m c) (aIn m c) (wgIn m c)) (wdIn m c) (gIn m c)
/-- The gradient at the normalised input. -/
def dnIn : FVec Ideal S4096x1024 .f32 := gNormedR (dgIn m c) (duIn m c) (wgIn m c) (wuIn m c)

set_option maxRecDepth 8192

/-- The reference's results are these arrays: the input's gradient. -/
theorem res_dx : Value.res_main_v52 m c = dXR (hIn m c) (mulf (dnIn m c) (Mixer.spread (aIn m c))) (gIn m c) := by
  unfold Value.res_main_v52
  rfl
/-- The gate's. -/
theorem res_dg : Value.res_main_v53 m c = truncf .bf16 (dgIn m c) bitsLt_bf16_f32 := by
  unfold Value.res_main_v53
  rfl
/-- The rows. -/
theorem res_rows : Value.res_main_v51 m c = rowsR (Mixer.down (mulf (Mixer.scaledOf (hIn m c)) (dnIn m c))) := by
  unfold Value.res_main_v51
  rfl

end Results

section At
variable (h : FVec Ideal S4096x1024 .f32) (a : FVec Ideal S1x1024 .f32) (wg wu : FVec Ideal S1024x2816 .f32) (wd : FVec Ideal S2816x1024 .f32)
  (g : FVec Ideal S4096x1024 .f32)

/-- The logistic function at an index. -/
theorem sigR_at (p : FVec Ideal S4096x2816 .f32) (s f) : sigR p (ix2 s f) = sig (p (ix2 s f)) := by
  unfold sigR
  simp only [pointwise]
  rfl

/-- The gradient at the output projection's input. -/
theorem backR_at (s f) : backR wd g (ix2 s f) = back (argsOf h a wg wu wd g) s f := by
  unfold backR
  simp only [pointwise, zero_add]
  rfl

/-- The gradient at the values. -/
theorem gUpR_at (s f) : gUpR (hiddenOf h a wg) wd g (ix2 s f) = gUp (argsOf h a wg wu wd g) s f := by
  unfold gUpR
  simp only [pointwise, sigR_at, gate_at h a wg wu wd g, backR_at h a wg wu wd g]
  exact (mul_comm _ _).trans (mul_assoc _ _ _).symm

variable (hA : Finite (argsOf h a wg wu wd g))
include hA

/-- The gradient at the gate. -/
theorem gGateR_at (s f) : gGateR (hiddenOf h a wg) (hiddenOf h a wu) wd g (ix2 s f) = gGate (argsOf h a wg wu wd g) s f := by
  rw [gGate_eq _ hA]
  unfold gGateR siluR
  simp only [pointwise, sigR_at, gate_at h a wg wu wd g, up_at h a wg wu wd g, backR_at h a wg wu wd g]

/-- The gradient at the normalised input. -/
theorem gNormedR_at (s d) : gNormedR (gGateR (hiddenOf h a wg) (hiddenOf h a wu) wd g) (gUpR (hiddenOf h a wg) wd g) wg wu (ix2 s d)
    = gNormed (argsOf h a wg wu wd g) s d := by
  unfold gNormedR
  simp only [pointwise, zero_add, gGateR_at h a wg wu wd g hA, gUpR_at h a wg wu wd g]
  exact add_comm _ _

/-- The gradient at the input. -/
theorem dXR_at (s d) : dXR h (mulf (gNormedR (gGateR (hiddenOf h a wg) (hiddenOf h a wu) wd g) (gUpR (hiddenOf h a wg) wd g) wg wu) (Mixer.spread a)) g (ix2 s d)
    = dX (argsOf h a wg wu wd g) s d := by
  unfold dXR
  rw [dX_eq, add_assoc, add_assoc, ← add_assoc (gScaled _ s d * _)]
  simp only [pointwise, zero_add, reduceDIte, Nat.reduceEqDiff, OfNat.ofNat_ne_one, under_at h a wg wu wd g,
    Mixer.sideR_at h a (fun _ => 0) (fun _ => 0) (fun _ => 0) g, gNormedR_at h a wg wu wd g hA, Mixer.spread_at]
  rfl

/-- The gain's gradient. -/
theorem dGammaR_at (d) : Mixer.down (mulf (Mixer.scaledOf h) (gNormedR (gGateR (hiddenOf h a wg) (hiddenOf h a wu) wd g) (gUpR (hiddenOf h a wg) wd g) wg wu)) (ix2 0 d)
    = dGamma (argsOf h a wg wu wd g) d := by
  rw [Mixer.down_at]
  unfold dGamma
  refine Finset.sum_congr rfl fun s _ => ?_
  refine (congrArg₂ (· * ·) (scaled_at h a wg wu wd g s d) (gNormedR_at h a wg wu wd g hA s d)).trans ?_
  unfold Mixer.scaled
  rw [mul_comm, mul_assoc]
  rfl

end At

section Rows
variable (r : FVec Ideal S1x1024 .f32)

/-- The first of the eight rows. -/
theorem rowsR_first (e : Fin 1024) : rowsR r (ix2 0 e) = r (ix2 0 e) := by
  unfold rowsR
  refine concatenate_apply_piece (t := S8x1024) _ _ _ _ 0 (by simp) S1x1024 _ rfl rfl 0 (by simp) (ix2 0 e) (fun q hq => ?_) ?_
  · match q with
    | ⟨1, _⟩ => rfl
  · rfl

/-- The rest. -/
theorem rowsR_rest (k : Fin 8) (hk : 1 ≤ k.val) (e : Fin 1024) : rowsR r (ix2 k e) = 0 := by
  unfold rowsR
  refine (concatenate_apply_piece (t := S8x1024) _ _ _ _ 1 (by simp) S7x1024 _ rfl rfl 1 (by simp) (ix2 (n0 := 7) ⟨k.val - 1, by omega⟩ e) (fun q hq => ?_) ?_).trans Ideal.ofBits_zero_f32
  · match q with
    | ⟨1, _⟩ => rfl
  · show 1 + (k.val - 1) = k.val
    omega

end Rows

end Cert.Layer

end
-- ==== Proof.FfnFinite.lean ====
module

public import proofs.«01_k».proof.Proof.FfnForward
public import proofs.«01_k».proof.Proof.Gen.Pre_finite

@[expose] public section

noncomputable section

/-! # What the precondition says

`finite` compares the absolute values of four of the layer's arguments, put one below the other, with infinity. That it holds of all
entries says that each of those arguments' entries is a real number. -/

namespace Cert.Layer

open Idealize.ShloMosaic Cert.FfnRefIdeal

/-- The pattern of the constant compared with is infinity. -/
theorem pattern_top : Ideal.ofBits .f32 0x7F800000#32 = ⊤ := by
  simp [Ideal.ofBits, Ideal.ieee]

variable (h : FVec Ideal S4096x1024 .f32) (a : FVec Ideal S1x1024 .f32) (wg wu : FVec Ideal S1024x2816 .f32) (wd : FVec Ideal S2816x1024 .f32)
  (g : FVec Ideal S4096x1024 .f32)

/-- The four arguments one below the other. -/
def stacked : FVec Ideal Cert.Pre_finite.S9729x1024 .f32 :=
  concatenate Cert.Pre_finite.S9729x1024 0 [⟨S1x1024, a⟩, ⟨S2816x1024, transpose S2816x1024 [1, 0] wu Cert.Pre_finite.Gen.transposes_S1024x2816_S2816x1024_1_0⟩,
    ⟨S2816x1024, wd⟩, ⟨S4096x1024, g⟩] Cert.Pre_finite.Gen.concatenates_S1x1024_S2816x1024_S2816x1024_S4096x1024_S9729x1024_d0

variable (hp : Cert.Pre_finite.fn (F := Ideal) h a wg wu wd g = fun _ => 1#1)
include hp

/-- Every entry of the stack is a real number. -/
theorem stacked_real (r : Fin 9729) (d : Fin 1024) : IsReal (stacked a wu wd g (ix2 r d)) := by
  refine IsReal.of_abs_lt ?_
  have e := congrFun hp (ix2 r d)
  have e' : BitVec.ofBool (decide (max (stacked a wu wd g (ix2 r d)) (-(stacked a wu wd g (ix2 r d))) < Ideal.ofBits .f32 0x7F800000#32)) = 1#1 := e
  rw [pattern_top] at e'
  by_contra hn
  rw [decide_eq_false hn] at e'
  exact absurd e' (by decide)

/-- So the formulas' arguments are. -/
theorem finite_of_pre : Finite (argsOf h a wg wu wd g) where
  gamma d := by
    have e : stacked a wu wd g (ix2 (n0 := 9729) ⟨0, by omega⟩ d) = a (ix2 0 d) :=
      concatenate_apply_piece (t := Cert.Pre_finite.S9729x1024) _ _ _ _ 0 (by simp) S1x1024 _ rfl rfl 0 (by simp) (ix2 0 d)
        (fun q hq => match q with | ⟨1, _⟩ => rfl) rfl
    exact (congrArg IsReal e).mp (stacked_real h a wg wu wd g hp _ d)
  wup d f := by
    have e : stacked a wu wd g (ix2 (n0 := 9729) ⟨1 + f.val, by omega⟩ d) = wu (ix2 d f) :=
      (concatenate_apply_piece (t := Cert.Pre_finite.S9729x1024) _ _ _ _ 1 (by simp) S2816x1024 _ rfl rfl 1 (by simp) (ix2 f d)
        (fun q hq => match q with | ⟨1, _⟩ => rfl) rfl).trans (by simp only [pointwise])
    exact (congrArg IsReal e).mp (stacked_real h a wg wu wd g hp _ d)
  wdown f d := by
    have e : stacked a wu wd g (ix2 (n0 := 9729) ⟨2817 + f.val, by omega⟩ d) = wd (ix2 f d) :=
      concatenate_apply_piece (t := Cert.Pre_finite.S9729x1024) _ _ _ _ 2 (by simp) S2816x1024 _ rfl rfl 2817 (by simp) (ix2 f d)
        (fun q hq => match q with | ⟨1, _⟩ => rfl) rfl
    exact (congrArg IsReal e).mp (stacked_real h a wg wu wd g hp _ d)
  dh s d := by
    have e : stacked a wu wd g (ix2 (n0 := 9729) ⟨5633 + s.val, by omega⟩ d) = g (ix2 s d) :=
      concatenate_apply_piece (t := Cert.Pre_finite.S9729x1024) _ _ _ _ 3 (by simp) S4096x1024 _ rfl rfl 5633 (by simp) (ix2 s d)
        (fun q hq => match q with | ⟨1, _⟩ => rfl) rfl
    exact (congrArg IsReal e).mp (stacked_real h a wg wu wd g hp _ d)

end Cert.Layer

end
-- ==== Proof.FfnSame.lean ====
module

public import proofs.«01_k».proof.Ffn
public import proofs.«01_k».proof.FfnIdeal
public import proofs.«01_k».proof.Proof.Gen.Ffn
public import proofs.«01_k».proof.Proof.Gen.FfnIdeal

@[expose] public section

noncomputable section

/-! # The layer: one text, two names

The layer as printed and the layer printed for the extended reals are the same program: here, that their body tables and their @mains are equal. -/

namespace Cert.FfnIdeal.Layer

open Idealize.ShloMosaic Idealize.SL.Sem

local instance : Cert.Ffn.Facts := Cert.Ffn.Gen.facts
local instance : Cert.FfnIdeal.Facts := Cert.FfnIdeal.Gen.facts

variable {F : FTy → Type} [FloatOps F]

set_option maxHeartbeats 4000000 in
/-- The two body tables are equal: each has one label, and the label runs the same body on the same buffers. -/
theorem bodies_same : Cert.Ffn.defs₀ (F := F) = Cert.FfnIdeal.defs₀ (F := F) := by
  unfold Cert.Ffn.defs₀ Cert.FfnIdeal.defs₀
  congr 1
  funext l p
  match l, p with
  | 0, (t, s) => rfl

/-- So are the tables with the pipeline around the body. -/
theorem defs_same : Cert.Ffn.defs (F := F) = Cert.FfnIdeal.defs (F := F) :=
  show Pipeline.defs Cert.FfnIdeal.pcfgs (Cert.Ffn.defs₀ (F := F)) = Pipeline.defs Cert.FfnIdeal.pcfgs Cert.FfnIdeal.defs₀ from
    congrArg (Pipeline.defs Cert.FfnIdeal.pcfgs) bodies_same

set_option maxHeartbeats 4000000 in
set_option maxRecDepth 8192 in
/-- So are the two @mains. -/
theorem main_same : Cert.Ffn.main (F := F) = Cert.FfnIdeal.main (F := F) := rfl

end Cert.FfnIdeal.Layer

end
-- ==== Proof.FfnMatch.lean ====
module

public import proofs.«01_k».proof.Defs
public import proofs.«01_k».proof.Proof.Gen.Ffn
public import proofs.«01_k».proof.Proof.FfnArrays
public import proofs.«01_k».proof.Proof.FfnBackward
public import proofs.«01_k».proof.Proof.FfnFinite
public import proofs.«01_k».proof.Proof.FfnSame

@[expose] public section

noncomputable section

/-! # The layer's claims

Its kernel's results are the reference derivative's, and each program runs and leaves its arguments and counters as they were. -/

namespace Cert.Layer

open Idealize.ShloMosaic Idealize.SL.Sem Cert.FfnRefIdeal Cert.FfnRefIdeal.Gen

section Arrays
variable (h : FVec Ideal S4096x1024 .f32) (a : FVec Ideal S1x1024 .f32) (wg wu : FVec Ideal S1024x2816 .f32) (wd : FVec Ideal S2816x1024 .f32)
  (g : FVec Ideal S4096x1024 .f32)

/-- The gradient at the values. -/
theorem match_du : (fun j => gUp (argsOf h a wg wu wd g) (j 0) (j 1) : S4096x2816.Idx → EReal) = truncf .bf16 (gUpR (hiddenOf h a wg) wd g) bitsLt_bf16_f32 := by
  funext j
  obtain ⟨s, f, rfl⟩ : ∃ (s : Fin 4096) (f : Fin 2816), j = ix2 s f := ⟨j 0, j 1, eq_ix2 j⟩
  exact (gUpR_at h a wg wu wd g s f).symm

variable (hA : Finite (argsOf h a wg wu wd g))
include hA

/-- The gradient at the input. -/
theorem match_dx : (fun j => dX (argsOf h a wg wu wd g) (j 0) (j 1) : S4096x1024.Idx → EReal)
    = dXR h (mulf (gNormedR (gGateR (hiddenOf h a wg) (hiddenOf h a wu) wd g) (gUpR (hiddenOf h a wg) wd g) wg wu) (Mixer.spread a)) g := by
  funext j
  obtain ⟨s, d, rfl⟩ : ∃ (s : Fin 4096) (d : Fin 1024), j = ix2 s d := ⟨j 0, j 1, eq_ix2 j⟩
  exact (dXR_at h a wg wu wd g hA s d).symm

/-- The gradient at the gate. -/
theorem match_dg : (fun j => gGate (argsOf h a wg wu wd g) (j 0) (j 1) : S4096x2816.Idx → EReal)
    = truncf .bf16 (gGateR (hiddenOf h a wg) (hiddenOf h a wu) wd g) bitsLt_bf16_f32 := by
  funext j
  obtain ⟨s, f, rfl⟩ : ∃ (s : Fin 4096) (f : Fin 2816), j = ix2 s f := ⟨j 0, j 1, eq_ix2 j⟩
  exact (gGateR_at h a wg wu wd g hA s f).symm

/-- The eight rows. -/
theorem match_rows {s : Cert.FfnIdeal.Layer.Kept Ideal} (hs : Cert.FfnIdeal.Layer.KeptIs (argsOf h a wg wu wd g) 8 s) :
    s.sums = rowsR (Mixer.down (mulf (Mixer.scaledOf h) (gNormedR (gGateR (hiddenOf h a wg) (hiddenOf h a wu) wd g) (gUpR (hiddenOf h a wg) wd g) wg wu))) := by
  funext j
  obtain ⟨k, e, rfl⟩ : ∃ (k : Fin 8) (e : Fin 1024), j = ix2 k e := ⟨j 0, j 1, eq_ix2 j⟩
  by_cases hk : 1 ≤ k.val
  · exact (hs.rest k e hk).trans (rowsR_rest _ k hk e).symm
  · obtain rfl : k = 0 := Fin.ext (by simp; omega)
    rw [rowsR_first, dGammaR_at h a wg wu wd g hA]
    exact (hs.sum e).trans (soFar_all _)

end Arrays

/-- The layer, as printed, runs and leaves its arguments and counters as they were: the two programs are one text (Proof.FfnSame), so this
is the run read at bits. -/
theorem frame_kernel : Cert.quiescent_Ffn (hFfn := Cert.Ffn.Gen.facts) := fun m ρ _ => by
  have h := Cert.FfnIdeal.Layer.frame_main (F := Bits) m ρ
  rw [← Cert.FfnIdeal.Layer.defs_same, ← Cert.FfnIdeal.Layer.main_same] at h
  exact h

/-- The reference runs and leaves its arguments and counters as they were. -/
theorem frame_reference : Cert.quiescent_FfnRefIdeal (hFfnRefIdeal := Cert.FfnRefIdeal.Gen.facts) := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)

set_option maxRecDepth 8192 in
/-- From the same finite arguments, the kernel and the reference's derivative end with the same four results over the extended reals. -/
theorem algebraic : Cert.algebraic_FfnIdeal_FfnRefIdeal_pre_finite (hFfnIdeal := Cert.FfnIdeal.Gen.facts) (hFfnRefIdeal := Cert.FfnRefIdeal.Gen.facts)
    (hPre_finite := Cert.Pre_finite.Gen.facts) := fun m ρ m' ρ' hp ha => by
  have hA : ∀ c, argsOf (hIn m' c) (aIn m' c) (wgIn m' c) (wuIn m' c) (wdIn m' c) (gIn m' c) = Cert.FfnIdeal.Layer.args m c := fun c => by
    obtain ⟨h0, h1, h2, h3, h4, h5⟩ := ha c
    unfold Cert.FfnIdeal.Layer.args
    exact h0 ▸ h1 ▸ h2 ▸ h3 ▸ h4 ▸ h5 ▸ rfl
  have hs := fun c => (hA c).symm ▸ Cert.FfnIdeal.Layer.kept_is m c 8 le_rfl
  have hf : ∀ c, Finite (argsOf (hIn m' c) (aIn m' c) (wgIn m' c) (wuIn m' c) (wdIn m' c) (gIn m' c)) := fun c =>
    (hA c).symm ▸ finite_of_pre _ _ _ _ _ _ (hp c)
  refine ⟨_, _, _, _, Cert.FfnIdeal.Layer.run_values m ρ, (θ_run Cert.FfnRefIdeal.defs _ _).mono (fun r h c => ?_)
    (Cert.FfnRefIdeal.Value.run (F := Ideal) m' ρ')⟩
  obtain ⟨r0, r1, r2, r3, rest⟩ := h c
  refine ⟨r0.trans ((res_dx m' c).trans ((match_dx _ _ _ _ _ _ (hf c)).symm.trans ?_)),
    r1.trans ((res_dg m' c).trans ((match_dg _ _ _ _ _ _ (hf c)).symm.trans ?_)),
    r2.trans ((match_du (hIn m' c) (aIn m' c) (wgIn m' c) (wuIn m' c) (wdIn m' c) (gIn m' c)).symm.trans ?_),
    r3.trans ((res_rows m' c).trans (match_rows _ _ _ _ _ _ (hf c) (hs c)).symm), rest⟩
  · rw [hA c]
  · rw [hA c]
  · rw [hA c]

end Cert.Layer

end
-- ==== Proof.HeadStep.lean ====
module

public import proofs.«01_k».proof.Proof.Gen.HeadIdeal.Skeleton
public import proofs.«01_k».proof.Proof.FfnStep

@[expose] public section

noncomputable section

/-! # One grid point of the last layer with the loss, as functions of vectors

The kernel walks eight tiles of 512 rows. What one point reads is a `Tile`; the three weights and the two running row
sums that the points hand on to one another are `Kept`. The hidden units are taken in two halves of 1408. -/

namespace Cert.HeadIdeal.Layer

open Idealize.ShloMosaic Cert.HeadIdeal.Gen VecWindow
open Cert.FfnIdeal.Layer (top bottom beside gathered)

variable (F : FTy → Type) [FloatOps F]

/-- The blocks one grid point reads: 512 rows of the layer's input and of the targets, and the scales of the layer's norm
and of the final norm. -/
structure Tile where
  h : Vec F S512x1024 .f32
  gamma : Vec F S1x1024 .f32
  target : Vec F S512x1024 .f32
  final : Vec F S1x1024 .f32

/-- What is kept from one grid point to the next: the three gathered weights, one hidden unit a row, and the two running
row sums with six rows of zeros below them. -/
structure Kept where
  wgate : Vec F S2816x1024 .bf16
  wup : Vec F S2816x1024 .bf16
  wdown : Vec F S2816x1024 .bf16
  sums : Vec F S8x1024 .f32

variable {F}

/-- The tile of the normalised input. -/
def nrm (t : Tile F) : Vec F S512x1024 .bf16 := k0_pay3 t.h (k0_pay2 t.h) t.gamma

/-- The first half of the gate. -/
def gL (s : Kept F) (t : Tile F) : Vec F S512x1408 .bf16 := k0_pay7 t.h (k0_pay2 t.h) t.gamma (top s.wgate)
/-- The second half of the gate. -/
def gR (s : Kept F) (t : Tile F) : Vec F S512x1408 .bf16 := k0_pay12 (nrm t) (bottom s.wgate)
/-- The first half of the values. -/
def uL (s : Kept F) (t : Tile F) : Vec F S512x1408 .bf16 := k0_pay8 t.h (k0_pay2 t.h) t.gamma (top s.wup)
/-- The second half of the values. -/
def uR (s : Kept F) (t : Tile F) : Vec F S512x1408 .bf16 := k0_pay13 (nrm t) (bottom s.wup)
/-- The first half of the activation. -/
def aL (s : Kept F) (t : Tile F) : Vec F S512x1408 .bf16 := k0_pay6 t.h (k0_pay2 t.h) t.gamma (top s.wgate) (top s.wup)
/-- The second half of the activation. -/
def aR (s : Kept F) (t : Tile F) : Vec F S512x1408 .bf16 := k0_pay11 (nrm t) (bottom s.wgate) (bottom s.wup)

/-- The tile of the gate (the halves cover it, so what they are written over does not matter). -/
def gate (s : Kept F) (t : Tile F) : Vec F S512x2816 .bf16 := beside (fun _ => FloatOps.ofBits .bf16 0#16) (gL s t) (gR s t)
/-- The tile of the values. -/
def up (s : Kept F) (t : Tile F) : Vec F S512x2816 .bf16 := beside (fun _ => FloatOps.ofBits .bf16 0#16) (uL s t) (uR s t)
/-- The tile of the activation. -/
def act (s : Kept F) (t : Tile F) : Vec F S512x2816 .bf16 := beside (fun _ => FloatOps.ofBits .bf16 0#16) (aL s t) (aR s t)

/-- The tile of the layer's output. -/
def out (s : Kept F) (t : Tile F) : Vec F S512x1024 .f32 :=
  k0_pay14 t.h (nrm t) (aL s t) (top s.wdown) (bottom s.wgate) (bottom s.wup) (bottom s.wdown)

/-- The sums of the output's squares, row by row. -/
def squares (s : Kept F) (t : Tile F) : Vec F S512x1 .f32 :=
  k0_pay16 t.h (nrm t) (aL s t) (top s.wdown) (bottom s.wgate) (bottom s.wup) (bottom s.wdown)

/-- The tile of the gradient at the layer's output. -/
def dout (s : Kept F) (t : Tile F) : Vec F S512x1024 .f32 := k0_pay20 (out s t) t.final (squares s t) t.target

/-- The running sums after the point: the final scale's gradient in the first row, the loss in the second. -/
def nextSums (s : Kept F) (t : Tile F) : Vec F S8x1024 .f32 :=
  put (put s.sums ![0, 0] ![1, 1024] (k0_pay21 (out s t) t.final (squares s t) t.target (window s.sums ![0, 0] ![1, 1024] inb_S8x1024_S1x1024_0_0)))
    ![1, 0] ![1, 1024] (k0_pay1 (k0_pay22 (window s.sums ![1, 0] ![1, 1024] inb_S8x1024_S1x1024_1_0)) (k0_pay23 (out s t) t.final (squares s t) t.target))

/-- What a point leaves for the next. -/
def next (s : Kept F) (t : Tile F) : Kept F where
  wgate := s.wgate
  wup := s.wup
  wdown := s.wdown
  sums := nextSums s t

/-- What the first point starts from: the three weights gathered, and zeros. -/
def start (w : Vec F S8x3008x1024 .bf16) : Kept F where
  wgate := gathered 1952 (by decide) w
  wup := gathered 2304 (by decide) w
  wdown := gathered 2656 (by decide) w
  sums := k0_pay15 (F := F)

end Cert.HeadIdeal.Layer

end
-- ==== Proof.HeadHold.lean ====
module

public import proofs.«01_k».proof.Proof.Gen.HeadIdeal.Frame.Runs
public import proofs.«01_k».proof.Proof.HeadStep

@[expose] public section

noncomputable section

/-! # What one run of the body holds -/

namespace Cert.HeadIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.HeadIdeal.Gen

variable {F : FTy → Type} [FloatOps F]

local notation "𝕄" => MT nD τ sig Unit (Elt F) ℕ (Pipeline.UD sig nD τ) ℕ

/-- The four input blocks of a grid point, in their staging buffers. -/
def tileHeld (c : Dev nD) (arg1 : Memref sig .tc .vmem S512x1024 .f32) (arg2 : Memref sig .tc .vmem S1x1024 .f32) (arg3 : Memref sig .tc .vmem S512x1024 .f32) (arg4 : Memref sig .tc .vmem S1x1024 .f32) (t : Tile F) : sProp 𝕄 :=
  iprop(owns (c : Thread nD τ) arg1 fullShare t.h ∗ owns (c : Thread nD τ) arg2 fullShare t.gamma ∗ owns (c : Thread nD τ) arg3 fullShare t.target
    ∗ owns (c : Thread nD τ) arg4 fullShare t.final)

/-- The buffers kept from point to point, at `s`. -/
def keptHeld (c : Dev nD) (arg11 : Memref sig .tc .vmem S8x1024 .f32) (arg12 arg13 arg14 : Memref sig .tc .vmem S2816x1024 .bf16) (s : Kept F) : sProp 𝕄 :=
  iprop(owns (c : Thread nD τ) arg11 fullShare s.sums ∗ owns (c : Thread nD τ) arg12 fullShare s.wgate ∗ owns (c : Thread nD τ) arg13 fullShare s.wup
    ∗ owns (c : Thread nD τ) arg14 fullShare s.wdown)

/-- The twenty-four counters of the copies that gather the weights, at rest. -/
def atRest (c : Dev nD) : sProp 𝕄 :=
  iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
    ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0
    ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)

end Cert.HeadIdeal.Layer

end
-- ==== Proof.HeadRunFirst.lean ====
module

public import proofs.«01_k».proof.Proof.HeadHold

@[expose] public section

set_option maxRecDepth 16384

noncomputable section

/-! # The body at the first point -/

namespace Cert.HeadIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.HeadIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S1x1024 .f32) (harg4 : arg4.IsWhole)
  (arg6 : Memref sig .tc .vmem S512x1024 .f32) (harg6 : arg6.IsWhole)
  (arg7 : Memref sig .tc .vmem S512x1024 .bf16) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S512x2816 .bf16) (harg10 : arg10.IsWhole)
  (arg11 : Memref sig .tc .vmem S8x1024 .f32) (harg11 : arg11.IsWhole)
  (arg12 : Memref sig .tc .vmem S2816x1024 .bf16) (harg12 : arg12.IsWhole)
  (arg13 : Memref sig .tc .vmem S2816x1024 .bf16) (harg13 : arg13.IsWhole)
  (arg14 : Memref sig .tc .vmem S2816x1024 .bf16) (harg14 : arg14.IsWhole)

set_option maxHeartbeats 40000000 in
set_option sl_exec.dmaWindow true in
set_option sl_exec.dmaWindowSet true in
set_option sl_exec.rejoinFuel 64 in
set_option sl_exec.rejoinHeartbeats 2000000 in
/-- The first point: what its twenty-four copies leave in the three weights and its stores in the buffers it writes, as
pieces (the last first), whatever the kept buffers held before, with the proof that its body ends with those pieces written. -/
def runFirst (hc0 : cond0_0 i) (t : Tile F) (w : HbBuf0 (F := F) c hbM0_0) :
    Σ' (L4 : List (View.Piece (Elt F) S512x1024 .f32)), Σ' (L5 : List (View.Piece (Elt F) S512x1024 .bf16)), Σ' (L6 : List (View.Piece (Elt F) S512x2816 .bf16)), Σ' (L7 : List (View.Piece (Elt F) S512x2816 .bf16)), Σ' (L8 : List (View.Piece (Elt F) S512x2816 .bf16)), Σ' (L9 : List (View.Piece (Elt F) S8x1024 .f32)), Σ' (LS0 : List (View.Piece (Elt F) S2816x1024 .bf16)), Σ' (LS1 : List (View.Piece (Elt F) S2816x1024 .bf16)),
    { LS2 : List (View.Piece (Elt F) S2816x1024 .bf16) //
      ∀ (W : Waits sig Unit) (K : PUnit → sProp 𝕄),
        iprop(tileHeld c arg1 arg2 arg3 arg4 t ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (∃ s, keptHeld c arg11 arg12 arg13 arg14 s) ∗ atRest c ∗ hbPt0 c hbM0_0 w ∗ owes (c : Thread nD τ) 0 W
            ∗ (iprop(tileHeld c arg1 arg2 arg3 arg4 t
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f LS0)
              ∗ (∃ f, arg13.view.loc (c : Thread nD τ) ↦[arg13.view.set]{fullShare} arg13.view.writes (Elt F) f LS1)
              ∗ (∃ f, arg14.view.loc (c : Thread nD τ) ↦[arg14.view.set]{fullShare} arg14.view.writes (Elt F) f LS2)
              ∗ atRest c ∗ hbPt0 c hbM0_0 w ∗ (∃ W', owes (c : Thread nD τ) 0 W')) -∗ K ⟨⟩))
        ⊢ wp frame (wpE (defs₀ (F := F)) Variants.none c none) Set.univ (cc0_ffn1_fwd i arg1 harg1 arg2 harg2 arg3 harg3 arg4 harg4 (Memref.whole main_v7) (Memref.isWhole_whole _)
          arg6 harg6 arg7 harg7 arg8 harg8 arg9 harg9 arg10 harg10 arg11 harg11 arg12 harg12 arg13 harg13 arg14 harg14 cc0_scratch3) K } := by
  refine ⟨?_, ?_, ?_, ?_, ?_, ?_, ?_, ?_, ?_, fun W K => ?run⟩
  case run =>
    simp only [cc0_ffn1_fwd_eq_skeleton]; unfold cc0_ffn1_fwd_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part11_eq_skeleton, k0_part12_eq_skeleton]
    unfold tileHeld keptHeld atRest owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, ⟨%d7, %f7, -, H7⟩, ⟨%d8, %f8, -, H8⟩,
      ⟨%s, ⟨%f9, -, H9⟩, ⟨%fs0, -, HS0⟩, ⟨%fs1, -, HS1⟩, ⟨%fs2, -, HS2⟩⟩,
      ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0, HW, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0 H1 H2 H3]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      iexact Hq23
    isplitl [Hh0]; · iexact Hh0
    iexists _; iexact HW

end Cert.HeadIdeal.Layer

end
-- ==== Proof.HeadReads.lean ====
module

public import proofs.«01_k».proof.Proof.HeadHold
public import proofs.«01_k».proof.Proof.FfnReads
public import Idealize.ShloMosaic.Lib.WholeRead
public import Idealize.ShloMosaic.Lib.Pointwise.Reshape
public import Idealize.ShloMosaic.Lib.ValueLayout
public import Idealize.ShloMosaic.Lib.ValueIdxCore

@[expose] public section

noncomputable section

/-! # The gathered weights of the last layer -/

namespace Cert.HeadIdeal.Layer

open Idealize.ShloMosaic VecWindow
open Cert.HeadIdeal.Gen
open Cert.FfnIdeal.Layer (gathered one_more)

variable {F : FTy → Type} [FloatOps F]

/-- One device's rows of the packed weights, from row `o` of its share on, as one copy carries them over. -/
theorem share (c : Dev nD) (w : HbBuf0 (F := F) c hbM0_0) (d : ℕ) (hd : d < 8) (o : ℕ) (ho : o + 352 ≤ 3008) (inb) (hn) (a : Fin 352) (q : Fin 1024) :
    View.read (Elt F) (((View.whole main_v7).slice (Rect.unit ![d, o, 0] ![1, 352, 1024] inb)).reshape S352x1024 hn) w (ix2 a q)
      = gathered o ho (hbM0_0.view.read (Elt F) w) (ix2 ⟨352 * d + a.val, by have := a.isLt; omega⟩ q) := by
  refine (ValueIdx.shapeCast_1ab_ab_apply (window (s := S8x3008x1024) (hbM0_0.view.read (Elt F) w) ![d, o, 0] ![1, 352, 1024] inb) hn a q).trans ?_
  refine congrArg (hbM0_0.view.read (Elt F) w) (funext fun k => Fin.ext ?_)
  have ha : a.val < 352 := a.isLt
  match k with
  | ⟨0, _⟩ => show d + 1 * 0 = (352 * d + a.val) / 352; omega
  | ⟨1, _⟩ => show o + 1 * a.val = o + (352 * d + a.val) % 352; omega
  | ⟨2, _⟩ => show 0 + 1 * q.val = q.val; omega

/-- The eight copies of one weight at the first point leave it gathered, whatever was there before. -/
theorem gathered_eq (c : Dev nD) (w : HbBuf0 (F := F) c hbM0_0) (o : ℕ) (ho : o + 352 ≤ 3008) (x : Vec F S2816x1024 .bf16) (i0) (n0) (i1) (n1) (i2) (n2) (i3) (n3) (i4) (n4) (i5) (n5) (i6) (n6) (i7) (n7) :
    put (put (put (put (put (put (put (put x ![0, 0] ![352, 1024] (View.read (Elt F) (((View.whole main_v7).slice (Rect.unit ![0, o, 0] ![1, 352, 1024] i0)).reshape S352x1024 n0) w)) ![352, 0] ![352, 1024] (View.read (Elt F) (((View.whole main_v7).slice (Rect.unit ![1, o, 0] ![1, 352, 1024] i1)).reshape S352x1024 n1) w)) ![704, 0] ![352, 1024] (View.read (Elt F) (((View.whole main_v7).slice (Rect.unit ![2, o, 0] ![1, 352, 1024] i2)).reshape S352x1024 n2) w)) ![1056, 0] ![352, 1024] (View.read (Elt F) (((View.whole main_v7).slice (Rect.unit ![3, o, 0] ![1, 352, 1024] i3)).reshape S352x1024 n3) w)) ![1408, 0] ![352, 1024] (View.read (Elt F) (((View.whole main_v7).slice (Rect.unit ![4, o, 0] ![1, 352, 1024] i4)).reshape S352x1024 n4) w)) ![1760, 0] ![352, 1024] (View.read (Elt F) (((View.whole main_v7).slice (Rect.unit ![5, o, 0] ![1, 352, 1024] i5)).reshape S352x1024 n5) w)) ![2112, 0] ![352, 1024] (View.read (Elt F) (((View.whole main_v7).slice (Rect.unit ![6, o, 0] ![1, 352, 1024] i6)).reshape S352x1024 n6) w)) ![2464, 0] ![352, 1024] (View.read (Elt F) (((View.whole main_v7).slice (Rect.unit ![7, o, 0] ![1, 352, 1024] i7)).reshape S352x1024 n7) w)
      = gathered o ho (hbM0_0.view.read (Elt F) w) := by
  funext i
  obtain ⟨r, q, rfl⟩ : ∃ r q, i = ix2 r q := ⟨_, _, eq_ix2 i⟩
  have s0 := one_more 0 x (gathered o ho (hbM0_0.view.read (Elt F) w)) _ (by omega) (fun r q h => absurd h (by omega)) (share c w 0 (by omega) o ho i0 n0)
  have s1 := one_more 1 _ _ _ (by omega) s0 (share c w 1 (by omega) o ho i1 n1)
  have s2 := one_more 2 _ _ _ (by omega) s1 (share c w 2 (by omega) o ho i2 n2)
  have s3 := one_more 3 _ _ _ (by omega) s2 (share c w 3 (by omega) o ho i3 n3)
  have s4 := one_more 4 _ _ _ (by omega) s3 (share c w 4 (by omega) o ho i4 n4)
  have s5 := one_more 5 _ _ _ (by omega) s4 (share c w 5 (by omega) o ho i5 n5)
  have s6 := one_more 6 _ _ _ (by omega) s5 (share c w 6 (by omega) o ho i6 n6)
  have s7 := one_more 7 _ _ _ (by omega) s6 (share c w 7 (by omega) o ho i7 n7)
  exact s7 r q (by have := r.isLt; omega)

end Cert.HeadIdeal.Layer

end
-- ==== Proof.HeadPostFirst.lean ====
module

public import proofs.«01_k».proof.Proof.HeadRunFirst
public import proofs.«01_k».proof.Proof.HeadReads

@[expose] public section

noncomputable section

/-! # What the first point leaves -/

namespace Cert.HeadIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.HeadIdeal.Gen VecWindow
open Cert.FfnIdeal.Layer (top bottom beside gathered window_all all512 all1 readAt_window readCov_window read_writes_put writes_none readCov_put_same put_all8 beside_over)

variable {F : FTy → Type} [FloatOps F]

local notation "𝕄" => MT nD τ sig Unit (Elt F) ℕ (Pipeline.UD sig nD τ) ℕ

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S1x1024 .f32) (harg4 : arg4.IsWhole)
  (arg6 : Memref sig .tc .vmem S512x1024 .f32) (harg6 : arg6.IsWhole)
  (arg7 : Memref sig .tc .vmem S512x1024 .bf16) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S512x2816 .bf16) (harg10 : arg10.IsWhole)
  (arg11 : Memref sig .tc .vmem S8x1024 .f32) (harg11 : arg11.IsWhole)
  (arg12 : Memref sig .tc .vmem S2816x1024 .bf16) (harg12 : arg12.IsWhole)
  (arg13 : Memref sig .tc .vmem S2816x1024 .bf16) (harg13 : arg13.IsWhole)
  (arg14 : Memref sig .tc .vmem S2816x1024 .bf16) (harg14 : arg14.IsWhole)

/-- The gathered gate weight. -/
theorem first_wgate (hc0 : cond0_0 i) (t : Tile F) (w : HbBuf0 (F := F) c hbM0_0) (f : arg12.view.ty.Contents (Elt F)) :
    arg12.view.read (Elt F) (arg12.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).2.2.2.2.2.2.1) = (start (hbM0_0.view.read (Elt F) w)).wgate := by
  unfold runFirst; dsimp only; sl_unfold_words
  simp only [readCov_put_same, readAt_window, read_writes_put, writes_none, Memref.IsWhole.read_unread, all512, all1]
  dsimp only [ReadAs.apply]
  exact gathered_eq c w 1952 (by decide) _ _ _ _ _ _ _ _ _ _ _ _ _ _ _ _ _

/-- The gathered value weight. -/
theorem first_wup (hc0 : cond0_0 i) (t : Tile F) (w : HbBuf0 (F := F) c hbM0_0) (f : arg13.view.ty.Contents (Elt F)) :
    arg13.view.read (Elt F) (arg13.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).2.2.2.2.2.2.2.1) = (start (hbM0_0.view.read (Elt F) w)).wup := by
  unfold runFirst; dsimp only; sl_unfold_words
  simp only [readCov_put_same, readAt_window, read_writes_put, writes_none, Memref.IsWhole.read_unread, all512, all1]
  dsimp only [ReadAs.apply]
  exact gathered_eq c w 2304 (by decide) _ _ _ _ _ _ _ _ _ _ _ _ _ _ _ _ _

/-- The gathered output weight. -/
theorem first_wdown (hc0 : cond0_0 i) (t : Tile F) (w : HbBuf0 (F := F) c hbM0_0) (f : arg14.view.ty.Contents (Elt F)) :
    arg14.view.read (Elt F) (arg14.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).2.2.2.2.2.2.2.2.1) = (start (hbM0_0.view.read (Elt F) w)).wdown := by
  unfold runFirst; dsimp only; sl_unfold_words
  simp only [readCov_put_same, readAt_window, read_writes_put, writes_none, Memref.IsWhole.read_unread, all512, all1]
  dsimp only [ReadAs.apply]
  exact gathered_eq c w 2656 (by decide) _ _ _ _ _ _ _ _ _ _ _ _ _ _ _ _ _

/-- What it leaves in the tile of the gradient at the output. -/
theorem first_dout (hc0 : cond0_0 i) (t : Tile F) (w : HbBuf0 (F := F) c hbM0_0) (f : arg6.view.ty.Contents (Elt F)) :
    arg6.view.read (Elt F) (arg6.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).1) = dout (start (hbM0_0.view.read (Elt F) w)) t := by
  unfold runFirst; dsimp only; sl_unfold_words
  refine (View.read_writes_full arg6.view _ _ _ _).trans ?_
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  rfl

/-- What it leaves in the tile of the normalised input. -/
theorem first_nrm (hc0 : cond0_0 i) (t : Tile F) (w : HbBuf0 (F := F) c hbM0_0) (f : arg7.view.ty.Contents (Elt F)) :
    arg7.view.read (Elt F) (arg7.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).2.1) = nrm t := by
  unfold runFirst; dsimp only; sl_unfold_words
  refine (View.read_writes_full arg7.view _ _ _ _).trans ?_
  simp only [readCov_put_same, readAt_window, read_writes_put, writes_none, Memref.IsWhole.read_unread, all512, all1]
  rfl

/-- What it leaves in the tile of the gate. -/
theorem first_gate (hc0 : cond0_0 i) (t : Tile F) (w : HbBuf0 (F := F) c hbM0_0) (f : arg8.view.ty.Contents (Elt F)) :
    arg8.view.read (Elt F) (arg8.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).2.2.1) = gate (start (hbM0_0.view.read (Elt F) w)) t := by
  unfold runFirst; dsimp only; sl_unfold_words
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  exact beside_over _ _ _ _

/-- What it leaves in the tile of the values. -/
theorem first_up (hc0 : cond0_0 i) (t : Tile F) (w : HbBuf0 (F := F) c hbM0_0) (f : arg9.view.ty.Contents (Elt F)) :
    arg9.view.read (Elt F) (arg9.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).2.2.2.1) = up (start (hbM0_0.view.read (Elt F) w)) t := by
  unfold runFirst; dsimp only; sl_unfold_words
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  exact beside_over _ _ _ _

/-- What it leaves in the tile of the activation. -/
theorem first_act (hc0 : cond0_0 i) (t : Tile F) (w : HbBuf0 (F := F) c hbM0_0) (f : arg10.view.ty.Contents (Elt F)) :
    arg10.view.read (Elt F) (arg10.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).2.2.2.2.1) = act (start (hbM0_0.view.read (Elt F) w)) t := by
  unfold runFirst; dsimp only; sl_unfold_words
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  exact beside_over _ _ _ _

/-- What it leaves in the running sums. -/
theorem first_sums (hc0 : cond0_0 i) (t : Tile F) (w : HbBuf0 (F := F) c hbM0_0) (f : arg11.view.ty.Contents (Elt F)) :
    arg11.view.read (Elt F) (arg11.view.writes (Elt F) f (runFirst c i arg1 harg1 arg2 harg2 arg3 harg3 arg4 harg4 arg6 harg6 arg7 harg7 arg8 harg8 arg9 harg9 arg10 harg10 arg11 harg11 arg12 harg12 arg13 harg13 arg14 harg14 hc0 t w).2.2.2.2.2.1) = nextSums (start (hbM0_0.view.read (Elt F) w)) t := by
  unfold runFirst; dsimp only; sl_unfold_words
  simp only [readCov_put_same, readAt_window, read_writes_put, writes_none, Memref.IsWhole.read_unread, all512, all1]
  simp only [readCov_window]
  simp only [readCov_put_same, readAt_window, read_writes_put, writes_none, Memref.IsWhole.read_unread, all512, all1]
  dsimp only [ReadAs.apply]
  simp only [gathered_eq c w 1952 (by decide), gathered_eq c w 2304 (by decide), gathered_eq c w 2656 (by decide), put_all8]
  rw [window_put_of_disjoint k0_pay15 ![0, 0] ![1, 1024] ![1, 0] ![1, 1024] inb_S8x1024_S1x1024_1_0 _ 0 (.inr (by decide))]
  rfl

end Cert.HeadIdeal.Layer

end
-- ==== Proof.HeadRunLater.lean ====
module

public import proofs.«01_k».proof.Proof.HeadHold

@[expose] public section

set_option maxRecDepth 16384

noncomputable section

/-! # The body at a later point -/

namespace Cert.HeadIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.HeadIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S1x1024 .f32) (harg4 : arg4.IsWhole)
  (arg6 : Memref sig .tc .vmem S512x1024 .f32) (harg6 : arg6.IsWhole)
  (arg7 : Memref sig .tc .vmem S512x1024 .bf16) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S512x2816 .bf16) (harg10 : arg10.IsWhole)
  (arg11 : Memref sig .tc .vmem S8x1024 .f32) (harg11 : arg11.IsWhole)
  (arg12 : Memref sig .tc .vmem S2816x1024 .bf16) (harg12 : arg12.IsWhole)
  (arg13 : Memref sig .tc .vmem S2816x1024 .bf16) (harg13 : arg13.IsWhole)
  (arg14 : Memref sig .tc .vmem S2816x1024 .bf16) (harg14 : arg14.IsWhole)

set_option maxHeartbeats 40000000 in
/-- A later point: what its stores leave in the buffers it writes, as pieces (the last store first), with the proof that
its body, from its four blocks and the kept buffers at `s`, ends with those pieces written and the weights as they were. -/
def runLater (hc0 : ¬cond0_0 i) (t : Tile F) (s : Kept F) :
    Σ' (L4 : List (View.Piece (Elt F) S512x1024 .f32)), Σ' (L5 : List (View.Piece (Elt F) S512x1024 .bf16)), Σ' (L6 : List (View.Piece (Elt F) S512x2816 .bf16)), Σ' (L7 : List (View.Piece (Elt F) S512x2816 .bf16)), Σ' (L8 : List (View.Piece (Elt F) S512x2816 .bf16)),
    { L9 : List (View.Piece (Elt F) S8x1024 .f32) //
      ∀ (K : PUnit → sProp 𝕄),
        iprop(tileHeld c arg1 arg2 arg3 arg4 t ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ keptHeld c arg11 arg12 arg13 arg14 s
            ∗ (iprop(tileHeld c arg1 arg2 arg3 arg4 t
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (arg11.view.loc (c : Thread nD τ) ↦[arg11.view.set]{fullShare} arg11.view.writes (Elt F) (harg11.unread s.sums) L9)
              ∗ owns (c : Thread nD τ) arg12 fullShare s.wgate ∗ owns (c : Thread nD τ) arg13 fullShare s.wup ∗ owns (c : Thread nD τ) arg14 fullShare s.wdown) -∗ K ⟨⟩))
        ⊢ wp frame (wpE (defs₀ (F := F)) Variants.none c none) Set.univ (cc0_ffn1_fwd i arg1 harg1 arg2 harg2 arg3 harg3 arg4 harg4 (Memref.whole main_v7) (Memref.isWhole_whole _)
          arg6 harg6 arg7 harg7 arg8 harg8 arg9 harg9 arg10 harg10 arg11 harg11 arg12 harg12 arg13 harg13 arg14 harg14 cc0_scratch3) K } := by
  refine ⟨?_, ?_, ?_, ?_, ?_, ?_, fun K => ?run⟩
  case run =>
    simp only [cc0_ffn1_fwd_eq_skeleton]; unfold cc0_ffn1_fwd_skel
    simp only [k0_part9_eq_skeleton, k0_part10_eq_skeleton, k0_part11_eq_skeleton, k0_part12_eq_skeleton]
    unfold tileHeld keptHeld owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, ⟨%d7, %f7, -, H7⟩, ⟨%d8, %f8, -, H8⟩,
      ⟨⟨%f9, %hf9, H9⟩, ⟨%fs0, %hfs0, HS0⟩, ⟨%fs1, %hfs1, HS1⟩, ⟨%fs2, %hfs2, HS2⟩⟩, Hk⟩
    obtain rfl := harg1.eq_unread hf0; obtain rfl := harg2.eq_unread hf1; obtain rfl := harg3.eq_unread hf2; obtain rfl := harg4.eq_unread hf3
    obtain rfl := harg11.eq_unread hf9; obtain rfl := harg12.eq_unread hfs0; obtain rfl := harg13.eq_unread hfs1; obtain rfl := harg14.eq_unread hfs2
    sl_exec (disch := first | sl_exact hc0)
    sl_step
    iapply Hk
    isplitl [H0 H1 H2 H3]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexact H9
    isplitl [HS0]
    · iexists _; isplitr; · ipureintro; exact harg12.read_unread _
      iexact HS0
    isplitl [HS1]
    · iexists _; isplitr; · ipureintro; exact harg13.read_unread _
      iexact HS1
    iexists _; isplitr; · ipureintro; exact harg14.read_unread _
    iexact HS2

end Cert.HeadIdeal.Layer

end
-- ==== Proof.HeadPostLater.lean ====
module

public import proofs.«01_k».proof.Proof.HeadRunLater
public import proofs.«01_k».proof.Proof.HeadReads

@[expose] public section

noncomputable section

/-! # What a later point leaves -/

namespace Cert.HeadIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.HeadIdeal.Gen VecWindow
open Cert.FfnIdeal.Layer (top bottom beside gathered window_all all512 all1 readAt_window readCov_window read_writes_put writes_none readCov_put_same put_all8 beside_over)

variable {F : FTy → Type} [FloatOps F]

local notation "𝕄" => MT nD τ sig Unit (Elt F) ℕ (Pipeline.UD sig nD τ) ℕ

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S1x1024 .f32) (harg4 : arg4.IsWhole)
  (arg6 : Memref sig .tc .vmem S512x1024 .f32) (harg6 : arg6.IsWhole)
  (arg7 : Memref sig .tc .vmem S512x1024 .bf16) (harg7 : arg7.IsWhole)
  (arg8 : Memref sig .tc .vmem S512x2816 .bf16) (harg8 : arg8.IsWhole)
  (arg9 : Memref sig .tc .vmem S512x2816 .bf16) (harg9 : arg9.IsWhole)
  (arg10 : Memref sig .tc .vmem S512x2816 .bf16) (harg10 : arg10.IsWhole)
  (arg11 : Memref sig .tc .vmem S8x1024 .f32) (harg11 : arg11.IsWhole)
  (arg12 : Memref sig .tc .vmem S2816x1024 .bf16) (harg12 : arg12.IsWhole)
  (arg13 : Memref sig .tc .vmem S2816x1024 .bf16) (harg13 : arg13.IsWhole)
  (arg14 : Memref sig .tc .vmem S2816x1024 .bf16) (harg14 : arg14.IsWhole)

/-- What it leaves in the tile of the gradient at the output. -/
theorem later_dout (hc0 : ¬cond0_0 i) (t : Tile F) (s : Kept F) (f : arg6.view.ty.Contents (Elt F)) :
    arg6.view.read (Elt F) (arg6.view.writes (Elt F) f (runLater c i arg1 harg1 arg2 harg2 arg3 harg3 arg4 harg4 arg6 harg6 arg7 harg7 arg8 harg8 arg9 harg9 arg10 harg10 arg11 harg11 arg12 harg12 arg13 harg13 arg14 harg14 hc0 t s).1) = dout s t := by
  unfold runLater; dsimp only; sl_unfold_words
  refine (View.read_writes_full arg6.view _ _ _ _).trans ?_
  simp only [readCov_put_same, readAt_window, read_writes_put, writes_none, Memref.IsWhole.read_unread, all512, all1]
  rfl

/-- What it leaves in the tile of the normalised input. -/
theorem later_nrm (hc0 : ¬cond0_0 i) (t : Tile F) (s : Kept F) (f : arg7.view.ty.Contents (Elt F)) :
    arg7.view.read (Elt F) (arg7.view.writes (Elt F) f (runLater c i arg1 harg1 arg2 harg2 arg3 harg3 arg4 harg4 arg6 harg6 arg7 harg7 arg8 harg8 arg9 harg9 arg10 harg10 arg11 harg11 arg12 harg12 arg13 harg13 arg14 harg14 hc0 t s).2.1) = nrm t := by
  unfold runLater; dsimp only; sl_unfold_words
  refine (View.read_writes_full arg7.view _ _ _ _).trans ?_
  simp only [readCov_put_same, readAt_window, read_writes_put, writes_none, Memref.IsWhole.read_unread, all512, all1]
  rfl

/-- What it leaves in the tile of the gate. -/
theorem later_gate (hc0 : ¬cond0_0 i) (t : Tile F) (s : Kept F) (f : arg8.view.ty.Contents (Elt F)) :
    arg8.view.read (Elt F) (arg8.view.writes (Elt F) f (runLater c i arg1 harg1 arg2 harg2 arg3 harg3 arg4 harg4 arg6 harg6 arg7 harg7 arg8 harg8 arg9 harg9 arg10 harg10 arg11 harg11 arg12 harg12 arg13 harg13 arg14 harg14 hc0 t s).2.2.1) = gate s t := by
  unfold runLater; dsimp only; sl_unfold_words
  simp only [readCov_put_same, readAt_window, read_writes_put, writes_none, Memref.IsWhole.read_unread, all512, all1]
  exact beside_over _ _ _ _

/-- What it leaves in the tile of the values. -/
theorem later_up (hc0 : ¬cond0_0 i) (t : Tile F) (s : Kept F) (f : arg9.view.ty.Contents (Elt F)) :
    arg9.view.read (Elt F) (arg9.view.writes (Elt F) f (runLater c i arg1 harg1 arg2 harg2 arg3 harg3 arg4 harg4 arg6 harg6 arg7 harg7 arg8 harg8 arg9 harg9 arg10 harg10 arg11 harg11 arg12 harg12 arg13 harg13 arg14 harg14 hc0 t s).2.2.2.1) = up s t := by
  unfold runLater; dsimp only; sl_unfold_words
  simp only [readCov_put_same, readAt_window, read_writes_put, writes_none, Memref.IsWhole.read_unread, all512, all1]
  exact beside_over _ _ _ _

/-- What it leaves in the tile of the activation. -/
theorem later_act (hc0 : ¬cond0_0 i) (t : Tile F) (s : Kept F) (f : arg10.view.ty.Contents (Elt F)) :
    arg10.view.read (Elt F) (arg10.view.writes (Elt F) f (runLater c i arg1 harg1 arg2 harg2 arg3 harg3 arg4 harg4 arg6 harg6 arg7 harg7 arg8 harg8 arg9 harg9 arg10 harg10 arg11 harg11 arg12 harg12 arg13 harg13 arg14 harg14 hc0 t s).2.2.2.2.1) = act s t := by
  unfold runLater; dsimp only; sl_unfold_words
  simp only [readCov_put_same, readAt_window, read_writes_put, writes_none, Memref.IsWhole.read_unread, all512, all1]
  exact beside_over _ _ _ _

/-- What it leaves in the running sums. -/
theorem later_sums (hc0 : ¬cond0_0 i) (t : Tile F) (s : Kept F) :
    arg11.view.read (Elt F) (arg11.view.writes (Elt F) (harg11.unread s.sums) (runLater c i arg1 harg1 arg2 harg2 arg3 harg3 arg4 harg4 arg6 harg6 arg7 harg7 arg8 harg8 arg9 harg9 arg10 harg10 arg11 harg11 arg12 harg12 arg13 harg13 arg14 harg14 hc0 t s).2.2.2.2.2.1) = nextSums s t := by
  unfold runLater; dsimp only; sl_unfold_words
  simp only [readCov_put_same, readAt_window, read_writes_put, writes_none, Memref.IsWhole.read_unread, all512, all1]
  rfl

end Cert.HeadIdeal.Layer

end
-- ==== Proof.HeadLaunch.lean ====
module

public import proofs.«01_k».proof.Proof.HeadPostFirst
public import proofs.«01_k».proof.Proof.HeadPostLater
public import Idealize.ShloMosaic.Lib.Pipeline.FrameValue
public import Idealize.ShloMosaic.Lib.Claim

@[expose] public section

set_option maxRecDepth 16384

noncomputable section

/-! # The last layer's whole launch

The eight points in order, each from what the point before left; then the run of @main. -/

namespace Cert.HeadIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HeadIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four blocks point `t` reads. -/
def tile (c : Dev nD) (t : Fin cfg0.N) : Tile F where
  h := iblk m c 0 t
  gamma := iblk m c 1 t
  target := iblk m c 2 t
  final := iblk m c 3 t

/-- What point `n` starts from. -/
def keptAt (c : Dev nD) : ℕ → Kept F
  | 0 => start (hbM0_0.view.read (Elt F) (V m c main_v7))
  | n + 1 => if h : n < cfg0.N then next (keptAt c n) (tile m c ⟨n, h⟩) else keptAt c n

/-- Point `t` takes one step. -/
theorem keptAt_succ (c : Dev nD) (t : Fin cfg0.N) : keptAt m c (t.val + 1) = next (keptAt m c t.val) (tile m c t) := dif_pos t.isLt

/-- What the region owns between two points, the buffers kept between them at `s`. -/
def between (c : Dev nD) (s : Kept F) : sProp 𝕄 :=
  iprop(iprop(owns (c : Thread nD τ) scM0_0 fullShare s.wgate ∗ owns (c : Thread nD τ) scM0_1 fullShare s.wup ∗ owns (c : Thread nD τ) scM0_2 fullShare s.wdown)
    ∗ (∃ r, prngReg c r) ∗ atRest c ∗ iprop(hbPt0 c hbM0_0 (V m c main_v7)))

/-- The invariant: before the first point what the launch hands over, later `between` at the point's buffers. -/
def Phi (c : Dev nD) : ℕ → sProp 𝕄
  | 0 => Pipeline.ΦD osem0 spec0 H0 (V m) c
  | n + 1 => between m c (keptAt m c (n + 1))

/-! ## The proof data -/

/-- Each input's buffer keeps its block; the outputs hold the five tiles and the running sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dout (keptAt m c t.val) (tile m c t)
    | ⟨5, _⟩ => nrm (tile m c t)
    | ⟨6, _⟩ => gate (keptAt m c t.val) (tile m c t)
    | ⟨7, _⟩ => up (keptAt m c t.val) (tile m c t)
    | ⟨8, _⟩ => act (keptAt m c t.val) (tile m c t)
    | ⟨9, _⟩ => (keptAt m c (t.val + 1)).sums
  Φ t := Phi m c t.val
  q _ := fullShare
  owed _ := 0

/-- The proof data's arrays are the region's at its entry. -/
theorem A_eq (c : Dev nD) (w : Fin cfg0.W) : (dats m 0 c).A w = V m c (Pipeline.arrRef spec0 w) := by
  dsimp only [dats]

/-- What the body leaves in the buffer of the block h. -/
theorem after_0 (c : Dev nD) (t : Fin cfg0.N) : (dats m 0 c).after 0 t = iblk m c 0 t := by dsimp only [dats]
/-- What the body leaves in the buffer of the block gamma. -/
theorem after_1 (c : Dev nD) (t : Fin cfg0.N) : (dats m 0 c).after 1 t = iblk m c 1 t := by dsimp only [dats]
/-- What the body leaves in the buffer of the block target. -/
theorem after_2 (c : Dev nD) (t : Fin cfg0.N) : (dats m 0 c).after 2 t = iblk m c 2 t := by dsimp only [dats]
/-- What the body leaves in the buffer of the block final. -/
theorem after_3 (c : Dev nD) (t : Fin cfg0.N) : (dats m 0 c).after 3 t = iblk m c 3 t := by dsimp only [dats]
/-- The tile of the gradient at the output. -/
theorem after_4 (c : Dev nD) (t : Fin cfg0.N) : (dats m 0 c).after 4 t = dout (keptAt m c t.val) (tile m c t) := by dsimp only [dats]
/-- The tile of the normalised input. -/
theorem after_5 (c : Dev nD) (t : Fin cfg0.N) : (dats m 0 c).after 5 t = nrm (tile m c t) := by dsimp only [dats]
/-- The tile of the gate. -/
theorem after_6 (c : Dev nD) (t : Fin cfg0.N) : (dats m 0 c).after 6 t = gate (keptAt m c t.val) (tile m c t) := by dsimp only [dats]
/-- The tile of the values. -/
theorem after_7 (c : Dev nD) (t : Fin cfg0.N) : (dats m 0 c).after 7 t = up (keptAt m c t.val) (tile m c t) := by dsimp only [dats]
/-- The tile of the activation. -/
theorem after_8 (c : Dev nD) (t : Fin cfg0.N) : (dats m 0 c).after 8 t = act (keptAt m c t.val) (tile m c t) := by dsimp only [dats]
/-- The running sums. -/
theorem after_9 (c : Dev nD) (t : Fin cfg0.N) : (dats m 0 c).after 9 t = (keptAt m c (t.val + 1)).sums := by dsimp only [dats]

/-- The buffer of the block h holds it at every point. -/
theorem before_0 (c : Dev nD) (t : Fin cfg0.N) (d) : (dats m 0 c).before 0 t d = (tile m c t).h :=
  before0_0_of m (dats m 0 c) (A_eq m c 0) (after_0 m c) t d
/-- The buffer of the block gamma holds it at every point. -/
theorem before_1 (c : Dev nD) (t : Fin cfg0.N) (d) : (dats m 0 c).before 1 t d = (tile m c t).gamma :=
  before0_1_of m (dats m 0 c) (A_eq m c 1) (after_1 m c) t d
/-- The buffer of the block target holds it at every point. -/
theorem before_2 (c : Dev nD) (t : Fin cfg0.N) (d) : (dats m 0 c).before 2 t d = (tile m c t).target :=
  before0_2_of m (dats m 0 c) (A_eq m c 2) (after_2 m c) t d
/-- The buffer of the block final holds it at every point. -/
theorem before_3 (c : Dev nD) (t : Fin cfg0.N) (d) : (dats m 0 c).before 3 t d = (tile m c t).final :=
  before0_3_of m (dats m 0 c) (A_eq m c 3) (after_3 m c) t d
/-- After the first point the sums' buffer holds what the point before left. -/
theorem before_9 (c : Dev nD) (t : Fin cfg0.N) (h0 : ¬t.val % 8 = 0) (d) : (dats m 0 c).before 9 t d = (keptAt m c t.val).sums := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl), after_9]
  dsimp only
  rw [Nat.sub_add_cancel (by omega)]

/-! ## The body, at any point -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 19200000 in
/-- The first point. -/
theorem bodyFirst (c : Dev nD) (t : Fin cfg0.N) (h0 : t.val % 8 = 0) :
    pre m c t ⊢ wp frame (wpE (defs₀ (F := F)) Variants.none c none) Set.univ (bodyAt0 t) (fun _ => post m c t) := by
  have hN : t.val < 8 := lt_of_lt_of_eq t.isLt (show cfg0.N = 8 from N_0)
  unfold pre post bodyAt0
  simp only [before_0, before_1, before_2, before_3]
  rw [show (dats m 0 c).Φ t.succ = between m c (keptAt m c (t.val + 1)) from rfl,
    after_0, after_1, after_2, after_3, after_4, after_5, after_6, after_7, after_8, after_9, keptAt_succ]
  unfold Dat.owesAt Pipeline.owesWithin
  rw [show (dats m 0 c).owed t.castSucc = 0 from rfl, show (dats m 0 c).owed t.succ = 0 from rfl]
  have hz : t.val = 0 := by omega
  rw [show (dats m 0 c).Φ t.castSucc = Pipeline.ΦD osem0 spec0 H0 (V m) c from (show (dats m 0 c).Φ t.castSucc = Phi m c t.val from rfl).trans (by rw [hz]; rfl), PhiD0_eq]
  rw [show keptAt m c t.val = start (hbM0_0.view.read (Elt F) (V m c main_v7)) by rw [hz]; rfl]
  unfold between
  iintro ⟨⟨⟨⟨%e0, HS0⟩, ⟨%e1, HS1⟩, ⟨%e2, HS2⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runFirst c (grid0.coords t) _ _ _ _ _ _ _ _ _ _ _ _ _ _ _ _ _ _ _ _ _ _ _ _ _ _ ((hcond0_0 t).mpr h0) (tile m c t) (V m c main_v7)).2.2.2.2.2.2.2.2.2 W _)
  unfold tileHeld keptHeld
  isplitl [H0 H1 H2 H3]
  · isplitl [H0]; · iexact H0
    isplitl [H1]; · iexact H1
    isplitl [H2]; · iexact H2
    iexact H3
  isplitl [H4]; · iexists _; iexact H4
  isplitl [H5]; · iexists _; iexact H5
  isplitl [H6]; · iexists _; iexact H6
  isplitl [H7]; · iexists _; iexact H7
  isplitl [H8]; · iexists _; iexact H8
  isplitl [H9 HS0 HS1 HS2]
  · iexists (⟨e0, e1, e2, (dats m 0 c).before 9 t d9⟩ : Kept F)
    isplitl [H9]; · iexact H9
    isplitl [HS0]; · iexact HS0
    isplitl [HS1]; · iexact HS1
    iexact HS2
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · unfold atRest
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  isplitl [Hh0]; · iexact Hh0
  isplitl [HW]; · iexact HW
  iintro ⟨⟨H0, H1, H2, H3⟩, ⟨%f4, H4⟩, ⟨%f5, H5⟩, ⟨%f6, H6⟩, ⟨%f7, H7⟩, ⟨%f8, H8⟩, ⟨%f9, H9⟩, ⟨%g0, HS0⟩, ⟨%g1, HS1⟩, ⟨%g2, HS2⟩, Hin, Hh0, ⟨%W', HW'⟩⟩
  isplitl [HS0 HS1 HS2 Hg Hin Hh0]
  · isplitl [HS0 HS1 HS2]
    · isplitl [HS0]
      · unfold owns; iexists _; isplitr
        swap; · iexact HS0
        ipureintro; exact first_wgate c _ _ _ _ _ _ _ _ _ _ _ _ _ _ _ _ _ _ _ _ _ _ _ _ _ _ _ _ _ _ _
      isplitl [HS1]
      · unfold owns; iexists _; isplitr
        swap; · iexact HS1
        ipureintro; exact first_wup c _ _ _ _ _ _ _ _ _ _ _ _ _ _ _ _ _ _ _ _ _ _ _ _ _ _ _ _ _ _ _
      unfold owns; iexists _; isplitr
      swap; · iexact HS2
      ipureintro; exact first_wdown c _ _ _ _ _ _ _ _ _ _ _ _ _ _ _ _ _ _ _ _ _ _ _ _ _ _ _ _ _ _ _
    isplitl [Hg]; · iexact Hg
    isplitl [Hin]; · iexact Hin
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact first_dout c _ _ _ _ _ _ _ _ _ _ _ _ _ _ _ _ _ _ _ _ _ _ _ _ _ _ _ _ _ _ _
  isplitl [H5]
  · unfold owns; iexists _; isplitr
    swap; · iexact H5
    ipureintro; exact first_nrm c _ _ _ _ _ _ _ _ _ _ _ _ _ _ _ _ _ _ _ _ _ _ _ _ _ _ _ _ _ _ _
  isplitl [H6]
  · unfold owns; iexists _; isplitr
    swap; · iexact H6
    ipureintro; exact first_gate c _ _ _ _ _ _ _ _ _ _ _ _ _ _ _ _ _ _ _ _ _ _ _ _ _ _ _ _ _ _ _
  isplitl [H7]
  · unfold owns; iexists _; isplitr
    swap; · iexact H7
    ipureintro; exact first_up c _ _ _ _ _ _ _ _ _ _ _ _ _ _ _ _ _ _ _ _ _ _ _ _ _ _ _ _ _ _ _
  isplitl [H8]
  · unfold owns; iexists _; isplitr
    swap; · iexact H8
    ipureintro; exact first_act c _ _ _ _ _ _ _ _ _ _ _ _ _ _ _ _ _ _ _ _ _ _ _ _ _ _ _ _ _ _ _
  unfold owns; iexists _; isplitr
  swap; · iexact H9
  ipureintro; exact first_sums c _ _ _ _ _ _ _ _ _ _ _ _ _ _ _ _ _ _ _ _ _ _ _ _ _ _ _ _ _ _ _

set_option maxHeartbeats 19200000 in
/-- A later point. -/
theorem bodyLater (c : Dev nD) (t : Fin cfg0.N) (h0 : ¬t.val % 8 = 0) :
    pre m c t ⊢ wp frame (wpE (defs₀ (F := F)) Variants.none c none) Set.univ (bodyAt0 t) (fun _ => post m c t) := by
  have hN : t.val < 8 := lt_of_lt_of_eq t.isLt (show cfg0.N = 8 from N_0)
  unfold pre post bodyAt0
  simp only [before_0, before_1, before_2, before_3, before_9 m c t h0]
  rw [show (dats m 0 c).Φ t.succ = between m c (keptAt m c (t.val + 1)) from rfl,
    after_0, after_1, after_2, after_3, after_4, after_5, after_6, after_7, after_8, after_9, keptAt_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [show (dats m 0 c).Φ t.castSucc = between m c (keptAt m c t.val) from
    (show (dats m 0 c).Φ t.castSucc = Phi m c t.val from rfl).trans (by rw [hk]; rfl)]
  unfold between
  iintro ⟨⟨⟨HS0, HS1, HS2⟩, Hg, Hin, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runLater c (grid0.coords t) _ _ _ _ _ _ _ _ _ _ _ _ _ _ _ _ _ _ _ _ _ _ _ _ _ _ (fun h => h0 ((hcond0_0 t).mp h)) (tile m c t) (keptAt m c t.val)).2.2.2.2.2.2 _)
  unfold tileHeld keptHeld
  isplitl [H0 H1 H2 H3]
  · isplitl [H0]; · iexact H0
    isplitl [H1]; · iexact H1
    isplitl [H2]; · iexact H2
    iexact H3
  isplitl [H4]; · iexists _; iexact H4
  isplitl [H5]; · iexists _; iexact H5
  isplitl [H6]; · iexists _; iexact H6
  isplitl [H7]; · iexists _; iexact H7
  isplitl [H8]; · iexists _; iexact H8
  isplitl [H9 HS0 HS1 HS2]
  · isplitl [H9]; · iexact H9
    isplitl [HS0]; · iexact HS0
    isplitl [HS1]; · iexact HS1
    iexact HS2
  iintro ⟨⟨H0, H1, H2, H3⟩, ⟨%f4, H4⟩, ⟨%f5, H5⟩, ⟨%f6, H6⟩, ⟨%f7, H7⟩, ⟨%f8, H8⟩, H9, HS0, HS1, HS2⟩
  isplitl [HS0 HS1 HS2 Hg Hin Hh0]
  · isplitl [HS0 HS1 HS2]
    · isplitl [HS0]; · iexact HS0
      isplitl [HS1]; · iexact HS1
      iexact HS2
    isplitl [Hg]; · iexact Hg
    isplitl [Hin]; · iexact Hin
    iexact Hh0
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]
  · unfold owns; iexists _; isplitr
    swap; · iexact H4
    ipureintro; exact later_dout c _ _ _ _ _ _ _ _ _ _ _ _ _ _ _ _ _ _ _ _ _ _ _ _ _ _ _ _ _ _ _
  isplitl [H5]
  · unfold owns; iexists _; isplitr
    swap; · iexact H5
    ipureintro; exact later_nrm c _ _ _ _ _ _ _ _ _ _ _ _ _ _ _ _ _ _ _ _ _ _ _ _ _ _ _ _ _ _ _
  isplitl [H6]
  · unfold owns; iexists _; isplitr
    swap; · iexact H6
    ipureintro; exact later_gate c _ _ _ _ _ _ _ _ _ _ _ _ _ _ _ _ _ _ _ _ _ _ _ _ _ _ _ _ _ _ _
  isplitl [H7]
  · unfold owns; iexists _; isplitr
    swap; · iexact H7
    ipureintro; exact later_up c _ _ _ _ _ _ _ _ _ _ _ _ _ _ _ _ _ _ _ _ _ _ _ _ _ _ _ _ _ _ _
  isplitl [H8]
  · unfold owns; iexists _; isplitr
    swap; · iexact H8
    ipureintro; exact later_act c _ _ _ _ _ _ _ _ _ _ _ _ _ _ _ _ _ _ _ _ _ _ _ _ _ _ _ _ _ _ _
  unfold owns; iexists _; isplitr
  swap; · iexact H9
  ipureintro; exact later_sums c _ _ _ _ _ _ _ _ _ _ _ _ _ _ _ _ _ _ _ _ _ _ _ _ _ _ _ _ _ _

/-- The body at any point. -/
theorem body (c : Dev nD) (t : Fin cfg0.N) :
    pre m c t ⊢ wp frame (wpE (defs₀ (F := F)) Variants.none c none) Set.univ (bodyAt0 t) (fun _ => post m c t) := by
  by_cases h0 : t.val % 8 = 0
  · exact bodyFirst m c t h0
  · exact bodyLater m c t h0

/-- The body table's row at point `t`'s slots. -/
theorem row (t : Fin cfg0.N) : defs₀ (F := F) .tc cfg0.body (cfg0.bodyArgs t (cfg0.slots t)) = bodyAt0 t := by
  unfold defs₀; rw [Defs.onTc_tc]

/-- What the launch theorem asks of the body. -/
theorem obligation (c : Dev nD) : BodyObligation (dats (F := F) m 0 c) (defs₀ (F := F)) Variants.none () Set.univ := fun t => by
  rw [bigSep_W0, bigSep_W0, row]
  exact triple_restated (body m c t) rfl .rfl fun _ => .rfl

/-- The region starts from what the launch hands over. -/
theorem hin (c : Dev nD) : Pipeline.ΦD osem0 spec0 H0 (V m) c ⊢ (dats m 0 c).Φ 0 := Idealize.SL.BI.Entails.refl _

/-- The region gives it back. -/
theorem hout (c : Dev nD) : (dats m 0 c).Φ (Fin.last cfg0.N) ⊢ Pipeline.ΦD osem0 spec0 H0 (V m) c := by
  rw [show (dats m 0 c).Φ (Fin.last cfg0.N) = between m c (keptAt m c 8) from rfl, PhiD0_eq]
  unfold between atRest
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2]
  · isplitl [HS0]; · iexists _; iexact HS0
    isplitl [HS1]; · iexists _; iexact HS1
    iexists _; iexact HS2
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  iexact Hh0

/-! ## The run -/

-- the launch theorem's implicit arguments are found by unifying its conclusion with this one, which takes unfolding plain
-- definitions in a metavariable's type
set_option backward.isDefEq.respectTransparency.types false in
/-- Every execution of @main ends with each array of the region at what the points leave, every other array as it was, and
every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.HeadIdeal.Layer

end
-- ==== Proof.HeadSpec.lean ====
module

public import proofs.«01_k».proof.Proof.FfnSpec

@[expose] public section

noncomputable section

/-! # The last layer and the loss as formulas

The layer is `out = h + (silu (n wgate) * (n wup)) wdown` with `n = h / rms h * gamma`; the loss is half the sum over the
rows of the mean square of `out / rms out * final - target`. Below are the layer's saved arrays, the loss feature by
feature, and its gradients at the layer's output and at the final scale, entry by entry over the extended reals. -/

namespace Cert.Loss

open Idealize.ShloMosaic
open scoped BigOperators

/-- The layer's arguments, the targets and the final norm's scale. -/
structure Args where
  h : Fin 4096 → Fin 1024 → EReal
  gamma : Fin 1024 → EReal
  wgate : Fin 1024 → Fin 2816 → EReal
  wup : Fin 1024 → Fin 2816 → EReal
  wdown : Fin 2816 → Fin 1024 → EReal
  target : Fin 4096 → Fin 1024 → EReal
  final : Fin 1024 → EReal

variable (A : Args)

/-- The layer's part of the arguments (its forward formulas do not look at an incoming gradient). -/
def layer : Layer.Args where
  h := A.h
  gamma := A.gamma
  wgate := A.wgate
  wup := A.wup
  wdown := A.wdown
  dh _ _ := 0

/-- The activation. -/
def active (s : Fin 4096) (f : Fin 2816) : EReal := Layer.gate (layer A) s f * Layer.sig (Layer.gate (layer A) s f) * Layer.up (layer A) s f
/-- The layer's output. -/
def output (s : Fin 4096) (d : Fin 1024) : EReal := A.h s d + ∑ f, active A s f * A.wdown f d

/-- The final norm's part of the arguments. -/
def last : Mixer.Args where
  x := output A
  gamma := A.final
  win _ _ := 0
  taps _ _ := 0
  wout _ _ := 0
  dh _ _ := 0

/-- One over the number of features, as the kernel's constant denotes it. -/
def share : EReal := Ideal.ofBits .f32 0x3A800000#32
/-- Half of it. -/
def halfShare : EReal := Ideal.ofBits .f32 0x3A000000#32

/-- The prediction less the target. -/
def miss (s : Fin 4096) (d : Fin 1024) : EReal := Mixer.normed (last A) s d - A.target s d
/-- The loss's gradient at the prediction. -/
def gMiss (s : Fin 4096) (d : Fin 1024) : EReal := miss A s d * share
/-- Its gradient at the layer's output. -/
def gOut (s : Fin 4096) (d : Fin 1024) : EReal :=
  Mixer.inv (last A) s * (gMiss A s d * A.final d)
    - output A s d * (Mixer.inv (last A) s * Mixer.inv (last A) s * Mixer.inv (last A) s) * Ideal.div (∑ k, gMiss A s k * A.final k * output A s k) Mixer.width
/-- Its gradient at the final scale. -/
def gFinal (d : Fin 1024) : EReal := ∑ s, gMiss A s d * output A s d * Mixer.inv (last A) s
/-- The part of the loss that one feature makes. -/
def perFeature (d : Fin 1024) : EReal := ∑ s, halfShare * (miss A s d * miss A s d)

/-- The layer's output as it is summed half by half. -/
theorem output_halves (s : Fin 4096) (d : Fin 1024) :
    A.h s d + (∑ p, active A s (Layer.lo p) * A.wdown (Layer.lo p) d) + (∑ p, active A s (Layer.hi p) * A.wdown (Layer.hi p) d) = output A s d := by
  unfold output
  rw [Layer.sum_halves fun f => active A s f * A.wdown f d, add_assoc]

/-! ## The constants -/

/-- A 1024th. -/
theorem share_eq : share = ((1 / 1024 : ℝ) : EReal) := by
  unfold share
  simp [Ideal.ofBits, Ideal.ieee, -EReal.coe_mul]; norm_num

/-- A 2048th. -/
theorem halfShare_eq : halfShare = ((1 / 2048 : ℝ) : EReal) := by
  unfold halfShare
  simp [Ideal.ofBits, Ideal.ieee, -EReal.coe_mul]; norm_num

/-- A half, a whole and two as the reference's constants denote them. -/
def half : EReal := Ideal.ofBits .f32 0x3F000000#32
/-- One. -/
def one : EReal := Ideal.ofBits .f32 0x3F800000#32
/-- Two. -/
def two : EReal := Ideal.ofBits .f32 0x40000000#32

/-- A half. -/
theorem half_eq : half = ((1 / 2 : ℝ) : EReal) := by
  unfold half
  simp [Ideal.ofBits, Ideal.ieee, -EReal.coe_mul]; norm_num

/-- One. -/
theorem one_eq : one = ((1 : ℝ) : EReal) := by
  unfold one
  simp [Ideal.ofBits, Ideal.ieee, -EReal.coe_mul]; norm_num

/-- Two. -/
theorem two_eq : two = ((2 : ℝ) : EReal) := by
  unfold two
  simp [Ideal.ofBits, Ideal.ieee, -EReal.coe_mul]; norm_num

/-- Division by the number of features. -/
theorem div_width (x : EReal) : Ideal.div x Mixer.width = x * ((1 / 1024 : ℝ) : EReal) := by
  rw [Mixer.width_eq, Ideal.div, if_neg (by norm_cast), ← EReal.coe_inv, one_div]

/-- The square's derivative under the mean and the half: twice the miss times half a 1024th. -/
theorem square_back (x : EReal) : Ideal.div (half * one) Mixer.width * (two * x) = x * share := by
  rw [div_width, half_eq, one_eq, two_eq, share_eq, mul_comm x, ← mul_assoc, ← EReal.coe_mul, ← EReal.coe_mul, ← EReal.coe_mul]
  congr 2
  norm_num

/-- A nonnegative real number goes into a sum of nonnegative terms. -/
theorem mul_sum_nonneg {ι : Type} (t : Finset ι) (c : ℝ) (f : ι → EReal) (hf : ∀ i, 0 ≤ f i) : (c : EReal) * ∑ i ∈ t, f i = ∑ i ∈ t, (c : EReal) * f i := by
  classical
  refine Finset.induction_on t (by simp) fun i t hi ih => ?_
  rw [Finset.sum_insert hi, Finset.sum_insert hi, ← ih]
  exact EReal.left_distrib_of_nonneg (hf i) (Finset.sum_nonneg fun j _ => hf j)

/-- The kernel's scaling of a tile's sum of squares is that of every square. -/
theorem halfShare_sum {ι : Type} [Fintype ι] (f : ι → EReal) (hf : ∀ i, 0 ≤ f i) : halfShare * ∑ i, f i = ∑ i, halfShare * f i := by
  rw [halfShare_eq]
  exact mul_sum_nonneg _ _ f hf

/-- The feature's loss as the reference sums it. -/
theorem perFeature_eq (d : Fin 1024) : half * ∑ s, Ideal.div (miss A s d * miss A s d) Mixer.width = perFeature A d := by
  unfold perFeature
  rw [half_eq, mul_sum_nonneg]
  · refine Finset.sum_congr rfl fun s _ => ?_
    rw [div_width, halfShare_eq, mul_comm (miss A s d * miss A s d), ← mul_assoc, ← EReal.coe_mul]
    congr 2
    norm_num
  · intro s
    rw [div_width]
    exact mul_nonneg (Mixer.square_nonneg _) (by norm_cast; norm_num)

/-- The gradient at the layer's output in the reference's form. -/
theorem gOut_eq (s : Fin 4096) (d : Fin 1024) :
    gOut A s d = gMiss A s d * A.final d * Mixer.inv (last A) s
      + output A s d * Ideal.div ((∑ k, output A s k * (gMiss A s k * A.final k)) * (Mixer.minusHalf * Ideal.div (Mixer.inv (last A) s) (Mixer.under (last A) s))) Mixer.width
      + Ideal.div ((∑ k, output A s k * (gMiss A s k * A.final k)) * (Mixer.minusHalf * Ideal.div (Mixer.inv (last A) s) (Mixer.under (last A) s))) Mixer.width * output A s d := by
  have h := Mixer.norm_back (last A) s d 0 (gMiss A s d * A.final d) (∑ k, gMiss A s k * A.final k * output A s k)
  rw [zero_add, zero_add, show (∑ k, gMiss A s k * A.final k * output A s k) = ∑ k, output A s k * (gMiss A s k * A.final k) from
    Finset.sum_congr rfl fun k _ => mul_comm _ _] at h
  unfold gOut
  rw [show (∑ k, gMiss A s k * A.final k * output A s k) = ∑ k, output A s k * (gMiss A s k * A.final k) from
    Finset.sum_congr rfl fun k _ => mul_comm _ _]
  exact h

end Cert.Loss

end
-- ==== Proof.HeadStepValue.lean ====
module

public import proofs.«01_k».proof.Proof.HeadReads
public import proofs.«01_k».proof.Proof.HeadSpec
public import proofs.«01_k».proof.Proof.FfnStepValue

@[expose] public section

noncomputable section

/-! # One grid point of the last layer over the extended reals

A point that reads its tile of the formulas' arrays writes the formulas' values into its tiles and adds its tile's sums. -/

namespace Cert.HeadIdeal.Layer

open Idealize.ShloMosaic Cert.HeadIdeal.Gen VecWindow
open Cert.FfnIdeal.Layer (top bottom beside gathered top_at bottom_at halves beside_left beside_right window_at put_inside put_outside PackIs)
open Cert.Layer (lo hi soFar soFar_succ)
open Cert.Loss (Args layer active output last miss gMiss gOut)
open scoped BigOperators

variable (A : Args)

/-- The four blocks point `n` reads are its tile of the formulas' arrays. -/
structure TileIs (n : ℕ) (t : Tile Ideal) : Prop where
  h : ∀ i e, t.h (ix2 i e) = A.h (Cert.Layer.row n i) e
  gamma : ∀ e, t.gamma (ix2 0 e) = A.gamma e
  target : ∀ i e, t.target (ix2 i e) = A.target (Cert.Layer.row n i) e
  final : ∀ e, t.final (ix2 0 e) = A.final e

/-- Before point `n` the three weights are there, and the two sums over the tiles done above six rows of zeros. -/
structure KeptIs (n : ℕ) (s : Kept Ideal) : Prop where
  wgate : ∀ f d, s.wgate (ix2 f d) = A.wgate d f
  wup : ∀ f d, s.wup (ix2 f d) = A.wup d f
  wdown : ∀ f d, s.wdown (ix2 f d) = A.wdown f d
  final : ∀ d, s.sums (ix2 0 d) = soFar n fun r => gMiss A r d * output A r d * Mixer.inv (last A) r
  loss : ∀ d, s.sums (ix2 1 d) = soFar n fun r => Cert.Loss.halfShare * (miss A r d * miss A r d)
  rest : ∀ (k : Fin 8) d, 2 ≤ k.val → s.sums (ix2 k d) = 0

section Point
variable {A} {n : ℕ} {t : Tile Ideal} {s : Kept Ideal} (ht : TileIs A n t)
include ht

/-- The tile of the normalised input. -/
theorem nrm_at (i : Fin 512) (d : Fin 1024) : nrm t (ix2 i d) = Mixer.normed (Cert.Layer.norm (layer A)) (Cert.Layer.row n i) d := by
  unfold nrm k0_pay3 k0_pay2
  simp only [pointwise, ht.h, ht.gamma, zero_add, reduceDIte, Nat.reduceEqDiff, OfNat.ofNat_ne_one]
  rfl

/-- The same, spelled as the products take it. -/
theorem nrm_at' (i : Fin 512) (d : Fin 1024) : (k0_pay3 t.h (k0_pay2 t.h) t.gamma : FVec Ideal S512x1024 .bf16) (ix2 i d)
    = Mixer.normed (Cert.Layer.norm (layer A)) (Cert.Layer.row n i) d := nrm_at ht i d

variable (hs : KeptIs A n s)
include hs

/-- The first half of the gate. -/
theorem gL_at (i : Fin 512) (p : Fin 1408) : gL s t (ix2 i p) = Cert.Layer.gate (layer A) (Cert.Layer.row n i) (lo p) := by
  unfold gL k0_pay7 k0_pay4
  simp only [pointwise, nrm_at' ht, top_at, hs.wgate, zero_add]
  rfl

/-- The second. -/
theorem gR_at (i : Fin 512) (p : Fin 1408) : gR s t (ix2 i p) = Cert.Layer.gate (layer A) (Cert.Layer.row n i) (hi p) := by
  unfold gR k0_pay12 k0_pay9
  simp only [pointwise, nrm_at ht, bottom_at, hs.wgate, zero_add]
  rfl

/-- The first half of the values. -/
theorem uL_at (i : Fin 512) (p : Fin 1408) : uL s t (ix2 i p) = Cert.Layer.up (layer A) (Cert.Layer.row n i) (lo p) := by
  unfold uL k0_pay8 k0_pay5
  simp only [pointwise, nrm_at' ht, top_at, hs.wup, zero_add]
  rfl

/-- The second. -/
theorem uR_at (i : Fin 512) (p : Fin 1408) : uR s t (ix2 i p) = Cert.Layer.up (layer A) (Cert.Layer.row n i) (hi p) := by
  unfold uR k0_pay13 k0_pay10
  simp only [pointwise, nrm_at ht, bottom_at, hs.wup, zero_add]
  rfl

/-- The first half of the activation. -/
theorem aL_at (i : Fin 512) (p : Fin 1408) : aL s t (ix2 i p) = active A (Cert.Layer.row n i) (lo p) := by
  unfold aL k0_pay6 k0_pay4 k0_pay5
  simp only [pointwise, nrm_at' ht, top_at, hs.wgate, hs.wup, zero_add, zero_sub]
  rfl

/-- The second. -/
theorem aR_at (i : Fin 512) (p : Fin 1408) : aR s t (ix2 i p) = active A (Cert.Layer.row n i) (hi p) := by
  unfold aR k0_pay11 k0_pay9 k0_pay10
  simp only [pointwise, nrm_at ht, bottom_at, hs.wgate, hs.wup, zero_add, zero_sub]
  rfl

/-- The tile of the gate. -/
theorem gate_at (i : Fin 512) (f : Fin 2816) : gate s t (ix2 i f) = Cert.Layer.gate (layer A) (Cert.Layer.row n i) f := by
  obtain ⟨p, h, rfl⟩ | ⟨p, h, rfl⟩ := halves f
  · exact (beside_left _ _ _ i p h).trans (gL_at ht hs i p)
  · exact (beside_right _ _ _ i p h).trans (gR_at ht hs i p)

/-- The tile of the values. -/
theorem up_at (i : Fin 512) (f : Fin 2816) : up s t (ix2 i f) = Cert.Layer.up (layer A) (Cert.Layer.row n i) f := by
  obtain ⟨p, h, rfl⟩ | ⟨p, h, rfl⟩ := halves f
  · exact (beside_left _ _ _ i p h).trans (uL_at ht hs i p)
  · exact (beside_right _ _ _ i p h).trans (uR_at ht hs i p)

/-- The tile of the activation. -/
theorem act_at (i : Fin 512) (f : Fin 2816) : act s t (ix2 i f) = active A (Cert.Layer.row n i) f := by
  obtain ⟨p, h, rfl⟩ | ⟨p, h, rfl⟩ := halves f
  · exact (beside_left _ _ _ i p h).trans (aL_at ht hs i p)
  · exact (beside_right _ _ _ i p h).trans (aR_at ht hs i p)

/-- The tile of the layer's output. -/
theorem out_at (i : Fin 512) (d : Fin 1024) : out s t (ix2 i d) = output A (Cert.Layer.row n i) d := by
  have hR : ∀ i p, (k0_pay11 (nrm t) (bottom s.wgate) (bottom s.wup) : FVec Ideal S512x1408 .bf16) (ix2 i p) = active A (Cert.Layer.row n i) (hi p) := aR_at ht hs
  unfold out k0_pay14
  simp only [pointwise, aL_at ht hs, hR, top_at, bottom_at, hs.wdown, ht.h, zero_add]
  exact Cert.Loss.output_halves A (Cert.Layer.row n i) d

/-- The row sums of its squares. -/
theorem squares_at (i : Fin 512) : squares s t (ix2 i 0) = ∑ k, output A (Cert.Layer.row n i) k * output A (Cert.Layer.row n i) k := by
  have ho : ∀ i d, (k0_pay14 t.h (nrm t) (aL s t) (top s.wdown) (bottom s.wgate) (bottom s.wup) (bottom s.wdown) : FVec Ideal S512x1024 .f32) (ix2 i d)
      = output A (Cert.Layer.row n i) d := out_at ht hs
  unfold squares k0_pay16
  simp only [pointwise, ho, zero_add]

/-- Its inverse root mean squares. -/
theorem inv_at (i : Fin 512) : (k0_pay17 (squares s t) : FVec Ideal S512x1 .f32) (ix2 i 0) = Mixer.inv (last A) (Cert.Layer.row n i) := by
  unfold k0_pay17
  simp only [pointwise, squares_at ht hs]
  rfl

/-- The prediction less the target. -/
theorem miss_at (i : Fin 512) (d : Fin 1024) : (k0_pay18 (out s t) t.final (squares s t) t.target : FVec Ideal S512x1024 .f32) (ix2 i d) = miss A (Cert.Layer.row n i) d := by
  unfold k0_pay18
  simp only [pointwise, out_at ht hs, inv_at ht hs, ht.final, ht.target, zero_add, reduceDIte, Nat.reduceEqDiff, OfNat.ofNat_ne_one]
  rfl

/-- The loss's gradient at the prediction. -/
theorem gMiss_at (i : Fin 512) (d : Fin 1024) : (k0_pay19 (out s t) t.final (squares s t) t.target : FVec Ideal S512x1024 .f32) (ix2 i d) = gMiss A (Cert.Layer.row n i) d := by
  unfold k0_pay19
  simp only [pointwise, miss_at ht hs]
  rfl

/-- The tile of its gradient at the layer's output. -/
theorem dout_at (i : Fin 512) (d : Fin 1024) : dout s t (ix2 i d) = gOut A (Cert.Layer.row n i) d := by
  unfold dout k0_pay20
  simp only [pointwise, gMiss_at ht hs, out_at ht hs, inv_at ht hs, ht.final, zero_add, reduceDIte, Nat.reduceEqDiff, OfNat.ofNat_ne_one]
  rfl

/-- The first row of the sums after the point. -/
theorem final_at (d : Fin 1024) : nextSums s t (ix2 0 d)
    = s.sums (ix2 0 d) + ∑ i, gMiss A (Cert.Layer.row n i) d * output A (Cert.Layer.row n i) d * Mixer.inv (last A) (Cert.Layer.row n i) := by
  unfold nextSums
  refine (put_outside _ 1 0 _ 0 d (.inl (by simp))).trans ?_
  refine (put_inside s.sums 0 0 _ 0 d ⟨Nat.zero_le _, by simp⟩ ⟨Nat.zero_le _, by omega⟩).trans ?_
  have e : (ix2 ⟨((0 : Fin 8)).val - 0, by simp⟩ ⟨d.val - 0, by omega⟩ : S1x1024.Idx) = ix2 0 d := rfl
  refine (congrArg _ e).trans ?_
  unfold k0_pay21
  simp only [pointwise, gMiss_at ht hs, out_at ht hs, inv_at ht hs, zero_add, reduceDIte, Nat.reduceEqDiff, OfNat.ofNat_ne_one]
  exact congrArg (· + _) ((window_at s.sums 0 0 _ (0 : Fin 1) d (by simp) (by omega)).trans
    (congrArg₂ (fun a b => s.sums (ix2 a b)) (Fin.ext rfl) (Fin.ext (Nat.zero_add _))))

/-- The second. -/
theorem loss_at (d : Fin 1024) : nextSums s t (ix2 1 d)
    = s.sums (ix2 1 d) + ∑ i, Cert.Loss.halfShare * (miss A (Cert.Layer.row n i) d * miss A (Cert.Layer.row n i) d) := by
  unfold nextSums
  refine (put_inside _ 1 0 _ 1 d ⟨by simp, by simp⟩ ⟨Nat.zero_le _, by omega⟩).trans ?_
  have e : (ix2 ⟨((1 : Fin 8)).val - 1, by simp⟩ ⟨d.val - 0, by omega⟩ : S1x1024.Idx) = ix2 0 d := rfl
  refine (congrArg _ e).trans ?_
  unfold k0_pay1 k0_pay22 k0_pay23
  simp only [pointwise, miss_at ht hs, zero_add]
  refine congrArg₂ (· + ·) ((window_at s.sums 1 0 _ (0 : Fin 1) d (by simp) (by omega)).trans
    (congrArg₂ (fun a b => s.sums (ix2 a b)) (Fin.ext rfl) (Fin.ext (Nat.zero_add _)))) ?_
  exact Cert.Loss.halfShare_sum _ fun i => Mixer.square_nonneg _

omit ht in
/-- The rows below stay zeros. -/
theorem rest_at (k : Fin 8) (d : Fin 1024) (hk : 2 ≤ k.val) : nextSums s t (ix2 k d) = 0 :=
  (put_outside _ 1 0 _ k d (.inr (.inl (by omega)))).trans ((put_outside s.sums 0 0 _ k d (.inr (.inl (by omega)))).trans (hs.rest k d hk))

/-- What a point leaves is what the next one starts from. -/
theorem next_is : KeptIs A (n + 1) (next s t) where
  wgate := hs.wgate
  wup := hs.wup
  wdown := hs.wdown
  final d := (final_at ht hs d).trans (by rw [hs.final, soFar_succ])
  loss d := (loss_at ht hs d).trans (by rw [hs.loss, soFar_succ])
  rest k d hk := rest_at hs k d hk

end Point

/-- Before the first point: the gathered weights and zeros. -/
theorem start_is {w : Vec Ideal S8x3008x1024 .bf16} (hw : PackIs (layer A) w) : KeptIs A 0 (start w) where
  wgate f d := (Cert.FfnIdeal.Layer.start_is (layer A) hw).wgate f d
  wup f d := (Cert.FfnIdeal.Layer.start_is (layer A) hw).wup f d
  wdown f d := (Cert.FfnIdeal.Layer.start_is (layer A) hw).wdown f d
  final d := Ideal.ofBits_zero_f32
  loss d := Ideal.ofBits_zero_f32
  rest k d _ := Ideal.ofBits_zero_f32

end Cert.HeadIdeal.Layer

end
-- ==== Proof.HeadBackward.lean ====
module

public import proofs.«01_k».proof.Proof.HeadSpec
public import proofs.«01_k».proof.Proof.FfnBackward
public import proofs.«01_k».proof.Proof.Gen.HeadRefIdeal
public import proofs.«01_k».proof.Proof.Gen.HeadRefIdeal.Run

@[expose] public section

noncomputable section

/-! # The last layer's reference, forward and backward

The reference's operations gathered into functions of its arguments, and what each array holds at an index. -/

namespace Cert.Loss

open Idealize.ShloMosaic Idealize.ShloMosaic.TcCoe Cert.HeadRefIdeal Cert.HeadRefIdeal.Gen
open Cert.Layer (hiddenOf normedOf sigR)
open scoped BigOperators

/-- The formulas' arguments read off arrays. -/
def argsOf (h : FVec Ideal S4096x1024 .f32) (a : FVec Ideal S1x1024 .f32) (wg wu : FVec Ideal S1024x2816 .f32) (wd : FVec Ideal S2816x1024 .f32)
    (y : FVec Ideal S4096x1024 .f32) (b : FVec Ideal S1x1024 .f32) : Args where
  h s d := h (ix2 s d)
  gamma d := a (ix2 0 d)
  wgate d f := wg (ix2 d f)
  wup d f := wu (ix2 d f)
  wdown f d := wd (ix2 f d)
  target s d := y (ix2 s d)
  final d := b (ix2 0 d)

/-- The activation of the gate `p` and the values `q`. -/
def activeR (p q : FVec Ideal S4096x2816 .f32) : FVec Ideal S4096x2816 .f32 := mulf (mulf p (sigR p)) q

/-- The layer's output. -/
def outputR (h : FVec Ideal S4096x1024 .f32) (a : FVec Ideal S1x1024 .f32) (wg wu : FVec Ideal S1024x2816 .f32) (wd : FVec Ideal S2816x1024 .f32) :
    FVec Ideal S4096x1024 .f32 :=
  addf h (Host.dotGeneral dot_S4096x2816_S2816x1024_S4096x1024_1_0_0_1_n_n none (activeR (hiddenOf h a wg) (hiddenOf h a wu)) wd)

/-- The prediction less the target, from the layer's output. -/
def missR (x : FVec Ideal S4096x1024 .f32) (b : FVec Ideal S1x1024 .f32) (y : FVec Ideal S4096x1024 .f32) : FVec Ideal S4096x1024 .f32 :=
  subf (normedOf x b) y

/-- The loss's gradient at the prediction, from the miss `e`. -/
def gMissR (e : FVec Ideal S4096x1024 .f32) : FVec Ideal S4096x1024 .f32 :=
  mulf (broadcastInDim S4096x1024 ![0] bcast_S4096_S4096x1024_0
      (Host.divf (broadcastInDim S4096 ![] bcast_S_S4096 (mulf (constant S_ .f32 0x3F000000#32) (constant S_ .f32 0x3F800000#32)))
        (broadcastInDim S4096 ![] bcast_S_S4096 (constant S_ .f32 0x44800000#32))))
    (mulf (broadcastInDim S4096x1024 ![] bcast_S_S4096x1024 (constant S_ .f32 0x40000000#32)) e)

/-- The gradient at a normalised array, from the gradient `u` before the gain. -/
def gOutR (x u : FVec Ideal S4096x1024 .f32) : FVec Ideal S4096x1024 .f32 :=
  addf (addf (mulf u (broadcastInDim S4096x1024 ![0, 1] bcast_S4096x1_S4096x1024_0_1 (Host.rsqrt (Mixer.underOf x)))) (mulf x (Mixer.sideR x u))) (mulf (Mixer.sideR x u) x)

/-- The loss feature by feature, from the miss `e`. -/
def perFeatureR (e : FVec Ideal S4096x1024 .f32) : FVec Ideal S1x1024 .f32 :=
  mulf (broadcastInDim S1x1024 ![] bcast_S_S1x1024 (constant S_ .f32 0x3F000000#32))
    (broadcastInDim S1x1024 ![1] bcast_S1024_S1x1024_1
      (Host.reduceAdd (Host.divf (mulf e e) (broadcastInDim S4096x1024 ![] bcast_S_S4096x1024 (constant S_ .f32 0x44800000#32))) (constant S_ .f32 0x00000000#32) reducesTo_S4096x1024_S1024_d0 h_S_))

/-- The final scale's gradient and the loss in the first two of eight rows. -/
def statsR (r q : FVec Ideal S1x1024 .f32) : FVec Ideal S8x1024 .f32 :=
  concatenate S8x1024 0 [⟨S1x1024, r⟩, ⟨S1x1024, q⟩, ⟨S6x1024, (broadcastInDim S6x1024 ![] bcast_S_S6x1024 (constant S_ .f32 0x00000000#32) : FVec Ideal S6x1024 .f32)⟩]
    concatenates_S1x1024_S1x1024_S6x1024_S8x1024_d0

section Results
variable (m : (ℓ : Loc nD τ Cert.HeadRefIdeal.sig) → Buf (Elt Ideal) ℓ) (c : Dev nD)

/-- The arguments in memory. -/
abbrev hIn : FVec Ideal S4096x1024 .f32 := m ((c.tc : Thread nD τ).loc main_arg0)
/-- The norm's gain. -/
abbrev aIn : FVec Ideal S1x1024 .f32 := m ((c.tc : Thread nD τ).loc main_arg1)
/-- The gate's weight. -/
abbrev wgIn : FVec Ideal S1024x2816 .f32 := m ((c.tc : Thread nD τ).loc main_arg2)
/-- The values'. -/
abbrev wuIn : FVec Ideal S1024x2816 .f32 := m ((c.tc : Thread nD τ).loc main_arg3)
/-- The output projection. -/
abbrev wdIn : FVec Ideal S2816x1024 .f32 := m ((c.tc : Thread nD τ).loc main_arg4)
/-- The targets. -/
abbrev yIn : FVec Ideal S4096x1024 .f32 := m ((c.tc : Thread nD τ).loc main_arg5)
/-- The final norm's scale. -/
abbrev bIn : FVec Ideal S1x1024 .f32 := m ((c.tc : Thread nD τ).loc main_arg6)
/-- The layer's output, of the arguments in memory. -/
def outIn : FVec Ideal S4096x1024 .f32 := outputR (hIn m c) (aIn m c) (wgIn m c) (wuIn m c) (wdIn m c)
/-- The prediction less the target. -/
def missIn : FVec Ideal S4096x1024 .f32 := missR (outIn m c) (bIn m c) (yIn m c)

set_option maxRecDepth 8192

/-- The reference's results are these arrays: the gradient at the layer's output. -/
theorem res_dout : Value.res_main_v71 m c = gOutR (outIn m c) (mulf (gMissR (missIn m c)) (Mixer.spread (bIn m c))) := by
  unfold Value.res_main_v71
  rfl
/-- The final scale's gradient and the loss. -/
theorem res_stats : Value.res_main_v96 m c = statsR (Mixer.down (mulf (Mixer.scaledOf (outIn m c)) (gMissR (missIn m c)))) (perFeatureR (missIn m c)) := by
  unfold Value.res_main_v96
  rfl

end Results

section At
variable (h : FVec Ideal S4096x1024 .f32) (a : FVec Ideal S1x1024 .f32) (wg wu : FVec Ideal S1024x2816 .f32) (wd : FVec Ideal S2816x1024 .f32)
  (y : FVec Ideal S4096x1024 .f32) (b : FVec Ideal S1x1024 .f32)

/-- The gate at an index. -/
theorem gate_at (s : Fin 4096) (f : Fin 2816) : hiddenOf h a wg (ix2 s f) = Layer.gate (layer (argsOf h a wg wu wd y b)) s f :=
  Layer.gate_at h a wg wu wd (fun _ => 0) s f
/-- The values. -/
theorem up_at (s : Fin 4096) (f : Fin 2816) : hiddenOf h a wu (ix2 s f) = Layer.up (layer (argsOf h a wg wu wd y b)) s f :=
  Layer.up_at h a wg wu wd (fun _ => 0) s f
/-- The normalised input. -/
theorem normed_at (s : Fin 4096) (d : Fin 1024) : normedOf h a (ix2 s d) = Mixer.normed (Layer.norm (layer (argsOf h a wg wu wd y b))) s d :=
  Layer.normed_at h a wg wu wd (fun _ => 0) s d

/-- The activation. -/
theorem activeR_at (s : Fin 4096) (f : Fin 2816) : activeR (hiddenOf h a wg) (hiddenOf h a wu) (ix2 s f) = active (argsOf h a wg wu wd y b) s f := by
  unfold activeR
  simp only [pointwise, Layer.sigR_at, gate_at h a wg wu wd y b, up_at h a wg wu wd y b]
  rfl

/-- The layer's output. -/
theorem outputR_at (s : Fin 4096) (d : Fin 1024) : outputR h a wg wu wd (ix2 s d) = output (argsOf h a wg wu wd y b) s d := by
  unfold outputR
  simp only [pointwise, zero_add, activeR_at h a wg wu wd y b]
  rfl

/-- The final norm's arguments read off the layer's output are the formulas'. -/
theorem last_is : Mixer.argsOf (outputR h a wg wu wd) b (fun _ => 0) (fun _ => 0) (fun _ => 0) (fun _ => 0) = last (argsOf h a wg wu wd y b) := by
  have e : (fun s d => outputR h a wg wu wd (ix2 s d)) = output (argsOf h a wg wu wd y b) := funext fun s => funext fun d => outputR_at h a wg wu wd y b s d
  unfold Mixer.argsOf last
  rw [e]
  rfl

/-- Its mean square at a row. -/
theorem under_at (s : Fin 4096) : Mixer.underOf (outputR h a wg wu wd) (ix2 s 0) = Mixer.under (last (argsOf h a wg wu wd y b)) s :=
  (Mixer.underOf_at (a := b) (w := fun _ => 0) (t := fun _ => 0) (o := fun _ => 0) (g := fun _ => 0) s).trans (by rw [last_is h a wg wu wd y b])

/-- The output over its root mean square. -/
theorem scaled_at (s : Fin 4096) (d : Fin 1024) : Mixer.scaledOf (outputR h a wg wu wd) (ix2 s d) = Mixer.scaled (last (argsOf h a wg wu wd y b)) s d :=
  (Mixer.scaledOf_at (a := b) (w := fun _ => 0) (t := fun _ => 0) (o := fun _ => 0) (g := fun _ => 0) s d).trans (by rw [last_is h a wg wu wd y b])

/-- The part of a gradient through the mean square. -/
theorem side_at (u : FVec Ideal S4096x1024 .f32) (s : Fin 4096) (d : Fin 1024) : Mixer.sideR (outputR h a wg wu wd) u (ix2 s d)
    = Ideal.div ((∑ k, output (argsOf h a wg wu wd y b) s k * u (ix2 s k)) * (Mixer.minusHalf * Ideal.div (Mixer.inv (last (argsOf h a wg wu wd y b)) s) (Mixer.under (last (argsOf h a wg wu wd y b)) s))) Mixer.width :=
  (Mixer.sideR_at (outputR h a wg wu wd) b (fun _ => 0) (fun _ => 0) (fun _ => 0) (fun _ => 0) u s d).trans (by
    rw [last_is h a wg wu wd y b]
    simp only [outputR_at h a wg wu wd y b])

/-- The prediction less the target. -/
theorem missR_at (s : Fin 4096) (d : Fin 1024) : missR (outputR h a wg wu wd) b y (ix2 s d) = miss (argsOf h a wg wu wd y b) s d :=
  congrArg (· - y (ix2 s d)) (congrArg₂ (· * ·) (scaled_at h a wg wu wd y b s d) (Mixer.spread_at b s d))

/-- The loss's gradient at the prediction. -/
theorem gMissR_at (s : Fin 4096) (d : Fin 1024) : gMissR (missR (outputR h a wg wu wd) b y) (ix2 s d) = gMiss (argsOf h a wg wu wd y b) s d := by
  unfold gMissR
  simp only [pointwise, missR_at h a wg wu wd y b, reduceDIte, Nat.reduceEqDiff, OfNat.ofNat_ne_one]
  exact (congrArg (fun x => Ideal.div (half * x) Mixer.width * _) one_eq.symm).trans (square_back _)

/-- Its gradient at the layer's output. -/
theorem gOutR_at (s : Fin 4096) (d : Fin 1024) : gOutR (outputR h a wg wu wd) (mulf (gMissR (missR (outputR h a wg wu wd) b y)) (Mixer.spread b)) (ix2 s d)
    = gOut (argsOf h a wg wu wd y b) s d := by
  unfold gOutR
  rw [gOut_eq]
  simp only [pointwise, zero_add, reduceDIte, Nat.reduceEqDiff, OfNat.ofNat_ne_one, under_at h a wg wu wd y b, side_at h a wg wu wd y b,
    gMissR_at h a wg wu wd y b, outputR_at h a wg wu wd y b, Mixer.spread_at]
  rfl

/-- The final scale's gradient. -/
theorem gFinalR_at (d : Fin 1024) : Mixer.down (mulf (Mixer.scaledOf (outputR h a wg wu wd)) (gMissR (missR (outputR h a wg wu wd) b y))) (ix2 0 d)
    = gFinal (argsOf h a wg wu wd y b) d := by
  rw [Mixer.down_at]
  unfold gFinal
  refine Finset.sum_congr rfl fun s _ => ?_
  refine (congrArg₂ (· * ·) (scaled_at h a wg wu wd y b s d) (gMissR_at h a wg wu wd y b s d)).trans ?_
  unfold Mixer.scaled
  rw [mul_comm, mul_assoc]
  rfl

/-- The loss at a feature. -/
theorem perFeatureR_at (d : Fin 1024) : perFeatureR (missR (outputR h a wg wu wd) b y) (ix2 0 d) = perFeature (argsOf h a wg wu wd y b) d := by
  rw [← perFeature_eq]
  unfold perFeatureR
  simp only [pointwise, zero_add, missR_at h a wg wu wd y b, reduceDIte, Nat.reduceEqDiff, OfNat.ofNat_ne_one]
  rfl

end At

section Rows
variable (r q : FVec Ideal S1x1024 .f32)

/-- The first of the eight rows. -/
theorem statsR_first (e : Fin 1024) : statsR r q (ix2 0 e) = r (ix2 0 e) := by
  unfold statsR
  refine concatenate_apply_piece (t := S8x1024) _ _ _ _ 0 (by simp) S1x1024 _ rfl rfl 0 (by simp) (ix2 0 e) (fun i hi => ?_) ?_
  · match i with
    | ⟨1, _⟩ => rfl
  · rfl

/-- The second. -/
theorem statsR_second (e : Fin 1024) : statsR r q (ix2 1 e) = q (ix2 0 e) := by
  unfold statsR
  refine concatenate_apply_piece (t := S8x1024) _ _ _ _ 1 (by simp) S1x1024 _ rfl rfl 1 (by simp) (ix2 0 e) (fun i hi => ?_) ?_
  · match i with
    | ⟨1, _⟩ => rfl
  · rfl

/-- The rest. -/
theorem statsR_rest (k : Fin 8) (hk : 2 ≤ k.val) (e : Fin 1024) : statsR r q (ix2 k e) = 0 := by
  unfold statsR
  refine (concatenate_apply_piece (t := S8x1024) _ _ _ _ 2 (by simp) S6x1024 _ rfl rfl 2 (by simp) (ix2 (n0 := 6) ⟨k.val - 2, by omega⟩ e) (fun i hi => ?_) ?_).trans Ideal.ofBits_zero_f32
  · match i with
    | ⟨1, _⟩ => rfl
  · show 2 + (k.val - 2) = k.val
    omega

end Rows

end Cert.Loss

end
-- ==== Proof.HeadPrefix.lean ====
module

public import proofs.«01_k».proof.Proof.HeadLaunch
public import proofs.«01_k».proof.Proof.HeadStepValue
public import proofs.«01_k».proof.Proof.HeadBackward
public import proofs.«01_k».proof.Proof.FfnPrefix
public import Idealize.ShloMosaic.Lib.Pipeline.ValueKit.Point

@[expose] public section

noncomputable section

/-! # What the last layer's launch finds, and what it keeps -/

namespace Cert.HeadIdeal.Layer

open Idealize.ShloMosaic Idealize.ShloMosaic.TcCoe Cert.HeadIdeal.Gen Cert.Loss
open scoped BigOperators

variable (m : (ℓ : Loc nD τ sig) → Buf (Elt Ideal) ℓ) (c : Dev nD)

/-- The formulas' arguments in the launch's memory. -/
def args : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

set_option maxRecDepth 8192

/-- The packed weights in the launch's memory: the host packs them as for the backward pass. -/
def packIn : FVec Ideal S8x3008x1024 .f32 :=
  Cert.FfnIdeal.Layer.packOf (m ((c.tc : Thread nD τ).loc main_arg2)) (m ((c.tc : Thread nD τ).loc main_arg3)) (m ((c.tc : Thread nD τ).loc main_arg4))

/-- The launch's packed weights are these, rounded. -/
theorem read_pack : V m c main_v7 = truncf .bf16 (packIn m c) bitsLt_bf16_f32 := by
  unfold packIn
  rfl

/-- They hold the three weights share by share. -/
theorem packIn_is : Cert.FfnIdeal.Layer.PackIs (layer (args m c)) (packIn m c) :=
  Cert.FfnIdeal.Layer.packOf_is (m ((c.tc : Thread nD τ).loc main_arg0)) (m ((c.tc : Thread nD τ).loc main_arg1)) _ _ _ fun _ => 0

/-- The index maps: point `t` has the tile of its number; the two scales and the sums are whole. -/
theorem where_are (t : Fin cfg0.N) : win0_0.index t = ![t.val % 8, 0] ∧ win0_1.index t = ![0, 0] ∧ win0_2.index t = ![t.val % 8, 0]
    ∧ win0_3.index t = ![0, 0] ∧ win0_4.index t = ![t.val % 8, 0] ∧ win0_5.index t = ![t.val % 8, 0] ∧ win0_6.index t = ![t.val % 8, 0]
    ∧ win0_7.index t = ![t.val % 8, 0] ∧ win0_8.index t = ![t.val % 8, 0] ∧ win0_9.index t = ![0, 0] := by
  revert t
  decide +kernel

/-- The block of the input is its tile. -/
theorem block0 (t : Fin cfg0.N) (i : Fin 512) (e : Fin 1024) : (iblk m c 0 t : S512x1024.Idx → EReal) (ix2 i e) = V m c main_arg0 (ix2 (Cert.Layer.row t.val i) e) := by
  blk_ext [iblk, where_are t, Cert.Layer.row]
/-- The gain's block is the gain. -/
theorem block1 (t : Fin cfg0.N) (e : Fin 1024) : (iblk m c 1 t : S1x1024.Idx → EReal) (ix2 0 e) = V m c main_arg1 (ix2 0 e) := by
  blk_ext [iblk, where_are t]
/-- The targets' block is their tile. -/
theorem block2 (t : Fin cfg0.N) (i : Fin 512) (e : Fin 1024) : (iblk m c 2 t : S512x1024.Idx → EReal) (ix2 i e) = V m c main_arg5 (ix2 (Cert.Layer.row t.val i) e) := by
  blk_ext [iblk, where_are t, Cert.Layer.row]
/-- The final scale's block is the final scale. -/
theorem block3 (t : Fin cfg0.N) (e : Fin 1024) : (iblk m c 3 t : S1x1024.Idx → EReal) (ix2 0 e) = V m c main_arg6 (ix2 0 e) := by
  blk_ext [iblk, where_are t]

/-- Point `t`'s tile is the formulas'. -/
theorem tile_is (t : Fin cfg0.N) : TileIs (args m c) t.val (tile m c t) where
  h i e := by
    dsimp only [tile]
    exact (block0 m c t i e).trans (by rw [V_main_arg0]; rfl)
  gamma e := by
    dsimp only [tile]
    exact (block1 m c t e).trans (by rw [V_main_arg1]; rfl)
  target i e := by
    dsimp only [tile]
    exact (block2 m c t i e).trans (by rw [V_main_arg5]; rfl)
  final e := by
    dsimp only [tile]
    exact (block3 m c t e).trans (by rw [V_main_arg6]; rfl)

/-- Before every point what is kept is the formulas'. -/
theorem kept_is : ∀ n, n ≤ 8 → KeptIs (args m c) n (keptAt m c n)
  | 0, _ => start_is (A := args m c) (by
      have e : hbM0_0.view.read (Elt Ideal) (V m c main_v7) = packIn m c := read_pack m c
      rw [e]
      exact packIn_is m c)
  | n + 1, h => by
      have e := keptAt_succ m c ⟨n, h⟩
      exact e ▸ next_is (tile_is m c ⟨n, h⟩) (kept_is n (by omega))

end Cert.HeadIdeal.Layer

end
-- ==== Proof.HeadArrays.lean ====
module

public import proofs.«01_k».proof.Proof.HeadPrefix

@[expose] public section

noncomputable section

/-! # The last layer's result arrays -/

namespace Cert.HeadIdeal.Layer

open Idealize.ShloMosaic Idealize.ShloMosaic.TcCoe Cert.HeadIdeal.Gen
open Cert.Loss (layer active gOut)

variable (m : (ℓ : Loc nD τ sig) → Buf (Elt Ideal) ℓ) (c : Dev nD)

/-- The gradient at the layer's output ends at the formulas'. -/
theorem final_dout : (dats m 0 c).arrAt 4 cfg0.N = (fun j => gOut (args m c) (j 0) (j 1) : S4096x1024.Idx → EReal) := by
  refine (dats m 0 c).arrAt_eq_of_covers 4 _ (by decide +kernel) fun t hf y => ?_
  blk_simp
  rw [after_4]
  obtain ⟨i, k, rfl⟩ : ∃ (i : Fin 512) (k : Fin 1024), (y : S512x1024.Idx) = ix2 i k := ⟨y 0, y 1, eq_ix2 y⟩
  have e : (win0_4.blk t).view.emb (ix2 i k : S512x1024.Idx) = (ix2 (Cert.Layer.row t.val i) k : S4096x1024.Idx) := by
    blk_ext [where_are t, Cert.Layer.row]
  refine (dout_at (tile_is m c t) (kept_is m c t.val (le_of_lt t.isLt)) i k).trans ?_
  generalize gOut (args m c) = G
  exact congrArg (fun j : S4096x1024.Idx => G (j 0) (j 1)) e.symm

/-- The normalised input. -/
theorem final_nrm : (dats m 0 c).arrAt 5 cfg0.N = (fun j => Mixer.normed (Cert.Layer.norm (layer (args m c))) (j 0) (j 1) : S4096x1024.Idx → EReal) := by
  refine (dats m 0 c).arrAt_eq_of_covers 5 _ (by decide +kernel) fun t hf y => ?_
  blk_simp
  rw [after_5]
  obtain ⟨i, k, rfl⟩ : ∃ (i : Fin 512) (k : Fin 1024), (y : S512x1024.Idx) = ix2 i k := ⟨y 0, y 1, eq_ix2 y⟩
  have e : (win0_5.blk t).view.emb (ix2 i k : S512x1024.Idx) = (ix2 (Cert.Layer.row t.val i) k : S4096x1024.Idx) := by
    blk_ext [where_are t, Cert.Layer.row]
  refine (nrm_at (tile_is m c t) i k).trans ?_
  exact congrArg (fun j : S4096x1024.Idx => Mixer.normed (Cert.Layer.norm (layer (args m c))) (j 0) (j 1)) e.symm

/-- The gate. -/
theorem final_gate : (dats m 0 c).arrAt 6 cfg0.N = (fun j => Cert.Layer.gate (layer (args m c)) (j 0) (j 1) : S4096x2816.Idx → EReal) := by
  refine (dats m 0 c).arrAt_eq_of_covers 6 _ (by decide +kernel) fun t hf y => ?_
  blk_simp
  rw [after_6]
  obtain ⟨i, k, rfl⟩ : ∃ (i : Fin 512) (k : Fin 2816), (y : S512x2816.Idx) = ix2 i k := ⟨y 0, y 1, eq_ix2 y⟩
  have e : (win0_6.blk t).view.emb (ix2 i k : S512x2816.Idx) = (ix2 (Cert.Layer.row t.val i) k : S4096x2816.Idx) := by
    blk_ext [where_are t, Cert.Layer.row]
  refine (gate_at (tile_is m c t) (kept_is m c t.val (le_of_lt t.isLt)) i k).trans ?_
  exact congrArg (fun j : S4096x2816.Idx => Cert.Layer.gate (layer (args m c)) (j 0) (j 1)) e.symm

/-- The values. -/
theorem final_up : (dats m 0 c).arrAt 7 cfg0.N = (fun j => Cert.Layer.up (layer (args m c)) (j 0) (j 1) : S4096x2816.Idx → EReal) := by
  refine (dats m 0 c).arrAt_eq_of_covers 7 _ (by decide +kernel) fun t hf y => ?_
  blk_simp
  rw [after_7]
  obtain ⟨i, k, rfl⟩ : ∃ (i : Fin 512) (k : Fin 2816), (y : S512x2816.Idx) = ix2 i k := ⟨y 0, y 1, eq_ix2 y⟩
  have e : (win0_7.blk t).view.emb (ix2 i k : S512x2816.Idx) = (ix2 (Cert.Layer.row t.val i) k : S4096x2816.Idx) := by
    blk_ext [where_are t, Cert.Layer.row]
  refine (up_at (tile_is m c t) (kept_is m c t.val (le_of_lt t.isLt)) i k).trans ?_
  exact congrArg (fun j : S4096x2816.Idx => Cert.Layer.up (layer (args m c)) (j 0) (j 1)) e.symm

/-- The activation. -/
theorem final_act : (dats m 0 c).arrAt 8 cfg0.N = (fun j => active (args m c) (j 0) (j 1) : S4096x2816.Idx → EReal) := by
  refine (dats m 0 c).arrAt_eq_of_covers 8 _ (by decide +kernel) fun t hf y => ?_
  blk_simp
  rw [after_8]
  obtain ⟨i, k, rfl⟩ : ∃ (i : Fin 512) (k : Fin 2816), (y : S512x2816.Idx) = ix2 i k := ⟨y 0, y 1, eq_ix2 y⟩
  have e : (win0_8.blk t).view.emb (ix2 i k : S512x2816.Idx) = (ix2 (Cert.Layer.row t.val i) k : S4096x2816.Idx) := by
    blk_ext [where_are t, Cert.Layer.row]
  refine (act_at (tile_is m c t) (kept_is m c t.val (le_of_lt t.isLt)) i k).trans ?_
  generalize active (args m c) = G
  exact congrArg (fun j : S4096x2816.Idx => G (j 0) (j 1)) e.symm

/-- The sums end at the last point's. -/
theorem final_sums : (dats m 0 c).arrAt 9 cfg0.N = (keptAt m c 8).sums := by
  refine (dats m 0 c).arrAt_eq_of_covers 9 _ (by decide +kernel) fun t hf y => ?_
  blk_simp
  rw [after_9]
  have e : t.val + 1 = 8 := by
    have h := (flush0_9 t).mp hf
    have : t.val < 8 := t.isLt
    omega
  rw [e]
  refine congrArg (keptAt m c 8).sums (?_ : (y : S8x1024.Idx) = _)
  blk_ext [where_are t]

/-- Every run ends with the six results at these values and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v8_0) = (fun j => gOut (args m c) (j 0) (j 1) : S4096x1024.Idx → EReal)
      ∧ r.2.mem ((c.tc : Thread nD τ).loc main_v8_1) = (fun j => Mixer.normed (Cert.Layer.norm (layer (args m c))) (j 0) (j 1) : S4096x1024.Idx → EReal)
      ∧ r.2.mem ((c.tc : Thread nD τ).loc main_v8_2) = (fun j => Cert.Layer.gate (layer (args m c)) (j 0) (j 1) : S4096x2816.Idx → EReal)
      ∧ r.2.mem ((c.tc : Thread nD τ).loc main_v8_3) = (fun j => Cert.Layer.up (layer (args m c)) (j 0) (j 1) : S4096x2816.Idx → EReal)
      ∧ r.2.mem ((c.tc : Thread nD τ).loc main_v8_4) = (fun j => active (args m c) (j 0) (j 1) : S4096x2816.Idx → EReal)
      ∧ r.2.mem ((c.tc : Thread nD τ).loc main_v8_5) = (keptAt m c 8).sums
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨((h.2 c).1 4).trans (final_dout m c), ((h.2 c).1 5).trans (final_nrm m c), ((h.2 c).1 6).trans (final_gate m c),
        ((h.2 c).1 7).trans (final_up m c), ((h.2 c).1 8).trans (final_act m c), ((h.2 c).1 9).trans (final_sums m c), h.1.1 c⟩)
    (θ_run_and (frame_main m ρ) (run_main m ρ))

end Cert.HeadIdeal.Layer

end
-- ==== Proof.HeadSame.lean ====
module

public import proofs.«01_k».proof.Head
public import proofs.«01_k».proof.HeadIdeal
public import proofs.«01_k».proof.Proof.Gen.Head
public import proofs.«01_k».proof.Proof.Gen.HeadIdeal

@[expose] public section

noncomputable section

/-! # The last layer with the loss: one text, two names

The program as printed and the program printed for the extended reals are the same program: here, that their body tables and their @mains are equal. -/

namespace Cert.HeadIdeal.Layer

open Idealize.ShloMosaic Idealize.SL.Sem

local instance : Cert.Head.Facts := Cert.Head.Gen.facts
local instance : Cert.HeadIdeal.Facts := Cert.HeadIdeal.Gen.facts

variable {F : FTy → Type} [FloatOps F]

set_option maxHeartbeats 4000000 in
/-- The two body tables are equal: each has one label, and the label runs the same body on the same buffers. -/
theorem bodies_same : Cert.Head.defs₀ (F := F) = Cert.HeadIdeal.defs₀ (F := F) := by
  unfold Cert.Head.defs₀ Cert.HeadIdeal.defs₀
  congr 1
  funext l p
  match l, p with
  | 0, (t, s) => rfl

/-- So are the tables with the pipeline around the body. -/
theorem defs_same : Cert.Head.defs (F := F) = Cert.HeadIdeal.defs (F := F) :=
  show Pipeline.defs Cert.HeadIdeal.pcfgs (Cert.Head.defs₀ (F := F)) = Pipeline.defs Cert.HeadIdeal.pcfgs Cert.HeadIdeal.defs₀ from
    congrArg (Pipeline.defs Cert.HeadIdeal.pcfgs) bodies_same

set_option maxHeartbeats 4000000 in
set_option maxRecDepth 8192 in
/-- So are the two @mains. -/
theorem main_same : Cert.Head.main (F := F) = Cert.HeadIdeal.main (F := F) := rfl

end Cert.HeadIdeal.Layer

end
-- ==== Proof.HeadMatch.lean ====
module

public import proofs.«01_k».proof.Defs
public import proofs.«01_k».proof.Proof.Gen.Head
public import proofs.«01_k».proof.Proof.HeadArrays
public import proofs.«01_k».proof.Proof.HeadSame

@[expose] public section

noncomputable section

/-! # The last layer's claims

Its kernel's results are the reference's values and derivatives, and each program runs and leaves its arguments and counters as they were. -/

namespace Cert.Loss

open Idealize.ShloMosaic Idealize.SL.Sem Cert.HeadRefIdeal Cert.HeadRefIdeal.Gen
open Cert.Layer (hiddenOf normedOf soFar_all)

section Arrays
variable (h : FVec Ideal S4096x1024 .f32) (a : FVec Ideal S1x1024 .f32) (wg wu : FVec Ideal S1024x2816 .f32) (wd : FVec Ideal S2816x1024 .f32)
  (y : FVec Ideal S4096x1024 .f32) (b : FVec Ideal S1x1024 .f32)

/-- The gradient at the layer's output. -/
theorem match_dout : (fun j => gOut (argsOf h a wg wu wd y b) (j 0) (j 1) : S4096x1024.Idx → EReal)
    = gOutR (outputR h a wg wu wd) (mulf (gMissR (missR (outputR h a wg wu wd) b y)) (Mixer.spread b)) := by
  funext j
  obtain ⟨s, d, rfl⟩ : ∃ (s : Fin 4096) (d : Fin 1024), j = ix2 s d := ⟨j 0, j 1, eq_ix2 j⟩
  exact (gOutR_at h a wg wu wd y b s d).symm

/-- The normalised input. -/
theorem match_nrm : (fun j => Mixer.normed (Layer.norm (layer (argsOf h a wg wu wd y b))) (j 0) (j 1) : S4096x1024.Idx → EReal)
    = truncf .bf16 (normedOf h a) bitsLt_bf16_f32 := by
  funext j
  obtain ⟨s, d, rfl⟩ : ∃ (s : Fin 4096) (d : Fin 1024), j = ix2 s d := ⟨j 0, j 1, eq_ix2 j⟩
  exact (normed_at h a wg wu wd y b s d).symm

/-- The gate. -/
theorem match_gate : (fun j => Layer.gate (layer (argsOf h a wg wu wd y b)) (j 0) (j 1) : S4096x2816.Idx → EReal)
    = truncf .bf16 (hiddenOf h a wg) bitsLt_bf16_f32 := by
  funext j
  obtain ⟨s, d, rfl⟩ : ∃ (s : Fin 4096) (d : Fin 2816), j = ix2 s d := ⟨j 0, j 1, eq_ix2 j⟩
  exact (gate_at h a wg wu wd y b s d).symm

/-- The values. -/
theorem match_up : (fun j => Layer.up (layer (argsOf h a wg wu wd y b)) (j 0) (j 1) : S4096x2816.Idx → EReal)
    = truncf .bf16 (hiddenOf h a wu) bitsLt_bf16_f32 := by
  funext j
  obtain ⟨s, d, rfl⟩ : ∃ (s : Fin 4096) (d : Fin 2816), j = ix2 s d := ⟨j 0, j 1, eq_ix2 j⟩
  exact (up_at h a wg wu wd y b s d).symm

/-- The activation. -/
theorem match_act : (fun j => active (argsOf h a wg wu wd y b) (j 0) (j 1) : S4096x2816.Idx → EReal)
    = truncf .bf16 (activeR (hiddenOf h a wg) (hiddenOf h a wu)) bitsLt_bf16_f32 := by
  funext j
  obtain ⟨s, d, rfl⟩ : ∃ (s : Fin 4096) (d : Fin 2816), j = ix2 s d := ⟨j 0, j 1, eq_ix2 j⟩
  exact (activeR_at h a wg wu wd y b s d).symm

/-- The eight rows. -/
theorem match_stats {s : Cert.HeadIdeal.Layer.Kept Ideal} (hs : Cert.HeadIdeal.Layer.KeptIs (argsOf h a wg wu wd y b) 8 s) :
    s.sums = statsR (Mixer.down (mulf (Mixer.scaledOf (outputR h a wg wu wd)) (gMissR (missR (outputR h a wg wu wd) b y)))) (perFeatureR (missR (outputR h a wg wu wd) b y)) := by
  funext j
  obtain ⟨k, e, rfl⟩ : ∃ (k : Fin 8) (e : Fin 1024), j = ix2 k e := ⟨j 0, j 1, eq_ix2 j⟩
  by_cases hk : 2 ≤ k.val
  · exact (hs.rest k e hk).trans (statsR_rest _ _ k hk e).symm
  · obtain rfl | rfl : k = 0 ∨ k = 1 := by
      have h2 : k.val = 0 ∨ k.val = 1 := by omega
      exact h2.imp (fun h => Fin.ext h) fun h => Fin.ext h
    · rw [statsR_first, gFinalR_at h a wg wu wd y b]
      exact (hs.final e).trans (soFar_all _)
    · rw [statsR_second, perFeatureR_at h a wg wu wd y b]
      exact (hs.loss e).trans (soFar_all _)

end Arrays

/-- The last layer, as printed, runs and leaves its arguments and counters as they were: the two programs are one text (Proof.HeadSame), so
this is the run read at bits. -/
theorem frame_kernel : Cert.quiescent_Head (hHead := Cert.Head.Gen.facts) := fun m ρ _ => by
  have h := Cert.HeadIdeal.Layer.frame_main (F := Bits) m ρ
  rw [← Cert.HeadIdeal.Layer.defs_same, ← Cert.HeadIdeal.Layer.main_same] at h
  exact h

/-- Over the extended reals it does too. -/
theorem frame_ideal : Cert.quiescent_HeadIdeal (hHeadIdeal := Cert.HeadIdeal.Gen.facts) := fun m ρ _ =>
  Cert.HeadIdeal.Layer.frame_main (F := Ideal) m ρ

/-- The reference runs and leaves its arguments and counters as they were. -/
theorem frame_reference : Cert.quiescent_HeadRefIdeal (hHeadRefIdeal := Cert.HeadRefIdeal.Gen.facts) := fun m ρ _ =>
  (θ_run Cert.HeadRefIdeal.defs _ _).mono (fun r h => ⟨fun c => (h c).2.2.2.2.2.2, sem_eq_zero_of_no_sems (by decide) r.2⟩)
    (Cert.HeadRefIdeal.Value.run (F := Ideal) m ρ)

set_option maxRecDepth 8192 in
/-- From the same arguments, the kernel and the reference end with the same six results over the extended reals. -/
theorem algebraic : Cert.algebraic_HeadIdeal_HeadRefIdeal (hHeadIdeal := Cert.HeadIdeal.Gen.facts) (hHeadRefIdeal := Cert.HeadRefIdeal.Gen.facts) :=
  fun m ρ m' ρ' _ ha => by
  have hA : ∀ c, argsOf (hIn m' c) (aIn m' c) (wgIn m' c) (wuIn m' c) (wdIn m' c) (yIn m' c) (bIn m' c) = Cert.HeadIdeal.Layer.args m c := fun c => by
    obtain ⟨h0, h1, h2, h3, h4, h5, h6⟩ := ha c
    unfold Cert.HeadIdeal.Layer.args
    exact h0 ▸ h1 ▸ h2 ▸ h3 ▸ h4 ▸ h5 ▸ h6 ▸ rfl
  have hs := fun c => (hA c).symm ▸ Cert.HeadIdeal.Layer.kept_is m c 8 le_rfl
  refine ⟨_, _, _, _, _, _, Cert.HeadIdeal.Layer.run_values m ρ, (θ_run Cert.HeadRefIdeal.defs _ _).mono (fun r h c => ?_)
    (Cert.HeadRefIdeal.Value.run (F := Ideal) m' ρ')⟩
  obtain ⟨r0, r1, r2, r3, r4, r5, rest⟩ := h c
  refine ⟨r0.trans ((res_dout m' c).trans ((match_dout (hIn m' c) (aIn m' c) (wgIn m' c) (wuIn m' c) (wdIn m' c) (yIn m' c) (bIn m' c)).symm.trans ?_)),
    r1.trans ((match_nrm (hIn m' c) (aIn m' c) (wgIn m' c) (wuIn m' c) (wdIn m' c) (yIn m' c) (bIn m' c)).symm.trans ?_),
    r2.trans ((match_gate (hIn m' c) (aIn m' c) (wgIn m' c) (wuIn m' c) (wdIn m' c) (yIn m' c) (bIn m' c)).symm.trans ?_),
    r3.trans ((match_up (hIn m' c) (aIn m' c) (wgIn m' c) (wuIn m' c) (wdIn m' c) (yIn m' c) (bIn m' c)).symm.trans ?_),
    r4.trans ((match_act (hIn m' c) (aIn m' c) (wgIn m' c) (wuIn m' c) (wdIn m' c) (yIn m' c) (bIn m' c)).symm.trans ?_),
    r5.trans ((res_stats m' c).trans (match_stats _ _ _ _ _ _ _ (hs c)).symm), rest⟩
  · rw [hA c]
  · rw [hA c]
  · rw [hA c]
  · rw [hA c]
  · rw [hA c]

end Cert.Loss

end
-- ==== Proof.RowTiles.lean ====
module

public import Idealize.ShloMosaic.Lib.IdealHost

@[expose] public section

noncomputable section

/-! # The feed-forward weights' gradients

A weight's gradient is a product summed over the rows: entry `(f, d)` is the sum over the 4096 rows `s` of `l s f * r s d`.
The kernel takes the rows in two tiles of 2048 and adds the tiles' products. -/

namespace Cert.Weight

open Idealize.ShloMosaic
open scoped BigOperators

/-- Row `k` of tile `t`. -/
def tileRow (t : Fin 2) (k : Fin 2048) : Fin 4096 := ⟨2048 * t.val + k.val, by omega⟩

/-- Column `p` of block `b` of the 2816 columns. -/
def blockCol (b : Fin 2) (p : Fin 1408) : Fin 2816 := ⟨1408 * b.val + p.val, by omega⟩

/-- A weight's gradient: the product over the rows. -/
def overRows (l : Fin 4096 → Fin 2816 → EReal) (r : Fin 4096 → Fin 1024 → EReal) (f : Fin 2816) (d : Fin 1024) : EReal :=
  ∑ s, l s f * r s d

/-- A sum over the rows is the first tile's plus the second's. -/
theorem two_tiles (g : Fin 4096 → EReal) : ∑ s, g s = (∑ k, g (tileRow 0 k)) + ∑ k, g (tileRow 1 k) := by
  refine (Fin.sum_univ_add (a := 2048) (b := 2048) g).trans ?_
  refine congrArg₂ (· + ·) ?_ ?_ <;> exact Finset.sum_congr rfl fun k _ => congrArg g (Fin.ext (by simp [tileRow, Nat.add_comm]))

end Cert.Weight

end
-- ==== Proof.GradInValue.lean ====
module

public import proofs.«01_k».proof.Defs
public import proofs.«01_k».proof.Proof.RowTiles
public import proofs.«01_k».proof.Proof.Gen.GradInIdeal
public import proofs.«01_k».proof.Proof.Gen.GradInIdeal.Frame
public import proofs.«01_k».proof.Proof.Gen.GradInRefIdeal
public import proofs.«01_k».proof.Proof.Gen.GradInRefIdeal.Run
public import Idealize.ShloMosaic.Lib.Pointwise
public import Idealize.ShloMosaic.Lib.Pipeline.ValueKit.Point

@[expose] public section

noncomputable section

/-! # The gradient of an input weight (gate or up): kernel and reference -/

namespace Cert.GradInIdeal.Weight

open Idealize.ShloMosaic Idealize.ShloMosaic.TcCoe Idealize.SL.Sem Cert.GradInIdeal Cert.GradInIdeal.Gen Cert.Weight
open scoped BigOperators

variable (m : (ℓ : Loc nD τ sig) → Buf (Elt Ideal) ℓ) (c : Dev nD)

/-- Both offsets of a whole access are zero. -/
theorem at_zero : (![0, 0] : Fin 2 → ℕ) = fun _ => 0 := by
  funext a
  match a with
  | ⟨0, _⟩ => rfl
  | ⟨1, _⟩ => rfl

/-- The first tile of a block starts the running product from zero. -/
theorem first_tile (i : grid0.Coords) (a2 : Memref sig .tc .vmem S2048x1408 .bf16) (h2 : a2.IsWhole) (a3 : Memref sig .tc .vmem S2048x1024 .bf16)
    (h3 : a3.IsWhole) (a4 : Memref sig .tc .vmem S1408x1024 .bf16) (h4 : a4.IsWhole) (a5 : Memref sig .tc .vmem S1408x1024 .f32) (h5 : a5.IsWhole)
    (p : cond0_0 i) (q : ¬cond0_1 i) (l : Vec Ideal S2048x1408 .bf16) (r : Vec Ideal S2048x1024 .bf16) :
    sout0_A_0 c i a2 h2 a3 h3 a4 h4 a5 h5 p q l r = k0_pay2 (k0_pay1 (F := Ideal)) l r := by
  unfold sout0_A_0
  rw [View.read_writes_eq_canon _ _ _ (scover0_A_0 c i a2 h2 a3 h3 a4 h4 a5 h5 p q l r)]
  unfold kernelRun0_A
  dsimp only
  sl_unfold_words
  simp only [View.canon_cons_unit_zero (S := S1408x1024) at_zero, View.readCov_unit_zero (S := S1408x1024) _ at_zero, View.readAt_eq_ld, h2.read_unread, h3.read_unread,
    View.ld_unit_zero (S := S2048x1408) at_zero, View.ld_unit_zero (S := S2048x1024) at_zero]

/-- The second tile adds its product and the block is written out. -/
theorem second_tile (i : grid0.Coords) (a2 : Memref sig .tc .vmem S2048x1408 .bf16) (h2 : a2.IsWhole) (a3 : Memref sig .tc .vmem S2048x1024 .bf16)
    (h3 : a3.IsWhole) (a4 : Memref sig .tc .vmem S1408x1024 .bf16) (h4 : a4.IsWhole) (a5 : Memref sig .tc .vmem S1408x1024 .f32) (h5 : a5.IsWhole)
    (p : ¬cond0_0 i) (q : cond0_1 i) (l : Vec Ideal S2048x1408 .bf16) (r : Vec Ideal S2048x1024 .bf16) (x : Vec Ideal S1408x1024 .f32) :
    out0_B_2 c i a2 h2 a3 h3 a4 h4 a5 h5 p q l r x = k0_pay3 (k0_pay2 x l r) := by
  unfold out0_B_2
  rw [View.read_writes_eq_canon _ _ _ (cover0_B_2 c i a2 h2 a3 h3 a4 h4 a5 h5 p q l r x)]
  unfold kernelRun0_B
  dsimp only
  sl_unfold_words
  simp only [View.canon_unit_zero (S := S1408x1024) at_zero, View.canon_cons_unit_zero (S := S1408x1024) at_zero, View.readCov_unit_zero (S := S1408x1024) _ at_zero, View.readAt_eq_ld,
    h2.read_unread, h3.read_unread, h5.read_unread,
    View.ld_unit_zero (S := S2048x1408) at_zero, View.ld_unit_zero (S := S2048x1024) at_zero, View.ld_unit_zero (S := S1408x1024) at_zero]

/-- One tile's step at an entry. -/
theorem step_at (x : Vec Ideal S1408x1024 .f32) (l : Vec Ideal S2048x1408 .bf16) (r : Vec Ideal S2048x1024 .bf16) (p : Fin 1408) (d : Fin 1024) :
    k0_pay2 x l r (ix2 p d) = x (ix2 p d) + ∑ k : Fin 2048, l (ix2 k p) * r (ix2 k d) := by
  unfold k0_pay2
  simp only [shapeCast_self, pointwise, zero_add]

/-- Zero at an entry. -/
theorem start_at (p : Fin 1408) (d : Fin 1024) : k0_pay1 (F := Ideal) (ix2 p d) = 0 := by
  unfold k0_pay1
  simp only [shapeCast_self, pointwise]

/-- Point `k` of block `b`. -/
def pointOf (b k : Fin 2) : Fin cfg0.N := ⟨2 * b.val + k.val, by rw [show cfg0.N = 4 from N_0]; omega⟩

/-- Where the windows are: the operands at tile `k`, the left one and the output at block `b`. -/
theorem windows_at (b k : Fin 2) : win0_0.index (pointOf b k) = ![k.val, b.val] ∧ win0_1.index (pointOf b k) = ![k.val, 0] ∧ win0_2.index (pointOf b k) = ![b.val, 0] := by
  revert b k
  decide +kernel

/-- The left operand's block at a point of block `b` and tile `k`. -/
theorem left_block (b k : Fin 2) (i : Fin 2048) (p : Fin 1408) :
    (iblk m c 0 (pointOf b k) : S2048x1408.Idx → EReal) (ix2 i p) = (m ((c.tc : Thread nD τ).loc main_arg0) : S4096x2816.Idx → EReal) (ix2 (tileRow k i) (blockCol b p)) := by
  have e : (V m c main_v0 : S4096x2816.Idx → EReal) = m ((c.tc : Thread nD τ).loc main_arg0) := rfl
  rw [← e]
  blk_ext [iblk, windows_at b k, tileRow, blockCol]

/-- The right operand's. -/
theorem right_block (b k : Fin 2) (i : Fin 2048) (d : Fin 1024) :
    (iblk m c 1 (pointOf b k) : S2048x1024.Idx → EReal) (ix2 i d) = (m ((c.tc : Thread nD τ).loc main_arg1) : S4096x1024.Idx → EReal) (ix2 (tileRow k i) d) := by
  have e : (V m c main_v1 : S4096x1024.Idx → EReal) = m ((c.tc : Thread nD τ).loc main_arg1) := rfl
  rw [← e]
  blk_ext [iblk, windows_at b k, tileRow]

/-- The gradient that the arguments give. -/
def grad (f : Fin 2816) (d : Fin 1024) : EReal :=
  overRows (fun s f => (m ((c.tc : Thread nD τ).loc main_arg0) : S4096x2816.Idx → EReal) (ix2 s f)) (fun s d => (m ((c.tc : Thread nD τ).loc main_arg1) : S4096x1024.Idx → EReal) (ix2 s d)) f d

/-- Two tiles' steps at an entry: the sum of their products. -/
theorem both_at (l l' : Vec Ideal S2048x1408 .bf16) (r r' : Vec Ideal S2048x1024 .bf16) (p : Fin 1408) (d : Fin 1024) :
    k0_pay3 (k0_pay2 (k0_pay2 (k0_pay1 (F := Ideal)) l r) l' r') (ix2 p d) = (∑ k : Fin 2048, l (ix2 k p) * r (ix2 k d)) + ∑ k : Fin 2048, l' (ix2 k p) * r' (ix2 k d) := by
  unfold k0_pay3
  refine (step_at _ l' r' p d).trans ?_
  rw [step_at, start_at, zero_add]

/-- What the points leave depends on the position alone. -/
theorem outs_congr (n n' : ℕ) (h : n < cfg0.N) (h' : n' < cfg0.N) (e : n = n') : outsAt0 m c n h = outsAt0 m c n' h' := by
  subst e
  rfl

/-- What a block's first point keeps. -/
theorem kept_first (t : Fin cfg0.N) (h : t.val % 2 = 0) : (outsAt0 m c t.val t.isLt).2 = k0_pay2 (k0_pay1 (F := Ideal)) (iblk m c 0 t) (iblk m c 1 t) := by
  rw [outsAt0_A m c t h (by omega)]
  dsimp only
  rw [first_tile]

/-- What its second point writes out. -/
theorem left_second (t : Fin cfg0.N) (h : t.val % 2 = 1) : (outsAt0 m c t.val t.isLt).1
    = k0_pay3 (F := Ideal) (k0_pay2 (outsAt0 m c (t.val - 1) (Nat.lt_of_le_of_lt (Nat.sub_le _ _) t.isLt)).2 (iblk m c 0 t) (iblk m c 1 t)) := by
  rw [outsAt0_B m c t (by omega) h]
  dsimp only
  rw [second_tile]

/-- What a block's second point leaves in the output is the block's gradient. -/
theorem block_done (b : Fin 2) (p : Fin 1408) (d : Fin 1024) :
    ((outsAt0 m c (pointOf b 1).val (pointOf b 1).isLt).1 : S1408x1024.Idx → EReal) (ix2 p d) = grad m c (blockCol b p) d := by
  rw [left_second m c (pointOf b 1) (by simp [pointOf]), outs_congr m c ((pointOf b 1).val - 1) (pointOf b 0).val _ (pointOf b 0).isLt (by simp [pointOf]),
    kept_first m c (pointOf b 0) (by simp [pointOf])]
  refine (both_at _ _ _ _ p d).trans ?_
  unfold grad overRows
  rw [two_tiles]
  exact congrArg₂ (· + ·) (Finset.sum_congr rfl fun k _ => congrArg₂ (· * ·) (left_block m c b 0 k p) (right_block m c b 0 k d))
    (Finset.sum_congr rfl fun k _ => congrArg₂ (· * ·) (left_block m c b 1 k p) (right_block m c b 1 k d))

/-- The result array is the gradient. -/
theorem result_is : (dats m 0 c).arrAt 2 cfg0.N = (fun j => grad m c (j 0) (j 1) : S2816x1024.Idx → EReal) := by
  refine (dats m 0 c).arrAt_eq_of_covers 2 _ (by decide +kernel) fun t hf y => ?_
  blk_simp
  rw [after0_2]
  obtain ⟨p, d, rfl⟩ : ∃ (p : Fin 1408) (d : Fin 1024), (y : S1408x1024.Idx) = ix2 p d := ⟨y 0, y 1, eq_ix2 y⟩
  have o := (flush0_2 t).mp hf
  have n : t.val < 4 := lt_of_lt_of_eq t.isLt (show cfg0.N = 4 from N_0)
  obtain ⟨b, rfl⟩ : ∃ b, t = pointOf b 1 := ⟨⟨t.val / 2, by omega⟩, Fin.ext (by simp [pointOf]; omega)⟩
  have e : (win0_2.blk (pointOf b 1)).view.emb (ix2 p d : S1408x1024.Idx) = (ix2 (blockCol b p) d : S2816x1024.Idx) := by
    blk_ext [windows_at b 1, blockCol]
  refine (block_done m c b p d).trans ?_
  exact congrArg (fun j : S2816x1024.Idx => grad m c (j 0) (j 1)) e.symm

/-- Every run ends with the result at the gradient and the arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v2) = (fun j => grad m c (j 0) (j 1) : S2816x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2 c).1 2).trans (result_is m c), h.1.1 c⟩) (θ_run_and (frame m ρ) (run_main m ρ))

end Cert.GradInIdeal.Weight

namespace Cert.GradInRefIdeal.Weight

open Idealize.ShloMosaic Idealize.ShloMosaic.TcCoe Cert.GradInRefIdeal Cert.GradInRefIdeal.Gen Cert.Weight
open scoped BigOperators

/-- The reference's result is the product over the rows. -/
theorem reference_at (l : FVec Ideal S4096x2816 .f32) (r : FVec Ideal S4096x1024 .f32) :
    (truncf .bf16 (transpose S2816x1024 [1, 0] (transpose S1024x2816 [1, 0] (Host.dotGeneral dot_S4096x2816_S4096x1024_S2816x1024_0_0_1_1_n_n none l r) transposes_S2816x1024_S1024x2816_1_0)
      transposes_S1024x2816_S2816x1024_1_0) bitsLt_bf16_f32 : FVec Ideal S2816x1024 .bf16)
      = (fun j => overRows (fun s f => l (ix2 s f)) (fun s d => r (ix2 s d)) (j 0) (j 1) : S2816x1024.Idx → EReal) := by
  funext j
  obtain ⟨f, d, rfl⟩ : ∃ (f : Fin 2816) (d : Fin 1024), j = ix2 f d := ⟨j 0, j 1, eq_ix2 j⟩
  simp only [pointwise, zero_add]
  rfl

end Cert.GradInRefIdeal.Weight

namespace Cert.Weight

open Idealize.ShloMosaic Idealize.SL.Sem

/-- From the same arguments, the kernel and the reference's derivative end with the same gradient of an input weight. -/
theorem algebraic_in : Cert.algebraic_GradInIdeal_GradInRefIdeal (hGradInIdeal := Cert.GradInIdeal.Gen.facts) (hGradInRefIdeal := Cert.GradInRefIdeal.Gen.facts) :=
  fun m g m' g' _ ha => by
  refine ⟨_, Cert.GradInIdeal.Weight.run_value m g, (θ_run Cert.GradInRefIdeal.defs _ _).mono (fun r h c => ?_) (Cert.GradInRefIdeal.Value.run (F := Ideal) m' g')⟩
  obtain ⟨r0, rest⟩ := h c
  refine ⟨r0.trans ((Cert.GradInRefIdeal.Weight.reference_at _ _).trans ?_), rest⟩
  obtain ⟨h0, h1⟩ := ha c
  rw [h0, h1]
  rfl

/-- The reference runs and leaves its arguments and counters as they were. -/
theorem frame_in_reference : Cert.quiescent_GradInRefIdeal (hGradInRefIdeal := Cert.GradInRefIdeal.Gen.facts) := fun m ρ _ =>
  (θ_run Cert.GradInRefIdeal.defs _ _).mono (fun r h => ⟨fun c => (h c).2, sem_eq_zero_of_no_sems (by decide) r.2⟩)
    (Cert.GradInRefIdeal.Value.run (F := Ideal) m ρ)

end Cert.Weight

end
-- ==== Proof.GradDownValue.lean ====
module

public import proofs.«01_k».proof.Defs
public import proofs.«01_k».proof.Proof.RowTiles
public import proofs.«01_k».proof.Proof.Gen.GradDownIdeal
public import proofs.«01_k».proof.Proof.Gen.GradDownIdeal.Frame
public import proofs.«01_k».proof.Proof.Gen.GradDownRefIdeal
public import proofs.«01_k».proof.Proof.Gen.GradDownRefIdeal.Run
public import Idealize.ShloMosaic.Lib.Pointwise
public import Idealize.ShloMosaic.Lib.Pipeline.ValueKit.Point

@[expose] public section

noncomputable section

/-! # The gradient of the output weight: kernel and reference -/

namespace Cert.GradDownIdeal.Weight

open Idealize.ShloMosaic Idealize.ShloMosaic.TcCoe Idealize.SL.Sem Cert.GradDownIdeal Cert.GradDownIdeal.Gen Cert.Weight
open scoped BigOperators

variable (m : (ℓ : Loc nD τ sig) → Buf (Elt Ideal) ℓ) (c : Dev nD)

/-- Both offsets of a whole access are zero. -/
theorem at_zero : (![0, 0] : Fin 2 → ℕ) = fun _ => 0 := by
  funext a
  match a with
  | ⟨0, _⟩ => rfl
  | ⟨1, _⟩ => rfl

/-- The first tile of a block starts the running product from zero. -/
theorem first_tile (i : grid0.Coords) (a2 : Memref sig .tc .vmem S2048x1408 .bf16) (h2 : a2.IsWhole) (a3 : Memref sig .tc .vmem S2048x1024 .f32)
    (h3 : a3.IsWhole) (a4 : Memref sig .tc .vmem S1408x1024 .bf16) (h4 : a4.IsWhole) (a5 : Memref sig .tc .vmem S1408x1024 .f32) (h5 : a5.IsWhole)
    (p : cond0_0 i) (q : ¬cond0_1 i) (l : Vec Ideal S2048x1408 .bf16) (r : Vec Ideal S2048x1024 .f32) :
    sout0_A_0 c i a2 h2 a3 h3 a4 h4 a5 h5 p q l r = k0_pay2 (k0_pay1 (F := Ideal)) l r := by
  unfold sout0_A_0
  rw [View.read_writes_eq_canon _ _ _ (scover0_A_0 c i a2 h2 a3 h3 a4 h4 a5 h5 p q l r)]
  unfold kernelRun0_A
  dsimp only
  sl_unfold_words
  simp only [View.canon_cons_unit_zero (S := S1408x1024) at_zero, View.readCov_unit_zero (S := S1408x1024) _ at_zero, View.readAt_eq_ld, h2.read_unread, h3.read_unread,
    View.ld_unit_zero (S := S2048x1408) at_zero, View.ld_unit_zero (S := S2048x1024) at_zero]

/-- The second tile adds its product and the block is written out. -/
theorem second_tile (i : grid0.Coords) (a2 : Memref sig .tc .vmem S2048x1408 .bf16) (h2 : a2.IsWhole) (a3 : Memref sig .tc .vmem S2048x1024 .f32)
    (h3 : a3.IsWhole) (a4 : Memref sig .tc .vmem S1408x1024 .bf16) (h4 : a4.IsWhole) (a5 : Memref sig .tc .vmem S1408x1024 .f32) (h5 : a5.IsWhole)
    (p : ¬cond0_0 i) (q : cond0_1 i) (l : Vec Ideal S2048x1408 .bf16) (r : Vec Ideal S2048x1024 .f32) (x : Vec Ideal S1408x1024 .f32) :
    out0_B_2 c i a2 h2 a3 h3 a4 h4 a5 h5 p q l r x = k0_pay3 (k0_pay2 x l r) := by
  unfold out0_B_2
  rw [View.read_writes_eq_canon _ _ _ (cover0_B_2 c i a2 h2 a3 h3 a4 h4 a5 h5 p q l r x)]
  unfold kernelRun0_B
  dsimp only
  sl_unfold_words
  simp only [View.canon_unit_zero (S := S1408x1024) at_zero, View.canon_cons_unit_zero (S := S1408x1024) at_zero, View.readCov_unit_zero (S := S1408x1024) _ at_zero, View.readAt_eq_ld,
    h2.read_unread, h3.read_unread, h5.read_unread,
    View.ld_unit_zero (S := S2048x1408) at_zero, View.ld_unit_zero (S := S2048x1024) at_zero, View.ld_unit_zero (S := S1408x1024) at_zero]

/-- One tile's step at an entry. -/
theorem step_at (x : Vec Ideal S1408x1024 .f32) (l : Vec Ideal S2048x1408 .bf16) (r : Vec Ideal S2048x1024 .f32) (p : Fin 1408) (d : Fin 1024) :
    k0_pay2 x l r (ix2 p d) = x (ix2 p d) + ∑ k : Fin 2048, l (ix2 k p) * r (ix2 k d) := by
  unfold k0_pay2
  simp only [shapeCast_self, pointwise, zero_add]

/-- Zero at an entry. -/
theorem start_at (p : Fin 1408) (d : Fin 1024) : k0_pay1 (F := Ideal) (ix2 p d) = 0 := by
  unfold k0_pay1
  simp only [shapeCast_self, pointwise]

/-- Point `k` of block `b`. -/
def pointOf (b k : Fin 2) : Fin cfg0.N := ⟨2 * b.val + k.val, by rw [show cfg0.N = 4 from N_0]; omega⟩

/-- Where the windows are: the operands at tile `k`, the left one and the output at block `b`. -/
theorem windows_at (b k : Fin 2) : win0_0.index (pointOf b k) = ![k.val, b.val] ∧ win0_1.index (pointOf b k) = ![k.val, 0] ∧ win0_2.index (pointOf b k) = ![b.val, 0] := by
  revert b k
  decide +kernel

/-- The left operand's block at a point of block `b` and tile `k`. -/
theorem left_block (b k : Fin 2) (i : Fin 2048) (p : Fin 1408) :
    (iblk m c 0 (pointOf b k) : S2048x1408.Idx → EReal) (ix2 i p) = (m ((c.tc : Thread nD τ).loc main_arg0) : S4096x2816.Idx → EReal) (ix2 (tileRow k i) (blockCol b p)) := by
  have e : (V m c main_v0 : S4096x2816.Idx → EReal) = m ((c.tc : Thread nD τ).loc main_arg0) := rfl
  rw [← e]
  blk_ext [iblk, windows_at b k, tileRow, blockCol]

/-- The right operand's. -/
theorem right_block (b k : Fin 2) (i : Fin 2048) (d : Fin 1024) :
    (iblk m c 1 (pointOf b k) : S2048x1024.Idx → EReal) (ix2 i d) = (m ((c.tc : Thread nD τ).loc main_arg1) : S4096x1024.Idx → EReal) (ix2 (tileRow k i) d) := by
  have e : (V m c main_arg1 : S4096x1024.Idx → EReal) = m ((c.tc : Thread nD τ).loc main_arg1) := rfl
  rw [← e]
  blk_ext [iblk, windows_at b k, tileRow]

/-- The gradient that the arguments give. -/
def grad (f : Fin 2816) (d : Fin 1024) : EReal :=
  overRows (fun s f => (m ((c.tc : Thread nD τ).loc main_arg0) : S4096x2816.Idx → EReal) (ix2 s f)) (fun s d => (m ((c.tc : Thread nD τ).loc main_arg1) : S4096x1024.Idx → EReal) (ix2 s d)) f d

/-- Two tiles' steps at an entry: the sum of their products. -/
theorem both_at (l l' : Vec Ideal S2048x1408 .bf16) (r r' : Vec Ideal S2048x1024 .f32) (p : Fin 1408) (d : Fin 1024) :
    k0_pay3 (k0_pay2 (k0_pay2 (k0_pay1 (F := Ideal)) l r) l' r') (ix2 p d) = (∑ k : Fin 2048, l (ix2 k p) * r (ix2 k d)) + ∑ k : Fin 2048, l' (ix2 k p) * r' (ix2 k d) := by
  unfold k0_pay3
  refine (step_at _ l' r' p d).trans ?_
  rw [step_at, start_at, zero_add]

/-- What the points leave depends on the position alone. -/
theorem outs_congr (n n' : ℕ) (h : n < cfg0.N) (h' : n' < cfg0.N) (e : n = n') : outsAt0 m c n h = outsAt0 m c n' h' := by
  subst e
  rfl

/-- What a block's first point keeps. -/
theorem kept_first (t : Fin cfg0.N) (h : t.val % 2 = 0) : (outsAt0 m c t.val t.isLt).2 = k0_pay2 (k0_pay1 (F := Ideal)) (iblk m c 0 t) (iblk m c 1 t) := by
  rw [outsAt0_A m c t h (by omega)]
  dsimp only
  rw [first_tile]

/-- What its second point writes out. -/
theorem left_second (t : Fin cfg0.N) (h : t.val % 2 = 1) : (outsAt0 m c t.val t.isLt).1
    = k0_pay3 (F := Ideal) (k0_pay2 (outsAt0 m c (t.val - 1) (Nat.lt_of_le_of_lt (Nat.sub_le _ _) t.isLt)).2 (iblk m c 0 t) (iblk m c 1 t)) := by
  rw [outsAt0_B m c t (by omega) h]
  dsimp only
  rw [second_tile]

/-- What a block's second point leaves in the output is the block's gradient. -/
theorem block_done (b : Fin 2) (p : Fin 1408) (d : Fin 1024) :
    ((outsAt0 m c (pointOf b 1).val (pointOf b 1).isLt).1 : S1408x1024.Idx → EReal) (ix2 p d) = grad m c (blockCol b p) d := by
  rw [left_second m c (pointOf b 1) (by simp [pointOf]), outs_congr m c ((pointOf b 1).val - 1) (pointOf b 0).val _ (pointOf b 0).isLt (by simp [pointOf]),
    kept_first m c (pointOf b 0) (by simp [pointOf])]
  refine (both_at _ _ _ _ p d).trans ?_
  unfold grad overRows
  rw [two_tiles]
  exact congrArg₂ (· + ·) (Finset.sum_congr rfl fun k _ => congrArg₂ (· * ·) (left_block m c b 0 k p) (right_block m c b 0 k d))
    (Finset.sum_congr rfl fun k _ => congrArg₂ (· * ·) (left_block m c b 1 k p) (right_block m c b 1 k d))

/-- The result array is the gradient. -/
theorem result_is : (dats m 0 c).arrAt 2 cfg0.N = (fun j => grad m c (j 0) (j 1) : S2816x1024.Idx → EReal) := by
  refine (dats m 0 c).arrAt_eq_of_covers 2 _ (by decide +kernel) fun t hf y => ?_
  blk_simp
  rw [after0_2]
  obtain ⟨p, d, rfl⟩ : ∃ (p : Fin 1408) (d : Fin 1024), (y : S1408x1024.Idx) = ix2 p d := ⟨y 0, y 1, eq_ix2 y⟩
  have o := (flush0_2 t).mp hf
  have n : t.val < 4 := lt_of_lt_of_eq t.isLt (show cfg0.N = 4 from N_0)
  obtain ⟨b, rfl⟩ : ∃ b, t = pointOf b 1 := ⟨⟨t.val / 2, by omega⟩, Fin.ext (by simp [pointOf]; omega)⟩
  have e : (win0_2.blk (pointOf b 1)).view.emb (ix2 p d : S1408x1024.Idx) = (ix2 (blockCol b p) d : S2816x1024.Idx) := by
    blk_ext [windows_at b 1, blockCol]
  refine (block_done m c b p d).trans ?_
  exact congrArg (fun j : S2816x1024.Idx => grad m c (j 0) (j 1)) e.symm

/-- Every run ends with the result at the gradient and the arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v1) = (fun j => grad m c (j 0) (j 1) : S2816x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2 c).1 2).trans (result_is m c), h.1.1 c⟩) (θ_run_and (frame m ρ) (run_main m ρ))

end Cert.GradDownIdeal.Weight

namespace Cert.GradDownRefIdeal.Weight

open Idealize.ShloMosaic Idealize.ShloMosaic.TcCoe Cert.GradDownRefIdeal Cert.GradDownRefIdeal.Gen Cert.Weight
open scoped BigOperators

/-- The reference's result is the product over the rows: it multiplies the factors the other way round. -/
theorem reference_at (l : FVec Ideal S4096x2816 .f32) (r : FVec Ideal S4096x1024 .f32) :
    (truncf .bf16 (transpose S2816x1024 [1, 0] (Host.dotGeneral dot_S4096x1024_S4096x2816_S1024x2816_0_0_1_1_n_n none r l) transposes_S1024x2816_S2816x1024_1_0) bitsLt_bf16_f32 : FVec Ideal S2816x1024 .bf16)
      = (fun j => overRows (fun s f => l (ix2 s f)) (fun s d => r (ix2 s d)) (j 0) (j 1) : S2816x1024.Idx → EReal) := by
  funext j
  obtain ⟨f, d, rfl⟩ : ∃ (f : Fin 2816) (d : Fin 1024), j = ix2 f d := ⟨j 0, j 1, eq_ix2 j⟩
  simp only [pointwise, zero_add]
  exact Finset.sum_congr rfl fun s _ => mul_comm _ _

end Cert.GradDownRefIdeal.Weight

namespace Cert.Weight

open Idealize.ShloMosaic Idealize.SL.Sem

/-- From the same arguments, the kernel and the reference's derivative end with the same gradient of the output weight. -/
theorem algebraic_down : Cert.algebraic_GradDownIdeal_GradDownRefIdeal (hGradDownIdeal := Cert.GradDownIdeal.Gen.facts) (hGradDownRefIdeal := Cert.GradDownRefIdeal.Gen.facts) :=
  fun m g m' g' _ ha => by
  refine ⟨_, Cert.GradDownIdeal.Weight.run_value m g, (θ_run Cert.GradDownRefIdeal.defs _ _).mono (fun r h c => ?_) (Cert.GradDownRefIdeal.Value.run (F := Ideal) m' g')⟩
  obtain ⟨r0, rest⟩ := h c
  refine ⟨r0.trans ((Cert.GradDownRefIdeal.Weight.reference_at _ _).trans ?_), rest⟩
  obtain ⟨h0, h1⟩ := ha c
  rw [h0, h1]
  rfl

/-- The reference runs and leaves its arguments and counters as they were. -/
theorem frame_down_reference : Cert.quiescent_GradDownRefIdeal (hGradDownRefIdeal := Cert.GradDownRefIdeal.Gen.facts) := fun m ρ _ =>
  (θ_run Cert.GradDownRefIdeal.defs _ _).mono (fun r h => ⟨fun c => (h c).2, sem_eq_zero_of_no_sems (by decide) r.2⟩)
    (Cert.GradDownRefIdeal.Value.run (F := Ideal) m ρ)

end Cert.Weight

end
-- ==== Proof.SumsValue.lean ====
module

public import proofs.«01_k».proof.Defs
public import proofs.«01_k».proof.Proof.Gen.SumsIdeal
public import proofs.«01_k».proof.Proof.Gen.SumsIdeal.Value
public import proofs.«01_k».proof.Proof.Gen.SumsRefIdeal
public import proofs.«01_k».proof.Proof.Gen.SumsRefIdeal.Run
public import Idealize.ShloMosaic.Lib.ValueLayout
public import Idealize.ShloMosaic.Lib.ValueIdxCore
public import Idealize.ShloMosaic.Lib.Pipeline.ValueKit.Point

@[expose] public section

noncomputable section

/-! # The sum of the eight devices' small gradients, and the loss: kernel and reference -/

namespace Cert.SumsIdeal.Small

open Idealize.ShloMosaic Idealize.ShloMosaic.TcCoe Idealize.SL.Sem Cert.SumsIdeal Cert.SumsIdeal.Gen Cert.SumsIdeal.Value
open scoped BigOperators

/-- One device's part, loaded out of the array of all parts. -/
theorem part_at {n q : ℕ} (x : (⟨3, ![8, n, q]⟩ : Shape).Idx → EReal) (k : ℕ) (hk : k < 8) (inb) (r : Fin n) (d : Fin q) :
    (View.ld (Val := Elt Ideal) (e' := .f32) x (Rect.unit (s := (⟨3, ![8, n, q]⟩ : Shape)) ![k, 0, 0] ![1, n, q] inb) : (⟨3, ![1, n, q]⟩ : Shape).Idx → EReal) (ix3 0 r d) = x (ix3 ⟨k, hk⟩ r d) := by
  refine congrArg x (funext fun a => Fin.ext ?_)
  match a with
  | ⟨0, _⟩ => rfl
  | ⟨1, _⟩ => show 0 + 1 * r.val = r.val; omega
  | ⟨2, _⟩ => show 0 + 1 * d.val = d.val; omega

/-- The sum over the devices of the vectors' gradients. -/
def vectors (x : S8x64x128.Idx → EReal) : S64x128.Idx → EReal := fun j => ∑ k : Fin 8, x (ix3 k (j 0) (j 1))
/-- The sum over the devices of the replicated vectors' gradients and of the loss's parts. -/
def copies (x : S8x8x1024.Idx → EReal) : S8x1024.Idx → EReal := fun j => ∑ k : Fin 8, x (ix3 k (j 0) (j 1))
/-- The loss, at every entry of a tile. -/
def loss (x : S8x8x1024.Idx → EReal) : S8x128.Idx → EReal := fun _ => ∑ d : Fin 1024, ∑ k : Fin 8, x (ix3 k 4 d)

/-- The kernel's first result. -/
theorem vectors_is (x : S8x64x128.Idx → EReal) (y : S8x8x1024.Idx → EReal) : G2 (F := Ideal) x y = vectors x := by
  funext j
  obtain ⟨r, d, rfl⟩ : ∃ (r : Fin 64) (d : Fin 128), j = ix2 r d := ⟨j 0, j 1, eq_ix2 j⟩
  unfold vectors
  rw [Fin.sum_univ_eight]
  have h : ∀ (k : ℕ) (hk : k < 8) (inb), shapeCast S64x128 (View.ld (Val := Elt Ideal) (e' := .f32) x (Rect.unit (s := S8x64x128) ![k, 0, 0] S1x64x128.size inb)) shapeCasts_S1x64x128_S64x128 (ix2 r d)
      = x (ix3 ⟨k, hk⟩ r d) := fun k hk inb => (ValueIdx.shapeCast_1ab_ab_apply _ shapeCasts_S1x64x128_S64x128 r d).trans (part_at x k hk inb r d)
  exact congrArg₂ (· + ·) (congrArg₂ (· + ·) (congrArg₂ (· + ·) (congrArg₂ (· + ·) (congrArg₂ (· + ·) (congrArg₂ (· + ·) (congrArg₂ (· + ·)
    (h 0 (by omega) _) (h 1 (by omega) _)) (h 2 (by omega) _)) (h 3 (by omega) _)) (h 4 (by omega) _)) (h 5 (by omega) _)) (h 6 (by omega) _)) (h 7 (by omega) _)

/-- The kernel's second result. -/
theorem copies_is (x : S8x64x128.Idx → EReal) (y : S8x8x1024.Idx → EReal) : G3 (F := Ideal) x y = copies y := by
  funext j
  obtain ⟨r, d, rfl⟩ : ∃ (r : Fin 8) (d : Fin 1024), j = ix2 r d := ⟨j 0, j 1, eq_ix2 j⟩
  unfold copies
  rw [Fin.sum_univ_eight]
  have h : ∀ (k : ℕ) (hk : k < 8) (inb), shapeCast S8x1024 (View.ld (Val := Elt Ideal) (e' := .f32) y (Rect.unit (s := S8x8x1024) ![k, 0, 0] S1x8x1024.size inb)) shapeCasts_S1x8x1024_S8x1024 (ix2 r d)
      = y (ix3 ⟨k, hk⟩ r d) := fun k hk inb => (ValueIdx.shapeCast_1ab_ab_apply _ shapeCasts_S1x8x1024_S8x1024 r d).trans (part_at y k hk inb r d)
  exact congrArg₂ (· + ·) (congrArg₂ (· + ·) (congrArg₂ (· + ·) (congrArg₂ (· + ·) (congrArg₂ (· + ·) (congrArg₂ (· + ·) (congrArg₂ (· + ·)
    (h 0 (by omega) _) (h 1 (by omega) _)) (h 2 (by omega) _)) (h 3 (by omega) _)) (h 4 (by omega) _)) (h 5 (by omega) _)) (h 6 (by omega) _)) (h 7 (by omega) _)

/-- The kernel's third result. -/
theorem loss_is (x : S8x64x128.Idx → EReal) (y : S8x8x1024.Idx → EReal) : G4 (F := Ideal) x y = loss y := by
  have e : k0_pay2 (k0_pay6 (F := Ideal) x y) (View.ld y r0_11) (View.ld y r0_13) (View.ld y r0_15) = copies y := copies_is x y
  funext j
  obtain ⟨r, d, rfl⟩ : ∃ (r : Fin 8) (d : Fin 128), j = ix2 r d := ⟨j 0, j 1, eq_ix2 j⟩
  unfold G4 k0_pay3
  dsimp only
  rw [e]
  simp only [pointwise, zero_add, reduceDIte, Nat.reduceEqDiff, OfNat.ofNat_ne_one]
  rfl

end Cert.SumsIdeal.Small

namespace Cert.SumsRefIdeal.Small

open Idealize.ShloMosaic Idealize.ShloMosaic.TcCoe Cert.SumsRefIdeal Cert.SumsRefIdeal.Gen
open scoped BigOperators

/-- The reference's first result. -/
theorem vectors_is (x : FVec Ideal S8x64x128 .f32) :
    (Host.reduceAdd x (constant S_ .f32 0x00000000#32) reducesTo_S8x64x128_S64x128_d0 h_S_ : FVec Ideal S64x128 .f32) = Cert.SumsIdeal.Small.vectors x := by
  funext j
  obtain ⟨r, d, rfl⟩ : ∃ (r : Fin 64) (d : Fin 128), j = ix2 r d := ⟨j 0, j 1, eq_ix2 j⟩
  simp only [pointwise, zero_add]
  rfl

/-- The reference's second result. -/
theorem copies_is (y : FVec Ideal S8x8x1024 .f32) :
    (Host.reduceAdd y (constant S_ .f32 0x00000000#32) reducesTo_S8x8x1024_S8x1024_d0 h_S_ : FVec Ideal S8x1024 .f32) = Cert.SumsIdeal.Small.copies y := by
  funext j
  obtain ⟨r, d, rfl⟩ : ∃ (r : Fin 8) (d : Fin 1024), j = ix2 r d := ⟨j 0, j 1, eq_ix2 j⟩
  simp only [pointwise, zero_add]
  rfl

/-- The reference's third result. -/
theorem loss_is (y : FVec Ideal S8x8x1024 .f32) :
    (broadcastInDim S8x128 ![] bcast_S_S8x128 (Host.reduceAdd (shapeCast S1024 (extractStridedSlice S1x1024 ![4, 0] (Cert.SumsIdeal.Small.copies y : FVec Ideal S8x1024 .f32) slices_S8x1024_S1x1024_4_0) shapeCasts_S1x1024_S1024)
      (constant S_ .f32 0x00000000#32) reducesTo_S1024_S_d0 h_S_) : FVec Ideal S8x128 .f32) = Cert.SumsIdeal.Small.loss y := by
  funext j
  obtain ⟨r, d, rfl⟩ : ∃ (r : Fin 8) (d : Fin 128), j = ix2 r d := ⟨j 0, j 1, eq_ix2 j⟩
  simp only [pointwise, zero_add, reduceDIte, Nat.reduceEqDiff, OfNat.ofNat_ne_one]
  rfl

end Cert.SumsRefIdeal.Small

namespace Cert.Update

open Idealize.ShloMosaic Idealize.SL.Sem

/-- From the same arguments, the kernel and the reference end with the same sums and the same loss. -/
theorem algebraic_sums : Cert.algebraic_SumsIdeal_SumsRefIdeal (hSumsIdeal := Cert.SumsIdeal.Gen.facts) (hSumsRefIdeal := Cert.SumsRefIdeal.Gen.facts) :=
  fun m g m' g' _ ha => by
  refine ⟨_, _, _, Cert.SumsIdeal.Value.run (F := Ideal) m g, (θ_run Cert.SumsRefIdeal.defs _ _).mono (fun r h c => ?_) (Cert.SumsRefIdeal.Value.run (F := Ideal) m' g')⟩
  obtain ⟨r0, r1, r2, rest⟩ := h c
  rw [Cert.SumsRefIdeal.Small.copies_is] at r1 r2
  obtain ⟨h0, h1⟩ := ha c
  rw [Cert.SumsRefIdeal.Small.vectors_is, h0] at r0
  rw [h1] at r1
  exact ⟨r0.trans (Cert.SumsIdeal.Small.vectors_is _ _).symm, r1.trans (Cert.SumsIdeal.Small.copies_is _ _).symm,
    r2.trans ((Cert.SumsRefIdeal.Small.loss_is _).trans ((congrArg Cert.SumsIdeal.Small.loss h1).trans (Cert.SumsIdeal.Small.loss_is _ _).symm)), rest⟩

/-- The reference runs and leaves its arguments and counters as they were. -/
theorem frame_sums_reference : Cert.quiescent_SumsRefIdeal (hSumsRefIdeal := Cert.SumsRefIdeal.Gen.facts) := fun m ρ _ =>
  (θ_run Cert.SumsRefIdeal.defs _ _).mono (fun r h => ⟨fun c => (h c).2.2.2, sem_eq_zero_of_no_sems (by decide) r.2⟩)
    (Cert.SumsRefIdeal.Value.run (F := Ideal) m ρ)

end Cert.Update

end
-- ==== Proof.Adam.lean ====
module

public import proofs.«01_k».proof.Defs
public import Idealize.ShloMosaic.Lib.Pointwise
public import Idealize.ShloMosaic.Lib.Pointwise.Reshape
public import Idealize.ShloMosaic.PureOps.Ideal

@[expose] public section

noncomputable section

/-! # One AdamW step, entry by entry, and the way in which a program of whole arrays writes it -/

namespace Cert.Adam

open Idealize.ShloMosaic
open scoped BigOperators

/-- A stored number, by its pattern. -/
def num (b : BitVec 32) : EReal := Ideal.ofBits .f32 b

/-- The new first moment: nine tenths of the old one and a tenth of the gradient. -/
def first (g m : EReal) : EReal := num 0x3F666666#32 * m + num 0x3DCCCCCD#32 * g

/-- The new second moment: 0.999 of the old one and a thousandth of the gradient's square. -/
def second (g v : EReal) : EReal := num 0x3F7FBE77#32 * v + num 0x3A83126F#32 * (g * g)

/-- The weight's change: both new moments are divided by their weight after ten steps, the first is divided by the second's root,
and a hundredth of the weight is added before the step's length multiplies it all. -/
def change (w g m v : EReal) : EReal :=
  num 0xBA83126F#32 * (Ideal.div (Ideal.div (first g m) (num 0x3F26BD02#32))
    (Ideal.sqrt (Ideal.div (second g v) (num 0x3C231ACC#32)) + num 0x322BCC77#32) + num 0x3C23D70A#32 * w)

section
variable {i : Type} (w g m v : i → EReal)

/-- `first` at each entry of a gradient and a moment. -/
def firsts : i → EReal := fun j => first (g j) (m j)
/-- `second` at each entry of a gradient and a moment. -/
def seconds : i → EReal := fun j => second (g j) (v j)
/-- `change` at each entry of a weight, its gradient and its moments. -/
def changes : i → EReal := fun j => change (w j) (g j) (m j) (v j)

end

section
variable {z s : Shape} (d : Fin z.rank → Fin s.rank) (h : z.BroadcastsInDim s d) (w g m v : FVec Ideal s .f32)

/-- The reference's new first moment is `first` at each entry. -/
theorem host_first : addf (mulf (broadcastInDim s d h (constant z .f32 0x3F666666#32)) m) (mulf (broadcastInDim s d h (constant z .f32 0x3DCCCCCD#32)) g)
    = firsts g m := rfl

/-- The reference's new second moment is `second` at each entry. -/
theorem host_second : addf (mulf (broadcastInDim s d h (constant z .f32 0x3F7FBE77#32)) v) (mulf (broadcastInDim s d h (constant z .f32 0x3A83126F#32)) (mulf g g))
    = seconds g v := rfl

/-- The reference's change is `change` at each entry. -/
theorem host_change : mulf (broadcastInDim s d h (constant z .f32 0xBA83126F#32))
      (addf (Host.divf (Host.divf (addf (mulf (broadcastInDim s d h (constant z .f32 0x3F666666#32)) m) (mulf (broadcastInDim s d h (constant z .f32 0x3DCCCCCD#32)) g))
            (broadcastInDim s d h (constant z .f32 0x3F26BD02#32)))
          (addf (Host.sqrt (Host.divf
              (addf (mulf (broadcastInDim s d h (constant z .f32 0x3F7FBE77#32)) v) (mulf (broadcastInDim s d h (constant z .f32 0x3A83126F#32)) (mulf g g)))
              (broadcastInDim s d h (constant z .f32 0x3C231ACC#32))))
            (broadcastInDim s d h (constant z .f32 0x322BCC77#32))))
        (mulf (broadcastInDim s d h (constant z .f32 0x3C23D70A#32)) w))
    = changes w g m v := rfl

end

end Cert.Adam

end
-- ==== Proof.Landing.lean ====
module

public import proofs.«01_k».proof.Proof.Adam
public import Idealize.ShloMosaic.Lib.Exec
public import Idealize.ShloMosaic.Lib.VecWindow
public import Idealize.ShloMosaic.Lib.ValueLayout
public import Idealize.ShloMosaic.Lib.ValueIdxCore

@[expose] public section

noncomputable section

/-! # The four chips' parts of a weight's gradient: copied, read back one by one, and summed -/

namespace Cert.Adam

open Idealize.ShloMosaic VecWindow
open scoped BigOperators

section
variable {σ : RefSig} {κ : Kind} {sp : Space} {e : EltTy} {F : FTy → Type} [FloatOps F]

/-- What a whole buffer reads after one store over all of it. -/
theorem whole_back {S : Shape} (v : View σ κ sp S e) (x : S.Idx → Elt F e) : v.read (Elt F) (v.writes (Elt F) v.junk [⟨Rect.whole S, x⟩]) = x :=
  funext fun y => (congrArg (v.read (Elt F) _) (Rect.emb_unit_full _ y).symm).trans (View.read_writes_cons_emb v v.junk (Rect.whole S) x [] y)

/-- The load of one chip's part out of the buffer that the copy filled. -/
theorem part_back {n q : ℕ} (v : View σ κ sp (⟨3, ![4, n, q]⟩ : Shape) e) (x : (⟨3, ![4, n, q]⟩ : Shape).Idx → Elt F e) (k : ℕ) (inb) :
    v.readCov [⟨Rect.whole (⟨3, ![4, n, q]⟩ : Shape), x⟩] (Rect.unit (s := (⟨3, ![4, n, q]⟩ : Shape)) ![k, 0, 0] ![1, n, q] inb).toLoadRect
      = (fun y => x (ix3 ⟨k, inb 0⟩ (y 1) (y 2)) : (⟨3, ![1, n, q]⟩ : Shape).Idx → Elt F e) := by
  refine (show _ = window (v.read (Elt F) (v.writes (Elt F) v.junk [⟨Rect.whole (⟨3, ![4, n, q]⟩ : Shape), x⟩])) ![k, 0, 0] ![1, n, q] inb from rfl).trans ?_
  rw [whole_back]
  funext y
  refine congrArg x (funext fun a => Fin.ext ?_)
  match a with
  | ⟨0, _⟩ =>
    have h : (y 0).val < 1 := (y 0).isLt
    show k + 1 * (y 0).val = k
    omega
  | ⟨1, _⟩ => show 0 + 1 * (y 1).val = (y 1).val; omega
  | ⟨2, _⟩ => show 0 + 1 * (y 2).val = (y 2).val; omega

/-- The copy's source: the rows from `o` on of each chip's part. -/
theorem source_rows {N n q : ℕ} (v : View σ κ sp (⟨3, ![4, N, q]⟩ : Shape) e) (l : v.ty.Contents (Elt F)) (o : ℕ) (inb) (h : o + n ≤ N) :
    View.read (Elt F) (v.slice (Rect.unit (s := (⟨3, ![4, N, q]⟩ : Shape)) ![0, o, 0] ![4, n, q] inb)) l
      = (fun y => v.read (Elt F) l (ix3 (y 0) ⟨o + (y 1).val, by have := (y 1).isLt; exact Nat.lt_of_lt_of_le (Nat.add_lt_add_left this o) h⟩ (y 2))
        : (⟨3, ![4, n, q]⟩ : Shape).Idx → Elt F e) := by
  refine (show _ = window (v.read (Elt F) l) ![0, o, 0] ![4, n, q] inb from rfl).trans ?_
  funext y
  refine congrArg (v.read (Elt F) l) (funext fun a => Fin.ext ?_)
  match a with
  | ⟨0, _⟩ => show 0 + 1 * (y 0).val = (y 0).val; omega
  | ⟨1, _⟩ => show o + 1 * (y 1).val = o + (y 1).val; omega
  | ⟨2, _⟩ => show 0 + 1 * (y 2).val = (y 2).val; omega

end

/-- The three offsets of a whole access are zero. -/
theorem at_zero : (![0, 0, 0] : Fin 3 → ℕ) = fun _ => 0 := by
  funext a
  match a with
  | ⟨0, _⟩ => rfl
  | ⟨1, _⟩ => rfl
  | ⟨2, _⟩ => rfl

/-- An index of a block of one layer is a row and a column. -/
theorem one_block {n q : ℕ} (y : (⟨3, ![1, n, q]⟩ : Shape).Idx) : ∃ (r : Fin n) (d : Fin q), y = ix3 0 r d :=
  ⟨y 1, y 2, (eq_ix3 y).trans (congrArg (fun k : Fin 1 => (ix3 k (y 1) (y 2) : (⟨3, ![1, n, q]⟩ : Shape).Idx)) (Subsingleton.elim _ _))⟩

/-- The four chips' parts, as a body's loads bring them: a buffer's four planes. -/
abbrev plane {n q : ℕ} (x : (⟨3, ![4, n, q]⟩ : Shape).Idx → EReal) (k : Fin 4) : Vec Ideal (⟨3, ![1, n, q]⟩ : Shape) .bf16 := fun y => x (ix3 k (y 1) (y 2))

/-- The sum of the four chips' parts of a gradient whose rows lie from `o` on. -/
def total {N q : ℕ} (l : (⟨3, ![4, N, q]⟩ : Shape).Idx → EReal) (o n : ℕ) (h : o + n ≤ N) (r : Fin n) (d : Fin q) : EReal :=
  ∑ k : Fin 4, l (ix3 k ⟨o + r.val, Nat.lt_of_lt_of_le (Nat.add_lt_add_left r.isLt o) h⟩ d)

end Cert.Adam

end
-- ==== Proof.StepOutValue.lean ====
module

public import proofs.«01_k».proof.Defs
public import proofs.«01_k».proof.Proof.Landing
public import proofs.«01_k».proof.Proof.Gen.StepOutIdeal
public import proofs.«01_k».proof.Proof.Gen.StepOutIdeal.Value
public import proofs.«01_k».proof.Proof.Gen.StepOutRefIdeal
public import proofs.«01_k».proof.Proof.Gen.StepOutRefIdeal.Run
public import Idealize.ShloMosaic.Lib.Pipeline.ValueKit.Point

@[expose] public section

noncomputable section

/-! # The AdamW step of the mixer's output weight: kernel and reference -/

namespace Cert.StepOutIdeal.Update

open Idealize.ShloMosaic Idealize.ShloMosaic.TcCoe Idealize.SL.Sem Cert.StepOutIdeal Cert.StepOutIdeal.Gen Cert.Adam
open scoped BigOperators

variable (m : (ℓ : Loc nD τ sig) → Buf (Elt Ideal) ℓ) (c : Dev nD)

/-- The sum of the planes at an entry. -/
theorem sum_at (x : S4x128x1024.Idx → EReal) (r : Fin 128) (d : Fin 1024) :
    k0_pay6 (F := Ideal) (plane x 0) (plane x 1) (plane x 2) (plane x 3) (ix2 r d) = ∑ k : Fin 4, x (ix3 k r d) := by
  unfold k0_pay6
  rw [Fin.sum_univ_four]
  have h := fun k => ValueIdx.shapeCast_1ab_ab_apply (plane x k) shapeCasts_S1x128x1024_S128x1024 r d
  exact congrArg₂ (· + ·) (congrArg₂ (· + ·) (congrArg₂ (· + ·) (h 0) (h 1)) (h 2)) (h 3)

/-- The rows of the landing buffer that this weight's gradient takes. -/
abbrev grad (l : S4x512x1024.Idx → EReal) (r : Fin 128) (d : Fin 1024) : EReal := total l 0 128 (by omega) r d

/-- The gradient as the result's array. -/
def gradOf (l : S4x512x1024.Idx → EReal) : S1x128x1024.Idx → EReal := fun y => grad l (y 1) (y 2)

/-- What the copy carries over. -/
abbrev carried (l : S4x512x1024.Idx → EReal) : S4x128x1024.Idx → EReal := fun y => l (ix3 (y 0) ⟨0 + (y 1).val, by have : (y 1).val < 128 := (y 1).isLt; omega⟩ (y 2))

/-- It is what the copy's source reads. -/
theorem carried_is (l : HbBuf0 (F := Ideal) c hbM0_0) :
    ReadAs.same.apply (View.read (Elt Ideal) ((View.whole main_arg3).slice (Rect.unit (s := S4x512x1024) ![0, 0, 0] ![4, 128, 1024] inb_S4x512x1024_S4x128x1024_0_0_0)) l) = carried l :=
  source_rows (View.whole main_arg3) l 0 _ (by omega)

/-- The sum of what was carried over, as the body computes it. -/
abbrev parts (l : S4x512x1024.Idx → EReal) := k0_pay6 (F := Ideal) (plane (carried l) 0) (plane (carried l) 1) (plane (carried l) 2) (plane (carried l) 3)

/-- A block as a matrix, at an entry. -/
theorem flat (x : Vec Ideal S1x128x1024 .f32) (r : Fin 128) (d : Fin 1024) : shapeCast S128x1024 x shapeCasts_S1x128x1024_S128x1024 (ix2 r d) = x (ix3 0 r d) := ValueIdx.shapeCast_1ab_ab_apply _ _ r d

/-- The sum of what was carried over is the gradient. -/
theorem grad_at (l : S4x512x1024.Idx → EReal) (r : Fin 128) (d : Fin 1024) :
    parts l (ix2 r d) = grad l r d := sum_at _ r d

/-- What the point leaves as the gradient, the change and the moments, as its payloads. -/
theorem left {i : grid0.Coords} {a1 a2 a3 a5 a6 a7 a8 : Memref sig .tc .vmem S1x128x1024 .f32}
    {h1 : a1.IsWhole} {h2 : a2.IsWhole} {h3 : a3.IsWhole} {h5 : a5.IsWhole} {h6 : a6.IsWhole} {h7 : a7.IsWhole} {h8 : a8.IsWhole}
    {a9 : Memref sig .tc .vmem S4x128x1024 .bf16} {h9 : a9.IsWhole} {p : cond0_0 i}
    {w x v : Vec Ideal S1x128x1024 .f32} {l : HbBuf0 (F := Ideal) c hbM0_0} :
    out0_A_3 c i a1 h1 a2 h2 a3 h3 a5 h5 a6 h6 a7 h7 a8 h8 a9 h9 p w x v l = k0_pay2 (parts l) ∧
    out0_A_4 c i a1 h1 a2 h2 a3 h3 a5 h5 a6 h6 a7 h7 a8 h8 a9 h9 p w x v l = k0_pay3 (k0_pay7 w) (k0_pay8 (plane (carried l) 0) (plane (carried l) 1) (plane (carried l) 2) (plane (carried l) 3) x) (k0_pay9 v) (k0_pay10 (plane (carried l) 0) (plane (carried l) 1) (plane (carried l) 2) (plane (carried l) 3)) ∧
    out0_A_5 c i a1 h1 a2 h2 a3 h3 a5 h5 a6 h6 a7 h7 a8 h8 a9 h9 p w x v l = k0_pay4 (k0_pay8 (plane (carried l) 0) (plane (carried l) 1) (plane (carried l) 2) (plane (carried l) 3) x) ∧
    out0_A_6 c i a1 h1 a2 h2 a3 h3 a5 h5 a6 h6 a7 h7 a8 h8 a9 h9 p w x v l = k0_pay5 (k0_pay9 v) (k0_pay10 (plane (carried l) 0) (plane (carried l) 1) (plane (carried l) 2) (plane (carried l) 3)) := by
  refine ⟨(View.read_writes_eq_canon _ _ _ (fun _ => cover0_A_3 ..)).trans ?_,
    (View.read_writes_eq_canon _ _ _ (fun _ => cover0_A_4 ..)).trans ?_,
    (View.read_writes_eq_canon _ _ _ (fun _ => cover0_A_5 ..)).trans ?_,
    (View.read_writes_eq_canon _ _ _ (fun _ => cover0_A_6 ..)).trans ?_⟩
  all_goals
    unfold kernelRun0_A
    dsimp only
    sl_unfold_words
    simp only [View.canon_unit_zero (S := S1x128x1024) at_zero, View.readAt_eq_ld, h1.read_unread, h2.read_unread, h3.read_unread, View.ld_unit_zero (S := S1x128x1024) at_zero]
    rw [part_back, part_back, part_back, part_back, carried_is]
    rfl

/-- The payload of the gradient's sum at an entry. -/
theorem grad_entry (l : S4x512x1024.Idx → EReal) (r : Fin 128) (d : Fin 1024) :
    (k0_pay2 (parts l)) (ix3 0 r d) = grad l r d := by
  rw [← grad_at]
  generalize hg : parts l = g
  unfold k0_pay2
  refine (ValueIdx.shapeCast_ab_1ab_apply _ shapeCasts_S128x1024_S1x128x1024 0 r d).trans ?_
  subst hg
  rfl

/-- The payload of the weight's change at an entry. -/
theorem change_entry {w x v : Vec Ideal S1x128x1024 .f32} (l : S4x512x1024.Idx → EReal) (r : Fin 128) (d : Fin 1024) :
    (k0_pay3 (k0_pay7 w) (k0_pay8 (plane (carried l) 0) (plane (carried l) 1) (plane (carried l) 2) (plane (carried l) 3) x) (k0_pay9 v)
        (k0_pay10 (plane (carried l) 0) (plane (carried l) 1) (plane (carried l) 2) (plane (carried l) 3))) (ix3 0 r d) = change (w (ix3 0 r d)) (grad l r d) (x (ix3 0 r d)) (v (ix3 0 r d)) := by
  rw [← grad_at]
  generalize hg : parts l = g
  rw [← flat w r d, ← flat x r d, ← flat v r d]
  unfold k0_pay3
  refine (ValueIdx.shapeCast_ab_1ab_apply _ shapeCasts_S128x1024_S1x128x1024 0 r d).trans ?_
  subst hg
  rfl

/-- The payload of the new first moment at an entry. -/
theorem first_entry {x : Vec Ideal S1x128x1024 .f32} (l : S4x512x1024.Idx → EReal) (r : Fin 128) (d : Fin 1024) :
    (k0_pay4 (k0_pay8 (plane (carried l) 0) (plane (carried l) 1) (plane (carried l) 2) (plane (carried l) 3) x)) (ix3 0 r d) = first (grad l r d) (x (ix3 0 r d)) := by
  rw [← grad_at]
  generalize hg : parts l = g
  rw [← flat x r d]
  unfold k0_pay4
  refine (ValueIdx.shapeCast_ab_1ab_apply _ shapeCasts_S128x1024_S1x128x1024 0 r d).trans ?_
  subst hg
  rfl

/-- The payload of the new second moment at an entry. -/
theorem second_entry {v : Vec Ideal S1x128x1024 .f32} (l : S4x512x1024.Idx → EReal) (r : Fin 128) (d : Fin 1024) :
    (k0_pay5 (k0_pay9 v) (k0_pay10 (plane (carried l) 0) (plane (carried l) 1) (plane (carried l) 2) (plane (carried l) 3))) (ix3 0 r d) = second (grad l r d) (v (ix3 0 r d)) := by
  rw [← grad_at]
  generalize hg : parts l = g
  rw [← flat v r d]
  unfold k0_pay5
  refine (ValueIdx.shapeCast_ab_1ab_apply _ shapeCasts_S128x1024_S1x128x1024 0 r d).trans ?_
  subst hg
  rfl

/-- The landing buffer's contents. -/
abbrev land : S4x512x1024.Idx → EReal := m ((c.tc : Thread nD τ).loc main_arg3)
/-- The weight before the step, and its two moments. -/
abbrev weight : S1x128x1024.Idx → EReal := m ((c.tc : Thread nD τ).loc main_arg0)
@[inherit_doc weight] abbrev moment1 : S1x128x1024.Idx → EReal := m ((c.tc : Thread nD τ).loc main_arg1)
@[inherit_doc weight] abbrev moment2 : S1x128x1024.Idx → EReal := m ((c.tc : Thread nD τ).loc main_arg2)

/-- Every window of the only point is at the start. -/
theorem windows_at (t : Fin cfg0.N) : win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0] := by
  revert t
  decide +kernel

/-- The weight's block is the weight. -/
theorem weight_block (t : Fin cfg0.N) (r : Fin 128) (d : Fin 1024) : (iblk m c 0 t : S1x128x1024.Idx → EReal) (ix3 0 r d) = weight m c (ix3 0 r d) := by
  have e : (V m c main_arg0 : S1x128x1024.Idx → EReal) = weight m c := rfl
  rw [← e]
  blk_ext [iblk, windows_at t]

/-- The first moment's block is the first moment. -/
theorem moment1_block (t : Fin cfg0.N) (r : Fin 128) (d : Fin 1024) : (iblk m c 1 t : S1x128x1024.Idx → EReal) (ix3 0 r d) = moment1 m c (ix3 0 r d) := by
  have e : (V m c main_arg1 : S1x128x1024.Idx → EReal) = moment1 m c := rfl
  rw [← e]
  blk_ext [iblk, windows_at t]

/-- The second moment's block is the second moment. -/
theorem moment2_block (t : Fin cfg0.N) (r : Fin 128) (d : Fin 1024) : (iblk m c 2 t : S1x128x1024.Idx → EReal) (ix3 0 r d) = moment2 m c (ix3 0 r d) := by
  have e : (V m c main_arg2 : S1x128x1024.Idx → EReal) = moment2 m c := rfl
  rw [← e]
  blk_ext [iblk, windows_at t]

/-- The four result arrays. -/
theorem arrays : (dats m 0 c).arrAt 3 cfg0.N = gradOf (land m c) ∧
    (dats m 0 c).arrAt 4 cfg0.N = changes (weight m c) (gradOf (land m c)) (moment1 m c) (moment2 m c) ∧
    (dats m 0 c).arrAt 5 cfg0.N = firsts (gradOf (land m c)) (moment1 m c) ∧
    (dats m 0 c).arrAt 6 cfg0.N = seconds (gradOf (land m c)) (moment2 m c) := by
  refine ⟨(dats m 0 c).arrAt_eq_of_covers 3 _ (by decide +kernel) fun t _ y => ?_,
    (dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    obtain ⟨r, d, rfl⟩ := one_block (n := 128) (q := 1024) y
  · rw [after0_3]
    unfold outsAt0
    have e : (win0_3.blk t).view.emb (ix3 0 r d : S1x128x1024.Idx) = (ix3 0 r d : S1x128x1024.Idx) := by
      blk_ext [windows_at t]
    dsimp only
    rw [(left c).1]
    refine ((grad_entry (land m c) r d)).trans ?_
    exact congrArg (gradOf (land m c)) e.symm
  · rw [after0_4]
    unfold outsAt0
    have e : (win0_4.blk t).view.emb (ix3 0 r d : S1x128x1024.Idx) = (ix3 0 r d : S1x128x1024.Idx) := by
      blk_ext [windows_at t]
    dsimp only
    rw [(left c).2.1]
    refine ((change_entry (land m c) r d)).trans ?_
    rw [weight_block, moment1_block, moment2_block]
    exact congrArg (changes (weight m c) (gradOf (land m c)) (moment1 m c) (moment2 m c)) e.symm
  · rw [after0_5]
    unfold outsAt0
    have e : (win0_5.blk t).view.emb (ix3 0 r d : S1x128x1024.Idx) = (ix3 0 r d : S1x128x1024.Idx) := by
      blk_ext [windows_at t]
    dsimp only
    rw [(left c).2.2.1]
    refine ((first_entry (land m c) r d)).trans ?_
    rw [moment1_block]
    exact congrArg (firsts (gradOf (land m c)) (moment1 m c)) e.symm
  · rw [after0_6]
    unfold outsAt0
    have e : (win0_6.blk t).view.emb (ix3 0 r d : S1x128x1024.Idx) = (ix3 0 r d : S1x128x1024.Idx) := by
      blk_ext [windows_at t]
    dsimp only
    rw [(left c).2.2.2]
    refine ((second_entry (land m c) r d)).trans ?_
    rw [moment2_block]
    exact congrArg (seconds (gradOf (land m c)) (moment2 m c)) e.symm

end Cert.StepOutIdeal.Update

namespace Cert.StepOutRefIdeal.Update

open Idealize.ShloMosaic Idealize.ShloMosaic.TcCoe Cert.StepOutRefIdeal Cert.StepOutRefIdeal.Gen Cert.Adam
open scoped BigOperators

/-- The reference's gradient: the sum of the parts' first rows over the chips. -/
theorem reference_grad (l : FVec Ideal S4x512x1024 .bf16) :
    (broadcastInDim S1x128x1024 ![1, 2] bcast_S128x1024_S1x128x1024_1_2 (Host.reduceAdd (extf .f32 (extractStridedSlice S4x128x1024 ![0, 0, 0] l slices_S4x512x1024_S4x128x1024_0_0_0) bitsLt_bf16_f32) (constant S_ .f32 0x00000000#32) reducesTo_S4x128x1024_S128x1024_d0 h_S_) : FVec Ideal S1x128x1024 .f32)
      = Cert.StepOutIdeal.Update.gradOf l := by
  funext j
  obtain ⟨k, r, d, rfl⟩ : ∃ (k : Fin 1) (r : Fin 128) (d : Fin 1024), j = ix3 k r d := ⟨j 0, j 1, j 2, eq_ix3 j⟩
  simp only [pointwise, zero_add, reduceDIte, Nat.reduceEqDiff, OfNat.ofNat_ne_one]
  show _ = ∑ i : Fin 4, l (ix3 i ⟨0 + r.val, by omega⟩ d)
  refine Finset.sum_congr rfl fun i _ => congrArg l (funext fun a => Fin.ext ?_)
  match a with
  | ⟨0, _⟩ => exact Nat.zero_add _
  | ⟨1, _⟩ => rfl
  | ⟨2, _⟩ => exact Nat.zero_add _

end Cert.StepOutRefIdeal.Update

namespace Cert.Update

open Idealize.ShloMosaic Idealize.SL.Sem Cert.Adam Cert.StepOutIdeal.Update

/-- From the same arguments, the kernel and the reference end with the same gradient, change and moments of the output weight. -/
theorem algebraic_out : Cert.algebraic_StepOutIdeal_StepOutRefIdeal (hStepOutIdeal := Cert.StepOutIdeal.Gen.facts) (hStepOutRefIdeal := Cert.StepOutRefIdeal.Gen.facts) :=
  fun m g m' g' _ ha => by
  refine ⟨_, _, _, _, (θ_run Cert.StepOutIdeal.defs _ _).mono (fun _ h c => by
    obtain ⟨h3, h4, h5, h6, rest⟩ := h c
    obtain ⟨e3, e4, e5, e6⟩ := arrays m c
    exact ⟨h3.trans e3, h4.trans e4, h5.trans e5, h6.trans e6, rest⟩)
    (Cert.StepOutIdeal.Value.run_blocks (F := Ideal) m g), (θ_run Cert.StepOutRefIdeal.defs _ _).mono (fun r h c => ?_) (Cert.StepOutRefIdeal.Value.run (F := Ideal) m' g')⟩
  obtain ⟨r0, r1, r2, r3, rest⟩ := h c
  rw [Cert.StepOutRefIdeal.Update.reference_grad] at r0 r1 r2 r3
  rw [host_change] at r1
  rw [host_first] at r2
  rw [host_second] at r3
  obtain ⟨h0, h1, h2, h3⟩ := ha c
  rw [h3] at r0
  rw [h0, h1, h2, h3] at r1
  rw [h1, h3] at r2
  rw [h2, h3] at r3
  exact ⟨r0, r1, r2, r3, rest⟩

/-- The reference runs and leaves its arguments and counters as they were. -/
theorem frame_out_reference : Cert.quiescent_StepOutRefIdeal (hStepOutRefIdeal := Cert.StepOutRefIdeal.Gen.facts) := fun m ρ _ =>
  (θ_run Cert.StepOutRefIdeal.defs _ _).mono (fun r h => ⟨fun c => (h c).2.2.2.2, sem_eq_zero_of_no_sems (by decide) r.2⟩)
    (Cert.StepOutRefIdeal.Value.run (F := Ideal) m ρ)

end Cert.Update

end
-- ==== Proof.StepInValue.lean ====
module

public import proofs.«01_k».proof.Defs
public import proofs.«01_k».proof.Proof.Landing
public import proofs.«01_k».proof.Proof.Gen.StepInIdeal
public import proofs.«01_k».proof.Proof.Gen.StepInIdeal.Value
public import proofs.«01_k».proof.Proof.Gen.StepInRefIdeal
public import proofs.«01_k».proof.Proof.Gen.StepInRefIdeal.Run
public import Idealize.ShloMosaic.Lib.Pipeline.ValueKit.Point

@[expose] public section

noncomputable section

/-! # The AdamW step of the mixer's input weight: kernel and reference -/

namespace Cert.StepInIdeal.Update

open Idealize.ShloMosaic Idealize.ShloMosaic.TcCoe Idealize.SL.Sem Cert.StepInIdeal Cert.StepInIdeal.Gen Cert.Adam
open scoped BigOperators

variable (m : (ℓ : Loc nD τ sig) → Buf (Elt Ideal) ℓ) (c : Dev nD)

/-- The transposed sum of the planes at an entry. -/
theorem sum_at (x : S4x384x1024.Idx → EReal) (r : Fin 1024) (d : Fin 384) :
    k0_pay6 (F := Ideal) (plane x 0) (plane x 1) (plane x 2) (plane x 3) (ix2 r d) = ∑ k : Fin 4, x (ix3 k d r) := by
  unfold k0_pay6
  refine (transpose_apply [1, 0] _ transposes_S384x1024_p1_0_S1024x384 (ix2 r d) (ix2 d r) ?_).trans ?_
  · intro a
    match a with
    | ⟨0, _⟩ => rfl
    | ⟨1, _⟩ => rfl
  rw [Fin.sum_univ_four]
  have h := fun k => ValueIdx.shapeCast_1ab_ab_apply (plane x k) shapeCasts_S1x384x1024_S384x1024 d r
  exact congrArg₂ (· + ·) (congrArg₂ (· + ·) (congrArg₂ (· + ·) (h 0) (h 1)) (h 2)) (h 3)

/-- The rows of the landing buffer that this weight's gradient takes. -/
abbrev grad (l : S4x512x1024.Idx → EReal) (r : Fin 1024) (d : Fin 384) : EReal := total l 128 384 (by omega) d r

/-- The gradient as the result's array. -/
def gradOf (l : S4x512x1024.Idx → EReal) : S1x1024x384.Idx → EReal := fun y => grad l (y 1) (y 2)

/-- What the copy carries over. -/
abbrev carried (l : S4x512x1024.Idx → EReal) : S4x384x1024.Idx → EReal := fun y => l (ix3 (y 0) ⟨128 + (y 1).val, by have : (y 1).val < 384 := (y 1).isLt; omega⟩ (y 2))

/-- It is what the copy's source reads. -/
theorem carried_is (l : HbBuf0 (F := Ideal) c hbM0_0) :
    ReadAs.same.apply (View.read (Elt Ideal) ((View.whole main_arg3).slice (Rect.unit (s := S4x512x1024) ![0, 128, 0] ![4, 384, 1024] inb_S4x512x1024_S4x384x1024_0_128_0)) l) = carried l :=
  source_rows (View.whole main_arg3) l 128 _ (by omega)

/-- The sum of what was carried over, as the body computes it. -/
abbrev parts (l : S4x512x1024.Idx → EReal) := k0_pay6 (F := Ideal) (plane (carried l) 0) (plane (carried l) 1) (plane (carried l) 2) (plane (carried l) 3)

/-- A block as a matrix, at an entry. -/
theorem flat (x : Vec Ideal S1x1024x384 .f32) (r : Fin 1024) (d : Fin 384) : shapeCast S1024x384 x shapeCasts_S1x1024x384_S1024x384 (ix2 r d) = x (ix3 0 r d) := ValueIdx.shapeCast_1ab_ab_apply _ _ r d

/-- The sum of what was carried over is the gradient. -/
theorem grad_at (l : S4x512x1024.Idx → EReal) (r : Fin 1024) (d : Fin 384) :
    parts l (ix2 r d) = grad l r d := sum_at _ r d

/-- What the point leaves as the gradient, the change and the moments, as its payloads. -/
theorem left {i : grid0.Coords} {a1 a2 a3 a5 a6 a7 a8 : Memref sig .tc .vmem S1x1024x384 .f32}
    {h1 : a1.IsWhole} {h2 : a2.IsWhole} {h3 : a3.IsWhole} {h5 : a5.IsWhole} {h6 : a6.IsWhole} {h7 : a7.IsWhole} {h8 : a8.IsWhole}
    {a9 : Memref sig .tc .vmem S4x384x1024 .bf16} {h9 : a9.IsWhole} {p : cond0_0 i}
    {w x v : Vec Ideal S1x1024x384 .f32} {l : HbBuf0 (F := Ideal) c hbM0_0} :
    out0_A_3 c i a1 h1 a2 h2 a3 h3 a5 h5 a6 h6 a7 h7 a8 h8 a9 h9 p w x v l = k0_pay2 (parts l) ∧
    out0_A_4 c i a1 h1 a2 h2 a3 h3 a5 h5 a6 h6 a7 h7 a8 h8 a9 h9 p w x v l = k0_pay3 (parts l) (k0_pay7 w) (k0_pay8 (plane (carried l) 0) (plane (carried l) 1) (plane (carried l) 2) (plane (carried l) 3) x) (k0_pay9 v) ∧
    out0_A_5 c i a1 h1 a2 h2 a3 h3 a5 h5 a6 h6 a7 h7 a8 h8 a9 h9 p w x v l = k0_pay4 (k0_pay8 (plane (carried l) 0) (plane (carried l) 1) (plane (carried l) 2) (plane (carried l) 3) x) ∧
    out0_A_6 c i a1 h1 a2 h2 a3 h3 a5 h5 a6 h6 a7 h7 a8 h8 a9 h9 p w x v l = k0_pay5 (parts l) (k0_pay9 v) := by
  refine ⟨(View.read_writes_eq_canon _ _ _ (fun _ => cover0_A_3 ..)).trans ?_,
    (View.read_writes_eq_canon _ _ _ (fun _ => cover0_A_4 ..)).trans ?_,
    (View.read_writes_eq_canon _ _ _ (fun _ => cover0_A_5 ..)).trans ?_,
    (View.read_writes_eq_canon _ _ _ (fun _ => cover0_A_6 ..)).trans ?_⟩
  all_goals
    unfold kernelRun0_A
    dsimp only
    sl_unfold_words
    simp only [View.canon_unit_zero (S := S1x1024x384) at_zero, View.readAt_eq_ld, h1.read_unread, h2.read_unread, h3.read_unread, View.ld_unit_zero (S := S1x1024x384) at_zero]
    rw [part_back, part_back, part_back, part_back, carried_is]
    rfl

/-- The payload of the gradient's sum at an entry. -/
theorem grad_entry (l : S4x512x1024.Idx → EReal) (r : Fin 1024) (d : Fin 384) :
    (k0_pay2 (parts l)) (ix3 0 r d) = grad l r d := by
  rw [← grad_at]
  generalize hg : parts l = g
  unfold k0_pay2
  refine (ValueIdx.shapeCast_ab_1ab_apply _ shapeCasts_S1024x384_S1x1024x384 0 r d).trans ?_
  subst hg
  rfl

/-- The payload of the weight's change at an entry. -/
theorem change_entry {w x v : Vec Ideal S1x1024x384 .f32} (l : S4x512x1024.Idx → EReal) (r : Fin 1024) (d : Fin 384) :
    (k0_pay3 (parts l) (k0_pay7 w) (k0_pay8 (plane (carried l) 0) (plane (carried l) 1) (plane (carried l) 2) (plane (carried l) 3) x) (k0_pay9 v)) (ix3 0 r d) = change (w (ix3 0 r d)) (grad l r d) (x (ix3 0 r d)) (v (ix3 0 r d)) := by
  rw [← grad_at]
  generalize hg : parts l = g
  rw [← flat w r d, ← flat x r d, ← flat v r d]
  unfold k0_pay3
  refine (ValueIdx.shapeCast_ab_1ab_apply _ shapeCasts_S1024x384_S1x1024x384 0 r d).trans ?_
  subst hg
  rfl

/-- The payload of the new first moment at an entry. -/
theorem first_entry {x : Vec Ideal S1x1024x384 .f32} (l : S4x512x1024.Idx → EReal) (r : Fin 1024) (d : Fin 384) :
    (k0_pay4 (k0_pay8 (plane (carried l) 0) (plane (carried l) 1) (plane (carried l) 2) (plane (carried l) 3) x)) (ix3 0 r d) = first (grad l r d) (x (ix3 0 r d)) := by
  rw [← grad_at]
  generalize hg : parts l = g
  rw [← flat x r d]
  unfold k0_pay4
  refine (ValueIdx.shapeCast_ab_1ab_apply _ shapeCasts_S1024x384_S1x1024x384 0 r d).trans ?_
  subst hg
  rfl

/-- The payload of the new second moment at an entry. -/
theorem second_entry {v : Vec Ideal S1x1024x384 .f32} (l : S4x512x1024.Idx → EReal) (r : Fin 1024) (d : Fin 384) :
    (k0_pay5 (parts l) (k0_pay9 v)) (ix3 0 r d) = second (grad l r d) (v (ix3 0 r d)) := by
  rw [← grad_at]
  generalize hg : parts l = g
  rw [← flat v r d]
  unfold k0_pay5
  refine (ValueIdx.shapeCast_ab_1ab_apply _ shapeCasts_S1024x384_S1x1024x384 0 r d).trans ?_
  subst hg
  rfl

/-- The landing buffer's contents. -/
abbrev land : S4x512x1024.Idx → EReal := m ((c.tc : Thread nD τ).loc main_arg3)
/-- The weight before the step, and its two moments. -/
abbrev weight : S1x1024x384.Idx → EReal := m ((c.tc : Thread nD τ).loc main_arg0)
@[inherit_doc weight] abbrev moment1 : S1x1024x384.Idx → EReal := m ((c.tc : Thread nD τ).loc main_arg1)
@[inherit_doc weight] abbrev moment2 : S1x1024x384.Idx → EReal := m ((c.tc : Thread nD τ).loc main_arg2)

/-- Every window of the only point is at the start. -/
theorem windows_at (t : Fin cfg0.N) : win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0] := by
  revert t
  decide +kernel

/-- The weight's block is the weight. -/
theorem weight_block (t : Fin cfg0.N) (r : Fin 1024) (d : Fin 384) : (iblk m c 0 t : S1x1024x384.Idx → EReal) (ix3 0 r d) = weight m c (ix3 0 r d) := by
  have e : (V m c main_arg0 : S1x1024x384.Idx → EReal) = weight m c := rfl
  rw [← e]
  blk_ext [iblk, windows_at t]

/-- The first moment's block is the first moment. -/
theorem moment1_block (t : Fin cfg0.N) (r : Fin 1024) (d : Fin 384) : (iblk m c 1 t : S1x1024x384.Idx → EReal) (ix3 0 r d) = moment1 m c (ix3 0 r d) := by
  have e : (V m c main_arg1 : S1x1024x384.Idx → EReal) = moment1 m c := rfl
  rw [← e]
  blk_ext [iblk, windows_at t]

/-- The second moment's block is the second moment. -/
theorem moment2_block (t : Fin cfg0.N) (r : Fin 1024) (d : Fin 384) : (iblk m c 2 t : S1x1024x384.Idx → EReal) (ix3 0 r d) = moment2 m c (ix3 0 r d) := by
  have e : (V m c main_arg2 : S1x1024x384.Idx → EReal) = moment2 m c := rfl
  rw [← e]
  blk_ext [iblk, windows_at t]

/-- The four result arrays. -/
theorem arrays : (dats m 0 c).arrAt 3 cfg0.N = gradOf (land m c) ∧
    (dats m 0 c).arrAt 4 cfg0.N = changes (weight m c) (gradOf (land m c)) (moment1 m c) (moment2 m c) ∧
    (dats m 0 c).arrAt 5 cfg0.N = firsts (gradOf (land m c)) (moment1 m c) ∧
    (dats m 0 c).arrAt 6 cfg0.N = seconds (gradOf (land m c)) (moment2 m c) := by
  refine ⟨(dats m 0 c).arrAt_eq_of_covers 3 _ (by decide +kernel) fun t _ y => ?_,
    (dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    obtain ⟨r, d, rfl⟩ := one_block (n := 1024) (q := 384) y
  · rw [after0_3]
    unfold outsAt0
    have e : (win0_3.blk t).view.emb (ix3 0 r d : S1x1024x384.Idx) = (ix3 0 r d : S1x1024x384.Idx) := by
      blk_ext [windows_at t]
    dsimp only
    rw [(left c).1]
    refine ((grad_entry (land m c) r d)).trans ?_
    exact congrArg (gradOf (land m c)) e.symm
  · rw [after0_4]
    unfold outsAt0
    have e : (win0_4.blk t).view.emb (ix3 0 r d : S1x1024x384.Idx) = (ix3 0 r d : S1x1024x384.Idx) := by
      blk_ext [windows_at t]
    dsimp only
    rw [(left c).2.1]
    refine ((change_entry (land m c) r d)).trans ?_
    rw [weight_block, moment1_block, moment2_block]
    exact congrArg (changes (weight m c) (gradOf (land m c)) (moment1 m c) (moment2 m c)) e.symm
  · rw [after0_5]
    unfold outsAt0
    have e : (win0_5.blk t).view.emb (ix3 0 r d : S1x1024x384.Idx) = (ix3 0 r d : S1x1024x384.Idx) := by
      blk_ext [windows_at t]
    dsimp only
    rw [(left c).2.2.1]
    refine ((first_entry (land m c) r d)).trans ?_
    rw [moment1_block]
    exact congrArg (firsts (gradOf (land m c)) (moment1 m c)) e.symm
  · rw [after0_6]
    unfold outsAt0
    have e : (win0_6.blk t).view.emb (ix3 0 r d : S1x1024x384.Idx) = (ix3 0 r d : S1x1024x384.Idx) := by
      blk_ext [windows_at t]
    dsimp only
    rw [(left c).2.2.2]
    refine ((second_entry (land m c) r d)).trans ?_
    rw [moment2_block]
    exact congrArg (seconds (gradOf (land m c)) (moment2 m c)) e.symm

end Cert.StepInIdeal.Update

namespace Cert.StepInRefIdeal.Update

open Idealize.ShloMosaic Idealize.ShloMosaic.TcCoe Cert.StepInRefIdeal Cert.StepInRefIdeal.Gen Cert.Adam
open scoped BigOperators

/-- The reference's gradient: the transposed sum of the parts' rows 128 on over the chips. -/
theorem reference_grad (l : FVec Ideal S4x512x1024 .bf16) :
    (broadcastInDim S1x1024x384 ![1, 2] bcast_S1024x384_S1x1024x384_1_2 (transpose S1024x384 [1, 0] (Host.reduceAdd (extf .f32 (extractStridedSlice S4x384x1024 ![0, 128, 0] l slices_S4x512x1024_S4x384x1024_0_128_0) bitsLt_bf16_f32) (constant S_ .f32 0x00000000#32) reducesTo_S4x384x1024_S384x1024_d0 h_S_) transposes_S384x1024_S1024x384_1_0) : FVec Ideal S1x1024x384 .f32)
      = Cert.StepInIdeal.Update.gradOf l := by
  funext j
  obtain ⟨k, r, d, rfl⟩ : ∃ (k : Fin 1) (r : Fin 1024) (d : Fin 384), j = ix3 k r d := ⟨j 0, j 1, j 2, eq_ix3 j⟩
  simp only [pointwise, zero_add, reduceDIte, Nat.reduceEqDiff, OfNat.ofNat_ne_one]
  show _ = ∑ i : Fin 4, l (ix3 i ⟨128 + d.val, by omega⟩ r)
  refine Finset.sum_congr rfl fun i _ => congrArg l (funext fun a => Fin.ext ?_)
  match a with
  | ⟨0, _⟩ => exact Nat.zero_add _
  | ⟨1, _⟩ => rfl
  | ⟨2, _⟩ => exact Nat.zero_add _

end Cert.StepInRefIdeal.Update

namespace Cert.Update

open Idealize.ShloMosaic Idealize.SL.Sem Cert.Adam Cert.StepInIdeal.Update

/-- From the same arguments, the kernel and the reference end with the same gradient, change and moments of the input weight. -/
theorem algebraic_in : Cert.algebraic_StepInIdeal_StepInRefIdeal (hStepInIdeal := Cert.StepInIdeal.Gen.facts) (hStepInRefIdeal := Cert.StepInRefIdeal.Gen.facts) :=
  fun m g m' g' _ ha => by
  refine ⟨_, _, _, _, (θ_run Cert.StepInIdeal.defs _ _).mono (fun _ h c => by
    obtain ⟨h3, h4, h5, h6, rest⟩ := h c
    obtain ⟨e3, e4, e5, e6⟩ := arrays m c
    exact ⟨h3.trans e3, h4.trans e4, h5.trans e5, h6.trans e6, rest⟩)
    (Cert.StepInIdeal.Value.run_blocks (F := Ideal) m g), (θ_run Cert.StepInRefIdeal.defs _ _).mono (fun r h c => ?_) (Cert.StepInRefIdeal.Value.run (F := Ideal) m' g')⟩
  obtain ⟨r0, r1, r2, r3, rest⟩ := h c
  rw [Cert.StepInRefIdeal.Update.reference_grad] at r0 r1 r2 r3
  rw [host_change] at r1
  rw [host_first] at r2
  rw [host_second] at r3
  obtain ⟨h0, h1, h2, h3⟩ := ha c
  rw [h3] at r0
  rw [h0, h1, h2, h3] at r1
  rw [h1, h3] at r2
  rw [h2, h3] at r3
  exact ⟨r0, r1, r2, r3, rest⟩

/-- The reference runs and leaves its arguments and counters as they were. -/
theorem frame_in_reference : Cert.quiescent_StepInRefIdeal (hStepInRefIdeal := Cert.StepInRefIdeal.Gen.facts) := fun m ρ _ =>
  (θ_run Cert.StepInRefIdeal.defs _ _).mono (fun r h => ⟨fun c => (h c).2.2.2.2, sem_eq_zero_of_no_sems (by decide) r.2⟩)
    (Cert.StepInRefIdeal.Value.run (F := Ideal) m ρ)

end Cert.Update

end
-- ==== Proof.StepPw1Value.lean ====
module

public import proofs.«01_k».proof.Defs
public import proofs.«01_k».proof.Proof.Landing
public import proofs.«01_k».proof.Proof.Gen.StepPw1Ideal
public import proofs.«01_k».proof.Proof.Gen.StepPw1Ideal.Value
public import proofs.«01_k».proof.Proof.Gen.StepPw1RefIdeal
public import proofs.«01_k».proof.Proof.Gen.StepPw1RefIdeal.Run
public import Idealize.ShloMosaic.Lib.Pipeline.ValueKit.Point

@[expose] public section

noncomputable section

/-! # The AdamW step of the first pointwise weight: kernel and reference -/

namespace Cert.StepPw1Ideal.Update

open Idealize.ShloMosaic Idealize.ShloMosaic.TcCoe Idealize.SL.Sem Cert.StepPw1Ideal Cert.StepPw1Ideal.Gen Cert.Adam
open scoped BigOperators

variable (m : (ℓ : Loc nD τ sig) → Buf (Elt Ideal) ℓ) (c : Dev nD)

/-- The transposed sum of the planes at an entry. -/
theorem sum_at (x : S4x256x1024.Idx → EReal) (r : Fin 1024) (d : Fin 256) :
    k0_pay6 (F := Ideal) (plane x 0) (plane x 1) (plane x 2) (plane x 3) (ix2 r d) = ∑ k : Fin 4, x (ix3 k d r) := by
  unfold k0_pay6
  refine (transpose_apply [1, 0] _ transposes_S256x1024_p1_0_S1024x256 (ix2 r d) (ix2 d r) ?_).trans ?_
  · intro a
    match a with
    | ⟨0, _⟩ => rfl
    | ⟨1, _⟩ => rfl
  rw [Fin.sum_univ_four]
  have h := fun k => ValueIdx.shapeCast_1ab_ab_apply (plane x k) shapeCasts_S1x256x1024_S256x1024 d r
  exact congrArg₂ (· + ·) (congrArg₂ (· + ·) (congrArg₂ (· + ·) (h 0) (h 1)) (h 2)) (h 3)

/-- The rows of the landing buffer that this weight's gradient takes. -/
abbrev grad (l : S4x3008x1024.Idx → EReal) (r : Fin 1024) (d : Fin 256) : EReal := total l 1056 256 (by omega) d r

/-- The gradient as the result's array. -/
def gradOf (l : S4x3008x1024.Idx → EReal) : S1x1024x256.Idx → EReal := fun y => grad l (y 1) (y 2)

/-- What the copy carries over. -/
abbrev carried (l : S4x3008x1024.Idx → EReal) : S4x256x1024.Idx → EReal := fun y => l (ix3 (y 0) ⟨1056 + (y 1).val, by have : (y 1).val < 256 := (y 1).isLt; omega⟩ (y 2))

/-- It is what the copy's source reads. -/
theorem carried_is (l : HbBuf0 (F := Ideal) c hbM0_0) :
    ReadAs.same.apply (View.read (Elt Ideal) ((View.whole main_arg3).slice (Rect.unit (s := S4x3008x1024) ![0, 1056, 0] ![4, 256, 1024] inb_S4x3008x1024_S4x256x1024_0_1056_0)) l) = carried l :=
  source_rows (View.whole main_arg3) l 1056 _ (by omega)

/-- The sum of what was carried over, as the body computes it. -/
abbrev parts (l : S4x3008x1024.Idx → EReal) := k0_pay6 (F := Ideal) (plane (carried l) 0) (plane (carried l) 1) (plane (carried l) 2) (plane (carried l) 3)

/-- A block as a matrix, at an entry. -/
theorem flat (x : Vec Ideal S1x1024x256 .f32) (r : Fin 1024) (d : Fin 256) : shapeCast S1024x256 x shapeCasts_S1x1024x256_S1024x256 (ix2 r d) = x (ix3 0 r d) := ValueIdx.shapeCast_1ab_ab_apply _ _ r d

/-- The sum of what was carried over is the gradient. -/
theorem grad_at (l : S4x3008x1024.Idx → EReal) (r : Fin 1024) (d : Fin 256) :
    parts l (ix2 r d) = grad l r d := sum_at _ r d

/-- What the point leaves as the gradient, the change and the moments, as its payloads. -/
theorem left {i : grid0.Coords} {a1 a2 a3 a5 a6 a7 a8 : Memref sig .tc .vmem S1x1024x256 .f32}
    {h1 : a1.IsWhole} {h2 : a2.IsWhole} {h3 : a3.IsWhole} {h5 : a5.IsWhole} {h6 : a6.IsWhole} {h7 : a7.IsWhole} {h8 : a8.IsWhole}
    {a9 : Memref sig .tc .vmem S4x256x1024 .bf16} {h9 : a9.IsWhole} {p : cond0_0 i}
    {w x v : Vec Ideal S1x1024x256 .f32} {l : HbBuf0 (F := Ideal) c hbM0_0} {l' : HbBuf0 (F := Ideal) c hbM0_1} :
    out0_A_3 c i a1 h1 a2 h2 a3 h3 a5 h5 a6 h6 a7 h7 a8 h8 a9 h9 p w x v l l' = k0_pay2 (parts l) ∧
    out0_A_4 c i a1 h1 a2 h2 a3 h3 a5 h5 a6 h6 a7 h7 a8 h8 a9 h9 p w x v l l' = k0_pay3 (parts l) (k0_pay7 w) (k0_pay8 (plane (carried l) 0) (plane (carried l) 1) (plane (carried l) 2) (plane (carried l) 3) x) (k0_pay9 v) ∧
    out0_A_5 c i a1 h1 a2 h2 a3 h3 a5 h5 a6 h6 a7 h7 a8 h8 a9 h9 p w x v l l' = k0_pay4 (k0_pay8 (plane (carried l) 0) (plane (carried l) 1) (plane (carried l) 2) (plane (carried l) 3) x) ∧
    out0_A_6 c i a1 h1 a2 h2 a3 h3 a5 h5 a6 h6 a7 h7 a8 h8 a9 h9 p w x v l l' = k0_pay5 (parts l) (k0_pay9 v) := by
  refine ⟨(View.read_writes_eq_canon _ _ _ (fun _ => cover0_A_3 ..)).trans ?_,
    (View.read_writes_eq_canon _ _ _ (fun _ => cover0_A_4 ..)).trans ?_,
    (View.read_writes_eq_canon _ _ _ (fun _ => cover0_A_5 ..)).trans ?_,
    (View.read_writes_eq_canon _ _ _ (fun _ => cover0_A_6 ..)).trans ?_⟩
  all_goals
    unfold kernelRun0_A
    dsimp only
    sl_unfold_words
    simp only [View.canon_unit_zero (S := S1x1024x256) at_zero, View.readAt_eq_ld, h1.read_unread, h2.read_unread, h3.read_unread, View.ld_unit_zero (S := S1x1024x256) at_zero]
    rw [part_back, part_back, part_back, part_back, carried_is]
    rfl

/-- The payload of the gradient's sum at an entry. -/
theorem grad_entry (l : S4x3008x1024.Idx → EReal) (r : Fin 1024) (d : Fin 256) :
    (k0_pay2 (parts l)) (ix3 0 r d) = grad l r d := by
  rw [← grad_at]
  generalize hg : parts l = g
  unfold k0_pay2
  refine (ValueIdx.shapeCast_ab_1ab_apply _ shapeCasts_S1024x256_S1x1024x256 0 r d).trans ?_
  subst hg
  rfl

/-- The payload of the weight's change at an entry. -/
theorem change_entry {w x v : Vec Ideal S1x1024x256 .f32} (l : S4x3008x1024.Idx → EReal) (r : Fin 1024) (d : Fin 256) :
    (k0_pay3 (parts l) (k0_pay7 w) (k0_pay8 (plane (carried l) 0) (plane (carried l) 1) (plane (carried l) 2) (plane (carried l) 3) x) (k0_pay9 v)) (ix3 0 r d) = change (w (ix3 0 r d)) (grad l r d) (x (ix3 0 r d)) (v (ix3 0 r d)) := by
  rw [← grad_at]
  generalize hg : parts l = g
  rw [← flat w r d, ← flat x r d, ← flat v r d]
  unfold k0_pay3
  refine (ValueIdx.shapeCast_ab_1ab_apply _ shapeCasts_S1024x256_S1x1024x256 0 r d).trans ?_
  subst hg
  rfl

/-- The payload of the new first moment at an entry. -/
theorem first_entry {x : Vec Ideal S1x1024x256 .f32} (l : S4x3008x1024.Idx → EReal) (r : Fin 1024) (d : Fin 256) :
    (k0_pay4 (k0_pay8 (plane (carried l) 0) (plane (carried l) 1) (plane (carried l) 2) (plane (carried l) 3) x)) (ix3 0 r d) = first (grad l r d) (x (ix3 0 r d)) := by
  rw [← grad_at]
  generalize hg : parts l = g
  rw [← flat x r d]
  unfold k0_pay4
  refine (ValueIdx.shapeCast_ab_1ab_apply _ shapeCasts_S1024x256_S1x1024x256 0 r d).trans ?_
  subst hg
  rfl

/-- The payload of the new second moment at an entry. -/
theorem second_entry {v : Vec Ideal S1x1024x256 .f32} (l : S4x3008x1024.Idx → EReal) (r : Fin 1024) (d : Fin 256) :
    (k0_pay5 (parts l) (k0_pay9 v)) (ix3 0 r d) = second (grad l r d) (v (ix3 0 r d)) := by
  rw [← grad_at]
  generalize hg : parts l = g
  rw [← flat v r d]
  unfold k0_pay5
  refine (ValueIdx.shapeCast_ab_1ab_apply _ shapeCasts_S1024x256_S1x1024x256 0 r d).trans ?_
  subst hg
  rfl

/-- The landing buffer's contents. -/
abbrev land : S4x3008x1024.Idx → EReal := m ((c.tc : Thread nD τ).loc main_arg3)
/-- The weight before the step, and its two moments. -/
abbrev weight : S1x1024x256.Idx → EReal := m ((c.tc : Thread nD τ).loc main_arg0)
@[inherit_doc weight] abbrev moment1 : S1x1024x256.Idx → EReal := m ((c.tc : Thread nD τ).loc main_arg1)
@[inherit_doc weight] abbrev moment2 : S1x1024x256.Idx → EReal := m ((c.tc : Thread nD τ).loc main_arg2)

/-- Every window of the only point is at the start. -/
theorem windows_at (t : Fin cfg0.N) : win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0] := by
  revert t
  decide +kernel

/-- The weight's block is the weight. -/
theorem weight_block (t : Fin cfg0.N) (r : Fin 1024) (d : Fin 256) : (iblk m c 0 t : S1x1024x256.Idx → EReal) (ix3 0 r d) = weight m c (ix3 0 r d) := by
  have e : (V m c main_arg0 : S1x1024x256.Idx → EReal) = weight m c := rfl
  rw [← e]
  blk_ext [iblk, windows_at t]

/-- The first moment's block is the first moment. -/
theorem moment1_block (t : Fin cfg0.N) (r : Fin 1024) (d : Fin 256) : (iblk m c 1 t : S1x1024x256.Idx → EReal) (ix3 0 r d) = moment1 m c (ix3 0 r d) := by
  have e : (V m c main_arg1 : S1x1024x256.Idx → EReal) = moment1 m c := rfl
  rw [← e]
  blk_ext [iblk, windows_at t]

/-- The second moment's block is the second moment. -/
theorem moment2_block (t : Fin cfg0.N) (r : Fin 1024) (d : Fin 256) : (iblk m c 2 t : S1x1024x256.Idx → EReal) (ix3 0 r d) = moment2 m c (ix3 0 r d) := by
  have e : (V m c main_arg2 : S1x1024x256.Idx → EReal) = moment2 m c := rfl
  rw [← e]
  blk_ext [iblk, windows_at t]

/-- The four result arrays. -/
theorem arrays : (dats m 0 c).arrAt 3 cfg0.N = gradOf (land m c) ∧
    (dats m 0 c).arrAt 4 cfg0.N = changes (weight m c) (gradOf (land m c)) (moment1 m c) (moment2 m c) ∧
    (dats m 0 c).arrAt 5 cfg0.N = firsts (gradOf (land m c)) (moment1 m c) ∧
    (dats m 0 c).arrAt 6 cfg0.N = seconds (gradOf (land m c)) (moment2 m c) := by
  refine ⟨(dats m 0 c).arrAt_eq_of_covers 3 _ (by decide +kernel) fun t _ y => ?_,
    (dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    obtain ⟨r, d, rfl⟩ := one_block (n := 1024) (q := 256) y
  · rw [after0_3]
    unfold outsAt0
    have e : (win0_3.blk t).view.emb (ix3 0 r d : S1x1024x256.Idx) = (ix3 0 r d : S1x1024x256.Idx) := by
      blk_ext [windows_at t]
    dsimp only
    rw [(left c).1]
    refine ((grad_entry (land m c) r d)).trans ?_
    exact congrArg (gradOf (land m c)) e.symm
  · rw [after0_4]
    unfold outsAt0
    have e : (win0_4.blk t).view.emb (ix3 0 r d : S1x1024x256.Idx) = (ix3 0 r d : S1x1024x256.Idx) := by
      blk_ext [windows_at t]
    dsimp only
    rw [(left c).2.1]
    refine ((change_entry (land m c) r d)).trans ?_
    rw [weight_block, moment1_block, moment2_block]
    exact congrArg (changes (weight m c) (gradOf (land m c)) (moment1 m c) (moment2 m c)) e.symm
  · rw [after0_5]
    unfold outsAt0
    have e : (win0_5.blk t).view.emb (ix3 0 r d : S1x1024x256.Idx) = (ix3 0 r d : S1x1024x256.Idx) := by
      blk_ext [windows_at t]
    dsimp only
    rw [(left c).2.2.1]
    refine ((first_entry (land m c) r d)).trans ?_
    rw [moment1_block]
    exact congrArg (firsts (gradOf (land m c)) (moment1 m c)) e.symm
  · rw [after0_6]
    unfold outsAt0
    have e : (win0_6.blk t).view.emb (ix3 0 r d : S1x1024x256.Idx) = (ix3 0 r d : S1x1024x256.Idx) := by
      blk_ext [windows_at t]
    dsimp only
    rw [(left c).2.2.2]
    refine ((second_entry (land m c) r d)).trans ?_
    rw [moment2_block]
    exact congrArg (seconds (gradOf (land m c)) (moment2 m c)) e.symm

end Cert.StepPw1Ideal.Update

namespace Cert.StepPw1RefIdeal.Update

open Idealize.ShloMosaic Idealize.ShloMosaic.TcCoe Cert.StepPw1RefIdeal Cert.StepPw1RefIdeal.Gen Cert.Adam
open scoped BigOperators

/-- The reference's gradient: the transposed sum of the parts' rows 1056 on over the chips. -/
theorem reference_grad (l : FVec Ideal S4x3008x1024 .bf16) :
    (broadcastInDim S1x1024x256 ![1, 2] bcast_S1024x256_S1x1024x256_1_2 (transpose S1024x256 [1, 0] (Host.reduceAdd (extf .f32 (extractStridedSlice S4x256x1024 ![0, 1056, 0] l slices_S4x3008x1024_S4x256x1024_0_1056_0) bitsLt_bf16_f32) (constant S_ .f32 0x00000000#32) reducesTo_S4x256x1024_S256x1024_d0 h_S_) transposes_S256x1024_S1024x256_1_0) : FVec Ideal S1x1024x256 .f32)
      = Cert.StepPw1Ideal.Update.gradOf l := by
  funext j
  obtain ⟨k, r, d, rfl⟩ : ∃ (k : Fin 1) (r : Fin 1024) (d : Fin 256), j = ix3 k r d := ⟨j 0, j 1, j 2, eq_ix3 j⟩
  simp only [pointwise, zero_add, reduceDIte, Nat.reduceEqDiff, OfNat.ofNat_ne_one]
  show _ = ∑ i : Fin 4, l (ix3 i ⟨1056 + d.val, by omega⟩ r)
  refine Finset.sum_congr rfl fun i _ => congrArg l (funext fun a => Fin.ext ?_)
  match a with
  | ⟨0, _⟩ => exact Nat.zero_add _
  | ⟨1, _⟩ => rfl
  | ⟨2, _⟩ => exact Nat.zero_add _

end Cert.StepPw1RefIdeal.Update

namespace Cert.Update

open Idealize.ShloMosaic Idealize.SL.Sem Cert.Adam Cert.StepPw1Ideal.Update

/-- From the same arguments, the kernel and the reference end with the same gradient, change and moments of the first pointwise weight. -/
theorem algebraic_pw1 : Cert.algebraic_StepPw1Ideal_StepPw1RefIdeal (hStepPw1Ideal := Cert.StepPw1Ideal.Gen.facts) (hStepPw1RefIdeal := Cert.StepPw1RefIdeal.Gen.facts) :=
  fun m g m' g' _ ha => by
  refine ⟨_, _, _, _, (θ_run Cert.StepPw1Ideal.defs _ _).mono (fun _ h c => by
    obtain ⟨h3, h4, h5, h6, rest⟩ := h c
    obtain ⟨e3, e4, e5, e6⟩ := arrays m c
    exact ⟨h3.trans e3, h4.trans e4, h5.trans e5, h6.trans e6, rest⟩)
    (Cert.StepPw1Ideal.Value.run_blocks (F := Ideal) m g), (θ_run Cert.StepPw1RefIdeal.defs _ _).mono (fun r h c => ?_) (Cert.StepPw1RefIdeal.Value.run (F := Ideal) m' g')⟩
  obtain ⟨r0, r1, r2, r3, rest⟩ := h c
  rw [Cert.StepPw1RefIdeal.Update.reference_grad] at r0 r1 r2 r3
  rw [host_change] at r1
  rw [host_first] at r2
  rw [host_second] at r3
  obtain ⟨h0, h1, h2, h3⟩ := ha c
  rw [h3] at r0
  rw [h0, h1, h2, h3] at r1
  rw [h1, h3] at r2
  rw [h2, h3] at r3
  exact ⟨r0, r1, r2, r3, rest⟩

/-- The reference runs and leaves its arguments and counters as they were. -/
theorem frame_pw1_reference : Cert.quiescent_StepPw1RefIdeal (hStepPw1RefIdeal := Cert.StepPw1RefIdeal.Gen.facts) := fun m ρ _ =>
  (θ_run Cert.StepPw1RefIdeal.defs _ _).mono (fun r h => ⟨fun c => (h c).2.2.2.2, sem_eq_zero_of_no_sems (by decide) r.2⟩)
    (Cert.StepPw1RefIdeal.Value.run (F := Ideal) m ρ)

end Cert.Update

end
-- ==== Proof.StepPw2Value.lean ====
module

public import proofs.«01_k».proof.Defs
public import proofs.«01_k».proof.Proof.Landing
public import proofs.«01_k».proof.Proof.Gen.StepPw2Ideal
public import proofs.«01_k».proof.Proof.Gen.StepPw2Ideal.Value
public import proofs.«01_k».proof.Proof.Gen.StepPw2RefIdeal
public import proofs.«01_k».proof.Proof.Gen.StepPw2RefIdeal.Run
public import Idealize.ShloMosaic.Lib.Pipeline.ValueKit.Point

@[expose] public section

noncomputable section

/-! # The AdamW step of the second pointwise weight: kernel and reference -/

namespace Cert.StepPw2Ideal.Update

open Idealize.ShloMosaic Idealize.ShloMosaic.TcCoe Idealize.SL.Sem Cert.StepPw2Ideal Cert.StepPw2Ideal.Gen Cert.Adam
open scoped BigOperators

variable (m : (ℓ : Loc nD τ sig) → Buf (Elt Ideal) ℓ) (c : Dev nD)

/-- The sum of the planes at an entry. -/
theorem sum_at (x : S4x128x1024.Idx → EReal) (r : Fin 128) (d : Fin 1024) :
    k0_pay6 (F := Ideal) (plane x 0) (plane x 1) (plane x 2) (plane x 3) (ix2 r d) = ∑ k : Fin 4, x (ix3 k r d) := by
  unfold k0_pay6
  rw [Fin.sum_univ_four]
  have h := fun k => ValueIdx.shapeCast_1ab_ab_apply (plane x k) shapeCasts_S1x128x1024_S128x1024 r d
  exact congrArg₂ (· + ·) (congrArg₂ (· + ·) (congrArg₂ (· + ·) (h 0) (h 1)) (h 2)) (h 3)

/-- The rows of the landing buffer that this weight's gradient takes. -/
abbrev grad (l : S4x3008x1024.Idx → EReal) (r : Fin 128) (d : Fin 1024) : EReal := total l 1312 128 (by omega) r d

/-- The gradient as the result's array. -/
def gradOf (l : S4x3008x1024.Idx → EReal) : S1x128x1024.Idx → EReal := fun y => grad l (y 1) (y 2)

/-- What the copy carries over. -/
abbrev carried (l : S4x3008x1024.Idx → EReal) : S4x128x1024.Idx → EReal := fun y => l (ix3 (y 0) ⟨1312 + (y 1).val, by have : (y 1).val < 128 := (y 1).isLt; omega⟩ (y 2))

/-- It is what the copy's source reads. -/
theorem carried_is (l : HbBuf0 (F := Ideal) c hbM0_0) :
    ReadAs.same.apply (View.read (Elt Ideal) ((View.whole main_arg3).slice (Rect.unit (s := S4x3008x1024) ![0, 1312, 0] ![4, 128, 1024] inb_S4x3008x1024_S4x128x1024_0_1312_0)) l) = carried l :=
  source_rows (View.whole main_arg3) l 1312 _ (by omega)

/-- The sum of what was carried over, as the body computes it. -/
abbrev parts (l : S4x3008x1024.Idx → EReal) := k0_pay6 (F := Ideal) (plane (carried l) 0) (plane (carried l) 1) (plane (carried l) 2) (plane (carried l) 3)

/-- A block as a matrix, at an entry. -/
theorem flat (x : Vec Ideal S1x128x1024 .f32) (r : Fin 128) (d : Fin 1024) : shapeCast S128x1024 x shapeCasts_S1x128x1024_S128x1024 (ix2 r d) = x (ix3 0 r d) := ValueIdx.shapeCast_1ab_ab_apply _ _ r d

/-- The sum of what was carried over is the gradient. -/
theorem grad_at (l : S4x3008x1024.Idx → EReal) (r : Fin 128) (d : Fin 1024) :
    parts l (ix2 r d) = grad l r d := sum_at _ r d

/-- What the point leaves as the gradient, the change and the moments, as its payloads. -/
theorem left {i : grid0.Coords} {a1 a2 a3 a5 a6 a7 a8 : Memref sig .tc .vmem S1x128x1024 .f32}
    {h1 : a1.IsWhole} {h2 : a2.IsWhole} {h3 : a3.IsWhole} {h5 : a5.IsWhole} {h6 : a6.IsWhole} {h7 : a7.IsWhole} {h8 : a8.IsWhole}
    {a9 : Memref sig .tc .vmem S4x128x1024 .bf16} {h9 : a9.IsWhole} {p : cond0_0 i}
    {w x v : Vec Ideal S1x128x1024 .f32} {l : HbBuf0 (F := Ideal) c hbM0_0} {l' : HbBuf0 (F := Ideal) c hbM0_1} :
    out0_A_3 c i a1 h1 a2 h2 a3 h3 a5 h5 a6 h6 a7 h7 a8 h8 a9 h9 p w x v l l' = k0_pay2 (parts l) ∧
    out0_A_4 c i a1 h1 a2 h2 a3 h3 a5 h5 a6 h6 a7 h7 a8 h8 a9 h9 p w x v l l' = k0_pay3 (k0_pay7 w) (k0_pay8 (plane (carried l) 0) (plane (carried l) 1) (plane (carried l) 2) (plane (carried l) 3) x) (k0_pay9 v) (k0_pay10 (plane (carried l) 0) (plane (carried l) 1) (plane (carried l) 2) (plane (carried l) 3)) ∧
    out0_A_5 c i a1 h1 a2 h2 a3 h3 a5 h5 a6 h6 a7 h7 a8 h8 a9 h9 p w x v l l' = k0_pay4 (k0_pay8 (plane (carried l) 0) (plane (carried l) 1) (plane (carried l) 2) (plane (carried l) 3) x) ∧
    out0_A_6 c i a1 h1 a2 h2 a3 h3 a5 h5 a6 h6 a7 h7 a8 h8 a9 h9 p w x v l l' = k0_pay5 (k0_pay9 v) (k0_pay10 (plane (carried l) 0) (plane (carried l) 1) (plane (carried l) 2) (plane (carried l) 3)) := by
  refine ⟨(View.read_writes_eq_canon _ _ _ (fun _ => cover0_A_3 ..)).trans ?_,
    (View.read_writes_eq_canon _ _ _ (fun _ => cover0_A_4 ..)).trans ?_,
    (View.read_writes_eq_canon _ _ _ (fun _ => cover0_A_5 ..)).trans ?_,
    (View.read_writes_eq_canon _ _ _ (fun _ => cover0_A_6 ..)).trans ?_⟩
  all_goals
    unfold kernelRun0_A
    dsimp only
    sl_unfold_words
    simp only [View.canon_unit_zero (S := S1x128x1024) at_zero, View.readAt_eq_ld, h1.read_unread, h2.read_unread, h3.read_unread, View.ld_unit_zero (S := S1x128x1024) at_zero]
    rw [part_back, part_back, part_back, part_back, carried_is]
    rfl

/-- The payload of the gradient's sum at an entry. -/
theorem grad_entry (l : S4x3008x1024.Idx → EReal) (r : Fin 128) (d : Fin 1024) :
    (k0_pay2 (parts l)) (ix3 0 r d) = grad l r d := by
  rw [← grad_at]
  generalize hg : parts l = g
  unfold k0_pay2
  refine (ValueIdx.shapeCast_ab_1ab_apply _ shapeCasts_S128x1024_S1x128x1024 0 r d).trans ?_
  subst hg
  rfl

/-- The payload of the weight's change at an entry. -/
theorem change_entry {w x v : Vec Ideal S1x128x1024 .f32} (l : S4x3008x1024.Idx → EReal) (r : Fin 128) (d : Fin 1024) :
    (k0_pay3 (k0_pay7 w) (k0_pay8 (plane (carried l) 0) (plane (carried l) 1) (plane (carried l) 2) (plane (carried l) 3) x) (k0_pay9 v)
        (k0_pay10 (plane (carried l) 0) (plane (carried l) 1) (plane (carried l) 2) (plane (carried l) 3))) (ix3 0 r d) = change (w (ix3 0 r d)) (grad l r d) (x (ix3 0 r d)) (v (ix3 0 r d)) := by
  rw [← grad_at]
  generalize hg : parts l = g
  rw [← flat w r d, ← flat x r d, ← flat v r d]
  unfold k0_pay3
  refine (ValueIdx.shapeCast_ab_1ab_apply _ shapeCasts_S128x1024_S1x128x1024 0 r d).trans ?_
  subst hg
  rfl

/-- The payload of the new first moment at an entry. -/
theorem first_entry {x : Vec Ideal S1x128x1024 .f32} (l : S4x3008x1024.Idx → EReal) (r : Fin 128) (d : Fin 1024) :
    (k0_pay4 (k0_pay8 (plane (carried l) 0) (plane (carried l) 1) (plane (carried l) 2) (plane (carried l) 3) x)) (ix3 0 r d) = first (grad l r d) (x (ix3 0 r d)) := by
  rw [← grad_at]
  generalize hg : parts l = g
  rw [← flat x r d]
  unfold k0_pay4
  refine (ValueIdx.shapeCast_ab_1ab_apply _ shapeCasts_S128x1024_S1x128x1024 0 r d).trans ?_
  subst hg
  rfl

/-- The payload of the new second moment at an entry. -/
theorem second_entry {v : Vec Ideal S1x128x1024 .f32} (l : S4x3008x1024.Idx → EReal) (r : Fin 128) (d : Fin 1024) :
    (k0_pay5 (k0_pay9 v) (k0_pay10 (plane (carried l) 0) (plane (carried l) 1) (plane (carried l) 2) (plane (carried l) 3))) (ix3 0 r d) = second (grad l r d) (v (ix3 0 r d)) := by
  rw [← grad_at]
  generalize hg : parts l = g
  rw [← flat v r d]
  unfold k0_pay5
  refine (ValueIdx.shapeCast_ab_1ab_apply _ shapeCasts_S128x1024_S1x128x1024 0 r d).trans ?_
  subst hg
  rfl

/-- The landing buffer's contents. -/
abbrev land : S4x3008x1024.Idx → EReal := m ((c.tc : Thread nD τ).loc main_arg3)
/-- The weight before the step, and its two moments. -/
abbrev weight : S1x128x1024.Idx → EReal := m ((c.tc : Thread nD τ).loc main_arg0)
@[inherit_doc weight] abbrev moment1 : S1x128x1024.Idx → EReal := m ((c.tc : Thread nD τ).loc main_arg1)
@[inherit_doc weight] abbrev moment2 : S1x128x1024.Idx → EReal := m ((c.tc : Thread nD τ).loc main_arg2)

/-- Every window of the only point is at the start. -/
theorem windows_at (t : Fin cfg0.N) : win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0] := by
  revert t
  decide +kernel

/-- The weight's block is the weight. -/
theorem weight_block (t : Fin cfg0.N) (r : Fin 128) (d : Fin 1024) : (iblk m c 0 t : S1x128x1024.Idx → EReal) (ix3 0 r d) = weight m c (ix3 0 r d) := by
  have e : (V m c main_arg0 : S1x128x1024.Idx → EReal) = weight m c := rfl
  rw [← e]
  blk_ext [iblk, windows_at t]

/-- The first moment's block is the first moment. -/
theorem moment1_block (t : Fin cfg0.N) (r : Fin 128) (d : Fin 1024) : (iblk m c 1 t : S1x128x1024.Idx → EReal) (ix3 0 r d) = moment1 m c (ix3 0 r d) := by
  have e : (V m c main_arg1 : S1x128x1024.Idx → EReal) = moment1 m c := rfl
  rw [← e]
  blk_ext [iblk, windows_at t]

/-- The second moment's block is the second moment. -/
theorem moment2_block (t : Fin cfg0.N) (r : Fin 128) (d : Fin 1024) : (iblk m c 2 t : S1x128x1024.Idx → EReal) (ix3 0 r d) = moment2 m c (ix3 0 r d) := by
  have e : (V m c main_arg2 : S1x128x1024.Idx → EReal) = moment2 m c := rfl
  rw [← e]
  blk_ext [iblk, windows_at t]

/-- The four result arrays. -/
theorem arrays : (dats m 0 c).arrAt 3 cfg0.N = gradOf (land m c) ∧
    (dats m 0 c).arrAt 4 cfg0.N = changes (weight m c) (gradOf (land m c)) (moment1 m c) (moment2 m c) ∧
    (dats m 0 c).arrAt 5 cfg0.N = firsts (gradOf (land m c)) (moment1 m c) ∧
    (dats m 0 c).arrAt 6 cfg0.N = seconds (gradOf (land m c)) (moment2 m c) := by
  refine ⟨(dats m 0 c).arrAt_eq_of_covers 3 _ (by decide +kernel) fun t _ y => ?_,
    (dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    obtain ⟨r, d, rfl⟩ := one_block (n := 128) (q := 1024) y
  · rw [after0_3]
    unfold outsAt0
    have e : (win0_3.blk t).view.emb (ix3 0 r d : S1x128x1024.Idx) = (ix3 0 r d : S1x128x1024.Idx) := by
      blk_ext [windows_at t]
    dsimp only
    rw [(left c).1]
    refine ((grad_entry (land m c) r d)).trans ?_
    exact congrArg (gradOf (land m c)) e.symm
  · rw [after0_4]
    unfold outsAt0
    have e : (win0_4.blk t).view.emb (ix3 0 r d : S1x128x1024.Idx) = (ix3 0 r d : S1x128x1024.Idx) := by
      blk_ext [windows_at t]
    dsimp only
    rw [(left c).2.1]
    refine ((change_entry (land m c) r d)).trans ?_
    rw [weight_block, moment1_block, moment2_block]
    exact congrArg (changes (weight m c) (gradOf (land m c)) (moment1 m c) (moment2 m c)) e.symm
  · rw [after0_5]
    unfold outsAt0
    have e : (win0_5.blk t).view.emb (ix3 0 r d : S1x128x1024.Idx) = (ix3 0 r d : S1x128x1024.Idx) := by
      blk_ext [windows_at t]
    dsimp only
    rw [(left c).2.2.1]
    refine ((first_entry (land m c) r d)).trans ?_
    rw [moment1_block]
    exact congrArg (firsts (gradOf (land m c)) (moment1 m c)) e.symm
  · rw [after0_6]
    unfold outsAt0
    have e : (win0_6.blk t).view.emb (ix3 0 r d : S1x128x1024.Idx) = (ix3 0 r d : S1x128x1024.Idx) := by
      blk_ext [windows_at t]
    dsimp only
    rw [(left c).2.2.2]
    refine ((second_entry (land m c) r d)).trans ?_
    rw [moment2_block]
    exact congrArg (seconds (gradOf (land m c)) (moment2 m c)) e.symm

end Cert.StepPw2Ideal.Update

namespace Cert.StepPw2RefIdeal.Update

open Idealize.ShloMosaic Idealize.ShloMosaic.TcCoe Cert.StepPw2RefIdeal Cert.StepPw2RefIdeal.Gen Cert.Adam
open scoped BigOperators

/-- The reference's gradient: the sum of the parts' rows 1312 on over the chips. -/
theorem reference_grad (l : FVec Ideal S4x3008x1024 .bf16) :
    (broadcastInDim S1x128x1024 ![1, 2] bcast_S128x1024_S1x128x1024_1_2 (Host.reduceAdd (extf .f32 (extractStridedSlice S4x128x1024 ![0, 1312, 0] l slices_S4x3008x1024_S4x128x1024_0_1312_0) bitsLt_bf16_f32) (constant S_ .f32 0x00000000#32) reducesTo_S4x128x1024_S128x1024_d0 h_S_) : FVec Ideal S1x128x1024 .f32)
      = Cert.StepPw2Ideal.Update.gradOf l := by
  funext j
  obtain ⟨k, r, d, rfl⟩ : ∃ (k : Fin 1) (r : Fin 128) (d : Fin 1024), j = ix3 k r d := ⟨j 0, j 1, j 2, eq_ix3 j⟩
  simp only [pointwise, zero_add, reduceDIte, Nat.reduceEqDiff, OfNat.ofNat_ne_one]
  show _ = ∑ i : Fin 4, l (ix3 i ⟨1312 + r.val, by omega⟩ d)
  refine Finset.sum_congr rfl fun i _ => congrArg l (funext fun a => Fin.ext ?_)
  match a with
  | ⟨0, _⟩ => exact Nat.zero_add _
  | ⟨1, _⟩ => rfl
  | ⟨2, _⟩ => exact Nat.zero_add _

end Cert.StepPw2RefIdeal.Update

namespace Cert.Update

open Idealize.ShloMosaic Idealize.SL.Sem Cert.Adam Cert.StepPw2Ideal.Update

/-- From the same arguments, the kernel and the reference end with the same gradient, change and moments of the second pointwise weight. -/
theorem algebraic_pw2 : Cert.algebraic_StepPw2Ideal_StepPw2RefIdeal (hStepPw2Ideal := Cert.StepPw2Ideal.Gen.facts) (hStepPw2RefIdeal := Cert.StepPw2RefIdeal.Gen.facts) :=
  fun m g m' g' _ ha => by
  refine ⟨_, _, _, _, (θ_run Cert.StepPw2Ideal.defs _ _).mono (fun _ h c => by
    obtain ⟨h3, h4, h5, h6, rest⟩ := h c
    obtain ⟨e3, e4, e5, e6⟩ := arrays m c
    exact ⟨h3.trans e3, h4.trans e4, h5.trans e5, h6.trans e6, rest⟩)
    (Cert.StepPw2Ideal.Value.run_blocks (F := Ideal) m g), (θ_run Cert.StepPw2RefIdeal.defs _ _).mono (fun r h c => ?_) (Cert.StepPw2RefIdeal.Value.run (F := Ideal) m' g')⟩
  obtain ⟨r0, r1, r2, r3, rest⟩ := h c
  rw [Cert.StepPw2RefIdeal.Update.reference_grad] at r0 r1 r2 r3
  rw [host_change] at r1
  rw [host_first] at r2
  rw [host_second] at r3
  obtain ⟨h0, h1, h2, h3⟩ := ha c
  rw [h3] at r0
  rw [h0, h1, h2, h3] at r1
  rw [h1, h3] at r2
  rw [h2, h3] at r3
  exact ⟨r0, r1, r2, r3, rest⟩

/-- The reference runs and leaves its arguments and counters as they were. -/
theorem frame_pw2_reference : Cert.quiescent_StepPw2RefIdeal (hStepPw2RefIdeal := Cert.StepPw2RefIdeal.Gen.facts) := fun m ρ _ =>
  (θ_run Cert.StepPw2RefIdeal.defs _ _).mono (fun r h => ⟨fun c => (h c).2.2.2.2, sem_eq_zero_of_no_sems (by decide) r.2⟩)
    (Cert.StepPw2RefIdeal.Value.run (F := Ideal) m ρ)

end Cert.Update

end
-- ==== Proof.StepDownValue.lean ====
module

public import proofs.«01_k».proof.Defs
public import proofs.«01_k».proof.Proof.Landing
public import proofs.«01_k».proof.Proof.Gen.StepDownIdeal
public import proofs.«01_k».proof.Proof.Gen.StepDownIdeal.Value
public import proofs.«01_k».proof.Proof.Gen.StepDownRefIdeal
public import proofs.«01_k».proof.Proof.Gen.StepDownRefIdeal.Run
public import Idealize.ShloMosaic.Lib.Pipeline.ValueKit.Point

@[expose] public section

noncomputable section

/-! # The AdamW step of the feed-forward output weight (both layers): kernel and reference -/

namespace Cert.StepDownIdeal.Update

open Idealize.ShloMosaic Idealize.ShloMosaic.TcCoe Idealize.SL.Sem Cert.StepDownIdeal Cert.StepDownIdeal.Gen Cert.Adam
open scoped BigOperators

variable (m : (ℓ : Loc nD τ sig) → Buf (Elt Ideal) ℓ) (c : Dev nD)

/-- The sum of the planes at an entry. -/
theorem sum_at (x : S4x352x1024.Idx → EReal) (r : Fin 352) (d : Fin 1024) :
    k0_pay7 (F := Ideal) (plane x 0) (plane x 1) (plane x 2) (plane x 3) (ix2 r d) = ∑ k : Fin 4, x (ix3 k r d) := by
  unfold k0_pay7
  rw [Fin.sum_univ_four]
  have h := fun k => ValueIdx.shapeCast_1ab_ab_apply (plane x k) shapeCasts_S1x352x1024_S352x1024 r d
  exact congrArg₂ (· + ·) (congrArg₂ (· + ·) (congrArg₂ (· + ·) (h 0) (h 1)) (h 2)) (h 3)

/-- The rows of the landing buffer that this weight's gradient takes. -/
abbrev grad {N : ℕ} (l : (⟨3, ![4, N, 1024]⟩ : Shape).Idx → EReal) (o : ℕ) (ho : o + 352 ≤ N) (r : Fin 352) (d : Fin 1024) : EReal := total l o 352 ho r d

/-- The gradients as the result's array: the two layers' rows start at 1440 and at 704 of their buffers. -/
def gradOf (l : S4x3008x1024.Idx → EReal) (l' : S4x3008x1024.Idx → EReal) : S2x352x1024.Idx → EReal := fun y => if (y 0).val = 0 then grad l 1440 (by omega) (y 1) (y 2) else grad l' 704 (by omega) (y 1) (y 2)

/-- What the copy carries over. -/
abbrev carried {N : ℕ} (l : (⟨3, ![4, N, 1024]⟩ : Shape).Idx → EReal) (o : ℕ) (ho : o + 352 ≤ N) : S4x352x1024.Idx → EReal := fun y => l (ix3 (y 0) ⟨o + (y 1).val, by have : (y 1).val < 352 := (y 1).isLt; omega⟩ (y 2))

/-- It is what the first point's copy reads. -/
theorem carried_first (l : HbBuf0 (F := Ideal) c hbM0_0) :
    ReadAs.same.apply (View.read (Elt Ideal) ((View.whole main_arg3).slice (Rect.unit (s := S4x3008x1024) ![0, 1440, 0] ![4, 352, 1024] inb_S4x3008x1024_S4x352x1024_0_1440_0)) l) = carried (N := 3008) l 1440 (by omega) :=
  source_rows (View.whole main_arg3) l 1440 _ (by omega)

/-- It is what the second point's copy reads. -/
theorem carried_second (l : HbBuf0 (F := Ideal) c hbM0_1) :
    ReadAs.same.apply (View.read (Elt Ideal) ((View.whole main_arg4).slice (Rect.unit (s := S4x3008x1024) ![0, 704, 0] ![4, 352, 1024] inb_S4x3008x1024_S4x352x1024_0_704_0)) l) = carried (N := 3008) l 704 (by omega) :=
  source_rows (View.whole main_arg4) l 704 _ (by omega)

/-- The sum of what was carried over, as the body computes it. -/
abbrev parts {N : ℕ} (l : (⟨3, ![4, N, 1024]⟩ : Shape).Idx → EReal) (o : ℕ) (ho : o + 352 ≤ N) := k0_pay7 (F := Ideal) (plane (carried l o ho) 0) (plane (carried l o ho) 1) (plane (carried l o ho) 2) (plane (carried l o ho) 3)

/-- A block as a matrix, at an entry. -/
theorem flat (x : Vec Ideal S1x352x1024 .f32) (r : Fin 352) (d : Fin 1024) : shapeCast S352x1024 x shapeCasts_S1x352x1024_S352x1024 (ix2 r d) = x (ix3 0 r d) := ValueIdx.shapeCast_1ab_ab_apply _ _ r d

/-- The sum of what was carried over is the gradient. -/
theorem grad_at {N : ℕ} (l : (⟨3, ![4, N, 1024]⟩ : Shape).Idx → EReal) (o : ℕ) (ho : o + 352 ≤ N) (r : Fin 352) (d : Fin 1024) :
    parts l o ho (ix2 r d) = grad l o ho r d := sum_at _ r d

section
variable {i : grid0.Coords} {a1 a2 a3 a7 a8 a9 a10 : Memref sig .tc .vmem S1x352x1024 .f32}
    {h1 : a1.IsWhole} {h2 : a2.IsWhole} {h3 : a3.IsWhole} {h7 : a7.IsWhole} {h8 : a8.IsWhole} {h9 : a9.IsWhole} {h10 : a10.IsWhole}
    {a11 : Memref sig .tc .vmem S4x352x1024 .bf16} {h11 : a11.IsWhole}
    {w x v : Vec Ideal S1x352x1024 .f32} {l : HbBuf0 (F := Ideal) c hbM0_0} {l' : HbBuf0 (F := Ideal) c hbM0_1} {l'' : HbBuf0 (F := Ideal) c hbM0_2}

/-- What the first point leaves as the gradient, the change and the moments, as its payloads. -/
theorem left {p : cond0_0 i} {q : ¬cond0_1 i} :
    out0_A_3 c i a1 h1 a2 h2 a3 h3 a7 h7 a8 h8 a9 h9 a10 h10 a11 h11 p q w x v l l' l'' = k0_pay3 (parts (N := 3008) l 1440 (by omega)) ∧
    out0_A_4 c i a1 h1 a2 h2 a3 h3 a7 h7 a8 h8 a9 h9 a10 h10 a11 h11 p q w x v l l' l'' = k0_pay4 (parts (N := 3008) l 1440 (by omega)) (k0_pay8 w) (k0_pay9 v) (k0_pay10 x) k0_pay11 ∧
    out0_A_5 c i a1 h1 a2 h2 a3 h3 a7 h7 a8 h8 a9 h9 a10 h10 a11 h11 p q w x v l l' l'' = k0_pay5 (parts (N := 3008) l 1440 (by omega)) (k0_pay10 x) k0_pay11 ∧
    out0_A_6 c i a1 h1 a2 h2 a3 h3 a7 h7 a8 h8 a9 h9 a10 h10 a11 h11 p q w x v l l' l'' = k0_pay6 (parts (N := 3008) l 1440 (by omega)) (k0_pay9 v) := by
  refine ⟨(View.read_writes_eq_canon _ _ _ (fun _ => cover0_A_3 ..)).trans ?_,
    (View.read_writes_eq_canon _ _ _ (fun _ => cover0_A_4 ..)).trans ?_,
    (View.read_writes_eq_canon _ _ _ (fun _ => cover0_A_5 ..)).trans ?_,
    (View.read_writes_eq_canon _ _ _ (fun _ => cover0_A_6 ..)).trans ?_⟩
  all_goals
    unfold kernelRun0_A
    dsimp only
    sl_unfold_words
    simp only [View.canon_unit_zero (S := S1x352x1024) at_zero, View.readAt_eq_ld, h1.read_unread, h2.read_unread, h3.read_unread, View.ld_unit_zero (S := S1x352x1024) at_zero]
    rw [part_back, part_back, part_back, part_back, carried_first]
    rfl

/-- What the second point leaves as the gradient, the change and the moments, as its payloads. -/
theorem left2 {p : ¬cond0_0 i} {q : cond0_1 i} :
    out0_B_3 c i a1 h1 a2 h2 a3 h3 a7 h7 a8 h8 a9 h9 a10 h10 a11 h11 p q w x v l l' l'' = k0_pay3 (parts (N := 3008) l' 704 (by omega)) ∧
    out0_B_4 c i a1 h1 a2 h2 a3 h3 a7 h7 a8 h8 a9 h9 a10 h10 a11 h11 p q w x v l l' l'' = k0_pay4 (parts (N := 3008) l' 704 (by omega)) (k0_pay8 w) (k0_pay9 v) (k0_pay10 x) k0_pay11 ∧
    out0_B_5 c i a1 h1 a2 h2 a3 h3 a7 h7 a8 h8 a9 h9 a10 h10 a11 h11 p q w x v l l' l'' = k0_pay5 (parts (N := 3008) l' 704 (by omega)) (k0_pay10 x) k0_pay11 ∧
    out0_B_6 c i a1 h1 a2 h2 a3 h3 a7 h7 a8 h8 a9 h9 a10 h10 a11 h11 p q w x v l l' l'' = k0_pay6 (parts (N := 3008) l' 704 (by omega)) (k0_pay9 v) := by
  refine ⟨(View.read_writes_eq_canon _ _ _ (fun _ => cover0_B_3 ..)).trans ?_,
    (View.read_writes_eq_canon _ _ _ (fun _ => cover0_B_4 ..)).trans ?_,
    (View.read_writes_eq_canon _ _ _ (fun _ => cover0_B_5 ..)).trans ?_,
    (View.read_writes_eq_canon _ _ _ (fun _ => cover0_B_6 ..)).trans ?_⟩
  all_goals
    unfold kernelRun0_B
    dsimp only
    sl_unfold_words
    simp only [View.canon_unit_zero (S := S1x352x1024) at_zero, View.readAt_eq_ld, h1.read_unread, h2.read_unread, h3.read_unread, View.ld_unit_zero (S := S1x352x1024) at_zero]
    rw [part_back, part_back, part_back, part_back, carried_second]
    rfl

end

/-- The payload of the gradient's sum at an entry. -/
theorem grad_entry {N : ℕ} (l : (⟨3, ![4, N, 1024]⟩ : Shape).Idx → EReal) (o : ℕ) (ho : o + 352 ≤ N) (r : Fin 352) (d : Fin 1024) :
    (k0_pay3 (parts l o ho)) (ix3 0 r d) = grad l o ho r d := by
  rw [← grad_at l o ho r d]
  generalize hg : parts l o ho = g
  unfold k0_pay3
  refine (ValueIdx.shapeCast_ab_1ab_apply _ shapeCasts_S352x1024_S1x352x1024 0 r d).trans ?_
  subst hg
  rfl

/-- The payload of the weight's change at an entry. -/
theorem change_entry {w x v : Vec Ideal S1x352x1024 .f32} {N : ℕ} (l : (⟨3, ![4, N, 1024]⟩ : Shape).Idx → EReal) (o : ℕ) (ho : o + 352 ≤ N) (r : Fin 352) (d : Fin 1024) :
    (k0_pay4 (parts l o ho) (k0_pay8 w) (k0_pay9 v) (k0_pay10 x) k0_pay11) (ix3 0 r d) = change (w (ix3 0 r d)) (grad l o ho r d) (x (ix3 0 r d)) (v (ix3 0 r d)) := by
  rw [← grad_at l o ho r d]
  generalize hg : parts l o ho = g
  rw [← flat w r d, ← flat x r d, ← flat v r d]
  unfold k0_pay4
  refine (ValueIdx.shapeCast_ab_1ab_apply _ shapeCasts_S352x1024_S1x352x1024 0 r d).trans ?_
  subst hg
  rfl

/-- The payload of the new first moment at an entry. -/
theorem first_entry {x : Vec Ideal S1x352x1024 .f32} {N : ℕ} (l : (⟨3, ![4, N, 1024]⟩ : Shape).Idx → EReal) (o : ℕ) (ho : o + 352 ≤ N) (r : Fin 352) (d : Fin 1024) :
    (k0_pay5 (parts l o ho) (k0_pay10 x) k0_pay11) (ix3 0 r d) = first (grad l o ho r d) (x (ix3 0 r d)) := by
  rw [← grad_at l o ho r d]
  generalize hg : parts l o ho = g
  rw [← flat x r d]
  unfold k0_pay5
  refine (ValueIdx.shapeCast_ab_1ab_apply _ shapeCasts_S352x1024_S1x352x1024 0 r d).trans ?_
  subst hg
  rfl

/-- The payload of the new second moment at an entry. -/
theorem second_entry {v : Vec Ideal S1x352x1024 .f32} {N : ℕ} (l : (⟨3, ![4, N, 1024]⟩ : Shape).Idx → EReal) (o : ℕ) (ho : o + 352 ≤ N) (r : Fin 352) (d : Fin 1024) :
    (k0_pay6 (parts l o ho) (k0_pay9 v)) (ix3 0 r d) = second (grad l o ho r d) (v (ix3 0 r d)) := by
  rw [← grad_at l o ho r d]
  generalize hg : parts l o ho = g
  rw [← flat v r d]
  unfold k0_pay6
  refine (ValueIdx.shapeCast_ab_1ab_apply _ shapeCasts_S352x1024_S1x352x1024 0 r d).trans ?_
  subst hg
  rfl

/-- The contents of the two layers' landing buffers. -/
abbrev land : S4x3008x1024.Idx → EReal := m ((c.tc : Thread nD τ).loc main_arg3)
@[inherit_doc land] abbrev land' : S4x3008x1024.Idx → EReal := m ((c.tc : Thread nD τ).loc main_arg4)
/-- The weight before the step, and its two moments. -/
abbrev weight : S2x352x1024.Idx → EReal := m ((c.tc : Thread nD τ).loc main_arg0)
@[inherit_doc weight] abbrev moment1 : S2x352x1024.Idx → EReal := m ((c.tc : Thread nD τ).loc main_arg1)
@[inherit_doc weight] abbrev moment2 : S2x352x1024.Idx → EReal := m ((c.tc : Thread nD τ).loc main_arg2)

/-- The gradients of the two layers. -/
abbrev grads : S2x352x1024.Idx → EReal := gradOf (land m c) (land' m c)

/-- The layer of a point. -/
abbrev layer (t : Fin cfg0.N) : Fin 2 := ⟨t.val, t.isLt⟩

/-- Every window of a point is at the point's layer. -/
theorem windows_at (t : Fin cfg0.N) : win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] := by
  revert t
  decide +kernel

/-- The weight's block is the layer of the weight. -/
theorem weight_block (t : Fin cfg0.N) (r : Fin 352) (d : Fin 1024) : (iblk m c 0 t : S1x352x1024.Idx → EReal) (ix3 0 r d) = weight m c (ix3 (layer t) r d) := by
  have e : (V m c main_arg0 : S2x352x1024.Idx → EReal) = weight m c := rfl
  rw [← e]
  blk_ext [iblk, windows_at t]

/-- The first moment's block is the layer of the first moment. -/
theorem moment1_block (t : Fin cfg0.N) (r : Fin 352) (d : Fin 1024) : (iblk m c 1 t : S1x352x1024.Idx → EReal) (ix3 0 r d) = moment1 m c (ix3 (layer t) r d) := by
  have e : (V m c main_arg1 : S2x352x1024.Idx → EReal) = moment1 m c := rfl
  rw [← e]
  blk_ext [iblk, windows_at t]

/-- The second moment's block is the layer of the second moment. -/
theorem moment2_block (t : Fin cfg0.N) (r : Fin 352) (d : Fin 1024) : (iblk m c 2 t : S1x352x1024.Idx → EReal) (ix3 0 r d) = moment2 m c (ix3 (layer t) r d) := by
  have e : (V m c main_arg2 : S2x352x1024.Idx → EReal) = moment2 m c := rfl
  rw [← e]
  blk_ext [iblk, windows_at t]

/-- The gradient at an entry of the first layer, and of the second. -/
theorem grad_first (t : Fin cfg0.N) (hz : t.val = 0) (r : Fin 352) (d : Fin 1024) : grads m c (ix3 (layer t) r d) = grad (land m c) 1440 (by omega) r d := if_pos hz
@[inherit_doc grad_first] theorem grad_second (t : Fin cfg0.N) (hz : t.val ≠ 0) (r : Fin 352) (d : Fin 1024) : grads m c (ix3 (layer t) r d) = grad (land' m c) 704 (by omega) r d := if_neg hz

/-- The four result arrays. -/
theorem arrays : (dats m 0 c).arrAt 3 cfg0.N = grads m c ∧
    (dats m 0 c).arrAt 4 cfg0.N = changes (weight m c) (grads m c) (moment1 m c) (moment2 m c) ∧
    (dats m 0 c).arrAt 5 cfg0.N = firsts (grads m c) (moment1 m c) ∧
    (dats m 0 c).arrAt 6 cfg0.N = seconds (grads m c) (moment2 m c) := by
  refine ⟨(dats m 0 c).arrAt_eq_of_covers 3 _ (by decide +kernel) fun t _ y => ?_,
    (dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    obtain ⟨r, d, rfl⟩ := one_block (n := 352) (q := 1024) y
    have ht : t.val < 2 := t.isLt
  · rw [after0_3]
    have e : (win0_3.blk t).view.emb (ix3 0 r d : S1x352x1024.Idx) = (ix3 (layer t) r d : S2x352x1024.Idx) := by
      blk_ext [windows_at t]
    refine Eq.trans ?_ (congrArg (grads m c) e.symm)
    show _ = grads m c (ix3 (layer t) r d)
    by_cases hz : t.val = 0
    · rw [outsAt0_A m c t (by omega) (by omega)]
      dsimp only
      rw [(left c).1]
      refine (grad_entry (land m c) 1440 (by omega) r d).trans ?_
      exact (grad_first m c t hz r d).symm
    · rw [outsAt0_B m c t (by omega) (by omega)]
      dsimp only
      rw [(left2 c).1]
      refine (grad_entry (land' m c) 704 (by omega) r d).trans ?_
      exact (grad_second m c t hz r d).symm
  · rw [after0_4]
    have e : (win0_4.blk t).view.emb (ix3 0 r d : S1x352x1024.Idx) = (ix3 (layer t) r d : S2x352x1024.Idx) := by
      blk_ext [windows_at t]
    refine Eq.trans ?_ (congrArg (changes (weight m c) (grads m c) (moment1 m c) (moment2 m c)) e.symm)
    show _ = change (weight m c (ix3 (layer t) r d)) (grads m c (ix3 (layer t) r d)) (moment1 m c (ix3 (layer t) r d)) (moment2 m c (ix3 (layer t) r d))
    by_cases hz : t.val = 0
    · rw [outsAt0_A m c t (by omega) (by omega)]
      dsimp only
      rw [(left c).2.1]
      refine (change_entry (land m c) 1440 (by omega) r d).trans ?_
      rw [weight_block, moment1_block, moment2_block, grad_first m c t hz r d]
    · rw [outsAt0_B m c t (by omega) (by omega)]
      dsimp only
      rw [(left2 c).2.1]
      refine (change_entry (land' m c) 704 (by omega) r d).trans ?_
      rw [weight_block, moment1_block, moment2_block, grad_second m c t hz r d]
  · rw [after0_5]
    have e : (win0_5.blk t).view.emb (ix3 0 r d : S1x352x1024.Idx) = (ix3 (layer t) r d : S2x352x1024.Idx) := by
      blk_ext [windows_at t]
    refine Eq.trans ?_ (congrArg (firsts (grads m c) (moment1 m c)) e.symm)
    show _ = first (grads m c (ix3 (layer t) r d)) (moment1 m c (ix3 (layer t) r d))
    by_cases hz : t.val = 0
    · rw [outsAt0_A m c t (by omega) (by omega)]
      dsimp only
      rw [(left c).2.2.1]
      refine (first_entry (land m c) 1440 (by omega) r d).trans ?_
      rw [moment1_block, grad_first m c t hz r d]
    · rw [outsAt0_B m c t (by omega) (by omega)]
      dsimp only
      rw [(left2 c).2.2.1]
      refine (first_entry (land' m c) 704 (by omega) r d).trans ?_
      rw [moment1_block, grad_second m c t hz r d]
  · rw [after0_6]
    have e : (win0_6.blk t).view.emb (ix3 0 r d : S1x352x1024.Idx) = (ix3 (layer t) r d : S2x352x1024.Idx) := by
      blk_ext [windows_at t]
    refine Eq.trans ?_ (congrArg (seconds (grads m c) (moment2 m c)) e.symm)
    show _ = second (grads m c (ix3 (layer t) r d)) (moment2 m c (ix3 (layer t) r d))
    by_cases hz : t.val = 0
    · rw [outsAt0_A m c t (by omega) (by omega)]
      dsimp only
      rw [(left c).2.2.2]
      refine (second_entry (land m c) 1440 (by omega) r d).trans ?_
      rw [moment2_block, grad_first m c t hz r d]
    · rw [outsAt0_B m c t (by omega) (by omega)]
      dsimp only
      rw [(left2 c).2.2.2]
      refine (second_entry (land' m c) 704 (by omega) r d).trans ?_
      rw [moment2_block, grad_second m c t hz r d]

end Cert.StepDownIdeal.Update

namespace Cert.StepDownRefIdeal.Update

open Idealize.ShloMosaic Idealize.ShloMosaic.TcCoe Cert.StepDownRefIdeal Cert.StepDownRefIdeal.Gen Cert.Adam
open scoped BigOperators

/-- The reference's gradients: for each layer, the sum of its parts' rows over the chips. -/
theorem reference_grad (l : FVec Ideal S4x3008x1024 .bf16) (l' : FVec Ideal S4x3008x1024 .bf16) :
    (Host.reduceAdd (extf .f32 (concatenate S2x4x352x1024 0 [⟨S1x4x352x1024, (broadcastInDim S1x4x352x1024 ![1, 2, 3] bcast_S4x352x1024_S1x4x352x1024_1_2_3 (extractStridedSlice S4x352x1024 ![0, 1440, 0] l slices_S4x3008x1024_S4x352x1024_0_1440_0))⟩, ⟨S1x4x352x1024, (broadcastInDim S1x4x352x1024 ![1, 2, 3] bcast_S4x352x1024_S1x4x352x1024_1_2_3 (extractStridedSlice S4x352x1024 ![0, 704, 0] l' slices_S4x3008x1024_S4x352x1024_0_704_0))⟩] concatenates_S1x4x352x1024_S1x4x352x1024_S2x4x352x1024_d0) bitsLt_bf16_f32) (constant S_ .f32 0x00000000#32) reducesTo_S2x4x352x1024_S2x352x1024_d1 h_S_ : FVec Ideal S2x352x1024 .f32)
      = Cert.StepDownIdeal.Update.gradOf l l' := by
  funext j
  obtain ⟨b, r, d, rfl⟩ : ∃ (b : Fin 2) (r : Fin 352) (d : Fin 1024), j = ix3 b r d := ⟨j 0, j 1, j 2, eq_ix3 j⟩
  simp only [pointwise, zero_add, reduceDIte, Nat.reduceEqDiff, OfNat.ofNat_ne_one]
  match b with
  | ⟨0, _⟩ =>
    show _ = ∑ i : Fin 4, l (ix3 i ⟨1440 + r.val, by omega⟩ d)
    refine Finset.sum_congr rfl fun i _ => ?_
    refine (dif_pos (show (0 : ℕ) < 1 by omega)).trans (congrArg l (funext fun a => Fin.ext ?_))
    match a with
    | ⟨0, _⟩ => exact Nat.zero_add _
    | ⟨1, _⟩ => rfl
    | ⟨2, _⟩ => exact Nat.zero_add _
  | ⟨1, _⟩ =>
    show _ = ∑ i : Fin 4, l' (ix3 i ⟨704 + r.val, by omega⟩ d)
    refine Finset.sum_congr rfl fun i _ => ?_
    refine (dif_neg (show ¬(1 : ℕ) < 1 by omega)).trans (congrArg l' (funext fun a => Fin.ext ?_))
    match a with
    | ⟨0, _⟩ => exact Nat.zero_add _
    | ⟨1, _⟩ => rfl
    | ⟨2, _⟩ => exact Nat.zero_add _

end Cert.StepDownRefIdeal.Update

namespace Cert.Update

open Idealize.ShloMosaic Idealize.SL.Sem Cert.Adam Cert.StepDownIdeal.Update

/-- From the same arguments, the kernel and the reference end with the same gradient, change and moments of the feed-forward output weight. -/
theorem algebraic_down : Cert.algebraic_StepDownIdeal_StepDownRefIdeal (hStepDownIdeal := Cert.StepDownIdeal.Gen.facts) (hStepDownRefIdeal := Cert.StepDownRefIdeal.Gen.facts) :=
  fun m g m' g' _ ha => by
  refine ⟨_, _, _, _, (θ_run Cert.StepDownIdeal.defs _ _).mono (fun _ h c => by
    obtain ⟨h3, h4, h5, h6, rest⟩ := h c
    obtain ⟨e3, e4, e5, e6⟩ := arrays m c
    exact ⟨h3.trans e3, h4.trans e4, h5.trans e5, h6.trans e6, rest⟩)
    (Cert.StepDownIdeal.Value.run_blocks (F := Ideal) m g), (θ_run Cert.StepDownRefIdeal.defs _ _).mono (fun r h c => ?_) (Cert.StepDownRefIdeal.Value.run (F := Ideal) m' g')⟩
  obtain ⟨r0, r1, r2, r3, rest⟩ := h c
  rw [Cert.StepDownRefIdeal.Update.reference_grad] at r0 r1 r2 r3
  rw [host_change] at r1
  rw [host_first] at r2
  rw [host_second] at r3
  obtain ⟨h0, h1, h2, h3, h4⟩ := ha c
  rw [h3, h4] at r0
  rw [h0, h1, h2, h3, h4] at r1
  rw [h1, h3, h4] at r2
  rw [h2, h3, h4] at r3
  exact ⟨r0, r1, r2, r3, rest⟩

/-- The reference runs and leaves its arguments and counters as they were. -/
theorem frame_down_reference : Cert.quiescent_StepDownRefIdeal (hStepDownRefIdeal := Cert.StepDownRefIdeal.Gen.facts) := fun m ρ _ =>
  (θ_run Cert.StepDownRefIdeal.defs _ _).mono (fun r h => ⟨fun c => (h c).2.2.2.2, sem_eq_zero_of_no_sems (by decide) r.2⟩)
    (Cert.StepDownRefIdeal.Value.run (F := Ideal) m ρ)

end Cert.Update

end
-- ==== Proof.StepGateValue.lean ====
module

public import proofs.«01_k».proof.Defs
public import proofs.«01_k».proof.Proof.Landing
public import proofs.«01_k».proof.Proof.Gen.StepGateIdeal
public import proofs.«01_k».proof.Proof.Gen.StepGateIdeal.Value
public import proofs.«01_k».proof.Proof.Gen.StepGateRefIdeal
public import proofs.«01_k».proof.Proof.Gen.StepGateRefIdeal.Run
public import Idealize.ShloMosaic.Lib.Pipeline.ValueKit.Point

@[expose] public section

noncomputable section

/-! # The AdamW step of the feed-forward gate weight (both layers): kernel and reference -/

namespace Cert.StepGateIdeal.Update

open Idealize.ShloMosaic Idealize.ShloMosaic.TcCoe Idealize.SL.Sem Cert.StepGateIdeal Cert.StepGateIdeal.Gen Cert.Adam
open scoped BigOperators

variable (m : (ℓ : Loc nD τ sig) → Buf (Elt Ideal) ℓ) (c : Dev nD)

/-- The sum of the planes at an entry. -/
theorem sum_at (x : S4x352x1024.Idx → EReal) (r : Fin 352) (d : Fin 1024) :
    k0_pay7 (F := Ideal) (plane x 0) (plane x 1) (plane x 2) (plane x 3) (ix2 r d) = ∑ k : Fin 4, x (ix3 k r d) := by
  unfold k0_pay7
  rw [Fin.sum_univ_four]
  have h := fun k => ValueIdx.shapeCast_1ab_ab_apply (plane x k) shapeCasts_S1x352x1024_S352x1024 r d
  exact congrArg₂ (· + ·) (congrArg₂ (· + ·) (congrArg₂ (· + ·) (h 0) (h 1)) (h 2)) (h 3)

/-- The rows of the landing buffer that this weight's gradient takes. -/
abbrev grad {N : ℕ} (l : (⟨3, ![4, N, 1024]⟩ : Shape).Idx → EReal) (o : ℕ) (ho : o + 352 ≤ N) (r : Fin 352) (d : Fin 1024) : EReal := total l o 352 ho r d

/-- The gradients as the result's array: the two layers' rows start at 0 and at 0 of their buffers. -/
def gradOf (l : S4x704x1024.Idx → EReal) (l' : S4x3008x1024.Idx → EReal) : S2x352x1024.Idx → EReal := fun y => if (y 0).val = 0 then grad l 0 (by omega) (y 1) (y 2) else grad l' 0 (by omega) (y 1) (y 2)

/-- What the copy carries over. -/
abbrev carried {N : ℕ} (l : (⟨3, ![4, N, 1024]⟩ : Shape).Idx → EReal) (o : ℕ) (ho : o + 352 ≤ N) : S4x352x1024.Idx → EReal := fun y => l (ix3 (y 0) ⟨o + (y 1).val, by have : (y 1).val < 352 := (y 1).isLt; omega⟩ (y 2))

/-- It is what the first point's copy reads. -/
theorem carried_first (l : HbBuf0 (F := Ideal) c hbM0_0) :
    ReadAs.same.apply (View.read (Elt Ideal) ((View.whole main_arg3).slice (Rect.unit (s := S4x704x1024) ![0, 0, 0] ![4, 352, 1024] inb_S4x704x1024_S4x352x1024_0_0_0)) l) = carried (N := 704) l 0 (by omega) :=
  source_rows (View.whole main_arg3) l 0 _ (by omega)

/-- It is what the second point's copy reads. -/
theorem carried_second (l : HbBuf0 (F := Ideal) c hbM0_1) :
    ReadAs.same.apply (View.read (Elt Ideal) ((View.whole main_arg4).slice (Rect.unit (s := S4x3008x1024) ![0, 0, 0] ![4, 352, 1024] inb_S4x3008x1024_S4x352x1024_0_0_0)) l) = carried (N := 3008) l 0 (by omega) :=
  source_rows (View.whole main_arg4) l 0 _ (by omega)

/-- The sum of what was carried over, as the body computes it. -/
abbrev parts {N : ℕ} (l : (⟨3, ![4, N, 1024]⟩ : Shape).Idx → EReal) (o : ℕ) (ho : o + 352 ≤ N) := k0_pay7 (F := Ideal) (plane (carried l o ho) 0) (plane (carried l o ho) 1) (plane (carried l o ho) 2) (plane (carried l o ho) 3)

/-- A block as a matrix, at an entry. -/
theorem flat (x : Vec Ideal S1x352x1024 .f32) (r : Fin 352) (d : Fin 1024) : shapeCast S352x1024 x shapeCasts_S1x352x1024_S352x1024 (ix2 r d) = x (ix3 0 r d) := ValueIdx.shapeCast_1ab_ab_apply _ _ r d

/-- The sum of what was carried over is the gradient. -/
theorem grad_at {N : ℕ} (l : (⟨3, ![4, N, 1024]⟩ : Shape).Idx → EReal) (o : ℕ) (ho : o + 352 ≤ N) (r : Fin 352) (d : Fin 1024) :
    parts l o ho (ix2 r d) = grad l o ho r d := sum_at _ r d

section
variable {i : grid0.Coords} {a1 a2 a3 a7 a8 a9 a10 : Memref sig .tc .vmem S1x352x1024 .f32}
    {h1 : a1.IsWhole} {h2 : a2.IsWhole} {h3 : a3.IsWhole} {h7 : a7.IsWhole} {h8 : a8.IsWhole} {h9 : a9.IsWhole} {h10 : a10.IsWhole}
    {a11 : Memref sig .tc .vmem S4x352x1024 .bf16} {h11 : a11.IsWhole}
    {w x v : Vec Ideal S1x352x1024 .f32} {l : HbBuf0 (F := Ideal) c hbM0_0} {l' : HbBuf0 (F := Ideal) c hbM0_1} {l'' : HbBuf0 (F := Ideal) c hbM0_2}

/-- What the first point leaves as the gradient, the change and the moments, as its payloads. -/
theorem left {p : cond0_0 i} {q : ¬cond0_1 i} :
    out0_A_3 c i a1 h1 a2 h2 a3 h3 a7 h7 a8 h8 a9 h9 a10 h10 a11 h11 p q w x v l l' l'' = k0_pay3 (parts (N := 704) l 0 (by omega)) ∧
    out0_A_4 c i a1 h1 a2 h2 a3 h3 a7 h7 a8 h8 a9 h9 a10 h10 a11 h11 p q w x v l l' l'' = k0_pay4 (parts (N := 704) l 0 (by omega)) (k0_pay8 w) (k0_pay9 v) (k0_pay10 x) k0_pay11 ∧
    out0_A_5 c i a1 h1 a2 h2 a3 h3 a7 h7 a8 h8 a9 h9 a10 h10 a11 h11 p q w x v l l' l'' = k0_pay5 (parts (N := 704) l 0 (by omega)) (k0_pay10 x) k0_pay11 ∧
    out0_A_6 c i a1 h1 a2 h2 a3 h3 a7 h7 a8 h8 a9 h9 a10 h10 a11 h11 p q w x v l l' l'' = k0_pay6 (parts (N := 704) l 0 (by omega)) (k0_pay9 v) := by
  refine ⟨(View.read_writes_eq_canon _ _ _ (fun _ => cover0_A_3 ..)).trans ?_,
    (View.read_writes_eq_canon _ _ _ (fun _ => cover0_A_4 ..)).trans ?_,
    (View.read_writes_eq_canon _ _ _ (fun _ => cover0_A_5 ..)).trans ?_,
    (View.read_writes_eq_canon _ _ _ (fun _ => cover0_A_6 ..)).trans ?_⟩
  all_goals
    unfold kernelRun0_A
    dsimp only
    sl_unfold_words
    simp only [View.canon_unit_zero (S := S1x352x1024) at_zero, View.readAt_eq_ld, h1.read_unread, h2.read_unread, h3.read_unread, View.ld_unit_zero (S := S1x352x1024) at_zero]
    rw [part_back, part_back, part_back, part_back, carried_first]
    rfl

/-- What the second point leaves as the gradient, the change and the moments, as its payloads. -/
theorem left2 {p : ¬cond0_0 i} {q : cond0_1 i} :
    out0_B_3 c i a1 h1 a2 h2 a3 h3 a7 h7 a8 h8 a9 h9 a10 h10 a11 h11 p q w x v l l' l'' = k0_pay3 (parts (N := 3008) l' 0 (by omega)) ∧
    out0_B_4 c i a1 h1 a2 h2 a3 h3 a7 h7 a8 h8 a9 h9 a10 h10 a11 h11 p q w x v l l' l'' = k0_pay4 (parts (N := 3008) l' 0 (by omega)) (k0_pay8 w) (k0_pay9 v) (k0_pay10 x) k0_pay11 ∧
    out0_B_5 c i a1 h1 a2 h2 a3 h3 a7 h7 a8 h8 a9 h9 a10 h10 a11 h11 p q w x v l l' l'' = k0_pay5 (parts (N := 3008) l' 0 (by omega)) (k0_pay10 x) k0_pay11 ∧
    out0_B_6 c i a1 h1 a2 h2 a3 h3 a7 h7 a8 h8 a9 h9 a10 h10 a11 h11 p q w x v l l' l'' = k0_pay6 (parts (N := 3008) l' 0 (by omega)) (k0_pay9 v) := by
  refine ⟨(View.read_writes_eq_canon _ _ _ (fun _ => cover0_B_3 ..)).trans ?_,
    (View.read_writes_eq_canon _ _ _ (fun _ => cover0_B_4 ..)).trans ?_,
    (View.read_writes_eq_canon _ _ _ (fun _ => cover0_B_5 ..)).trans ?_,
    (View.read_writes_eq_canon _ _ _ (fun _ => cover0_B_6 ..)).trans ?_⟩
  all_goals
    unfold kernelRun0_B
    dsimp only
    sl_unfold_words
    simp only [View.canon_unit_zero (S := S1x352x1024) at_zero, View.readAt_eq_ld, h1.read_unread, h2.read_unread, h3.read_unread, View.ld_unit_zero (S := S1x352x1024) at_zero]
    rw [part_back, part_back, part_back, part_back, carried_second]
    rfl

end

/-- The payload of the gradient's sum at an entry. -/
theorem grad_entry {N : ℕ} (l : (⟨3, ![4, N, 1024]⟩ : Shape).Idx → EReal) (o : ℕ) (ho : o + 352 ≤ N) (r : Fin 352) (d : Fin 1024) :
    (k0_pay3 (parts l o ho)) (ix3 0 r d) = grad l o ho r d := by
  rw [← grad_at l o ho r d]
  generalize hg : parts l o ho = g
  unfold k0_pay3
  refine (ValueIdx.shapeCast_ab_1ab_apply _ shapeCasts_S352x1024_S1x352x1024 0 r d).trans ?_
  subst hg
  rfl

/-- The payload of the weight's change at an entry. -/
theorem change_entry {w x v : Vec Ideal S1x352x1024 .f32} {N : ℕ} (l : (⟨3, ![4, N, 1024]⟩ : Shape).Idx → EReal) (o : ℕ) (ho : o + 352 ≤ N) (r : Fin 352) (d : Fin 1024) :
    (k0_pay4 (parts l o ho) (k0_pay8 w) (k0_pay9 v) (k0_pay10 x) k0_pay11) (ix3 0 r d) = change (w (ix3 0 r d)) (grad l o ho r d) (x (ix3 0 r d)) (v (ix3 0 r d)) := by
  rw [← grad_at l o ho r d]
  generalize hg : parts l o ho = g
  rw [← flat w r d, ← flat x r d, ← flat v r d]
  unfold k0_pay4
  refine (ValueIdx.shapeCast_ab_1ab_apply _ shapeCasts_S352x1024_S1x352x1024 0 r d).trans ?_
  subst hg
  rfl

/-- The payload of the new first moment at an entry. -/
theorem first_entry {x : Vec Ideal S1x352x1024 .f32} {N : ℕ} (l : (⟨3, ![4, N, 1024]⟩ : Shape).Idx → EReal) (o : ℕ) (ho : o + 352 ≤ N) (r : Fin 352) (d : Fin 1024) :
    (k0_pay5 (parts l o ho) (k0_pay10 x) k0_pay11) (ix3 0 r d) = first (grad l o ho r d) (x (ix3 0 r d)) := by
  rw [← grad_at l o ho r d]
  generalize hg : parts l o ho = g
  rw [← flat x r d]
  unfold k0_pay5
  refine (ValueIdx.shapeCast_ab_1ab_apply _ shapeCasts_S352x1024_S1x352x1024 0 r d).trans ?_
  subst hg
  rfl

/-- The payload of the new second moment at an entry. -/
theorem second_entry {v : Vec Ideal S1x352x1024 .f32} {N : ℕ} (l : (⟨3, ![4, N, 1024]⟩ : Shape).Idx → EReal) (o : ℕ) (ho : o + 352 ≤ N) (r : Fin 352) (d : Fin 1024) :
    (k0_pay6 (parts l o ho) (k0_pay9 v)) (ix3 0 r d) = second (grad l o ho r d) (v (ix3 0 r d)) := by
  rw [← grad_at l o ho r d]
  generalize hg : parts l o ho = g
  rw [← flat v r d]
  unfold k0_pay6
  refine (ValueIdx.shapeCast_ab_1ab_apply _ shapeCasts_S352x1024_S1x352x1024 0 r d).trans ?_
  subst hg
  rfl

/-- The contents of the two layers' landing buffers. -/
abbrev land : S4x704x1024.Idx → EReal := m ((c.tc : Thread nD τ).loc main_arg3)
@[inherit_doc land] abbrev land' : S4x3008x1024.Idx → EReal := m ((c.tc : Thread nD τ).loc main_arg4)
/-- An argument with its columns as rows. -/
abbrev turned (x : FVec Ideal S2x1024x352 .f32) : S2x352x1024.Idx → EReal := transpose S2x352x1024 [0, 2, 1] x transposes_S2x1024x352_S2x352x1024_0_2_1
/-- The weight before the step, and its two moments, rows first. -/
def weight : S2x352x1024.Idx → EReal := turned (m ((c.tc : Thread nD τ).loc main_arg0))
@[inherit_doc weight] def moment1 : S2x352x1024.Idx → EReal := turned (m ((c.tc : Thread nD τ).loc main_arg1))
@[inherit_doc weight] def moment2 : S2x352x1024.Idx → EReal := turned (m ((c.tc : Thread nD τ).loc main_arg2))

/-- The gradients of the two layers. -/
abbrev grads : S2x352x1024.Idx → EReal := gradOf (land m c) (land' m c)

/-- The layer of a point. -/
abbrev layer (t : Fin cfg0.N) : Fin 2 := ⟨t.val, t.isLt⟩

/-- Every window of a point is at the point's layer. -/
theorem windows_at (t : Fin cfg0.N) : win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] := by
  revert t
  decide +kernel

/-- The weight's block is the layer of the weight. -/
theorem weight_block (t : Fin cfg0.N) (r : Fin 352) (d : Fin 1024) : (iblk m c 0 t : S1x352x1024.Idx → EReal) (ix3 0 r d) = weight m c (ix3 (layer t) r d) := by
  have e : (V m c main_v1 : S2x352x1024.Idx → EReal) = weight m c := rfl
  rw [← e]
  blk_ext [iblk, windows_at t]

/-- The first moment's block is the layer of the first moment. -/
theorem moment1_block (t : Fin cfg0.N) (r : Fin 352) (d : Fin 1024) : (iblk m c 1 t : S1x352x1024.Idx → EReal) (ix3 0 r d) = moment1 m c (ix3 (layer t) r d) := by
  have e : (V m c main_v2 : S2x352x1024.Idx → EReal) = moment1 m c := rfl
  rw [← e]
  blk_ext [iblk, windows_at t]

/-- The second moment's block is the layer of the second moment. -/
theorem moment2_block (t : Fin cfg0.N) (r : Fin 352) (d : Fin 1024) : (iblk m c 2 t : S1x352x1024.Idx → EReal) (ix3 0 r d) = moment2 m c (ix3 (layer t) r d) := by
  have e : (V m c main_v3 : S2x352x1024.Idx → EReal) = moment2 m c := rfl
  rw [← e]
  blk_ext [iblk, windows_at t]

/-- The gradient at an entry of the first layer, and of the second. -/
theorem grad_first (t : Fin cfg0.N) (hz : t.val = 0) (r : Fin 352) (d : Fin 1024) : grads m c (ix3 (layer t) r d) = grad (land m c) 0 (by omega) r d := if_pos hz
@[inherit_doc grad_first] theorem grad_second (t : Fin cfg0.N) (hz : t.val ≠ 0) (r : Fin 352) (d : Fin 1024) : grads m c (ix3 (layer t) r d) = grad (land' m c) 0 (by omega) r d := if_neg hz

/-- The four result arrays. -/
theorem arrays : (dats m 0 c).arrAt 3 cfg0.N = grads m c ∧
    (dats m 0 c).arrAt 4 cfg0.N = changes (weight m c) (grads m c) (moment1 m c) (moment2 m c) ∧
    (dats m 0 c).arrAt 5 cfg0.N = firsts (grads m c) (moment1 m c) ∧
    (dats m 0 c).arrAt 6 cfg0.N = seconds (grads m c) (moment2 m c) := by
  refine ⟨(dats m 0 c).arrAt_eq_of_covers 3 _ (by decide +kernel) fun t _ y => ?_,
    (dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    obtain ⟨r, d, rfl⟩ := one_block (n := 352) (q := 1024) y
    have ht : t.val < 2 := t.isLt
  · rw [after0_3]
    have e : (win0_3.blk t).view.emb (ix3 0 r d : S1x352x1024.Idx) = (ix3 (layer t) r d : S2x352x1024.Idx) := by
      blk_ext [windows_at t]
    refine Eq.trans ?_ (congrArg (grads m c) e.symm)
    show _ = grads m c (ix3 (layer t) r d)
    by_cases hz : t.val = 0
    · rw [outsAt0_A m c t (by omega) (by omega)]
      dsimp only
      rw [(left c).1]
      refine (grad_entry (land m c) 0 (by omega) r d).trans ?_
      exact (grad_first m c t hz r d).symm
    · rw [outsAt0_B m c t (by omega) (by omega)]
      dsimp only
      rw [(left2 c).1]
      refine (grad_entry (land' m c) 0 (by omega) r d).trans ?_
      exact (grad_second m c t hz r d).symm
  · rw [after0_4]
    have e : (win0_4.blk t).view.emb (ix3 0 r d : S1x352x1024.Idx) = (ix3 (layer t) r d : S2x352x1024.Idx) := by
      blk_ext [windows_at t]
    refine Eq.trans ?_ (congrArg (changes (weight m c) (grads m c) (moment1 m c) (moment2 m c)) e.symm)
    show _ = change (weight m c (ix3 (layer t) r d)) (grads m c (ix3 (layer t) r d)) (moment1 m c (ix3 (layer t) r d)) (moment2 m c (ix3 (layer t) r d))
    by_cases hz : t.val = 0
    · rw [outsAt0_A m c t (by omega) (by omega)]
      dsimp only
      rw [(left c).2.1]
      refine (change_entry (land m c) 0 (by omega) r d).trans ?_
      rw [weight_block, moment1_block, moment2_block, grad_first m c t hz r d]
    · rw [outsAt0_B m c t (by omega) (by omega)]
      dsimp only
      rw [(left2 c).2.1]
      refine (change_entry (land' m c) 0 (by omega) r d).trans ?_
      rw [weight_block, moment1_block, moment2_block, grad_second m c t hz r d]
  · rw [after0_5]
    have e : (win0_5.blk t).view.emb (ix3 0 r d : S1x352x1024.Idx) = (ix3 (layer t) r d : S2x352x1024.Idx) := by
      blk_ext [windows_at t]
    refine Eq.trans ?_ (congrArg (firsts (grads m c) (moment1 m c)) e.symm)
    show _ = first (grads m c (ix3 (layer t) r d)) (moment1 m c (ix3 (layer t) r d))
    by_cases hz : t.val = 0
    · rw [outsAt0_A m c t (by omega) (by omega)]
      dsimp only
      rw [(left c).2.2.1]
      refine (first_entry (land m c) 0 (by omega) r d).trans ?_
      rw [moment1_block, grad_first m c t hz r d]
    · rw [outsAt0_B m c t (by omega) (by omega)]
      dsimp only
      rw [(left2 c).2.2.1]
      refine (first_entry (land' m c) 0 (by omega) r d).trans ?_
      rw [moment1_block, grad_second m c t hz r d]
  · rw [after0_6]
    have e : (win0_6.blk t).view.emb (ix3 0 r d : S1x352x1024.Idx) = (ix3 (layer t) r d : S2x352x1024.Idx) := by
      blk_ext [windows_at t]
    refine Eq.trans ?_ (congrArg (seconds (grads m c) (moment2 m c)) e.symm)
    show _ = second (grads m c (ix3 (layer t) r d)) (moment2 m c (ix3 (layer t) r d))
    by_cases hz : t.val = 0
    · rw [outsAt0_A m c t (by omega) (by omega)]
      dsimp only
      rw [(left c).2.2.2]
      refine (second_entry (land m c) 0 (by omega) r d).trans ?_
      rw [moment2_block, grad_first m c t hz r d]
    · rw [outsAt0_B m c t (by omega) (by omega)]
      dsimp only
      rw [(left2 c).2.2.2]
      refine (second_entry (land' m c) 0 (by omega) r d).trans ?_
      rw [moment2_block, grad_second m c t hz r d]

end Cert.StepGateIdeal.Update

namespace Cert.StepGateRefIdeal.Update

open Idealize.ShloMosaic Idealize.ShloMosaic.TcCoe Cert.StepGateRefIdeal Cert.StepGateRefIdeal.Gen Cert.Adam
open scoped BigOperators

/-- The reference's gradients: for each layer, the sum of its parts' rows over the chips. -/
theorem reference_grad (l : FVec Ideal S4x704x1024 .bf16) (l' : FVec Ideal S4x3008x1024 .bf16) :
    (Host.reduceAdd (extf .f32 (concatenate S2x4x352x1024 0 [⟨S1x4x352x1024, (broadcastInDim S1x4x352x1024 ![1, 2, 3] bcast_S4x352x1024_S1x4x352x1024_1_2_3 (extractStridedSlice S4x352x1024 ![0, 0, 0] l slices_S4x704x1024_S4x352x1024_0_0_0))⟩, ⟨S1x4x352x1024, (broadcastInDim S1x4x352x1024 ![1, 2, 3] bcast_S4x352x1024_S1x4x352x1024_1_2_3 (extractStridedSlice S4x352x1024 ![0, 0, 0] l' slices_S4x3008x1024_S4x352x1024_0_0_0))⟩] concatenates_S1x4x352x1024_S1x4x352x1024_S2x4x352x1024_d0) bitsLt_bf16_f32) (constant S_ .f32 0x00000000#32) reducesTo_S2x4x352x1024_S2x352x1024_d1 h_S_ : FVec Ideal S2x352x1024 .f32)
      = Cert.StepGateIdeal.Update.gradOf l l' := by
  funext j
  obtain ⟨b, r, d, rfl⟩ : ∃ (b : Fin 2) (r : Fin 352) (d : Fin 1024), j = ix3 b r d := ⟨j 0, j 1, j 2, eq_ix3 j⟩
  simp only [pointwise, zero_add, reduceDIte, Nat.reduceEqDiff, OfNat.ofNat_ne_one]
  match b with
  | ⟨0, _⟩ =>
    show _ = ∑ i : Fin 4, l (ix3 i ⟨0 + r.val, by omega⟩ d)
    refine Finset.sum_congr rfl fun i _ => ?_
    refine (dif_pos (show (0 : ℕ) < 1 by omega)).trans (congrArg l (funext fun a => Fin.ext ?_))
    match a with
    | ⟨0, _⟩ => exact Nat.zero_add _
    | ⟨1, _⟩ => rfl
    | ⟨2, _⟩ => exact Nat.zero_add _
  | ⟨1, _⟩ =>
    show _ = ∑ i : Fin 4, l' (ix3 i ⟨0 + r.val, by omega⟩ d)
    refine Finset.sum_congr rfl fun i _ => ?_
    refine (dif_neg (show ¬(1 : ℕ) < 1 by omega)).trans (congrArg l' (funext fun a => Fin.ext ?_))
    match a with
    | ⟨0, _⟩ => exact Nat.zero_add _
    | ⟨1, _⟩ => rfl
    | ⟨2, _⟩ => exact Nat.zero_add _

end Cert.StepGateRefIdeal.Update

namespace Cert.Update

open Idealize.ShloMosaic Idealize.SL.Sem Cert.Adam Cert.StepGateIdeal.Update

/-- From the same arguments, the kernel and the reference end with the same gradient, change and moments of the feed-forward gate weight. -/
theorem algebraic_gate : Cert.algebraic_StepGateIdeal_StepGateRefIdeal (hStepGateIdeal := Cert.StepGateIdeal.Gen.facts) (hStepGateRefIdeal := Cert.StepGateRefIdeal.Gen.facts) :=
  fun m g m' g' _ ha => by
  refine ⟨_, _, _, _, (θ_run Cert.StepGateIdeal.defs _ _).mono (fun _ h c => by
    obtain ⟨h3, h4, h5, h6, rest⟩ := h c
    obtain ⟨e3, e4, e5, e6⟩ := arrays m c
    exact ⟨h3.trans e3, h4.trans e4, h5.trans e5, h6.trans e6, rest⟩)
    (Cert.StepGateIdeal.Value.run_blocks (F := Ideal) m g), (θ_run Cert.StepGateRefIdeal.defs _ _).mono (fun r h c => ?_) (Cert.StepGateRefIdeal.Value.run (F := Ideal) m' g')⟩
  obtain ⟨r0, r1, r2, r3, rest⟩ := h c
  rw [Cert.StepGateRefIdeal.Update.reference_grad] at r0 r1 r2 r3
  rw [host_change] at r1
  rw [host_first] at r2
  rw [host_second] at r3
  obtain ⟨h0, h1, h2, h3, h4⟩ := ha c
  rw [h3, h4] at r0
  rw [h0, h1, h2, h3, h4] at r1
  rw [h1, h3, h4] at r2
  rw [h2, h3, h4] at r3
  exact ⟨r0, r1, r2, r3, rest⟩

/-- The reference runs and leaves its arguments and counters as they were. -/
theorem frame_gate_reference : Cert.quiescent_StepGateRefIdeal (hStepGateRefIdeal := Cert.StepGateRefIdeal.Gen.facts) := fun m ρ _ =>
  (θ_run Cert.StepGateRefIdeal.defs _ _).mono (fun r h => ⟨fun c => (h c).2.2.2.2, sem_eq_zero_of_no_sems (by decide) r.2⟩)
    (Cert.StepGateRefIdeal.Value.run (F := Ideal) m ρ)

end Cert.Update

end
-- ==== Proof.StepUpValue.lean ====
module

public import proofs.«01_k».proof.Defs
public import proofs.«01_k».proof.Proof.Landing
public import proofs.«01_k».proof.Proof.Gen.StepUpIdeal
public import proofs.«01_k».proof.Proof.Gen.StepUpIdeal.Value
public import proofs.«01_k».proof.Proof.Gen.StepUpRefIdeal
public import proofs.«01_k».proof.Proof.Gen.StepUpRefIdeal.Run
public import Idealize.ShloMosaic.Lib.Pipeline.ValueKit.Point

@[expose] public section

noncomputable section

/-! # The AdamW step of the feed-forward up weight (both layers): kernel and reference -/

namespace Cert.StepUpIdeal.Update

open Idealize.ShloMosaic Idealize.ShloMosaic.TcCoe Idealize.SL.Sem Cert.StepUpIdeal Cert.StepUpIdeal.Gen Cert.Adam
open scoped BigOperators

variable (m : (ℓ : Loc nD τ sig) → Buf (Elt Ideal) ℓ) (c : Dev nD)

/-- The sum of the planes at an entry. -/
theorem sum_at (x : S4x352x1024.Idx → EReal) (r : Fin 352) (d : Fin 1024) :
    k0_pay7 (F := Ideal) (plane x 0) (plane x 1) (plane x 2) (plane x 3) (ix2 r d) = ∑ k : Fin 4, x (ix3 k r d) := by
  unfold k0_pay7
  rw [Fin.sum_univ_four]
  have h := fun k => ValueIdx.shapeCast_1ab_ab_apply (plane x k) shapeCasts_S1x352x1024_S352x1024 r d
  exact congrArg₂ (· + ·) (congrArg₂ (· + ·) (congrArg₂ (· + ·) (h 0) (h 1)) (h 2)) (h 3)

/-- The rows of the landing buffer that this weight's gradient takes. -/
abbrev grad {N : ℕ} (l : (⟨3, ![4, N, 1024]⟩ : Shape).Idx → EReal) (o : ℕ) (ho : o + 352 ≤ N) (r : Fin 352) (d : Fin 1024) : EReal := total l o 352 ho r d

/-- The gradients as the result's array: the two layers' rows start at 352 and at 352 of their buffers. -/
def gradOf (l : S4x704x1024.Idx → EReal) (l' : S4x3008x1024.Idx → EReal) : S2x352x1024.Idx → EReal := fun y => if (y 0).val = 0 then grad l 352 (by omega) (y 1) (y 2) else grad l' 352 (by omega) (y 1) (y 2)

/-- What the copy carries over. -/
abbrev carried {N : ℕ} (l : (⟨3, ![4, N, 1024]⟩ : Shape).Idx → EReal) (o : ℕ) (ho : o + 352 ≤ N) : S4x352x1024.Idx → EReal := fun y => l (ix3 (y 0) ⟨o + (y 1).val, by have : (y 1).val < 352 := (y 1).isLt; omega⟩ (y 2))

/-- It is what the first point's copy reads. -/
theorem carried_first (l : HbBuf0 (F := Ideal) c hbM0_0) :
    ReadAs.same.apply (View.read (Elt Ideal) ((View.whole main_arg3).slice (Rect.unit (s := S4x704x1024) ![0, 352, 0] ![4, 352, 1024] inb_S4x704x1024_S4x352x1024_0_352_0)) l) = carried (N := 704) l 352 (by omega) :=
  source_rows (View.whole main_arg3) l 352 _ (by omega)

/-- It is what the second point's copy reads. -/
theorem carried_second (l : HbBuf0 (F := Ideal) c hbM0_1) :
    ReadAs.same.apply (View.read (Elt Ideal) ((View.whole main_arg4).slice (Rect.unit (s := S4x3008x1024) ![0, 352, 0] ![4, 352, 1024] inb_S4x3008x1024_S4x352x1024_0_352_0)) l) = carried (N := 3008) l 352 (by omega) :=
  source_rows (View.whole main_arg4) l 352 _ (by omega)

/-- The sum of what was carried over, as the body computes it. -/
abbrev parts {N : ℕ} (l : (⟨3, ![4, N, 1024]⟩ : Shape).Idx → EReal) (o : ℕ) (ho : o + 352 ≤ N) := k0_pay7 (F := Ideal) (plane (carried l o ho) 0) (plane (carried l o ho) 1) (plane (carried l o ho) 2) (plane (carried l o ho) 3)

/-- A block as a matrix, at an entry. -/
theorem flat (x : Vec Ideal S1x352x1024 .f32) (r : Fin 352) (d : Fin 1024) : shapeCast S352x1024 x shapeCasts_S1x352x1024_S352x1024 (ix2 r d) = x (ix3 0 r d) := ValueIdx.shapeCast_1ab_ab_apply _ _ r d

/-- The sum of what was carried over is the gradient. -/
theorem grad_at {N : ℕ} (l : (⟨3, ![4, N, 1024]⟩ : Shape).Idx → EReal) (o : ℕ) (ho : o + 352 ≤ N) (r : Fin 352) (d : Fin 1024) :
    parts l o ho (ix2 r d) = grad l o ho r d := sum_at _ r d

section
variable {i : grid0.Coords} {a1 a2 a3 a7 a8 a9 a10 : Memref sig .tc .vmem S1x352x1024 .f32}
    {h1 : a1.IsWhole} {h2 : a2.IsWhole} {h3 : a3.IsWhole} {h7 : a7.IsWhole} {h8 : a8.IsWhole} {h9 : a9.IsWhole} {h10 : a10.IsWhole}
    {a11 : Memref sig .tc .vmem S4x352x1024 .bf16} {h11 : a11.IsWhole}
    {w x v : Vec Ideal S1x352x1024 .f32} {l : HbBuf0 (F := Ideal) c hbM0_0} {l' : HbBuf0 (F := Ideal) c hbM0_1} {l'' : HbBuf0 (F := Ideal) c hbM0_2}

/-- What the first point leaves as the gradient, the change and the moments, as its payloads. -/
theorem left {p : cond0_0 i} {q : ¬cond0_1 i} :
    out0_A_3 c i a1 h1 a2 h2 a3 h3 a7 h7 a8 h8 a9 h9 a10 h10 a11 h11 p q w x v l l' l'' = k0_pay3 (parts (N := 704) l 352 (by omega)) ∧
    out0_A_4 c i a1 h1 a2 h2 a3 h3 a7 h7 a8 h8 a9 h9 a10 h10 a11 h11 p q w x v l l' l'' = k0_pay4 (parts (N := 704) l 352 (by omega)) (k0_pay8 w) (k0_pay9 v) (k0_pay10 x) k0_pay11 ∧
    out0_A_5 c i a1 h1 a2 h2 a3 h3 a7 h7 a8 h8 a9 h9 a10 h10 a11 h11 p q w x v l l' l'' = k0_pay5 (parts (N := 704) l 352 (by omega)) (k0_pay10 x) k0_pay11 ∧
    out0_A_6 c i a1 h1 a2 h2 a3 h3 a7 h7 a8 h8 a9 h9 a10 h10 a11 h11 p q w x v l l' l'' = k0_pay6 (parts (N := 704) l 352 (by omega)) (k0_pay9 v) := by
  refine ⟨(View.read_writes_eq_canon _ _ _ (fun _ => cover0_A_3 ..)).trans ?_,
    (View.read_writes_eq_canon _ _ _ (fun _ => cover0_A_4 ..)).trans ?_,
    (View.read_writes_eq_canon _ _ _ (fun _ => cover0_A_5 ..)).trans ?_,
    (View.read_writes_eq_canon _ _ _ (fun _ => cover0_A_6 ..)).trans ?_⟩
  all_goals
    unfold kernelRun0_A
    dsimp only
    sl_unfold_words
    simp only [View.canon_unit_zero (S := S1x352x1024) at_zero, View.readAt_eq_ld, h1.read_unread, h2.read_unread, h3.read_unread, View.ld_unit_zero (S := S1x352x1024) at_zero]
    rw [part_back, part_back, part_back, part_back, carried_first]
    rfl

/-- What the second point leaves as the gradient, the change and the moments, as its payloads. -/
theorem left2 {p : ¬cond0_0 i} {q : cond0_1 i} :
    out0_B_3 c i a1 h1 a2 h2 a3 h3 a7 h7 a8 h8 a9 h9 a10 h10 a11 h11 p q w x v l l' l'' = k0_pay3 (parts (N := 3008) l' 352 (by omega)) ∧
    out0_B_4 c i a1 h1 a2 h2 a3 h3 a7 h7 a8 h8 a9 h9 a10 h10 a11 h11 p q w x v l l' l'' = k0_pay4 (parts (N := 3008) l' 352 (by omega)) (k0_pay8 w) (k0_pay9 v) (k0_pay10 x) k0_pay11 ∧
    out0_B_5 c i a1 h1 a2 h2 a3 h3 a7 h7 a8 h8 a9 h9 a10 h10 a11 h11 p q w x v l l' l'' = k0_pay5 (parts (N := 3008) l' 352 (by omega)) (k0_pay10 x) k0_pay11 ∧
    out0_B_6 c i a1 h1 a2 h2 a3 h3 a7 h7 a8 h8 a9 h9 a10 h10 a11 h11 p q w x v l l' l'' = k0_pay6 (parts (N := 3008) l' 352 (by omega)) (k0_pay9 v) := by
  refine ⟨(View.read_writes_eq_canon _ _ _ (fun _ => cover0_B_3 ..)).trans ?_,
    (View.read_writes_eq_canon _ _ _ (fun _ => cover0_B_4 ..)).trans ?_,
    (View.read_writes_eq_canon _ _ _ (fun _ => cover0_B_5 ..)).trans ?_,
    (View.read_writes_eq_canon _ _ _ (fun _ => cover0_B_6 ..)).trans ?_⟩
  all_goals
    unfold kernelRun0_B
    dsimp only
    sl_unfold_words
    simp only [View.canon_unit_zero (S := S1x352x1024) at_zero, View.readAt_eq_ld, h1.read_unread, h2.read_unread, h3.read_unread, View.ld_unit_zero (S := S1x352x1024) at_zero]
    rw [part_back, part_back, part_back, part_back, carried_second]
    rfl

end

/-- The payload of the gradient's sum at an entry. -/
theorem grad_entry {N : ℕ} (l : (⟨3, ![4, N, 1024]⟩ : Shape).Idx → EReal) (o : ℕ) (ho : o + 352 ≤ N) (r : Fin 352) (d : Fin 1024) :
    (k0_pay3 (parts l o ho)) (ix3 0 r d) = grad l o ho r d := by
  rw [← grad_at l o ho r d]
  generalize hg : parts l o ho = g
  unfold k0_pay3
  refine (ValueIdx.shapeCast_ab_1ab_apply _ shapeCasts_S352x1024_S1x352x1024 0 r d).trans ?_
  subst hg
  rfl

/-- The payload of the weight's change at an entry. -/
theorem change_entry {w x v : Vec Ideal S1x352x1024 .f32} {N : ℕ} (l : (⟨3, ![4, N, 1024]⟩ : Shape).Idx → EReal) (o : ℕ) (ho : o + 352 ≤ N) (r : Fin 352) (d : Fin 1024) :
    (k0_pay4 (parts l o ho) (k0_pay8 w) (k0_pay9 v) (k0_pay10 x) k0_pay11) (ix3 0 r d) = change (w (ix3 0 r d)) (grad l o ho r d) (x (ix3 0 r d)) (v (ix3 0 r d)) := by
  rw [← grad_at l o ho r d]
  generalize hg : parts l o ho = g
  rw [← flat w r d, ← flat x r d, ← flat v r d]
  unfold k0_pay4
  refine (ValueIdx.shapeCast_ab_1ab_apply _ shapeCasts_S352x1024_S1x352x1024 0 r d).trans ?_
  subst hg
  rfl

/-- The payload of the new first moment at an entry. -/
theorem first_entry {x : Vec Ideal S1x352x1024 .f32} {N : ℕ} (l : (⟨3, ![4, N, 1024]⟩ : Shape).Idx → EReal) (o : ℕ) (ho : o + 352 ≤ N) (r : Fin 352) (d : Fin 1024) :
    (k0_pay5 (parts l o ho) (k0_pay10 x) k0_pay11) (ix3 0 r d) = first (grad l o ho r d) (x (ix3 0 r d)) := by
  rw [← grad_at l o ho r d]
  generalize hg : parts l o ho = g
  rw [← flat x r d]
  unfold k0_pay5
  refine (ValueIdx.shapeCast_ab_1ab_apply _ shapeCasts_S352x1024_S1x352x1024 0 r d).trans ?_
  subst hg
  rfl

/-- The payload of the new second moment at an entry. -/
theorem second_entry {v : Vec Ideal S1x352x1024 .f32} {N : ℕ} (l : (⟨3, ![4, N, 1024]⟩ : Shape).Idx → EReal) (o : ℕ) (ho : o + 352 ≤ N) (r : Fin 352) (d : Fin 1024) :
    (k0_pay6 (parts l o ho) (k0_pay9 v)) (ix3 0 r d) = second (grad l o ho r d) (v (ix3 0 r d)) := by
  rw [← grad_at l o ho r d]
  generalize hg : parts l o ho = g
  rw [← flat v r d]
  unfold k0_pay6
  refine (ValueIdx.shapeCast_ab_1ab_apply _ shapeCasts_S352x1024_S1x352x1024 0 r d).trans ?_
  subst hg
  rfl

/-- The contents of the two layers' landing buffers. -/
abbrev land : S4x704x1024.Idx → EReal := m ((c.tc : Thread nD τ).loc main_arg3)
@[inherit_doc land] abbrev land' : S4x3008x1024.Idx → EReal := m ((c.tc : Thread nD τ).loc main_arg4)
/-- An argument with its columns as rows. -/
abbrev turned (x : FVec Ideal S2x1024x352 .f32) : S2x352x1024.Idx → EReal := transpose S2x352x1024 [0, 2, 1] x transposes_S2x1024x352_S2x352x1024_0_2_1
/-- The weight before the step, and its two moments, rows first. -/
def weight : S2x352x1024.Idx → EReal := turned (m ((c.tc : Thread nD τ).loc main_arg0))
@[inherit_doc weight] def moment1 : S2x352x1024.Idx → EReal := turned (m ((c.tc : Thread nD τ).loc main_arg1))
@[inherit_doc weight] def moment2 : S2x352x1024.Idx → EReal := turned (m ((c.tc : Thread nD τ).loc main_arg2))

/-- The gradients of the two layers. -/
abbrev grads : S2x352x1024.Idx → EReal := gradOf (land m c) (land' m c)

/-- The layer of a point. -/
abbrev layer (t : Fin cfg0.N) : Fin 2 := ⟨t.val, t.isLt⟩

/-- Every window of a point is at the point's layer. -/
theorem windows_at (t : Fin cfg0.N) : win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] := by
  revert t
  decide +kernel

/-- The weight's block is the layer of the weight. -/
theorem weight_block (t : Fin cfg0.N) (r : Fin 352) (d : Fin 1024) : (iblk m c 0 t : S1x352x1024.Idx → EReal) (ix3 0 r d) = weight m c (ix3 (layer t) r d) := by
  have e : (V m c main_v1 : S2x352x1024.Idx → EReal) = weight m c := rfl
  rw [← e]
  blk_ext [iblk, windows_at t]

/-- The first moment's block is the layer of the first moment. -/
theorem moment1_block (t : Fin cfg0.N) (r : Fin 352) (d : Fin 1024) : (iblk m c 1 t : S1x352x1024.Idx → EReal) (ix3 0 r d) = moment1 m c (ix3 (layer t) r d) := by
  have e : (V m c main_v2 : S2x352x1024.Idx → EReal) = moment1 m c := rfl
  rw [← e]
  blk_ext [iblk, windows_at t]

/-- The second moment's block is the layer of the second moment. -/
theorem moment2_block (t : Fin cfg0.N) (r : Fin 352) (d : Fin 1024) : (iblk m c 2 t : S1x352x1024.Idx → EReal) (ix3 0 r d) = moment2 m c (ix3 (layer t) r d) := by
  have e : (V m c main_v3 : S2x352x1024.Idx → EReal) = moment2 m c := rfl
  rw [← e]
  blk_ext [iblk, windows_at t]

/-- The gradient at an entry of the first layer, and of the second. -/
theorem grad_first (t : Fin cfg0.N) (hz : t.val = 0) (r : Fin 352) (d : Fin 1024) : grads m c (ix3 (layer t) r d) = grad (land m c) 352 (by omega) r d := if_pos hz
@[inherit_doc grad_first] theorem grad_second (t : Fin cfg0.N) (hz : t.val ≠ 0) (r : Fin 352) (d : Fin 1024) : grads m c (ix3 (layer t) r d) = grad (land' m c) 352 (by omega) r d := if_neg hz

/-- The four result arrays. -/
theorem arrays : (dats m 0 c).arrAt 3 cfg0.N = grads m c ∧
    (dats m 0 c).arrAt 4 cfg0.N = changes (weight m c) (grads m c) (moment1 m c) (moment2 m c) ∧
    (dats m 0 c).arrAt 5 cfg0.N = firsts (grads m c) (moment1 m c) ∧
    (dats m 0 c).arrAt 6 cfg0.N = seconds (grads m c) (moment2 m c) := by
  refine ⟨(dats m 0 c).arrAt_eq_of_covers 3 _ (by decide +kernel) fun t _ y => ?_,
    (dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    obtain ⟨r, d, rfl⟩ := one_block (n := 352) (q := 1024) y
    have ht : t.val < 2 := t.isLt
  · rw [after0_3]
    have e : (win0_3.blk t).view.emb (ix3 0 r d : S1x352x1024.Idx) = (ix3 (layer t) r d : S2x352x1024.Idx) := by
      blk_ext [windows_at t]
    refine Eq.trans ?_ (congrArg (grads m c) e.symm)
    show _ = grads m c (ix3 (layer t) r d)
    by_cases hz : t.val = 0
    · rw [outsAt0_A m c t (by omega) (by omega)]
      dsimp only
      rw [(left c).1]
      refine (grad_entry (land m c) 352 (by omega) r d).trans ?_
      exact (grad_first m c t hz r d).symm
    · rw [outsAt0_B m c t (by omega) (by omega)]
      dsimp only
      rw [(left2 c).1]
      refine (grad_entry (land' m c) 352 (by omega) r d).trans ?_
      exact (grad_second m c t hz r d).symm
  · rw [after0_4]
    have e : (win0_4.blk t).view.emb (ix3 0 r d : S1x352x1024.Idx) = (ix3 (layer t) r d : S2x352x1024.Idx) := by
      blk_ext [windows_at t]
    refine Eq.trans ?_ (congrArg (changes (weight m c) (grads m c) (moment1 m c) (moment2 m c)) e.symm)
    show _ = change (weight m c (ix3 (layer t) r d)) (grads m c (ix3 (layer t) r d)) (moment1 m c (ix3 (layer t) r d)) (moment2 m c (ix3 (layer t) r d))
    by_cases hz : t.val = 0
    · rw [outsAt0_A m c t (by omega) (by omega)]
      dsimp only
      rw [(left c).2.1]
      refine (change_entry (land m c) 352 (by omega) r d).trans ?_
      rw [weight_block, moment1_block, moment2_block, grad_first m c t hz r d]
    · rw [outsAt0_B m c t (by omega) (by omega)]
      dsimp only
      rw [(left2 c).2.1]
      refine (change_entry (land' m c) 352 (by omega) r d).trans ?_
      rw [weight_block, moment1_block, moment2_block, grad_second m c t hz r d]
  · rw [after0_5]
    have e : (win0_5.blk t).view.emb (ix3 0 r d : S1x352x1024.Idx) = (ix3 (layer t) r d : S2x352x1024.Idx) := by
      blk_ext [windows_at t]
    refine Eq.trans ?_ (congrArg (firsts (grads m c) (moment1 m c)) e.symm)
    show _ = first (grads m c (ix3 (layer t) r d)) (moment1 m c (ix3 (layer t) r d))
    by_cases hz : t.val = 0
    · rw [outsAt0_A m c t (by omega) (by omega)]
      dsimp only
      rw [(left c).2.2.1]
      refine (first_entry (land m c) 352 (by omega) r d).trans ?_
      rw [moment1_block, grad_first m c t hz r d]
    · rw [outsAt0_B m c t (by omega) (by omega)]
      dsimp only
      rw [(left2 c).2.2.1]
      refine (first_entry (land' m c) 352 (by omega) r d).trans ?_
      rw [moment1_block, grad_second m c t hz r d]
  · rw [after0_6]
    have e : (win0_6.blk t).view.emb (ix3 0 r d : S1x352x1024.Idx) = (ix3 (layer t) r d : S2x352x1024.Idx) := by
      blk_ext [windows_at t]
    refine Eq.trans ?_ (congrArg (seconds (grads m c) (moment2 m c)) e.symm)
    show _ = second (grads m c (ix3 (layer t) r d)) (moment2 m c (ix3 (layer t) r d))
    by_cases hz : t.val = 0
    · rw [outsAt0_A m c t (by omega) (by omega)]
      dsimp only
      rw [(left c).2.2.2]
      refine (second_entry (land m c) 352 (by omega) r d).trans ?_
      rw [moment2_block, grad_first m c t hz r d]
    · rw [outsAt0_B m c t (by omega) (by omega)]
      dsimp only
      rw [(left2 c).2.2.2]
      refine (second_entry (land' m c) 352 (by omega) r d).trans ?_
      rw [moment2_block, grad_second m c t hz r d]

end Cert.StepUpIdeal.Update

namespace Cert.StepUpRefIdeal.Update

open Idealize.ShloMosaic Idealize.ShloMosaic.TcCoe Cert.StepUpRefIdeal Cert.StepUpRefIdeal.Gen Cert.Adam
open scoped BigOperators

/-- The reference's gradients: for each layer, the sum of its parts' rows over the chips. -/
theorem reference_grad (l : FVec Ideal S4x704x1024 .bf16) (l' : FVec Ideal S4x3008x1024 .bf16) :
    (Host.reduceAdd (extf .f32 (concatenate S2x4x352x1024 0 [⟨S1x4x352x1024, (broadcastInDim S1x4x352x1024 ![1, 2, 3] bcast_S4x352x1024_S1x4x352x1024_1_2_3 (extractStridedSlice S4x352x1024 ![0, 352, 0] l slices_S4x704x1024_S4x352x1024_0_352_0))⟩, ⟨S1x4x352x1024, (broadcastInDim S1x4x352x1024 ![1, 2, 3] bcast_S4x352x1024_S1x4x352x1024_1_2_3 (extractStridedSlice S4x352x1024 ![0, 352, 0] l' slices_S4x3008x1024_S4x352x1024_0_352_0))⟩] concatenates_S1x4x352x1024_S1x4x352x1024_S2x4x352x1024_d0) bitsLt_bf16_f32) (constant S_ .f32 0x00000000#32) reducesTo_S2x4x352x1024_S2x352x1024_d1 h_S_ : FVec Ideal S2x352x1024 .f32)
      = Cert.StepUpIdeal.Update.gradOf l l' := by
  funext j
  obtain ⟨b, r, d, rfl⟩ : ∃ (b : Fin 2) (r : Fin 352) (d : Fin 1024), j = ix3 b r d := ⟨j 0, j 1, j 2, eq_ix3 j⟩
  simp only [pointwise, zero_add, reduceDIte, Nat.reduceEqDiff, OfNat.ofNat_ne_one]
  match b with
  | ⟨0, _⟩ =>
    show _ = ∑ i : Fin 4, l (ix3 i ⟨352 + r.val, by omega⟩ d)
    refine Finset.sum_congr rfl fun i _ => ?_
    refine (dif_pos (show (0 : ℕ) < 1 by omega)).trans (congrArg l (funext fun a => Fin.ext ?_))
    match a with
    | ⟨0, _⟩ => exact Nat.zero_add _
    | ⟨1, _⟩ => rfl
    | ⟨2, _⟩ => exact Nat.zero_add _
  | ⟨1, _⟩ =>
    show _ = ∑ i : Fin 4, l' (ix3 i ⟨352 + r.val, by omega⟩ d)
    refine Finset.sum_congr rfl fun i _ => ?_
    refine (dif_neg (show ¬(1 : ℕ) < 1 by omega)).trans (congrArg l' (funext fun a => Fin.ext ?_))
    match a with
    | ⟨0, _⟩ => exact Nat.zero_add _
    | ⟨1, _⟩ => rfl
    | ⟨2, _⟩ => exact Nat.zero_add _

end Cert.StepUpRefIdeal.Update

namespace Cert.Update

open Idealize.ShloMosaic Idealize.SL.Sem Cert.Adam Cert.StepUpIdeal.Update

/-- From the same arguments, the kernel and the reference end with the same gradient, change and moments of the feed-forward up weight. -/
theorem algebraic_up : Cert.algebraic_StepUpIdeal_StepUpRefIdeal (hStepUpIdeal := Cert.StepUpIdeal.Gen.facts) (hStepUpRefIdeal := Cert.StepUpRefIdeal.Gen.facts) :=
  fun m g m' g' _ ha => by
  refine ⟨_, _, _, _, (θ_run Cert.StepUpIdeal.defs _ _).mono (fun _ h c => by
    obtain ⟨h3, h4, h5, h6, rest⟩ := h c
    obtain ⟨e3, e4, e5, e6⟩ := arrays m c
    exact ⟨h3.trans e3, h4.trans e4, h5.trans e5, h6.trans e6, rest⟩)
    (Cert.StepUpIdeal.Value.run_blocks (F := Ideal) m g), (θ_run Cert.StepUpRefIdeal.defs _ _).mono (fun r h c => ?_) (Cert.StepUpRefIdeal.Value.run (F := Ideal) m' g')⟩
  obtain ⟨r0, r1, r2, r3, rest⟩ := h c
  rw [Cert.StepUpRefIdeal.Update.reference_grad] at r0 r1 r2 r3
  rw [host_change] at r1
  rw [host_first] at r2
  rw [host_second] at r3
  obtain ⟨h0, h1, h2, h3, h4⟩ := ha c
  rw [h3, h4] at r0
  rw [h0, h1, h2, h3, h4] at r1
  rw [h1, h3, h4] at r2
  rw [h2, h3, h4] at r3
  exact ⟨r0, r1, r2, r3, rest⟩

/-- The reference runs and leaves its arguments and counters as they were. -/
theorem frame_up_reference : Cert.quiescent_StepUpRefIdeal (hStepUpRefIdeal := Cert.StepUpRefIdeal.Gen.facts) := fun m ρ _ =>
  (θ_run Cert.StepUpRefIdeal.defs _ _).mono (fun r h => ⟨fun c => (h c).2.2.2.2, sem_eq_zero_of_no_sems (by decide) r.2⟩)
    (Cert.StepUpRefIdeal.Value.run (F := Ideal) m ρ)

end Cert.Update

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Match
public import proofs.«01_k».proof.Proof.Gen.Ffn
public import proofs.«01_k».proof.Proof.Gen.FfnIdeal
public import proofs.«01_k».proof.Proof.Gen.FfnRefIdeal
public import proofs.«01_k».proof.Proof.Gen.Pre_finite
public import proofs.«01_k».proof.Proof.FfnMatch
public import proofs.«01_k».proof.Proof.HeadMatch
public import proofs.«01_k».proof.Proof.Gen.GradIn
public import proofs.«01_k».proof.Proof.Gen.GradIn.Frame
public import proofs.«01_k».proof.Proof.Gen.GradDown
public import proofs.«01_k».proof.Proof.Gen.GradDown.Frame
public import proofs.«01_k».proof.Proof.GradInValue
public import proofs.«01_k».proof.Proof.GradDownValue
public import proofs.«01_k».proof.Proof.SumsValue
public import proofs.«01_k».proof.Proof.StepOutValue
public import proofs.«01_k».proof.Proof.StepInValue
public import proofs.«01_k».proof.Proof.StepPw1Value
public import proofs.«01_k».proof.Proof.StepPw2Value
public import proofs.«01_k».proof.Proof.StepDownValue
public import proofs.«01_k».proof.Proof.StepGateValue
public import proofs.«01_k».proof.Proof.StepUpValue
public import proofs.«01_k».proof.Proof.Gen.Sums
public import proofs.«01_k».proof.Proof.Gen.Sums.Frame
public import proofs.«01_k».proof.Proof.Gen.SumsIdeal
public import proofs.«01_k».proof.Proof.Gen.SumsIdeal.Value
public import proofs.«01_k».proof.Proof.Gen.SumsRefIdeal
public import proofs.«01_k».proof.Proof.Gen.SumsRefIdeal.Run
public import proofs.«01_k».proof.Proof.Gen.StepOut
public import proofs.«01_k».proof.Proof.Gen.StepOut.Frame
public import proofs.«01_k».proof.Proof.Gen.StepOutIdeal
public import proofs.«01_k».proof.Proof.Gen.StepOutIdeal.Value
public import proofs.«01_k».proof.Proof.Gen.StepOutRefIdeal
public import proofs.«01_k».proof.Proof.Gen.StepOutRefIdeal.Run
public import proofs.«01_k».proof.Proof.Gen.StepIn
public import proofs.«01_k».proof.Proof.Gen.StepIn.Frame
public import proofs.«01_k».proof.Proof.Gen.StepInIdeal
public import proofs.«01_k».proof.Proof.Gen.StepInIdeal.Value
public import proofs.«01_k».proof.Proof.Gen.StepInRefIdeal
public import proofs.«01_k».proof.Proof.Gen.StepInRefIdeal.Run
public import proofs.«01_k».proof.Proof.Gen.StepPw1
public import proofs.«01_k».proof.Proof.Gen.StepPw1.Frame
public import proofs.«01_k».proof.Proof.Gen.StepPw1Ideal
public import proofs.«01_k».proof.Proof.Gen.StepPw1Ideal.Value
public import proofs.«01_k».proof.Proof.Gen.StepPw1RefIdeal
public import proofs.«01_k».proof.Proof.Gen.StepPw1RefIdeal.Run
public import proofs.«01_k».proof.Proof.Gen.StepPw2
public import proofs.«01_k».proof.Proof.Gen.StepPw2.Frame
public import proofs.«01_k».proof.Proof.Gen.StepPw2Ideal
public import proofs.«01_k».proof.Proof.Gen.StepPw2Ideal.Value
public import proofs.«01_k».proof.Proof.Gen.StepPw2RefIdeal
public import proofs.«01_k».proof.Proof.Gen.StepPw2RefIdeal.Run
public import proofs.«01_k».proof.Proof.Gen.StepDown
public import proofs.«01_k».proof.Proof.Gen.StepDown.Frame
public import proofs.«01_k».proof.Proof.Gen.StepDownIdeal
public import proofs.«01_k».proof.Proof.Gen.StepDownIdeal.Value
public import proofs.«01_k».proof.Proof.Gen.StepDownRefIdeal
public import proofs.«01_k».proof.Proof.Gen.StepDownRefIdeal.Run
public import proofs.«01_k».proof.Proof.Gen.StepGate
public import proofs.«01_k».proof.Proof.Gen.StepGate.Frame
public import proofs.«01_k».proof.Proof.Gen.StepGateIdeal
public import proofs.«01_k».proof.Proof.Gen.StepGateIdeal.Value
public import proofs.«01_k».proof.Proof.Gen.StepGateRefIdeal
public import proofs.«01_k».proof.Proof.Gen.StepGateRefIdeal.Run
public import proofs.«01_k».proof.Proof.Gen.StepUp
public import proofs.«01_k».proof.Proof.Gen.StepUp.Frame
public import proofs.«01_k».proof.Proof.Gen.StepUpIdeal
public import proofs.«01_k».proof.Proof.Gen.StepUpIdeal.Value
public import proofs.«01_k».proof.Proof.Gen.StepUpRefIdeal
public import proofs.«01_k».proof.Proof.Gen.StepUpRefIdeal.Run

@[expose] public section

noncomputable section

namespace Cert.Proof

open Idealize.ShloMosaic Idealize.SL.Sem

/-- The kernel, as printed, runs and leaves its arguments and counters as they were: the two programs are one text (Proof.Same), so this
is the run read at bits. -/
theorem frame_kernel : Cert.quiescent_Kernel (hKernel := Cert.Kernel.Gen.facts) := fun m ρ _ => by
  have h := Cert.KernelIdeal.Mixer.frame_main (F := Bits) m ρ
  rw [← Cert.KernelIdeal.Mixer.defs_same, ← Cert.KernelIdeal.Mixer.main_same] at h
  exact h

/-- The kernel over the extended reals runs and leaves its arguments and counters as they were. -/
theorem frame_ideal : Cert.quiescent_KernelIdeal (hKernelIdeal := Cert.KernelIdeal.Gen.facts) := fun m ρ _ =>
  Cert.KernelIdeal.Mixer.frame_main (F := Ideal) m ρ

/-- The reference runs and leaves its arguments and counters as they were. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

set_option maxRecDepth 8192 in
/-- From the same arguments, the kernel and the reference's derivative end with the same four results over the extended reals. -/
theorem algebraic : Cert.algebraic_KernelIdeal_ReferenceIdeal (hKernelIdeal := Cert.KernelIdeal.Gen.facts) (hReferenceIdeal := Cert.ReferenceIdeal.Gen.facts) :=
  fun m g m' g' _ ha => by
  have hA : ∀ c, Cert.Mixer.argsOf (Cert.Mixer.xIn m' c) (Cert.Mixer.aIn m' c) (Cert.Mixer.wIn m' c) (Cert.Mixer.tIn m' c) (Cert.Mixer.oIn m' c) (Cert.Mixer.gIn m' c)
      = Cert.KernelIdeal.Mixer.args m c := fun c => by
    obtain ⟨h0, h1, h2, h3, h4, h5⟩ := ha c
    unfold Cert.KernelIdeal.Mixer.args
    exact h0 ▸ h1 ▸ h2 ▸ h3 ▸ h4 ▸ h5 ▸ rfl
  have hs := fun c => (hA c).symm ▸ Cert.KernelIdeal.Mixer.state_is m c 16 le_rfl
  refine ⟨_, _, _, _, Cert.KernelIdeal.Mixer.run_values m g, (θ_run Cert.ReferenceIdeal.defs _ _).mono (fun r h c => ?_)
    (Cert.ReferenceIdeal.Value.run (F := Ideal) m' g')⟩
  obtain ⟨r0, r1, r2, r3, rest⟩ := h c
  refine ⟨r0.trans ((Cert.Mixer.res_dx m' c).trans ((Cert.Mixer.match_dx _ _ _ _ _ _).symm.trans ?_)),
    r1.trans ((Cert.Mixer.res_rows m' c).trans (Cert.Mixer.match_rows _ _ _ _ _ _ (hs c)).symm),
    r2.trans ((Cert.Mixer.res_win m' c).trans (Cert.Mixer.match_win _ _ _ _ _ _ (hs c)).symm),
    r3.trans ((Cert.Mixer.res_wout m' c).trans (Cert.Mixer.match_wout _ _ _ _ _ _ (hs c)).symm), rest⟩
  rw [hA c]

/-- Everything that is claimed: of the mixer, of the input weights' gradient, of the output weight's, of the feed-forward layer and of the last layer with the loss. -/
theorem claim : Cert.Claim :=
  ⟨Cert.Kernel.Gen.facts, Cert.KernelIdeal.Gen.facts, Cert.ReferenceIdeal.Gen.facts,
    Cert.GradIn.Gen.facts, Cert.GradInIdeal.Gen.facts, Cert.GradInRefIdeal.Gen.facts,
    Cert.GradDown.Gen.facts, Cert.GradDownIdeal.Gen.facts, Cert.GradDownRefIdeal.Gen.facts,
    Cert.Ffn.Gen.facts, Cert.FfnIdeal.Gen.facts, Cert.FfnRefIdeal.Gen.facts,
    Cert.Head.Gen.facts, Cert.HeadIdeal.Gen.facts, Cert.HeadRefIdeal.Gen.facts,
    Cert.Sums.Gen.facts, Cert.SumsIdeal.Gen.facts, Cert.SumsRefIdeal.Gen.facts,
    Cert.StepOut.Gen.facts, Cert.StepOutIdeal.Gen.facts, Cert.StepOutRefIdeal.Gen.facts,
    Cert.StepIn.Gen.facts, Cert.StepInIdeal.Gen.facts, Cert.StepInRefIdeal.Gen.facts,
    Cert.StepPw1.Gen.facts, Cert.StepPw1Ideal.Gen.facts, Cert.StepPw1RefIdeal.Gen.facts,
    Cert.StepPw2.Gen.facts, Cert.StepPw2Ideal.Gen.facts, Cert.StepPw2RefIdeal.Gen.facts,
    Cert.StepDown.Gen.facts, Cert.StepDownIdeal.Gen.facts, Cert.StepDownRefIdeal.Gen.facts,
    Cert.StepGate.Gen.facts, Cert.StepGateIdeal.Gen.facts, Cert.StepGateRefIdeal.Gen.facts,
    Cert.StepUp.Gen.facts, Cert.StepUpIdeal.Gen.facts, Cert.StepUpRefIdeal.Gen.facts,
    Cert.Pre_finite.Gen.facts,
    frame_kernel, frame_ideal, frame_reference,
    fun m ρ _ => Cert.GradIn.Gen.frame m ρ, fun m ρ _ => Cert.GradInIdeal.Gen.frame m ρ, Cert.Weight.frame_in_reference,
    fun m ρ _ => Cert.GradDown.Gen.frame m ρ, fun m ρ _ => Cert.GradDownIdeal.Gen.frame m ρ, Cert.Weight.frame_down_reference,
    Cert.Layer.frame_kernel, fun m ρ _ => Cert.FfnIdeal.Layer.frame_main (F := Ideal) m ρ, fun m ρ _ => Cert.FfnIdeal.Layer.frame_main (F := Ideal) m ρ,
    Cert.Layer.frame_reference, fun m ρ _ => Cert.Layer.frame_reference m ρ trivial,
    Cert.Loss.frame_kernel, Cert.Loss.frame_ideal, Cert.Loss.frame_reference,
    fun m ρ _ => Cert.Sums.Gen.frame m ρ, fun m ρ _ => Cert.SumsIdeal.Gen.frame m ρ, Cert.Update.frame_sums_reference,
    fun m ρ _ => Cert.StepOut.Gen.frame m ρ, fun m ρ _ => Cert.StepOutIdeal.Gen.frame m ρ, Cert.Update.frame_out_reference,
    fun m ρ _ => Cert.StepIn.Gen.frame m ρ, fun m ρ _ => Cert.StepInIdeal.Gen.frame m ρ, Cert.Update.frame_in_reference,
    fun m ρ _ => Cert.StepPw1.Gen.frame m ρ, fun m ρ _ => Cert.StepPw1Ideal.Gen.frame m ρ, Cert.Update.frame_pw1_reference,
    fun m ρ _ => Cert.StepPw2.Gen.frame m ρ, fun m ρ _ => Cert.StepPw2Ideal.Gen.frame m ρ, Cert.Update.frame_pw2_reference,
    fun m ρ _ => Cert.StepDown.Gen.frame m ρ, fun m ρ _ => Cert.StepDownIdeal.Gen.frame m ρ, Cert.Update.frame_down_reference,
    fun m ρ _ => Cert.StepGate.Gen.frame m ρ, fun m ρ _ => Cert.StepGateIdeal.Gen.frame m ρ, Cert.Update.frame_gate_reference,
    fun m ρ _ => Cert.StepUp.Gen.frame m ρ, fun m ρ _ => Cert.StepUpIdeal.Gen.frame m ρ, Cert.Update.frame_up_reference,
    trivial, algebraic, trivial, Cert.Weight.algebraic_in, trivial, Cert.Weight.algebraic_down, trivial, Cert.Layer.algebraic,
    trivial, Cert.Loss.algebraic,
    trivial, Cert.Update.algebraic_sums, trivial, Cert.Update.algebraic_out, trivial, Cert.Update.algebraic_in, trivial, Cert.Update.algebraic_pw1, trivial, Cert.Update.algebraic_pw2, trivial, Cert.Update.algebraic_down, trivial, Cert.Update.algebraic_gate, trivial, Cert.Update.algebraic_up⟩

end Cert.Proof

end
